-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_finite2 [hPre_finite2 : Cert.Pre_finite2.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_finite2.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_finite2 [hPre_finite2 : Cert.Pre_finite2.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_finite2.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))) = (fun _ => 1#1)

def Pre_LinearKernel (m : (ℓ : Loc Cert.LinearKernel.nD Cert.LinearKernel.τ Cert.LinearKernel.sig) → Buf (Elt Bits) ℓ) : Prop :=
  True

def Pre_LinearKernelIdeal (m : (ℓ : Loc Cert.LinearKernelIdeal.nD Cert.LinearKernelIdeal.τ Cert.LinearKernelIdeal.sig) → Buf (Elt Ideal) ℓ) : Prop :=
  True

def Pre_LinearReferenceIdeal (m : (ℓ : Loc Cert.LinearReferenceIdeal.nD Cert.LinearReferenceIdeal.τ Cert.LinearReferenceIdeal.sig) → Buf (Elt Ideal) ℓ) : Prop :=
  True

def Pre_DxnaKernel (m : (ℓ : Loc Cert.DxnaKernel.nD Cert.DxnaKernel.τ Cert.DxnaKernel.sig) → Buf (Elt Bits) ℓ) : Prop :=
  True

def Pre_DxnaKernelIdeal (m : (ℓ : Loc Cert.DxnaKernelIdeal.nD Cert.DxnaKernelIdeal.τ Cert.DxnaKernelIdeal.sig) → Buf (Elt Ideal) ℓ) : Prop :=
  True

def Pre_DxnaReferenceIdeal (m : (ℓ : Loc Cert.DxnaReferenceIdeal.nD Cert.DxnaReferenceIdeal.τ Cert.DxnaReferenceIdeal.sig) → Buf (Elt Ideal) ℓ) : Prop :=
  True

def Pre_DxnbKernel (m : (ℓ : Loc Cert.DxnbKernel.nD Cert.DxnbKernel.τ Cert.DxnbKernel.sig) → Buf (Elt Bits) ℓ) : Prop :=
  True

def Pre_DxnbKernelIdeal (m : (ℓ : Loc Cert.DxnbKernelIdeal.nD Cert.DxnbKernelIdeal.τ Cert.DxnbKernelIdeal.sig) → Buf (Elt Ideal) ℓ) : Prop :=
  True

def Pre_DxnbReferenceIdeal (m : (ℓ : Loc Cert.DxnbReferenceIdeal.nD Cert.DxnbReferenceIdeal.τ Cert.DxnbReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ r.2.sem = fun _ => 0)

def quiescent_FfnKernelIdeal_pre_finite2 [hFfnKernelIdeal : Cert.FfnKernelIdeal.Facts] [hPre_finite2 : Cert.Pre_finite2.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_finite2 m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_FfnReferenceIdeal_pre_finite2 [hFfnReferenceIdeal : Cert.FfnReferenceIdeal.Facts] [hPre_finite2 : Cert.Pre_finite2.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_finite2 m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_LinearKernel [hLinearKernel : Cert.LinearKernel.Facts] : Prop :=
  ∀ (m : (ℓ : Loc Cert.LinearKernel.nD Cert.LinearKernel.τ Cert.LinearKernel.sig) → Buf (Elt Bits) ℓ) (g : Dev Cert.LinearKernel.nD → PrngReg), Pre_LinearKernel m →
    θ_run (Cert.LinearKernel.defs (F := Bits)) (onTc (τ := Cert.LinearKernel.τ) (Cert.LinearKernel.main (F := Bits))) ⟨m, fun _ => 0, g⟩ (fun r => (∀ c : Dev Cert.LinearKernel.nD,
      r.2.mem ((c.tc : Thread Cert.LinearKernel.nD Cert.LinearKernel.τ).loc Cert.LinearKernel.main_arg0) = m ((c.tc : Thread Cert.LinearKernel.nD Cert.LinearKernel.τ).loc Cert.LinearKernel.main_arg0)
      ∧ r.2.mem ((c.tc : Thread Cert.LinearKernel.nD Cert.LinearKernel.τ).loc Cert.LinearKernel.main_arg1) = m ((c.tc : Thread Cert.LinearKernel.nD Cert.LinearKernel.τ).loc Cert.LinearKernel.main_arg1)
      ∧ r.2.mem ((c.tc : Thread Cert.LinearKernel.nD Cert.LinearKernel.τ).loc Cert.LinearKernel.main_arg2) = m ((c.tc : Thread Cert.LinearKernel.nD Cert.LinearKernel.τ).loc Cert.LinearKernel.main_arg2)
      ∧ r.2.mem ((c.tc : Thread Cert.LinearKernel.nD Cert.LinearKernel.τ).loc Cert.LinearKernel.main_arg3) = m ((c.tc : Thread Cert.LinearKernel.nD Cert.LinearKernel.τ).loc Cert.LinearKernel.main_arg3)
      ∧ r.2.mem ((c.tc : Thread Cert.LinearKernel.nD Cert.LinearKernel.τ).loc Cert.LinearKernel.main_arg4) = m ((c.tc : Thread Cert.LinearKernel.nD Cert.LinearKernel.τ).loc Cert.LinearKernel.main_arg4)
      ∧ r.2.mem ((c.tc : Thread Cert.LinearKernel.nD Cert.LinearKernel.τ).loc Cert.LinearKernel.main_arg5) = m ((c.tc : Thread Cert.LinearKernel.nD Cert.LinearKernel.τ).loc Cert.LinearKernel.main_arg5)
      ∧ r.2.mem ((c.tc : Thread Cert.LinearKernel.nD Cert.LinearKernel.τ).loc Cert.LinearKernel.main_arg6) = m ((c.tc : Thread Cert.LinearKernel.nD Cert.LinearKernel.τ).loc Cert.LinearKernel.main_arg6)
      ∧ r.2.mem ((c.tc : Thread Cert.LinearKernel.nD Cert.LinearKernel.τ).loc Cert.LinearKernel.main_arg7) = m ((c.tc : Thread Cert.LinearKernel.nD Cert.LinearKernel.τ).loc Cert.LinearKernel.main_arg7)
      ∧ r.2.mem ((c.tc : Thread Cert.LinearKernel.nD Cert.LinearKernel.τ).loc Cert.LinearKernel.main_arg8) = m ((c.tc : Thread Cert.LinearKernel.nD Cert.LinearKernel.τ).loc Cert.LinearKernel.main_arg8)
      ∧ r.2.mem ((c.tc : Thread Cert.LinearKernel.nD Cert.LinearKernel.τ).loc Cert.LinearKernel.main_arg9) = m ((c.tc : Thread Cert.LinearKernel.nD Cert.LinearKernel.τ).loc Cert.LinearKernel.main_arg9)
      ∧ r.2.mem ((c.tc : Thread Cert.LinearKernel.nD Cert.LinearKernel.τ).loc Cert.LinearKernel.main_arg10) = m ((c.tc : Thread Cert.LinearKernel.nD Cert.LinearKernel.τ).loc Cert.LinearKernel.main_arg10)
      ∧ r.2.mem ((c.tc : Thread Cert.LinearKernel.nD Cert.LinearKernel.τ).loc Cert.LinearKernel.main_arg11) = m ((c.tc : Thread Cert.LinearKernel.nD Cert.LinearKernel.τ).loc Cert.LinearKernel.main_arg11)
      ∧ r.2.mem ((c.tc : Thread Cert.LinearKernel.nD Cert.LinearKernel.τ).loc Cert.LinearKernel.main_arg12) = m ((c.tc : Thread Cert.LinearKernel.nD Cert.LinearKernel.τ).loc Cert.LinearKernel.main_arg12)
      ∧ r.2.mem ((c.tc : Thread Cert.LinearKernel.nD Cert.LinearKernel.τ).loc Cert.LinearKernel.main_arg13) = m ((c.tc : Thread Cert.LinearKernel.nD Cert.LinearKernel.τ).loc Cert.LinearKernel.main_arg13))
      ∧ r.2.sem = fun _ => 0)

def quiescent_LinearKernelIdeal [hLinearKernelIdeal : Cert.LinearKernelIdeal.Facts] : Prop :=
  ∀ (m : (ℓ : Loc Cert.LinearKernelIdeal.nD Cert.LinearKernelIdeal.τ Cert.LinearKernelIdeal.sig) → Buf (Elt Ideal) ℓ) (g : Dev Cert.LinearKernelIdeal.nD → PrngReg), Pre_LinearKernelIdeal m →
    θ_run (Cert.LinearKernelIdeal.defs (F := Ideal)) (onTc (τ := Cert.LinearKernelIdeal.τ) (Cert.LinearKernelIdeal.main (F := Ideal))) ⟨m, fun _ => 0, g⟩ (fun r => (∀ c : Dev Cert.LinearKernelIdeal.nD,
      r.2.mem ((c.tc : Thread Cert.LinearKernelIdeal.nD Cert.LinearKernelIdeal.τ).loc Cert.LinearKernelIdeal.main_arg0) = m ((c.tc : Thread Cert.LinearKernelIdeal.nD Cert.LinearKernelIdeal.τ).loc Cert.LinearKernelIdeal.main_arg0)
      ∧ r.2.mem ((c.tc : Thread Cert.LinearKernelIdeal.nD Cert.LinearKernelIdeal.τ).loc Cert.LinearKernelIdeal.main_arg1) = m ((c.tc : Thread Cert.LinearKernelIdeal.nD Cert.LinearKernelIdeal.τ).loc Cert.LinearKernelIdeal.main_arg1)
      ∧ r.2.mem ((c.tc : Thread Cert.LinearKernelIdeal.nD Cert.LinearKernelIdeal.τ).loc Cert.LinearKernelIdeal.main_arg2) = m ((c.tc : Thread Cert.LinearKernelIdeal.nD Cert.LinearKernelIdeal.τ).loc Cert.LinearKernelIdeal.main_arg2)
      ∧ r.2.mem ((c.tc : Thread Cert.LinearKernelIdeal.nD Cert.LinearKernelIdeal.τ).loc Cert.LinearKernelIdeal.main_arg3) = m ((c.tc : Thread Cert.LinearKernelIdeal.nD Cert.LinearKernelIdeal.τ).loc Cert.LinearKernelIdeal.main_arg3)
      ∧ r.2.mem ((c.tc : Thread Cert.LinearKernelIdeal.nD Cert.LinearKernelIdeal.τ).loc Cert.LinearKernelIdeal.main_arg4) = m ((c.tc : Thread Cert.LinearKernelIdeal.nD Cert.LinearKernelIdeal.τ).loc Cert.LinearKernelIdeal.main_arg4)
      ∧ r.2.mem ((c.tc : Thread Cert.LinearKernelIdeal.nD Cert.LinearKernelIdeal.τ).loc Cert.LinearKernelIdeal.main_arg5) = m ((c.tc : Thread Cert.LinearKernelIdeal.nD Cert.LinearKernelIdeal.τ).loc Cert.LinearKernelIdeal.main_arg5)
      ∧ r.2.mem ((c.tc : Thread Cert.LinearKernelIdeal.nD Cert.LinearKernelIdeal.τ).loc Cert.LinearKernelIdeal.main_arg6) = m ((c.tc : Thread Cert.LinearKernelIdeal.nD Cert.LinearKernelIdeal.τ).loc Cert.LinearKernelIdeal.main_arg6)
      ∧ r.2.mem ((c.tc : Thread Cert.LinearKernelIdeal.nD Cert.LinearKernelIdeal.τ).loc Cert.LinearKernelIdeal.main_arg7) = m ((c.tc : Thread Cert.LinearKernelIdeal.nD Cert.LinearKernelIdeal.τ).loc Cert.LinearKernelIdeal.main_arg7)
      ∧ r.2.mem ((c.tc : Thread Cert.LinearKernelIdeal.nD Cert.LinearKernelIdeal.τ).loc Cert.LinearKernelIdeal.main_arg8) = m ((c.tc : Thread Cert.LinearKernelIdeal.nD Cert.LinearKernelIdeal.τ).loc Cert.LinearKernelIdeal.main_arg8)
      ∧ r.2.mem ((c.tc : Thread Cert.LinearKernelIdeal.nD Cert.LinearKernelIdeal.τ).loc Cert.LinearKernelIdeal.main_arg9) = m ((c.tc : Thread Cert.LinearKernelIdeal.nD Cert.LinearKernelIdeal.τ).loc Cert.LinearKernelIdeal.main_arg9)
      ∧ r.2.mem ((c.tc : Thread Cert.LinearKernelIdeal.nD Cert.LinearKernelIdeal.τ).loc Cert.LinearKernelIdeal.main_arg10) = m ((c.tc : Thread Cert.LinearKernelIdeal.nD Cert.LinearKernelIdeal.τ).loc Cert.LinearKernelIdeal.main_arg10)
      ∧ r.2.mem ((c.tc : Thread Cert.LinearKernelIdeal.nD Cert.LinearKernelIdeal.τ).loc Cert.LinearKernelIdeal.main_arg11) = m ((c.tc : Thread Cert.LinearKernelIdeal.nD Cert.LinearKernelIdeal.τ).loc Cert.LinearKernelIdeal.main_arg11)
      ∧ r.2.mem ((c.tc : Thread Cert.LinearKernelIdeal.nD Cert.LinearKernelIdeal.τ).loc Cert.LinearKernelIdeal.main_arg12) = m ((c.tc : Thread Cert.LinearKernelIdeal.nD Cert.LinearKernelIdeal.τ).loc Cert.LinearKernelIdeal.main_arg12)
      ∧ r.2.mem ((c.tc : Thread Cert.LinearKernelIdeal.nD Cert.LinearKernelIdeal.τ).loc Cert.LinearKernelIdeal.main_arg13) = m ((c.tc : Thread Cert.LinearKernelIdeal.nD Cert.LinearKernelIdeal.τ).loc Cert.LinearKernelIdeal.main_arg13))
      ∧ r.2.sem = fun _ => 0)

def quiescent_LinearReferenceIdeal [hLinearReferenceIdeal : Cert.LinearReferenceIdeal.Facts] : Prop :=
  ∀ (m : (ℓ : Loc Cert.LinearReferenceIdeal.nD Cert.LinearReferenceIdeal.τ Cert.LinearReferenceIdeal.sig) → Buf (Elt Ideal) ℓ) (g : Dev Cert.LinearReferenceIdeal.nD → PrngReg), Pre_LinearReferenceIdeal m →
    θ_run (Cert.LinearReferenceIdeal.defs (F := Ideal)) (onTc (τ := Cert.LinearReferenceIdeal.τ) (Cert.LinearReferenceIdeal.main (F := Ideal))) ⟨m, fun _ => 0, g⟩ (fun r => (∀ c : Dev Cert.LinearReferenceIdeal.nD,
      r.2.mem ((c.tc : Thread Cert.LinearReferenceIdeal.nD Cert.LinearReferenceIdeal.τ).loc Cert.LinearReferenceIdeal.main_arg0) = m ((c.tc : Thread Cert.LinearReferenceIdeal.nD Cert.LinearReferenceIdeal.τ).loc Cert.LinearReferenceIdeal.main_arg0)
      ∧ r.2.mem ((c.tc : Thread Cert.LinearReferenceIdeal.nD Cert.LinearReferenceIdeal.τ).loc Cert.LinearReferenceIdeal.main_arg1) = m ((c.tc : Thread Cert.LinearReferenceIdeal.nD Cert.LinearReferenceIdeal.τ).loc Cert.LinearReferenceIdeal.main_arg1)
      ∧ r.2.mem ((c.tc : Thread Cert.LinearReferenceIdeal.nD Cert.LinearReferenceIdeal.τ).loc Cert.LinearReferenceIdeal.main_arg2) = m ((c.tc : Thread Cert.LinearReferenceIdeal.nD Cert.LinearReferenceIdeal.τ).loc Cert.LinearReferenceIdeal.main_arg2)
      ∧ r.2.mem ((c.tc : Thread Cert.LinearReferenceIdeal.nD Cert.LinearReferenceIdeal.τ).loc Cert.LinearReferenceIdeal.main_arg3) = m ((c.tc : Thread Cert.LinearReferenceIdeal.nD Cert.LinearReferenceIdeal.τ).loc Cert.LinearReferenceIdeal.main_arg3)
      ∧ r.2.mem ((c.tc : Thread Cert.LinearReferenceIdeal.nD Cert.LinearReferenceIdeal.τ).loc Cert.LinearReferenceIdeal.main_arg4) = m ((c.tc : Thread Cert.LinearReferenceIdeal.nD Cert.LinearReferenceIdeal.τ).loc Cert.LinearReferenceIdeal.main_arg4)
      ∧ r.2.mem ((c.tc : Thread Cert.LinearReferenceIdeal.nD Cert.LinearReferenceIdeal.τ).loc Cert.LinearReferenceIdeal.main_arg5) = m ((c.tc : Thread Cert.LinearReferenceIdeal.nD Cert.LinearReferenceIdeal.τ).loc Cert.LinearReferenceIdeal.main_arg5)
      ∧ r.2.mem ((c.tc : Thread Cert.LinearReferenceIdeal.nD Cert.LinearReferenceIdeal.τ).loc Cert.LinearReferenceIdeal.main_arg6) = m ((c.tc : Thread Cert.LinearReferenceIdeal.nD Cert.LinearReferenceIdeal.τ).loc Cert.LinearReferenceIdeal.main_arg6)
      ∧ r.2.mem ((c.tc : Thread Cert.LinearReferenceIdeal.nD Cert.LinearReferenceIdeal.τ).loc Cert.LinearReferenceIdeal.main_arg7) = m ((c.tc : Thread Cert.LinearReferenceIdeal.nD Cert.LinearReferenceIdeal.τ).loc Cert.LinearReferenceIdeal.main_arg7)
      ∧ r.2.mem ((c.tc : Thread Cert.LinearReferenceIdeal.nD Cert.LinearReferenceIdeal.τ).loc Cert.LinearReferenceIdeal.main_arg8) = m ((c.tc : Thread Cert.LinearReferenceIdeal.nD Cert.LinearReferenceIdeal.τ).loc Cert.LinearReferenceIdeal.main_arg8)
      ∧ r.2.mem ((c.tc : Thread Cert.LinearReferenceIdeal.nD Cert.LinearReferenceIdeal.τ).loc Cert.LinearReferenceIdeal.main_arg9) = m ((c.tc : Thread Cert.LinearReferenceIdeal.nD Cert.LinearReferenceIdeal.τ).loc Cert.LinearReferenceIdeal.main_arg9)
      ∧ r.2.mem ((c.tc : Thread Cert.LinearReferenceIdeal.nD Cert.LinearReferenceIdeal.τ).loc Cert.LinearReferenceIdeal.main_arg10) = m ((c.tc : Thread Cert.LinearReferenceIdeal.nD Cert.LinearReferenceIdeal.τ).loc Cert.LinearReferenceIdeal.main_arg10)
      ∧ r.2.mem ((c.tc : Thread Cert.LinearReferenceIdeal.nD Cert.LinearReferenceIdeal.τ).loc Cert.LinearReferenceIdeal.main_arg11) = m ((c.tc : Thread Cert.LinearReferenceIdeal.nD Cert.LinearReferenceIdeal.τ).loc Cert.LinearReferenceIdeal.main_arg11)
      ∧ r.2.mem ((c.tc : Thread Cert.LinearReferenceIdeal.nD Cert.LinearReferenceIdeal.τ).loc Cert.LinearReferenceIdeal.main_arg12) = m ((c.tc : Thread Cert.LinearReferenceIdeal.nD Cert.LinearReferenceIdeal.τ).loc Cert.LinearReferenceIdeal.main_arg12)
      ∧ r.2.mem ((c.tc : Thread Cert.LinearReferenceIdeal.nD Cert.LinearReferenceIdeal.τ).loc Cert.LinearReferenceIdeal.main_arg13) = m ((c.tc : Thread Cert.LinearReferenceIdeal.nD Cert.LinearReferenceIdeal.τ).loc Cert.LinearReferenceIdeal.main_arg13))
      ∧ r.2.sem = fun _ => 0)

def quiescent_DxnaKernel [hDxnaKernel : Cert.DxnaKernel.Facts] : Prop :=
  ∀ (m : (ℓ : Loc Cert.DxnaKernel.nD Cert.DxnaKernel.τ Cert.DxnaKernel.sig) → Buf (Elt Bits) ℓ) (g : Dev Cert.DxnaKernel.nD → PrngReg), Pre_DxnaKernel m →
    θ_run (Cert.DxnaKernel.defs (F := Bits)) (onTc (τ := Cert.DxnaKernel.τ) (Cert.DxnaKernel.main (F := Bits))) ⟨m, fun _ => 0, g⟩ (fun r => (∀ c : Dev Cert.DxnaKernel.nD,
      r.2.mem ((c.tc : Thread Cert.DxnaKernel.nD Cert.DxnaKernel.τ).loc Cert.DxnaKernel.main_arg0) = m ((c.tc : Thread Cert.DxnaKernel.nD Cert.DxnaKernel.τ).loc Cert.DxnaKernel.main_arg0)
      ∧ r.2.mem ((c.tc : Thread Cert.DxnaKernel.nD Cert.DxnaKernel.τ).loc Cert.DxnaKernel.main_arg1) = m ((c.tc : Thread Cert.DxnaKernel.nD Cert.DxnaKernel.τ).loc Cert.DxnaKernel.main_arg1))
      ∧ r.2.sem = fun _ => 0)

def quiescent_DxnaKernelIdeal [hDxnaKernelIdeal : Cert.DxnaKernelIdeal.Facts] : Prop :=
  ∀ (m : (ℓ : Loc Cert.DxnaKernelIdeal.nD Cert.DxnaKernelIdeal.τ Cert.DxnaKernelIdeal.sig) → Buf (Elt Ideal) ℓ) (g : Dev Cert.DxnaKernelIdeal.nD → PrngReg), Pre_DxnaKernelIdeal m →
    θ_run (Cert.DxnaKernelIdeal.defs (F := Ideal)) (onTc (τ := Cert.DxnaKernelIdeal.τ) (Cert.DxnaKernelIdeal.main (F := Ideal))) ⟨m, fun _ => 0, g⟩ (fun r => (∀ c : Dev Cert.DxnaKernelIdeal.nD,
      r.2.mem ((c.tc : Thread Cert.DxnaKernelIdeal.nD Cert.DxnaKernelIdeal.τ).loc Cert.DxnaKernelIdeal.main_arg0) = m ((c.tc : Thread Cert.DxnaKernelIdeal.nD Cert.DxnaKernelIdeal.τ).loc Cert.DxnaKernelIdeal.main_arg0)
      ∧ r.2.mem ((c.tc : Thread Cert.DxnaKernelIdeal.nD Cert.DxnaKernelIdeal.τ).loc Cert.DxnaKernelIdeal.main_arg1) = m ((c.tc : Thread Cert.DxnaKernelIdeal.nD Cert.DxnaKernelIdeal.τ).loc Cert.DxnaKernelIdeal.main_arg1))
      ∧ r.2.sem = fun _ => 0)

def quiescent_DxnaReferenceIdeal [hDxnaReferenceIdeal : Cert.DxnaReferenceIdeal.Facts] : Prop :=
  ∀ (m : (ℓ : Loc Cert.DxnaReferenceIdeal.nD Cert.DxnaReferenceIdeal.τ Cert.DxnaReferenceIdeal.sig) → Buf (Elt Ideal) ℓ) (g : Dev Cert.DxnaReferenceIdeal.nD → PrngReg), Pre_DxnaReferenceIdeal m →
    θ_run (Cert.DxnaReferenceIdeal.defs (F := Ideal)) (onTc (τ := Cert.DxnaReferenceIdeal.τ) (Cert.DxnaReferenceIdeal.main (F := Ideal))) ⟨m, fun _ => 0, g⟩ (fun r => (∀ c : Dev Cert.DxnaReferenceIdeal.nD,
      r.2.mem ((c.tc : Thread Cert.DxnaReferenceIdeal.nD Cert.DxnaReferenceIdeal.τ).loc Cert.DxnaReferenceIdeal.main_arg0) = m ((c.tc : Thread Cert.DxnaReferenceIdeal.nD Cert.DxnaReferenceIdeal.τ).loc Cert.DxnaReferenceIdeal.main_arg0)
      ∧ r.2.mem ((c.tc : Thread Cert.DxnaReferenceIdeal.nD Cert.DxnaReferenceIdeal.τ).loc Cert.DxnaReferenceIdeal.main_arg1) = m ((c.tc : Thread Cert.DxnaReferenceIdeal.nD Cert.DxnaReferenceIdeal.τ).loc Cert.DxnaReferenceIdeal.main_arg1))
      ∧ r.2.sem = fun _ => 0)

def quiescent_DxnbKernel [hDxnbKernel : Cert.DxnbKernel.Facts] : Prop :=
  ∀ (m : (ℓ : Loc Cert.DxnbKernel.nD Cert.DxnbKernel.τ Cert.DxnbKernel.sig) → Buf (Elt Bits) ℓ) (g : Dev Cert.DxnbKernel.nD → PrngReg), Pre_DxnbKernel m →
    θ_run (Cert.DxnbKernel.defs (F := Bits)) (onTc (τ := Cert.DxnbKernel.τ) (Cert.DxnbKernel.main (F := Bits))) ⟨m, fun _ => 0, g⟩ (fun r => (∀ c : Dev Cert.DxnbKernel.nD,
      r.2.mem ((c.tc : Thread Cert.DxnbKernel.nD Cert.DxnbKernel.τ).loc Cert.DxnbKernel.main_arg0) = m ((c.tc : Thread Cert.DxnbKernel.nD Cert.DxnbKernel.τ).loc Cert.DxnbKernel.main_arg0)
      ∧ r.2.mem ((c.tc : Thread Cert.DxnbKernel.nD Cert.DxnbKernel.τ).loc Cert.DxnbKernel.main_arg1) = m ((c.tc : Thread Cert.DxnbKernel.nD Cert.DxnbKernel.τ).loc Cert.DxnbKernel.main_arg1)
      ∧ r.2.mem ((c.tc : Thread Cert.DxnbKernel.nD Cert.DxnbKernel.τ).loc Cert.DxnbKernel.main_arg2) = m ((c.tc : Thread Cert.DxnbKernel.nD Cert.DxnbKernel.τ).loc Cert.DxnbKernel.main_arg2))
      ∧ r.2.sem = fun _ => 0)

def quiescent_DxnbKernelIdeal [hDxnbKernelIdeal : Cert.DxnbKernelIdeal.Facts] : Prop :=
  ∀ (m : (ℓ : Loc Cert.DxnbKernelIdeal.nD Cert.DxnbKernelIdeal.τ Cert.DxnbKernelIdeal.sig) → Buf (Elt Ideal) ℓ) (g : Dev Cert.DxnbKernelIdeal.nD → PrngReg), Pre_DxnbKernelIdeal m →
    θ_run (Cert.DxnbKernelIdeal.defs (F := Ideal)) (onTc (τ := Cert.DxnbKernelIdeal.τ) (Cert.DxnbKernelIdeal.main (F := Ideal))) ⟨m, fun _ => 0, g⟩ (fun r => (∀ c : Dev Cert.DxnbKernelIdeal.nD,
      r.2.mem ((c.tc : Thread Cert.DxnbKernelIdeal.nD Cert.DxnbKernelIdeal.τ).loc Cert.DxnbKernelIdeal.main_arg0) = m ((c.tc : Thread Cert.DxnbKernelIdeal.nD Cert.DxnbKernelIdeal.τ).loc Cert.DxnbKernelIdeal.main_arg0)
      ∧ r.2.mem ((c.tc : Thread Cert.DxnbKernelIdeal.nD Cert.DxnbKernelIdeal.τ).loc Cert.DxnbKernelIdeal.main_arg1) = m ((c.tc : Thread Cert.DxnbKernelIdeal.nD Cert.DxnbKernelIdeal.τ).loc Cert.DxnbKernelIdeal.main_arg1)
      ∧ r.2.mem ((c.tc : Thread Cert.DxnbKernelIdeal.nD Cert.DxnbKernelIdeal.τ).loc Cert.DxnbKernelIdeal.main_arg2) = m ((c.tc : Thread Cert.DxnbKernelIdeal.nD Cert.DxnbKernelIdeal.τ).loc Cert.DxnbKernelIdeal.main_arg2))
      ∧ r.2.sem = fun _ => 0)

def quiescent_DxnbReferenceIdeal [hDxnbReferenceIdeal : Cert.DxnbReferenceIdeal.Facts] : Prop :=
  ∀ (m : (ℓ : Loc Cert.DxnbReferenceIdeal.nD Cert.DxnbReferenceIdeal.τ Cert.DxnbReferenceIdeal.sig) → Buf (Elt Ideal) ℓ) (g : Dev Cert.DxnbReferenceIdeal.nD → PrngReg), Pre_DxnbReferenceIdeal m →
    θ_run (Cert.DxnbReferenceIdeal.defs (F := Ideal)) (onTc (τ := Cert.DxnbReferenceIdeal.τ) (Cert.DxnbReferenceIdeal.main (F := Ideal))) ⟨m, fun _ => 0, g⟩ (fun r => (∀ c : Dev Cert.DxnbReferenceIdeal.nD,
      r.2.mem ((c.tc : Thread Cert.DxnbReferenceIdeal.nD Cert.DxnbReferenceIdeal.τ).loc Cert.DxnbReferenceIdeal.main_arg0) = m ((c.tc : Thread Cert.DxnbReferenceIdeal.nD Cert.DxnbReferenceIdeal.τ).loc Cert.DxnbReferenceIdeal.main_arg0)
      ∧ r.2.mem ((c.tc : Thread Cert.DxnbReferenceIdeal.nD Cert.DxnbReferenceIdeal.τ).loc Cert.DxnbReferenceIdeal.main_arg1) = m ((c.tc : Thread Cert.DxnbReferenceIdeal.nD Cert.DxnbReferenceIdeal.τ).loc Cert.DxnbReferenceIdeal.main_arg1)
      ∧ r.2.mem ((c.tc : Thread Cert.DxnbReferenceIdeal.nD Cert.DxnbReferenceIdeal.τ).loc Cert.DxnbReferenceIdeal.main_arg2) = m ((c.tc : Thread Cert.DxnbReferenceIdeal.nD Cert.DxnbReferenceIdeal.τ).loc Cert.DxnbReferenceIdeal.main_arg2))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)) (v2 : (c : Dev Cert.KernelIdeal.nD) → Buf (Elt Ideal) ((c.tc : Thread Cert.KernelIdeal.nD Cert.KernelIdeal.τ).loc Cert.KernelIdeal.main_v25_2)) (v3 : (c : Dev Cert.KernelIdeal.nD) → Buf (Elt Ideal) ((c.tc : Thread Cert.KernelIdeal.nD Cert.KernelIdeal.τ).loc Cert.KernelIdeal.main_v25_3)) (v4 : (c : Dev Cert.KernelIdeal.nD) → Buf (Elt Ideal) ((c.tc : Thread Cert.KernelIdeal.nD Cert.KernelIdeal.τ).loc Cert.KernelIdeal.main_v25_4)) (v5 : (c : Dev Cert.KernelIdeal.nD) → Buf (Elt Ideal) ((c.tc : Thread Cert.KernelIdeal.nD Cert.KernelIdeal.τ).loc Cert.KernelIdeal.main_v25_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_v25_2) = v2 c
          ∧ r.2.mem ((c.tc : Thread Cert.KernelIdeal.nD Cert.KernelIdeal.τ).loc Cert.KernelIdeal.main_v25_3) = v3 c
          ∧ r.2.mem ((c.tc : Thread Cert.KernelIdeal.nD Cert.KernelIdeal.τ).loc Cert.KernelIdeal.main_v25_4) = v4 c
          ∧ r.2.mem ((c.tc : Thread Cert.KernelIdeal.nD Cert.KernelIdeal.τ).loc Cert.KernelIdeal.main_v25_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v312) = v0 c
          ∧ r.2.mem ((c.tc : Thread Cert.ReferenceIdeal.nD Cert.ReferenceIdeal.τ).loc Cert.ReferenceIdeal.main_v314) = v1 c
          ∧ r.2.mem ((c.tc : Thread Cert.ReferenceIdeal.nD Cert.ReferenceIdeal.τ).loc Cert.ReferenceIdeal.main_v316) = v2 c
          ∧ r.2.mem ((c.tc : Thread Cert.ReferenceIdeal.nD Cert.ReferenceIdeal.τ).loc Cert.ReferenceIdeal.main_v309) = v3 c
          ∧ r.2.mem ((c.tc : Thread Cert.ReferenceIdeal.nD Cert.ReferenceIdeal.τ).loc Cert.ReferenceIdeal.main_v286) = v4 c
          ∧ r.2.mem ((c.tc : Thread Cert.ReferenceIdeal.nD Cert.ReferenceIdeal.τ).loc Cert.ReferenceIdeal.main_v317) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_FfnKernel_FfnKernelIdeal : Prop :=
  True

def algebraic_FfnKernelIdeal_FfnReferenceIdeal_pre_finite2 [hFfnKernelIdeal : Cert.FfnKernelIdeal.Facts] [hFfnReferenceIdeal : Cert.FfnReferenceIdeal.Facts] [hPre_finite2 : Cert.Pre_finite2.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_finite2 m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)) →
    ∃ (v0 : (c : Dev Cert.FfnKernelIdeal.nD) → Buf (Elt Ideal) ((c.tc : Thread Cert.FfnKernelIdeal.nD Cert.FfnKernelIdeal.τ).loc Cert.FfnKernelIdeal.main_v7)) (v1 : (c : Dev Cert.FfnKernelIdeal.nD) → Buf (Elt Ideal) ((c.tc : Thread Cert.FfnKernelIdeal.nD Cert.FfnKernelIdeal.τ).loc Cert.FfnKernelIdeal.main_v4)) (v2 : (c : Dev Cert.FfnKernelIdeal.nD) → Buf (Elt Ideal) ((c.tc : Thread Cert.FfnKernelIdeal.nD Cert.FfnKernelIdeal.τ).loc Cert.FfnKernelIdeal.main_v5)) (v3 : (c : Dev Cert.FfnKernelIdeal.nD) → Buf (Elt Ideal) ((c.tc : Thread Cert.FfnKernelIdeal.nD Cert.FfnKernelIdeal.τ).loc Cert.FfnKernelIdeal.main_v2)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v7) = v0 c
          ∧ r.2.mem ((c.tc : Thread Cert.FfnKernelIdeal.nD Cert.FfnKernelIdeal.τ).loc Cert.FfnKernelIdeal.main_v4) = v1 c
          ∧ r.2.mem ((c.tc : Thread Cert.FfnKernelIdeal.nD Cert.FfnKernelIdeal.τ).loc Cert.FfnKernelIdeal.main_v5) = v2 c
          ∧ r.2.mem ((c.tc : Thread Cert.FfnKernelIdeal.nD Cert.FfnKernelIdeal.τ).loc Cert.FfnKernelIdeal.main_v2) = v3 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v22) = v0 c
          ∧ r.2.mem ((c.tc : Thread Cert.FfnReferenceIdeal.nD Cert.FfnReferenceIdeal.τ).loc Cert.FfnReferenceIdeal.main_v20) = v1 c
          ∧ r.2.mem ((c.tc : Thread Cert.FfnReferenceIdeal.nD Cert.FfnReferenceIdeal.τ).loc Cert.FfnReferenceIdeal.main_v16) = v2 c
          ∧ r.2.mem ((c.tc : Thread Cert.FfnReferenceIdeal.nD Cert.FfnReferenceIdeal.τ).loc Cert.FfnReferenceIdeal.main_v11) = v3 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_LinearKernel_LinearKernelIdeal : Prop :=
  True

def algebraic_LinearKernelIdeal_LinearReferenceIdeal [hLinearKernelIdeal : Cert.LinearKernelIdeal.Facts] [hLinearReferenceIdeal : Cert.LinearReferenceIdeal.Facts] : Prop :=
  ∀ (m : (ℓ : Loc Cert.LinearKernelIdeal.nD Cert.LinearKernelIdeal.τ Cert.LinearKernelIdeal.sig) → Buf (Elt Ideal) ℓ) (g : Dev Cert.LinearKernelIdeal.nD → PrngReg)
    (m' : (ℓ : Loc Cert.LinearReferenceIdeal.nD Cert.LinearReferenceIdeal.τ Cert.LinearReferenceIdeal.sig) → Buf (Elt Ideal) ℓ) (g' : Dev Cert.LinearReferenceIdeal.nD → PrngReg), Pre_LinearKernelIdeal m →
    (∀ c : Dev Cert.LinearKernelIdeal.nD,
      m' ((c.tc : Thread Cert.LinearReferenceIdeal.nD Cert.LinearReferenceIdeal.τ).loc Cert.LinearReferenceIdeal.main_arg0) = m ((c.tc : Thread Cert.LinearKernelIdeal.nD Cert.LinearKernelIdeal.τ).loc Cert.LinearKernelIdeal.main_arg0)
      ∧ m' ((c.tc : Thread Cert.LinearReferenceIdeal.nD Cert.LinearReferenceIdeal.τ).loc Cert.LinearReferenceIdeal.main_arg1) = m ((c.tc : Thread Cert.LinearKernelIdeal.nD Cert.LinearKernelIdeal.τ).loc Cert.LinearKernelIdeal.main_arg1)
      ∧ m' ((c.tc : Thread Cert.LinearReferenceIdeal.nD Cert.LinearReferenceIdeal.τ).loc Cert.LinearReferenceIdeal.main_arg2) = m ((c.tc : Thread Cert.LinearKernelIdeal.nD Cert.LinearKernelIdeal.τ).loc Cert.LinearKernelIdeal.main_arg2)
      ∧ m' ((c.tc : Thread Cert.LinearReferenceIdeal.nD Cert.LinearReferenceIdeal.τ).loc Cert.LinearReferenceIdeal.main_arg3) = m ((c.tc : Thread Cert.LinearKernelIdeal.nD Cert.LinearKernelIdeal.τ).loc Cert.LinearKernelIdeal.main_arg3)
      ∧ m' ((c.tc : Thread Cert.LinearReferenceIdeal.nD Cert.LinearReferenceIdeal.τ).loc Cert.LinearReferenceIdeal.main_arg4) = m ((c.tc : Thread Cert.LinearKernelIdeal.nD Cert.LinearKernelIdeal.τ).loc Cert.LinearKernelIdeal.main_arg4)
      ∧ m' ((c.tc : Thread Cert.LinearReferenceIdeal.nD Cert.LinearReferenceIdeal.τ).loc Cert.LinearReferenceIdeal.main_arg5) = m ((c.tc : Thread Cert.LinearKernelIdeal.nD Cert.LinearKernelIdeal.τ).loc Cert.LinearKernelIdeal.main_arg5)
      ∧ m' ((c.tc : Thread Cert.LinearReferenceIdeal.nD Cert.LinearReferenceIdeal.τ).loc Cert.LinearReferenceIdeal.main_arg6) = m ((c.tc : Thread Cert.LinearKernelIdeal.nD Cert.LinearKernelIdeal.τ).loc Cert.LinearKernelIdeal.main_arg6)
      ∧ m' ((c.tc : Thread Cert.LinearReferenceIdeal.nD Cert.LinearReferenceIdeal.τ).loc Cert.LinearReferenceIdeal.main_arg7) = m ((c.tc : Thread Cert.LinearKernelIdeal.nD Cert.LinearKernelIdeal.τ).loc Cert.LinearKernelIdeal.main_arg7)
      ∧ m' ((c.tc : Thread Cert.LinearReferenceIdeal.nD Cert.LinearReferenceIdeal.τ).loc Cert.LinearReferenceIdeal.main_arg8) = m ((c.tc : Thread Cert.LinearKernelIdeal.nD Cert.LinearKernelIdeal.τ).loc Cert.LinearKernelIdeal.main_arg8)
      ∧ m' ((c.tc : Thread Cert.LinearReferenceIdeal.nD Cert.LinearReferenceIdeal.τ).loc Cert.LinearReferenceIdeal.main_arg9) = m ((c.tc : Thread Cert.LinearKernelIdeal.nD Cert.LinearKernelIdeal.τ).loc Cert.LinearKernelIdeal.main_arg9)
      ∧ m' ((c.tc : Thread Cert.LinearReferenceIdeal.nD Cert.LinearReferenceIdeal.τ).loc Cert.LinearReferenceIdeal.main_arg10) = m ((c.tc : Thread Cert.LinearKernelIdeal.nD Cert.LinearKernelIdeal.τ).loc Cert.LinearKernelIdeal.main_arg10)
      ∧ m' ((c.tc : Thread Cert.LinearReferenceIdeal.nD Cert.LinearReferenceIdeal.τ).loc Cert.LinearReferenceIdeal.main_arg11) = m ((c.tc : Thread Cert.LinearKernelIdeal.nD Cert.LinearKernelIdeal.τ).loc Cert.LinearKernelIdeal.main_arg11)
      ∧ m' ((c.tc : Thread Cert.LinearReferenceIdeal.nD Cert.LinearReferenceIdeal.τ).loc Cert.LinearReferenceIdeal.main_arg12) = m ((c.tc : Thread Cert.LinearKernelIdeal.nD Cert.LinearKernelIdeal.τ).loc Cert.LinearKernelIdeal.main_arg12)
      ∧ m' ((c.tc : Thread Cert.LinearReferenceIdeal.nD Cert.LinearReferenceIdeal.τ).loc Cert.LinearReferenceIdeal.main_arg13) = m ((c.tc : Thread Cert.LinearKernelIdeal.nD Cert.LinearKernelIdeal.τ).loc Cert.LinearKernelIdeal.main_arg13)) →
    ∃ (v0 : (c : Dev Cert.LinearKernelIdeal.nD) → Buf (Elt Ideal) ((c.tc : Thread Cert.LinearKernelIdeal.nD Cert.LinearKernelIdeal.τ).loc Cert.LinearKernelIdeal.main_v0)) (v1 : (c : Dev Cert.LinearKernelIdeal.nD) → Buf (Elt Ideal) ((c.tc : Thread Cert.LinearKernelIdeal.nD Cert.LinearKernelIdeal.τ).loc Cert.LinearKernelIdeal.main_v2)) (v2 : (c : Dev Cert.LinearKernelIdeal.nD) → Buf (Elt Ideal) ((c.tc : Thread Cert.LinearKernelIdeal.nD Cert.LinearKernelIdeal.τ).loc Cert.LinearKernelIdeal.main_v4)) (v3 : (c : Dev Cert.LinearKernelIdeal.nD) → Buf (Elt Ideal) ((c.tc : Thread Cert.LinearKernelIdeal.nD Cert.LinearKernelIdeal.τ).loc Cert.LinearKernelIdeal.main_v3)) (v4 : (c : Dev Cert.LinearKernelIdeal.nD) → Buf (Elt Ideal) ((c.tc : Thread Cert.LinearKernelIdeal.nD Cert.LinearKernelIdeal.τ).loc Cert.LinearKernelIdeal.main_v6)) (v5 : (c : Dev Cert.LinearKernelIdeal.nD) → Buf (Elt Ideal) ((c.tc : Thread Cert.LinearKernelIdeal.nD Cert.LinearKernelIdeal.τ).loc Cert.LinearKernelIdeal.main_v5)) (v6 : (c : Dev Cert.LinearKernelIdeal.nD) → Buf (Elt Ideal) ((c.tc : Thread Cert.LinearKernelIdeal.nD Cert.LinearKernelIdeal.τ).loc Cert.LinearKernelIdeal.main_v8)) (v7 : (c : Dev Cert.LinearKernelIdeal.nD) → Buf (Elt Ideal) ((c.tc : Thread Cert.LinearKernelIdeal.nD Cert.LinearKernelIdeal.τ).loc Cert.LinearKernelIdeal.main_v7)) (v8 : (c : Dev Cert.LinearKernelIdeal.nD) → Buf (Elt Ideal) ((c.tc : Thread Cert.LinearKernelIdeal.nD Cert.LinearKernelIdeal.τ).loc Cert.LinearKernelIdeal.main_v9)) (v9 : (c : Dev Cert.LinearKernelIdeal.nD) → Buf (Elt Ideal) ((c.tc : Thread Cert.LinearKernelIdeal.nD Cert.LinearKernelIdeal.τ).loc Cert.LinearKernelIdeal.main_v10)),
      θ_run (Cert.LinearKernelIdeal.defs (F := Ideal)) (onTc (τ := Cert.LinearKernelIdeal.τ) (Cert.LinearKernelIdeal.main (F := Ideal))) ⟨m, fun _ => 0, g⟩ (fun r => ∀ c : Dev Cert.LinearKernelIdeal.nD,
          r.2.mem ((c.tc : Thread Cert.LinearKernelIdeal.nD Cert.LinearKernelIdeal.τ).loc Cert.LinearKernelIdeal.main_v0) = v0 c
          ∧ r.2.mem ((c.tc : Thread Cert.LinearKernelIdeal.nD Cert.LinearKernelIdeal.τ).loc Cert.LinearKernelIdeal.main_v2) = v1 c
          ∧ r.2.mem ((c.tc : Thread Cert.LinearKernelIdeal.nD Cert.LinearKernelIdeal.τ).loc Cert.LinearKernelIdeal.main_v4) = v2 c
          ∧ r.2.mem ((c.tc : Thread Cert.LinearKernelIdeal.nD Cert.LinearKernelIdeal.τ).loc Cert.LinearKernelIdeal.main_v3) = v3 c
          ∧ r.2.mem ((c.tc : Thread Cert.LinearKernelIdeal.nD Cert.LinearKernelIdeal.τ).loc Cert.LinearKernelIdeal.main_v6) = v4 c
          ∧ r.2.mem ((c.tc : Thread Cert.LinearKernelIdeal.nD Cert.LinearKernelIdeal.τ).loc Cert.LinearKernelIdeal.main_v5) = v5 c
          ∧ r.2.mem ((c.tc : Thread Cert.LinearKernelIdeal.nD Cert.LinearKernelIdeal.τ).loc Cert.LinearKernelIdeal.main_v8) = v6 c
          ∧ r.2.mem ((c.tc : Thread Cert.LinearKernelIdeal.nD Cert.LinearKernelIdeal.τ).loc Cert.LinearKernelIdeal.main_v7) = v7 c
          ∧ r.2.mem ((c.tc : Thread Cert.LinearKernelIdeal.nD Cert.LinearKernelIdeal.τ).loc Cert.LinearKernelIdeal.main_v9) = v8 c
          ∧ r.2.mem ((c.tc : Thread Cert.LinearKernelIdeal.nD Cert.LinearKernelIdeal.τ).loc Cert.LinearKernelIdeal.main_v10) = v9 c
          ∧ r.2.mem ((c.tc : Thread Cert.LinearKernelIdeal.nD Cert.LinearKernelIdeal.τ).loc Cert.LinearKernelIdeal.main_arg0) = m ((c.tc : Thread Cert.LinearKernelIdeal.nD Cert.LinearKernelIdeal.τ).loc Cert.LinearKernelIdeal.main_arg0)
          ∧ r.2.mem ((c.tc : Thread Cert.LinearKernelIdeal.nD Cert.LinearKernelIdeal.τ).loc Cert.LinearKernelIdeal.main_arg1) = m ((c.tc : Thread Cert.LinearKernelIdeal.nD Cert.LinearKernelIdeal.τ).loc Cert.LinearKernelIdeal.main_arg1)
          ∧ r.2.mem ((c.tc : Thread Cert.LinearKernelIdeal.nD Cert.LinearKernelIdeal.τ).loc Cert.LinearKernelIdeal.main_arg2) = m ((c.tc : Thread Cert.LinearKernelIdeal.nD Cert.LinearKernelIdeal.τ).loc Cert.LinearKernelIdeal.main_arg2)
          ∧ r.2.mem ((c.tc : Thread Cert.LinearKernelIdeal.nD Cert.LinearKernelIdeal.τ).loc Cert.LinearKernelIdeal.main_arg3) = m ((c.tc : Thread Cert.LinearKernelIdeal.nD Cert.LinearKernelIdeal.τ).loc Cert.LinearKernelIdeal.main_arg3)
          ∧ r.2.mem ((c.tc : Thread Cert.LinearKernelIdeal.nD Cert.LinearKernelIdeal.τ).loc Cert.LinearKernelIdeal.main_arg4) = m ((c.tc : Thread Cert.LinearKernelIdeal.nD Cert.LinearKernelIdeal.τ).loc Cert.LinearKernelIdeal.main_arg4)
          ∧ r.2.mem ((c.tc : Thread Cert.LinearKernelIdeal.nD Cert.LinearKernelIdeal.τ).loc Cert.LinearKernelIdeal.main_arg5) = m ((c.tc : Thread Cert.LinearKernelIdeal.nD Cert.LinearKernelIdeal.τ).loc Cert.LinearKernelIdeal.main_arg5)
          ∧ r.2.mem ((c.tc : Thread Cert.LinearKernelIdeal.nD Cert.LinearKernelIdeal.τ).loc Cert.LinearKernelIdeal.main_arg6) = m ((c.tc : Thread Cert.LinearKernelIdeal.nD Cert.LinearKernelIdeal.τ).loc Cert.LinearKernelIdeal.main_arg6)
          ∧ r.2.mem ((c.tc : Thread Cert.LinearKernelIdeal.nD Cert.LinearKernelIdeal.τ).loc Cert.LinearKernelIdeal.main_arg7) = m ((c.tc : Thread Cert.LinearKernelIdeal.nD Cert.LinearKernelIdeal.τ).loc Cert.LinearKernelIdeal.main_arg7)
          ∧ r.2.mem ((c.tc : Thread Cert.LinearKernelIdeal.nD Cert.LinearKernelIdeal.τ).loc Cert.LinearKernelIdeal.main_arg8) = m ((c.tc : Thread Cert.LinearKernelIdeal.nD Cert.LinearKernelIdeal.τ).loc Cert.LinearKernelIdeal.main_arg8)
          ∧ r.2.mem ((c.tc : Thread Cert.LinearKernelIdeal.nD Cert.LinearKernelIdeal.τ).loc Cert.LinearKernelIdeal.main_arg9) = m ((c.tc : Thread Cert.LinearKernelIdeal.nD Cert.LinearKernelIdeal.τ).loc Cert.LinearKernelIdeal.main_arg9)
          ∧ r.2.mem ((c.tc : Thread Cert.LinearKernelIdeal.nD Cert.LinearKernelIdeal.τ).loc Cert.LinearKernelIdeal.main_arg10) = m ((c.tc : Thread Cert.LinearKernelIdeal.nD Cert.LinearKernelIdeal.τ).loc Cert.LinearKernelIdeal.main_arg10)
          ∧ r.2.mem ((c.tc : Thread Cert.LinearKernelIdeal.nD Cert.LinearKernelIdeal.τ).loc Cert.LinearKernelIdeal.main_arg11) = m ((c.tc : Thread Cert.LinearKernelIdeal.nD Cert.LinearKernelIdeal.τ).loc Cert.LinearKernelIdeal.main_arg11)
          ∧ r.2.mem ((c.tc : Thread Cert.LinearKernelIdeal.nD Cert.LinearKernelIdeal.τ).loc Cert.LinearKernelIdeal.main_arg12) = m ((c.tc : Thread Cert.LinearKernelIdeal.nD Cert.LinearKernelIdeal.τ).loc Cert.LinearKernelIdeal.main_arg12)
          ∧ r.2.mem ((c.tc : Thread Cert.LinearKernelIdeal.nD Cert.LinearKernelIdeal.τ).loc Cert.LinearKernelIdeal.main_arg13) = m ((c.tc : Thread Cert.LinearKernelIdeal.nD Cert.LinearKernelIdeal.τ).loc Cert.LinearKernelIdeal.main_arg13))
      ∧ θ_run (Cert.LinearReferenceIdeal.defs (F := Ideal)) (onTc (τ := Cert.LinearReferenceIdeal.τ) (Cert.LinearReferenceIdeal.main (F := Ideal))) ⟨m', fun _ => 0, g'⟩ (fun r => ∀ c : Dev Cert.LinearReferenceIdeal.nD,
          r.2.mem ((c.tc : Thread Cert.LinearReferenceIdeal.nD Cert.LinearReferenceIdeal.τ).loc Cert.LinearReferenceIdeal.main_v13) = v0 c
          ∧ r.2.mem ((c.tc : Thread Cert.LinearReferenceIdeal.nD Cert.LinearReferenceIdeal.τ).loc Cert.LinearReferenceIdeal.main_v19) = v1 c
          ∧ r.2.mem ((c.tc : Thread Cert.LinearReferenceIdeal.nD Cert.LinearReferenceIdeal.τ).loc Cert.LinearReferenceIdeal.main_v22) = v2 c
          ∧ r.2.mem ((c.tc : Thread Cert.LinearReferenceIdeal.nD Cert.LinearReferenceIdeal.τ).loc Cert.LinearReferenceIdeal.main_v21) = v3 c
          ∧ r.2.mem ((c.tc : Thread Cert.LinearReferenceIdeal.nD Cert.LinearReferenceIdeal.τ).loc Cert.LinearReferenceIdeal.main_v25) = v4 c
          ∧ r.2.mem ((c.tc : Thread Cert.LinearReferenceIdeal.nD Cert.LinearReferenceIdeal.τ).loc Cert.LinearReferenceIdeal.main_v24) = v5 c
          ∧ r.2.mem ((c.tc : Thread Cert.LinearReferenceIdeal.nD Cert.LinearReferenceIdeal.τ).loc Cert.LinearReferenceIdeal.main_v29) = v6 c
          ∧ r.2.mem ((c.tc : Thread Cert.LinearReferenceIdeal.nD Cert.LinearReferenceIdeal.τ).loc Cert.LinearReferenceIdeal.main_v28) = v7 c
          ∧ r.2.mem ((c.tc : Thread Cert.LinearReferenceIdeal.nD Cert.LinearReferenceIdeal.τ).loc Cert.LinearReferenceIdeal.main_v30) = v8 c
          ∧ r.2.mem ((c.tc : Thread Cert.LinearReferenceIdeal.nD Cert.LinearReferenceIdeal.τ).loc Cert.LinearReferenceIdeal.main_v31) = v9 c
          ∧ r.2.mem ((c.tc : Thread Cert.LinearReferenceIdeal.nD Cert.LinearReferenceIdeal.τ).loc Cert.LinearReferenceIdeal.main_arg0) = m' ((c.tc : Thread Cert.LinearReferenceIdeal.nD Cert.LinearReferenceIdeal.τ).loc Cert.LinearReferenceIdeal.main_arg0)
          ∧ r.2.mem ((c.tc : Thread Cert.LinearReferenceIdeal.nD Cert.LinearReferenceIdeal.τ).loc Cert.LinearReferenceIdeal.main_arg1) = m' ((c.tc : Thread Cert.LinearReferenceIdeal.nD Cert.LinearReferenceIdeal.τ).loc Cert.LinearReferenceIdeal.main_arg1)
          ∧ r.2.mem ((c.tc : Thread Cert.LinearReferenceIdeal.nD Cert.LinearReferenceIdeal.τ).loc Cert.LinearReferenceIdeal.main_arg2) = m' ((c.tc : Thread Cert.LinearReferenceIdeal.nD Cert.LinearReferenceIdeal.τ).loc Cert.LinearReferenceIdeal.main_arg2)
          ∧ r.2.mem ((c.tc : Thread Cert.LinearReferenceIdeal.nD Cert.LinearReferenceIdeal.τ).loc Cert.LinearReferenceIdeal.main_arg3) = m' ((c.tc : Thread Cert.LinearReferenceIdeal.nD Cert.LinearReferenceIdeal.τ).loc Cert.LinearReferenceIdeal.main_arg3)
          ∧ r.2.mem ((c.tc : Thread Cert.LinearReferenceIdeal.nD Cert.LinearReferenceIdeal.τ).loc Cert.LinearReferenceIdeal.main_arg4) = m' ((c.tc : Thread Cert.LinearReferenceIdeal.nD Cert.LinearReferenceIdeal.τ).loc Cert.LinearReferenceIdeal.main_arg4)
          ∧ r.2.mem ((c.tc : Thread Cert.LinearReferenceIdeal.nD Cert.LinearReferenceIdeal.τ).loc Cert.LinearReferenceIdeal.main_arg5) = m' ((c.tc : Thread Cert.LinearReferenceIdeal.nD Cert.LinearReferenceIdeal.τ).loc Cert.LinearReferenceIdeal.main_arg5)
          ∧ r.2.mem ((c.tc : Thread Cert.LinearReferenceIdeal.nD Cert.LinearReferenceIdeal.τ).loc Cert.LinearReferenceIdeal.main_arg6) = m' ((c.tc : Thread Cert.LinearReferenceIdeal.nD Cert.LinearReferenceIdeal.τ).loc Cert.LinearReferenceIdeal.main_arg6)
          ∧ r.2.mem ((c.tc : Thread Cert.LinearReferenceIdeal.nD Cert.LinearReferenceIdeal.τ).loc Cert.LinearReferenceIdeal.main_arg7) = m' ((c.tc : Thread Cert.LinearReferenceIdeal.nD Cert.LinearReferenceIdeal.τ).loc Cert.LinearReferenceIdeal.main_arg7)
          ∧ r.2.mem ((c.tc : Thread Cert.LinearReferenceIdeal.nD Cert.LinearReferenceIdeal.τ).loc Cert.LinearReferenceIdeal.main_arg8) = m' ((c.tc : Thread Cert.LinearReferenceIdeal.nD Cert.LinearReferenceIdeal.τ).loc Cert.LinearReferenceIdeal.main_arg8)
          ∧ r.2.mem ((c.tc : Thread Cert.LinearReferenceIdeal.nD Cert.LinearReferenceIdeal.τ).loc Cert.LinearReferenceIdeal.main_arg9) = m' ((c.tc : Thread Cert.LinearReferenceIdeal.nD Cert.LinearReferenceIdeal.τ).loc Cert.LinearReferenceIdeal.main_arg9)
          ∧ r.2.mem ((c.tc : Thread Cert.LinearReferenceIdeal.nD Cert.LinearReferenceIdeal.τ).loc Cert.LinearReferenceIdeal.main_arg10) = m' ((c.tc : Thread Cert.LinearReferenceIdeal.nD Cert.LinearReferenceIdeal.τ).loc Cert.LinearReferenceIdeal.main_arg10)
          ∧ r.2.mem ((c.tc : Thread Cert.LinearReferenceIdeal.nD Cert.LinearReferenceIdeal.τ).loc Cert.LinearReferenceIdeal.main_arg11) = m' ((c.tc : Thread Cert.LinearReferenceIdeal.nD Cert.LinearReferenceIdeal.τ).loc Cert.LinearReferenceIdeal.main_arg11)
          ∧ r.2.mem ((c.tc : Thread Cert.LinearReferenceIdeal.nD Cert.LinearReferenceIdeal.τ).loc Cert.LinearReferenceIdeal.main_arg12) = m' ((c.tc : Thread Cert.LinearReferenceIdeal.nD Cert.LinearReferenceIdeal.τ).loc Cert.LinearReferenceIdeal.main_arg12)
          ∧ r.2.mem ((c.tc : Thread Cert.LinearReferenceIdeal.nD Cert.LinearReferenceIdeal.τ).loc Cert.LinearReferenceIdeal.main_arg13) = m' ((c.tc : Thread Cert.LinearReferenceIdeal.nD Cert.LinearReferenceIdeal.τ).loc Cert.LinearReferenceIdeal.main_arg13))

def preserves_DxnaKernel_DxnaKernelIdeal : Prop :=
  True

def algebraic_DxnaKernelIdeal_DxnaReferenceIdeal [hDxnaKernelIdeal : Cert.DxnaKernelIdeal.Facts] [hDxnaReferenceIdeal : Cert.DxnaReferenceIdeal.Facts] : Prop :=
  ∀ (m : (ℓ : Loc Cert.DxnaKernelIdeal.nD Cert.DxnaKernelIdeal.τ Cert.DxnaKernelIdeal.sig) → Buf (Elt Ideal) ℓ) (g : Dev Cert.DxnaKernelIdeal.nD → PrngReg)
    (m' : (ℓ : Loc Cert.DxnaReferenceIdeal.nD Cert.DxnaReferenceIdeal.τ Cert.DxnaReferenceIdeal.sig) → Buf (Elt Ideal) ℓ) (g' : Dev Cert.DxnaReferenceIdeal.nD → PrngReg), Pre_DxnaKernelIdeal m →
    (∀ c : Dev Cert.DxnaKernelIdeal.nD,
      m' ((c.tc : Thread Cert.DxnaReferenceIdeal.nD Cert.DxnaReferenceIdeal.τ).loc Cert.DxnaReferenceIdeal.main_arg0) = m ((c.tc : Thread Cert.DxnaKernelIdeal.nD Cert.DxnaKernelIdeal.τ).loc Cert.DxnaKernelIdeal.main_arg0)
      ∧ m' ((c.tc : Thread Cert.DxnaReferenceIdeal.nD Cert.DxnaReferenceIdeal.τ).loc Cert.DxnaReferenceIdeal.main_arg1) = m ((c.tc : Thread Cert.DxnaKernelIdeal.nD Cert.DxnaKernelIdeal.τ).loc Cert.DxnaKernelIdeal.main_arg1)) →
    ∃ (v0 : (c : Dev Cert.DxnaKernelIdeal.nD) → Buf (Elt Ideal) ((c.tc : Thread Cert.DxnaKernelIdeal.nD Cert.DxnaKernelIdeal.τ).loc Cert.DxnaKernelIdeal.main_v0)),
      θ_run (Cert.DxnaKernelIdeal.defs (F := Ideal)) (onTc (τ := Cert.DxnaKernelIdeal.τ) (Cert.DxnaKernelIdeal.main (F := Ideal))) ⟨m, fun _ => 0, g⟩ (fun r => ∀ c : Dev Cert.DxnaKernelIdeal.nD,
          r.2.mem ((c.tc : Thread Cert.DxnaKernelIdeal.nD Cert.DxnaKernelIdeal.τ).loc Cert.DxnaKernelIdeal.main_v0) = v0 c
          ∧ r.2.mem ((c.tc : Thread Cert.DxnaKernelIdeal.nD Cert.DxnaKernelIdeal.τ).loc Cert.DxnaKernelIdeal.main_arg0) = m ((c.tc : Thread Cert.DxnaKernelIdeal.nD Cert.DxnaKernelIdeal.τ).loc Cert.DxnaKernelIdeal.main_arg0)
          ∧ r.2.mem ((c.tc : Thread Cert.DxnaKernelIdeal.nD Cert.DxnaKernelIdeal.τ).loc Cert.DxnaKernelIdeal.main_arg1) = m ((c.tc : Thread Cert.DxnaKernelIdeal.nD Cert.DxnaKernelIdeal.τ).loc Cert.DxnaKernelIdeal.main_arg1))
      ∧ θ_run (Cert.DxnaReferenceIdeal.defs (F := Ideal)) (onTc (τ := Cert.DxnaReferenceIdeal.τ) (Cert.DxnaReferenceIdeal.main (F := Ideal))) ⟨m', fun _ => 0, g'⟩ (fun r => ∀ c : Dev Cert.DxnaReferenceIdeal.nD,
          r.2.mem ((c.tc : Thread Cert.DxnaReferenceIdeal.nD Cert.DxnaReferenceIdeal.τ).loc Cert.DxnaReferenceIdeal.main_v3) = v0 c
          ∧ r.2.mem ((c.tc : Thread Cert.DxnaReferenceIdeal.nD Cert.DxnaReferenceIdeal.τ).loc Cert.DxnaReferenceIdeal.main_arg0) = m' ((c.tc : Thread Cert.DxnaReferenceIdeal.nD Cert.DxnaReferenceIdeal.τ).loc Cert.DxnaReferenceIdeal.main_arg0)
          ∧ r.2.mem ((c.tc : Thread Cert.DxnaReferenceIdeal.nD Cert.DxnaReferenceIdeal.τ).loc Cert.DxnaReferenceIdeal.main_arg1) = m' ((c.tc : Thread Cert.DxnaReferenceIdeal.nD Cert.DxnaReferenceIdeal.τ).loc Cert.DxnaReferenceIdeal.main_arg1))

def preserves_DxnbKernel_DxnbKernelIdeal : Prop :=
  True

def algebraic_DxnbKernelIdeal_DxnbReferenceIdeal [hDxnbKernelIdeal : Cert.DxnbKernelIdeal.Facts] [hDxnbReferenceIdeal : Cert.DxnbReferenceIdeal.Facts] : Prop :=
  ∀ (m : (ℓ : Loc Cert.DxnbKernelIdeal.nD Cert.DxnbKernelIdeal.τ Cert.DxnbKernelIdeal.sig) → Buf (Elt Ideal) ℓ) (g : Dev Cert.DxnbKernelIdeal.nD → PrngReg)
    (m' : (ℓ : Loc Cert.DxnbReferenceIdeal.nD Cert.DxnbReferenceIdeal.τ Cert.DxnbReferenceIdeal.sig) → Buf (Elt Ideal) ℓ) (g' : Dev Cert.DxnbReferenceIdeal.nD → PrngReg), Pre_DxnbKernelIdeal m →
    (∀ c : Dev Cert.DxnbKernelIdeal.nD,
      m' ((c.tc : Thread Cert.DxnbReferenceIdeal.nD Cert.DxnbReferenceIdeal.τ).loc Cert.DxnbReferenceIdeal.main_arg0) = m ((c.tc : Thread Cert.DxnbKernelIdeal.nD Cert.DxnbKernelIdeal.τ).loc Cert.DxnbKernelIdeal.main_arg0)
      ∧ m' ((c.tc : Thread Cert.DxnbReferenceIdeal.nD Cert.DxnbReferenceIdeal.τ).loc Cert.DxnbReferenceIdeal.main_arg1) = m ((c.tc : Thread Cert.DxnbKernelIdeal.nD Cert.DxnbKernelIdeal.τ).loc Cert.DxnbKernelIdeal.main_arg1)
      ∧ m' ((c.tc : Thread Cert.DxnbReferenceIdeal.nD Cert.DxnbReferenceIdeal.τ).loc Cert.DxnbReferenceIdeal.main_arg2) = m ((c.tc : Thread Cert.DxnbKernelIdeal.nD Cert.DxnbKernelIdeal.τ).loc Cert.DxnbKernelIdeal.main_arg2)) →
    ∃ (v0 : (c : Dev Cert.DxnbKernelIdeal.nD) → Buf (Elt Ideal) ((c.tc : Thread Cert.DxnbKernelIdeal.nD Cert.DxnbKernelIdeal.τ).loc Cert.DxnbKernelIdeal.main_v0)),
      θ_run (Cert.DxnbKernelIdeal.defs (F := Ideal)) (onTc (τ := Cert.DxnbKernelIdeal.τ) (Cert.DxnbKernelIdeal.main (F := Ideal))) ⟨m, fun _ => 0, g⟩ (fun r => ∀ c : Dev Cert.DxnbKernelIdeal.nD,
          r.2.mem ((c.tc : Thread Cert.DxnbKernelIdeal.nD Cert.DxnbKernelIdeal.τ).loc Cert.DxnbKernelIdeal.main_v0) = v0 c
          ∧ r.2.mem ((c.tc : Thread Cert.DxnbKernelIdeal.nD Cert.DxnbKernelIdeal.τ).loc Cert.DxnbKernelIdeal.main_arg0) = m ((c.tc : Thread Cert.DxnbKernelIdeal.nD Cert.DxnbKernelIdeal.τ).loc Cert.DxnbKernelIdeal.main_arg0)
          ∧ r.2.mem ((c.tc : Thread Cert.DxnbKernelIdeal.nD Cert.DxnbKernelIdeal.τ).loc Cert.DxnbKernelIdeal.main_arg1) = m ((c.tc : Thread Cert.DxnbKernelIdeal.nD Cert.DxnbKernelIdeal.τ).loc Cert.DxnbKernelIdeal.main_arg1)
          ∧ r.2.mem ((c.tc : Thread Cert.DxnbKernelIdeal.nD Cert.DxnbKernelIdeal.τ).loc Cert.DxnbKernelIdeal.main_arg2) = m ((c.tc : Thread Cert.DxnbKernelIdeal.nD Cert.DxnbKernelIdeal.τ).loc Cert.DxnbKernelIdeal.main_arg2))
      ∧ θ_run (Cert.DxnbReferenceIdeal.defs (F := Ideal)) (onTc (τ := Cert.DxnbReferenceIdeal.τ) (Cert.DxnbReferenceIdeal.main (F := Ideal))) ⟨m', fun _ => 0, g'⟩ (fun r => ∀ c : Dev Cert.DxnbReferenceIdeal.nD,
          r.2.mem ((c.tc : Thread Cert.DxnbReferenceIdeal.nD Cert.DxnbReferenceIdeal.τ).loc Cert.DxnbReferenceIdeal.main_v5) = v0 c
          ∧ r.2.mem ((c.tc : Thread Cert.DxnbReferenceIdeal.nD Cert.DxnbReferenceIdeal.τ).loc Cert.DxnbReferenceIdeal.main_arg0) = m' ((c.tc : Thread Cert.DxnbReferenceIdeal.nD Cert.DxnbReferenceIdeal.τ).loc Cert.DxnbReferenceIdeal.main_arg0)
          ∧ r.2.mem ((c.tc : Thread Cert.DxnbReferenceIdeal.nD Cert.DxnbReferenceIdeal.τ).loc Cert.DxnbReferenceIdeal.main_arg1) = m' ((c.tc : Thread Cert.DxnbReferenceIdeal.nD Cert.DxnbReferenceIdeal.τ).loc Cert.DxnbReferenceIdeal.main_arg1)
          ∧ r.2.mem ((c.tc : Thread Cert.DxnbReferenceIdeal.nD Cert.DxnbReferenceIdeal.τ).loc Cert.DxnbReferenceIdeal.main_arg2) = m' ((c.tc : Thread Cert.DxnbReferenceIdeal.nD Cert.DxnbReferenceIdeal.τ).loc Cert.DxnbReferenceIdeal.main_arg2))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)) →
    ∃ (v0 : (c : Dev Cert.MergeKernelIdeal.nD) → Buf (Elt Ideal) ((c.tc : Thread Cert.MergeKernelIdeal.nD Cert.MergeKernelIdeal.τ).loc Cert.MergeKernelIdeal.main_v0_0)) (v1 : (c : Dev Cert.MergeKernelIdeal.nD) → Buf (Elt Ideal) ((c.tc : Thread Cert.MergeKernelIdeal.nD Cert.MergeKernelIdeal.τ).loc Cert.MergeKernelIdeal.main_v0_1)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v0_0) = v0 c
          ∧ r.2.mem ((c.tc : Thread Cert.MergeKernelIdeal.nD Cert.MergeKernelIdeal.τ).loc Cert.MergeKernelIdeal.main_v0_1) = v1 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v2) = v0 c
          ∧ r.2.mem ((c.tc : Thread Cert.MergeReferenceIdeal.nD Cert.MergeReferenceIdeal.τ).loc Cert.MergeReferenceIdeal.main_v30) = v1 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4))

def Claim : Prop :=
  ∃ (hKernel : Cert.Kernel.Facts) (hKernelIdeal : Cert.KernelIdeal.Facts) (hReferenceIdeal : Cert.ReferenceIdeal.Facts) (hFfnKernel : Cert.FfnKernel.Facts) (hFfnKernelIdeal : Cert.FfnKernelIdeal.Facts) (hFfnReferenceIdeal : Cert.FfnReferenceIdeal.Facts) (hLinearKernel : Cert.LinearKernel.Facts) (hLinearKernelIdeal : Cert.LinearKernelIdeal.Facts) (hLinearReferenceIdeal : Cert.LinearReferenceIdeal.Facts) (hDxnaKernel : Cert.DxnaKernel.Facts) (hDxnaKernelIdeal : Cert.DxnaKernelIdeal.Facts) (hDxnaReferenceIdeal : Cert.DxnaReferenceIdeal.Facts) (hDxnbKernel : Cert.DxnbKernel.Facts) (hDxnbKernelIdeal : Cert.DxnbKernelIdeal.Facts) (hDxnbReferenceIdeal : Cert.DxnbReferenceIdeal.Facts) (hMergeKernel : Cert.MergeKernel.Facts) (hMergeKernelIdeal : Cert.MergeKernelIdeal.Facts) (hMergeReferenceIdeal : Cert.MergeReferenceIdeal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnKernel (hFfnKernel := hFfnKernel)
    ∧ quiescent_FfnKernelIdeal (hFfnKernelIdeal := hFfnKernelIdeal)
    ∧ quiescent_FfnKernelIdeal_pre_finite2 (hFfnKernelIdeal := hFfnKernelIdeal) (hPre_finite2 := hPre_finite2)
    ∧ quiescent_FfnReferenceIdeal (hFfnReferenceIdeal := hFfnReferenceIdeal)
    ∧ quiescent_FfnReferenceIdeal_pre_finite2 (hFfnReferenceIdeal := hFfnReferenceIdeal) (hPre_finite2 := hPre_finite2)
    ∧ quiescent_LinearKernel (hLinearKernel := hLinearKernel)
    ∧ quiescent_LinearKernelIdeal (hLinearKernelIdeal := hLinearKernelIdeal)
    ∧ quiescent_LinearReferenceIdeal (hLinearReferenceIdeal := hLinearReferenceIdeal)
    ∧ quiescent_DxnaKernel (hDxnaKernel := hDxnaKernel)
    ∧ quiescent_DxnaKernelIdeal (hDxnaKernelIdeal := hDxnaKernelIdeal)
    ∧ quiescent_DxnaReferenceIdeal (hDxnaReferenceIdeal := hDxnaReferenceIdeal)
    ∧ quiescent_DxnbKernel (hDxnbKernel := hDxnbKernel)
    ∧ quiescent_DxnbKernelIdeal (hDxnbKernelIdeal := hDxnbKernelIdeal)
    ∧ quiescent_DxnbReferenceIdeal (hDxnbReferenceIdeal := hDxnbReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnKernel_FfnKernelIdeal
    ∧ algebraic_FfnKernelIdeal_FfnReferenceIdeal_pre_finite2 (hFfnKernelIdeal := hFfnKernelIdeal) (hFfnReferenceIdeal := hFfnReferenceIdeal) (hPre_finite2 := hPre_finite2)
    ∧ preserves_LinearKernel_LinearKernelIdeal
    ∧ algebraic_LinearKernelIdeal_LinearReferenceIdeal (hLinearKernelIdeal := hLinearKernelIdeal) (hLinearReferenceIdeal := hLinearReferenceIdeal)
    ∧ preserves_DxnaKernel_DxnaKernelIdeal
    ∧ algebraic_DxnaKernelIdeal_DxnaReferenceIdeal (hDxnaKernelIdeal := hDxnaKernelIdeal) (hDxnaReferenceIdeal := hDxnaReferenceIdeal)
    ∧ preserves_DxnbKernel_DxnbKernelIdeal
    ∧ algebraic_DxnbKernelIdeal_DxnbReferenceIdeal (hDxnbKernelIdeal := hDxnbKernelIdeal) (hDxnbReferenceIdeal := hDxnbReferenceIdeal)
    ∧ preserves_MergeKernel_MergeKernelIdeal
    ∧ algebraic_MergeKernelIdeal_MergeReferenceIdeal (hMergeKernelIdeal := hMergeKernelIdeal) (hMergeReferenceIdeal := hMergeReferenceIdeal)
-- ==== Pre_finite.lean ====
abbrev S4096x2048 : Shape := ⟨2, ![4096, 2048]⟩
abbrev S4096x12800 : Shape := ⟨2, ![4096, 12800]⟩
abbrev S1x4096 : Shape := ⟨2, ![1, 4096]⟩
abbrev S1x128 : Shape := ⟨2, ![1, 128]⟩
abbrev S1x16 : Shape := ⟨2, ![1, 16]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x12800 : S_.BroadcastsInDim S4096x12800 (![] : Fin 0 → Fin S4096x12800.rank)
  reducesTo_S4096x12800_S_d0_1 : S4096x12800.ReducesTo [0, 1] S_
  bcast_S_S1x128 : S_.BroadcastsInDim S1x128 (![] : Fin 0 → Fin S1x128.rank)
  reducesTo_S1x128_S_d0_1 : S1x128.ReducesTo [0, 1] S_
  bcast_S_S1x16 : S_.BroadcastsInDim S1x16 (![] : Fin 0 → Fin S1x16.rank)
  reducesTo_S1x16_S_d0_1 : S1x16.ReducesTo [0, 1] S_

variable [Facts]

def fn_part1 {F : FTy → Type} [FloatOps F] (main_arg5 : FVec F S1x16 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S1x16 .f32 := Host.absf main_arg5
  let main_cst_6 : FVec F S_ .f32 := constant S_ .f32 0x7F800000#32
  let main_v20 : FVec F S1x16 .f32 := broadcastInDim S1x16 ![] bcast_S_S1x16 main_cst_6
  let main_v21 : IVec S1x16 1 := cmpf .olt main_v19 main_v20
  let main_c_7 : IVec S_ 1 := constantI S_ 1 1#1
  let main_v22 : IVec S_ 1 := (fun x v => Host.reduce IntOp.andi x v reducesTo_S1x16_S_d0_1 h_S_) main_v21 main_c_7
  let main_v23 : IVec S_ 1 := andi main_v18 main_v22
  main_v23

def fn {F : FTy → Type} [FloatOps F] (main_arg0 : FVec F S4096x2048 .f32) (main_arg1 : FVec F S4096x12800 .f32) (main_arg2 : IVec S1x4096 32) (main_arg3 : FVec F S1x128 .f32) (main_arg4 : FVec F S1x128 .f32) (main_arg5 : FVec F S1x16 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x12800 .f32 := Host.absf main_arg1
  let main_cst_0 : FVec F S_ .f32 := constant S_ .f32 0x7F800000#32
  let main_v5 : FVec F S4096x12800 .f32 := broadcastInDim S4096x12800 ![] bcast_S_S4096x12800 main_cst_0
  let main_v6 : IVec S4096x12800 1 := cmpf .olt main_v4 main_v5
  let main_c_1 : IVec S_ 1 := constantI S_ 1 1#1
  let main_v7 : IVec S_ 1 := (fun x v => Host.reduce IntOp.andi x v reducesTo_S4096x12800_S_d0_1 h_S_) main_v6 main_c_1
  let main_v8 : IVec S_ 1 := andi main_v3 main_v7
  let main_v9 : FVec F S1x128 .f32 := Host.absf main_arg3
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S1x128 .f32 := Host.absf main_arg4
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg5 main_v13 main_v16
-- ==== Pre_finite2.lean ====
abbrev S4096x2048 : Shape := ⟨2, ![4096, 2048]⟩
abbrev S2048x5632 : Shape := ⟨2, ![2048, 5632]⟩
abbrev S5632x2048 : Shape := ⟨2, ![5632, 2048]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x5632 : S_.BroadcastsInDim S2048x5632 (![] : Fin 0 → Fin S2048x5632.rank)
  reducesTo_S2048x5632_S_d0_1 : S2048x5632.ReducesTo [0, 1] S_
  bcast_S_S5632x2048 : S_.BroadcastsInDim S5632x2048 (![] : Fin 0 → Fin S5632x2048.rank)
  reducesTo_S5632x2048_S_d0_1 : S5632x2048.ReducesTo [0, 1] S_

variable [Facts]

def fn_part1 {F : FTy → Type} [FloatOps F] (main_arg4 : FVec F S4096x2048 .bf16) (main_v16 : IVec S_ 1) (main_v17 : FVec F S5632x2048 .f32) : IVec S_ 1 :=
  let main_v18 : FVec F S5632x2048 .f32 := Host.absf main_v17
  let main_cst_4 : FVec F S_ .f32 := constant S_ .f32 0x7F800000#32
  let main_v19 : FVec F S5632x2048 .f32 := broadcastInDim S5632x2048 ![] bcast_S_S5632x2048 main_cst_4
  let main_v20 : IVec S5632x2048 1 := cmpf .olt main_v18 main_v19
  let main_c_5 : IVec S_ 1 := constantI S_ 1 1#1
  let main_v21 : IVec S_ 1 := (fun x v => Host.reduce IntOp.andi x v reducesTo_S5632x2048_S_d0_1 h_S_) main_v20 main_c_5
  let main_v22 : IVec S_ 1 := andi main_v16 main_v21
  let main_v23 : FVec F S4096x2048 .f32 := (extf .f32 · bitsLt_bf16_f32) main_arg4
  let main_v24 : FVec F S4096x2048 .f32 := Host.absf main_v23
  let main_cst_6 : FVec F S_ .f32 := constant S_ .f32 0x7F800000#32
  let main_v25 : FVec F S4096x2048 .f32 := broadcastInDim S4096x2048 ![] bcast_S_S4096x2048 main_cst_6
  let main_v26 : IVec S4096x2048 1 := cmpf .olt main_v24 main_v25
  let main_c_7 : IVec S_ 1 := constantI S_ 1 1#1
  let main_v27 : IVec S_ 1 := (fun x v => Host.reduce IntOp.andi x v reducesTo_S4096x2048_S_d0_1 h_S_) main_v26 main_c_7
  let main_v28 : IVec S_ 1 := andi main_v22 main_v27
  main_v28

def fn {F : FTy → Type} [FloatOps F] (main_arg0 : FVec F S4096x2048 .bf16) (main_arg1 : FVec F S2048x5632 .bf16) (main_arg2 : FVec F S2048x5632 .bf16) (main_arg3 : FVec F S5632x2048 .bf16) (main_arg4 : FVec F S4096x2048 .bf16) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S2048x5632 .f32 := (extf .f32 · bitsLt_bf16_f32) main_arg1
  let main_v6 : FVec F S2048x5632 .f32 := Host.absf main_v5
  let main_cst_0 : FVec F S_ .f32 := constant S_ .f32 0x7F800000#32
  let main_v7 : FVec F S2048x5632 .f32 := broadcastInDim S2048x5632 ![] bcast_S_S2048x5632 main_cst_0
  let main_v8 : IVec S2048x5632 1 := cmpf .olt main_v6 main_v7
  let main_c_1 : IVec S_ 1 := constantI S_ 1 1#1
  let main_v9 : IVec S_ 1 := (fun x v => Host.reduce IntOp.andi x v reducesTo_S2048x5632_S_d0_1 h_S_) main_v8 main_c_1
  let main_v10 : IVec S_ 1 := andi main_v4 main_v9
  let main_v11 : FVec F S2048x5632 .f32 := (extf .f32 · bitsLt_bf16_f32) main_arg2
  let main_v12 : FVec F S2048x5632 .f32 := Host.absf main_v11
  let main_cst_2 : FVec F S_ .f32 := constant S_ .f32 0x7F800000#32
  let main_v13 : FVec F S2048x5632 .f32 := broadcastInDim S2048x5632 ![] bcast_S_S2048x5632 main_cst_2
  let main_v14 : IVec S2048x5632 1 := cmpf .olt main_v12 main_v13
  let main_c_3 : IVec S_ 1 := constantI S_ 1 1#1
  let main_v15 : IVec S_ 1 := (fun x v => Host.reduce IntOp.andi x v reducesTo_S2048x5632_S_d0_1 h_S_) main_v14 main_c_3
  let main_v16 : IVec S_ 1 := andi main_v10 main_v15
  let main_v17 : FVec F S5632x2048 .f32 := (extf .f32 · bitsLt_bf16_f32) main_arg3
  fn_part1 (F := F) main_arg4 main_v16 main_v17
-- ==== Kernel.lean ====
abbrev S4096x2048 : Shape := ⟨2, ![4096, 2048]⟩
abbrev S4096x12800 : Shape := ⟨2, ![4096, 12800]⟩
abbrev S1x4096 : Shape := ⟨2, ![1, 4096]⟩
abbrev S1x128 : Shape := ⟨2, ![1, 128]⟩
abbrev S1x16 : Shape := ⟨2, ![1, 16]⟩
abbrev S16 : Shape := ⟨1, ![16]⟩
abbrev S_ : Shape := ⟨0, ![]⟩
abbrev S4096 : Shape := ⟨1, ![4096]⟩
abbrev S4096x1 : Shape := ⟨2, ![4096, 1]⟩
abbrev S4096x16 : Shape := ⟨2, ![4096, 16]⟩
abbrev S4096x96 : Shape := ⟨2, ![4096, 96]⟩
abbrev S4096x128 : Shape := ⟨2, ![4096, 128]⟩
abbrev S4096x512 : Shape := ⟨2, ![4096, 512]⟩
abbrev S128x512 : Shape := ⟨2, ![128, 512]⟩
abbrev S128x128 : Shape := ⟨2, ![128, 128]⟩
abbrev S128 : Shape := ⟨1, ![128]⟩
abbrev S128x1 : Shape := ⟨2, ![128, 1]⟩
abbrev S256x128 : Shape := ⟨2, ![256, 128]⟩
abbrev S512x128 : Shape := ⟨2, ![512, 128]⟩
abbrev S512 : Shape := ⟨1, ![512]⟩
abbrev S512x1 : Shape := ⟨2, ![512, 1]⟩
abbrev S512x256 : Shape := ⟨2, ![512, 256]⟩
abbrev S1 : Shape := ⟨1, ![1]⟩
abbrev S1x1 : Shape := ⟨2, ![1, 1]⟩

abbrev nBuf : Space → Nat
  | .hbm => 43
  | .vmem => 33
  | .smem => 1
  | _ => 0

abbrev bufTy : (tb : Table) → Fin (tcTables nBuf tb) → BufTy
  | .hbm, ⟨0, _⟩ => ⟨S4096x2048, .f32⟩
  | .hbm, ⟨1, _⟩ => ⟨S4096x12800, .f32⟩
  | .hbm, ⟨2, _⟩ => ⟨S1x4096, .i32⟩
  | .hbm, ⟨3, _⟩ => ⟨S1x128, .f32⟩
  | .hbm, ⟨4, _⟩ => ⟨S1x128, .f32⟩
  | .hbm, ⟨5, _⟩ => ⟨S1x16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S4096, .i32⟩
  | .hbm, ⟨21, _⟩ => ⟨S4096, .f32⟩
  | .hbm, ⟨22, _⟩ => ⟨S4096x1, .f32⟩
  | .hbm, ⟨23, _⟩ => ⟨S1x16, .f32⟩
  | .hbm, ⟨24, _⟩ => ⟨S4096x16, .f32⟩
  | .hbm, ⟨25, _⟩ => ⟨S4096x16, .f32⟩
  | .hbm, ⟨26, _⟩ => ⟨S4096x16, .f32⟩
  | .hbm, ⟨27, _⟩ => ⟨S4096x16, .f32⟩
  | .hbm, ⟨28, _⟩ => ⟨S4096x16, .f32⟩
  | .hbm, ⟨29, _⟩ => ⟨S_, .f32⟩
  | .hbm, ⟨30, _⟩ => ⟨S4096x96, .f32⟩
  | .hbm, ⟨31, _⟩ => ⟨S4096x128, .f32⟩
  | .hbm, ⟨32, _⟩ => ⟨S4096x16, .f32⟩
  | .hbm, ⟨33, _⟩ => ⟨S_, .f32⟩
  | .hbm, ⟨34, _⟩ => ⟨S4096x96, .f32⟩
  | .hbm, ⟨35, _⟩ => ⟨S4096x128, .f32⟩
  | .hbm, ⟨36, _⟩ => ⟨S16, .f32⟩
  | .hbm, ⟨37, _⟩ => ⟨S4096x2048, .bf16⟩
  | .hbm, ⟨38, _⟩ => ⟨S4096x512, .bf16⟩
  | .hbm, ⟨39, _⟩ => ⟨S4096x512, .bf16⟩
  | .hbm, ⟨40, _⟩ => ⟨S1x128, .f32⟩
  | .hbm, ⟨41, _⟩ => ⟨S1x128, .f32⟩
  | .hbm, ⟨42, _⟩ => ⟨S1x128, .f32⟩
  | .local _ .vmem, ⟨0, _⟩ => ⟨S128x512, .f32⟩
  | .local _ .vmem, ⟨1, _⟩ => ⟨S128x512, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S1x128, .f32⟩
  | .local _ .vmem, ⟨19, _⟩ => ⟨S1x128, .f32⟩
  | .local _ .vmem, ⟨20, _⟩ => ⟨S128x512, .f32⟩
  | .local _ .vmem, ⟨21, _⟩ => ⟨S128x512, .f32⟩
  | .local _ .vmem, ⟨22, _⟩ => ⟨S128x512, .bf16⟩
  | .local _ .vmem, ⟨23, _⟩ => ⟨S128x512, .bf16⟩
  | .local _ .vmem, ⟨24, _⟩ => ⟨S128x128, .bf16⟩
  | .local _ .vmem, ⟨25, _⟩ => ⟨S128x128, .bf16⟩
  | .local _ .vmem, ⟨26, _⟩ => ⟨S128x128, .bf16⟩
  | .local _ .vmem, ⟨27, _⟩ => ⟨S128x128, .bf16⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S128x128, .f32⟩
  | .local _ .vmem, ⟨32, _⟩ => ⟨S128x128, .f32⟩
  | .local _ .smem, ⟨0, _⟩ => ⟨S16, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .smem, ⟨0, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25_0 : Ref sig .tc := ⟨.hbm, 37, rfl⟩
abbrev main_v25_1 : Ref sig .tc := ⟨.hbm, 38, rfl⟩
abbrev main_v25_2 : Ref sig .tc := ⟨.hbm, 39, rfl⟩
abbrev main_v25_3 : Ref sig .tc := ⟨.hbm, 40, rfl⟩
abbrev main_v25_4 : Ref sig .tc := ⟨.hbm, 41, rfl⟩
abbrev main_v25_5 : Ref sig .tc := ⟨.hbm, 42, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_scratch0 : Ref sig .tc := ⟨.vmem, 31, rfl⟩
abbrev cc0_scratch1 : Ref sig .tc := ⟨.vmem, 32, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem17_0 : DmaSem sig := 30
abbrev cc0_sem18_0 : DmaSem sig := 31

abbrev nD : Nat := 1
abbrev τ : Topo := Topo.v7x

variable {F : FTy → Type} [FloatOps F]

abbrev grid0 : Pipeline.Grid := ⟨2, ![4, 33], ![false, false]⟩

def k0_cond3 (i : grid0.Coords) : BitVec 1 :=
  let arg1 : BitVec 32 := BitVec.ofNat 32 (i 1).val
  let c32_i32 : BitVec 32 := 32#32
  let v9 : BitVec 1 := Scalar.cmpi .slt arg1 c32_i32
  let v10 : BitVec 32 := Scalar.extui v9
  let c0_i32_4 : BitVec 32 := 0#32
  let v11 : BitVec 1 := Scalar.cmpi .ne v10 c0_i32_4
  v11

def k0_off1 (i : grid0.Coords) (c0_i32_67 : BitVec 32) : Fin 1 → Nat :=
  let arg0 : BitVec 32 := BitVec.ofNat 32 (i 0).val
  let c4_i32 : BitVec 32 := 4#32
  let v119 : BitVec 32 := Scalar.muli arg0 c4_i32
  let v168 : BitVec 32 := Scalar.addi v119 c0_i32_67
  let v169 : Index := Scalar.indexCast v168
  ![v169.toNat]
def k0_cond4 (i : grid0.Coords) : BitVec 1 :=
  let arg1 : BitVec 32 := BitVec.ofNat 32 (i 1).val
  let c32_i32_5 : BitVec 32 := 32#32
  let v12 : BitVec 1 := Scalar.cmpi .eq arg1 c32_i32_5
  let v13 : BitVec 32 := Scalar.extui v12
  let c0_i32_6 : BitVec 32 := 0#32
  let v14 : BitVec 1 := Scalar.cmpi .ne v13 c0_i32_6
  v14

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let arg1 : BitVec 32 := BitVec.ofNat 32 (i 1).val
  let c0_i32_0 : BitVec 32 := 0#32
  let v2 : BitVec 1 := Scalar.cmpi .eq arg1 c0_i32_0
  let v3 : BitVec 1 := Scalar.andi v1 v2
  let v4 : BitVec 32 := Scalar.extui v3
  let c0_i32_1 : BitVec 32 := 0#32
  let v5 : BitVec 1 := Scalar.cmpi .ne v4 c0_i32_1
  v5

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c16_i32 : BitVec 32 := 16#32
  let v1 : BitVec 32 := Scalar.addi c16_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c1_i32 : BitVec 32 := 1#32
  let v1 : BitVec 32 := Scalar.subi v0 c1_i32
  let c0_i32 : BitVec 32 := 0#32
  let v2 : BitVec 32 := Scalar.maxsi v1 c0_i32
  let c16_i32 : BitVec 32 := 16#32
  let v3 : BitVec 32 := Scalar.addi c16_i32 arg0
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c20_i32 : BitVec 32 := 20#32
  let v1 : BitVec 32 := Scalar.addi c20_i32 arg0
  let c0_i32 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c1_i32 : BitVec 32 := 1#32
  let v1 : BitVec 32 := Scalar.subi v0 c1_i32
  let c0_i32 : BitVec 32 := 0#32
  let v2 : BitVec 32 := Scalar.maxsi v1 c0_i32
  let c20_i32 : BitVec 32 := 20#32
  let v3 : BitVec 32 := Scalar.addi c20_i32 arg0
  let c0_i32_0 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_9 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  ![v0.toNat, arg0.toNat]

def cc0_transform_13 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  ![v0.toNat, arg0.toNat]

def cc0_transform_14 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_15 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S128x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S128x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]
-- ==== KernelIdeal.lean ====
variable {F : FTy → Type} [FloatOps F] [Named F]
def κ : String → Option EReal := fun
  | "mask" => some ⊥
  | _ => none
-- ==== ReferenceIdeal.lean ====
abbrev S4096x2048 : Shape := ⟨2, ![4096, 2048]⟩
abbrev S4096x12800 : Shape := ⟨2, ![4096, 12800]⟩
abbrev S1x4096 : Shape := ⟨2, ![1, 4096]⟩
abbrev S1x128 : Shape := ⟨2, ![1, 128]⟩
abbrev S1x16 : Shape := ⟨2, ![1, 16]⟩
abbrev S16 : Shape := ⟨1, ![16]⟩
abbrev S_ : Shape := ⟨0, ![]⟩
abbrev S1x4096x1 : Shape := ⟨3, ![1, 4096, 1]⟩
abbrev S1x1x16 : Shape := ⟨3, ![1, 1, 16]⟩
abbrev S1x4096x16 : Shape := ⟨3, ![1, 4096, 16]⟩
abbrev S1x4096x1x16 : Shape := ⟨4, ![1, 4096, 1, 16]⟩
abbrev S1x4096x12800 : Shape := ⟨3, ![1, 4096, 12800]⟩
abbrev S1x4096x2048 : Shape := ⟨3, ![1, 4096, 2048]⟩
abbrev S1x4096x512 : Shape := ⟨3, ![1, 4096, 512]⟩
abbrev S1x4096x9728 : Shape := ⟨3, ![1, 4096, 9728]⟩
abbrev S1x4096x16x128 : Shape := ⟨4, ![1, 4096, 16, 128]⟩
abbrev S128 : Shape := ⟨1, ![128]⟩
abbrev S1x4096x16x1 : Shape := ⟨4, ![1, 4096, 16, 1]⟩
abbrev S1x1x1x128 : Shape := ⟨4, ![1, 1, 1, 128]⟩
abbrev S1x4096x4x128 : Shape := ⟨4, ![1, 4096, 4, 128]⟩
abbrev S1x4096x4 : Shape := ⟨3, ![1, 4096, 4]⟩
abbrev S1x4096x4x1 : Shape := ⟨4, ![1, 4096, 4, 1]⟩
abbrev S1x4096x16x16 : Shape := ⟨4, ![1, 4096, 16, 16]⟩
abbrev S1x4096x16x96 : Shape := ⟨4, ![1, 4096, 16, 96]⟩
abbrev S1x4096x4x16 : Shape := ⟨4, ![1, 4096, 4, 16]⟩
abbrev S1x4096x4x96 : Shape := ⟨4, ![1, 4096, 4, 96]⟩
abbrev S1x32x128x4x4x128 : Shape := ⟨6, ![1, 32, 128, 4, 4, 128]⟩
abbrev S1x32x128x4x128 : Shape := ⟨5, ![1, 32, 128, 4, 128]⟩
abbrev S1x1x128x4x128 : Shape := ⟨5, ![1, 1, 128, 4, 128]⟩
abbrev S1x31x128x4x128 : Shape := ⟨5, ![1, 31, 128, 4, 128]⟩
abbrev S1x32x256x4x128 : Shape := ⟨5, ![1, 32, 256, 4, 128]⟩
abbrev S1x32x4x256x128x4 : Shape := ⟨6, ![1, 32, 4, 256, 128, 4]⟩
abbrev S1x32x4x4x128x256 : Shape := ⟨6, ![1, 32, 4, 4, 128, 256]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x32x1x1x128x256 : Shape := ⟨6, ![1, 32, 1, 1, 128, 256]⟩
abbrev S4x4 : Shape := ⟨2, ![4, 4]⟩
abbrev S1x1x4x4x1x1 : Shape := ⟨6, ![1, 1, 4, 4, 1, 1]⟩
abbrev S1x32x4x4x128x1 : Shape := ⟨6, ![1, 32, 4, 4, 128, 1]⟩
abbrev S1x32x4x4x128x257 : Shape := ⟨6, ![1, 32, 4, 4, 128, 257]⟩
abbrev S1x32x4x4x128 : Shape := ⟨5, ![1, 32, 4, 4, 128]⟩
abbrev S1x32x4x128x4x128 : Shape := ⟨6, ![1, 32, 4, 128, 4, 128]⟩
abbrev S1x32x4x128x256 : Shape := ⟨5, ![1, 32, 4, 128, 256]⟩
abbrev S32x4x4x128 : Shape := ⟨4, ![32, 4, 4, 128]⟩
abbrev S1x32x4x256x128 : Shape := ⟨5, ![1, 32, 4, 256, 128]⟩
abbrev S4096x4 : Shape := ⟨2, ![4096, 4]⟩
abbrev S4096x16 : Shape := ⟨2, ![4096, 16]⟩
abbrev S4096x512 : Shape := ⟨2, ![4096, 512]⟩

abbrev nBuf : Space → Nat
  | .hbm => 390
  | .vmem => 0
  | .smem => 0
  | _ => 0

abbrev hbmTy0_0 (i : Nat) : BufTy := match i % 128 with
  | 0 => ⟨S4096x2048, .f32⟩
  | 1 => ⟨S4096x12800, .f32⟩
  | 2 => ⟨S1x4096, .i32⟩
  | 3 => ⟨S1x128, .f32⟩
  | 4 => ⟨S1x128, .f32⟩
  | 5 => ⟨S1x16, .f32⟩
  | 6 => ⟨S16, .f32⟩
  | 7 => ⟨S_, .f32⟩
  | 8 => ⟨S16, .f32⟩
  | 9 => ⟨S16, .f32⟩
  | 10 => ⟨S_, .f32⟩
  | 11 => ⟨S16, .f32⟩
  | 12 => ⟨S16, .f32⟩
  | 13 => ⟨S16, .f32⟩
  | 14 => ⟨S_, .f32⟩
  | 15 => ⟨S16, .f32⟩
  | 16 => ⟨S16, .f32⟩
  | 17 => ⟨S_, .f32⟩
  | 18 => ⟨S16, .f32⟩
  | 19 => ⟨S16, .f32⟩
  | 20 => ⟨S1x4096, .f32⟩
  | 21 => ⟨S1x4096x1, .f32⟩
  | 22 => ⟨S1x1x16, .f32⟩
  | 23 => ⟨S1x4096x16, .f32⟩
  | 24 => ⟨S1x4096x16, .f32⟩
  | 25 => ⟨S1x4096x16, .f32⟩
  | 26 => ⟨S1x4096x16, .f32⟩
  | 27 => ⟨S1x4096x1x16, .f32⟩
  | 28 => ⟨S1x4096x16, .f32⟩
  | 29 => ⟨S1x4096x1x16, .f32⟩
  | 30 => ⟨S1x4096x12800, .f32⟩
  | 31 => ⟨S1x4096x2048, .f32⟩
  | 32 => ⟨S1x4096x512, .f32⟩
  | 33 => ⟨S1x4096x512, .f32⟩
  | 34 => ⟨S1x4096x9728, .f32⟩
  | 35 => ⟨S1x4096x16x128, .f32⟩
  | 36 => ⟨S128, .f32⟩
  | 37 => ⟨S1x4096x16x128, .f32⟩
  | 38 => ⟨S_, .f32⟩
  | 39 => ⟨S1x4096x16, .f32⟩
  | 40 => ⟨S1x4096x16x1, .f32⟩
  | 41 => ⟨S_, .f32⟩
  | 42 => ⟨S1x4096x16x1, .f32⟩
  | 43 => ⟨S1x4096x16x1, .f32⟩
  | 44 => ⟨S_, .f32⟩
  | 45 => ⟨S1x4096x16x1, .f32⟩
  | 46 => ⟨S1x4096x16x1, .f32⟩
  | 47 => ⟨S1x4096x16x1, .f32⟩
  | 48 => ⟨S1x4096x16x1, .f32⟩
  | 49 => ⟨S_, .f32⟩
  | 50 => ⟨S1x4096x16x1, .f32⟩
  | 51 => ⟨S1x4096x16x1, .f32⟩
  | 52 => ⟨S1x4096x16x128, .f32⟩
  | 53 => ⟨S1x4096x16x128, .f32⟩
  | 54 => ⟨S1x1x1x128, .f32⟩
  | 55 => ⟨S1x4096x16x128, .f32⟩
  | 56 => ⟨S1x4096x16x128, .f32⟩
  | 57 => ⟨S1x4096x4x128, .f32⟩
  | 58 => ⟨S128, .f32⟩
  | 59 => ⟨S1x4096x4x128, .f32⟩
  | 60 => ⟨S_, .f32⟩
  | 61 => ⟨S1x4096x4, .f32⟩
  | 62 => ⟨S1x4096x4x1, .f32⟩
  | 63 => ⟨S_, .f32⟩
  | 64 => ⟨S1x4096x4x1, .f32⟩
  | 65 => ⟨S1x4096x4x1, .f32⟩
  | 66 => ⟨S_, .f32⟩
  | 67 => ⟨S1x4096x4x1, .f32⟩
  | 68 => ⟨S1x4096x4x1, .f32⟩
  | 69 => ⟨S1x4096x4x1, .f32⟩
  | 70 => ⟨S1x4096x4x1, .f32⟩
  | 71 => ⟨S_, .f32⟩
  | 72 => ⟨S1x4096x4x1, .f32⟩
  | 73 => ⟨S1x4096x4x1, .f32⟩
  | 74 => ⟨S1x4096x4x128, .f32⟩
  | 75 => ⟨S1x4096x4x128, .f32⟩
  | 76 => ⟨S1x1x1x128, .f32⟩
  | 77 => ⟨S1x4096x4x128, .f32⟩
  | 78 => ⟨S1x4096x4x128, .f32⟩
  | 79 => ⟨S1x4096x16x16, .f32⟩
  | 80 => ⟨S1x4096x16x16, .f32⟩
  | 81 => ⟨S1x4096x16x96, .f32⟩
  | 82 => ⟨S1x4096x16x16, .f32⟩
  | 83 => ⟨S1x4096x16x16, .f32⟩
  | 84 => ⟨S1x4096x16x16, .f32⟩
  | 85 => ⟨S1x4096x16x16, .f32⟩
  | 86 => ⟨S1x4096x16x16, .f32⟩
  | 87 => ⟨S1x4096x16x16, .f32⟩
  | 88 => ⟨S1x4096x16x16, .f32⟩
  | 89 => ⟨S1x4096x16x16, .f32⟩
  | 90 => ⟨S1x4096x16x16, .f32⟩
  | 91 => ⟨S1x4096x16x16, .f32⟩
  | 92 => ⟨S1x4096x16x128, .f32⟩
  | 93 => ⟨S1x4096x4x16, .f32⟩
  | 94 => ⟨S1x4096x4x16, .f32⟩
  | 95 => ⟨S1x4096x4x96, .f32⟩
  | 96 => ⟨S1x4096x4x16, .f32⟩
  | 97 => ⟨S1x4096x4x16, .f32⟩
  | 98 => ⟨S1x4096x4x16, .f32⟩
  | 99 => ⟨S1x4096x4x16, .f32⟩
  | 100 => ⟨S1x4096x4x16, .f32⟩
  | 101 => ⟨S1x4096x4x16, .f32⟩
  | 102 => ⟨S1x4096x4x16, .f32⟩
  | 103 => ⟨S1x4096x4x16, .f32⟩
  | 104 => ⟨S1x4096x4x16, .f32⟩
  | 105 => ⟨S1x4096x4x16, .f32⟩
  | 106 => ⟨S1x4096x4x128, .f32⟩
  | 107 => ⟨S1x4096x4x128, .f32⟩
  | 108 => ⟨S16, .f32⟩
  | 109 => ⟨S1x32x128x4x4x128, .f32⟩
  | 110 => ⟨S1x32x128x4x128, .f32⟩
  | 111 => ⟨S1x1x128x4x128, .f32⟩
  | 112 => ⟨S_, .f32⟩
  | 113 => ⟨S1x1x128x4x128, .f32⟩
  | 114 => ⟨S1x31x128x4x128, .f32⟩
  | 115 => ⟨S1x32x128x4x128, .f32⟩
  | 116 => ⟨S_, .f32⟩
  | 117 => ⟨S1x1x128x4x128, .f32⟩
  | 118 => ⟨S1x32x256x4x128, .f32⟩
  | 119 => ⟨S1x32x128x4x128, .f32⟩
  | 120 => ⟨S1x1x128x4x128, .f32⟩
  | 121 => ⟨S_, .f32⟩
  | 122 => ⟨S1x1x128x4x128, .f32⟩
  | 123 => ⟨S1x31x128x4x128, .f32⟩
  | 124 => ⟨S1x32x128x4x128, .f32⟩
  | 125 => ⟨S_, .f32⟩
  | 126 => ⟨S1x1x128x4x128, .f32⟩
  | 127 => ⟨S1x32x256x4x128, .f32⟩
  | _ => ⟨S4096x2048, .f32⟩

abbrev hbmTy0_1 (i : Nat) : BufTy := match i % 128 with
  | 0 => ⟨S1x32x4x256x128x4, .f32⟩
  | 1 => ⟨S1x32x4x4x128x256, .f32⟩
  | 2 => ⟨S_, .f32⟩
  | 3 => ⟨S1x32x4x4x128x256, .f32⟩
  | 4 => ⟨S1x32x4x4x128x256, .f32⟩
  | 5 => ⟨S128, .i32⟩
  | 6 => ⟨S128x1, .i32⟩
  | 7 => ⟨S256, .i32⟩
  | 8 => ⟨S1x256, .i32⟩
  | 9 => ⟨S_, .i32⟩
  | 10 => ⟨S128x1, .i32⟩
  | 11 => ⟨S128x1, .i32⟩
  | 12 => ⟨S128x256, .i32⟩
  | 13 => ⟨S128x256, .i32⟩
  | 14 => ⟨S128x256, .i32⟩
  | 15 => ⟨S_, .i32⟩
  | 16 => ⟨S128x256, .i32⟩
  | 17 => ⟨S128x256, .i1⟩
  | 18 => ⟨S_, .i32⟩
  | 19 => ⟨S128x256, .i32⟩
  | 20 => ⟨S128x256, .i1⟩
  | 21 => ⟨S128x256, .i1⟩
  | 22 => ⟨S32, .i32⟩
  | 23 => ⟨S32x1x1, .i32⟩
  | 24 => ⟨S_, .i32⟩
  | 25 => ⟨S32x1x1, .i32⟩
  | 26 => ⟨S32x1x1, .i1⟩
  | 27 => ⟨S_, .i32⟩
  | 28 => ⟨S1x256, .i32⟩
  | 29 => ⟨S1x256, .i1⟩
  | 30 => ⟨S1x1x256, .i1⟩
  | 31 => ⟨S32x1x256, .i1⟩
  | 32 => ⟨S32x1x256, .i1⟩
  | 33 => ⟨S32x1x256, .i1⟩
  | 34 => ⟨S1x128x256, .i1⟩
  | 35 => ⟨S32x128x256, .i1⟩
  | 36 => ⟨S32x128x256, .i1⟩
  | 37 => ⟨S32x128x256, .i1⟩
  | 38 => ⟨S1x32x1x1x128x256, .i1⟩
  | 39 => ⟨S_, .f32⟩
  | 40 => ⟨S_, .f32⟩
  | 41 => ⟨S1x32x4x4x128x256, .i1⟩
  | 42 => ⟨S1x32x4x4x128x256, .f32⟩
  | 43 => ⟨S1x32x4x4x128x256, .f32⟩
  | 44 => ⟨S_, .f32⟩
  | 45 => ⟨S1x32x4x4x128x256, .f32⟩
  | 46 => ⟨S4x4, .f32⟩
  | 47 => ⟨S1x1x4x4x1x1, .f32⟩
  | 48 => ⟨S1x32x4x4x128x1, .f32⟩
  | 49 => ⟨S1x32x4x4x128x257, .f32⟩
  | 50 => ⟨S_, .f32⟩
  | 51 => ⟨S1x32x4x4x128, .f32⟩
  | 52 => ⟨S1x32x4x4x128x1, .f32⟩
  | 53 => ⟨S1x32x4x4x128x257, .f32⟩
  | 54 => ⟨S1x32x4x4x128x257, .i1⟩
  | 55 => ⟨S1x32x4x4x128x257, .f32⟩
  | 56 => ⟨S_, .f32⟩
  | 57 => ⟨S1x32x4x4x128, .f32⟩
  | 58 => ⟨S_, .f32⟩
  | 59 => ⟨S1x32x4x4x128, .f32⟩
  | 60 => ⟨S1x32x4x4x128, .f32⟩
  | 61 => ⟨S_, .f32⟩
  | 62 => ⟨S1x32x4x4x128, .f32⟩
  | 63 => ⟨S1x32x4x4x128, .i1⟩
  | 64 => ⟨S_, .f32⟩
  | 65 => ⟨S1x32x4x4x128, .f32⟩
  | 66 => ⟨S1x32x4x4x128, .i1⟩
  | 67 => ⟨S_, .f32⟩
  | 68 => ⟨S1x32x4x4x128, .f32⟩
  | 69 => ⟨S_, .f32⟩
  | 70 => ⟨S1x32x4x4x128, .f32⟩
  | 71 => ⟨S_, .f32⟩
  | 72 => ⟨S1x32x4x4x128, .f32⟩
  | 73 => ⟨S1x32x4x4x128, .f32⟩
  | 74 => ⟨S1x32x4x4x128, .f32⟩
  | 75 => ⟨S1x32x4x4x128x1, .f32⟩
  | 76 => ⟨S1x32x4x4x128x257, .f32⟩
  | 77 => ⟨S1x32x4x4x128x257, .f32⟩
  | 78 => ⟨S1x32x4x4x128x257, .f32⟩
  | 79 => ⟨S_, .f32⟩
  | 80 => ⟨S1x32x4x4x128, .f32⟩
  | 81 => ⟨S1x32x4x4x128x1, .f32⟩
  | 82 => ⟨S1x32x4x4x128x257, .f32⟩
  | 83 => ⟨S1x32x4x4x128x257, .f32⟩
  | 84 => ⟨S1x32x4x4x128x1, .f32⟩
  | 85 => ⟨S_, .f32⟩
  | 86 => ⟨S1x32x4x4x128x1, .f32⟩
  | 87 => ⟨S1x32x4x4x128x1, .f32⟩
  | 88 => ⟨S1x32x4x4x128x256, .f32⟩
  | 89 => ⟨S1x32x4x128x4x128, .f32⟩
  | 90 => ⟨S1x32x128x4x4x128, .f32⟩
  | 91 => ⟨S1x4096x2048, .f32⟩
  | 92 => ⟨S1x4096x2048, .f32⟩
  | 93 => ⟨S1x32x128x4x4x128, .f32⟩
  | 94 => ⟨S1x32x4x128x4x128, .f32⟩
  | 95 => ⟨S1x32x4x4x128x256, .f32⟩
  | 96 => ⟨S1x32x4x128x256, .f32⟩
  | 97 => ⟨S1x32x256x4x128, .f32⟩
  | 98 => ⟨S_, .f32⟩
  | 99 => ⟨S1x32x4x4x128x257, .f32⟩
  | 100 => ⟨S1x32x4x4x128x257, .f32⟩
  | 101 => ⟨S1x32x4x4x128x257, .f32⟩
  | 102 => ⟨S1x32x4x4x128x257, .f32⟩
  | 103 => ⟨S_, .f32⟩
  | 104 => ⟨S1x32x4x4x128, .f32⟩
  | 105 => ⟨S1x32x4x4x128x1, .f32⟩
  | 106 => ⟨S1x32x4x4x128x1, .f32⟩
  | 107 => ⟨S1x32x4x4x128x257, .f32⟩
  | 108 => ⟨S1x32x4x4x128x257, .f32⟩
  | 109 => ⟨S_, .f32⟩
  | 110 => ⟨S32x4x4x128, .f32⟩
  | 111 => ⟨S1x32x4x4x128, .f32⟩
  | 112 => ⟨S1x32x4x4x128x257, .f32⟩
  | 113 => ⟨S1x32x4x4x128x257, .f32⟩
  | 114 => ⟨S1x32x4x4x128x257, .f32⟩
  | 115 => ⟨S1x32x4x4x128x256, .f32⟩
  | 116 => ⟨S1x32x4x4x128x1, .f32⟩
  | 117 => ⟨S_, .f32⟩
  | 118 => ⟨S4x4, .f32⟩
  | 119 => ⟨S1x1x4x4x1x1, .f32⟩
  | 120 => ⟨S_, .f32⟩
  | 121 => ⟨S4x4, .f32⟩
  | 122 => ⟨S16, .f32⟩
  | 123 => ⟨S_, .f32⟩
  | 124 => ⟨S1x32x4x4x128x256, .f32⟩
  | 125 => ⟨S1x32x4x4x128x256, .f32⟩
  | 126 => ⟨S_, .f32⟩
  | 127 => ⟨S1x32x4x4x128x256, .f32⟩
  | _ => ⟨S4096x2048, .f32⟩

abbrev hbmTy0_2 (i : Nat) : BufTy := match i % 128 with
  | 0 => ⟨S1x32x4x4x128x256, .f32⟩
  | 1 => ⟨S1x32x4x256x128x4, .f32⟩
  | 2 => ⟨S1x32x4x128x4x128, .f32⟩
  | 3 => ⟨S1x32x128x4x4x128, .f32⟩
  | 4 => ⟨S1x32x4x256x128, .f32⟩
  | 5 => ⟨S1x32x256x4x128, .f32⟩
  | 6 => ⟨S1x32x128x4x128, .f32⟩
  | 7 => ⟨S1x32x128x4x128, .f32⟩
  | 8 => ⟨S1x1x128x4x128, .f32⟩
  | 9 => ⟨S1x31x128x4x128, .f32⟩
  | 10 => ⟨S_, .f32⟩
  | 11 => ⟨S1x32x128x4x128, .f32⟩
  | 12 => ⟨S1x32x128x4x128, .f32⟩
  | 13 => ⟨S1x4096x4x128, .f32⟩
  | 14 => ⟨S1x32x128x4x128, .f32⟩
  | 15 => ⟨S1x32x128x4x128, .f32⟩
  | 16 => ⟨S1x1x128x4x128, .f32⟩
  | 17 => ⟨S1x31x128x4x128, .f32⟩
  | 18 => ⟨S_, .f32⟩
  | 19 => ⟨S1x32x128x4x128, .f32⟩
  | 20 => ⟨S1x32x128x4x128, .f32⟩
  | 21 => ⟨S1x4096x4x128, .f32⟩
  | 22 => ⟨S1x4096x16x128, .f32⟩
  | 23 => ⟨S1x16, .f32⟩
  | 24 => ⟨S1x4096x512, .f32⟩
  | 25 => ⟨S1x4096x4x16, .f32⟩
  | 26 => ⟨S1x4096x4x16, .f32⟩
  | 27 => ⟨S1x4096x4x96, .f32⟩
  | 28 => ⟨S1x4096x4x16, .f32⟩
  | 29 => ⟨S1x4096x4x16, .f32⟩
  | 30 => ⟨S1x4096x4x16, .f32⟩
  | 31 => ⟨S1x4096x4x16, .f32⟩
  | 32 => ⟨S1x4096x4x16, .f32⟩
  | 33 => ⟨S1x4096x4x16, .f32⟩
  | 34 => ⟨S1x4096x4x16, .f32⟩
  | 35 => ⟨S1x4096x4x16, .f32⟩
  | 36 => ⟨S1x4096x4x16, .f32⟩
  | 37 => ⟨S1x4096x4x16, .f32⟩
  | 38 => ⟨S1x4096x4x16, .f32⟩
  | 39 => ⟨S_, .f32⟩
  | 40 => ⟨S1x4096x4x128, .f32⟩
  | 41 => ⟨S_, .f32⟩
  | 42 => ⟨S1x4096x4x128, .f32⟩
  | 43 => ⟨S1x4096x4x128, .f32⟩
  | 44 => ⟨S_, .f32⟩
  | 45 => ⟨S1x4096x4x128, .f32⟩
  | 46 => ⟨S1x4096x4x128, .f32⟩
  | 47 => ⟨S1x4096x16x16, .f32⟩
  | 48 => ⟨S1x4096x16x16, .f32⟩
  | 49 => ⟨S1x4096x16x96, .f32⟩
  | 50 => ⟨S1x4096x16x16, .f32⟩
  | 51 => ⟨S1x4096x16x16, .f32⟩
  | 52 => ⟨S1x4096x16x16, .f32⟩
  | 53 => ⟨S1x4096x16x16, .f32⟩
  | 54 => ⟨S1x4096x16x16, .f32⟩
  | 55 => ⟨S1x4096x16x16, .f32⟩
  | 56 => ⟨S1x4096x16x16, .f32⟩
  | 57 => ⟨S1x4096x16x16, .f32⟩
  | 58 => ⟨S1x4096x16x16, .f32⟩
  | 59 => ⟨S1x4096x16x16, .f32⟩
  | 60 => ⟨S1x4096x16x16, .f32⟩
  | 61 => ⟨S_, .f32⟩
  | 62 => ⟨S1x4096x16x128, .f32⟩
  | 63 => ⟨S_, .f32⟩
  | 64 => ⟨S1x4096x16x128, .f32⟩
  | 65 => ⟨S1x4096x16x128, .f32⟩
  | 66 => ⟨S_, .f32⟩
  | 67 => ⟨S1x4096x16x128, .f32⟩
  | 68 => ⟨S1x4096x16x128, .f32⟩
  | 69 => ⟨S1x4096x4x128, .f32⟩
  | 70 => ⟨S_, .f32⟩
  | 71 => ⟨S1x128, .f32⟩
  | 72 => ⟨S1x1x1x128, .f32⟩
  | 73 => ⟨S1x4096x4x128, .f32⟩
  | 74 => ⟨S1x4096x4x128, .f32⟩
  | 75 => ⟨S_, .f32⟩
  | 76 => ⟨S128, .f32⟩
  | 77 => ⟨S1x4096x4x128, .f32⟩
  | 78 => ⟨S_, .f32⟩
  | 79 => ⟨S1x4096x4, .f32⟩
  | 80 => ⟨S1x4096x4x1, .f32⟩
  | 81 => ⟨S1x4096x4x128, .f32⟩
  | 82 => ⟨S1x4096x4x128, .f32⟩
  | 83 => ⟨S1x4096x4x1, .f32⟩
  | 84 => ⟨S_, .f32⟩
  | 85 => ⟨S1x4096x4x1, .f32⟩
  | 86 => ⟨S1x4096x4x1, .f32⟩
  | 87 => ⟨S_, .f32⟩
  | 88 => ⟨S4096x4, .f32⟩
  | 89 => ⟨S1x4096x4, .f32⟩
  | 90 => ⟨S1x4096x4x128, .f32⟩
  | 91 => ⟨S1x4096x4x128, .f32⟩
  | 92 => ⟨S1x4096x4x128, .f32⟩
  | 93 => ⟨S1x4096x4x128, .f32⟩
  | 94 => ⟨S1x4096x4x128, .f32⟩
  | 95 => ⟨S1x128, .f32⟩
  | 96 => ⟨S1x4096x512, .f32⟩
  | 97 => ⟨S1x4096x16x128, .f32⟩
  | 98 => ⟨S_, .f32⟩
  | 99 => ⟨S1x128, .f32⟩
  | 100 => ⟨S1x1x1x128, .f32⟩
  | 101 => ⟨S1x4096x16x128, .f32⟩
  | 102 => ⟨S1x4096x16x128, .f32⟩
  | 103 => ⟨S_, .f32⟩
  | 104 => ⟨S128, .f32⟩
  | 105 => ⟨S1x4096x16x128, .f32⟩
  | 106 => ⟨S_, .f32⟩
  | 107 => ⟨S1x4096x16, .f32⟩
  | 108 => ⟨S1x4096x16x1, .f32⟩
  | 109 => ⟨S1x4096x16x128, .f32⟩
  | 110 => ⟨S1x4096x16x128, .f32⟩
  | 111 => ⟨S1x4096x16x1, .f32⟩
  | 112 => ⟨S_, .f32⟩
  | 113 => ⟨S1x4096x16x1, .f32⟩
  | 114 => ⟨S1x4096x16x1, .f32⟩
  | 115 => ⟨S_, .f32⟩
  | 116 => ⟨S4096x16, .f32⟩
  | 117 => ⟨S1x4096x16, .f32⟩
  | 118 => ⟨S1x4096x16x128, .f32⟩
  | 119 => ⟨S1x4096x16x128, .f32⟩
  | 120 => ⟨S1x4096x16x128, .f32⟩
  | 121 => ⟨S1x4096x16x128, .f32⟩
  | 122 => ⟨S1x4096x16x128, .f32⟩
  | 123 => ⟨S1x128, .f32⟩
  | 124 => ⟨S1x4096x2048, .f32⟩
  | 125 => ⟨S4096x2048, .f32⟩
  | 126 => ⟨S4096x2048, .bf16⟩
  | 127 => ⟨S4096x512, .f32⟩
  | _ => ⟨S4096x2048, .f32⟩

abbrev hbmTy0_3 (i : Nat) : BufTy := match i % 128 with
  | 0 => ⟨S4096x512, .bf16⟩
  | 1 => ⟨S4096x512, .f32⟩
  | 2 => ⟨S4096x512, .bf16⟩
  | 3 => ⟨S_, .i32⟩
  | 4 => ⟨S_, .f32⟩
  | 5 => ⟨S1x128, .f32⟩
  | _ => ⟨S4096x2048, .f32⟩

abbrev hbmTy (i : Nat) : BufTy := match i / 128 with
  | 0 => hbmTy0_0 i
  | 1 => hbmTy0_1 i
  | 2 => hbmTy0_2 i
  | 3 => hbmTy0_3 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev main_cst_8 : Ref sig .tc := ⟨.hbm, 63, rfl⟩
abbrev main_v48 : Ref sig .tc := ⟨.hbm, 64, rfl⟩
abbrev main_v49 : Ref sig .tc := ⟨.hbm, 65, rfl⟩
abbrev main_cst_9 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_10 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_cst_11 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_cst_12 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_cst_13 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_cst_14 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_cst_15 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_c : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_c_16 : Ref sig .tc := ⟨.hbm, 143, rfl⟩
abbrev main_v119 : Ref sig .tc := ⟨.hbm, 144, rfl⟩
abbrev main_v120 : Ref sig .tc := ⟨.hbm, 145, rfl⟩
abbrev main_c_17 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_c_18 : Ref sig .tc := ⟨.hbm, 152, rfl⟩
abbrev main_v126 : Ref sig .tc := ⟨.hbm, 153, rfl⟩
abbrev main_v127 : Ref sig .tc := ⟨.hbm, 154, rfl⟩
abbrev main_c_19 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_cst_20 : Ref sig .tc := ⟨.hbm, 167, rfl⟩
abbrev main_call0_v0 : Ref sig .tc := ⟨.hbm, 168, rfl⟩
abbrev main_v139_1 : Ref sig .tc := ⟨.hbm, 169, rfl⟩
abbrev main_call0_v2 : Ref sig .tc := ⟨.hbm, 170, rfl⟩
abbrev main_v139_0 : Ref sig .tc := ⟨.hbm, 171, rfl⟩
abbrev main_call0_cst : Ref sig .tc := ⟨.hbm, 172, rfl⟩
abbrev main_v139_2 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_cst_21 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_cst_22 : Ref sig .tc := ⟨.hbm, 184, rfl⟩
abbrev main_v149 : Ref sig .tc := ⟨.hbm, 185, rfl⟩
abbrev main_cst_23 : Ref sig .tc := ⟨.hbm, 186, rfl⟩
abbrev main_v150 : Ref sig .tc := ⟨.hbm, 187, rfl⟩
abbrev main_v151 : Ref sig .tc := ⟨.hbm, 188, rfl⟩
abbrev main_cst_24 : Ref sig .tc := ⟨.hbm, 189, rfl⟩
abbrev main_v152 : Ref sig .tc := ⟨.hbm, 190, rfl⟩
abbrev main_v153 : Ref sig .tc := ⟨.hbm, 191, rfl⟩
abbrev main_cst_25 : Ref sig .tc := ⟨.hbm, 192, rfl⟩
abbrev main_v154 : Ref sig .tc := ⟨.hbm, 193, rfl⟩
abbrev main_v155 : Ref sig .tc := ⟨.hbm, 194, rfl⟩
abbrev main_cst_26 : Ref sig .tc := ⟨.hbm, 195, rfl⟩
abbrev main_v156 : Ref sig .tc := ⟨.hbm, 196, rfl⟩
abbrev main_cst_27 : Ref sig .tc := ⟨.hbm, 197, rfl⟩
abbrev main_v157 : Ref sig .tc := ⟨.hbm, 198, rfl⟩
abbrev main_cst_28 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_cst_29 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_cst_30 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_cst_31 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_cst_32 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_cst_33 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_v197 : Ref sig .tc := ⟨.hbm, 244, rfl⟩
abbrev main_cst_34 : Ref sig .tc := ⟨.hbm, 245, rfl⟩
abbrev main_v198 : Ref sig .tc := ⟨.hbm, 246, rfl⟩
abbrev main_v199 : Ref sig .tc := ⟨.hbm, 247, rfl⟩
abbrev main_cst_35 : Ref sig .tc := ⟨.hbm, 248, rfl⟩
abbrev main_v200 : Ref sig .tc := ⟨.hbm, 249, rfl⟩
abbrev main_v201 : Ref sig .tc := ⟨.hbm, 250, rfl⟩
abbrev main_call1_cst : Ref sig .tc := ⟨.hbm, 251, rfl⟩
abbrev main_call1_v0 : Ref sig .tc := ⟨.hbm, 252, rfl⟩
abbrev main_v202 : Ref sig .tc := ⟨.hbm, 253, rfl⟩
abbrev main_cst_36 : Ref sig .tc := ⟨.hbm, 254, rfl⟩
abbrev main_v203 : Ref sig .tc := ⟨.hbm, 255, rfl⟩
abbrev main_v204 : Ref sig .tc := ⟨.hbm, 256, rfl⟩
abbrev main_v205 : Ref sig .tc := ⟨.hbm, 257, rfl⟩
abbrev main_v206 : Ref sig .tc := ⟨.hbm, 258, rfl⟩
abbrev main_v207 : Ref sig .tc := ⟨.hbm, 259, rfl⟩
abbrev main_v208 : Ref sig .tc := ⟨.hbm, 260, rfl⟩
abbrev main_v209 : Ref sig .tc := ⟨.hbm, 261, rfl⟩
abbrev main_v210 : Ref sig .tc := ⟨.hbm, 262, rfl⟩
abbrev main_v211 : Ref sig .tc := ⟨.hbm, 263, rfl⟩
abbrev main_v212 : Ref sig .tc := ⟨.hbm, 264, rfl⟩
abbrev main_v213 : Ref sig .tc := ⟨.hbm, 265, rfl⟩
abbrev main_cst_37 : Ref sig .tc := ⟨.hbm, 266, rfl⟩
abbrev main_v214 : Ref sig .tc := ⟨.hbm, 267, rfl⟩
abbrev main_v215 : Ref sig .tc := ⟨.hbm, 268, rfl⟩
abbrev main_v216 : Ref sig .tc := ⟨.hbm, 269, rfl⟩
abbrev main_v217 : Ref sig .tc := ⟨.hbm, 270, rfl⟩
abbrev main_v218 : Ref sig .tc := ⟨.hbm, 271, rfl⟩
abbrev main_v219 : Ref sig .tc := ⟨.hbm, 272, rfl⟩
abbrev main_v220 : Ref sig .tc := ⟨.hbm, 273, rfl⟩
abbrev main_cst_38 : Ref sig .tc := ⟨.hbm, 274, rfl⟩
abbrev main_v221 : Ref sig .tc := ⟨.hbm, 275, rfl⟩
abbrev main_v222 : Ref sig .tc := ⟨.hbm, 276, rfl⟩
abbrev main_v223 : Ref sig .tc := ⟨.hbm, 277, rfl⟩
abbrev main_v224 : Ref sig .tc := ⟨.hbm, 278, rfl⟩
abbrev main_v225 : Ref sig .tc := ⟨.hbm, 279, rfl⟩
abbrev main_v226 : Ref sig .tc := ⟨.hbm, 280, rfl⟩
abbrev main_v227 : Ref sig .tc := ⟨.hbm, 281, rfl⟩
abbrev main_v228 : Ref sig .tc := ⟨.hbm, 282, rfl⟩
abbrev main_v229 : Ref sig .tc := ⟨.hbm, 283, rfl⟩
abbrev main_v230 : Ref sig .tc := ⟨.hbm, 284, rfl⟩
abbrev main_v231 : Ref sig .tc := ⟨.hbm, 285, rfl⟩
abbrev main_v232 : Ref sig .tc := ⟨.hbm, 286, rfl⟩
abbrev main_v233 : Ref sig .tc := ⟨.hbm, 287, rfl⟩
abbrev main_v234 : Ref sig .tc := ⟨.hbm, 288, rfl⟩
abbrev main_v235 : Ref sig .tc := ⟨.hbm, 289, rfl⟩
abbrev main_v236 : Ref sig .tc := ⟨.hbm, 290, rfl⟩
abbrev main_v237 : Ref sig .tc := ⟨.hbm, 291, rfl⟩
abbrev main_v238 : Ref sig .tc := ⟨.hbm, 292, rfl⟩
abbrev main_v239 : Ref sig .tc := ⟨.hbm, 293, rfl⟩
abbrev main_v240 : Ref sig .tc := ⟨.hbm, 294, rfl⟩
abbrev main_cst_39 : Ref sig .tc := ⟨.hbm, 295, rfl⟩
abbrev main_v241 : Ref sig .tc := ⟨.hbm, 296, rfl⟩
abbrev main_cst_40 : Ref sig .tc := ⟨.hbm, 297, rfl⟩
abbrev main_v242 : Ref sig .tc := ⟨.hbm, 298, rfl⟩
abbrev main_v243 : Ref sig .tc := ⟨.hbm, 299, rfl⟩
abbrev main_cst_41 : Ref sig .tc := ⟨.hbm, 300, rfl⟩
abbrev main_v244 : Ref sig .tc := ⟨.hbm, 301, rfl⟩
abbrev main_v245 : Ref sig .tc := ⟨.hbm, 302, rfl⟩
abbrev main_v246 : Ref sig .tc := ⟨.hbm, 303, rfl⟩
abbrev main_v247 : Ref sig .tc := ⟨.hbm, 304, rfl⟩
abbrev main_v248 : Ref sig .tc := ⟨.hbm, 305, rfl⟩
abbrev main_v249 : Ref sig .tc := ⟨.hbm, 306, rfl⟩
abbrev main_v250 : Ref sig .tc := ⟨.hbm, 307, rfl⟩
abbrev main_v251 : Ref sig .tc := ⟨.hbm, 308, rfl⟩
abbrev main_v252 : Ref sig .tc := ⟨.hbm, 309, rfl⟩
abbrev main_v253 : Ref sig .tc := ⟨.hbm, 310, rfl⟩
abbrev main_v254 : Ref sig .tc := ⟨.hbm, 311, rfl⟩
abbrev main_v255 : Ref sig .tc := ⟨.hbm, 312, rfl⟩
abbrev main_v256 : Ref sig .tc := ⟨.hbm, 313, rfl⟩
abbrev main_v257 : Ref sig .tc := ⟨.hbm, 314, rfl⟩
abbrev main_v258 : Ref sig .tc := ⟨.hbm, 315, rfl⟩
abbrev main_v259 : Ref sig .tc := ⟨.hbm, 316, rfl⟩
abbrev main_cst_42 : Ref sig .tc := ⟨.hbm, 317, rfl⟩
abbrev main_v260 : Ref sig .tc := ⟨.hbm, 318, rfl⟩
abbrev main_cst_43 : Ref sig .tc := ⟨.hbm, 319, rfl⟩
abbrev main_v261 : Ref sig .tc := ⟨.hbm, 320, rfl⟩
abbrev main_v262 : Ref sig .tc := ⟨.hbm, 321, rfl⟩
abbrev main_cst_44 : Ref sig .tc := ⟨.hbm, 322, rfl⟩
abbrev main_v263 : Ref sig .tc := ⟨.hbm, 323, rfl⟩
abbrev main_v264 : Ref sig .tc := ⟨.hbm, 324, rfl⟩
abbrev main_v265 : Ref sig .tc := ⟨.hbm, 325, rfl⟩
abbrev main_cst_45 : Ref sig .tc := ⟨.hbm, 326, rfl⟩
abbrev main_v266 : Ref sig .tc := ⟨.hbm, 327, rfl⟩
abbrev main_v267 : Ref sig .tc := ⟨.hbm, 328, rfl⟩
abbrev main_v268 : Ref sig .tc := ⟨.hbm, 329, rfl⟩
abbrev main_v269 : Ref sig .tc := ⟨.hbm, 330, rfl⟩
abbrev main_cst_46 : Ref sig .tc := ⟨.hbm, 331, rfl⟩
abbrev main_v270 : Ref sig .tc := ⟨.hbm, 332, rfl⟩
abbrev main_v271 : Ref sig .tc := ⟨.hbm, 333, rfl⟩
abbrev main_cst_47 : Ref sig .tc := ⟨.hbm, 334, rfl⟩
abbrev main_v272 : Ref sig .tc := ⟨.hbm, 335, rfl⟩
abbrev main_v273 : Ref sig .tc := ⟨.hbm, 336, rfl⟩
abbrev main_v274 : Ref sig .tc := ⟨.hbm, 337, rfl⟩
abbrev main_v275 : Ref sig .tc := ⟨.hbm, 338, rfl⟩
abbrev main_v276 : Ref sig .tc := ⟨.hbm, 339, rfl⟩
abbrev main_cst_48 : Ref sig .tc := ⟨.hbm, 340, rfl⟩
abbrev main_v277 : Ref sig .tc := ⟨.hbm, 341, rfl⟩
abbrev main_v278 : Ref sig .tc := ⟨.hbm, 342, rfl⟩
abbrev main_cst_49 : Ref sig .tc := ⟨.hbm, 343, rfl⟩
abbrev main_v279 : Ref sig .tc := ⟨.hbm, 344, rfl⟩
abbrev main_v280 : Ref sig .tc := ⟨.hbm, 345, rfl⟩
abbrev main_v281 : Ref sig .tc := ⟨.hbm, 346, rfl⟩
abbrev main_v282 : Ref sig .tc := ⟨.hbm, 347, rfl⟩
abbrev main_v283 : Ref sig .tc := ⟨.hbm, 348, rfl⟩
abbrev main_v284 : Ref sig .tc := ⟨.hbm, 349, rfl⟩
abbrev main_v285 : Ref sig .tc := ⟨.hbm, 350, rfl⟩
abbrev main_v286 : Ref sig .tc := ⟨.hbm, 351, rfl⟩
abbrev main_v287 : Ref sig .tc := ⟨.hbm, 352, rfl⟩
abbrev main_v288 : Ref sig .tc := ⟨.hbm, 353, rfl⟩
abbrev main_cst_50 : Ref sig .tc := ⟨.hbm, 354, rfl⟩
abbrev main_v289 : Ref sig .tc := ⟨.hbm, 355, rfl⟩
abbrev main_v290 : Ref sig .tc := ⟨.hbm, 356, rfl⟩
abbrev main_v291 : Ref sig .tc := ⟨.hbm, 357, rfl⟩
abbrev main_v292 : Ref sig .tc := ⟨.hbm, 358, rfl⟩
abbrev main_cst_51 : Ref sig .tc := ⟨.hbm, 359, rfl⟩
abbrev main_v293 : Ref sig .tc := ⟨.hbm, 360, rfl⟩
abbrev main_v294 : Ref sig .tc := ⟨.hbm, 361, rfl⟩
abbrev main_cst_52 : Ref sig .tc := ⟨.hbm, 362, rfl⟩
abbrev main_v295 : Ref sig .tc := ⟨.hbm, 363, rfl⟩
abbrev main_v296 : Ref sig .tc := ⟨.hbm, 364, rfl⟩
abbrev main_v297 : Ref sig .tc := ⟨.hbm, 365, rfl⟩
abbrev main_v298 : Ref sig .tc := ⟨.hbm, 366, rfl⟩
abbrev main_v299 : Ref sig .tc := ⟨.hbm, 367, rfl⟩
abbrev main_cst_53 : Ref sig .tc := ⟨.hbm, 368, rfl⟩
abbrev main_v300 : Ref sig .tc := ⟨.hbm, 369, rfl⟩
abbrev main_v301 : Ref sig .tc := ⟨.hbm, 370, rfl⟩
abbrev main_cst_54 : Ref sig .tc := ⟨.hbm, 371, rfl⟩
abbrev main_v302 : Ref sig .tc := ⟨.hbm, 372, rfl⟩
abbrev main_v303 : Ref sig .tc := ⟨.hbm, 373, rfl⟩
abbrev main_v304 : Ref sig .tc := ⟨.hbm, 374, rfl⟩
abbrev main_v305 : Ref sig .tc := ⟨.hbm, 375, rfl⟩
abbrev main_v306 : Ref sig .tc := ⟨.hbm, 376, rfl⟩
abbrev main_v307 : Ref sig .tc := ⟨.hbm, 377, rfl⟩
abbrev main_v308 : Ref sig .tc := ⟨.hbm, 378, rfl⟩
abbrev main_v309 : Ref sig .tc := ⟨.hbm, 379, rfl⟩
abbrev main_v310 : Ref sig .tc := ⟨.hbm, 380, rfl⟩
abbrev main_v311 : Ref sig .tc := ⟨.hbm, 381, rfl⟩
abbrev main_v312 : Ref sig .tc := ⟨.hbm, 382, rfl⟩
abbrev main_v313 : Ref sig .tc := ⟨.hbm, 383, rfl⟩
abbrev main_v314 : Ref sig .tc := ⟨.hbm, 384, rfl⟩
abbrev main_v315 : Ref sig .tc := ⟨.hbm, 385, rfl⟩
abbrev main_v316 : Ref sig .tc := ⟨.hbm, 386, rfl⟩
abbrev main_c_55 : Ref sig .tc := ⟨.hbm, 387, rfl⟩
abbrev main_call2_v0 : Ref sig .tc := ⟨.hbm, 388, rfl⟩
abbrev main_v317 : Ref sig .tc := ⟨.hbm, 389, rfl⟩

abbrev nD : Nat := 1
abbrev τ : Topo := Topo.v7x

variable {F : FTy → Type} [FloatOps F]
-- ==== FfnKernel.lean ====
abbrev S4096x2048 : Shape := ⟨2, ![4096, 2048]⟩
abbrev S2048x5632 : Shape := ⟨2, ![2048, 5632]⟩
abbrev S5632x2048 : Shape := ⟨2, ![5632, 2048]⟩
abbrev S4096x5632 : Shape := ⟨2, ![4096, 5632]⟩
abbrev S1024x2048 : Shape := ⟨2, ![1024, 2048]⟩
abbrev S2048x1408 : Shape := ⟨2, ![2048, 1408]⟩
abbrev S1024x1408 : Shape := ⟨2, ![1024, 1408]⟩
abbrev S2048x512 : Shape := ⟨2, ![2048, 512]⟩
abbrev S1024x512 : Shape := ⟨2, ![1024, 512]⟩
abbrev S4096x1408 : Shape := ⟨2, ![4096, 1408]⟩
abbrev S4096x512 : Shape := ⟨2, ![4096, 512]⟩
abbrev S1408x512 : Shape := ⟨2, ![1408, 512]⟩
abbrev S512x2048 : Shape := ⟨2, ![512, 2048]⟩
abbrev S4096x1024 : Shape := ⟨2, ![4096, 1024]⟩
abbrev S1024x5632 : Shape := ⟨2, ![1024, 5632]⟩
abbrev S512x5632 : Shape := ⟨2, ![512, 5632]⟩

abbrev nBuf : Space → Nat
  | .hbm => 15
  | .vmem => 60
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .bf16⟩
  | .hbm, ⟨2, _⟩ => ⟨S2048x5632, .bf16⟩
  | .hbm, ⟨3, _⟩ => ⟨S5632x2048, .bf16⟩
  | .hbm, ⟨4, _⟩ => ⟨S4096x2048, .bf16⟩
  | .hbm, ⟨5, _⟩ => ⟨S4096x5632, .f32⟩
  | .hbm, ⟨6, _⟩ => ⟨S4096x5632, .f32⟩
  | .hbm, ⟨7, _⟩ => ⟨S4096x5632, .bf16⟩
  | .hbm, ⟨8, _⟩ => ⟨S5632x2048, .f32⟩
  | .hbm, ⟨9, _⟩ => ⟨S4096x5632, .bf16⟩
  | .hbm, ⟨10, _⟩ => ⟨S4096x5632, .bf16⟩
  | .hbm, ⟨11, _⟩ => ⟨S2048x5632, .f32⟩
  | .hbm, ⟨12, _⟩ => ⟨S2048x5632, .f32⟩
  | .hbm, ⟨13, _⟩ => ⟨S4096x2048, .f32⟩
  | .hbm, ⟨14, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x2048, .bf16⟩
  | .local _ .vmem, ⟨7, _⟩ => ⟨S1024x2048, .bf16⟩
  | .local _ .vmem, ⟨8, _⟩ => ⟨S2048x512, .bf16⟩
  | .local _ .vmem, ⟨9, _⟩ => ⟨S2048x512, .bf16⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .bf16⟩
  | .local _ .vmem, ⟨15, _⟩ => ⟨S1024x512, .bf16⟩
  | .local _ .vmem, ⟨16, _⟩ => ⟨S4096x1408, .bf16⟩
  | .local _ .vmem, ⟨17, _⟩ => ⟨S4096x1408, .bf16⟩
  | .local _ .vmem, ⟨18, _⟩ => ⟨S4096x512, .bf16⟩
  | .local _ .vmem, ⟨19, _⟩ => ⟨S4096x512, .bf16⟩
  | .local _ .vmem, ⟨20, _⟩ => ⟨S1408x512, .f32⟩
  | .local _ .vmem, ⟨21, _⟩ => ⟨S1408x512, .f32⟩
  | .local _ .vmem, ⟨22, _⟩ => ⟨S1024x2048, .bf16⟩
  | .local _ .vmem, ⟨23, _⟩ => ⟨S1024x2048, .bf16⟩
  | .local _ .vmem, ⟨24, _⟩ => ⟨S512x2048, .bf16⟩
  | .local _ .vmem, ⟨25, _⟩ => ⟨S512x2048, .bf16⟩
  | .local _ .vmem, ⟨26, _⟩ => ⟨S1024x512, .f32⟩
  | .local _ .vmem, ⟨27, _⟩ => ⟨S1024x512, .f32⟩
  | .local _ .vmem, ⟨28, _⟩ => ⟨S1024x512, .f32⟩
  | .local _ .vmem, ⟨29, _⟩ => ⟨S1024x512, .f32⟩
  | .local _ .vmem, ⟨30, _⟩ => ⟨S1024x512, .bf16⟩
  | .local _ .vmem, ⟨31, _⟩ => ⟨S1024x512, .bf16⟩
  | .local _ .vmem, ⟨32, _⟩ => ⟨S1024x512, .bf16⟩
  | .local _ .vmem, ⟨33, _⟩ => ⟨S1024x512, .bf16⟩
  | .local _ .vmem, ⟨34, _⟩ => ⟨S4096x1024, .bf16⟩
  | .local _ .vmem, ⟨35, _⟩ => ⟨S4096x1024, .bf16⟩
  | .local _ .vmem, ⟨36, _⟩ => ⟨S4096x512, .bf16⟩
  | .local _ .vmem, ⟨37, _⟩ => ⟨S4096x512, .bf16⟩
  | .local _ .vmem, ⟨38, _⟩ => ⟨S1024x512, .f32⟩
  | .local _ .vmem, ⟨39, _⟩ => ⟨S1024x512, .f32⟩
  | .local _ .vmem, ⟨40, _⟩ => ⟨S4096x1024, .bf16⟩
  | .local _ .vmem, ⟨41, _⟩ => ⟨S4096x1024, .bf16⟩
  | .local _ .vmem, ⟨42, _⟩ => ⟨S4096x512, .bf16⟩
  | .local _ .vmem, ⟨43, _⟩ => ⟨S4096x512, .bf16⟩
  | .local _ .vmem, ⟨44, _⟩ => ⟨S1024x512, .f32⟩
  | .local _ .vmem, ⟨45, _⟩ => ⟨S1024x512, .f32⟩
  | .local _ .vmem, ⟨46, _⟩ => ⟨S1024x5632, .bf16⟩
  | .local _ .vmem, ⟨47, _⟩ => ⟨S1024x5632, .bf16⟩
  | .local _ .vmem, ⟨48, _⟩ => ⟨S512x5632, .bf16⟩
  | .local _ .vmem, ⟨49, _⟩ => ⟨S512x5632, .bf16⟩
  | .local _ .vmem, ⟨50, _⟩ => ⟨S1024x512, .f32⟩
  | .local _ .vmem, ⟨51, _⟩ => ⟨S1024x512, .f32⟩
  | .local _ .vmem, ⟨52, _⟩ => ⟨S1024x5632, .bf16⟩
  | .local _ .vmem, ⟨53, _⟩ => ⟨S1024x5632, .bf16⟩
  | .local _ .vmem, ⟨54, _⟩ => ⟨S512x5632, .bf16⟩
  | .local _ .vmem, ⟨55, _⟩ => ⟨S512x5632, .bf16⟩
  | .local _ .vmem, ⟨56, _⟩ => ⟨S1024x512, .f32⟩
  | .local _ .vmem, ⟨57, _⟩ => ⟨S1024x512, .f32⟩
  | .local _ .vmem, ⟨58, _⟩ => ⟨S1024x512, .f32⟩
  | .local _ .vmem, ⟨59, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_stg4_1 : Ref sig .tc := ⟨.vmem, 31, rfl⟩
abbrev cc3_stg5_0 : Ref sig .tc := ⟨.vmem, 32, rfl⟩
abbrev cc3_stg5_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg2_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg2_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg1_1 : Ref sig .tc := ⟨.vmem, 49, rfl⟩
abbrev cc6_stg2_0 : Ref sig .tc := ⟨.vmem, 50, rfl⟩
abbrev cc6_stg2_1 : Ref sig .tc := ⟨.vmem, 51, rfl⟩
abbrev cc7_stg0_0 : Ref sig .tc := ⟨.vmem, 52, rfl⟩
abbrev cc7_stg0_1 : Ref sig .tc := ⟨.vmem, 53, rfl⟩
abbrev cc7_stg1_0 : Ref sig .tc := ⟨.vmem, 54, rfl⟩
abbrev cc7_stg1_1 : Ref sig .tc := ⟨.vmem, 55, rfl⟩
abbrev cc7_stg2_0 : Ref sig .tc := ⟨.vmem, 56, rfl⟩
abbrev cc7_stg2_1 : Ref sig .tc := ⟨.vmem, 57, rfl⟩
abbrev cc7_stg3_0 : Ref sig .tc := ⟨.vmem, 58, rfl⟩
abbrev cc7_stg3_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem3_1 : DmaSem sig := 29
abbrev cc3_sem4_0 : DmaSem sig := 30
abbrev cc3_sem4_1 : DmaSem sig := 31
abbrev cc3_sem5_0 : DmaSem sig := 32
abbrev cc3_sem5_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem2_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem2_1 : DmaSem sig := 45
abbrev cc6_sem0_0 : DmaSem sig := 46
abbrev cc6_sem0_1 : DmaSem sig := 47
abbrev cc6_sem1_0 : DmaSem sig := 48
abbrev cc6_sem1_1 : DmaSem sig := 49
abbrev cc6_sem2_0 : DmaSem sig := 50
abbrev cc6_sem2_1 : DmaSem sig := 51
abbrev cc7_sem0_0 : DmaSem sig := 52
abbrev cc7_sem0_1 : DmaSem sig := 53
abbrev cc7_sem1_0 : DmaSem sig := 54
abbrev cc7_sem1_1 : DmaSem sig := 55
abbrev cc7_sem2_0 : DmaSem sig := 56
abbrev cc7_sem2_1 : DmaSem sig := 57
abbrev cc7_sem3_0 : DmaSem sig := 58
abbrev cc7_sem3_1 : DmaSem sig := 59

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 11, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1024x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev grid2 : Pipeline.Grid := ⟨3, ![4, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

abbrev stage2_0 : Fin 2 → Memref sig .tc .vmem S4096x1408 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S4096x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1408x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![4, 11, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

def cc3_transform_4 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

def cc3_transform_5 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S512x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S1024x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev stage3_4 : Fin 2 → Memref sig .tc .vmem S1024x512 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, false]

abbrev stage3_5 : Fin 2 → Memref sig .tc .vmem S1024x512 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true, false]

abbrev grid4 : Pipeline.Grid := ⟨3, ![2, 11, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

abbrev stage4_0 : Fin 2 → Memref sig .tc .vmem S4096x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S4096x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![2, 11, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

abbrev stage5_0 : Fin 2 → Memref sig .tc .vmem S4096x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S4096x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![4, 4, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

abbrev stage6_0 : Fin 2 → Memref sig .tc .vmem S1024x5632 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S512x5632 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S1024x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![4, 4, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

def cc7_transform_3 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

abbrev stage7_0 : Fin 2 → Memref sig .tc .vmem S1024x5632 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S512x5632 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S1024x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev stage7_3 : Fin 2 → Memref sig .tc .vmem S1024x512 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true, false]
-- ==== FfnReferenceIdeal.lean ====
abbrev S4096x2048 : Shape := ⟨2, ![4096, 2048]⟩
abbrev S2048x5632 : Shape := ⟨2, ![2048, 5632]⟩
abbrev S5632x2048 : Shape := ⟨2, ![5632, 2048]⟩
abbrev S4096x5632 : Shape := ⟨2, ![4096, 5632]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .bf16⟩
  | .hbm, ⟨2, _⟩ => ⟨S2048x5632, .bf16⟩
  | .hbm, ⟨3, _⟩ => ⟨S5632x2048, .bf16⟩
  | .hbm, ⟨4, _⟩ => ⟨S4096x2048, .bf16⟩
  | .hbm, ⟨5, _⟩ => ⟨S4096x2048, .f32⟩
  | .hbm, ⟨6, _⟩ => ⟨S2048x5632, .f32⟩
  | .hbm, ⟨7, _⟩ => ⟨S2048x5632, .f32⟩
  | .hbm, ⟨8, _⟩ => ⟨S5632x2048, .f32⟩
  | .hbm, ⟨9, _⟩ => ⟨S4096x5632, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S_, .f32⟩
  | .hbm, ⟨16, _⟩ => ⟨S4096x5632, .f32⟩
  | .hbm, ⟨17, _⟩ => ⟨S4096x5632, .f32⟩
  | .hbm, ⟨18, _⟩ => ⟨S_, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x2048, .f32⟩
  | .hbm, ⟨26, _⟩ => ⟨S4096x2048, .f32⟩
  | .hbm, ⟨27, _⟩ => ⟨S2048x5632, .f32⟩
  | .hbm, ⟨28, _⟩ => ⟨S5632x2048, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S5632x2048, .f32⟩
  | .hbm, ⟨33, _⟩ => ⟨S2048x5632, .f32⟩
  | .hbm, ⟨34, _⟩ => ⟨S4096x2048, .f32⟩
  | .hbm, ⟨35, _⟩ => ⟨S4096x5632, .f32⟩
  | .hbm, ⟨36, _⟩ => ⟨S4096x5632, .f32⟩
  | .hbm, ⟨37, _⟩ => ⟨S4096x5632, .f32⟩
  | .hbm, ⟨38, _⟩ => ⟨S4096x5632, .f32⟩
  | .hbm, ⟨39, _⟩ => ⟨S5632x2048, .f32⟩
  | .hbm, ⟨40, _⟩ => ⟨S2048x5632, .f32⟩
  | .hbm, ⟨41, _⟩ => ⟨S4096x2048, .f32⟩
  | .hbm, ⟨42, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v5_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v5_1 : Ref sig .tc := ⟨.hbm, 21, rfl⟩
abbrev main_v5_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩

abbrev nD : Nat := 1
abbrev τ : Topo := Topo.v7x

variable {F : FTy → Type} [FloatOps F]
-- ==== LinearKernel.lean ====
abbrev S4096x2048 : Shape := ⟨2, ![4096, 2048]⟩
abbrev S4096x12800 : Shape := ⟨2, ![4096, 12800]⟩
abbrev S2048x2048 : Shape := ⟨2, ![2048, 2048]⟩
abbrev S4096x2816 : Shape := ⟨2, ![4096, 2816]⟩
abbrev S2816x2048 : Shape := ⟨2, ![2816, 2048]⟩
abbrev S4096x5632 : Shape := ⟨2, ![4096, 5632]⟩
abbrev S5632x2048 : Shape := ⟨2, ![5632, 2048]⟩
abbrev S1024x2048 : Shape := ⟨2, ![1024, 2048]⟩
abbrev S2048x1024 : Shape := ⟨2, ![2048, 1024]⟩
abbrev S1024x1024 : Shape := ⟨2, ![1024, 1024]⟩
abbrev S1024x5632 : Shape := ⟨2, ![1024, 5632]⟩
abbrev S5632x512 : Shape := ⟨2, ![5632, 512]⟩
abbrev S1024x512 : Shape := ⟨2, ![1024, 512]⟩
abbrev S4096x1024 : Shape := ⟨2, ![4096, 1024]⟩
abbrev S4096x1408 : Shape := ⟨2, ![4096, 1408]⟩
abbrev S4096x512 : Shape := ⟨2, ![4096, 512]⟩
abbrev S1408x512 : Shape := ⟨2, ![1408, 512]⟩
abbrev S1408x2048 : Shape := ⟨2, ![1408, 2048]⟩
abbrev S1024x1408 : Shape := ⟨2, ![1024, 1408]⟩
abbrev S1024x12800 : Shape := ⟨2, ![1024, 12800]⟩
abbrev S4096x640 : Shape := ⟨2, ![4096, 640]⟩
abbrev S1024x640 : Shape := ⟨2, ![1024, 640]⟩

abbrev nBuf : Space → Nat
  | .hbm => 25
  | .vmem => 68
  | .smem => 0
  | _ => 0

abbrev bufTy : (tb : Table) → Fin (tcTables nBuf tb) → BufTy
  | .hbm, ⟨0, _⟩ => ⟨S4096x2048, .bf16⟩
  | .hbm, ⟨1, _⟩ => ⟨S4096x12800, .bf16⟩
  | .hbm, ⟨2, _⟩ => ⟨S4096x2048, .bf16⟩
  | .hbm, ⟨3, _⟩ => ⟨S2048x2048, .bf16⟩
  | .hbm, ⟨4, _⟩ => ⟨S4096x2048, .bf16⟩
  | .hbm, ⟨5, _⟩ => ⟨S4096x2048, .bf16⟩
  | .hbm, ⟨6, _⟩ => ⟨S2048x2048, .bf16⟩
  | .hbm, ⟨7, _⟩ => ⟨S4096x2048, .bf16⟩
  | .hbm, ⟨8, _⟩ => ⟨S4096x2816, .bf16⟩
  | .hbm, ⟨9, _⟩ => ⟨S2816x2048, .bf16⟩
  | .hbm, ⟨10, _⟩ => ⟨S4096x2048, .bf16⟩
  | .hbm, ⟨11, _⟩ => ⟨S4096x2048, .f32⟩
  | .hbm, ⟨12, _⟩ => ⟨S4096x5632, .bf16⟩
  | .hbm, ⟨13, _⟩ => ⟨S5632x2048, .bf16⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S2048x2048, .f32⟩
  | .hbm, ⟨18, _⟩ => ⟨S4096x2048, .f32⟩
  | .hbm, ⟨19, _⟩ => ⟨S2048x2048, .f32⟩
  | .hbm, ⟨20, _⟩ => ⟨S4096x2048, .f32⟩
  | .hbm, ⟨21, _⟩ => ⟨S2816x2048, .f32⟩
  | .hbm, ⟨22, _⟩ => ⟨S4096x2816, .f32⟩
  | .hbm, ⟨23, _⟩ => ⟨S1024x12800, .f32⟩
  | .hbm, ⟨24, _⟩ => ⟨S1024x12800, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | .local _ .vmem, ⟨7, _⟩ => ⟨S1024x2048, .bf16⟩
  | .local _ .vmem, ⟨8, _⟩ => ⟨S2048x1024, .bf16⟩
  | .local _ .vmem, ⟨9, _⟩ => ⟨S2048x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x5632, .bf16⟩
  | .local _ .vmem, ⟨15, _⟩ => ⟨S1024x5632, .bf16⟩
  | .local _ .vmem, ⟨16, _⟩ => ⟨S5632x512, .bf16⟩
  | .local _ .vmem, ⟨17, _⟩ => ⟨S5632x512, .bf16⟩
  | .local _ .vmem, ⟨18, _⟩ => ⟨S1024x512, .f32⟩
  | .local _ .vmem, ⟨19, _⟩ => ⟨S1024x512, .f32⟩
  | .local _ .vmem, ⟨20, _⟩ => ⟨S1024x512, .f32⟩
  | .local _ .vmem, ⟨21, _⟩ => ⟨S1024x512, .f32⟩
  | .local _ .vmem, ⟨22, _⟩ => ⟨S4096x1024, .bf16⟩
  | .local _ .vmem, ⟨23, _⟩ => ⟨S4096x1024, .bf16⟩
  | .local _ .vmem, ⟨24, _⟩ => ⟨S4096x1024, .bf16⟩
  | .local _ .vmem, ⟨25, _⟩ => ⟨S4096x1024, .bf16⟩
  | .local _ .vmem, ⟨26, _⟩ => ⟨S1024x1024, .f32⟩
  | .local _ .vmem, ⟨27, _⟩ => ⟨S1024x1024, .f32⟩
  | .local _ .vmem, ⟨28, _⟩ => ⟨S1024x2048, .bf16⟩
  | .local _ .vmem, ⟨29, _⟩ => ⟨S1024x2048, .bf16⟩
  | .local _ .vmem, ⟨30, _⟩ => ⟨S1024x2048, .bf16⟩
  | .local _ .vmem, ⟨31, _⟩ => ⟨S1024x2048, .bf16⟩
  | .local _ .vmem, ⟨32, _⟩ => ⟨S1024x1024, .f32⟩
  | .local _ .vmem, ⟨33, _⟩ => ⟨S1024x1024, .f32⟩
  | .local _ .vmem, ⟨34, _⟩ => ⟨S4096x1024, .bf16⟩
  | .local _ .vmem, ⟨35, _⟩ => ⟨S4096x1024, .bf16⟩
  | .local _ .vmem, ⟨36, _⟩ => ⟨S4096x1024, .bf16⟩
  | .local _ .vmem, ⟨37, _⟩ => ⟨S4096x1024, .bf16⟩
  | .local _ .vmem, ⟨38, _⟩ => ⟨S1024x1024, .f32⟩
  | .local _ .vmem, ⟨39, _⟩ => ⟨S1024x1024, .f32⟩
  | .local _ .vmem, ⟨40, _⟩ => ⟨S1024x2048, .bf16⟩
  | .local _ .vmem, ⟨41, _⟩ => ⟨S1024x2048, .bf16⟩
  | .local _ .vmem, ⟨42, _⟩ => ⟨S1024x2048, .bf16⟩
  | .local _ .vmem, ⟨43, _⟩ => ⟨S1024x2048, .bf16⟩
  | .local _ .vmem, ⟨44, _⟩ => ⟨S1024x1024, .f32⟩
  | .local _ .vmem, ⟨45, _⟩ => ⟨S1024x1024, .f32⟩
  | .local _ .vmem, ⟨46, _⟩ => ⟨S4096x1408, .bf16⟩
  | .local _ .vmem, ⟨47, _⟩ => ⟨S4096x1408, .bf16⟩
  | .local _ .vmem, ⟨48, _⟩ => ⟨S4096x512, .bf16⟩
  | .local _ .vmem, ⟨49, _⟩ => ⟨S4096x512, .bf16⟩
  | .local _ .vmem, ⟨50, _⟩ => ⟨S1408x512, .f32⟩
  | .local _ .vmem, ⟨51, _⟩ => ⟨S1408x512, .f32⟩
  | .local _ .vmem, ⟨52, _⟩ => ⟨S1024x2048, .bf16⟩
  | .local _ .vmem, ⟨53, _⟩ => ⟨S1024x2048, .bf16⟩
  | .local _ .vmem, ⟨54, _⟩ => ⟨S1408x2048, .bf16⟩
  | .local _ .vmem, ⟨55, _⟩ => ⟨S1408x2048, .bf16⟩
  | .local _ .vmem, ⟨56, _⟩ => ⟨S1024x1408, .f32⟩
  | .local _ .vmem, ⟨57, _⟩ => ⟨S1024x1408, .f32⟩
  | .local _ .vmem, ⟨58, _⟩ => ⟨S4096x1024, .bf16⟩
  | .local _ .vmem, ⟨59, _⟩ => ⟨S4096x640, .bf16⟩
  | .local _ .vmem, ⟨60, _⟩ => ⟨S4096x640, .bf16⟩
  | .local _ .vmem, ⟨61, _⟩ => ⟨S1024x640, .f32⟩
  | .local _ .vmem, ⟨62, _⟩ => ⟨S1024x640, .f32⟩
  | .local _ .vmem, ⟨63, _⟩ => ⟨S4096x1024, .bf16⟩
  | .local _ .vmem, ⟨64, _⟩ => ⟨S4096x640, .bf16⟩
  | .local _ .vmem, ⟨65, _⟩ => ⟨S4096x640, .bf16⟩
  | .local _ .vmem, ⟨66, _⟩ => ⟨S1024x640, .f32⟩
  | .local _ .vmem, ⟨67, _⟩ => ⟨S1024x640, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg2_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg1_1 : Ref sig .tc := ⟨.vmem, 43, rfl⟩
abbrev cc6_stg2_0 : Ref sig .tc := ⟨.vmem, 44, rfl⟩
abbrev cc6_stg2_1 : Ref sig .tc := ⟨.vmem, 45, rfl⟩
abbrev cc7_stg0_0 : Ref sig .tc := ⟨.vmem, 46, rfl⟩
abbrev cc7_stg0_1 : Ref sig .tc := ⟨.vmem, 47, rfl⟩
abbrev cc7_stg1_0 : Ref sig .tc := ⟨.vmem, 48, rfl⟩
abbrev cc7_stg1_1 : Ref sig .tc := ⟨.vmem, 49, rfl⟩
abbrev cc7_stg2_0 : Ref sig .tc := ⟨.vmem, 50, rfl⟩
abbrev cc7_stg2_1 : Ref sig .tc := ⟨.vmem, 51, rfl⟩
abbrev cc8_stg0_0 : Ref sig .tc := ⟨.vmem, 52, rfl⟩
abbrev cc8_stg0_1 : Ref sig .tc := ⟨.vmem, 53, rfl⟩
abbrev cc8_stg1_0 : Ref sig .tc := ⟨.vmem, 54, rfl⟩
abbrev cc8_stg1_1 : Ref sig .tc := ⟨.vmem, 55, rfl⟩
abbrev cc8_stg2_0 : Ref sig .tc := ⟨.vmem, 56, rfl⟩
abbrev cc8_stg2_1 : Ref sig .tc := ⟨.vmem, 57, rfl⟩
abbrev cc9_stg0_0 : Ref sig .tc := ⟨.vmem, 58, rfl⟩
abbrev cc9_stg1_0 : Ref sig .tc := ⟨.vmem, 59, rfl⟩
abbrev cc9_stg1_1 : Ref sig .tc := ⟨.vmem, 60, rfl⟩
abbrev cc9_stg2_0 : Ref sig .tc := ⟨.vmem, 61, rfl⟩
abbrev cc9_stg2_1 : Ref sig .tc := ⟨.vmem, 62, rfl⟩
abbrev cc10_stg0_0 : Ref sig .tc := ⟨.vmem, 63, rfl⟩
abbrev cc10_stg1_0 : Ref sig .tc := ⟨.vmem, 64, rfl⟩
abbrev cc10_stg1_1 : Ref sig .tc := ⟨.vmem, 65, rfl⟩
abbrev cc10_stg2_0 : Ref sig .tc := ⟨.vmem, 66, rfl⟩
abbrev cc10_stg2_1 : Ref sig .tc := ⟨.vmem, 67, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem2_1 : DmaSem sig := 39
abbrev cc6_sem0_0 : DmaSem sig := 40
abbrev cc6_sem0_1 : DmaSem sig := 41
abbrev cc6_sem1_0 : DmaSem sig := 42
abbrev cc6_sem1_1 : DmaSem sig := 43
abbrev cc6_sem2_0 : DmaSem sig := 44
abbrev cc6_sem2_1 : DmaSem sig := 45
abbrev cc7_sem0_0 : DmaSem sig := 46
abbrev cc7_sem0_1 : DmaSem sig := 47
abbrev cc7_sem1_0 : DmaSem sig := 48
abbrev cc7_sem1_1 : DmaSem sig := 49
abbrev cc7_sem2_0 : DmaSem sig := 50
abbrev cc7_sem2_1 : DmaSem sig := 51
abbrev cc8_sem0_0 : DmaSem sig := 52
abbrev cc8_sem0_1 : DmaSem sig := 53
abbrev cc8_sem1_0 : DmaSem sig := 54
abbrev cc8_sem1_1 : DmaSem sig := 55
abbrev cc8_sem2_0 : DmaSem sig := 56
abbrev cc8_sem2_1 : DmaSem sig := 57
abbrev cc9_sem0_0 : DmaSem sig := 58
abbrev cc9_sem1_0 : DmaSem sig := 59
abbrev cc9_sem1_1 : DmaSem sig := 60
abbrev cc9_sem2_0 : DmaSem sig := 61
abbrev cc9_sem2_1 : DmaSem sig := 62
abbrev cc10_sem0_0 : DmaSem sig := 63
abbrev cc10_sem1_0 : DmaSem sig := 64
abbrev cc10_sem1_1 : DmaSem sig := 65
abbrev cc10_sem2_0 : DmaSem sig := 66
abbrev cc10_sem2_1 : DmaSem sig := 67

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![4, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

abbrev stage2_0 : Fin 2 → Memref sig .tc .vmem S1024x5632 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S5632x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1024x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![2, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

abbrev stage3_0 : Fin 2 → Memref sig .tc .vmem S4096x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![4, 2, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1024x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![2, 2, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

abbrev stage5_0 : Fin 2 → Memref sig .tc .vmem S4096x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S4096x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![4, 2, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

abbrev stage6_0 : Fin 2 → Memref sig .tc .vmem S1024x2048 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S1024x2048 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S1024x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![2, 4, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

abbrev stage7_0 : Fin 2 → Memref sig .tc .vmem S4096x1408 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S4096x512 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S1408x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![4, 2, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

abbrev stage8_0 : Fin 2 → Memref sig .tc .vmem S1024x2048 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 2 → Memref sig .tc .vmem S1408x2048 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 2 → Memref sig .tc .vmem S1024x1408 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev grid9 : Pipeline.Grid := ⟨3, ![1, 20, 1], ![false, false, false]⟩

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc9_transform_2 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

abbrev stage9_0 : Fin 1 → Memref sig .tc .vmem S4096x1024 .bf16 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true, false, true]

abbrev stage9_1 : Fin 2 → Memref sig .tc .vmem S4096x640 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true, true]

abbrev stage9_2 : Fin 2 → Memref sig .tc .vmem S1024x640 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true, false]

abbrev grid10 : Pipeline.Grid := ⟨3, ![1, 20, 1], ![false, false, false]⟩

def cc10_transform_0 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg0
  let c0_i32 : BitVec 32 := 0#32
  ![arg2.toNat, v0.toNat]

def cc10_transform_1 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc10_transform_2 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

abbrev stage10_0 : Fin 1 → Memref sig .tc .vmem S4096x1024 .bf16 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![true, false, true]

abbrev stage10_1 : Fin 2 → Memref sig .tc .vmem S4096x640 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true, true]

abbrev stage10_2 : Fin 2 → Memref sig .tc .vmem S1024x640 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true, false]
-- ==== LinearReferenceIdeal.lean ====
abbrev S4096x2048 : Shape := ⟨2, ![4096, 2048]⟩
abbrev S4096x12800 : Shape := ⟨2, ![4096, 12800]⟩
abbrev S2048x2048 : Shape := ⟨2, ![2048, 2048]⟩
abbrev S4096x2816 : Shape := ⟨2, ![4096, 2816]⟩
abbrev S2816x2048 : Shape := ⟨2, ![2816, 2048]⟩
abbrev S4096x5632 : Shape := ⟨2, ![4096, 5632]⟩
abbrev S5632x2048 : Shape := ⟨2, ![5632, 2048]⟩
abbrev S12800x2048 : Shape := ⟨2, ![12800, 2048]⟩
abbrev S2048x12800 : Shape := ⟨2, ![2048, 12800]⟩
abbrev S2048x2816 : Shape := ⟨2, ![2048, 2816]⟩
abbrev S1024x12800 : Shape := ⟨2, ![1024, 12800]⟩

abbrev nBuf : Space → Nat
  | .hbm => 46
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x12800, .bf16⟩
  | .hbm, ⟨2, _⟩ => ⟨S4096x2048, .bf16⟩
  | .hbm, ⟨3, _⟩ => ⟨S2048x2048, .bf16⟩
  | .hbm, ⟨4, _⟩ => ⟨S4096x2048, .bf16⟩
  | .hbm, ⟨5, _⟩ => ⟨S4096x2048, .bf16⟩
  | .hbm, ⟨6, _⟩ => ⟨S2048x2048, .bf16⟩
  | .hbm, ⟨7, _⟩ => ⟨S4096x2048, .bf16⟩
  | .hbm, ⟨8, _⟩ => ⟨S4096x2816, .bf16⟩
  | .hbm, ⟨9, _⟩ => ⟨S2816x2048, .bf16⟩
  | .hbm, ⟨10, _⟩ => ⟨S4096x2048, .bf16⟩
  | .hbm, ⟨11, _⟩ => ⟨S4096x2048, .f32⟩
  | .hbm, ⟨12, _⟩ => ⟨S4096x5632, .bf16⟩
  | .hbm, ⟨13, _⟩ => ⟨S5632x2048, .bf16⟩
  | .hbm, ⟨14, _⟩ => ⟨S4096x2048, .f32⟩
  | .hbm, ⟨15, _⟩ => ⟨S4096x12800, .f32⟩
  | .hbm, ⟨16, _⟩ => ⟨S4096x2048, .f32⟩
  | .hbm, ⟨17, _⟩ => ⟨S2048x2048, .f32⟩
  | .hbm, ⟨18, _⟩ => ⟨S4096x2048, .f32⟩
  | .hbm, ⟨19, _⟩ => ⟨S4096x2048, .f32⟩
  | .hbm, ⟨20, _⟩ => ⟨S2048x2048, .f32⟩
  | .hbm, ⟨21, _⟩ => ⟨S4096x2048, .f32⟩
  | .hbm, ⟨22, _⟩ => ⟨S4096x2816, .f32⟩
  | .hbm, ⟨23, _⟩ => ⟨S2816x2048, .f32⟩
  | .hbm, ⟨24, _⟩ => ⟨S4096x2048, .f32⟩
  | .hbm, ⟨25, _⟩ => ⟨S4096x5632, .f32⟩
  | .hbm, ⟨26, _⟩ => ⟨S5632x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S12800x2048, .f32⟩
  | .hbm, ⟨31, _⟩ => ⟨S2048x12800, .f32⟩
  | .hbm, ⟨32, _⟩ => ⟨S4096x2048, .f32⟩
  | .hbm, ⟨33, _⟩ => ⟨S4096x2048, .f32⟩
  | .hbm, ⟨34, _⟩ => ⟨S2048x2048, .f32⟩
  | .hbm, ⟨35, _⟩ => ⟨S2048x2048, .f32⟩
  | .hbm, ⟨36, _⟩ => ⟨S4096x2048, .f32⟩
  | .hbm, ⟨37, _⟩ => ⟨S2048x2048, .f32⟩
  | .hbm, ⟨38, _⟩ => ⟨S2048x2048, .f32⟩
  | .hbm, ⟨39, _⟩ => ⟨S4096x2048, .f32⟩
  | .hbm, ⟨40, _⟩ => ⟨S4096x2048, .f32⟩
  | .hbm, ⟨41, _⟩ => ⟨S2048x2816, .f32⟩
  | .hbm, ⟨42, _⟩ => ⟨S2816x2048, .f32⟩
  | .hbm, ⟨43, _⟩ => ⟨S4096x2816, .f32⟩
  | .hbm, ⟨44, _⟩ => ⟨S1024x12800, .f32⟩
  | .hbm, ⟨45, _⟩ => ⟨S1024x12800, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== DxnaKernel.lean ====
abbrev S4096x12800 : Shape := ⟨2, ![4096, 12800]⟩
abbrev S2048x12800 : Shape := ⟨2, ![2048, 12800]⟩
abbrev S2048x2048 : Shape := ⟨2, ![2048, 2048]⟩
abbrev S1024x3200 : Shape := ⟨2, ![1024, 3200]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x12800, .bf16⟩
  | .hbm, ⟨1, _⟩ => ⟨S2048x12800, .bf16⟩
  | .hbm, ⟨2, _⟩ => ⟨S2048x2048, .f32⟩
  | .local _ .vmem, ⟨0, _⟩ => ⟨S1024x3200, .bf16⟩
  | .local _ .vmem, ⟨1, _⟩ => ⟨S1024x3200, .bf16⟩
  | .local _ .vmem, ⟨2, _⟩ => ⟨S1024x3200, .bf16⟩
  | .local _ .vmem, ⟨3, _⟩ => ⟨S1024x3200, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x12800, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

abbrev stage0_0 : Fin 2 → Memref sig .tc .vmem S1024x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3200 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxnaReferenceIdeal.lean ====
abbrev S4096x12800 : Shape := ⟨2, ![4096, 12800]⟩
abbrev S2048x12800 : Shape := ⟨2, ![2048, 12800]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x12800, .bf16⟩
  | .hbm, ⟨1, _⟩ => ⟨S2048x12800, .bf16⟩
  | .hbm, ⟨2, _⟩ => ⟨S2048x12800, .bf16⟩
  | .hbm, ⟨3, _⟩ => ⟨S2048x12800, .f32⟩
  | .hbm, ⟨4, _⟩ => ⟨S2048x12800, .f32⟩
  | .hbm, ⟨5, _⟩ => ⟨S2048x2048, .f32⟩
  | _, _ => ⟨S4096x12800, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DxnbKernel.lean ====
abbrev S4096x12800 : Shape := ⟨2, ![4096, 12800]⟩
abbrev S2048x12800 : Shape := ⟨2, ![2048, 12800]⟩
abbrev S4096x2048 : Shape := ⟨2, ![4096, 2048]⟩
abbrev S1024x3200 : Shape := ⟨2, ![1024, 3200]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x12800, .bf16⟩
  | .hbm, ⟨1, _⟩ => ⟨S2048x12800, .bf16⟩
  | .hbm, ⟨2, _⟩ => ⟨S4096x2048, .f32⟩
  | .hbm, ⟨3, _⟩ => ⟨S4096x2048, .f32⟩
  | .local _ .vmem, ⟨0, _⟩ => ⟨S1024x3200, .bf16⟩
  | .local _ .vmem, ⟨1, _⟩ => ⟨S1024x3200, .bf16⟩
  | .local _ .vmem, ⟨2, _⟩ => ⟨S1024x3200, .bf16⟩
  | .local _ .vmem, ⟨3, _⟩ => ⟨S1024x3200, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x12800, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c0_i32 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c0_i32 : BitVec 32 := 0#32
  ![v0.toNat, arg1.toNat]

abbrev stage0_0 : Fin 2 → Memref sig .tc .vmem S1024x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3200 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxnbReferenceIdeal.lean ====
abbrev S4096x12800 : Shape := ⟨2, ![4096, 12800]⟩
abbrev S2048x12800 : Shape := ⟨2, ![2048, 12800]⟩
abbrev S4096x2048 : Shape := ⟨2, ![4096, 2048]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x12800, .bf16⟩
  | .hbm, ⟨1, _⟩ => ⟨S2048x12800, .bf16⟩
  | .hbm, ⟨2, _⟩ => ⟨S4096x2048, .f32⟩
  | .hbm, ⟨3, _⟩ => ⟨S2048x2048, .f32⟩
  | .hbm, ⟨4, _⟩ => ⟨S2048x12800, .bf16⟩
  | .hbm, ⟨5, _⟩ => ⟨S2048x12800, .f32⟩
  | .hbm, ⟨6, _⟩ => ⟨S2048x12800, .f32⟩
  | .hbm, ⟨7, _⟩ => ⟨S2048x2048, .f32⟩
  | .hbm, ⟨8, _⟩ => ⟨S4096x2048, .f32⟩
  | _, _ => ⟨S4096x12800, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MergeKernel.lean ====
abbrev S4096x2816 : Shape := ⟨2, ![4096, 2816]⟩
abbrev S2816x2048 : Shape := ⟨2, ![2816, 2048]⟩
abbrev S4096x2048 : Shape := ⟨2, ![4096, 2048]⟩
abbrev S4096x12800 : Shape := ⟨2, ![4096, 12800]⟩
abbrev S1x4096 : Shape := ⟨2, ![1, 4096]⟩
abbrev S1024x2816 : Shape := ⟨2, ![1024, 2816]⟩
abbrev S2816x512 : Shape := ⟨2, ![2816, 512]⟩
abbrev S1024x512 : Shape := ⟨2, ![1024, 512]⟩
abbrev S1x512 : Shape := ⟨2, ![1, 512]⟩

abbrev nBuf : Space → Nat
  | .hbm => 7
  | .vmem => 18
  | .smem => 0
  | _ => 0

abbrev bufTy : (tb : Table) → Fin (tcTables nBuf tb) → BufTy
  | .hbm, ⟨0, _⟩ => ⟨S4096x2816, .bf16⟩
  | .hbm, ⟨1, _⟩ => ⟨S2816x2048, .bf16⟩
  | .hbm, ⟨2, _⟩ => ⟨S4096x2048, .f32⟩
  | .hbm, ⟨3, _⟩ => ⟨S4096x12800, .f32⟩
  | .hbm, ⟨4, _⟩ => ⟨S1x4096, .f32⟩
  | .hbm, ⟨5, _⟩ => ⟨S4096x2048, .f32⟩
  | .hbm, ⟨6, _⟩ => ⟨S4096x2048, .bf16⟩
  | .local _ .vmem, ⟨0, _⟩ => ⟨S1024x2816, .bf16⟩
  | .local _ .vmem, ⟨1, _⟩ => ⟨S1024x2816, .bf16⟩
  | .local _ .vmem, ⟨2, _⟩ => ⟨S2816x512, .bf16⟩
  | .local _ .vmem, ⟨3, _⟩ => ⟨S2816x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1024x512, .f32⟩
  | .local _ .vmem, ⟨15, _⟩ => ⟨S1024x512, .f32⟩
  | .local _ .vmem, ⟨16, _⟩ => ⟨S1024x512, .bf16⟩
  | .local _ .vmem, ⟨17, _⟩ => ⟨S1024x512, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c17_i32 : BitVec 32 := 17#32
  let v1 : BitVec 32 := Scalar.addi c17_i32 arg1
  let c0_i32_0 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c21_i32 : BitVec 32 := 21#32
  let v1 : BitVec 32 := Scalar.addi c21_i32 arg1
  let c0_i32_0 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== MergeReferenceIdeal.lean ====
abbrev S4096x2816 : Shape := ⟨2, ![4096, 2816]⟩
abbrev S2816x2048 : Shape := ⟨2, ![2816, 2048]⟩
abbrev S4096x2048 : Shape := ⟨2, ![4096, 2048]⟩
abbrev S4096x12800 : Shape := ⟨2, ![4096, 12800]⟩
abbrev S1x4096 : Shape := ⟨2, ![1, 4096]⟩
abbrev S4096 : Shape := ⟨1, ![4096]⟩
abbrev S2048 : Shape := ⟨1, ![2048]⟩
abbrev S1x2048 : Shape := ⟨2, ![1, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x2048, .bf16⟩
  | .hbm, ⟨2, _⟩ => ⟨S4096x2048, .f32⟩
  | .hbm, ⟨3, _⟩ => ⟨S4096x12800, .f32⟩
  | .hbm, ⟨4, _⟩ => ⟨S1x4096, .f32⟩
  | .hbm, ⟨5, _⟩ => ⟨S4096x2816, .f32⟩
  | .hbm, ⟨6, _⟩ => ⟨S2816x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096, .f32⟩
  | .hbm, ⟨11, _⟩ => ⟨S2048, .f32⟩
  | .hbm, ⟨12, _⟩ => ⟨S1x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S4096, .f32⟩
  | .hbm, ⟨24, _⟩ => ⟨S2048, .f32⟩
  | .hbm, ⟨25, _⟩ => ⟨S1x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Proof.Run.Runs.lean ====
/-
What the runs of the attention gradient's body share: the host prefix, the windows' blocks, the conditions of the four
`scf.if`s as conditions on the point, which outputs each case stores into, and the staging buffers of a point.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Window 13 (result 0 (%25#0)) is written back at every point but those ≡ 31 (mod 33). -/
theorem flush0_13 : ∀ t : Fin cfg0.N, (cfg0.win 13).flush t = true ↔ t.val % 33 ≠ 31 :=
  (by decide +kernel : ∀ t : Fin grid0.N, win0_13.flush t = true ↔ t.val % 33 ≠ 31)
/-- Window 14 (result 1 (%25#1)) is written back at every point but those ≡ 0 (mod 33). -/
theorem flush0_14 : ∀ t : Fin cfg0.N, (cfg0.win 14).flush t = true ↔ t.val % 33 ≠ 0 :=
  (by decide +kernel : ∀ t : Fin grid0.N, win0_14.flush t = true ↔ t.val % 33 ≠ 0)
/-- Window 15 (result 2 (%25#2)) is written back at every point but those ≡ 0 (mod 33). -/
theorem flush0_15 : ∀ t : Fin cfg0.N, (cfg0.win 15).flush t = true ↔ t.val % 33 ≠ 0 :=
  (by decide +kernel : ∀ t : Fin grid0.N, win0_15.flush t = true ↔ t.val % 33 ≠ 0)

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1140000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 12).trans (((dats 0 c).arrAt_in 12 rfl _).trans ((hA c 12).trans (V_main_arg0 m c))),
      ((h c).1 5).trans (((dats 0 c).arrAt_in 5 rfl _).trans ((hA c 5).trans (V_main_arg1 m c))),
      ((h c).2 main_arg2 (Pipeline.mem_restRefs_of main_arg2 (by decide) (by decide))).trans (V_main_arg2 m c),
      ((h c).1 10).trans (((dats 0 c).arrAt_in 10 rfl _).trans ((hA c 10).trans (V_main_arg3 m c))),
      ((h c).1 11).trans (((dats 0 c).arrAt_in 11 rfl _).trans ((hA c 11).trans (V_main_arg4 m c))),
      ((h c).2 main_arg5 (Pipeline.mem_restRefs_of main_arg5 (by decide) (by decide))).trans (V_main_arg5 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 132 = 0 :=
  (fun t => by
    have ht : t.val < 132 := Nat.lt_of_lt_of_eq t.isLt N_0
    have e0 : (grid0.coords t 0).val = t.val / 33 % 4 := Pipeline.Grid.coords_val t 0 (by decide) rfl
    have e1 : (grid0.coords t 1).val = t.val / 1 % 33 := Pipeline.Grid.coords_val t 1 (by decide) rfl
    simp only [cond0_0, k0_cond1, e0, e1]
    word_cmp
   : ∀ t : Fin grid0.N, cond0_0 (grid0.coords t) ↔ t.val % 132 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 33) — by arithmetic of the point. -/
theorem hcond0_1 : ∀ t : Fin cfg0.N, cond0_1 (grid0.coords t) ↔ t.val % 33 = 0 :=
  (fun t => by
    have ht : t.val < 132 := Nat.lt_of_lt_of_eq t.isLt N_0
    have e0 : (grid0.coords t 0).val = t.val / 33 % 4 := Pipeline.Grid.coords_val t 0 (by decide) rfl
    have e1 : (grid0.coords t 1).val = t.val / 1 % 33 := Pipeline.Grid.coords_val t 1 (by decide) rfl
    simp only [cond0_1, e0, e1]
    word_cmp
   : ∀ t : Fin grid0.N, cond0_1 (grid0.coords t) ↔ t.val % 33 = 0)

/-- The condition of the body's `scf.if` 2 (`k0_h3`), from the grid coordinates (the skeleton's scalar
    chain substituted). -/
abbrev cond0_2 (i : grid0.Coords) : Prop := k0_cond3 i = 1#1
/-- It holds at the points whose coordinates have i1 ≤ 31 — decided over the grid. -/
theorem hcond0_2 : ∀ t : Fin cfg0.N, cond0_2 (grid0.coords t) ↔ t.val % 33 ≤ 31 :=
  (by decide +kernel : ∀ t : Fin grid0.N, cond0_2 (grid0.coords t) ↔ t.val % 33 ≤ 31)

/-- The condition of the body's `scf.if` 3 (`k0_h4`), from the grid coordinates (the skeleton's scalar
    chain substituted). -/
abbrev cond0_3 (i : grid0.Coords) : Prop := k0_cond4 i = 1#1
/-- It holds at the points ≡ 32 (mod 33) — by arithmetic of the point. -/
theorem hcond0_3 : ∀ t : Fin cfg0.N, cond0_3 (grid0.coords t) ↔ t.val % 33 = 32 :=
  (fun t => by
    have ht : t.val < 132 := Nat.lt_of_lt_of_eq t.isLt N_0
    have e0 : (grid0.coords t 0).val = t.val / 33 % 4 := Pipeline.Grid.coords_val t 0 (by decide) rfl
    have e1 : (grid0.coords t 1).val = t.val / 1 % 33 := Pipeline.Grid.coords_val t 1 (by decide) rfl
    simp only [cond0_3, k0_cond4, e0, e1]
    word_cmp
   : ∀ t : Fin grid0.N, cond0_3 (grid0.coords t) ↔ t.val % 33 = 32)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-! A case with many branch conditions on the grid states them as ONE proposition, its `Decidable` instance assembled
one condition at a time: the facts below about that case's points are decided under it and restated with one premise
per condition, so that the instance `decide` searches for does not grow with their number. -/

/-- Case A's branch conditions on the grid, as one proposition. -/
abbrev conds0_A (i : grid0.Coords) : Prop := cond0_0 i ∧ cond0_1 i ∧ cond0_2 i ∧ ¬cond0_3 i
instance conds0_A.dec (i : grid0.Coords) : Decidable (conds0_A i) :=
  @instDecidableAnd _ _ inferInstance (@instDecidableAnd _ _ inferInstance (@instDecidableAnd _ _ inferInstance inferInstance))
/-- Case B's branch conditions on the grid, as one proposition. -/
abbrev conds0_B (i : grid0.Coords) : Prop := ¬cond0_0 i ∧ ¬cond0_1 i ∧ cond0_2 i ∧ ¬cond0_3 i
instance conds0_B.dec (i : grid0.Coords) : Decidable (conds0_B i) :=
  @instDecidableAnd _ _ inferInstance (@instDecidableAnd _ _ inferInstance (@instDecidableAnd _ _ inferInstance inferInstance))
/-- Case C's branch conditions on the grid, as one proposition. -/
abbrev conds0_C (i : grid0.Coords) : Prop := ¬cond0_0 i ∧ ¬cond0_1 i ∧ ¬cond0_2 i ∧ cond0_3 i
instance conds0_C.dec (i : grid0.Coords) : Decidable (conds0_C i) :=
  @instDecidableAnd _ _ inferInstance (@instDecidableAnd _ _ inferInstance (@instDecidableAnd _ _ inferInstance inferInstance))
/-- Case D's branch conditions on the grid, as one proposition. -/
abbrev conds0_D (i : grid0.Coords) : Prop := ¬cond0_0 i ∧ cond0_1 i ∧ cond0_2 i ∧ ¬cond0_3 i
instance conds0_D.dec (i : grid0.Coords) : Decidable (conds0_D i) :=
  @instDecidableAnd _ _ inferInstance (@instDecidableAnd _ _ inferInstance (@instDecidableAnd _ _ inferInstance inferInstance))
/-- Whether output 13's buffer is FRESH at each position `1 ‥ N` — holds nothing the body stored since the region's entry or the
    last write-back (written back at the point before, or idle there and fresh before it) —, as a bitmask the classifier
    computed, bit `n` for position `n + 1`; position 0 is fresh. `freshTab0_13_step` checks it against the configuration's own
    step point by point and Lib/Pipeline/TableIdle.lean `Cfg.fresh_tab` makes it `Cfg.fresh` (`fresh0_13_eq`). -/
def freshTab0_13 : ℕ → Bool
  | 0 => true
  | n + 1 => (0xbfffffffdfffffffeffffffff7fffffff : ℕ).testBit n
theorem freshTab0_13_step : ∀ t : Fin cfg0.N,
    freshTab0_13 (t.val + 1) = ((cfg0.win 13).flush t || (cfg0.idle 13 (cfg0.grid.coords t) && freshTab0_13 t.val)) := by decide +kernel
theorem fresh0_13_eq (t : Fin cfg0.N) : cfg0.fresh 13 t.val = freshTab0_13 t.val :=
  Pipeline.Cfg.fresh_tab cfg0 13 freshTab0_13 rfl freshTab0_13_step t.val (Nat.le_of_lt t.isLt)
/-- At the points of case A the printed configuration (`Cfg.idle`) calls output 13 live: the case stores into it. -/
theorem liveAt0_13_A : ∀ t : Fin cfg0.N, cond0_0 (grid0.coords t) → cond0_1 (grid0.coords t) → cond0_2 (grid0.coords t) → ¬cond0_3 (grid0.coords t) → cfg0.idle 13 (grid0.coords t) = false :=
  fun t h0 h1 h2 h3 => (by decide +kernel : ∀ t : Fin cfg0.N, conds0_A (grid0.coords t) → cfg0.idle 13 (grid0.coords t) = false) t ⟨h0, h1, h2, h3⟩
/-- At the points of case B the printed configuration (`Cfg.idle`) calls output 13 live: the case stores into it. -/
theorem liveAt0_13_B : ∀ t : Fin cfg0.N, ¬cond0_0 (grid0.coords t) → ¬cond0_1 (grid0.coords t) → cond0_2 (grid0.coords t) → ¬cond0_3 (grid0.coords t) → cfg0.idle 13 (grid0.coords t) = false :=
  fun t h0 h1 h2 h3 => (by decide +kernel : ∀ t : Fin cfg0.N, conds0_B (grid0.coords t) → cfg0.idle 13 (grid0.coords t) = false) t ⟨h0, h1, h2, h3⟩
/-- At the points of case C the printed configuration (`Cfg.idle`) calls output 13 idle: the case stores nothing into it. -/
theorem idleAt0_13_C : ∀ t : Fin cfg0.N, ¬cond0_0 (grid0.coords t) → ¬cond0_1 (grid0.coords t) → ¬cond0_2 (grid0.coords t) → cond0_3 (grid0.coords t) → cfg0.idle 13 (grid0.coords t) = true :=
  fun t h0 h1 h2 h3 => (by decide +kernel : ∀ t : Fin cfg0.N, conds0_C (grid0.coords t) → cfg0.idle 13 (grid0.coords t) = true) t ⟨h0, h1, h2, h3⟩
/-- At the points of case C, which keeps output 13's prior contents (reads it before covering, or covers it in part), the
    window's buffer is not FRESH: something was stored into it since the region's entry or its last write-back, idle points
    between or not (Lib/Pipeline/TableIdle.lean `Cfg.fresh`, by the table `freshTab0_13`). -/
theorem notFresh0_13_C : ∀ t : Fin cfg0.N, ¬cond0_0 (grid0.coords t) → ¬cond0_1 (grid0.coords t) → ¬cond0_2 (grid0.coords t) → cond0_3 (grid0.coords t) → cfg0.fresh 13 t.val = false :=
  fun t h0 h1 h2 h3 => (by intro t; rw [fresh0_13_eq t]; revert t; decide +kernel : ∀ t : Fin cfg0.N, conds0_C (grid0.coords t) → cfg0.fresh 13 t.val = false) t ⟨h0, h1, h2, h3⟩
/-- At the points of case D the printed configuration (`Cfg.idle`) calls output 13 live: the case stores into it. -/
theorem liveAt0_13_D : ∀ t : Fin cfg0.N, ¬cond0_0 (grid0.coords t) → cond0_1 (grid0.coords t) → cond0_2 (grid0.coords t) → ¬cond0_3 (grid0.coords t) → cfg0.idle 13 (grid0.coords t) = false :=
  fun t h0 h1 h2 h3 => (by decide +kernel : ∀ t : Fin cfg0.N, conds0_D (grid0.coords t) → cfg0.idle 13 (grid0.coords t) = false) t ⟨h0, h1, h2, h3⟩
/-- At the points of case A the printed configuration (`Cfg.idle`) calls output 14 live: the case stores into it. -/
theorem liveAt0_14_A : ∀ t : Fin cfg0.N, cond0_0 (grid0.coords t) → cond0_1 (grid0.coords t) → cond0_2 (grid0.coords t) → ¬cond0_3 (grid0.coords t) → cfg0.idle 14 (grid0.coords t) = false :=
  fun t h0 h1 h2 h3 => (by decide +kernel : ∀ t : Fin cfg0.N, conds0_A (grid0.coords t) → cfg0.idle 14 (grid0.coords t) = false) t ⟨h0, h1, h2, h3⟩
/-- At the points of case B the printed configuration (`Cfg.idle`) calls output 14 live: the case stores into it. -/
theorem liveAt0_14_B : ∀ t : Fin cfg0.N, ¬cond0_0 (grid0.coords t) → ¬cond0_1 (grid0.coords t) → cond0_2 (grid0.coords t) → ¬cond0_3 (grid0.coords t) → cfg0.idle 14 (grid0.coords t) = false :=
  fun t h0 h1 h2 h3 => (by decide +kernel : ∀ t : Fin cfg0.N, conds0_B (grid0.coords t) → cfg0.idle 14 (grid0.coords t) = false) t ⟨h0, h1, h2, h3⟩
/-- At the points of case C the printed configuration (`Cfg.idle`) calls output 14 live: the case stores into it. -/
theorem liveAt0_14_C : ∀ t : Fin cfg0.N, ¬cond0_0 (grid0.coords t) → ¬cond0_1 (grid0.coords t) → ¬cond0_2 (grid0.coords t) → cond0_3 (grid0.coords t) → cfg0.idle 14 (grid0.coords t) = false :=
  fun t h0 h1 h2 h3 => (by decide +kernel : ∀ t : Fin cfg0.N, conds0_C (grid0.coords t) → cfg0.idle 14 (grid0.coords t) = false) t ⟨h0, h1, h2, h3⟩
/-- At the points of case D the printed configuration (`Cfg.idle`) calls output 14 live: the case stores into it. -/
theorem liveAt0_14_D : ∀ t : Fin cfg0.N, ¬cond0_0 (grid0.coords t) → cond0_1 (grid0.coords t) → cond0_2 (grid0.coords t) → ¬cond0_3 (grid0.coords t) → cfg0.idle 14 (grid0.coords t) = false :=
  fun t h0 h1 h2 h3 => (by decide +kernel : ∀ t : Fin cfg0.N, conds0_D (grid0.coords t) → cfg0.idle 14 (grid0.coords t) = false) t ⟨h0, h1, h2, h3⟩
/-- At the points of case A the printed configuration (`Cfg.idle`) calls output 15 live: the case stores into it. -/
theorem liveAt0_15_A : ∀ t : Fin cfg0.N, cond0_0 (grid0.coords t) → cond0_1 (grid0.coords t) → cond0_2 (grid0.coords t) → ¬cond0_3 (grid0.coords t) → cfg0.idle 15 (grid0.coords t) = false :=
  fun t h0 h1 h2 h3 => (by decide +kernel : ∀ t : Fin cfg0.N, conds0_A (grid0.coords t) → cfg0.idle 15 (grid0.coords t) = false) t ⟨h0, h1, h2, h3⟩
/-- At the points of case B the printed configuration (`Cfg.idle`) calls output 15 live: the case stores into it. -/
theorem liveAt0_15_B : ∀ t : Fin cfg0.N, ¬cond0_0 (grid0.coords t) → ¬cond0_1 (grid0.coords t) → cond0_2 (grid0.coords t) → ¬cond0_3 (grid0.coords t) → cfg0.idle 15 (grid0.coords t) = false :=
  fun t h0 h1 h2 h3 => (by decide +kernel : ∀ t : Fin cfg0.N, conds0_B (grid0.coords t) → cfg0.idle 15 (grid0.coords t) = false) t ⟨h0, h1, h2, h3⟩
/-- At the points of case C the printed configuration (`Cfg.idle`) calls output 15 live: the case stores into it. -/
theorem liveAt0_15_C : ∀ t : Fin cfg0.N, ¬cond0_0 (grid0.coords t) → ¬cond0_1 (grid0.coords t) → ¬cond0_2 (grid0.coords t) → cond0_3 (grid0.coords t) → cfg0.idle 15 (grid0.coords t) = false :=
  fun t h0 h1 h2 h3 => (by decide +kernel : ∀ t : Fin cfg0.N, conds0_C (grid0.coords t) → cfg0.idle 15 (grid0.coords t) = false) t ⟨h0, h1, h2, h3⟩
/-- At the points of case D the printed configuration (`Cfg.idle`) calls output 15 live: the case stores into it. -/
theorem liveAt0_15_D : ∀ t : Fin cfg0.N, ¬cond0_0 (grid0.coords t) → cond0_1 (grid0.coords t) → cond0_2 (grid0.coords t) → ¬cond0_3 (grid0.coords t) → cfg0.idle 15 (grid0.coords t) = false :=
  fun t h0 h1 h2 h3 => (by decide +kernel : ∀ t : Fin cfg0.N, conds0_D (grid0.coords t) → cfg0.idle 15 (grid0.coords t) = false) t ⟨h0, h1, h2, h3⟩
/-- Whether output 16's buffer is FRESH at each position `1 ‥ N` — holds nothing the body stored since the region's entry or the
    last write-back (written back at the point before, or idle there and fresh before it) —, as a bitmask the classifier
    computed, bit `n` for position `n + 1`; position 0 is fresh. `freshTab0_16_step` checks it against the configuration's own
    step point by point and Lib/Pipeline/TableIdle.lean `Cfg.fresh_tab` makes it `Cfg.fresh` (`fresh0_16_eq`). -/
def freshTab0_16 : ℕ → Bool
  | 0 => true
  | n + 1 => (0x800000000000000000000000000000000 : ℕ).testBit n
theorem freshTab0_16_step : ∀ t : Fin cfg0.N,
    freshTab0_16 (t.val + 1) = ((cfg0.win 16).flush t || (cfg0.idle 16 (cfg0.grid.coords t) && freshTab0_16 t.val)) := by decide +kernel
theorem fresh0_16_eq (t : Fin cfg0.N) : cfg0.fresh 16 t.val = freshTab0_16 t.val :=
  Pipeline.Cfg.fresh_tab cfg0 16 freshTab0_16 rfl freshTab0_16_step t.val (Nat.le_of_lt t.isLt)
/-- At the points of case A the printed configuration (`Cfg.idle`) calls output 16 live: the case stores into it. -/
theorem liveAt0_16_A : ∀ t : Fin cfg0.N, cond0_0 (grid0.coords t) → cond0_1 (grid0.coords t) → cond0_2 (grid0.coords t) → ¬cond0_3 (grid0.coords t) → cfg0.idle 16 (grid0.coords t) = false :=
  fun t h0 h1 h2 h3 => (by decide +kernel : ∀ t : Fin cfg0.N, conds0_A (grid0.coords t) → cfg0.idle 16 (grid0.coords t) = false) t ⟨h0, h1, h2, h3⟩
/-- At the points of case B the printed configuration (`Cfg.idle`) calls output 16 live: the case stores into it. -/
theorem liveAt0_16_B : ∀ t : Fin cfg0.N, ¬cond0_0 (grid0.coords t) → ¬cond0_1 (grid0.coords t) → cond0_2 (grid0.coords t) → ¬cond0_3 (grid0.coords t) → cfg0.idle 16 (grid0.coords t) = false :=
  fun t h0 h1 h2 h3 => (by decide +kernel : ∀ t : Fin cfg0.N, conds0_B (grid0.coords t) → cfg0.idle 16 (grid0.coords t) = false) t ⟨h0, h1, h2, h3⟩
/-- At the points of case B, which keeps output 16's prior contents (reads it before covering, or covers it in part), the
    window's buffer is not FRESH: something was stored into it since the region's entry or its last write-back, idle points
    between or not (Lib/Pipeline/TableIdle.lean `Cfg.fresh`, by the table `freshTab0_16`). -/
theorem notFresh0_16_B : ∀ t : Fin cfg0.N, ¬cond0_0 (grid0.coords t) → ¬cond0_1 (grid0.coords t) → cond0_2 (grid0.coords t) → ¬cond0_3 (grid0.coords t) → cfg0.fresh 16 t.val = false :=
  fun t h0 h1 h2 h3 => (by intro t; rw [fresh0_16_eq t]; revert t; decide +kernel : ∀ t : Fin cfg0.N, conds0_B (grid0.coords t) → cfg0.fresh 16 t.val = false) t ⟨h0, h1, h2, h3⟩
/-- At the points of case C the printed configuration (`Cfg.idle`) calls output 16 idle: the case stores nothing into it. -/
theorem idleAt0_16_C : ∀ t : Fin cfg0.N, ¬cond0_0 (grid0.coords t) → ¬cond0_1 (grid0.coords t) → ¬cond0_2 (grid0.coords t) → cond0_3 (grid0.coords t) → cfg0.idle 16 (grid0.coords t) = true :=
  fun t h0 h1 h2 h3 => (by decide +kernel : ∀ t : Fin cfg0.N, conds0_C (grid0.coords t) → cfg0.idle 16 (grid0.coords t) = true) t ⟨h0, h1, h2, h3⟩
/-- At the points of case C, which keeps output 16's prior contents (reads it before covering, or covers it in part), the
    window's buffer is not FRESH: something was stored into it since the region's entry or its last write-back, idle points
    between or not (Lib/Pipeline/TableIdle.lean `Cfg.fresh`, by the table `freshTab0_16`). -/
theorem notFresh0_16_C : ∀ t : Fin cfg0.N, ¬cond0_0 (grid0.coords t) → ¬cond0_1 (grid0.coords t) → ¬cond0_2 (grid0.coords t) → cond0_3 (grid0.coords t) → cfg0.fresh 16 t.val = false :=
  fun t h0 h1 h2 h3 => (by intro t; rw [fresh0_16_eq t]; revert t; decide +kernel : ∀ t : Fin cfg0.N, conds0_C (grid0.coords t) → cfg0.fresh 16 t.val = false) t ⟨h0, h1, h2, h3⟩
/-- At the points of case D the printed configuration (`Cfg.idle`) calls output 16 live: the case stores into it. -/
theorem liveAt0_16_D : ∀ t : Fin cfg0.N, ¬cond0_0 (grid0.coords t) → cond0_1 (grid0.coords t) → cond0_2 (grid0.coords t) → ¬cond0_3 (grid0.coords t) → cfg0.idle 16 (grid0.coords t) = false :=
  fun t h0 h1 h2 h3 => (by decide +kernel : ∀ t : Fin cfg0.N, conds0_D (grid0.coords t) → cfg0.idle 16 (grid0.coords t) = false) t ⟨h0, h1, h2, h3⟩
/-- At the points of case D, which keeps output 16's prior contents (reads it before covering, or covers it in part), the
    window's buffer is not FRESH: something was stored into it since the region's entry or its last write-back, idle points
    between or not (Lib/Pipeline/TableIdle.lean `Cfg.fresh`, by the table `freshTab0_16`). -/
theorem notFresh0_16_D : ∀ t : Fin cfg0.N, ¬cond0_0 (grid0.coords t) → cond0_1 (grid0.coords t) → cond0_2 (grid0.coords t) → ¬cond0_3 (grid0.coords t) → cfg0.fresh 16 t.val = false :=
  fun t h0 h1 h2 h3 => (by intro t; rw [fresh0_16_eq t]; revert t; decide +kernel : ∀ t : Fin cfg0.N, conds0_D (grid0.coords t) → cfg0.fresh 16 t.val = false) t ⟨h0, h1, h2, h3⟩
/-- Whether output 17's buffer is FRESH at each position `1 ‥ N` — holds nothing the body stored since the region's entry or the
    last write-back (written back at the point before, or idle there and fresh before it) —, as a bitmask the classifier
    computed, bit `n` for position `n + 1`; position 0 is fresh. `freshTab0_17_step` checks it against the configuration's own
    step point by point and Lib/Pipeline/TableIdle.lean `Cfg.fresh_tab` makes it `Cfg.fresh` (`fresh0_17_eq`). -/
def freshTab0_17 : ℕ → Bool
  | 0 => true
  | n + 1 => (0x800000000000000000000000000000000 : ℕ).testBit n
theorem freshTab0_17_step : ∀ t : Fin cfg0.N,
    freshTab0_17 (t.val + 1) = ((cfg0.win 17).flush t || (cfg0.idle 17 (cfg0.grid.coords t) && freshTab0_17 t.val)) := by decide +kernel
theorem fresh0_17_eq (t : Fin cfg0.N) : cfg0.fresh 17 t.val = freshTab0_17 t.val :=
  Pipeline.Cfg.fresh_tab cfg0 17 freshTab0_17 rfl freshTab0_17_step t.val (Nat.le_of_lt t.isLt)
/-- At the points of case A the printed configuration (`Cfg.idle`) calls output 17 live: the case stores into it. -/
theorem liveAt0_17_A : ∀ t : Fin cfg0.N, cond0_0 (grid0.coords t) → cond0_1 (grid0.coords t) → cond0_2 (grid0.coords t) → ¬cond0_3 (grid0.coords t) → cfg0.idle 17 (grid0.coords t) = false :=
  fun t h0 h1 h2 h3 => (by decide +kernel : ∀ t : Fin cfg0.N, conds0_A (grid0.coords t) → cfg0.idle 17 (grid0.coords t) = false) t ⟨h0, h1, h2, h3⟩
/-- At the points of case B the printed configuration (`Cfg.idle`) calls output 17 live: the case stores into it. -/
theorem liveAt0_17_B : ∀ t : Fin cfg0.N, ¬cond0_0 (grid0.coords t) → ¬cond0_1 (grid0.coords t) → cond0_2 (grid0.coords t) → ¬cond0_3 (grid0.coords t) → cfg0.idle 17 (grid0.coords t) = false :=
  fun t h0 h1 h2 h3 => (by decide +kernel : ∀ t : Fin cfg0.N, conds0_B (grid0.coords t) → cfg0.idle 17 (grid0.coords t) = false) t ⟨h0, h1, h2, h3⟩
/-- At the points of case B, which keeps output 17's prior contents (reads it before covering, or covers it in part), the
    window's buffer is not FRESH: something was stored into it since the region's entry or its last write-back, idle points
    between or not (Lib/Pipeline/TableIdle.lean `Cfg.fresh`, by the table `freshTab0_17`). -/
theorem notFresh0_17_B : ∀ t : Fin cfg0.N, ¬cond0_0 (grid0.coords t) → ¬cond0_1 (grid0.coords t) → cond0_2 (grid0.coords t) → ¬cond0_3 (grid0.coords t) → cfg0.fresh 17 t.val = false :=
  fun t h0 h1 h2 h3 => (by intro t; rw [fresh0_17_eq t]; revert t; decide +kernel : ∀ t : Fin cfg0.N, conds0_B (grid0.coords t) → cfg0.fresh 17 t.val = false) t ⟨h0, h1, h2, h3⟩
/-- At the points of case C the printed configuration (`Cfg.idle`) calls output 17 idle: the case stores nothing into it. -/
theorem idleAt0_17_C : ∀ t : Fin cfg0.N, ¬cond0_0 (grid0.coords t) → ¬cond0_1 (grid0.coords t) → ¬cond0_2 (grid0.coords t) → cond0_3 (grid0.coords t) → cfg0.idle 17 (grid0.coords t) = true :=
  fun t h0 h1 h2 h3 => (by decide +kernel : ∀ t : Fin cfg0.N, conds0_C (grid0.coords t) → cfg0.idle 17 (grid0.coords t) = true) t ⟨h0, h1, h2, h3⟩
/-- At the points of case C, which keeps output 17's prior contents (reads it before covering, or covers it in part), the
    window's buffer is not FRESH: something was stored into it since the region's entry or its last write-back, idle points
    between or not (Lib/Pipeline/TableIdle.lean `Cfg.fresh`, by the table `freshTab0_17`). -/
theorem notFresh0_17_C : ∀ t : Fin cfg0.N, ¬cond0_0 (grid0.coords t) → ¬cond0_1 (grid0.coords t) → ¬cond0_2 (grid0.coords t) → cond0_3 (grid0.coords t) → cfg0.fresh 17 t.val = false :=
  fun t h0 h1 h2 h3 => (by intro t; rw [fresh0_17_eq t]; revert t; decide +kernel : ∀ t : Fin cfg0.N, conds0_C (grid0.coords t) → cfg0.fresh 17 t.val = false) t ⟨h0, h1, h2, h3⟩
/-- At the points of case D the printed configuration (`Cfg.idle`) calls output 17 live: the case stores into it. -/
theorem liveAt0_17_D : ∀ t : Fin cfg0.N, ¬cond0_0 (grid0.coords t) → cond0_1 (grid0.coords t) → cond0_2 (grid0.coords t) → ¬cond0_3 (grid0.coords t) → cfg0.idle 17 (grid0.coords t) = false :=
  fun t h0 h1 h2 h3 => (by decide +kernel : ∀ t : Fin cfg0.N, conds0_D (grid0.coords t) → cfg0.idle 17 (grid0.coords t) = false) t ⟨h0, h1, h2, h3⟩
/-- At the points of case D, which keeps output 17's prior contents (reads it before covering, or covers it in part), the
    window's buffer is not FRESH: something was stored into it since the region's entry or its last write-back, idle points
    between or not (Lib/Pipeline/TableIdle.lean `Cfg.fresh`, by the table `freshTab0_17`). -/
theorem notFresh0_17_D : ∀ t : Fin cfg0.N, ¬cond0_0 (grid0.coords t) → cond0_1 (grid0.coords t) → cond0_2 (grid0.coords t) → ¬cond0_3 (grid0.coords t) → cfg0.fresh 17 t.val = false :=
  fun t h0 h1 h2 h3 => (by intro t; rw [fresh0_17_eq t]; revert t; decide +kernel : ∀ t : Fin cfg0.N, conds0_D (grid0.coords t) → cfg0.fresh 17 t.val = false) t ⟨h0, h1, h2, h3⟩
/-- Whether output 18's buffer is FRESH at each position `1 ‥ N` — holds nothing the body stored since the region's entry or the
    last write-back (written back at the point before, or idle there and fresh before it) —, as a bitmask the classifier
    computed, bit `n` for position `n + 1`; position 0 is fresh. `freshTab0_18_step` checks it against the configuration's own
    step point by point and Lib/Pipeline/TableIdle.lean `Cfg.fresh_tab` makes it `Cfg.fresh` (`fresh0_18_eq`). -/
def freshTab0_18 : ℕ → Bool
  | 0 => true
  | n + 1 => (0x800000000000000000000000000000000 : ℕ).testBit n
theorem freshTab0_18_step : ∀ t : Fin cfg0.N,
    freshTab0_18 (t.val + 1) = ((cfg0.win 18).flush t || (cfg0.idle 18 (cfg0.grid.coords t) && freshTab0_18 t.val)) := by decide +kernel
theorem fresh0_18_eq (t : Fin cfg0.N) : cfg0.fresh 18 t.val = freshTab0_18 t.val :=
  Pipeline.Cfg.fresh_tab cfg0 18 freshTab0_18 rfl freshTab0_18_step t.val (Nat.le_of_lt t.isLt)
/-- At the points of case A the printed configuration (`Cfg.idle`) calls output 18 live: the case stores into it. -/
theorem liveAt0_18_A : ∀ t : Fin cfg0.N, cond0_0 (grid0.coords t) → cond0_1 (grid0.coords t) → cond0_2 (grid0.coords t) → ¬cond0_3 (grid0.coords t) → cfg0.idle 18 (grid0.coords t) = false :=
  fun t h0 h1 h2 h3 => (by decide +kernel : ∀ t : Fin cfg0.N, conds0_A (grid0.coords t) → cfg0.idle 18 (grid0.coords t) = false) t ⟨h0, h1, h2, h3⟩
/-- At the points of case B the printed configuration (`Cfg.idle`) calls output 18 live: the case stores into it. -/
theorem liveAt0_18_B : ∀ t : Fin cfg0.N, ¬cond0_0 (grid0.coords t) → ¬cond0_1 (grid0.coords t) → cond0_2 (grid0.coords t) → ¬cond0_3 (grid0.coords t) → cfg0.idle 18 (grid0.coords t) = false :=
  fun t h0 h1 h2 h3 => (by decide +kernel : ∀ t : Fin cfg0.N, conds0_B (grid0.coords t) → cfg0.idle 18 (grid0.coords t) = false) t ⟨h0, h1, h2, h3⟩
/-- At the points of case B, which keeps output 18's prior contents (reads it before covering, or covers it in part), the
    window's buffer is not FRESH: something was stored into it since the region's entry or its last write-back, idle points
    between or not (Lib/Pipeline/TableIdle.lean `Cfg.fresh`, by the table `freshTab0_18`). -/
theorem notFresh0_18_B : ∀ t : Fin cfg0.N, ¬cond0_0 (grid0.coords t) → ¬cond0_1 (grid0.coords t) → cond0_2 (grid0.coords t) → ¬cond0_3 (grid0.coords t) → cfg0.fresh 18 t.val = false :=
  fun t h0 h1 h2 h3 => (by intro t; rw [fresh0_18_eq t]; revert t; decide +kernel : ∀ t : Fin cfg0.N, conds0_B (grid0.coords t) → cfg0.fresh 18 t.val = false) t ⟨h0, h1, h2, h3⟩
/-- At the points of case C the printed configuration (`Cfg.idle`) calls output 18 idle: the case stores nothing into it. -/
theorem idleAt0_18_C : ∀ t : Fin cfg0.N, ¬cond0_0 (grid0.coords t) → ¬cond0_1 (grid0.coords t) → ¬cond0_2 (grid0.coords t) → cond0_3 (grid0.coords t) → cfg0.idle 18 (grid0.coords t) = true :=
  fun t h0 h1 h2 h3 => (by decide +kernel : ∀ t : Fin cfg0.N, conds0_C (grid0.coords t) → cfg0.idle 18 (grid0.coords t) = true) t ⟨h0, h1, h2, h3⟩
/-- At the points of case C, which keeps output 18's prior contents (reads it before covering, or covers it in part), the
    window's buffer is not FRESH: something was stored into it since the region's entry or its last write-back, idle points
    between or not (Lib/Pipeline/TableIdle.lean `Cfg.fresh`, by the table `freshTab0_18`). -/
theorem notFresh0_18_C : ∀ t : Fin cfg0.N, ¬cond0_0 (grid0.coords t) → ¬cond0_1 (grid0.coords t) → ¬cond0_2 (grid0.coords t) → cond0_3 (grid0.coords t) → cfg0.fresh 18 t.val = false :=
  fun t h0 h1 h2 h3 => (by intro t; rw [fresh0_18_eq t]; revert t; decide +kernel : ∀ t : Fin cfg0.N, conds0_C (grid0.coords t) → cfg0.fresh 18 t.val = false) t ⟨h0, h1, h2, h3⟩
/-- At the points of case D the printed configuration (`Cfg.idle`) calls output 18 live: the case stores into it. -/
theorem liveAt0_18_D : ∀ t : Fin cfg0.N, ¬cond0_0 (grid0.coords t) → cond0_1 (grid0.coords t) → cond0_2 (grid0.coords t) → ¬cond0_3 (grid0.coords t) → cfg0.idle 18 (grid0.coords t) = false :=
  fun t h0 h1 h2 h3 => (by decide +kernel : ∀ t : Fin cfg0.N, conds0_D (grid0.coords t) → cfg0.idle 18 (grid0.coords t) = false) t ⟨h0, h1, h2, h3⟩
/-- At the points of case D, which keeps output 18's prior contents (reads it before covering, or covers it in part), the
    window's buffer is not FRESH: something was stored into it since the region's entry or its last write-back, idle points
    between or not (Lib/Pipeline/TableIdle.lean `Cfg.fresh`, by the table `freshTab0_18`). -/
theorem notFresh0_18_D : ∀ t : Fin cfg0.N, ¬cond0_0 (grid0.coords t) → cond0_1 (grid0.coords t) → cond0_2 (grid0.coords t) → ¬cond0_3 (grid0.coords t) → cfg0.fresh 18 t.val = false :=
  fun t h0 h1 h2 h3 => (by intro t; rw [fresh0_18_eq t]; revert t; decide +kernel : ∀ t : Fin cfg0.N, conds0_D (grid0.coords t) → cfg0.fresh 18 t.val = false) t ⟨h0, h1, h2, h3⟩

/-! ## The kernel body on any staging memrefs: a subtype the run finds -/

/-- One staging buffer of output window 13, through which its contents are stated (`View.read_writes_of_cover`: the
    choice does not matter). -/
abbrev VO0_13 : View sig .tc .vmem S128x512 .bf16 := (Memref.whole cc0_stg13_0 : Memref sig .tc .vmem S128x512 .bf16).view
/-- One staging buffer of output window 14, through which its contents are stated (`View.read_writes_of_cover`: the
    choice does not matter). -/
abbrev VO0_14 : View sig .tc .vmem S128x128 .bf16 := (Memref.whole cc0_stg14_0 : Memref sig .tc .vmem S128x128 .bf16).view
/-- One staging buffer of output window 15, through which its contents are stated (`View.read_writes_of_cover`: the
    choice does not matter). -/
abbrev VO0_15 : View sig .tc .vmem S128x128 .bf16 := (Memref.whole cc0_stg15_0 : Memref sig .tc .vmem S128x128 .bf16).view
/-- One staging buffer of output window 16, through which its contents are stated (`View.read_writes_of_cover`: the
    choice does not matter). -/
abbrev VO0_16 : View sig .tc .vmem S1x128 .f32 := (Memref.whole cc0_stg16_0 : Memref sig .tc .vmem S1x128 .f32).view
/-- One staging buffer of output window 17, through which its contents are stated (`View.read_writes_of_cover`: the
    choice does not matter). -/
abbrev VO0_17 : View sig .tc .vmem S1x128 .f32 := (Memref.whole cc0_stg17_0 : Memref sig .tc .vmem S1x128 .f32).view
/-- One staging buffer of output window 18, through which its contents are stated (`View.read_writes_of_cover`: the
    choice does not matter). -/
abbrev VO0_18 : View sig .tc .vmem S1x128 .f32 := (Memref.whole cc0_stg18_0 : Memref sig .tc .vmem S1x128 .f32).view
/-- Each window's current staging memref at point `t`, spelled as the pipeline passes it (`bodyAt0`), and its wholeness. -/
abbrev ms0_0 (t : Fin cfg0.N) : Memref sig .tc .smem S16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S128x512 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S128x512 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S128x128 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S128x128 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x128 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x128 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x128 .f32 := win0_18.stage (cfg0.slots t 18)
abbrev hs0_18 (t : Fin cfg0.N) : (ms0_18 t).IsWhole := hstage0_18 ((cfg0.slots t 18).cast nbuf0_18)
/-- The scratch operands: whole scoped buffers of the kernel's own, passed beside the windows. -/
abbrev scM0_0 : Memref sig .tc .vmem S128x128 .f32 := Memref.whole cc0_scratch0
abbrev scM0_1 : Memref sig .tc .vmem S128x128 .f32 := Memref.whole cc0_scratch1
/-- The scratch `arg21` the kernel carries between points, as a view: what it holds is stated through it. -/
abbrev VS0_0 : View sig .tc .vmem S128x128 .f32 := scM0_0.view
/-- The scratch `arg22` the kernel carries between points, as a view: what it holds is stated through it. -/
abbrev VS0_1 : View sig .tc .vmem S128x128 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Gen

end
-- ==== Proof.Run.RunA.lean ====
/-
The body at the first point of the grid: its triple, with the pieces its stores leave in each buffer as the witness.
-/
module

public import proofs.«01_k».proof.Proof.Run.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 taken, `scf.if` 2 taken, `scf.if` 3 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .smem S16 .f32) (harg2 : arg2.IsWhole) (arg3 : Memref sig .tc .vmem S128x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S128x512 .f32) (harg14 : arg14.IsWhole) (arg15 : Memref sig .tc .vmem S128x512 .bf16) (harg15 : arg15.IsWhole) (arg16 : Memref sig .tc .vmem S128x128 .bf16) (harg16 : arg16.IsWhole) (arg17 : Memref sig .tc .vmem S128x128 .bf16) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S128x128 .f32) (harg22 : arg22.IsWhole) (hc0 : cond0_0 i) (hc1 : cond0_1 i) (hc2 : cond0_2 i) (hc3 : ¬cond0_3 i)
    (x0 : Vec F S16 .f32) (x1 : Vec F S128x512 .f32) (x2 : Vec F S128x128 .f32) (x3 : Vec F S128x128 .f32) (x4 : Vec F S128x128 .f32) (x5 : Vec F S128x128 .f32) (x6 : Vec F S128x128 .f32) (x7 : Vec F S128x128 .f32) (x8 : Vec F S128x128 .f32) (x9 : Vec F S128x128 .f32) (x10 : Vec F S1x128 .f32) (x11 : Vec F S1x128 .f32) (x12 : Vec F S128x512 .f32) :
    Σ' (L13 : List (View.Piece (Elt F) S128x512 .bf16)), Σ' (L14 : List (View.Piece (Elt F) S128x128 .bf16)), Σ' (L15 : List (View.Piece (Elt F) S128x128 .bf16)), Σ' (L16 : List (View.Piece (Elt F) S1x128 .f32)), Σ' (L17 : List (View.Piece (Elt F) S1x128 .f32)), Σ' (L18 : List (View.Piece (Elt F) S1x128 .f32)), Σ' (LS0 : List (View.Piece (Elt F) S128x128 .f32)), { LS1 : List (View.Piece (Elt F) S128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f LS0) ∗ (∃ f, arg22.view.loc (c : Thread nD τ) ↦[arg22.view.set]{fullShare} arg22.view.writes (Elt F) f LS1)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, fun E K => ?run⟩
  case run =>
    simp only [cc0_attn_bwd_eq_skeleton]; unfold cc0_attn_bwd_skel
    simp only [k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [HS0]; · iexists _; iexact HS0
    iexists _; iexact HS1

end Cert.KernelIdeal.Gen

end
-- ==== Proof.Run.RunB.lean ====
/-
The body at the points in the middle of a head: its triple, with the pieces its stores leave in each buffer as the witness.
-/
module

public import proofs.«01_k».proof.Proof.Run.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken, `scf.if` 2 taken, `scf.if` 3 not taken: points 1, 2, … 130: 124 of 132), WITH the
    proof that on whole staging memrefs — the inputs' at their contents, the outputs it reads before covering (16, 17, 18) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .smem S16 .f32) (harg2 : arg2.IsWhole) (arg3 : Memref sig .tc .vmem S128x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S128x512 .f32) (harg14 : arg14.IsWhole) (arg15 : Memref sig .tc .vmem S128x512 .bf16) (harg15 : arg15.IsWhole) (arg16 : Memref sig .tc .vmem S128x128 .bf16) (harg16 : arg16.IsWhole) (arg17 : Memref sig .tc .vmem S128x128 .bf16) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S128x128 .f32) (harg22 : arg22.IsWhole) (hc0 : ¬cond0_0 i) (hc1 : ¬cond0_1 i) (hc2 : cond0_2 i) (hc3 : ¬cond0_3 i)
    (x0 : Vec F S16 .f32) (x1 : Vec F S128x512 .f32) (x2 : Vec F S128x128 .f32) (x3 : Vec F S128x128 .f32) (x4 : Vec F S128x128 .f32) (x5 : Vec F S128x128 .f32) (x6 : Vec F S128x128 .f32) (x7 : Vec F S128x128 .f32) (x8 : Vec F S128x128 .f32) (x9 : Vec F S128x128 .f32) (x10 : Vec F S1x128 .f32) (x11 : Vec F S1x128 .f32) (x12 : Vec F S128x512 .f32) (xo16 : Vec F S1x128 .f32) (xo17 : Vec F S1x128 .f32) (xo18 : Vec F S1x128 .f32) (xs0 : Vec F S128x128 .f32) (xs1 : Vec F S128x128 .f32) :
    Σ' (L13 : List (View.Piece (Elt F) S128x512 .bf16)), Σ' (L14 : List (View.Piece (Elt F) S128x128 .bf16)), Σ' (L15 : List (View.Piece (Elt F) S128x128 .bf16)), Σ' (L16 : List (View.Piece (Elt F) S1x128 .f32)), Σ' (L17 : List (View.Piece (Elt F) S1x128 .f32)), Σ' (L18 : List (View.Piece (Elt F) S1x128 .f32)), Σ' (LS0 : List (View.Piece (Elt F) S128x128 .f32)), { LS1 : List (View.Piece (Elt F) S128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xo16 ∗ owns (c : Thread nD τ) arg19 fullShare xo17 ∗ owns (c : Thread nD τ) arg20 fullShare xo18 ∗ owns (c : Thread nD τ) arg21 fullShare xs0 ∗ owns (c : Thread nD τ) arg22 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f LS0) ∗ (∃ f, arg22.view.loc (c : Thread nD τ) ↦[arg22.view.set]{fullShare} arg22.view.writes (Elt F) f LS1)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, fun E K => ?run⟩
  case run =>
    simp only [cc0_attn_bwd_eq_skeleton]; unfold cc0_attn_bwd_skel
    simp only [k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%f16, %hf16, H16⟩, ⟨%f17, %hf17, H17⟩, ⟨%f18, %hf18, H18⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg18.eq_unread hf16; obtain rfl := harg19.eq_unread hf17; obtain rfl := harg20.eq_unread hf18; obtain rfl := harg21.eq_unread hfs0; obtain rfl := harg22.eq_unread hfs1
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [HS0]; · iexists _; iexact HS0
    iexists _; iexact HS1

end Cert.KernelIdeal.Gen

end
-- ==== Proof.Run.RunC.lean ====
/-
The body at a head's last point, which only writes the carried key and value gradients out.
-/
module

public import proofs.«01_k».proof.Proof.Run.RunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 not taken, `scf.if` 2 not taken, `scf.if` 3 taken: points 32, 65, 98, 131), WITH the
    proof that on whole staging memrefs — the inputs' at their contents, the outputs it reads before covering (13, 16, 17, 18) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .smem S16 .f32) (harg2 : arg2.IsWhole) (arg3 : Memref sig .tc .vmem S128x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S128x512 .f32) (harg14 : arg14.IsWhole) (arg15 : Memref sig .tc .vmem S128x512 .bf16) (harg15 : arg15.IsWhole) (arg16 : Memref sig .tc .vmem S128x128 .bf16) (harg16 : arg16.IsWhole) (arg17 : Memref sig .tc .vmem S128x128 .bf16) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S128x128 .f32) (harg22 : arg22.IsWhole) (hc0 : ¬cond0_0 i) (hc1 : ¬cond0_1 i) (hc2 : ¬cond0_2 i) (hc3 : cond0_3 i)
    (x0 : Vec F S16 .f32) (x1 : Vec F S128x512 .f32) (x2 : Vec F S128x128 .f32) (x3 : Vec F S128x128 .f32) (x4 : Vec F S128x128 .f32) (x5 : Vec F S128x128 .f32) (x6 : Vec F S128x128 .f32) (x7 : Vec F S128x128 .f32) (x8 : Vec F S128x128 .f32) (x9 : Vec F S128x128 .f32) (x10 : Vec F S1x128 .f32) (x11 : Vec F S1x128 .f32) (x12 : Vec F S128x512 .f32) (xo13 : Vec F S128x512 .bf16) (xo16 : Vec F S1x128 .f32) (xo17 : Vec F S1x128 .f32) (xo18 : Vec F S1x128 .f32) (xs0 : Vec F S128x128 .f32) (xs1 : Vec F S128x128 .f32) :
    Σ' (L13 : List (View.Piece (Elt F) S128x512 .bf16)), Σ' (L14 : List (View.Piece (Elt F) S128x128 .bf16)), Σ' (L15 : List (View.Piece (Elt F) S128x128 .bf16)), Σ' (L16 : List (View.Piece (Elt F) S1x128 .f32)), Σ' (L17 : List (View.Piece (Elt F) S1x128 .f32)), Σ' (L18 : List (View.Piece (Elt F) S1x128 .f32)), Σ' (LS0 : List (View.Piece (Elt F) S128x128 .f32)), { LS1 : List (View.Piece (Elt F) S128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare xo13 ∗ (∃ d, owns (c : Thread nD τ) arg16 fullShare d) ∗ (∃ d, owns (c : Thread nD τ) arg17 fullShare d) ∗ owns (c : Thread nD τ) arg18 fullShare xo16 ∗ owns (c : Thread nD τ) arg19 fullShare xo17 ∗ owns (c : Thread nD τ) arg20 fullShare xo18 ∗ owns (c : Thread nD τ) arg21 fullShare xs0 ∗ owns (c : Thread nD τ) arg22 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare xo13 ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ owns (c : Thread nD τ) arg18 fullShare xo16 ∗ owns (c : Thread nD τ) arg19 fullShare xo17 ∗ owns (c : Thread nD τ) arg20 fullShare xo18 ∗ owns (c : Thread nD τ) arg21 fullShare xs0 ∗ owns (c : Thread nD τ) arg22 fullShare xs1) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨[], ?_, ?_, [], [], [], [], [], fun E K => ?run⟩
  case run =>
    simp only [cc0_attn_bwd_eq_skeleton]; unfold cc0_attn_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%f16, %hf16, H16⟩, ⟨%f17, %hf17, H17⟩, ⟨%f18, %hf18, H18⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg18.eq_unread hf16; obtain rfl := harg19.eq_unread hf17; obtain rfl := harg20.eq_unread hf18; obtain rfl := harg21.eq_unread hfs0; obtain rfl := harg22.eq_unread hfs1
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]; · iexists _; iexact H14
    isplitl [H15]; · iexists _; iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [HS0]
    · iexists _; isplitr; · ipureintro; exact harg21.read_unread _
      iexact HS0
    iexists _; isplitr; · ipureintro; exact harg22.read_unread _
    iexact HS1

end Cert.KernelIdeal.Gen

end
-- ==== Proof.Run.RunD.lean ====
/-
The body at the first point of a head that is not the first: its triple, with the pieces its stores leave.
-/
module

public import proofs.«01_k».proof.Proof.Run.RunC

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE D (`scf.if` 0 not taken, `scf.if` 1 taken, `scf.if` 2 taken, `scf.if` 3 not taken: points 33, 66, 99), WITH the
    proof that on whole staging memrefs — the inputs' at their contents, the outputs it reads before covering (16, 17, 18) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_D (c : Dev nD) (i : grid0.Coords) (arg2 : Memref sig .tc .smem S16 .f32) (harg2 : arg2.IsWhole) (arg3 : Memref sig .tc .vmem S128x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S128x512 .f32) (harg14 : arg14.IsWhole) (arg15 : Memref sig .tc .vmem S128x512 .bf16) (harg15 : arg15.IsWhole) (arg16 : Memref sig .tc .vmem S128x128 .bf16) (harg16 : arg16.IsWhole) (arg17 : Memref sig .tc .vmem S128x128 .bf16) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S128x128 .f32) (harg22 : arg22.IsWhole) (hc0 : ¬cond0_0 i) (hc1 : cond0_1 i) (hc2 : cond0_2 i) (hc3 : ¬cond0_3 i)
    (x0 : Vec F S16 .f32) (x1 : Vec F S128x512 .f32) (x2 : Vec F S128x128 .f32) (x3 : Vec F S128x128 .f32) (x4 : Vec F S128x128 .f32) (x5 : Vec F S128x128 .f32) (x6 : Vec F S128x128 .f32) (x7 : Vec F S128x128 .f32) (x8 : Vec F S128x128 .f32) (x9 : Vec F S128x128 .f32) (x10 : Vec F S1x128 .f32) (x11 : Vec F S1x128 .f32) (x12 : Vec F S128x512 .f32) (xo16 : Vec F S1x128 .f32) (xo17 : Vec F S1x128 .f32) (xo18 : Vec F S1x128 .f32) :
    Σ' (L13 : List (View.Piece (Elt F) S128x512 .bf16)), Σ' (L14 : List (View.Piece (Elt F) S128x128 .bf16)), Σ' (L15 : List (View.Piece (Elt F) S128x128 .bf16)), Σ' (L16 : List (View.Piece (Elt F) S1x128 .f32)), Σ' (L17 : List (View.Piece (Elt F) S1x128 .f32)), Σ' (L18 : List (View.Piece (Elt F) S1x128 .f32)), Σ' (LS0 : List (View.Piece (Elt F) S128x128 .f32)), { LS1 : List (View.Piece (Elt F) S128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xo16 ∗ owns (c : Thread nD τ) arg19 fullShare xo17 ∗ owns (c : Thread nD τ) arg20 fullShare xo18 ∗ (∃ d, owns (c : Thread nD τ) arg21 fullShare d) ∗ (∃ d, owns (c : Thread nD τ) arg22 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f LS0) ∗ (∃ f, arg22.view.loc (c : Thread nD τ) ↦[arg22.view.set]{fullShare} arg22.view.writes (Elt F) f LS1)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, fun E K => ?run⟩
  case run =>
    simp only [cc0_attn_bwd_eq_skeleton]; unfold cc0_attn_bwd_skel
    simp only [k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%f16, %hf16, H16⟩, ⟨%f17, %hf17, H17⟩, ⟨%f18, %hf18, H18⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg18.eq_unread hf16; obtain rfl := harg19.eq_unread hf17; obtain rfl := harg20.eq_unread hf18
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [HS0]; · iexists _; iexact HS0
    iexists _; iexact HS1

end Cert.KernelIdeal.Gen

end
-- ==== Proof.Run.Points.lean ====
/-
What the outputs' buffers and the two carries hold after each grid point. A point is the first of the grid (case A), the first
of a later head (D), the last of a head (C) or in between (B); each case runs the body at the point's blocks over what the point
before left, and `outsAt0` is that recursion. Then the pipeline's proof data, and what each buffer holds before a point.
-/
module

public import proofs.«01_k».proof.Proof.Run.RunD

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What a point leaves: the blocks of dq, dk, dv, the sums of the two norms' gains and of the sinks, and the two carries. -/
abbrev Left (F : FTy → Type) := Vec F S128x512 .bf16 × Vec F S128x128 .bf16 × Vec F S128x128 .bf16 × Vec F S1x128 .f32 × Vec F S1x128 .f32 × Vec F S1x128 .f32 × Vec F S128x128 .f32 × Vec F S128x128 .f32

/-! ## The case a point is in -/

theorem caseA (t : Fin cfg0.N) (h : t.val = 0) : conds0_A (grid0.coords t) :=
  (by decide +kernel : ∀ t : Fin cfg0.N, t.val = 0 → conds0_A (grid0.coords t)) t h
theorem caseB (t : Fin cfg0.N) (h : ¬t.val % 33 = 0) (h' : ¬t.val % 33 = 32) : conds0_B (grid0.coords t) :=
  (by decide +kernel : ∀ t : Fin cfg0.N, ¬t.val % 33 = 0 → ¬t.val % 33 = 32 → conds0_B (grid0.coords t)) t h h'
theorem caseC (t : Fin cfg0.N) (h : t.val % 33 = 32) : conds0_C (grid0.coords t) :=
  (by decide +kernel : ∀ t : Fin cfg0.N, t.val % 33 = 32 → conds0_C (grid0.coords t)) t h
theorem caseD (t : Fin cfg0.N) (h0 : ¬t.val = 0) (h : t.val % 33 = 0) : conds0_D (grid0.coords t) :=
  (by decide +kernel : ∀ t : Fin cfg0.N, ¬t.val = 0 → t.val % 33 = 0 → conds0_D (grid0.coords t)) t h0 h

/-! ## The body's run at a point, over what the point before left -/

/-- The body's run at the first point. -/
abbrev runA (c : Dev nD) (t : Fin cfg0.N) (h : conds0_A (grid0.coords t)) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) h.1 h.2.1 h.2.2.1 h.2.2.2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)

/-- The body's run at a point inside a head. -/
abbrev runB (c : Dev nD) (t : Fin cfg0.N) (h : conds0_B (grid0.coords t)) (p : Left F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) h.1 h.2.1 h.2.2.1 h.2.2.2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) p.2.2.2.1 p.2.2.2.2.1 p.2.2.2.2.2.1 p.2.2.2.2.2.2.1 p.2.2.2.2.2.2.2

/-- The body's run at a head's last point. -/
abbrev runC (c : Dev nD) (t : Fin cfg0.N) (h : conds0_C (grid0.coords t)) (p : Left F) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) h.1 h.2.1 h.2.2.1 h.2.2.2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) p.1 p.2.2.2.1 p.2.2.2.2.1 p.2.2.2.2.2.1 p.2.2.2.2.2.2.1 p.2.2.2.2.2.2.2

/-- The body's run at a later head's first point. -/
abbrev runD (c : Dev nD) (t : Fin cfg0.N) (h : conds0_D (grid0.coords t)) (p : Left F) :=
  kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) h.1 h.2.1 h.2.2.1 h.2.2.2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) p.2.2.2.1 p.2.2.2.2.1 p.2.2.2.2.2.1

/-! What the first point leaves in each buffer it stores into, and that its stores cover the buffer. -/

def outA_13 (c : Dev nD) (t : Fin cfg0.N) (h : conds0_A (grid0.coords t)) : Vec F S128x512 .bf16 :=
  VO0_13.read (Elt F) (VO0_13.writes (Elt F) VO0_13.junk (runA m c t h).1)
theorem coverA_13 (c : Dev nD) (t : Fin cfg0.N) (h : conds0_A (grid0.coords t)) (y) :
    ∃ pc ∈ (runA m c t h).1, y ∈ pc.1.set :=
  View.cover_of_tiledL (s := S128x512) _ S128x128.size (by sl_kernel_rfl) y
def outA_14 (c : Dev nD) (t : Fin cfg0.N) (h : conds0_A (grid0.coords t)) : Vec F S128x128 .bf16 :=
  VO0_14.read (Elt F) (VO0_14.writes (Elt F) VO0_14.junk (runA m c t h).2.1)
theorem coverA_14 (c : Dev nD) (t : Fin cfg0.N) (h : conds0_A (grid0.coords t)) (y) :
    ∃ pc ∈ (runA m c t h).2.1, y ∈ pc.1.set :=
  View.cover_of_tiledL _ S128x128.size (by sl_kernel_rfl) y
def outA_15 (c : Dev nD) (t : Fin cfg0.N) (h : conds0_A (grid0.coords t)) : Vec F S128x128 .bf16 :=
  VO0_15.read (Elt F) (VO0_15.writes (Elt F) VO0_15.junk (runA m c t h).2.2.1)
theorem coverA_15 (c : Dev nD) (t : Fin cfg0.N) (h : conds0_A (grid0.coords t)) (y) :
    ∃ pc ∈ (runA m c t h).2.2.1, y ∈ pc.1.set :=
  View.cover_of_tiledL _ S128x128.size (by sl_kernel_rfl) y
def outA_16 (c : Dev nD) (t : Fin cfg0.N) (h : conds0_A (grid0.coords t)) : Vec F S1x128 .f32 :=
  VO0_16.read (Elt F) (VO0_16.writes (Elt F) VO0_16.junk (runA m c t h).2.2.2.1)
theorem coverA_16 (c : Dev nD) (t : Fin cfg0.N) (h : conds0_A (grid0.coords t)) (y) :
    ∃ pc ∈ (runA m c t h).2.2.2.1, y ∈ pc.1.set :=
  View.cover_of_tiledL _ S1x128.size (by sl_kernel_rfl) y
def outA_17 (c : Dev nD) (t : Fin cfg0.N) (h : conds0_A (grid0.coords t)) : Vec F S1x128 .f32 :=
  VO0_17.read (Elt F) (VO0_17.writes (Elt F) VO0_17.junk (runA m c t h).2.2.2.2.1)
theorem coverA_17 (c : Dev nD) (t : Fin cfg0.N) (h : conds0_A (grid0.coords t)) (y) :
    ∃ pc ∈ (runA m c t h).2.2.2.2.1, y ∈ pc.1.set :=
  View.cover_of_tiledL _ S1x128.size (by sl_kernel_rfl) y
def outA_18 (c : Dev nD) (t : Fin cfg0.N) (h : conds0_A (grid0.coords t)) : Vec F S1x128 .f32 :=
  VO0_18.read (Elt F) (VO0_18.writes (Elt F) VO0_18.junk (runA m c t h).2.2.2.2.2.1)
theorem coverA_18 (c : Dev nD) (t : Fin cfg0.N) (h : conds0_A (grid0.coords t)) (y) :
    ∃ pc ∈ (runA m c t h).2.2.2.2.2.1, y ∈ pc.1.set :=
  View.cover_of_tiledL _ S1x128.size (by sl_kernel_rfl) y
def outA_s0 (c : Dev nD) (t : Fin cfg0.N) (h : conds0_A (grid0.coords t)) : Vec F S128x128 .f32 :=
  VS0_0.read (Elt F) (VS0_0.writes (Elt F) VS0_0.junk (runA m c t h).2.2.2.2.2.2.1)
theorem coverA_s0 (c : Dev nD) (t : Fin cfg0.N) (h : conds0_A (grid0.coords t)) (y) :
    ∃ pc ∈ (runA m c t h).2.2.2.2.2.2.1, y ∈ pc.1.set :=
  View.cover_of_tiledL _ S128x128.size (by sl_kernel_rfl) y
def outA_s1 (c : Dev nD) (t : Fin cfg0.N) (h : conds0_A (grid0.coords t)) : Vec F S128x128 .f32 :=
  VS0_1.read (Elt F) (VS0_1.writes (Elt F) VS0_1.junk (runA m c t h).2.2.2.2.2.2.2.1)
theorem coverA_s1 (c : Dev nD) (t : Fin cfg0.N) (h : conds0_A (grid0.coords t)) (y) :
    ∃ pc ∈ (runA m c t h).2.2.2.2.2.2.2.1, y ∈ pc.1.set :=
  View.cover_of_tiledL _ S128x128.size (by sl_kernel_rfl) y

/-! What a point inside a head leaves in each buffer it stores into, and that its stores cover the buffer. -/

def outB_13 (c : Dev nD) (t : Fin cfg0.N) (h : conds0_B (grid0.coords t)) (p : Left F) : Vec F S128x512 .bf16 :=
  VO0_13.read (Elt F) (VO0_13.writes (Elt F) VO0_13.junk (runB m c t h p).1)
theorem coverB_13 (c : Dev nD) (t : Fin cfg0.N) (h : conds0_B (grid0.coords t)) (p : Left F) (y) :
    ∃ pc ∈ (runB m c t h p).1, y ∈ pc.1.set :=
  View.cover_of_tiledL (s := S128x512) _ S128x128.size (by sl_kernel_rfl) y
def outB_14 (c : Dev nD) (t : Fin cfg0.N) (h : conds0_B (grid0.coords t)) (p : Left F) : Vec F S128x128 .bf16 :=
  VO0_14.read (Elt F) (VO0_14.writes (Elt F) VO0_14.junk (runB m c t h p).2.1)
theorem coverB_14 (c : Dev nD) (t : Fin cfg0.N) (h : conds0_B (grid0.coords t)) (p : Left F) (y) :
    ∃ pc ∈ (runB m c t h p).2.1, y ∈ pc.1.set :=
  View.cover_of_tiledL _ S128x128.size (by sl_kernel_rfl) y
def outB_15 (c : Dev nD) (t : Fin cfg0.N) (h : conds0_B (grid0.coords t)) (p : Left F) : Vec F S128x128 .bf16 :=
  VO0_15.read (Elt F) (VO0_15.writes (Elt F) VO0_15.junk (runB m c t h p).2.2.1)
theorem coverB_15 (c : Dev nD) (t : Fin cfg0.N) (h : conds0_B (grid0.coords t)) (p : Left F) (y) :
    ∃ pc ∈ (runB m c t h p).2.2.1, y ∈ pc.1.set :=
  View.cover_of_tiledL _ S128x128.size (by sl_kernel_rfl) y
def outB_16 (c : Dev nD) (t : Fin cfg0.N) (h : conds0_B (grid0.coords t)) (p : Left F) : Vec F S1x128 .f32 :=
  VO0_16.read (Elt F) (VO0_16.writes (Elt F) VO0_16.junk (runB m c t h p).2.2.2.1)
theorem coverB_16 (c : Dev nD) (t : Fin cfg0.N) (h : conds0_B (grid0.coords t)) (p : Left F) (y) :
    ∃ pc ∈ (runB m c t h p).2.2.2.1, y ∈ pc.1.set :=
  View.cover_of_tiledL _ S1x128.size (by sl_kernel_rfl) y
def outB_17 (c : Dev nD) (t : Fin cfg0.N) (h : conds0_B (grid0.coords t)) (p : Left F) : Vec F S1x128 .f32 :=
  VO0_17.read (Elt F) (VO0_17.writes (Elt F) VO0_17.junk (runB m c t h p).2.2.2.2.1)
theorem coverB_17 (c : Dev nD) (t : Fin cfg0.N) (h : conds0_B (grid0.coords t)) (p : Left F) (y) :
    ∃ pc ∈ (runB m c t h p).2.2.2.2.1, y ∈ pc.1.set :=
  View.cover_of_tiledL _ S1x128.size (by sl_kernel_rfl) y
def outB_18 (c : Dev nD) (t : Fin cfg0.N) (h : conds0_B (grid0.coords t)) (p : Left F) : Vec F S1x128 .f32 :=
  VO0_18.read (Elt F) (VO0_18.writes (Elt F) VO0_18.junk (runB m c t h p).2.2.2.2.2.1)
theorem coverB_18 (c : Dev nD) (t : Fin cfg0.N) (h : conds0_B (grid0.coords t)) (p : Left F) (y) :
    ∃ pc ∈ (runB m c t h p).2.2.2.2.2.1, y ∈ pc.1.set :=
  View.cover_of_tiledL _ S1x128.size (by sl_kernel_rfl) y
def outB_s0 (c : Dev nD) (t : Fin cfg0.N) (h : conds0_B (grid0.coords t)) (p : Left F) : Vec F S128x128 .f32 :=
  VS0_0.read (Elt F) (VS0_0.writes (Elt F) VS0_0.junk (runB m c t h p).2.2.2.2.2.2.1)
theorem coverB_s0 (c : Dev nD) (t : Fin cfg0.N) (h : conds0_B (grid0.coords t)) (p : Left F) (y) :
    ∃ pc ∈ (runB m c t h p).2.2.2.2.2.2.1, y ∈ pc.1.set :=
  View.cover_of_tiledL _ S128x128.size (by sl_kernel_rfl) y
def outB_s1 (c : Dev nD) (t : Fin cfg0.N) (h : conds0_B (grid0.coords t)) (p : Left F) : Vec F S128x128 .f32 :=
  VS0_1.read (Elt F) (VS0_1.writes (Elt F) VS0_1.junk (runB m c t h p).2.2.2.2.2.2.2.1)
theorem coverB_s1 (c : Dev nD) (t : Fin cfg0.N) (h : conds0_B (grid0.coords t)) (p : Left F) (y) :
    ∃ pc ∈ (runB m c t h p).2.2.2.2.2.2.2.1, y ∈ pc.1.set :=
  View.cover_of_tiledL _ S128x128.size (by sl_kernel_rfl) y

/-! What a head's last point leaves in each buffer it stores into, and that its stores cover the buffer. -/

def outC_14 (c : Dev nD) (t : Fin cfg0.N) (h : conds0_C (grid0.coords t)) (p : Left F) : Vec F S128x128 .bf16 :=
  VO0_14.read (Elt F) (VO0_14.writes (Elt F) VO0_14.junk (runC m c t h p).2.1)
theorem coverC_14 (c : Dev nD) (t : Fin cfg0.N) (h : conds0_C (grid0.coords t)) (p : Left F) (y) :
    ∃ pc ∈ (runC m c t h p).2.1, y ∈ pc.1.set :=
  View.cover_of_tiledL _ S128x128.size (by sl_kernel_rfl) y
def outC_15 (c : Dev nD) (t : Fin cfg0.N) (h : conds0_C (grid0.coords t)) (p : Left F) : Vec F S128x128 .bf16 :=
  VO0_15.read (Elt F) (VO0_15.writes (Elt F) VO0_15.junk (runC m c t h p).2.2.1)
theorem coverC_15 (c : Dev nD) (t : Fin cfg0.N) (h : conds0_C (grid0.coords t)) (p : Left F) (y) :
    ∃ pc ∈ (runC m c t h p).2.2.1, y ∈ pc.1.set :=
  View.cover_of_tiledL _ S128x128.size (by sl_kernel_rfl) y

/-! What a later head's first point leaves in each buffer it stores into, and that its stores cover the buffer. -/

def outD_13 (c : Dev nD) (t : Fin cfg0.N) (h : conds0_D (grid0.coords t)) (p : Left F) : Vec F S128x512 .bf16 :=
  VO0_13.read (Elt F) (VO0_13.writes (Elt F) VO0_13.junk (runD m c t h p).1)
theorem coverD_13 (c : Dev nD) (t : Fin cfg0.N) (h : conds0_D (grid0.coords t)) (p : Left F) (y) :
    ∃ pc ∈ (runD m c t h p).1, y ∈ pc.1.set :=
  View.cover_of_tiledL (s := S128x512) _ S128x128.size (by sl_kernel_rfl) y
def outD_14 (c : Dev nD) (t : Fin cfg0.N) (h : conds0_D (grid0.coords t)) (p : Left F) : Vec F S128x128 .bf16 :=
  VO0_14.read (Elt F) (VO0_14.writes (Elt F) VO0_14.junk (runD m c t h p).2.1)
theorem coverD_14 (c : Dev nD) (t : Fin cfg0.N) (h : conds0_D (grid0.coords t)) (p : Left F) (y) :
    ∃ pc ∈ (runD m c t h p).2.1, y ∈ pc.1.set :=
  View.cover_of_tiledL _ S128x128.size (by sl_kernel_rfl) y
def outD_15 (c : Dev nD) (t : Fin cfg0.N) (h : conds0_D (grid0.coords t)) (p : Left F) : Vec F S128x128 .bf16 :=
  VO0_15.read (Elt F) (VO0_15.writes (Elt F) VO0_15.junk (runD m c t h p).2.2.1)
theorem coverD_15 (c : Dev nD) (t : Fin cfg0.N) (h : conds0_D (grid0.coords t)) (p : Left F) (y) :
    ∃ pc ∈ (runD m c t h p).2.2.1, y ∈ pc.1.set :=
  View.cover_of_tiledL _ S128x128.size (by sl_kernel_rfl) y
def outD_16 (c : Dev nD) (t : Fin cfg0.N) (h : conds0_D (grid0.coords t)) (p : Left F) : Vec F S1x128 .f32 :=
  VO0_16.read (Elt F) (VO0_16.writes (Elt F) VO0_16.junk (runD m c t h p).2.2.2.1)
theorem coverD_16 (c : Dev nD) (t : Fin cfg0.N) (h : conds0_D (grid0.coords t)) (p : Left F) (y) :
    ∃ pc ∈ (runD m c t h p).2.2.2.1, y ∈ pc.1.set :=
  View.cover_of_tiledL _ S1x128.size (by sl_kernel_rfl) y
def outD_17 (c : Dev nD) (t : Fin cfg0.N) (h : conds0_D (grid0.coords t)) (p : Left F) : Vec F S1x128 .f32 :=
  VO0_17.read (Elt F) (VO0_17.writes (Elt F) VO0_17.junk (runD m c t h p).2.2.2.2.1)
theorem coverD_17 (c : Dev nD) (t : Fin cfg0.N) (h : conds0_D (grid0.coords t)) (p : Left F) (y) :
    ∃ pc ∈ (runD m c t h p).2.2.2.2.1, y ∈ pc.1.set :=
  View.cover_of_tiledL _ S1x128.size (by sl_kernel_rfl) y
def outD_18 (c : Dev nD) (t : Fin cfg0.N) (h : conds0_D (grid0.coords t)) (p : Left F) : Vec F S1x128 .f32 :=
  VO0_18.read (Elt F) (VO0_18.writes (Elt F) VO0_18.junk (runD m c t h p).2.2.2.2.2.1)
theorem coverD_18 (c : Dev nD) (t : Fin cfg0.N) (h : conds0_D (grid0.coords t)) (p : Left F) (y) :
    ∃ pc ∈ (runD m c t h p).2.2.2.2.2.1, y ∈ pc.1.set :=
  View.cover_of_tiledL _ S1x128.size (by sl_kernel_rfl) y
def outD_s0 (c : Dev nD) (t : Fin cfg0.N) (h : conds0_D (grid0.coords t)) (p : Left F) : Vec F S128x128 .f32 :=
  VS0_0.read (Elt F) (VS0_0.writes (Elt F) VS0_0.junk (runD m c t h p).2.2.2.2.2.2.1)
theorem coverD_s0 (c : Dev nD) (t : Fin cfg0.N) (h : conds0_D (grid0.coords t)) (p : Left F) (y) :
    ∃ pc ∈ (runD m c t h p).2.2.2.2.2.2.1, y ∈ pc.1.set :=
  View.cover_of_tiledL _ S128x128.size (by sl_kernel_rfl) y
def outD_s1 (c : Dev nD) (t : Fin cfg0.N) (h : conds0_D (grid0.coords t)) (p : Left F) : Vec F S128x128 .f32 :=
  VS0_1.read (Elt F) (VS0_1.writes (Elt F) VS0_1.junk (runD m c t h p).2.2.2.2.2.2.2.1)
theorem coverD_s1 (c : Dev nD) (t : Fin cfg0.N) (h : conds0_D (grid0.coords t)) (p : Left F) (y) :
    ∃ pc ∈ (runD m c t h p).2.2.2.2.2.2.2.1, y ∈ pc.1.set :=
  View.cover_of_tiledL _ S128x128.size (by sl_kernel_rfl) y

/-- Everything the first point leaves. -/
def leftA (c : Dev nD) (t : Fin cfg0.N) (h : conds0_A (grid0.coords t)) : Left F :=
  (outA_13 m c t h, outA_14 m c t h, outA_15 m c t h, outA_16 m c t h, outA_17 m c t h, outA_18 m c t h, outA_s0 m c t h, outA_s1 m c t h)

/-- Everything a point inside a head leaves. -/
def leftB (c : Dev nD) (t : Fin cfg0.N) (h : conds0_B (grid0.coords t)) (p : Left F) : Left F :=
  (outB_13 m c t h p, outB_14 m c t h p, outB_15 m c t h p, outB_16 m c t h p, outB_17 m c t h p, outB_18 m c t h p, outB_s0 m c t h p, outB_s1 m c t h p)

/-- Everything a head's last point leaves. -/
def leftC (c : Dev nD) (t : Fin cfg0.N) (h : conds0_C (grid0.coords t)) (p : Left F) : Left F :=
  (p.1, outC_14 m c t h p, outC_15 m c t h p, p.2.2.2.1, p.2.2.2.2.1, p.2.2.2.2.2.1, p.2.2.2.2.2.2.1, p.2.2.2.2.2.2.2)

/-- Everything a later head's first point leaves. -/
def leftD (c : Dev nD) (t : Fin cfg0.N) (h : conds0_D (grid0.coords t)) (p : Left F) : Left F :=
  (outD_13 m c t h p, outD_14 m c t h p, outD_15 m c t h p, outD_16 m c t h p, outD_17 m c t h p, outD_18 m c t h p, outD_s0 m c t h p, outD_s1 m c t h p)

/-- What the buffers and the carries hold after the body at position `n`. -/
def outsAt0 (c : Dev nD) : (n : ℕ) → n < cfg0.N → Left F
  | 0, hn => leftA m c ⟨0, hn⟩ (caseA _ rfl)
  | n + 1, hn =>
    if h : (n + 1) % 33 = 0 then leftD m c ⟨n + 1, hn⟩ (caseD _ (Nat.succ_ne_zero n) h) (outsAt0 c n (by omega))
    else if h' : (n + 1) % 33 = 32 then leftC m c ⟨n + 1, hn⟩ (caseC _ h') (outsAt0 c n (by omega))
    else leftB m c ⟨n + 1, hn⟩ (caseB _ h h') (outsAt0 c n (by omega))

/-- What the point before `t` left. -/
abbrev prev (c : Dev nD) (t : Fin cfg0.N) : Left F := outsAt0 m c (t.val - 1) (Nat.lt_of_le_of_lt (Nat.sub_le _ _) t.isLt)

theorem outsAt0_A (c : Dev nD) (t : Fin cfg0.N) (h : t.val = 0) : outsAt0 m c t.val t.isLt = leftA m c t (caseA t h) := by
  obtain ⟨n, hn⟩ := t; obtain rfl : n = 0 := h; rfl
theorem outsAt0_B (c : Dev nD) (t : Fin cfg0.N) (h : ¬t.val % 33 = 0) (h' : ¬t.val % 33 = 32) :
    outsAt0 m c t.val t.isLt = leftB m c t (caseB t h h') (prev m c t) := by
  obtain ⟨n, hn⟩ := t
  cases n with
  | zero => exact absurd rfl h
  | succ n => exact (dif_neg h).trans (dif_neg h')
theorem outsAt0_C (c : Dev nD) (t : Fin cfg0.N) (h' : t.val % 33 = 32) :
    outsAt0 m c t.val t.isLt = leftC m c t (caseC t h') (prev m c t) := by
  obtain ⟨n, hn⟩ := t
  cases n with
  | zero => exact absurd h' (by show ¬ 0 % 33 = 32; decide)
  | succ n => exact (dif_neg (by dsimp only at h'; omega)).trans (dif_pos h')
theorem outsAt0_D (c : Dev nD) (t : Fin cfg0.N) (h0 : ¬t.val = 0) (h : t.val % 33 = 0) :
    outsAt0 m c t.val t.isLt = leftD m c t (caseD t h0 h) (prev m c t) := by
  obtain ⟨n, hn⟩ := t
  cases n with
  | zero => exact absurd rfl h0
  | succ n => exact dif_pos h

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.1) ∗ owns (c : Thread nD τ) scM0_1 fullShare ((outsAt0 m c n hn).2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.1) ∗ owns (c : Thread nD τ) scM0_1 fullShare ((outsAt0 m c n hn).2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.1) ∗ owns (c : Thread nD τ) scM0_1 fullShare ((outsAt0 m c (n - 1) (by omega)).2.2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (outsAt0 m c t.val t.isLt).1
    | ⟨14, _⟩ => (outsAt0 m c t.val t.isLt).2.1
    | ⟨15, _⟩ => (outsAt0 m c t.val t.isLt).2.2.1
    | ⟨16, _⟩ => (outsAt0 m c t.val t.isLt).2.2.2.1
    | ⟨17, _⟩ => (outsAt0 m c t.val t.isLt).2.2.2.2.1
    | ⟨18, _⟩ => (outsAt0 m c t.val t.isLt).2.2.2.2.2.1
    | ⟨_ + 19, h⟩ => absurd h (Nat.not_lt.2 (Nat.le_add_left _ _))
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = (outsAt0 m c t.val t.isLt).1 := by dsimp only [dats]
theorem after0_14 (c : Dev nD) (t : Fin cfg0.N) : (dats m 0 c).after 14 t = (outsAt0 m c t.val t.isLt).2.1 := by dsimp only [dats]
theorem after0_15 (c : Dev nD) (t : Fin cfg0.N) : (dats m 0 c).after 15 t = (outsAt0 m c t.val t.isLt).2.2.1 := by dsimp only [dats]
theorem after0_16 (c : Dev nD) (t : Fin cfg0.N) : (dats m 0 c).after 16 t = (outsAt0 m c t.val t.isLt).2.2.2.1 := by dsimp only [dats]
theorem after0_17 (c : Dev nD) (t : Fin cfg0.N) : (dats m 0 c).after 17 t = (outsAt0 m c t.val t.isLt).2.2.2.2.1 := by dsimp only [dats]
theorem after0_18 (c : Dev nD) (t : Fin cfg0.N) : (dats m 0 c).after 18 t = (outsAt0 m c t.val t.isLt).2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-- Output 13 is idle only at a head's last point, which leaves its buffer as the point before did. -/
theorem hcarry0_13 (c : Dev nD) (t : Fin cfg0.N) (h0 : t.val ≠ 0) (hi : cfg0.idle 13 (grid0.coords t) = true) (_ : cfg0.fresh 13 t.val = false) :
    (dats m 0 c).after 13 t = (dats m 0 c).after 13 ⟨t.val - 1, by omega⟩ := by
  have h : t.val % 33 = 32 :=
    (by decide +kernel : ∀ t : Fin cfg0.N, cfg0.idle 13 (grid0.coords t) = true → t.val % 33 = 32) t hi
  rw [after0_13, after0_13, outsAt0_C m c t h]; rfl
/-- Where output 13's buffer holds something the body stored, it is what the point before left. -/
theorem before0_13 (c : Dev nD) (t : Fin cfg0.N) (h : cfg0.fresh 13 t.val = false) (d) :
    (dats m 0 c).before 13 t d = (prev m c t).1 := by
  rw [Dat.before_out_traj _ 13 rfl (fun _ _ => rfl) (hcarry0_13 m c) t.val t rfl d, if_neg (by rw [h]; exact Bool.false_ne_true)]
  dsimp only [dats]

/-- Output 16 is idle only at a head's last point, which leaves its buffer as the point before did. -/
theorem hcarry0_16 (c : Dev nD) (t : Fin cfg0.N) (h0 : t.val ≠ 0) (hi : cfg0.idle 16 (grid0.coords t) = true) (_ : cfg0.fresh 16 t.val = false) :
    (dats m 0 c).after 16 t = (dats m 0 c).after 16 ⟨t.val - 1, by omega⟩ := by
  have h : t.val % 33 = 32 :=
    (by decide +kernel : ∀ t : Fin cfg0.N, cfg0.idle 16 (grid0.coords t) = true → t.val % 33 = 32) t hi
  rw [after0_16, after0_16, outsAt0_C m c t h]; rfl
/-- Where output 16's buffer holds something the body stored, it is what the point before left. -/
theorem before0_16 (c : Dev nD) (t : Fin cfg0.N) (h : cfg0.fresh 16 t.val = false) (d) :
    (dats m 0 c).before 16 t d = (prev m c t).2.2.2.1 := by
  rw [Dat.before_out_traj _ 16 rfl (fun _ _ => rfl) (hcarry0_16 m c) t.val t rfl d, if_neg (by rw [h]; exact Bool.false_ne_true)]
  dsimp only [dats]

/-- Output 17 is idle only at a head's last point, which leaves its buffer as the point before did. -/
theorem hcarry0_17 (c : Dev nD) (t : Fin cfg0.N) (h0 : t.val ≠ 0) (hi : cfg0.idle 17 (grid0.coords t) = true) (_ : cfg0.fresh 17 t.val = false) :
    (dats m 0 c).after 17 t = (dats m 0 c).after 17 ⟨t.val - 1, by omega⟩ := by
  have h : t.val % 33 = 32 :=
    (by decide +kernel : ∀ t : Fin cfg0.N, cfg0.idle 17 (grid0.coords t) = true → t.val % 33 = 32) t hi
  rw [after0_17, after0_17, outsAt0_C m c t h]; rfl
/-- Where output 17's buffer holds something the body stored, it is what the point before left. -/
theorem before0_17 (c : Dev nD) (t : Fin cfg0.N) (h : cfg0.fresh 17 t.val = false) (d) :
    (dats m 0 c).before 17 t d = (prev m c t).2.2.2.2.1 := by
  rw [Dat.before_out_traj _ 17 rfl (fun _ _ => rfl) (hcarry0_17 m c) t.val t rfl d, if_neg (by rw [h]; exact Bool.false_ne_true)]
  dsimp only [dats]

/-- Output 18 is idle only at a head's last point, which leaves its buffer as the point before did. -/
theorem hcarry0_18 (c : Dev nD) (t : Fin cfg0.N) (h0 : t.val ≠ 0) (hi : cfg0.idle 18 (grid0.coords t) = true) (_ : cfg0.fresh 18 t.val = false) :
    (dats m 0 c).after 18 t = (dats m 0 c).after 18 ⟨t.val - 1, by omega⟩ := by
  have h : t.val % 33 = 32 :=
    (by decide +kernel : ∀ t : Fin cfg0.N, cfg0.idle 18 (grid0.coords t) = true → t.val % 33 = 32) t hi
  rw [after0_18, after0_18, outsAt0_C m c t h]; rfl
/-- Where output 18's buffer holds something the body stored, it is what the point before left. -/
theorem before0_18 (c : Dev nD) (t : Fin cfg0.N) (h : cfg0.fresh 18 t.val = false) (d) :
    (dats m 0 c).before 18 t d = (prev m c t).2.2.2.2.2.1 := by
  rw [Dat.before_out_traj _ 18 rfl (fun _ _ => rfl) (hcarry0_18 m c) t.val t rfl d, if_neg (by rw [h]; exact Bool.false_ne_true)]
  dsimp only [dats]

end Cert.KernelIdeal.Gen

end
-- ==== Proof.Run.Body.lean ====
/-
The body at every grid point, as the pipeline asks for it: from the buffers as the point finds them to the buffers as
`outsAt0` says it leaves them.
-/
module

public import proofs.«01_k».proof.Proof.Run.Points

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t)

/-- A buffer whose stores cover it holds what the stores leave over any contents. -/
theorem owns_of_cover {S : Shape} {e : EltTy} (c : Dev nD) (a : Memref sig .tc .vmem S e) (V : View sig .tc .vmem S e)
    (L : List (View.Piece (Elt F) S e)) (h : ∀ y, ∃ p ∈ L, y ∈ p.1.set) :
    (iprop(∃ f, a.view.loc (c : Thread nD τ) ↦[a.view.set]{fullShare} a.view.writes (Elt F) f L) : sProp 𝕄)
      ⊢ owns (c : Thread nD τ) a fullShare (V.read (Elt F) (V.writes (Elt F) V.junk L)) := by
  iintro ⟨%f, H⟩
  unfold owns; iexists _; isplitr
  swap; · iexact H
  ipureintro; exact View.read_writes_of_cover _ _ _ _ _ h

/-- A window whose `after` is what it held before is left as asked, whether the point writes it back or not. -/
theorem leaves_kept (c : Dev nD) (w : Fin cfg0.W) (t : Fin cfg0.N) (h : ∀ d, (dats m 0 c).before w t d = (dats m 0 c).after w t)
    (d0 : ((cfg0.win w).block).Idx → Elt F (cfg0.win w).elt) :
    (owns (c : Thread nD τ) ((cfg0.win w).stage (cfg0.slots t w)) fullShare ((dats m 0 c).after w t) : sProp 𝕄)
      ⊢ (dats m 0 c).leavesExact w t := by
  unfold Dat.leavesExact
  split
  · split
    · iintro H; iexists d0; rw [h]; iexact H
    · exact .rfl
  · exact .rfl

theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]
theorem leaves0_5 (c : Dev nD) (t : Fin cfg0.N) : (dats m 0 c).leavesExact 5 t = owns (c : Thread nD τ) (ms0_5 t) fullShare (iblk m c 5 t) := by
  unfold Dat.leavesExact; rw [liveAt0_5 t, after0_5]
theorem leaves0_6 (c : Dev nD) (t : Fin cfg0.N) : (dats m 0 c).leavesExact 6 t = owns (c : Thread nD τ) (ms0_6 t) fullShare (iblk m c 6 t) := by
  unfold Dat.leavesExact; rw [liveAt0_6 t, after0_6]
theorem leaves0_7 (c : Dev nD) (t : Fin cfg0.N) : (dats m 0 c).leavesExact 7 t = owns (c : Thread nD τ) (ms0_7 t) fullShare (iblk m c 7 t) := by
  unfold Dat.leavesExact; rw [liveAt0_7 t, after0_7]
theorem leaves0_8 (c : Dev nD) (t : Fin cfg0.N) : (dats m 0 c).leavesExact 8 t = owns (c : Thread nD τ) (ms0_8 t) fullShare (iblk m c 8 t) := by
  unfold Dat.leavesExact; rw [liveAt0_8 t, after0_8]
theorem leaves0_9 (c : Dev nD) (t : Fin cfg0.N) : (dats m 0 c).leavesExact 9 t = owns (c : Thread nD τ) (ms0_9 t) fullShare (iblk m c 9 t) := by
  unfold Dat.leavesExact; rw [liveAt0_9 t, after0_9]
theorem leaves0_10 (c : Dev nD) (t : Fin cfg0.N) : (dats m 0 c).leavesExact 10 t = owns (c : Thread nD τ) (ms0_10 t) fullShare (iblk m c 10 t) := by
  unfold Dat.leavesExact; rw [liveAt0_10 t, after0_10]
theorem leaves0_11 (c : Dev nD) (t : Fin cfg0.N) : (dats m 0 c).leavesExact 11 t = owns (c : Thread nD τ) (ms0_11 t) fullShare (iblk m c 11 t) := by
  unfold Dat.leavesExact; rw [liveAt0_11 t, after0_11]
theorem leaves0_12 (c : Dev nD) (t : Fin cfg0.N) : (dats m 0 c).leavesExact 12 t = owns (c : Thread nD τ) (ms0_12 t) fullShare (iblk m c 12 t) := by
  unfold Dat.leavesExact; rw [liveAt0_12 t, after0_12]
theorem leaves0_13 (c : Dev nD) (t : Fin cfg0.N) (h : cfg0.idle 13 (grid0.coords t) = false) :
    (dats m 0 c).leavesExact 13 t = owns (c : Thread nD τ) (ms0_13 t) fullShare (outsAt0 m c t.val t.isLt).1 := by
  unfold Dat.leavesExact; rw [h, after0_13]
theorem leaves0_14 (c : Dev nD) (t : Fin cfg0.N) (h : cfg0.idle 14 (grid0.coords t) = false) :
    (dats m 0 c).leavesExact 14 t = owns (c : Thread nD τ) (ms0_14 t) fullShare (outsAt0 m c t.val t.isLt).2.1 := by
  unfold Dat.leavesExact; rw [h, after0_14]
theorem leaves0_15 (c : Dev nD) (t : Fin cfg0.N) (h : cfg0.idle 15 (grid0.coords t) = false) :
    (dats m 0 c).leavesExact 15 t = owns (c : Thread nD τ) (ms0_15 t) fullShare (outsAt0 m c t.val t.isLt).2.2.1 := by
  unfold Dat.leavesExact; rw [h, after0_15]
theorem leaves0_16 (c : Dev nD) (t : Fin cfg0.N) (h : cfg0.idle 16 (grid0.coords t) = false) :
    (dats m 0 c).leavesExact 16 t = owns (c : Thread nD τ) (ms0_16 t) fullShare (outsAt0 m c t.val t.isLt).2.2.2.1 := by
  unfold Dat.leavesExact; rw [h, after0_16]
theorem leaves0_17 (c : Dev nD) (t : Fin cfg0.N) (h : cfg0.idle 17 (grid0.coords t) = false) :
    (dats m 0 c).leavesExact 17 t = owns (c : Thread nD τ) (ms0_17 t) fullShare (outsAt0 m c t.val t.isLt).2.2.2.2.1 := by
  unfold Dat.leavesExact; rw [h, after0_17]
theorem leaves0_18 (c : Dev nD) (t : Fin cfg0.N) (h : cfg0.idle 18 (grid0.coords t) = false) :
    (dats m 0 c).leavesExact 18 t = owns (c : Thread nD τ) (ms0_18 t) fullShare (outsAt0 m c t.val t.isLt).2.2.2.2.2.1 := by
  unfold Dat.leavesExact; rw [h, after0_18]

set_option maxHeartbeats 4000000 in
/-- The body at the first point. -/
theorem bodyA (c : Dev nD) (t : Fin cfg0.N) (h : t.val = 0) :
    bodyPre m c t ⊢ wp frame (wpE (defs₀ (F := F)) Variants.none c none) Set.univ (bodyAt0 t) (fun _ => bodyPost m c t) := by
  have hc := caseA t h
  unfold bodyPre bodyPost bodyAt0
  simp only [before0_0, before0_1, before0_2, before0_3, before0_4, before0_5, before0_6, before0_7, before0_8, before0_9, before0_10, before0_11, before0_12, leaves0_0 m c t, leaves0_1 m c t, leaves0_2 m c t, leaves0_3 m c t, leaves0_4 m c t, leaves0_5 m c t, leaves0_6 m c t, leaves0_7 m c t, leaves0_8 m c t, leaves0_9 m c t, leaves0_10 m c t, leaves0_11 m c t, leaves0_12 m c t]
  rw [show (dats m 0 c).owesAt () t.succ = (dats m 0 c).owesAt () t.castSucc from rfl]
  rw [show (dats m 0 c).Φ t.succ = PhiS m c (t.val + 1) t.isLt from rfl, PhiS_succ]
  rw [leaves0_13 m c t (liveAt0_13_A t hc.1 hc.2.1 hc.2.2.1 hc.2.2.2), leaves0_14 m c t (liveAt0_14_A t hc.1 hc.2.1 hc.2.2.1 hc.2.2.2), leaves0_15 m c t (liveAt0_15_A t hc.1 hc.2.1 hc.2.2.1 hc.2.2.2), leaves0_16 m c t (liveAt0_16_A t hc.1 hc.2.1 hc.2.2.1 hc.2.2.2), leaves0_17 m c t (liveAt0_17_A t hc.1 hc.2.1 hc.2.2.1 hc.2.2.2), leaves0_18 m c t (liveAt0_18_A t hc.1 hc.2.1 hc.2.2.1 hc.2.2.2)]
  rw [PhiS_castSucc m c t, PhiS_zero m c _ _ h, PhiA0_eq]
  rw [outsAt0_A m c t h]
  unfold leftA outA_13 outA_14 outA_15 outA_16 outA_17 outA_18 outA_s0 outA_s1; dsimp only
  iintro ⟨⟨⟨⟨%g0, HS0⟩, ⟨%g1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply ((runA m c t hc).2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [HS0]; · iexists _; iexact HS0
  isplitl [HS1]; · iexists _; iexact HS1
  iintro ⟨H0, H1, H2, H3, H4, H5, H6, H7, H8, H9, H10, H11, H12, H13, H14, H15, H16, H17, H18, HS0, HS1⟩
  isplitl [HS0 HS1 Hg]
  · isplitl [HS0 HS1]
    · isplitl [HS0]; · iapply (owns_of_cover c _ VS0_0 _ (coverA_s0 m c t hc)); iexact HS0
      iapply (owns_of_cover c _ VS0_1 _ (coverA_s1 m c t hc)); iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iapply (owns_of_cover c _ VO0_13 _ (coverA_13 m c t hc)); iexact H13
  isplitl [H14]; · iapply (owns_of_cover c _ VO0_14 _ (coverA_14 m c t hc)); iexact H14
  isplitl [H15]; · iapply (owns_of_cover c _ VO0_15 _ (coverA_15 m c t hc)); iexact H15
  isplitl [H16]; · iapply (owns_of_cover c _ VO0_16 _ (coverA_16 m c t hc)); iexact H16
  isplitl [H17]; · iapply (owns_of_cover c _ VO0_17 _ (coverA_17 m c t hc)); iexact H17
  iapply (owns_of_cover c _ VO0_18 _ (coverA_18 m c t hc)); iexact H18

set_option maxHeartbeats 4000000 in
/-- The body at a point inside a head. -/
theorem bodyB (c : Dev nD) (t : Fin cfg0.N) (h : ¬t.val % 33 = 0) (h' : ¬t.val % 33 = 32) :
    bodyPre m c t ⊢ wp frame (wpE (defs₀ (F := F)) Variants.none c none) Set.univ (bodyAt0 t) (fun _ => bodyPost m c t) := by
  have hc := caseB t h h'
  unfold bodyPre bodyPost bodyAt0
  simp only [before0_0, before0_1, before0_2, before0_3, before0_4, before0_5, before0_6, before0_7, before0_8, before0_9, before0_10, before0_11, before0_12, leaves0_0 m c t, leaves0_1 m c t, leaves0_2 m c t, leaves0_3 m c t, leaves0_4 m c t, leaves0_5 m c t, leaves0_6 m c t, leaves0_7 m c t, leaves0_8 m c t, leaves0_9 m c t, leaves0_10 m c t, leaves0_11 m c t, leaves0_12 m c t]
  rw [show (dats m 0 c).owesAt () t.succ = (dats m 0 c).owesAt () t.castSucc from rfl]
  rw [show (dats m 0 c).Φ t.succ = PhiS m c (t.val + 1) t.isLt from rfl, PhiS_succ]
  rw [leaves0_13 m c t (liveAt0_13_B t hc.1 hc.2.1 hc.2.2.1 hc.2.2.2), leaves0_14 m c t (liveAt0_14_B t hc.1 hc.2.1 hc.2.2.1 hc.2.2.2), leaves0_15 m c t (liveAt0_15_B t hc.1 hc.2.1 hc.2.2.1 hc.2.2.2), leaves0_16 m c t (liveAt0_16_B t hc.1 hc.2.1 hc.2.2.1 hc.2.2.2), leaves0_17 m c t (liveAt0_17_B t hc.1 hc.2.1 hc.2.2.1 hc.2.2.2), leaves0_18 m c t (liveAt0_18_B t hc.1 hc.2.1 hc.2.2.1 hc.2.2.2)]
  rw [PhiS_castSucc m c t, PhiS_pos m c _ _ (by rintro h0; rw [h0] at h; exact h rfl)]
  have b16 := before0_16 m c t (notFresh0_16_B t hc.1 hc.2.1 hc.2.2.1 hc.2.2.2)
  have b17 := before0_17 m c t (notFresh0_17_B t hc.1 hc.2.1 hc.2.2.1 hc.2.2.2)
  have b18 := before0_18 m c t (notFresh0_18_B t hc.1 hc.2.1 hc.2.2.1 hc.2.2.2)
  simp only [b16, b17, b18]
  rw [outsAt0_B m c t h h']
  unfold leftB outB_13 outB_14 outB_15 outB_16 outB_17 outB_18 outB_s0 outB_s1; dsimp only
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply ((runB m c t hc (prev m c t)).2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexact H16
  isplitl [H17]; · iexact H17
  isplitl [H18]; · iexact H18
  isplitl [HS0]; · iexact HS0
  isplitl [HS1]; · iexact HS1
  iintro ⟨H0, H1, H2, H3, H4, H5, H6, H7, H8, H9, H10, H11, H12, H13, H14, H15, H16, H17, H18, HS0, HS1⟩
  isplitl [HS0 HS1 Hg]
  · isplitl [HS0 HS1]
    · isplitl [HS0]; · iapply (owns_of_cover c _ VS0_0 _ (coverB_s0 m c t hc (prev m c t))); iexact HS0
      iapply (owns_of_cover c _ VS0_1 _ (coverB_s1 m c t hc (prev m c t))); iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iapply (owns_of_cover c _ VO0_13 _ (coverB_13 m c t hc (prev m c t))); iexact H13
  isplitl [H14]; · iapply (owns_of_cover c _ VO0_14 _ (coverB_14 m c t hc (prev m c t))); iexact H14
  isplitl [H15]; · iapply (owns_of_cover c _ VO0_15 _ (coverB_15 m c t hc (prev m c t))); iexact H15
  isplitl [H16]; · iapply (owns_of_cover c _ VO0_16 _ (coverB_16 m c t hc (prev m c t))); iexact H16
  isplitl [H17]; · iapply (owns_of_cover c _ VO0_17 _ (coverB_17 m c t hc (prev m c t))); iexact H17
  iapply (owns_of_cover c _ VO0_18 _ (coverB_18 m c t hc (prev m c t))); iexact H18

set_option maxHeartbeats 4000000 in
/-- The body at a later head's first point. -/
theorem bodyD (c : Dev nD) (t : Fin cfg0.N) (h0 : ¬t.val = 0) (h : t.val % 33 = 0) :
    bodyPre m c t ⊢ wp frame (wpE (defs₀ (F := F)) Variants.none c none) Set.univ (bodyAt0 t) (fun _ => bodyPost m c t) := by
  have hc := caseD t h0 h
  unfold bodyPre bodyPost bodyAt0
  simp only [before0_0, before0_1, before0_2, before0_3, before0_4, before0_5, before0_6, before0_7, before0_8, before0_9, before0_10, before0_11, before0_12, leaves0_0 m c t, leaves0_1 m c t, leaves0_2 m c t, leaves0_3 m c t, leaves0_4 m c t, leaves0_5 m c t, leaves0_6 m c t, leaves0_7 m c t, leaves0_8 m c t, leaves0_9 m c t, leaves0_10 m c t, leaves0_11 m c t, leaves0_12 m c t]
  rw [show (dats m 0 c).owesAt () t.succ = (dats m 0 c).owesAt () t.castSucc from rfl]
  rw [show (dats m 0 c).Φ t.succ = PhiS m c (t.val + 1) t.isLt from rfl, PhiS_succ]
  rw [leaves0_13 m c t (liveAt0_13_D t hc.1 hc.2.1 hc.2.2.1 hc.2.2.2), leaves0_14 m c t (liveAt0_14_D t hc.1 hc.2.1 hc.2.2.1 hc.2.2.2), leaves0_15 m c t (liveAt0_15_D t hc.1 hc.2.1 hc.2.2.1 hc.2.2.2), leaves0_16 m c t (liveAt0_16_D t hc.1 hc.2.1 hc.2.2.1 hc.2.2.2), leaves0_17 m c t (liveAt0_17_D t hc.1 hc.2.1 hc.2.2.1 hc.2.2.2), leaves0_18 m c t (liveAt0_18_D t hc.1 hc.2.1 hc.2.2.1 hc.2.2.2)]
  rw [PhiS_castSucc m c t, PhiS_pos m c _ _ (h0)]
  have b16 := before0_16 m c t (notFresh0_16_D t hc.1 hc.2.1 hc.2.2.1 hc.2.2.2)
  have b17 := before0_17 m c t (notFresh0_17_D t hc.1 hc.2.1 hc.2.2.1 hc.2.2.2)
  have b18 := before0_18 m c t (notFresh0_18_D t hc.1 hc.2.1 hc.2.2.1 hc.2.2.2)
  simp only [b16, b17, b18]
  rw [outsAt0_D m c t h0 h]
  unfold leftD outD_13 outD_14 outD_15 outD_16 outD_17 outD_18 outD_s0 outD_s1; dsimp only
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply ((runD m c t hc (prev m c t)).2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexact H16
  isplitl [H17]; · iexact H17
  isplitl [H18]; · iexact H18
  isplitl [HS0]; · iexists _; iexact HS0
  isplitl [HS1]; · iexists _; iexact HS1
  iintro ⟨H0, H1, H2, H3, H4, H5, H6, H7, H8, H9, H10, H11, H12, H13, H14, H15, H16, H17, H18, HS0, HS1⟩
  isplitl [HS0 HS1 Hg]
  · isplitl [HS0 HS1]
    · isplitl [HS0]; · iapply (owns_of_cover c _ VS0_0 _ (coverD_s0 m c t hc (prev m c t))); iexact HS0
      iapply (owns_of_cover c _ VS0_1 _ (coverD_s1 m c t hc (prev m c t))); iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iapply (owns_of_cover c _ VO0_13 _ (coverD_13 m c t hc (prev m c t))); iexact H13
  isplitl [H14]; · iapply (owns_of_cover c _ VO0_14 _ (coverD_14 m c t hc (prev m c t))); iexact H14
  isplitl [H15]; · iapply (owns_of_cover c _ VO0_15 _ (coverD_15 m c t hc (prev m c t))); iexact H15
  isplitl [H16]; · iapply (owns_of_cover c _ VO0_16 _ (coverD_16 m c t hc (prev m c t))); iexact H16
  isplitl [H17]; · iapply (owns_of_cover c _ VO0_17 _ (coverD_17 m c t hc (prev m c t))); iexact H17
  iapply (owns_of_cover c _ VO0_18 _ (coverD_18 m c t hc (prev m c t))); iexact H18

set_option maxHeartbeats 4000000 in
/-- The body at a head's last point. -/
theorem bodyC (c : Dev nD) (t : Fin cfg0.N) (h' : t.val % 33 = 32) :
    bodyPre m c t ⊢ wp frame (wpE (defs₀ (F := F)) Variants.none c none) Set.univ (bodyAt0 t) (fun _ => bodyPost m c t) := by
  have hc := caseC t h'
  unfold bodyPre bodyPost bodyAt0
  simp only [before0_0, before0_1, before0_2, before0_3, before0_4, before0_5, before0_6, before0_7, before0_8, before0_9, before0_10, before0_11, before0_12, leaves0_0 m c t, leaves0_1 m c t, leaves0_2 m c t, leaves0_3 m c t, leaves0_4 m c t, leaves0_5 m c t, leaves0_6 m c t, leaves0_7 m c t, leaves0_8 m c t, leaves0_9 m c t, leaves0_10 m c t, leaves0_11 m c t, leaves0_12 m c t]
  rw [show (dats m 0 c).owesAt () t.succ = (dats m 0 c).owesAt () t.castSucc from rfl]
  rw [show (dats m 0 c).Φ t.succ = PhiS m c (t.val + 1) t.isLt from rfl, PhiS_succ]
  rw [leaves0_14 m c t (liveAt0_14_C t hc.1 hc.2.1 hc.2.2.1 hc.2.2.2), leaves0_15 m c t (liveAt0_15_C t hc.1 hc.2.1 hc.2.2.1 hc.2.2.2)]
  rw [PhiS_castSucc m c t, PhiS_pos m c _ _ (by rintro h0; rw [h0] at h'; exact absurd h' (by decide))]
  have b13 := before0_13 m c t (notFresh0_13_C t hc.1 hc.2.1 hc.2.2.1 hc.2.2.2)
  have b16 := before0_16 m c t (notFresh0_16_C t hc.1 hc.2.1 hc.2.2.1 hc.2.2.2)
  have b17 := before0_17 m c t (notFresh0_17_C t hc.1 hc.2.1 hc.2.2.1 hc.2.2.2)
  have b18 := before0_18 m c t (notFresh0_18_C t hc.1 hc.2.1 hc.2.2.1 hc.2.2.2)
  have a13 : (dats m 0 c).after 13 t = (prev m c t).1 := by rw [after0_13, outsAt0_C m c t h']; rfl
  have a16 : (dats m 0 c).after 16 t = (prev m c t).2.2.2.1 := by rw [after0_16, outsAt0_C m c t h']; rfl
  have a17 : (dats m 0 c).after 17 t = (prev m c t).2.2.2.2.1 := by rw [after0_17, outsAt0_C m c t h']; rfl
  have a18 : (dats m 0 c).after 18 t = (prev m c t).2.2.2.2.2.1 := by rw [after0_18, outsAt0_C m c t h']; rfl
  simp only [b13, b16, b17, b18]
  rw [outsAt0_C m c t h']
  unfold leftC outC_14 outC_15; dsimp only
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply ((runC m c t hc (prev m c t)).2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexact H16
  isplitl [H17]; · iexact H17
  isplitl [H18]; · iexact H18
  isplitl [HS0]; · iexact HS0
  isplitl [HS1]; · iexact HS1
  iintro ⟨H0, H1, H2, H3, H4, H5, H6, H7, H8, H9, H10, H11, H12, H13, H14, H15, H16, H17, H18, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iapply (leaves_kept m c 13 t (fun d => (b13 d).trans a13.symm) d13); rw [a13]; iexact H13
  isplitl [H14]; · iapply (owns_of_cover c _ VO0_14 _ (coverC_14 m c t hc (prev m c t))); iexact H14
  isplitl [H15]; · iapply (owns_of_cover c _ VO0_15 _ (coverC_15 m c t hc (prev m c t))); iexact H15
  isplitl [H16]; · iapply (leaves_kept m c 16 t (fun d => (b16 d).trans a16.symm) d16); rw [a16]; iexact H16
  isplitl [H17]; · iapply (leaves_kept m c 17 t (fun d => (b17 d).trans a17.symm) d17); rw [a17]; iexact H17
  iapply (leaves_kept m c 18 t (fun d => (b18 d).trans a18.symm) d18); rw [a18]; iexact H18

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact bodyA m c t h0
  by_cases h : t.val % 33 = 0
  · exact bodyD m c t h0 h
  by_cases h' : t.val % 33 = 32
  · exact bodyC m c t h'
  · exact bodyB m c t h h'

end Cert.KernelIdeal.Gen

end
-- ==== Proof.Run.Frame.lean ====
/-
The launch: the pipeline's run from the body at every point, with every array of it named, and the frame.
-/
module

public import proofs.«01_k».proof.Proof.Run.Body
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 132 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: every argument ends as it was, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Gen

end
-- ==== Proof.Run.Same.lean ====
/-
  The kernel is its idealized program with the mask's constant read as the word that stands there, so the run of the
  idealized program, which is over any float values, is the kernel's too.
-/
module

public import proofs.«01_k».proof.Defs
public import proofs.«01_k».proof.Proof.Gen.Kernel
public import proofs.«01_k».proof.Proof.Run.Frame

@[expose] public section

set_option maxHeartbeats 4000000

noncomputable section

namespace Cert.Proof

open Idealize.ShloMosaic Idealize.SL.Sem

/-- A named constant read at words as the word that stands in its place. -/
@[reducible] def namedBits : Named Bits := ⟨fun _ _ {φ} w => Scalar.ofBits φ w⟩

attribute [local instance] namedBits

theorem body_eq : @Cert.Kernel.cc0_attn_bwd Bits _ _ = @Cert.KernelIdeal.cc0_attn_bwd Bits _ _ _ := rfl

theorem defs₀_eq : Cert.Kernel.defs₀ (F := Bits) = Cert.KernelIdeal.defs₀ (F := Bits) := by
  unfold Cert.Kernel.defs₀ Cert.KernelIdeal.defs₀
  refine congrArg Defs.onTc (funext fun l => funext fun a => ?_)
  obtain ⟨l, hl⟩ := l
  cases l with
  | zero => rcases a with ⟨t, s⟩; exact rfl
  | succ l => exact absurd hl (Nat.not_lt.2 (Nat.le_add_left _ _))

theorem defs_eq : Cert.Kernel.defs (F := Bits) = Cert.KernelIdeal.defs (F := Bits) :=
  congrArg (Pipeline.defs _) defs₀_eq

theorem main_eq : Cert.Kernel.main (F := Bits) = Cert.KernelIdeal.main (F := Bits) := rfl

/-- The kernel's frame. -/
theorem frame_p : Cert.quiescent_Kernel := fun m ρ _ => by
  have e : θ_run (Cert.Kernel.defs (F := Bits)) (onTc (τ := Cert.Kernel.τ) (Cert.Kernel.main (F := Bits)))
      = θ_run (Cert.KernelIdeal.defs (F := Bits)) (onTc (τ := Cert.KernelIdeal.τ) (Cert.KernelIdeal.main (F := Bits))) :=
    congrArg₂ (fun d p => θ_run d (onTc (τ := Cert.KernelIdeal.τ) p)) defs_eq main_eq
  rw [e]
  exact (θ_run (Cert.KernelIdeal.defs (F := Bits)) _ _).mono (fun _ h => ⟨fun c => h.1 c, h.2⟩)
    (Cert.KernelIdeal.Gen.frame (F := Bits) m ρ)

end Cert.Proof

end
-- ==== Proof.Val.Point.lean ====
/-
  One grid point of the kernel: the values the body computes from what it reads, by the names the body gives them, and
  what its stores leave.
-/
module

public import proofs.«01_k».proof.Proof.Run.Points
public import Idealize.ShloMosaic.Lib.Pipeline.ValueKit

@[expose] public section

set_option maxRecDepth 16384

noncomputable section

namespace Cert.Attn

open Idealize.ShloMosaic Idealize.ShloMosaic.TcCoe Idealize.SL.Sem Cert.KernelIdeal Cert.KernelIdeal.Gen

variable {F : FTy → Type} [FloatOps F] [Named F]

/-- What the body reads at a grid point: the two coordinates, four sinks, the query's four column groups, the keys and
    values of the block and of the one before, the cosines and sines of both, the gains, the derivative's four column groups. -/
structure Pt (F : FTy → Type) where
  (a0 a1 : BitVec 32)
  (s0 s1 s2 s3 : Elt F .f32)
  (z0 z1 z2 z3 kc kp vc vp cc sc cp sp : Vec F S128x128 .f32)
  (qg kg : Vec F S1x128 .f32)
  (d0 d1 d2 d3 : Vec F S128x128 .f32)

namespace Pt

variable (x : Pt F)

def v0 : IVec S1x128 32 := iota .tc S1x128 32 [1] iota_S1x128_d1_w32
def v16 : FVec F S128x128 .f32 := k0_pay8 x.cc
def v18 : FVec F S128x128 .f32 := k0_pay9 x.sc
def v20 : FVec F S128x128 .f32 := k0_pay10 x.cp
def v22 : FVec F S128x128 .f32 := k0_pay11 x.sp
def v33 : FVec F S128x1 .f32 := k0_pay12 x.kc
def v35 : FVec F S128x128 .f32 := k0_pay13 x.kc
def v37 : FVec F S128x128 .f32 := k0_pay14 x.kg x.kc
def v46 : FVec F S128x1 .f32 := k0_pay15 x.kp
def v48 : FVec F S128x128 .f32 := k0_pay16 x.kp
def v50 : FVec F S128x128 .f32 := k0_pay17 x.kg x.kp
def v51 : FVec F S128x128 .f32 := k0_pay18 x.cp x.kg x.kp
def v78 : FVec F S256x128 .bf16 :=
  k0_pay19 x.v16 x.v18 x.v22 x.v37 x.v50 x.v51 (iota .tc S128x128 32 [1] iota_S128x128_d1_w32)
def v82 : FVec F S256x128 .bf16 := k0_pay20 x.vp x.vc
def v83 : FVec F S512x128 .f32 := k0_pay21 x.v16
def v84 : FVec F S512x128 .f32 := k0_pay22 x.v18
def v89 : FVec F S512x128 .f32 := k0_pay23 x.z0 x.z1 x.z2 x.z3
def v90 : FVec F S512x128 .f32 := k0_pay24 x.z0 x.z1 x.z2 x.z3
def v97 : FVec F S512x1 .f32 := k0_pay25 x.v90
def v99 : FVec F S512x128 .f32 := k0_pay26 x.v89 x.v90
def v115 : FVec F S512x128 .bf16 := k0_pay27 x.qg x.v83 x.v84 x.v89 x.v90
def v118 : FVec F S512x256 .f32 := k0_pay28 x.qg x.v78 x.v83 x.v84 x.v89 x.v90
def v139 : FVec F S512x256 .f32 := k0_pay31 x.a1 x.v118 k0_pay29 k0_pay30 0#32
def v179 : FVec F S512x1 .f32 := k0_pay33 x.s0 x.s1
def v208 : FVec F S512x256 .f32 := k0_pay39 x.v139 k0_pay32 x.v179 2#32 x.s2 x.s3
def v209 : FVec F S512x1 .f32 := k0_pay40 x.v139 k0_pay32 x.v179 2#32 x.s2 x.s3
def v215 : FVec F S512x128 .bf16 := k0_pay41 x.d0 x.d1 x.d2 x.d3
def v219 : FVec F S512x1 .f32 := k0_pay43 x.v82 x.v139 k0_pay32 x.v179 2#32 x.s2 x.s3 x.d0 x.d1 x.d2 x.d3
def v222 : FVec F S512x256 .f32 := k0_pay44 x.v82 x.v139 k0_pay32 x.v179 2#32 x.s2 x.s3 x.d0 x.d1 x.d2 x.d3
def v225 : FVec F S512x256 .bf16 := k0_pay45 x.v222 (Scalar.ofBits .f32 0x3DB504F3#32)
def v228 : FVec F S512x1 .f32 := k0_pay46 x.v209 x.v219
def v289 : FVec F S1x128 .f32 :=
  k0_pay50 x.a0 v0 k0_pay32 x.v228 (k0_pay47 x.a0 v0 k0_pay32 x.v209 x.v219) (k0_pay48 x.a0 v0) (k0_pay49 k0_pay32)
def v291 : FVec F S256x128 .f32 := k0_pay51 x.v115 x.v225
def v293 : FVec F S256x128 .f32 := k0_pay52 x.v208 x.v215
def v306 : FVec F S512x128 .f32 := k0_pay53 x.v78 x.v83 x.v84 x.v225
def v308 : FVec F S512x128 .f32 := k0_pay54 x.qg x.v78 x.v83 x.v84 x.v225
def v321 : FVec F S1x128 .f32 := k0_pay55 x.v99 x.v306
def v344 : FVec F S128x128 .f32 := k0_pay61 x.v20 x.v22 x.v291
def v346 : FVec F S128x128 .f32 := k0_pay62 x.v20 x.v22 x.kg x.v291
def v347 : FVec F S128x128 .f32 := k0_pay63 x.v20 x.v22 x.kg x.v48 x.v291
def v359 : FVec F S1x128 .f32 := k0_pay64 x.v48 x.v344
def v385 : FVec F S128x128 .f32 := k0_pay66 x.v16 x.v18 x.kg x.v33 x.v35 x.v291
def v388 : FVec F S1x128 .f32 := k0_pay67 x.v16 x.v18 x.v35 x.v291

def v356 : FVec F S128x128 .f32 :=
  mulf (broadcastTo S128x128 x.v46 broadcasts_S128x1_S128x128) (subf x.v346 (mulf x.v48 (broadcastTo S128x128
    (divf (shapeCast S128x1 (multiReduction .add [1] S128 x.v347 0x00000000#32 reduces_S128x128_S128 (.inl rfl) rfl)
      shapeCasts_S128_S128x1) (broadcast S128x1 (Scalar.ofBits .f32 0x43000000#32))) broadcasts_S128x1_S128x128)))
def v323 : FVec F S128x128 .bf16 := k0_pay57 x.v97 x.v99 x.v308
def v325 : FVec F S128x128 .bf16 := k0_pay58 x.v97 x.v99 x.v308
def v327 : FVec F S128x128 .bf16 := k0_pay59 x.v97 x.v99 x.v308
def v329 : FVec F S128x128 .bf16 := k0_pay60 x.v97 x.v99 x.v308

/-- What the body's stores leave from the carries `k v` and the running sums `a b e`. -/
def done (k v : Vec F S128x128 .f32) (a b e : Vec F S1x128 .f32) : Left F :=
  (View.canon [⟨Rect.unit (s := S128x512) ![0, 384] S128x128.size inb_S128x512_S128x128_0_384, x.v329⟩,
      ⟨Rect.unit (s := S128x512) ![0, 256] S128x128.size inb_S128x512_S128x128_0_256, x.v327⟩,
      ⟨Rect.unit (s := S128x512) ![0, 128] S128x128.size inb_S128x512_S128x128_0_128, x.v325⟩,
      ⟨Rect.unit (s := S128x512) ![0, 0] S128x128.size inb_S128x512_S128x128_0_0, x.v323⟩],
    k0_pay68 x.v46 x.v48 x.v346 x.v347 k, k0_pay69 x.v293 v, k0_pay72 x.v321 a, k0_pay73 x.v359 x.v388 b, k0_pay74 x.v289 e,
    k0_pay70 x.v385, k0_pay71 x.v293)

end Pt

variable (m : (ℓ : Loc nD τ sig) → Buf (Elt F) ℓ)

/-- The sink a point reads in place `k`. -/
abbrev rdS (c : Dev nD) (t : Fin cfg0.N) (h : cond0_2 (grid0.coords t)) (k : Fin 4) : Elt F .f32 :=
  ((ms0_0 t).access (Rect.unit (s := S16) (k0_off1 (grid0.coords t) (BitVec.ofNat 32 k.val)) S1.size
    (k0_off1_inb (grid0.coords t) h k))).read (Elt F) ((hs0_0 t).unread (iblk m c 0 t)) (Shape.Idx.first (numel1_S1.symm ▸ Nat.one_pos))

abbrev rdZ (c : Dev nD) (t : Fin cfg0.N) (o : ℕ) (ho : ∀ a, (![0, o] : Fin 2 → Nat) a + S128x128.size a ≤ S128x512.size a) :
    Vec F S128x128 .f32 :=
  View.readAt (Elt F) (ms0_1 t).view (Rect.unit (s := S128x512) ![0, o] S128x128.size ho).toLoadRect ((hs0_1 t).unread (iblk m c 1 t))

abbrev rdD (c : Dev nD) (t : Fin cfg0.N) (o : ℕ) (ho : ∀ a, (![0, o] : Fin 2 → Nat) a + S128x128.size a ≤ S128x512.size a) :
    Vec F S128x128 .f32 :=
  View.readAt (Elt F) (ms0_12 t).view (Rect.unit (s := S128x512) ![0, o] S128x128.size ho).toLoadRect ((hs0_12 t).unread (iblk m c 12 t))

/-- What the body reads at point `t`. -/
def pt (c : Dev nD) (t : Fin cfg0.N) (h : cond0_2 (grid0.coords t)) : Pt F where
  a0 := BitVec.ofNat 32 (grid0.coords t 0).val
  a1 := BitVec.ofNat 32 (grid0.coords t 1).val
  s0 := rdS m c t h 0
  s1 := rdS m c t h 1
  s2 := rdS m c t h 2
  s3 := rdS m c t h 3
  z0 := rdZ m c t 0 inb_S128x512_S128x128_0_0
  z1 := rdZ m c t 128 inb_S128x512_S128x128_0_128
  z2 := rdZ m c t 256 inb_S128x512_S128x128_0_256
  z3 := rdZ m c t 384 inb_S128x512_S128x128_0_384
  kc := View.readAt (Elt F) (ms0_2 t).view (Rect.unit ![0, 0] S128x128.size inb_S128x128_S128x128_0_0).toLoadRect ((hs0_2 t).unread (iblk m c 2 t))
  kp := View.readAt (Elt F) (ms0_3 t).view (Rect.unit ![0, 0] S128x128.size inb_S128x128_S128x128_0_0).toLoadRect ((hs0_3 t).unread (iblk m c 3 t))
  vc := View.readAt (Elt F) (ms0_4 t).view (Rect.unit ![0, 0] S128x128.size inb_S128x128_S128x128_0_0).toLoadRect ((hs0_4 t).unread (iblk m c 4 t))
  vp := View.readAt (Elt F) (ms0_5 t).view (Rect.unit ![0, 0] S128x128.size inb_S128x128_S128x128_0_0).toLoadRect ((hs0_5 t).unread (iblk m c 5 t))
  cc := View.readAt (Elt F) (ms0_6 t).view (Rect.unit ![0, 0] S128x128.size inb_S128x128_S128x128_0_0).toLoadRect ((hs0_6 t).unread (iblk m c 6 t))
  sc := View.readAt (Elt F) (ms0_7 t).view (Rect.unit ![0, 0] S128x128.size inb_S128x128_S128x128_0_0).toLoadRect ((hs0_7 t).unread (iblk m c 7 t))
  cp := View.readAt (Elt F) (ms0_8 t).view (Rect.unit ![0, 0] S128x128.size inb_S128x128_S128x128_0_0).toLoadRect ((hs0_8 t).unread (iblk m c 8 t))
  sp := View.readAt (Elt F) (ms0_9 t).view (Rect.unit ![0, 0] S128x128.size inb_S128x128_S128x128_0_0).toLoadRect ((hs0_9 t).unread (iblk m c 9 t))
  qg := View.readAt (Elt F) (ms0_10 t).view (Rect.unit ![0, 0] S1x128.size inb_S1x128_S1x128_0_0).toLoadRect ((hs0_10 t).unread (iblk m c 10 t))
  kg := View.readAt (Elt F) (ms0_11 t).view (Rect.unit ![0, 0] S1x128.size inb_S1x128_S1x128_0_0).toLoadRect ((hs0_11 t).unread (iblk m c 11 t))
  d0 := rdD m c t 0 inb_S128x512_S128x128_0_0
  d1 := rdD m c t 128 inb_S128x512_S128x128_0_128
  d2 := rdD m c t 256 inb_S128x512_S128x128_0_256
  d3 := rdD m c t 384 inb_S128x512_S128x128_0_384

theorem read_scr0 (x : Vec F S128x128 .f32) :
    View.read (Elt F) (View.whole cc0_scratch0) ((Memref.isWhole_whole cc0_scratch0).unread x) = x :=
  (Memref.isWhole_whole cc0_scratch0).read_unread x

theorem read_scr1 (x : Vec F S128x128 .f32) :
    View.read (Elt F) (View.whole cc0_scratch1) ((Memref.isWhole_whole cc0_scratch1).unread x) = x :=
  (Memref.isWhole_whole cc0_scratch1).read_unread x

/-! ## The body's words at the first point -/

section

variable (c : Dev nD) (t : Fin cfg0.N) (h : cond0_2 (grid0.coords t))

theorem A_v78 : kernelRun0_A.sl.v78 (F := F) c (ms0_2 t) (hs0_2 t) (ms0_3 t) (hs0_3 t) (ms0_6 t) (hs0_6 t) (ms0_7 t) (hs0_7 t) (ms0_8 t) (hs0_8 t) (ms0_9 t) (hs0_9 t) (ms0_11 t) (hs0_11 t) (iblk m c 2 t) (iblk m c 3 t) (iblk m c 6 t) (iblk m c 7 t) (iblk m c 8 t) (iblk m c 9 t) (iblk m c 11 t) = (pt m c t h).v78 := rfl
theorem A_v115 : kernelRun0_A.sl.v115 (F := F) c (ms0_1 t) (hs0_1 t) (ms0_6 t) (hs0_6 t) (ms0_7 t) (hs0_7 t) (ms0_10 t) (hs0_10 t) (iblk m c 1 t) (iblk m c 6 t) (iblk m c 7 t) (iblk m c 10 t) = (pt m c t h).v115 := rfl
theorem A_v46 : kernelRun0_A.sl.v46 (F := F) c (ms0_3 t) (hs0_3 t) (iblk m c 3 t) = (pt m c t h).v46 := rfl
theorem A_v48 : kernelRun0_A.sl.v48 (F := F) c (ms0_3 t) (hs0_3 t) (iblk m c 3 t) = (pt m c t h).v48 := rfl
theorem A_v97 : kernelRun0_A.sl.v97 (F := F) c (ms0_1 t) (hs0_1 t) (iblk m c 1 t) = (pt m c t h).v97 := rfl
theorem A_v99 : kernelRun0_A.sl.v99 (F := F) c (ms0_1 t) (hs0_1 t) (iblk m c 1 t) = (pt m c t h).v99 := rfl
theorem A_v118 : kernelRun0_A.sl.v118 (F := F) c (ms0_1 t) (hs0_1 t) (ms0_2 t) (hs0_2 t) (ms0_3 t) (hs0_3 t) (ms0_6 t) (hs0_6 t) (ms0_7 t) (hs0_7 t) (ms0_8 t) (hs0_8 t) (ms0_9 t) (hs0_9 t) (ms0_10 t) (hs0_10 t) (ms0_11 t) (hs0_11 t) (iblk m c 1 t) (iblk m c 2 t) (iblk m c 3 t) (iblk m c 6 t) (iblk m c 7 t) (iblk m c 8 t) (iblk m c 9 t) (iblk m c 10 t) (iblk m c 11 t) = (pt m c t h).v118 := congrArg (fun w => k0_pay28 (pt m c t h).qg w (pt m c t h).v83 (pt m c t h).v84 (pt m c t h).v89 (pt m c t h).v90) (A_v78 m c t h)
theorem A_v208 : kernelRun0_A.sl.v208 (F := F) c (grid0.coords t) (ms0_0 t) (hs0_0 t) (ms0_1 t) (hs0_1 t) (ms0_2 t) (hs0_2 t) (ms0_3 t) (hs0_3 t) (ms0_6 t) (hs0_6 t) (ms0_7 t) (hs0_7 t) (ms0_8 t) (hs0_8 t) (ms0_9 t) (hs0_9 t) (ms0_10 t) (hs0_10 t) (ms0_11 t) (hs0_11 t) h (iblk m c 0 t) (iblk m c 1 t) (iblk m c 2 t) (iblk m c 3 t) (iblk m c 6 t) (iblk m c 7 t) (iblk m c 8 t) (iblk m c 9 t) (iblk m c 10 t) (iblk m c 11 t) = (pt m c t h).v208 := congrArg (fun w => k0_pay39 (k0_pay31 (pt m c t h).a1 w k0_pay29 k0_pay30 0#32) k0_pay32 (pt m c t h).v179 2#32 (pt m c t h).s2 (pt m c t h).s3) (A_v118 m c t h)
theorem A_v209 : kernelRun0_A.sl.v209 (F := F) c (grid0.coords t) (ms0_0 t) (hs0_0 t) (ms0_1 t) (hs0_1 t) (ms0_2 t) (hs0_2 t) (ms0_3 t) (hs0_3 t) (ms0_6 t) (hs0_6 t) (ms0_7 t) (hs0_7 t) (ms0_8 t) (hs0_8 t) (ms0_9 t) (hs0_9 t) (ms0_10 t) (hs0_10 t) (ms0_11 t) (hs0_11 t) h (iblk m c 0 t) (iblk m c 1 t) (iblk m c 2 t) (iblk m c 3 t) (iblk m c 6 t) (iblk m c 7 t) (iblk m c 8 t) (iblk m c 9 t) (iblk m c 10 t) (iblk m c 11 t) = (pt m c t h).v209 := congrArg (fun w => k0_pay40 (k0_pay31 (pt m c t h).a1 w k0_pay29 k0_pay30 0#32) k0_pay32 (pt m c t h).v179 2#32 (pt m c t h).s2 (pt m c t h).s3) (A_v118 m c t h)
theorem A_v219 : kernelRun0_A.sl.v219 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (pt m c t h).v219 := congrArg (fun w => shapeCast S512x1 (multiReduction .add [1] S512 (mulf w (k0_pay42 (pt m c t h).v82 (pt m c t h).d0 (pt m c t h).d1 (pt m c t h).d2 (pt m c t h).d3)) 0x00000000#32 reduces_S512x256_S512 (.inl rfl) rfl) shapeCasts_S512_S512x1) (A_v208 m c t h)
theorem A_v225 : kernelRun0_A.sl.v225 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (pt m c t h).v225 := congrArg₂ (fun w u => k0_pay45 (mulf w (subf (k0_pay42 (pt m c t h).v82 (pt m c t h).d0 (pt m c t h).d1 (pt m c t h).d2 (pt m c t h).d3) (broadcastTo S512x256 u broadcasts_S512x1_S512x256))) (Scalar.ofBits .f32 0x3DB504F3#32)) (A_v208 m c t h) (A_v219 m c t h)
theorem A_v289 : kernelRun0_A.sl.v289 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (pt m c t h).v289 := congrArg₂ (fun w u => k0_pay50 (pt m c t h).a0 Pt.v0 k0_pay32 (k0_pay46 w u) (k0_pay47 (pt m c t h).a0 Pt.v0 k0_pay32 w u) (k0_pay48 (pt m c t h).a0 Pt.v0) (k0_pay49 k0_pay32)) (A_v209 m c t h) (A_v219 m c t h)
theorem A_v291 : kernelRun0_A.sl.v291 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (pt m c t h).v291 := congrArg₂ (fun w u => k0_pay51 w u) (A_v115 m c t h) (A_v225 m c t h)
theorem A_v293 : kernelRun0_A.sl.v293 (F := F) c (grid0.coords t) (ms0_0 t) (hs0_0 t) (ms0_1 t) (hs0_1 t) (ms0_2 t) (hs0_2 t) (ms0_3 t) (hs0_3 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h (iblk m c 0 t) (iblk m c 1 t) (iblk m c 2 t) (iblk m c 3 t) (iblk m c 6 t) (iblk m c 7 t) (iblk m c 8 t) (iblk m c 9 t) (iblk m c 10 t) (iblk m c 11 t) (iblk m c 12 t) = (pt m c t h).v293 := congrArg (fun w => k0_pay52 w (pt m c t h).v215) (A_v208 m c t h)
theorem A_v306 : kernelRun0_A.sl.v306 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (pt m c t h).v306 := congrArg₂ (fun w u => k0_pay53 w (pt m c t h).v83 (pt m c t h).v84 u) (A_v78 m c t h) (A_v225 m c t h)
theorem A_v308 : kernelRun0_A.sl.v308 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (pt m c t h).v308 := congrArg₂ (fun w u => k0_pay54 (pt m c t h).qg w (pt m c t h).v83 (pt m c t h).v84 u) (A_v78 m c t h) (A_v225 m c t h)
theorem A_v321 : kernelRun0_A.sl.v321 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (pt m c t h).v321 := congrArg (fun w => k0_pay55 (pt m c t h).v99 w) (A_v306 m c t h)
theorem A_v346 : kernelRun0_A.sl.v346 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (pt m c t h).v346 := congrArg (fun w => k0_pay62 (pt m c t h).v20 (pt m c t h).v22 (pt m c t h).kg w) (A_v291 m c t h)
theorem A_v347 : kernelRun0_A.sl.v347 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (pt m c t h).v347 := congrArg (fun w => k0_pay63 (pt m c t h).v20 (pt m c t h).v22 (pt m c t h).kg (pt m c t h).v48 w) (A_v291 m c t h)
theorem A_v359 : kernelRun0_A.sl.v359 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (pt m c t h).v359 := congrArg (fun w => k0_pay64 (pt m c t h).v48 (k0_pay61 (pt m c t h).v20 (pt m c t h).v22 w)) (A_v291 m c t h)
theorem A_v385 : kernelRun0_A.sl.v385 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (pt m c t h).v385 := congrArg (fun w => k0_pay66 (pt m c t h).v16 (pt m c t h).v18 (pt m c t h).kg (pt m c t h).v33 (pt m c t h).v35 w) (A_v291 m c t h)
theorem A_v388 : kernelRun0_A.sl.v388 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (pt m c t h).v388 := congrArg (fun w => k0_pay67 (pt m c t h).v16 (pt m c t h).v18 (pt m c t h).v35 w) (A_v291 m c t h)
theorem A_v356 : kernelRun0_A.sl.v356 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (pt m c t h).v356 := congrArg₂ (fun w u => mulf (broadcastTo S128x128 (pt m c t h).v46 broadcasts_S128x1_S128x128) (subf w (mulf (pt m c t h).v48 (broadcastTo S128x128 (divf (shapeCast S128x1 (multiReduction .add [1] S128 u 0x00000000#32 reduces_S128x128_S128 (.inl rfl) rfl) shapeCasts_S128_S128x1) (broadcast S128x1 (Scalar.ofBits .f32 0x43000000#32))) broadcasts_S128x1_S128x128)))) (A_v346 m c t h) (A_v347 m c t h)
theorem A_v323 : kernelRun0_A.sl.v323 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (pt m c t h).v323 := congrArg (fun w => k0_pay57 (pt m c t h).v97 (pt m c t h).v99 w) (A_v308 m c t h)
theorem A_v325 : kernelRun0_A.sl.v325 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (pt m c t h).v325 := congrArg (fun w => k0_pay58 (pt m c t h).v97 (pt m c t h).v99 w) (A_v308 m c t h)
theorem A_v327 : kernelRun0_A.sl.v327 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (pt m c t h).v327 := congrArg (fun w => k0_pay59 (pt m c t h).v97 (pt m c t h).v99 w) (A_v308 m c t h)
theorem A_v329 : kernelRun0_A.sl.v329 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (pt m c t h).v329 := congrArg (fun w => k0_pay60 (pt m c t h).v97 (pt m c t h).v99 w) (A_v308 m c t h)

end

/-- The first point starts everything from zero. -/
theorem leftA_eq (c : Dev nD) (t : Fin cfg0.N) (h : conds0_A (grid0.coords t)) :
    leftA m c t h = (pt m c t h.2.2.1).done (k0_pay4 (F := F)) (k0_pay5 (F := F)) (k0_pay1 (F := F)) (k0_pay2 (F := F)) (k0_pay3 (F := F)) := by
  unfold leftA Pt.done outA_13 outA_14 outA_15 outA_16 outA_17 outA_18 outA_s0 outA_s1 runA kernelRun0_A
  simp (disch := decide) only [A_v78, A_v115, A_v46, A_v48, A_v97, A_v99, A_v118, A_v208, A_v209, A_v219, A_v225, A_v289, A_v291, A_v293, A_v306, A_v308, A_v321, A_v346, A_v347, A_v359, A_v385, A_v388, A_v356, A_v323, A_v325, A_v327, A_v329, View.read_writes_junk_eq_canon, View.canon_cons_unit_lit',
    View.ld_unit_lit', View.readCov_unit_lit', View.readCov_cons_unit_lit', View.readAt_eq_ld, Memref.IsWhole.read_unread, read_scr0, read_scr1,
    kernelRun0_A.sl.v391, kernelRun0_A.sl.v390, kernelRun0_A.sl.v389, kernelRun0_A.sl.HS0_1, kernelRun0_A.sl.v393, kernelRun0_A.sl.HS1_1, kernelRun0_A.sl.v405, kernelRun0_A.sl.H16_1, kernelRun0_A.sl.v409, kernelRun0_A.sl.H17_1, kernelRun0_A.sl.v414, kernelRun0_A.sl.H18_1]
  rfl

/-! ## The body's words at the points inside a head -/

section

variable (c : Dev nD) (t : Fin cfg0.N) (h : cond0_2 (grid0.coords t))

theorem B_v78 : kernelRun0_B.sl.v78 (F := F) c (ms0_2 t) (hs0_2 t) (ms0_3 t) (hs0_3 t) (ms0_6 t) (hs0_6 t) (ms0_7 t) (hs0_7 t) (ms0_8 t) (hs0_8 t) (ms0_9 t) (hs0_9 t) (ms0_11 t) (hs0_11 t) (iblk m c 2 t) (iblk m c 3 t) (iblk m c 6 t) (iblk m c 7 t) (iblk m c 8 t) (iblk m c 9 t) (iblk m c 11 t) = (pt m c t h).v78 := rfl
theorem B_v115 : kernelRun0_B.sl.v115 (F := F) c (ms0_1 t) (hs0_1 t) (ms0_6 t) (hs0_6 t) (ms0_7 t) (hs0_7 t) (ms0_10 t) (hs0_10 t) (iblk m c 1 t) (iblk m c 6 t) (iblk m c 7 t) (iblk m c 10 t) = (pt m c t h).v115 := rfl
theorem B_v46 : kernelRun0_B.sl.v46 (F := F) c (ms0_3 t) (hs0_3 t) (iblk m c 3 t) = (pt m c t h).v46 := rfl
theorem B_v48 : kernelRun0_B.sl.v48 (F := F) c (ms0_3 t) (hs0_3 t) (iblk m c 3 t) = (pt m c t h).v48 := rfl
theorem B_v97 : kernelRun0_B.sl.v97 (F := F) c (ms0_1 t) (hs0_1 t) (iblk m c 1 t) = (pt m c t h).v97 := rfl
theorem B_v99 : kernelRun0_B.sl.v99 (F := F) c (ms0_1 t) (hs0_1 t) (iblk m c 1 t) = (pt m c t h).v99 := rfl
theorem B_v118 : kernelRun0_B.sl.v118 (F := F) c (ms0_1 t) (hs0_1 t) (ms0_2 t) (hs0_2 t) (ms0_3 t) (hs0_3 t) (ms0_6 t) (hs0_6 t) (ms0_7 t) (hs0_7 t) (ms0_8 t) (hs0_8 t) (ms0_9 t) (hs0_9 t) (ms0_10 t) (hs0_10 t) (ms0_11 t) (hs0_11 t) (iblk m c 1 t) (iblk m c 2 t) (iblk m c 3 t) (iblk m c 6 t) (iblk m c 7 t) (iblk m c 8 t) (iblk m c 9 t) (iblk m c 10 t) (iblk m c 11 t) = (pt m c t h).v118 := congrArg (fun w => k0_pay28 (pt m c t h).qg w (pt m c t h).v83 (pt m c t h).v84 (pt m c t h).v89 (pt m c t h).v90) (B_v78 m c t h)
theorem B_v208 : kernelRun0_B.sl.v208 (F := F) c (grid0.coords t) (ms0_0 t) (hs0_0 t) (ms0_1 t) (hs0_1 t) (ms0_2 t) (hs0_2 t) (ms0_3 t) (hs0_3 t) (ms0_6 t) (hs0_6 t) (ms0_7 t) (hs0_7 t) (ms0_8 t) (hs0_8 t) (ms0_9 t) (hs0_9 t) (ms0_10 t) (hs0_10 t) (ms0_11 t) (hs0_11 t) h (iblk m c 0 t) (iblk m c 1 t) (iblk m c 2 t) (iblk m c 3 t) (iblk m c 6 t) (iblk m c 7 t) (iblk m c 8 t) (iblk m c 9 t) (iblk m c 10 t) (iblk m c 11 t) = (pt m c t h).v208 := congrArg (fun w => k0_pay39 (k0_pay31 (pt m c t h).a1 w k0_pay29 k0_pay30 0#32) k0_pay32 (pt m c t h).v179 2#32 (pt m c t h).s2 (pt m c t h).s3) (B_v118 m c t h)
theorem B_v209 : kernelRun0_B.sl.v209 (F := F) c (grid0.coords t) (ms0_0 t) (hs0_0 t) (ms0_1 t) (hs0_1 t) (ms0_2 t) (hs0_2 t) (ms0_3 t) (hs0_3 t) (ms0_6 t) (hs0_6 t) (ms0_7 t) (hs0_7 t) (ms0_8 t) (hs0_8 t) (ms0_9 t) (hs0_9 t) (ms0_10 t) (hs0_10 t) (ms0_11 t) (hs0_11 t) h (iblk m c 0 t) (iblk m c 1 t) (iblk m c 2 t) (iblk m c 3 t) (iblk m c 6 t) (iblk m c 7 t) (iblk m c 8 t) (iblk m c 9 t) (iblk m c 10 t) (iblk m c 11 t) = (pt m c t h).v209 := congrArg (fun w => k0_pay40 (k0_pay31 (pt m c t h).a1 w k0_pay29 k0_pay30 0#32) k0_pay32 (pt m c t h).v179 2#32 (pt m c t h).s2 (pt m c t h).s3) (B_v118 m c t h)
theorem B_v219 : kernelRun0_B.sl.v219 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (pt m c t h).v219 := congrArg (fun w => shapeCast S512x1 (multiReduction .add [1] S512 (mulf w (k0_pay42 (pt m c t h).v82 (pt m c t h).d0 (pt m c t h).d1 (pt m c t h).d2 (pt m c t h).d3)) 0x00000000#32 reduces_S512x256_S512 (.inl rfl) rfl) shapeCasts_S512_S512x1) (B_v208 m c t h)
theorem B_v225 : kernelRun0_B.sl.v225 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (pt m c t h).v225 := congrArg₂ (fun w u => k0_pay45 (mulf w (subf (k0_pay42 (pt m c t h).v82 (pt m c t h).d0 (pt m c t h).d1 (pt m c t h).d2 (pt m c t h).d3) (broadcastTo S512x256 u broadcasts_S512x1_S512x256))) (Scalar.ofBits .f32 0x3DB504F3#32)) (B_v208 m c t h) (B_v219 m c t h)
theorem B_v289 : kernelRun0_B.sl.v289 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (pt m c t h).v289 := congrArg₂ (fun w u => k0_pay50 (pt m c t h).a0 Pt.v0 k0_pay32 (k0_pay46 w u) (k0_pay47 (pt m c t h).a0 Pt.v0 k0_pay32 w u) (k0_pay48 (pt m c t h).a0 Pt.v0) (k0_pay49 k0_pay32)) (B_v209 m c t h) (B_v219 m c t h)
theorem B_v291 : kernelRun0_B.sl.v291 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (pt m c t h).v291 := congrArg₂ (fun w u => k0_pay51 w u) (B_v115 m c t h) (B_v225 m c t h)
theorem B_v293 : kernelRun0_B.sl.v293 (F := F) c (grid0.coords t) (ms0_0 t) (hs0_0 t) (ms0_1 t) (hs0_1 t) (ms0_2 t) (hs0_2 t) (ms0_3 t) (hs0_3 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h (iblk m c 0 t) (iblk m c 1 t) (iblk m c 2 t) (iblk m c 3 t) (iblk m c 6 t) (iblk m c 7 t) (iblk m c 8 t) (iblk m c 9 t) (iblk m c 10 t) (iblk m c 11 t) (iblk m c 12 t) = (pt m c t h).v293 := congrArg (fun w => k0_pay52 w (pt m c t h).v215) (B_v208 m c t h)
theorem B_v306 : kernelRun0_B.sl.v306 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (pt m c t h).v306 := congrArg₂ (fun w u => k0_pay53 w (pt m c t h).v83 (pt m c t h).v84 u) (B_v78 m c t h) (B_v225 m c t h)
theorem B_v308 : kernelRun0_B.sl.v308 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (pt m c t h).v308 := congrArg₂ (fun w u => k0_pay54 (pt m c t h).qg w (pt m c t h).v83 (pt m c t h).v84 u) (B_v78 m c t h) (B_v225 m c t h)
theorem B_v321 : kernelRun0_B.sl.v321 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (pt m c t h).v321 := congrArg (fun w => k0_pay55 (pt m c t h).v99 w) (B_v306 m c t h)
theorem B_v346 : kernelRun0_B.sl.v346 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (pt m c t h).v346 := congrArg (fun w => k0_pay62 (pt m c t h).v20 (pt m c t h).v22 (pt m c t h).kg w) (B_v291 m c t h)
theorem B_v347 : kernelRun0_B.sl.v347 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (pt m c t h).v347 := congrArg (fun w => k0_pay63 (pt m c t h).v20 (pt m c t h).v22 (pt m c t h).kg (pt m c t h).v48 w) (B_v291 m c t h)
theorem B_v359 : kernelRun0_B.sl.v359 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (pt m c t h).v359 := congrArg (fun w => k0_pay64 (pt m c t h).v48 (k0_pay61 (pt m c t h).v20 (pt m c t h).v22 w)) (B_v291 m c t h)
theorem B_v385 : kernelRun0_B.sl.v385 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (pt m c t h).v385 := congrArg (fun w => k0_pay66 (pt m c t h).v16 (pt m c t h).v18 (pt m c t h).kg (pt m c t h).v33 (pt m c t h).v35 w) (B_v291 m c t h)
theorem B_v388 : kernelRun0_B.sl.v388 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (pt m c t h).v388 := congrArg (fun w => k0_pay67 (pt m c t h).v16 (pt m c t h).v18 (pt m c t h).v35 w) (B_v291 m c t h)
theorem B_v356 : kernelRun0_B.sl.v356 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (pt m c t h).v356 := congrArg₂ (fun w u => mulf (broadcastTo S128x128 (pt m c t h).v46 broadcasts_S128x1_S128x128) (subf w (mulf (pt m c t h).v48 (broadcastTo S128x128 (divf (shapeCast S128x1 (multiReduction .add [1] S128 u 0x00000000#32 reduces_S128x128_S128 (.inl rfl) rfl) shapeCasts_S128_S128x1) (broadcast S128x1 (Scalar.ofBits .f32 0x43000000#32))) broadcasts_S128x1_S128x128)))) (B_v346 m c t h) (B_v347 m c t h)
theorem B_v323 : kernelRun0_B.sl.v323 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (pt m c t h).v323 := congrArg (fun w => k0_pay57 (pt m c t h).v97 (pt m c t h).v99 w) (B_v308 m c t h)
theorem B_v325 : kernelRun0_B.sl.v325 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (pt m c t h).v325 := congrArg (fun w => k0_pay58 (pt m c t h).v97 (pt m c t h).v99 w) (B_v308 m c t h)
theorem B_v327 : kernelRun0_B.sl.v327 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (pt m c t h).v327 := congrArg (fun w => k0_pay59 (pt m c t h).v97 (pt m c t h).v99 w) (B_v308 m c t h)
theorem B_v329 : kernelRun0_B.sl.v329 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (pt m c t h).v329 := congrArg (fun w => k0_pay60 (pt m c t h).v97 (pt m c t h).v99 w) (B_v308 m c t h)

end

/-- A point inside a head goes on from what the point before left. -/
theorem leftB_eq (c : Dev nD) (t : Fin cfg0.N) (h : conds0_B (grid0.coords t)) (p : Left F) :
    leftB m c t h p = (pt m c t h.2.2.1).done p.2.2.2.2.2.2.1 p.2.2.2.2.2.2.2 p.2.2.2.1 p.2.2.2.2.1 p.2.2.2.2.2.1 := by
  unfold leftB Pt.done outB_13 outB_14 outB_15 outB_16 outB_17 outB_18 outB_s0 outB_s1 runB kernelRun0_B
  simp (disch := decide) only [B_v78, B_v115, B_v46, B_v48, B_v97, B_v99, B_v118, B_v208, B_v209, B_v219, B_v225, B_v289, B_v291, B_v293, B_v306, B_v308, B_v321, B_v346, B_v347, B_v359, B_v385, B_v388, B_v356, B_v323, B_v325, B_v327, B_v329, View.read_writes_junk_eq_canon, View.canon_cons_unit_lit',
    View.ld_unit_lit', View.readCov_unit_lit', View.readCov_cons_unit_lit', View.readAt_eq_ld, Memref.IsWhole.read_unread, read_scr0, read_scr1,
    kernelRun0_B.sl.v391, kernelRun0_B.sl.v390]
  rfl

/-! ## The body's words at the later heads' first points -/

section

variable (c : Dev nD) (t : Fin cfg0.N) (h : cond0_2 (grid0.coords t))

theorem D_v78 : kernelRun0_D.sl.v78 (F := F) c (ms0_2 t) (hs0_2 t) (ms0_3 t) (hs0_3 t) (ms0_6 t) (hs0_6 t) (ms0_7 t) (hs0_7 t) (ms0_8 t) (hs0_8 t) (ms0_9 t) (hs0_9 t) (ms0_11 t) (hs0_11 t) (iblk m c 2 t) (iblk m c 3 t) (iblk m c 6 t) (iblk m c 7 t) (iblk m c 8 t) (iblk m c 9 t) (iblk m c 11 t) = (pt m c t h).v78 := rfl
theorem D_v115 : kernelRun0_D.sl.v115 (F := F) c (ms0_1 t) (hs0_1 t) (ms0_6 t) (hs0_6 t) (ms0_7 t) (hs0_7 t) (ms0_10 t) (hs0_10 t) (iblk m c 1 t) (iblk m c 6 t) (iblk m c 7 t) (iblk m c 10 t) = (pt m c t h).v115 := rfl
theorem D_v46 : kernelRun0_D.sl.v46 (F := F) c (ms0_3 t) (hs0_3 t) (iblk m c 3 t) = (pt m c t h).v46 := rfl
theorem D_v48 : kernelRun0_D.sl.v48 (F := F) c (ms0_3 t) (hs0_3 t) (iblk m c 3 t) = (pt m c t h).v48 := rfl
theorem D_v97 : kernelRun0_D.sl.v97 (F := F) c (ms0_1 t) (hs0_1 t) (iblk m c 1 t) = (pt m c t h).v97 := rfl
theorem D_v99 : kernelRun0_D.sl.v99 (F := F) c (ms0_1 t) (hs0_1 t) (iblk m c 1 t) = (pt m c t h).v99 := rfl
theorem D_v118 : kernelRun0_D.sl.v118 (F := F) c (ms0_1 t) (hs0_1 t) (ms0_2 t) (hs0_2 t) (ms0_3 t) (hs0_3 t) (ms0_6 t) (hs0_6 t) (ms0_7 t) (hs0_7 t) (ms0_8 t) (hs0_8 t) (ms0_9 t) (hs0_9 t) (ms0_10 t) (hs0_10 t) (ms0_11 t) (hs0_11 t) (iblk m c 1 t) (iblk m c 2 t) (iblk m c 3 t) (iblk m c 6 t) (iblk m c 7 t) (iblk m c 8 t) (iblk m c 9 t) (iblk m c 10 t) (iblk m c 11 t) = (pt m c t h).v118 := congrArg (fun w => k0_pay28 (pt m c t h).qg w (pt m c t h).v83 (pt m c t h).v84 (pt m c t h).v89 (pt m c t h).v90) (D_v78 m c t h)
theorem D_v208 : kernelRun0_D.sl.v208 (F := F) c (grid0.coords t) (ms0_0 t) (hs0_0 t) (ms0_1 t) (hs0_1 t) (ms0_2 t) (hs0_2 t) (ms0_3 t) (hs0_3 t) (ms0_6 t) (hs0_6 t) (ms0_7 t) (hs0_7 t) (ms0_8 t) (hs0_8 t) (ms0_9 t) (hs0_9 t) (ms0_10 t) (hs0_10 t) (ms0_11 t) (hs0_11 t) h (iblk m c 0 t) (iblk m c 1 t) (iblk m c 2 t) (iblk m c 3 t) (iblk m c 6 t) (iblk m c 7 t) (iblk m c 8 t) (iblk m c 9 t) (iblk m c 10 t) (iblk m c 11 t) = (pt m c t h).v208 := congrArg (fun w => k0_pay39 (k0_pay31 (pt m c t h).a1 w k0_pay29 k0_pay30 0#32) k0_pay32 (pt m c t h).v179 2#32 (pt m c t h).s2 (pt m c t h).s3) (D_v118 m c t h)
theorem D_v209 : kernelRun0_D.sl.v209 (F := F) c (grid0.coords t) (ms0_0 t) (hs0_0 t) (ms0_1 t) (hs0_1 t) (ms0_2 t) (hs0_2 t) (ms0_3 t) (hs0_3 t) (ms0_6 t) (hs0_6 t) (ms0_7 t) (hs0_7 t) (ms0_8 t) (hs0_8 t) (ms0_9 t) (hs0_9 t) (ms0_10 t) (hs0_10 t) (ms0_11 t) (hs0_11 t) h (iblk m c 0 t) (iblk m c 1 t) (iblk m c 2 t) (iblk m c 3 t) (iblk m c 6 t) (iblk m c 7 t) (iblk m c 8 t) (iblk m c 9 t) (iblk m c 10 t) (iblk m c 11 t) = (pt m c t h).v209 := congrArg (fun w => k0_pay40 (k0_pay31 (pt m c t h).a1 w k0_pay29 k0_pay30 0#32) k0_pay32 (pt m c t h).v179 2#32 (pt m c t h).s2 (pt m c t h).s3) (D_v118 m c t h)
theorem D_v219 : kernelRun0_D.sl.v219 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (pt m c t h).v219 := congrArg (fun w => shapeCast S512x1 (multiReduction .add [1] S512 (mulf w (k0_pay42 (pt m c t h).v82 (pt m c t h).d0 (pt m c t h).d1 (pt m c t h).d2 (pt m c t h).d3)) 0x00000000#32 reduces_S512x256_S512 (.inl rfl) rfl) shapeCasts_S512_S512x1) (D_v208 m c t h)
theorem D_v225 : kernelRun0_D.sl.v225 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (pt m c t h).v225 := congrArg₂ (fun w u => k0_pay45 (mulf w (subf (k0_pay42 (pt m c t h).v82 (pt m c t h).d0 (pt m c t h).d1 (pt m c t h).d2 (pt m c t h).d3) (broadcastTo S512x256 u broadcasts_S512x1_S512x256))) (Scalar.ofBits .f32 0x3DB504F3#32)) (D_v208 m c t h) (D_v219 m c t h)
theorem D_v289 : kernelRun0_D.sl.v289 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (pt m c t h).v289 := congrArg₂ (fun w u => k0_pay50 (pt m c t h).a0 Pt.v0 k0_pay32 (k0_pay46 w u) (k0_pay47 (pt m c t h).a0 Pt.v0 k0_pay32 w u) (k0_pay48 (pt m c t h).a0 Pt.v0) (k0_pay49 k0_pay32)) (D_v209 m c t h) (D_v219 m c t h)
theorem D_v291 : kernelRun0_D.sl.v291 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (pt m c t h).v291 := congrArg₂ (fun w u => k0_pay51 w u) (D_v115 m c t h) (D_v225 m c t h)
theorem D_v293 : kernelRun0_D.sl.v293 (F := F) c (grid0.coords t) (ms0_0 t) (hs0_0 t) (ms0_1 t) (hs0_1 t) (ms0_2 t) (hs0_2 t) (ms0_3 t) (hs0_3 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h (iblk m c 0 t) (iblk m c 1 t) (iblk m c 2 t) (iblk m c 3 t) (iblk m c 6 t) (iblk m c 7 t) (iblk m c 8 t) (iblk m c 9 t) (iblk m c 10 t) (iblk m c 11 t) (iblk m c 12 t) = (pt m c t h).v293 := congrArg (fun w => k0_pay52 w (pt m c t h).v215) (D_v208 m c t h)
theorem D_v306 : kernelRun0_D.sl.v306 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (pt m c t h).v306 := congrArg₂ (fun w u => k0_pay53 w (pt m c t h).v83 (pt m c t h).v84 u) (D_v78 m c t h) (D_v225 m c t h)
theorem D_v308 : kernelRun0_D.sl.v308 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (pt m c t h).v308 := congrArg₂ (fun w u => k0_pay54 (pt m c t h).qg w (pt m c t h).v83 (pt m c t h).v84 u) (D_v78 m c t h) (D_v225 m c t h)
theorem D_v321 : kernelRun0_D.sl.v321 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (pt m c t h).v321 := congrArg (fun w => k0_pay55 (pt m c t h).v99 w) (D_v306 m c t h)
theorem D_v346 : kernelRun0_D.sl.v346 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (pt m c t h).v346 := congrArg (fun w => k0_pay62 (pt m c t h).v20 (pt m c t h).v22 (pt m c t h).kg w) (D_v291 m c t h)
theorem D_v347 : kernelRun0_D.sl.v347 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (pt m c t h).v347 := congrArg (fun w => k0_pay63 (pt m c t h).v20 (pt m c t h).v22 (pt m c t h).kg (pt m c t h).v48 w) (D_v291 m c t h)
theorem D_v359 : kernelRun0_D.sl.v359 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (pt m c t h).v359 := congrArg (fun w => k0_pay64 (pt m c t h).v48 (k0_pay61 (pt m c t h).v20 (pt m c t h).v22 w)) (D_v291 m c t h)
theorem D_v385 : kernelRun0_D.sl.v385 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (pt m c t h).v385 := congrArg (fun w => k0_pay66 (pt m c t h).v16 (pt m c t h).v18 (pt m c t h).kg (pt m c t h).v33 (pt m c t h).v35 w) (D_v291 m c t h)
theorem D_v388 : kernelRun0_D.sl.v388 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (pt m c t h).v388 := congrArg (fun w => k0_pay67 (pt m c t h).v16 (pt m c t h).v18 (pt m c t h).v35 w) (D_v291 m c t h)
theorem D_v356 : kernelRun0_D.sl.v356 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (pt m c t h).v356 := congrArg₂ (fun w u => mulf (broadcastTo S128x128 (pt m c t h).v46 broadcasts_S128x1_S128x128) (subf w (mulf (pt m c t h).v48 (broadcastTo S128x128 (divf (shapeCast S128x1 (multiReduction .add [1] S128 u 0x00000000#32 reduces_S128x128_S128 (.inl rfl) rfl) shapeCasts_S128_S128x1) (broadcast S128x1 (Scalar.ofBits .f32 0x43000000#32))) broadcasts_S128x1_S128x128)))) (D_v346 m c t h) (D_v347 m c t h)
theorem D_v323 : kernelRun0_D.sl.v323 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (pt m c t h).v323 := congrArg (fun w => k0_pay57 (pt m c t h).v97 (pt m c t h).v99 w) (D_v308 m c t h)
theorem D_v325 : kernelRun0_D.sl.v325 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (pt m c t h).v325 := congrArg (fun w => k0_pay58 (pt m c t h).v97 (pt m c t h).v99 w) (D_v308 m c t h)
theorem D_v327 : kernelRun0_D.sl.v327 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (pt m c t h).v327 := congrArg (fun w => k0_pay59 (pt m c t h).v97 (pt m c t h).v99 w) (D_v308 m c t h)
theorem D_v329 : kernelRun0_D.sl.v329 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (pt m c t h).v329 := congrArg (fun w => k0_pay60 (pt m c t h).v97 (pt m c t h).v99 w) (D_v308 m c t h)

end

/-- A later head's first point starts the carries from zero. -/
theorem leftD_eq (c : Dev nD) (t : Fin cfg0.N) (h : conds0_D (grid0.coords t)) (p : Left F) :
    leftD m c t h p = (pt m c t h.2.2.1).done (k0_pay4 (F := F)) (k0_pay5 (F := F)) p.2.2.2.1 p.2.2.2.2.1 p.2.2.2.2.2.1 := by
  unfold leftD Pt.done outD_13 outD_14 outD_15 outD_16 outD_17 outD_18 outD_s0 outD_s1 runD kernelRun0_D
  simp (disch := decide) only [D_v78, D_v115, D_v46, D_v48, D_v97, D_v99, D_v118, D_v208, D_v209, D_v219, D_v225, D_v289, D_v291, D_v293, D_v306, D_v308, D_v321, D_v346, D_v347, D_v359, D_v385, D_v388, D_v356, D_v323, D_v325, D_v327, D_v329, View.read_writes_junk_eq_canon, View.canon_cons_unit_lit',
    View.ld_unit_lit', View.readCov_unit_lit', View.readCov_cons_unit_lit', View.readAt_eq_ld, Memref.IsWhole.read_unread, read_scr0, read_scr1,
    kernelRun0_D.sl.v391, kernelRun0_D.sl.v390, kernelRun0_D.sl.v389, kernelRun0_D.sl.HS0_1, kernelRun0_D.sl.v393, kernelRun0_D.sl.HS1_1]
  rfl

/-- A head's last point stores the carries. -/
theorem leftC_eq (c : Dev nD) (t : Fin cfg0.N) (h : conds0_C (grid0.coords t)) (p : Left F) :
    leftC m c t h p = (p.1, k0_pay6 p.2.2.2.2.2.2.1, k0_pay7 p.2.2.2.2.2.2.2, p.2.2.2.1, p.2.2.2.2.1, p.2.2.2.2.2.1,
      p.2.2.2.2.2.2.1, p.2.2.2.2.2.2.2) := by
  unfold leftC outC_14 outC_15 runC kernelRun0_C
  frame_out
  rw [read_scr0, read_scr1]

end Cert.Attn
end
-- ==== Proof.Math.Model.lean ====
/-
  The mathematics of the attention's backward pass in real numbers: the norm and the rotary embedding of one row with
  their derivatives, and what one block of 512 query rows (128 positions of 4 heads) and 256 key columns (the block
  before and the block itself) gives. Both programs are shown to compute these functions.
-/
module

public import Idealize.ShloMosaic.Lib.Pointwise
public import Idealize.ShloMosaic.Lib.IdealHost

@[expose] public section

noncomputable section

namespace Cert.Attn

open Idealize.ShloMosaic

/-! ## The float constants -/

/-- The norm's `1e-6`, as the float word that both programs hold. -/
def eps : ℝ := 8796093 * 2 ^ (-43 : ℤ)

/-- The scores' `1 / √128`, as the float word that both programs hold. -/
def scale : ℝ := 11863283 * 2 ^ (-27 : ℤ)

theorem ofBits_eps : Ideal.ofBits .f32 0x358637BD#32 = ((eps : ℝ) : EReal) := by
  simp [Ideal.ofBits, Ideal.ieee, -EReal.coe_mul, eps]

theorem ofBits_scale : Ideal.ofBits .f32 0x3DB504F3#32 = ((scale : ℝ) : EReal) := by
  simp [Ideal.ofBits, Ideal.ieee, -EReal.coe_mul, scale]

theorem ofBits_128 : Ideal.ofBits .f32 0x43000000#32 = ((128 : ℝ) : EReal) := by
  simp [Ideal.ofBits, Ideal.ieee, -EReal.coe_mul]; norm_num

theorem ofBits_ninf : Ideal.ofBits .f32 0xFF800000#32 = ⊥ := by
  simp [Ideal.ofBits, Ideal.ieee]

theorem eps_pos : 0 < eps := by unfold eps; positivity

/-! ## Reals among the extended reals -/

theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem div_real {y : ℝ} (h : y ≠ 0) (x : ℝ) : Ideal.div (x : EReal) (y : EReal) = ((x / y : ℝ) : EReal) := by
  rw [Ideal.div_coe h, ← EReal.coe_mul, mul_one_div]

theorem div_128 (x : ℝ) : Ideal.div (x : EReal) ((128 : ℝ) : EReal) = ((x / 128 : ℝ) : EReal) := div_real (by norm_num) x

theorem rsqrt_real {x : ℝ} (h : 0 < x) : Ideal.rsqrt (x : EReal) = (((Real.sqrt x)⁻¹ : ℝ) : EReal) := by
  rw [Ideal.rsqrt_coe, if_neg (not_lt.mpr h.le), if_neg h.ne']

theorem ite_coe (p : Prop) [Decidable p] (a b : ℝ) :
    (if p then (a : EReal) else (b : EReal)) = ((if p then a else b : ℝ) : EReal) := by split <;> rfl

theorem ite_coe_zero (p : Prop) [Decidable p] (a : ℝ) :
    (if p then (a : EReal) else 0) = ((if p then a else 0 : ℝ) : EReal) := by split <;> rfl

/-- A maximum over reals and `−∞`s with one real among them is real. -/
theorem real_of_bounds {x : EReal} {a : ℝ} (h : (a : EReal) ≤ x) (h' : x ≠ ⊤) : ∃ M : ℝ, x = (M : EReal) :=
  ⟨x.toReal, (EReal.coe_toReal h' (ne_of_gt (lt_of_lt_of_le (EReal.bot_lt_coe a) h))).symm⟩

theorem fold_max_ne_top {ι : Type} (s : Finset ι) (f : ι → EReal) (hf : ∀ i, f i ≠ ⊤) : s.fold max ⊥ f ≠ ⊤ := by
  classical
  induction s using Finset.induction_on with
  | empty => simp
  | insert a s ha ih => rw [Finset.fold_insert ha]; exact (max_lt (lt_top_iff_ne_top.mpr (hf a)) (lt_top_iff_ne_top.mpr ih)).ne

/-! ## One row of 128 lanes -/

/-- The first two groups of 16 lanes change places; the other lanes are zero. -/
def sw (y : Fin 128 → ℝ) (d : Fin 128) : ℝ :=
  if d.val < 16 then y ⟨(d.val + 128 - 112) % 128, Nat.mod_lt _ (by decide)⟩
  else if d.val < 32 then y ⟨(d.val + 128 - 16) % 128, Nat.mod_lt _ (by decide)⟩ else 0

/-- The reciprocal of the root of the mean square. -/
def rs (x : Fin 128 → ℝ) : ℝ := (Real.sqrt ((∑ k, x k * x k) / 128 + eps))⁻¹

/-- The row over its root mean square. -/
def xhat (x : Fin 128 → ℝ) (d : Fin 128) : ℝ := x d * rs x

/-- The norm with its gain. -/
def nrm (g x : Fin 128 → ℝ) (d : Fin 128) : ℝ := xhat x d * g d

/-- The rotary embedding: `c` the cosines, `s` the signed sines. -/
def rope (c s y : Fin 128 → ℝ) (d : Fin 128) : ℝ := y d * c d + sw y d * s d

/-- Its adjoint. -/
def ropeB (c s y : Fin 128 → ℝ) (d : Fin 128) : ℝ := y d * c d + sw (fun k => y k * s k) d

/-- The norm's adjoint at the row `x`. -/
def normB (g x dy : Fin 128 → ℝ) (d : Fin 128) : ℝ :=
  rs x * (dy d * g d - xhat x d * ((∑ k, dy k * g k * xhat x k) / 128))

theorem ms_pos (x : Fin 128 → ℝ) : 0 < (∑ k, x k * x k) / 128 + eps := by
  have := Finset.sum_nonneg (s := Finset.univ) fun k (_ : k ∈ Finset.univ) => mul_self_nonneg (x k)
  have := eps_pos
  positivity

/-! ## One block -/

section Block

/-- The key column `c` is in the window of the row `r`; `b` says that there is a block before. -/
def band (b : Prop) (r : Fin 512) (c : Fin 256) : Prop :=
  (c.val ≤ r.val % 128 + 128 ∧ r.val % 128 < c.val) ∧ (128 ≤ c.val ∨ b)

instance (b : Prop) [Decidable b] (r : Fin 512) (c : Fin 256) : Decidable (band b r c) := by unfold band; infer_instance

variable (b : Prop) [Decidable b] (Q D : Fin 512 → Fin 128 → ℝ) (K V : Fin 256 → Fin 128 → ℝ) (sk : Fin 512 → ℝ)

/-- The scaled score. -/
def lg (r : Fin 512) (c : Fin 256) : ℝ := (∑ d, Q r d * K c d) * scale

/-- The weight, before it is divided by the row's sum. -/
def wt (r : Fin 512) (c : Fin 256) : ℝ := if band b r c then Real.exp (lg Q K r c) else 0

/-- The row's sum, the sink's weight with it. -/
def den (r : Fin 512) : ℝ := (∑ c, wt b Q K r c) + Real.exp (sk r)

/-- The attention's probability. -/
def pr (r : Fin 512) (c : Fin 256) : ℝ := wt b Q K r c / den b Q K sk r

/-- The sink's probability. -/
def ps (r : Fin 512) : ℝ := Real.exp (sk r) / den b Q K sk r

/-- The derivative by the probability. -/
def dp (r : Fin 512) (c : Fin 256) : ℝ := ∑ d, D r d * V c d

/-- The row's weighted sum of it. -/
def rsum (r : Fin 512) : ℝ := ∑ c, pr b Q K sk r c * dp D V r c

/-- The derivative by the unscaled score. -/
def ds (r : Fin 512) (c : Fin 256) : ℝ := pr b Q K sk r c * (dp D V r c - rsum b Q D K V sk r) * scale

/-- The derivative by the sink's logit. -/
def dsink (r : Fin 512) : ℝ := (0 - ps b Q K sk r) * rsum b Q D K V sk r

/-- The derivative by the query rows. -/
def dqn (r : Fin 512) (d : Fin 128) : ℝ := ∑ c, ds b Q D K V sk r c * K c d

/-- The derivative by the key rows. -/
def dkk (c : Fin 256) (d : Fin 128) : ℝ := ∑ r, ds b Q D K V sk r c * Q r d

/-- The derivative by the value rows. -/
def dvv (c : Fin 256) (d : Fin 128) : ℝ := ∑ r, pr b Q K sk r c * D r d

theorem wt_nonneg (r : Fin 512) (c : Fin 256) : 0 ≤ wt b Q K r c := by
  unfold wt; split
  · exact (Real.exp_pos _).le
  · exact le_rfl

theorem den_pos (r : Fin 512) : 0 < den b Q K sk r :=
  add_pos_of_nonneg_of_pos (Finset.sum_nonneg fun c _ => wt_nonneg b Q K r c) (Real.exp_pos _)

theorem pr_eq_zero {r : Fin 512} {c : Fin 256} (h : ¬band b r c) : pr b Q K sk r c = 0 := by
  rw [pr, wt, if_neg h, zero_div]

theorem ds_eq_zero {r : Fin 512} {c : Fin 256} (h : ¬band b r c) : ds b Q D K V sk r c = 0 := by
  rw [ds, pr_eq_zero b Q K sk h, zero_mul, zero_mul]

end Block

end Cert.Attn
-- ==== Proof.Math.PayA.lean ====
/-
  The kernel's values before the softmax — the norms, the rotary embedding, the scores with their mask, the sinks — read
  as real numbers.
-/
module

public import proofs.«01_k».proof.Proof.Gen.KernelIdeal.Skeleton
public import proofs.«01_k».proof.Proof.Math.Model

@[expose] public section

set_option maxRecDepth 16384

noncomputable section

namespace Cert.Attn

open Idealize.ShloMosaic Cert.KernelIdeal Cert.KernelIdeal.Gen

/-! ## Lane and row numbers as words -/

theorem slt16 (d : Fin 128) : IntOp.cmpi .slt (BitVec.ofNat 32 d.val) 16#32 = BitVec.ofBool (decide (d.val < 16)) := by
  revert d; decide

theorem slt32 (d : Fin 128) : IntOp.cmpi .slt (BitVec.ofNat 32 d.val) 32#32 = BitVec.ofBool (decide (d.val < 32)) := by
  revert d; decide

/-- The kernel's exchange of the lanes, on reals. -/
theorem sw_real (y : Fin 128 → ℝ) (d : Fin 128) (a b : Fin 128) (ha : a.val = (d.val + 128 - 112) % 128)
    (hb : b.val = (d.val + 128 - 16) % 128) :
    Scalar.select (IntOp.cmpi .slt (BitVec.ofNat 32 d.val) 16#32) ((y a : ℝ) : EReal)
      (Scalar.select (IntOp.cmpi .slt (BitVec.ofNat 32 d.val) 32#32) ((y b : ℝ) : EReal) 0) = ((sw y d : ℝ) : EReal) := by
  rw [slt16, slt32, Scalar.select_decide, Scalar.select_decide, ite_coe_zero, ite_coe]
  unfold sw
  have e : a = ⟨(d.val + 128 - 112) % 128, Nat.mod_lt _ (by decide)⟩ := Fin.ext ha
  have e' : b = ⟨(d.val + 128 - 16) % 128, Nat.mod_lt _ (by decide)⟩ := Fin.ext hb
  rw [e, e']

theorem rsqrt_ms (x : Fin 128 → ℝ) :
    Ideal.rsqrt (Ideal.div (∑ k, ((x k : ℝ) : EReal) * ((x k : ℝ) : EReal)) (Ideal.ofBits .f32 0x43000000#32)
      + Ideal.ofBits .f32 0x358637BD#32) = ((rs x : ℝ) : EReal) := by
  simp only [← EReal.coe_mul, coe_sum]
  rw [ofBits_128, ofBits_eps, div_128, ← EReal.coe_add, rsqrt_real (ms_pos x)]; rfl

/-! ## The key rows -/

section Key

variable {v24 : Vec Ideal S1x128 .f32} {v25 : Vec Ideal S128x128 .f32} {g : Fin 128 → ℝ} {x : Fin 128 → Fin 128 → ℝ}

theorem pay12 (hx : ∀ r d, v25 (ix2 r d) = ((x r d : ℝ) : EReal)) (r : Fin 128) :
    k0_pay12 (F := Ideal) v25 (ix2 r 0) = ((rs (x r) : ℝ) : EReal) := by
  pointwise [k0_pay12]; simp only [hx]; exact rsqrt_ms (x r)

theorem pay13 (hx : ∀ r d, v25 (ix2 r d) = ((x r d : ℝ) : EReal)) (r d : Fin 128) :
    k0_pay13 (F := Ideal) v25 (ix2 r d) = ((xhat (x r) d : ℝ) : EReal) := by
  pointwise [k0_pay13]; rw [pay12 hx, hx, ← EReal.coe_mul]; rfl

theorem pay14 (hg : ∀ d, v24 (ix2 0 d) = ((g d : ℝ) : EReal)) (hx : ∀ r d, v25 (ix2 r d) = ((x r d : ℝ) : EReal))
    (r d : Fin 128) : k0_pay14 (F := Ideal) v24 v25 (ix2 r d) = ((nrm g (x r) d : ℝ) : EReal) := by
  pointwise [k0_pay14]; rw [pay13 hx, hg, ← EReal.coe_mul]; rfl

theorem pay15 (hx : ∀ r d, v25 (ix2 r d) = ((x r d : ℝ) : EReal)) (r : Fin 128) :
    k0_pay15 (F := Ideal) v25 (ix2 r 0) = ((rs (x r) : ℝ) : EReal) := pay12 hx r

theorem pay16 (hx : ∀ r d, v25 (ix2 r d) = ((x r d : ℝ) : EReal)) (r d : Fin 128) :
    k0_pay16 (F := Ideal) v25 (ix2 r d) = ((xhat (x r) d : ℝ) : EReal) := pay13 hx r d

theorem pay17 (hg : ∀ d, v24 (ix2 0 d) = ((g d : ℝ) : EReal)) (hx : ∀ r d, v25 (ix2 r d) = ((x r d : ℝ) : EReal))
    (r d : Fin 128) : k0_pay17 (F := Ideal) v24 v25 (ix2 r d) = ((nrm g (x r) d : ℝ) : EReal) := pay14 hg hx r d

theorem pay18 {v19 : Vec Ideal S128x128 .f32} {c : Fin 128 → Fin 128 → ℝ} (hc : ∀ r d, v19 (ix2 r d) = ((c r d : ℝ) : EReal))
    (hg : ∀ d, v24 (ix2 0 d) = ((g d : ℝ) : EReal)) (hx : ∀ r d, v25 (ix2 r d) = ((x r d : ℝ) : EReal))
    (r d : Fin 128) : k0_pay18 (F := Ideal) v19 v24 v25 (ix2 r d) = ((nrm g (x r) d * c r d : ℝ) : EReal) := by
  pointwise [k0_pay18, k0_pay10]; rw [pay17 hg hx, hc, ← EReal.coe_mul]

end Key

/-- The upper and the lower half of the 256 key columns. -/
def two {α : Type} (a b : Fin 128 → α) (c : Fin 256) : α :=
  if h : c.val < 128 then a ⟨c.val, h⟩ else b ⟨c.val - 128, by omega⟩

theorem pay19 {v16 v18 v22 v37 v50 v51 : Vec Ideal S128x128 .f32} {cc sc cp sp yc yp : Fin 128 → Fin 128 → ℝ}
    (h16 : ∀ r d, v16 (ix2 r d) = ((cc r d : ℝ) : EReal)) (h18 : ∀ r d, v18 (ix2 r d) = ((sc r d : ℝ) : EReal))
    (h22 : ∀ r d, v22 (ix2 r d) = ((sp r d : ℝ) : EReal))
    (h37 : ∀ r d, v37 (ix2 r d) = ((yc r d : ℝ) : EReal)) (h50 : ∀ r d, v50 (ix2 r d) = ((yp r d : ℝ) : EReal))
    (h51 : ∀ r d, v51 (ix2 r d) = ((yp r d * cp r d : ℝ) : EReal)) (r : Fin 256) (d : Fin 128) :
    k0_pay19 (F := Ideal) v16 v18 v22 v37 v50 v51 (iota .tc S128x128 32 [1] iota_S128x128_d1_w32) (ix2 r d)
      = ((two (fun k => rope (cp k) (sp k) (yp k)) (fun k => rope (cc k) (sc k) (yc k)) r d : ℝ) : EReal) := by
  pointwise [k0_pay19]
  unfold two
  split
  · rw [h51, h50, h50, h22, sw_real _ _ _ _ rfl rfl, ← EReal.coe_mul, ← EReal.coe_add]; rfl
  · rw [h37, h37, h37, h16, h18, sw_real _ _ _ _ rfl rfl, ← EReal.coe_mul, ← EReal.coe_mul, ← EReal.coe_add]; rfl

theorem pay20 {v79 v80 : Vec Ideal S128x128 .f32} {a b : Fin 128 → Fin 128 → ℝ}
    (h79 : ∀ r d, v79 (ix2 r d) = ((a r d : ℝ) : EReal)) (h80 : ∀ r d, v80 (ix2 r d) = ((b r d : ℝ) : EReal))
    (r : Fin 256) (d : Fin 128) :
    k0_pay20 (F := Ideal) v79 v80 (ix2 r d) = ((two a b r d : ℝ) : EReal) := by
  pointwise [k0_pay20]
  unfold two
  split
  · rw [h79]
  · rw [h80]

/-! ## The query rows: four heads of 128 positions, one below the other -/

/-- The four heads' rows stacked. -/
def four {α : Type} (a : ℕ → Fin 128 → α) (r : Fin 512) : α := a (r.val / 128) ⟨r.val % 128, Nat.mod_lt _ (by decide)⟩

theorem four_eq {α : Type} (a : ℕ → Fin 128 → α) (r : Fin 512) (n : ℕ) (k : Fin 128) (h : r.val = 128 * n + k.val) :
    four a r = a n k := by
  have := k.isLt
  have e1 : r.val / 128 = n := by omega
  have e2 : (⟨r.val % 128, Nat.mod_lt _ (by decide)⟩ : Fin 128) = k := Fin.ext (by show r.val % 128 = _; omega)
  rw [four, e1, e2]

theorem pay23 {v85 v86 v87 v88 : Vec Ideal S128x128 .f32} {a : ℕ → Fin 128 → Fin 128 → ℝ}
    (h0 : ∀ r d, v85 (ix2 r d) = ((a 0 r d : ℝ) : EReal)) (h1 : ∀ r d, v86 (ix2 r d) = ((a 1 r d : ℝ) : EReal))
    (h2 : ∀ r d, v87 (ix2 r d) = ((a 2 r d : ℝ) : EReal)) (h3 : ∀ r d, v88 (ix2 r d) = ((a 3 r d : ℝ) : EReal))
    (r : Fin 512) (d : Fin 128) :
    k0_pay23 (F := Ideal) v85 v86 v87 v88 (ix2 r d) = ((four a r d : ℝ) : EReal) := by
  pointwise [k0_pay23]
  split
  · rename_i e
    rw [h0, four_eq a r 0 ⟨r.val, e⟩ (by show r.val = _ + r.val; omega)]
  split
  · rename_i e
    rw [h1, four_eq a r 1 ⟨r.val - 128, e⟩ (by show r.val = _ + (r.val - 128); omega)]
  split
  · rename_i e
    rw [h2, four_eq a r 2 ⟨r.val - 128 - 128, e⟩ (by show r.val = _ + (r.val - 128 - 128); omega)]
  · rw [h3, four_eq a r 3 ⟨r.val - 128 - 128 - 128, by omega⟩ (by show r.val = _ + (r.val - 128 - 128 - 128); omega)]

theorem pay24 {v85 v86 v87 v88 : Vec Ideal S128x128 .f32} {x : Fin 512 → Fin 128 → ℝ}
    (h : ∀ r d, k0_pay23 (F := Ideal) v85 v86 v87 v88 (ix2 r d) = ((x r d : ℝ) : EReal)) (r : Fin 512) (d : Fin 128) :
    k0_pay24 (F := Ideal) v85 v86 v87 v88 (ix2 r d) = ((x r d * x r d : ℝ) : EReal) := by
  pointwise [k0_pay24]; rw [h, ← EReal.coe_mul]

theorem pay21 {v16 : FVec Ideal S128x128 .f32} {a : Fin 128 → Fin 128 → ℝ}
    (h : ∀ r d, v16 (ix2 r d) = ((a r d : ℝ) : EReal)) (r : Fin 512) (d : Fin 128) :
    k0_pay21 (F := Ideal) v16 (ix2 r d) = ((four (fun _ => a) r d : ℝ) : EReal) :=
  pay23 (v85 := v16) (v86 := v16) (v87 := v16) (v88 := v16) (a := fun _ => a) h h h h r d

theorem pay22 {v16 : FVec Ideal S128x128 .f32} {a : Fin 128 → Fin 128 → ℝ}
    (h : ∀ r d, v16 (ix2 r d) = ((a r d : ℝ) : EReal)) (r : Fin 512) (d : Fin 128) :
    k0_pay22 (F := Ideal) v16 (ix2 r d) = ((four (fun _ => a) r d : ℝ) : EReal) := pay21 h r d

section Query

variable {v23 : Vec Ideal S1x128 .f32} {v83 v84 v89 v90 : FVec Ideal S512x128 .f32} {g : Fin 128 → ℝ}
  {x c s : Fin 512 → Fin 128 → ℝ}

theorem pay25 (h90 : ∀ r d, v90 (ix2 r d) = ((x r d * x r d : ℝ) : EReal)) (r : Fin 512) :
    k0_pay25 (F := Ideal) v90 (ix2 r 0) = ((rs (x r) : ℝ) : EReal) := by
  pointwise [k0_pay25]; simp only [h90, EReal.coe_mul]; exact rsqrt_ms (x r)

theorem pay26 (h89 : ∀ r d, v89 (ix2 r d) = ((x r d : ℝ) : EReal))
    (h90 : ∀ r d, v90 (ix2 r d) = ((x r d * x r d : ℝ) : EReal)) (r : Fin 512) (d : Fin 128) :
    k0_pay26 (F := Ideal) v89 v90 (ix2 r d) = ((xhat (x r) d : ℝ) : EReal) := by
  pointwise [k0_pay26]; rw [pay25 h90, h89, ← EReal.coe_mul]; rfl

theorem pay27 (h23 : ∀ d, v23 (ix2 0 d) = ((g d : ℝ) : EReal)) (h83 : ∀ r d, v83 (ix2 r d) = ((c r d : ℝ) : EReal))
    (h84 : ∀ r d, v84 (ix2 r d) = ((s r d : ℝ) : EReal)) (h89 : ∀ r d, v89 (ix2 r d) = ((x r d : ℝ) : EReal))
    (h90 : ∀ r d, v90 (ix2 r d) = ((x r d * x r d : ℝ) : EReal)) (r : Fin 512) (d : Fin 128) :
    k0_pay27 (F := Ideal) v23 v83 v84 v89 v90 (ix2 r d) = ((rope (c r) (s r) (nrm g (x r)) d : ℝ) : EReal) := by
  pointwise [k0_pay27]
  simp only [pay26 h89 h90, h23, h83, h84, ← EReal.coe_mul]
  rw [sw_real (fun k => xhat (x r) k * g k) d _ _ rfl rfl, ← EReal.coe_mul, ← EReal.coe_add]; rfl

theorem pay28 {v78 : FVec Ideal S256x128 .bf16} {K : Fin 256 → Fin 128 → ℝ} {Q : Fin 512 → Fin 128 → ℝ}
    (hq : ∀ r d, k0_pay27 (F := Ideal) v23 v83 v84 v89 v90 (ix2 r d) = ((Q r d : ℝ) : EReal))
    (hk : ∀ c d, v78 (ix2 c d) = ((K c d : ℝ) : EReal)) (r : Fin 512) (c : Fin 256) :
    k0_pay28 (F := Ideal) v23 v78 v83 v84 v89 v90 (ix2 r c) = ((lg Q K r c : ℝ) : EReal) := by
  pointwise [k0_pay28]
  simp only [hq, hk, ← EReal.coe_mul, coe_sum, ofBits_scale]; rfl

end Query

/-! ## The mask -/

theorem row_word (r : Fin 512) : IntOp.andi (BitVec.ofNat 32 r.val) 127#32 = BitVec.ofNat 32 (r.val % 128) := by
  revert r; decide +kernel

theorem rel_word (q c : ℕ) (hq : q < 128) (hc : c < 256) :
    (IntOp.subi (IntOp.addi (BitVec.ofNat 32 q) 128#32) (BitVec.ofNat 32 c)).toInt = (q : ℤ) + 128 - c := by
  unfold IntOp.subi IntOp.addi
  rw [BitVec.toInt_sub, BitVec.toInt_add]
  have e1 : (BitVec.ofNat 32 q).toInt = q := by
    rw [BitVec.toInt_eq_toNat_bmod, BitVec.toNat_ofNat, Int.bmod_def]; split <;> omega
  have e2 : (BitVec.ofNat 32 c).toInt = c := by
    rw [BitVec.toInt_eq_toNat_bmod, BitVec.toNat_ofNat, Int.bmod_def]; split <;> omega
  have e3 : (128#32).toInt = 128 := by decide
  rw [e1, e2, e3]
  simp only [Int.bmod_def]
  split_ifs <;> omega

theorem ge128 (c : Fin 256) : IntOp.cmpi .sge (BitVec.ofNat 32 c.val) 128#32 = BitVec.ofBool (decide (128 ≤ c.val)) := by
  revert c; decide +kernel

theorem gt0 (i : ℕ) (hi : i < 33) : Scalar.cmpi .sgt (BitVec.ofNat 32 i) 0#32 = BitVec.ofBool (decide (0 < i)) := by
  have : ∀ i : Fin 33, Scalar.cmpi .sgt (BitVec.ofNat 32 i.val) 0#32 = BitVec.ofBool (decide (0 < i.val)) := by decide +kernel
  exact this ⟨i, hi⟩

theorem mask_word (q c : ℕ) (hq : q < 128) (hc : c < 256) :
    IntOp.andi
      (IntOp.cmpi .sge (IntOp.subi (IntOp.addi (BitVec.ofNat 32 q) 128#32) (BitVec.ofNat 32 c)) 0#32)
      (IntOp.cmpi .slt (IntOp.subi (IntOp.addi (BitVec.ofNat 32 q) 128#32) (BitVec.ofNat 32 c)) 128#32)
      = BitVec.ofBool (decide (c ≤ q + 128 ∧ q < c)) := by
  have e := rel_word q c hq hc
  generalize IntOp.subi (IntOp.addi (BitVec.ofNat 32 q) 128#32) (BitVec.ofNat 32 c) = w at e
  have h1 : IntOp.cmpi .sge w 0#32 = BitVec.ofBool (decide (c ≤ q + 128)) := by
    show BitVec.ofBool ((0#32).sle w) = _
    rw [BitVec.sle_eq_decide, e]; congr 1; simp; omega
  have h2 : IntOp.cmpi .slt w 128#32 = BitVec.ofBool (decide (q < c)) := by
    show BitVec.ofBool (w.slt 128#32) = _
    rw [BitVec.slt_eq_decide, e]; congr 1
    have : (128#32).toInt = 128 := by decide
    rw [this]; simp only [decide_eq_decide]; omega
  rw [h1, h2]
  by_cases a : c ≤ q + 128 <;> by_cases b : q < c <;> simp [a, b, IntOp.andi] <;> rfl

theorem mask_name : (Named.named (F := Ideal) (φ := .f32) κ "mask" 0xF149F2CA#32 : EReal) = ⊥ :=
  IdealRules.named_const.ideal_named_scalar _ _ _ _ rfl

theorem pay31 (i : ℕ) (hi : i < 33) {v118 : FVec Ideal S512x256 .f32} (r : Fin 512) (c : Fin 256) :
    k0_pay31 (F := Ideal) (BitVec.ofNat 32 i) v118 k0_pay29 k0_pay30 0#32 (ix2 r c)
      = if band (0 < i) r c then v118 (ix2 r c) else (⊥ : EReal) := by
  pointwise [k0_pay31, k0_pay29, k0_pay30]
  rw [row_word, mask_word _ _ (Nat.mod_lt _ (by decide)) c.isLt, ge128, gt0 i hi, mask_name]
  have : IntOp.andi (BitVec.ofBool (decide (c.val ≤ r.val % 128 + 128 ∧ r.val % 128 < c.val)))
      (IntOp.ori (BitVec.ofBool (decide (128 ≤ c.val))) (BitVec.ofBool (decide (0 < i))))
      = BitVec.ofBool (decide (band (0 < i) r c)) := by
    unfold band
    by_cases a : c.val ≤ r.val % 128 + 128 ∧ r.val % 128 < c.val <;> by_cases b : 128 ≤ c.val <;> by_cases d : 0 < i <;>
      simp [a, b, d, IntOp.andi, IntOp.ori]
  rw [this, Scalar.select_decide]

/-! ## The sinks -/

theorem pay32 (r : Fin 512) : k0_pay32 (ix2 r 0) = BitVec.ofNat 32 (r.val / 128) := by
  pointwise [k0_pay32]
  revert r; decide +kernel

theorem head_word (r : Fin 512) (n : Fin 4) :
    IntOp.cmpi .eq (BitVec.ofNat 32 (r.val / 128)) (BitVec.ofNat 32 n.val) = BitVec.ofBool (decide (r.val / 128 = n.val)) := by
  have : ∀ q n : Fin 4, IntOp.cmpi .eq (BitVec.ofNat 32 q.val) (BitVec.ofNat 32 n.val) = BitVec.ofBool (decide (q.val = n.val)) := by
    decide
  exact this ⟨r.val / 128, by omega⟩ n

/-- The row's sink. -/
theorem pay34 {v170 v177 v184 v191 : Elt Ideal .f32} {sk : ℕ → ℝ} (h0 : v170 = ((sk 0 : ℝ) : EReal))
    (h1 : v177 = ((sk 1 : ℝ) : EReal)) (h2 : v184 = ((sk 2 : ℝ) : EReal)) (h3 : v191 = ((sk 3 : ℝ) : EReal)) (r : Fin 512) :
    k0_pay34 (F := Ideal) k0_pay32 (k0_pay33 v170 v177) 2#32 v184 v191 (ix2 r 0) = ((sk (r.val / 128) : ℝ) : EReal) := by
  pointwise [k0_pay34, k0_pay33]
  simp only [pay32]
  rw [show (3#32 : BitVec 32) = BitVec.ofNat 32 (3 : Fin 4).val from rfl, show (2#32 : BitVec 32) = BitVec.ofNat 32 (2 : Fin 4).val from rfl,
    show (1#32 : BitVec 32) = BitVec.ofNat 32 (1 : Fin 4).val from rfl, show (0#32 : BitVec 32) = BitVec.ofNat 32 (0 : Fin 4).val from rfl,
    head_word, head_word, head_word, head_word, h0, h1, h2, h3]
  simp only [Scalar.select_decide]
  have : r.val / 128 < 4 := by omega
  generalize r.val / 128 = q at this
  interval_cases q <;> simp

end Cert.Attn
-- ==== Proof.Math.PayB.lean ====
/-
  The kernel's values from the softmax on — the probabilities, the derivative by the scores, the products with keys,
  queries and values, and the adjoints of the rotary embedding and of the norm — read as real numbers.
-/
module

public import proofs.«01_k».proof.Proof.Math.PayA

@[expose] public section

set_option maxRecDepth 16384

noncomputable section

namespace Cert.Attn

open Idealize.ShloMosaic Cert.KernelIdeal Cert.KernelIdeal.Gen

/-! ## The softmax -/

section Softmax

variable {b : Prop} [Decidable b] {Q D : Fin 512 → Fin 128 → ℝ} {K V : Fin 256 → Fin 128 → ℝ} {sk : Fin 512 → ℝ}
  {v139 : FVec Ideal S512x256 .f32} {v164 : IVec S512x1 32} {v179 : FVec Ideal S512x1 .f32} {c2 : BitVec 32}
  {v184 v191 : Elt Ideal .f32}

/-- The row's maximum cancels in the quotient. -/
theorem cancel_max {e : ℝ} (h : 0 < e) (M w : ℝ) : w * Real.exp (-M) * (1 / (e * Real.exp (-M))) = w / e := by
  have := (Real.exp_pos (-M)).ne'
  have := h.ne'
  field_simp

/-- The row's maximum is a real number: the sink is among its terms. -/
theorem pay35 (hs : ∀ r c, v139 (ix2 r c) = if band b r c then ((lg Q K r c : ℝ) : EReal) else (⊥ : EReal))
    (hk : ∀ r, k0_pay34 (F := Ideal) v164 v179 c2 v184 v191 (ix2 r 0) = ((sk r : ℝ) : EReal)) (r : Fin 512) :
    ∃ M : ℝ, k0_pay35 (F := Ideal) v139 v164 v179 c2 v184 v191 (ix2 r 0) = (M : EReal) := by
  pointwise [k0_pay35]
  rw [hk, ofBits_ninf]
  refine real_of_bounds (a := sk r) (le_max_right _ _) (ne_of_lt (max_lt (lt_top_iff_ne_top.mpr ?_) (EReal.coe_lt_top _)))
  refine fold_max_ne_top _ _ fun c => ?_
  rw [hs]; split
  · exact EReal.coe_ne_top _
  · exact bot_ne_top

theorem pay36 (hs : ∀ r c, v139 (ix2 r c) = if band b r c then ((lg Q K r c : ℝ) : EReal) else (⊥ : EReal))
    {r : Fin 512} {M : ℝ} (hM : k0_pay35 (F := Ideal) v139 v164 v179 c2 v184 v191 (ix2 r 0) = (M : EReal)) (c : Fin 256) :
    k0_pay36 (F := Ideal) v139 v164 v179 c2 v184 v191 (ix2 r c) = ((wt b Q K r c * Real.exp (-M) : ℝ) : EReal) := by
  pointwise [k0_pay36]
  rw [hM, hs, wt]
  split
  · rw [← EReal.coe_sub, Ideal.exp_coe, sub_eq_add_neg, Real.exp_add]
  · rw [sub_eq_add_neg, EReal.bot_add, Ideal.exp_bot, zero_mul]; rfl

theorem pay37 (hk : ∀ r, k0_pay34 (F := Ideal) v164 v179 c2 v184 v191 (ix2 r 0) = ((sk r : ℝ) : EReal))
    {r : Fin 512} {M : ℝ} (hM : k0_pay35 (F := Ideal) v139 v164 v179 c2 v184 v191 (ix2 r 0) = (M : EReal)) :
    k0_pay37 (F := Ideal) v139 v164 v179 c2 v184 v191 (ix2 r 0) = ((Real.exp (sk r) * Real.exp (-M) : ℝ) : EReal) := by
  pointwise [k0_pay37]
  rw [hM, hk, ← EReal.coe_sub, Ideal.exp_coe, sub_eq_add_neg, Real.exp_add]

theorem pay38 (hs : ∀ r c, v139 (ix2 r c) = if band b r c then ((lg Q K r c : ℝ) : EReal) else (⊥ : EReal))
    (hk : ∀ r, k0_pay34 (F := Ideal) v164 v179 c2 v184 v191 (ix2 r 0) = ((sk r : ℝ) : EReal))
    {r : Fin 512} {M : ℝ} (hM : k0_pay35 (F := Ideal) v139 v164 v179 c2 v184 v191 (ix2 r 0) = (M : EReal)) :
    k0_pay38 (F := Ideal) v139 v164 v179 c2 v184 v191 (ix2 r 0)
      = ((1 / (den b Q K sk r * Real.exp (-M)) : ℝ) : EReal) := by
  pointwise [k0_pay38]
  simp only [pay36 hs hM, coe_sum]
  rw [pay37 hk hM, ← EReal.coe_add, ← Finset.sum_mul, ← add_mul]
  exact div_real (y := den b Q K sk r * Real.exp (-M)) (mul_pos (den_pos b Q K sk r) (Real.exp_pos _)).ne' 1

theorem pay39 (hs : ∀ r c, v139 (ix2 r c) = if band b r c then ((lg Q K r c : ℝ) : EReal) else (⊥ : EReal))
    (hk : ∀ r, k0_pay34 (F := Ideal) v164 v179 c2 v184 v191 (ix2 r 0) = ((sk r : ℝ) : EReal)) (r : Fin 512) (c : Fin 256) :
    k0_pay39 (F := Ideal) v139 v164 v179 c2 v184 v191 (ix2 r c) = ((pr b Q K sk r c : ℝ) : EReal) := by
  obtain ⟨M, hM⟩ := pay35 hs hk r
  pointwise [k0_pay39]
  rw [pay36 hs hM, pay38 hs hk hM, ← EReal.coe_mul, pr]
  exact congrArg _ (cancel_max (den_pos b Q K sk r) M _)

theorem pay40 (hs : ∀ r c, v139 (ix2 r c) = if band b r c then ((lg Q K r c : ℝ) : EReal) else (⊥ : EReal))
    (hk : ∀ r, k0_pay34 (F := Ideal) v164 v179 c2 v184 v191 (ix2 r 0) = ((sk r : ℝ) : EReal)) (r : Fin 512) :
    k0_pay40 (F := Ideal) v139 v164 v179 c2 v184 v191 (ix2 r 0) = ((ps b Q K sk r : ℝ) : EReal) := by
  obtain ⟨M, hM⟩ := pay35 hs hk r
  pointwise [k0_pay40]
  rw [pay37 hk hM, pay38 hs hk hM, ← EReal.coe_mul, ps]
  exact congrArg _ (cancel_max (den_pos b Q K sk r) M _)

/-! ## The derivative by the scores -/

variable {v82 : FVec Ideal S256x128 .bf16} {v210 v211 v212 v213 : Vec Ideal S128x128 .f32}

theorem pay41 {a : ℕ → Fin 128 → Fin 128 → ℝ}
    (h0 : ∀ r d, v210 (ix2 r d) = ((a 0 r d : ℝ) : EReal)) (h1 : ∀ r d, v211 (ix2 r d) = ((a 1 r d : ℝ) : EReal))
    (h2 : ∀ r d, v212 (ix2 r d) = ((a 2 r d : ℝ) : EReal)) (h3 : ∀ r d, v213 (ix2 r d) = ((a 3 r d : ℝ) : EReal))
    (r : Fin 512) (d : Fin 128) :
    k0_pay41 (F := Ideal) v210 v211 v212 v213 (ix2 r d) = ((four a r d : ℝ) : EReal) := pay23 h0 h1 h2 h3 r d

theorem pay42 (hD : ∀ r d, k0_pay41 (F := Ideal) v210 v211 v212 v213 (ix2 r d) = ((D r d : ℝ) : EReal))
    (hV : ∀ c d, v82 (ix2 c d) = ((V c d : ℝ) : EReal)) (r : Fin 512) (c : Fin 256) :
    k0_pay42 (F := Ideal) v82 v210 v211 v212 v213 (ix2 r c) = ((dp D V r c : ℝ) : EReal) := by
  pointwise [k0_pay42]
  simp only [hD, hV, ← EReal.coe_mul, coe_sum]; rfl

theorem pay43 (hp : ∀ r c, k0_pay39 (F := Ideal) v139 v164 v179 c2 v184 v191 (ix2 r c) = ((pr b Q K sk r c : ℝ) : EReal))
    (hd : ∀ r c, k0_pay42 (F := Ideal) v82 v210 v211 v212 v213 (ix2 r c) = ((dp D V r c : ℝ) : EReal)) (r : Fin 512) :
    k0_pay43 (F := Ideal) v82 v139 v164 v179 c2 v184 v191 v210 v211 v212 v213 (ix2 r 0)
      = ((rsum b Q D K V sk r : ℝ) : EReal) := by
  pointwise [k0_pay43]
  simp only [hp, hd, ← EReal.coe_mul, coe_sum]; rfl

theorem pay45 (hp : ∀ r c, k0_pay39 (F := Ideal) v139 v164 v179 c2 v184 v191 (ix2 r c) = ((pr b Q K sk r c : ℝ) : EReal))
    (hd : ∀ r c, k0_pay42 (F := Ideal) v82 v210 v211 v212 v213 (ix2 r c) = ((dp D V r c : ℝ) : EReal)) (r : Fin 512)
    (c : Fin 256) :
    k0_pay45 (F := Ideal) (k0_pay44 v82 v139 v164 v179 c2 v184 v191 v210 v211 v212 v213) (Scalar.ofBits .f32 0x3DB504F3#32)
      (ix2 r c) = ((ds b Q D K V sk r c : ℝ) : EReal) := by
  pointwise [k0_pay45, k0_pay44]
  simp only [hp, hd, pay43 hp hd, ofBits_scale, ← EReal.coe_mul, ← EReal.coe_sub]; rfl

theorem pay46 {v209 v219 : FVec Ideal S512x1 .f32} (h209 : ∀ r, v209 (ix2 r 0) = ((ps b Q K sk r : ℝ) : EReal))
    (h219 : ∀ r, v219 (ix2 r 0) = ((rsum b Q D K V sk r : ℝ) : EReal)) (r : Fin 512) :
    k0_pay46 (F := Ideal) v209 v219 (ix2 r 0) = ((dsink b Q D K V sk r : ℝ) : EReal) := by
  pointwise [k0_pay46]
  rw [h209, h219, ← EReal.coe_zero, ← EReal.coe_sub, ← EReal.coe_mul, dsink]

end Softmax

/-! ## The products -/

section Dots

variable {s : Fin 512 → Fin 256 → ℝ} {Q : Fin 512 → Fin 128 → ℝ} {K : Fin 256 → Fin 128 → ℝ}

theorem pay51 {v115 : FVec Ideal S512x128 .bf16} {v225 : FVec Ideal S512x256 .bf16}
    (hs : ∀ r c, v225 (ix2 r c) = ((s r c : ℝ) : EReal)) (hq : ∀ r d, v115 (ix2 r d) = ((Q r d : ℝ) : EReal))
    (c : Fin 256) (d : Fin 128) : k0_pay51 (F := Ideal) v115 v225 (ix2 c d) = ((∑ r, s r c * Q r d : ℝ) : EReal) := by
  pointwise [k0_pay51]
  simp only [hs, hq, ← EReal.coe_mul, coe_sum]

theorem pay52 {v208 : FVec Ideal S512x256 .f32} {v215 : FVec Ideal S512x128 .bf16}
    (hs : ∀ r c, v208 (ix2 r c) = ((s r c : ℝ) : EReal)) (hq : ∀ r d, v215 (ix2 r d) = ((Q r d : ℝ) : EReal))
    (c : Fin 256) (d : Fin 128) : k0_pay52 (F := Ideal) v208 v215 (ix2 c d) = ((∑ r, s r c * Q r d : ℝ) : EReal) := by
  pointwise [k0_pay52]
  simp only [hs, hq, ← EReal.coe_mul, coe_sum]

/-! ## The adjoints of the rotary embedding and of the norm -/

theorem pay53 {v78 : FVec Ideal S256x128 .bf16} {v83 v84 : FVec Ideal S512x128 .f32} {v225 : FVec Ideal S512x256 .bf16}
    {c t : Fin 512 → Fin 128 → ℝ}
    (hs : ∀ r c, v225 (ix2 r c) = ((s r c : ℝ) : EReal)) (hk : ∀ c d, v78 (ix2 c d) = ((K c d : ℝ) : EReal))
    (h83 : ∀ r d, v83 (ix2 r d) = ((c r d : ℝ) : EReal)) (h84 : ∀ r d, v84 (ix2 r d) = ((t r d : ℝ) : EReal))
    (r : Fin 512) (d : Fin 128) :
    k0_pay53 (F := Ideal) v78 v83 v84 v225 (ix2 r d)
      = ((ropeB (c r) (t r) (fun d => ∑ k, s r k * K k d) d : ℝ) : EReal) := by
  pointwise [k0_pay53]
  simp only [hs, hk, h83, h84, ← EReal.coe_mul, coe_sum]
  rw [sw_real (fun d => (∑ k, s r k * K k d) * t r d) d _ _ rfl rfl, ← EReal.coe_add]; rfl

theorem pay54 {v23 : Vec Ideal S1x128 .f32} {v78 : FVec Ideal S256x128 .bf16} {v83 v84 : FVec Ideal S512x128 .f32}
    {v225 : FVec Ideal S512x256 .bf16} {g : Fin 128 → ℝ} {y : Fin 512 → Fin 128 → ℝ}
    (h23 : ∀ d, v23 (ix2 0 d) = ((g d : ℝ) : EReal))
    (h : ∀ r d, k0_pay53 (F := Ideal) v78 v83 v84 v225 (ix2 r d) = ((y r d : ℝ) : EReal)) (r : Fin 512) (d : Fin 128) :
    k0_pay54 (F := Ideal) v23 v78 v83 v84 v225 (ix2 r d) = ((y r d * g d : ℝ) : EReal) := by
  pointwise [k0_pay54]; rw [h, h23, ← EReal.coe_mul]

theorem pay55 {v99 v306 : FVec Ideal S512x128 .f32} {x y : Fin 512 → Fin 128 → ℝ}
    (h99 : ∀ r d, v99 (ix2 r d) = ((xhat (x r) d : ℝ) : EReal)) (h306 : ∀ r d, v306 (ix2 r d) = ((y r d : ℝ) : EReal))
    (d : Fin 128) : k0_pay55 (F := Ideal) v99 v306 (ix2 0 d) = ((∑ r, y r d * xhat (x r) d : ℝ) : EReal) := by
  pointwise [k0_pay55]
  simp only [h99, h306, ← EReal.coe_mul, coe_sum]

theorem pay56 {v97 : FVec Ideal S512x1 .f32} {v99 v308 : FVec Ideal S512x128 .f32} {g : Fin 128 → ℝ}
    {x y : Fin 512 → Fin 128 → ℝ} (h97 : ∀ r, v97 (ix2 r 0) = ((rs (x r) : ℝ) : EReal))
    (h99 : ∀ r d, v99 (ix2 r d) = ((xhat (x r) d : ℝ) : EReal))
    (h308 : ∀ r d, v308 (ix2 r d) = ((y r d * g d : ℝ) : EReal)) (r : Fin 512) (d : Fin 128) :
    k0_pay56 (F := Ideal) v97 v99 v308 (ix2 r d) = ((normB g (x r) (y r) d : ℝ) : EReal) := by
  pointwise [k0_pay56]
  simp only [h97, h99, h308, ← EReal.coe_mul, coe_sum, ofBits_128, div_128, ← EReal.coe_sub]; rfl

/-- The rotary embedding's adjoint on one half of the key columns; the halves differ in the offset alone. -/
theorem pay61 {v20 v22 : FVec Ideal S128x128 .f32} {v291 : FVec Ideal S256x128 .f32} {c t : Fin 128 → Fin 128 → ℝ}
    {y : Fin 256 → Fin 128 → ℝ} (h20 : ∀ r d, v20 (ix2 r d) = ((c r d : ℝ) : EReal))
    (h22 : ∀ r d, v22 (ix2 r d) = ((t r d : ℝ) : EReal)) (h : ∀ r d, v291 (ix2 r d) = ((y r d : ℝ) : EReal))
    (r d : Fin 128) : k0_pay61 (F := Ideal) v20 v22 v291 (ix2 r d)
      = ((ropeB (c r) (t r) (y ⟨r.val, by omega⟩) d : ℝ) : EReal) := by
  pointwise [k0_pay61]
  simp only [h20, h22, h, ← EReal.coe_mul]
  rw [sw_real (fun d => y ⟨r.val, by omega⟩ d * t r d) d _ _ rfl rfl, ← EReal.coe_add]; rfl

theorem pay65 {v20 v22 : FVec Ideal S128x128 .f32} {v291 : FVec Ideal S256x128 .f32} {c t : Fin 128 → Fin 128 → ℝ}
    {y : Fin 256 → Fin 128 → ℝ} (h20 : ∀ r d, v20 (ix2 r d) = ((c r d : ℝ) : EReal))
    (h22 : ∀ r d, v22 (ix2 r d) = ((t r d : ℝ) : EReal)) (h : ∀ r d, v291 (ix2 r d) = ((y r d : ℝ) : EReal))
    (r d : Fin 128) : k0_pay65 (F := Ideal) v20 v22 v291 (ix2 r d)
      = ((ropeB (c r) (t r) (y ⟨128 + r.val, by omega⟩) d : ℝ) : EReal) := by
  pointwise [k0_pay65]
  simp only [h20, h22, h, ← EReal.coe_mul]
  rw [sw_real (fun d => y ⟨128 + r.val, by omega⟩ d * t r d) d _ _ rfl rfl, ← EReal.coe_add]; rfl

theorem pay62 {v20 v22 : FVec Ideal S128x128 .f32} {v24 : Vec Ideal S1x128 .f32} {v291 : FVec Ideal S256x128 .f32}
    {g : Fin 128 → ℝ} {y : Fin 128 → Fin 128 → ℝ} (h24 : ∀ d, v24 (ix2 0 d) = ((g d : ℝ) : EReal))
    (h : ∀ r d, k0_pay61 (F := Ideal) v20 v22 v291 (ix2 r d) = ((y r d : ℝ) : EReal)) (r d : Fin 128) :
    k0_pay62 (F := Ideal) v20 v22 v24 v291 (ix2 r d) = ((y r d * g d : ℝ) : EReal) := by
  pointwise [k0_pay62]; rw [h, h24, ← EReal.coe_mul]

theorem pay63 {v20 v22 v48 : FVec Ideal S128x128 .f32} {v24 : Vec Ideal S1x128 .f32} {v291 : FVec Ideal S256x128 .f32}
    {g : Fin 128 → ℝ} {x y : Fin 128 → Fin 128 → ℝ} (h24 : ∀ d, v24 (ix2 0 d) = ((g d : ℝ) : EReal))
    (h : ∀ r d, k0_pay61 (F := Ideal) v20 v22 v291 (ix2 r d) = ((y r d : ℝ) : EReal))
    (h48 : ∀ r d, v48 (ix2 r d) = ((xhat (x r) d : ℝ) : EReal)) (r d : Fin 128) :
    k0_pay63 (F := Ideal) v20 v22 v24 v48 v291 (ix2 r d) = ((y r d * g d * xhat (x r) d : ℝ) : EReal) := by
  pointwise [k0_pay63]; rw [pay62 h24 h, h48, ← EReal.coe_mul]

theorem pay64 {v48 v344 : FVec Ideal S128x128 .f32} {x y : Fin 128 → Fin 128 → ℝ}
    (h48 : ∀ r d, v48 (ix2 r d) = ((xhat (x r) d : ℝ) : EReal)) (h344 : ∀ r d, v344 (ix2 r d) = ((y r d : ℝ) : EReal))
    (d : Fin 128) : k0_pay64 (F := Ideal) v48 v344 (ix2 0 d) = ((∑ r, y r d * xhat (x r) d : ℝ) : EReal) := by
  pointwise [k0_pay64]
  simp only [h48, h344, ← EReal.coe_mul, coe_sum]

theorem pay66 {v16 v18 v35 : FVec Ideal S128x128 .f32} {v24 : Vec Ideal S1x128 .f32} {v33 : FVec Ideal S128x1 .f32}
    {v291 : FVec Ideal S256x128 .f32} {g : Fin 128 → ℝ} {x y : Fin 128 → Fin 128 → ℝ}
    (h24 : ∀ d, v24 (ix2 0 d) = ((g d : ℝ) : EReal)) (h33 : ∀ r, v33 (ix2 r 0) = ((rs (x r) : ℝ) : EReal))
    (h35 : ∀ r d, v35 (ix2 r d) = ((xhat (x r) d : ℝ) : EReal))
    (h : ∀ r d, k0_pay65 (F := Ideal) v16 v18 v291 (ix2 r d) = ((y r d : ℝ) : EReal)) (r d : Fin 128) :
    k0_pay66 (F := Ideal) v16 v18 v24 v33 v35 v291 (ix2 r d) = ((normB g (x r) (y r) d : ℝ) : EReal) := by
  pointwise [k0_pay66]
  simp only [h, h24, h33, h35, ← EReal.coe_mul, coe_sum, ofBits_128, div_128, ← EReal.coe_sub]; rfl

theorem pay67 {v16 v18 v35 : FVec Ideal S128x128 .f32} {v291 : FVec Ideal S256x128 .f32} {x y : Fin 128 → Fin 128 → ℝ}
    (h35 : ∀ r d, v35 (ix2 r d) = ((xhat (x r) d : ℝ) : EReal))
    (h : ∀ r d, k0_pay65 (F := Ideal) v16 v18 v291 (ix2 r d) = ((y r d : ℝ) : EReal)) (d : Fin 128) :
    k0_pay67 (F := Ideal) v16 v18 v35 v291 (ix2 0 d) = ((∑ r, y r d * xhat (x r) d : ℝ) : EReal) := by
  pointwise [k0_pay67]
  simp only [h, h35, ← EReal.coe_mul, coe_sum]

theorem pay68 {v46 : FVec Ideal S128x1 .f32} {v48 v346 v347 v389 : FVec Ideal S128x128 .f32} {g : Fin 128 → ℝ}
    {x y a : Fin 128 → Fin 128 → ℝ} (h46 : ∀ r, v46 (ix2 r 0) = ((rs (x r) : ℝ) : EReal))
    (h48 : ∀ r d, v48 (ix2 r d) = ((xhat (x r) d : ℝ) : EReal))
    (h346 : ∀ r d, v346 (ix2 r d) = ((y r d * g d : ℝ) : EReal))
    (h347 : ∀ r d, v347 (ix2 r d) = ((y r d * g d * xhat (x r) d : ℝ) : EReal))
    (h389 : ∀ r d, v389 (ix2 r d) = ((a r d : ℝ) : EReal)) (r d : Fin 128) :
    k0_pay68 (F := Ideal) v46 v48 v346 v347 v389 (ix2 r d) = ((a r d + normB g (x r) (y r) d : ℝ) : EReal) := by
  pointwise [k0_pay68]
  simp only [h46, h48, h346, h347, h389, ← EReal.coe_mul, coe_sum, ofBits_128, div_128, ← EReal.coe_sub, ← EReal.coe_add]
  rfl

theorem pay69 {v293 : FVec Ideal S256x128 .f32} {v393 : Vec Ideal S128x128 .f32} {y : Fin 256 → Fin 128 → ℝ}
    {a : Fin 128 → Fin 128 → ℝ} (h : ∀ r d, v293 (ix2 r d) = ((y r d : ℝ) : EReal))
    (h393 : ∀ r d, v393 (ix2 r d) = ((a r d : ℝ) : EReal)) (r d : Fin 128) :
    k0_pay69 (F := Ideal) v293 v393 (ix2 r d) = ((a r d + y ⟨r.val, by omega⟩ d : ℝ) : EReal) := by
  pointwise [k0_pay69]
  simp only [h, h393, ← EReal.coe_add]

theorem pay70 {v385 : FVec Ideal S128x128 .f32} (r d : Fin 128) : k0_pay70 (F := Ideal) v385 (ix2 r d) = v385 (ix2 r d) := by
  pointwise [k0_pay70]

theorem pay71 {v293 : FVec Ideal S256x128 .f32} {y : Fin 256 → Fin 128 → ℝ}
    (h : ∀ r d, v293 (ix2 r d) = ((y r d : ℝ) : EReal)) (r d : Fin 128) :
    k0_pay71 (F := Ideal) v293 (ix2 r d) = ((y ⟨128 + r.val, by omega⟩ d : ℝ) : EReal) := by
  pointwise [k0_pay71]
  simp only [h]

theorem pay72 {v321 v405 : FVec Ideal S1x128 .f32} (d : Fin 128) :
    k0_pay72 (F := Ideal) v321 v405 (ix2 0 d) = v405 (ix2 0 d) + v321 (ix2 0 d) := by
  pointwise [k0_pay72]

theorem pay73 {v359 v388 v409 : FVec Ideal S1x128 .f32} (d : Fin 128) :
    k0_pay73 (F := Ideal) v359 v388 v409 (ix2 0 d) = v409 (ix2 0 d) + (v359 (ix2 0 d) + v388 (ix2 0 d)) := by
  pointwise [k0_pay73]

theorem pay74 {v289 v414 : FVec Ideal S1x128 .f32} (d : Fin 128) :
    k0_pay74 (F := Ideal) v289 v414 (ix2 0 d) = v414 (ix2 0 d) + v289 (ix2 0 d) := by
  pointwise [k0_pay74]

end Dots

/-! ## The sinks' derivative -/

/-- Lane `l` of the sinks' derivative at the heads `4 h … 4 h + 3`: the sum over the rows of the head that is `l`. -/
def dskLane (e : Fin 512 → ℝ) (h : ℕ) (l : Fin 128) : ℝ :=
  ∑ g : Fin 4, if l.val = 4 * h + g.val then ∑ r : Fin 512, (if r.val / 128 = g.val then e r else 0) else 0

theorem lane_word (h : Fin 4) (l : Fin 128) (g : Fin 4) :
    IntOp.cmpi .eq (BitVec.ofNat 32 l.val) (Scalar.addi (Scalar.muli (BitVec.ofNat 32 h.val) 4#32) (BitVec.ofNat 32 g.val))
      = BitVec.ofBool (decide (l.val = 4 * h.val + g.val)) := by
  revert h l g; decide +kernel

/-- One head's term of it. -/
theorem dsk_term {v164 : IVec S512x1 32} {v228 : FVec Ideal S512x1 .f32} {e : Fin 512 → ℝ} (h : Fin 4) (g : Fin 4) (l : Fin 128)
    (h164 : ∀ r : Fin 512, v164 (ix2 r 0) = BitVec.ofNat 32 (r.val / 128)) (h228 : ∀ r, v228 (ix2 r 0) = ((e r : ℝ) : EReal)) :
    Scalar.select (IntOp.cmpi .eq (BitVec.ofNat 32 l.val) (Scalar.addi (Scalar.muli (BitVec.ofNat 32 h.val) 4#32) (BitVec.ofNat 32 g.val)))
      (∑ x, Scalar.select (IntOp.cmpi .eq (v164 (ix2 x 0)) (BitVec.ofNat 32 g.val)) (v228 (ix2 x 0)) (0 : EReal)) (0 : EReal)
      = ((if l.val = 4 * h.val + g.val then ∑ r : Fin 512, (if r.val / 128 = g.val then e r else 0) else 0 : ℝ) : EReal) := by
  simp only [h164, h228, lane_word, head_word, Scalar.select_decide, ite_coe_zero, coe_sum]

theorem pay50 {v164 : IVec S512x1 32} {v209 v219 : FVec Ideal S512x1 .f32} {e : Fin 512 → ℝ} (h : Fin 4)
    (h164 : ∀ r : Fin 512, v164 (ix2 r 0) = BitVec.ofNat 32 (r.val / 128))
    (h228 : ∀ r, k0_pay46 (F := Ideal) v209 v219 (ix2 r 0) = ((e r : ℝ) : EReal)) (l : Fin 128) :
    k0_pay50 (F := Ideal) (BitVec.ofNat 32 h.val) (iota .tc S1x128 32 [1] iota_S1x128_d1_w32) v164 (k0_pay46 v209 v219)
      (k0_pay47 (BitVec.ofNat 32 h.val) (iota .tc S1x128 32 [1] iota_S1x128_d1_w32) v164 v209 v219)
      (k0_pay48 (BitVec.ofNat 32 h.val) (iota .tc S1x128 32 [1] iota_S1x128_d1_w32)) (k0_pay49 v164) (ix2 0 l)
      = ((dskLane e h.val l : ℝ) : EReal) := by
  pointwise [k0_pay50, k0_pay47, k0_pay48, k0_pay49]
  have t0 := dsk_term h 0 l h164 h228
  have t1 := dsk_term h 1 l h164 h228
  have t2 := dsk_term h 2 l h164 h228
  have t3 := dsk_term h 3 l h164 h228
  refine (congrArg₂ (· + ·) (congrArg₂ (· + ·) (congrArg₂ (· + ·) t0 t1) t2) t3).trans ?_
  rw [← EReal.coe_add, ← EReal.coe_add, ← EReal.coe_add, dskLane, Fin.sum_univ_four]

end Cert.Attn
-- ==== Proof.Val.Block.lean ====
/-
  One grid point in real numbers: from the real contents of what the body reads, the real contents of what it leaves.
-/
module

public import proofs.«01_k».proof.Proof.Val.Point
public import proofs.«01_k».proof.Proof.Math.PayB

@[expose] public section

set_option maxRecDepth 16384

noncomputable section

namespace Cert.Attn

open Idealize.ShloMosaic Idealize.ShloMosaic.TcCoe Cert.KernelIdeal Cert.KernelIdeal.Gen

/-- The real contents of what the body reads at a point: the coordinates, the query rows of the four heads, the keys and
    values of the block and of the one before, the cosines and signed sines of both, the gains, the derivative, the sinks. -/
structure Blk where
  h : Fin 4
  i : ℕ
  zq : ℕ → Fin 128 → Fin 128 → ℝ
  (kc kp vc vp cc sc cp sp : Fin 128 → Fin 128 → ℝ)
  (qg kg : Fin 128 → ℝ)
  dd : ℕ → Fin 128 → Fin 128 → ℝ
  sk : ℕ → ℝ

namespace Blk

variable (b : Blk)

/-- The query rows, rotated. -/
def Q (r : Fin 512) : Fin 128 → ℝ := rope (four (fun _ => b.cc) r) (four (fun _ => b.sc) r) (nrm b.qg (four b.zq r))
/-- The key rows of both blocks, rotated. -/
def K : Fin 256 → Fin 128 → ℝ :=
  two (fun k => rope (b.cp k) (b.sp k) (nrm b.kg (b.kp k))) (fun k => rope (b.cc k) (b.sc k) (nrm b.kg (b.kc k)))
def V : Fin 256 → Fin 128 → ℝ := two b.vp b.vc
def D : Fin 512 → Fin 128 → ℝ := four b.dd
def S (r : Fin 512) : ℝ := b.sk (r.val / 128)

/-- The derivatives by the scores, the rotated query rows, the rotated keys, the values. -/
def eS := ds (0 < b.i) b.Q b.D b.K b.V b.S
def eQ := dqn (0 < b.i) b.Q b.D b.K b.V b.S
def eK := dkk (0 < b.i) b.Q b.D b.K b.V b.S
def eV := dvv (0 < b.i) b.Q b.D b.K b.S

/-- The same before the rotary embedding. -/
def yQ (r : Fin 512) : Fin 128 → ℝ := ropeB (four (fun _ => b.cc) r) (four (fun _ => b.sc) r) (b.eQ r)
def yP (r : Fin 128) : Fin 128 → ℝ := ropeB (b.cp r) (b.sp r) (b.eK ⟨r.val, by omega⟩)
def yC (r : Fin 128) : Fin 128 → ℝ := ropeB (b.cc r) (b.sc r) (b.eK ⟨128 + r.val, by omega⟩)

/-- What the point gives to its query rows, to the keys and values of the block before and of the block itself, to the
    gains and to the sinks. -/
def oQ (r : Fin 512) : Fin 128 → ℝ := normB b.qg (four b.zq r) (b.yQ r)
def oP (r : Fin 128) : Fin 128 → ℝ := normB b.kg (b.kp r) (b.yP r)
def oC (r : Fin 128) : Fin 128 → ℝ := normB b.kg (b.kc r) (b.yC r)
def oG (d : Fin 128) : ℝ := ∑ r, b.yQ r d * xhat (four b.zq r) d
def oH (d : Fin 128) : ℝ := (∑ r, b.yP r d * xhat (b.kp r) d) + ∑ r, b.yC r d * xhat (b.kc r) d
def oS (l : Fin 128) : ℝ := dskLane (dsink (0 < b.i) b.Q b.D b.K b.V b.S) b.h.val l

end Blk

/-- The point's tensors hold these reals. -/
structure Holds (x : Pt Ideal) (b : Blk) : Prop where
  hi : b.i < 33
  a0 : x.a0 = BitVec.ofNat 32 b.h.val
  a1 : x.a1 = BitVec.ofNat 32 b.i
  s0 : x.s0 = ((b.sk 0 : ℝ) : EReal)
  s1 : x.s1 = ((b.sk 1 : ℝ) : EReal)
  s2 : x.s2 = ((b.sk 2 : ℝ) : EReal)
  s3 : x.s3 = ((b.sk 3 : ℝ) : EReal)
  z0 : ∀ r d, x.z0 (ix2 r d) = ((b.zq 0 r d : ℝ) : EReal)
  z1 : ∀ r d, x.z1 (ix2 r d) = ((b.zq 1 r d : ℝ) : EReal)
  z2 : ∀ r d, x.z2 (ix2 r d) = ((b.zq 2 r d : ℝ) : EReal)
  z3 : ∀ r d, x.z3 (ix2 r d) = ((b.zq 3 r d : ℝ) : EReal)
  kc : ∀ r d, x.kc (ix2 r d) = ((b.kc r d : ℝ) : EReal)
  kp : ∀ r d, x.kp (ix2 r d) = ((b.kp r d : ℝ) : EReal)
  vc : ∀ r d, x.vc (ix2 r d) = ((b.vc r d : ℝ) : EReal)
  vp : ∀ r d, x.vp (ix2 r d) = ((b.vp r d : ℝ) : EReal)
  cc : ∀ r d, x.cc (ix2 r d) = ((b.cc r d : ℝ) : EReal)
  sc : ∀ r d, x.sc (ix2 r d) = ((b.sc r d : ℝ) : EReal)
  cp : ∀ r d, x.cp (ix2 r d) = ((b.cp r d : ℝ) : EReal)
  sp : ∀ r d, x.sp (ix2 r d) = ((b.sp r d : ℝ) : EReal)
  qg : ∀ d, x.qg (ix2 0 d) = ((b.qg d : ℝ) : EReal)
  kg : ∀ d, x.kg (ix2 0 d) = ((b.kg d : ℝ) : EReal)
  d0 : ∀ r d, x.d0 (ix2 r d) = ((b.dd 0 r d : ℝ) : EReal)
  d1 : ∀ r d, x.d1 (ix2 r d) = ((b.dd 1 r d : ℝ) : EReal)
  d2 : ∀ r d, x.d2 (ix2 r d) = ((b.dd 2 r d : ℝ) : EReal)
  d3 : ∀ r d, x.d3 (ix2 r d) = ((b.dd 3 r d : ℝ) : EReal)

theorem pay8 (v : Vec Ideal S128x128 .f32) (r d : Fin 128) : k0_pay8 (F := Ideal) v (ix2 r d) = v (ix2 r d) := by
  pointwise [k0_pay8]

theorem pay1 (d : Fin 128) : k0_pay1 (F := Ideal) (ix2 0 d) = ((0 : ℝ) : EReal) := by
  pointwise [k0_pay1]; rfl

theorem pay4 (r d : Fin 128) : k0_pay4 (F := Ideal) (ix2 r d) = ((0 : ℝ) : EReal) := by
  pointwise [k0_pay4]; rfl

theorem pay6 (v : Vec Ideal S128x128 .f32) (r d : Fin 128) : k0_pay6 (F := Ideal) v (ix2 r d) = v (ix2 r d) := by
  pointwise [k0_pay6]

theorem pay57 {v97 : FVec Ideal S512x1 .f32} {v99 v308 : FVec Ideal S512x128 .f32} {o : Fin 512 → Fin 128 → ℝ}
    (h : ∀ r d, k0_pay56 (F := Ideal) v97 v99 v308 (ix2 r d) = ((o r d : ℝ) : EReal)) (y : S128x128.Idx) :
    k0_pay57 (F := Ideal) v97 v99 v308 y = ((o ⟨0 + (y 0).val, by have := (y 0).isLt; have : S128x128.size 0 = 128 := rfl; omega⟩ (y 1) : ℝ) : EReal) := by
  pointwise [k0_pay57]
  exact h _ _

theorem pay58 {v97 : FVec Ideal S512x1 .f32} {v99 v308 : FVec Ideal S512x128 .f32} {o : Fin 512 → Fin 128 → ℝ}
    (h : ∀ r d, k0_pay56 (F := Ideal) v97 v99 v308 (ix2 r d) = ((o r d : ℝ) : EReal)) (y : S128x128.Idx) :
    k0_pay58 (F := Ideal) v97 v99 v308 y = ((o ⟨128 + (y 0).val, by have := (y 0).isLt; have : S128x128.size 0 = 128 := rfl; omega⟩ (y 1) : ℝ) : EReal) := by
  pointwise [k0_pay58]
  exact h _ _

theorem pay59 {v97 : FVec Ideal S512x1 .f32} {v99 v308 : FVec Ideal S512x128 .f32} {o : Fin 512 → Fin 128 → ℝ}
    (h : ∀ r d, k0_pay56 (F := Ideal) v97 v99 v308 (ix2 r d) = ((o r d : ℝ) : EReal)) (y : S128x128.Idx) :
    k0_pay59 (F := Ideal) v97 v99 v308 y = ((o ⟨256 + (y 0).val, by have := (y 0).isLt; have : S128x128.size 0 = 128 := rfl; omega⟩ (y 1) : ℝ) : EReal) := by
  pointwise [k0_pay59]
  exact h _ _

theorem pay60 {v97 : FVec Ideal S512x1 .f32} {v99 v308 : FVec Ideal S512x128 .f32} {o : Fin 512 → Fin 128 → ℝ}
    (h : ∀ r d, k0_pay56 (F := Ideal) v97 v99 v308 (ix2 r d) = ((o r d : ℝ) : EReal)) (y : S128x128.Idx) :
    k0_pay60 (F := Ideal) v97 v99 v308 y = ((o ⟨384 + (y 0).val, by have := (y 0).isLt; have : S128x128.size 0 = 128 := rfl; omega⟩ (y 1) : ℝ) : EReal) := by
  pointwise [k0_pay60]
  exact h _ _

namespace Holds

variable {x : Pt Ideal} {b : Blk} (H : Holds x b)

include H

theorem v16 (r d : Fin 128) : x.v16 (ix2 r d) = ((b.cc r d : ℝ) : EReal) := (pay8 _ r d).trans (H.cc r d)
theorem v18 (r d : Fin 128) : x.v18 (ix2 r d) = ((b.sc r d : ℝ) : EReal) := (pay8 _ r d).trans (H.sc r d)
theorem v20 (r d : Fin 128) : x.v20 (ix2 r d) = ((b.cp r d : ℝ) : EReal) := (pay8 _ r d).trans (H.cp r d)
theorem v22 (r d : Fin 128) : x.v22 (ix2 r d) = ((b.sp r d : ℝ) : EReal) := (pay8 _ r d).trans (H.sp r d)

theorem v78 (r : Fin 256) (d : Fin 128) : x.v78 (ix2 r d) = ((b.K r d : ℝ) : EReal) :=
  pay19 H.v16 H.v18 H.v22 (pay14 H.kg H.kc) (pay17 H.kg H.kp) (pay18 H.cp H.kg H.kp) r d

theorem v82 (r : Fin 256) (d : Fin 128) : x.v82 (ix2 r d) = ((b.V r d : ℝ) : EReal) := pay20 H.vp H.vc r d

theorem v83 (r : Fin 512) (d : Fin 128) : x.v83 (ix2 r d) = ((four (fun _ => b.cc) r d : ℝ) : EReal) := pay21 H.v16 r d
theorem v84 (r : Fin 512) (d : Fin 128) : x.v84 (ix2 r d) = ((four (fun _ => b.sc) r d : ℝ) : EReal) := pay22 H.v18 r d
theorem v89 (r : Fin 512) (d : Fin 128) : x.v89 (ix2 r d) = ((four b.zq r d : ℝ) : EReal) := pay23 H.z0 H.z1 H.z2 H.z3 r d
theorem v90 (r : Fin 512) (d : Fin 128) : x.v90 (ix2 r d) = ((four b.zq r d * four b.zq r d : ℝ) : EReal) :=
  pay24 (x := four b.zq) H.v89 r d
theorem v97 (r : Fin 512) : x.v97 (ix2 r 0) = ((rs (four b.zq r) : ℝ) : EReal) := pay25 H.v90 r
theorem v99 (r : Fin 512) (d : Fin 128) : x.v99 (ix2 r d) = ((xhat (four b.zq r) d : ℝ) : EReal) := pay26 H.v89 H.v90 r d
theorem v115 (r : Fin 512) (d : Fin 128) : x.v115 (ix2 r d) = ((b.Q r d : ℝ) : EReal) := pay27 H.qg H.v83 H.v84 H.v89 H.v90 r d

theorem v118 (r : Fin 512) (c : Fin 256) : x.v118 (ix2 r c) = ((lg b.Q b.K r c : ℝ) : EReal) := pay28 H.v115 H.v78 r c

theorem v139 (r : Fin 512) (c : Fin 256) :
    x.v139 (ix2 r c) = if band (0 < b.i) r c then ((lg b.Q b.K r c : ℝ) : EReal) else (⊥ : EReal) := by
  have e : x.v139 = k0_pay31 (BitVec.ofNat 32 b.i) x.v118 k0_pay29 k0_pay30 0#32 := by rw [← H.a1]; rfl
  rw [e, pay31 b.i H.hi, H.v118]

theorem sinks (r : Fin 512) : k0_pay34 (F := Ideal) k0_pay32 x.v179 2#32 x.s2 x.s3 (ix2 r 0) = ((b.S r : ℝ) : EReal) :=
  pay34 H.s0 H.s1 H.s2 H.s3 r

theorem v208 (r : Fin 512) (c : Fin 256) : x.v208 (ix2 r c) = ((pr (0 < b.i) b.Q b.K b.S r c : ℝ) : EReal) :=
  pay39 H.v139 H.sinks r c
theorem v209 (r : Fin 512) : x.v209 (ix2 r 0) = ((ps (0 < b.i) b.Q b.K b.S r : ℝ) : EReal) := pay40 H.v139 H.sinks r
theorem v215 (r : Fin 512) (d : Fin 128) : x.v215 (ix2 r d) = ((b.D r d : ℝ) : EReal) := pay41 H.d0 H.d1 H.d2 H.d3 r d
theorem v216 (r : Fin 512) (c : Fin 256) :
    k0_pay42 (F := Ideal) x.v82 x.d0 x.d1 x.d2 x.d3 (ix2 r c) = ((dp b.D b.V r c : ℝ) : EReal) := pay42 H.v215 H.v82 r c
theorem v219 (r : Fin 512) : x.v219 (ix2 r 0) = ((rsum (0 < b.i) b.Q b.D b.K b.V b.S r : ℝ) : EReal) :=
  pay43 H.v208 H.v216 r
theorem v225 (r : Fin 512) (c : Fin 256) : x.v225 (ix2 r c) = ((b.eS r c : ℝ) : EReal) := pay45 H.v208 H.v216 r c

theorem v289 (l : Fin 128) : x.v289 (ix2 0 l) = ((b.oS l : ℝ) : EReal) := by
  have e : x.v289 = k0_pay50 (BitVec.ofNat 32 b.h.val) Pt.v0 k0_pay32 x.v228
      (k0_pay47 (BitVec.ofNat 32 b.h.val) Pt.v0 k0_pay32 x.v209 x.v219) (k0_pay48 (BitVec.ofNat 32 b.h.val) Pt.v0)
      (k0_pay49 k0_pay32) := by rw [← H.a0]; rfl
  rw [e]
  exact pay50 b.h pay32 (pay46 H.v209 H.v219) l

theorem v291 (c : Fin 256) (d : Fin 128) : x.v291 (ix2 c d) = ((b.eK c d : ℝ) : EReal) := pay51 H.v225 H.v115 c d
theorem v293 (c : Fin 256) (d : Fin 128) : x.v293 (ix2 c d) = ((b.eV c d : ℝ) : EReal) := pay52 H.v208 H.v215 c d
theorem v306 (r : Fin 512) (d : Fin 128) : x.v306 (ix2 r d) = ((b.yQ r d : ℝ) : EReal) :=
  pay53 H.v225 H.v78 H.v83 H.v84 r d
theorem v308 (r : Fin 512) (d : Fin 128) : x.v308 (ix2 r d) = ((b.yQ r d * b.qg d : ℝ) : EReal) := pay54 H.qg H.v306 r d
theorem v321 (d : Fin 128) : x.v321 (ix2 0 d) = ((b.oG d : ℝ) : EReal) := pay55 H.v99 H.v306 d
theorem v322 (r : Fin 512) (d : Fin 128) : k0_pay56 (F := Ideal) x.v97 x.v99 x.v308 (ix2 r d) = ((b.oQ r d : ℝ) : EReal) :=
  pay56 H.v97 H.v99 H.v308 r d

theorem v344 (r d : Fin 128) : x.v344 (ix2 r d) = ((b.yP r d : ℝ) : EReal) := pay61 H.v20 H.v22 H.v291 r d
theorem v365 (r d : Fin 128) : k0_pay65 (F := Ideal) x.v16 x.v18 x.v291 (ix2 r d) = ((b.yC r d : ℝ) : EReal) :=
  pay65 H.v16 H.v18 H.v291 r d

/-! ## What the stores leave -/

variable {k v : Vec Ideal S128x128 .f32} {e0 e1 e2 : Vec Ideal S1x128 .f32}

theorem done_dq (r : Fin 128) (n : Fin 512) :
    (x.done k v e0 e1 e2).1 (ix2 r n)
      = ((b.oQ ⟨128 * (n.val / 128) + r.val, by omega⟩ ⟨n.val % 128, Nat.mod_lt _ (by decide)⟩ : ℝ) : EReal) := by
  have piece : ∀ (k : ℕ) (y : S128x128.Idx), k < 4 → r.val = (y 0).val → n.val = 128 * k + (y 1).val → ∀ q : Fin 512,
      q.val = 128 * k + (y 0).val → b.oQ q (y 1) = b.oQ ⟨128 * (n.val / 128) + r.val, by omega⟩ ⟨n.val % 128, Nat.mod_lt _ (by decide)⟩ := by
    intro k y hk h0 h1 q hq
    have hy : (y 1).val < 128 := (y 1).isLt
    congr 1 <;> apply Fin.ext
    · show q.val = 128 * (n.val / 128) + r.val
      omega
    · show (y 1).val = n.val % 128
      omega
  unfold Pt.done
  dsimp only
  canon_tiles y hy
  · refine (pay60 H.v322 y).trans (congrArg _ (piece 3 y (by decide) hy0 hy1 _ ?_))
    rfl
  · refine (pay59 H.v322 y).trans (congrArg _ (piece 2 y (by decide) hy0 hy1 _ ?_))
    rfl
  · refine (pay58 H.v322 y).trans (congrArg _ (piece 1 y (by decide) hy0 hy1 _ ?_))
    rfl
  · refine (pay57 H.v322 y).trans (congrArg _ (piece 0 y (by decide) hy0 (by have : n.val = (y 1).val := hy1; omega) _ ?_))
    simp

theorem done_dk {a : Fin 128 → Fin 128 → ℝ} (hk : ∀ r d, k (ix2 r d) = ((a r d : ℝ) : EReal)) (r d : Fin 128) :
    (x.done k v e0 e1 e2).2.1 (ix2 r d) = ((a r d + b.oP r d : ℝ) : EReal) :=
  pay68 (pay15 H.kp) (pay16 H.kp) (pay62 H.kg H.v344) (pay63 H.kg H.v344 (pay16 H.kp)) hk r d

theorem done_dv {a : Fin 128 → Fin 128 → ℝ} (hv : ∀ r d, v (ix2 r d) = ((a r d : ℝ) : EReal)) (r d : Fin 128) :
    (x.done k v e0 e1 e2).2.2.1 (ix2 r d) = ((a r d + b.eV ⟨r.val, by omega⟩ d : ℝ) : EReal) :=
  pay69 H.v293 hv r d

theorem done_g {a : Fin 128 → ℝ} (he : ∀ d, e0 (ix2 0 d) = ((a d : ℝ) : EReal)) (d : Fin 128) :
    (x.done k v e0 e1 e2).2.2.2.1 (ix2 0 d) = ((a d + b.oG d : ℝ) : EReal) := by
  refine (pay72 (v321 := x.v321) (v405 := e0) d).trans ?_
  rw [he, H.v321, EReal.coe_add]

theorem done_h {a : Fin 128 → ℝ} (he : ∀ d, e1 (ix2 0 d) = ((a d : ℝ) : EReal)) (d : Fin 128) :
    (x.done k v e0 e1 e2).2.2.2.2.1 (ix2 0 d) = ((a d + b.oH d : ℝ) : EReal) := by
  refine (pay73 (v359 := x.v359) (v388 := x.v388) (v409 := e1) d).trans ?_
  have h1 : x.v359 (ix2 0 d) = _ := pay64 (pay16 H.kp) H.v344 d
  have h2 : x.v388 (ix2 0 d) = _ := pay67 (pay13 H.kc) H.v365 d
  rw [he, h1, h2, ← EReal.coe_add, ← EReal.coe_add, Blk.oH]

theorem done_s {a : Fin 128 → ℝ} (he : ∀ d, e2 (ix2 0 d) = ((a d : ℝ) : EReal)) (d : Fin 128) :
    (x.done k v e0 e1 e2).2.2.2.2.2.1 (ix2 0 d) = ((a d + b.oS d : ℝ) : EReal) := by
  refine (pay74 (v289 := x.v289) (v414 := e2) d).trans ?_
  rw [he, H.v289, EReal.coe_add]

theorem done_ck (r d : Fin 128) : (x.done k v e0 e1 e2).2.2.2.2.2.2.1 (ix2 r d) = ((b.oC r d : ℝ) : EReal) :=
  (pay70 (v385 := x.v385) r d).trans (pay66 H.kg (pay12 H.kc) (pay13 H.kc) H.v365 r d)

theorem done_cv (r d : Fin 128) :
    (x.done k v e0 e1 e2).2.2.2.2.2.2.2 (ix2 r d) = ((b.eV ⟨128 + r.val, by omega⟩ d : ℝ) : EReal) := pay71 H.v293 r d

end Holds

end Cert.Attn
end
-- ==== Proof.Math.Line.lean ====
/-
  A line of operations each of which writes a buffer of its own, the next in number, from buffers numbered below: after
  the line, every operation's equation holds of the final contents.
-/
module

public import Idealize.ShloMosaic.Init
public import Idealize.ShloMosaic.Lib.Pointwise

@[expose] public section

noncomputable section

namespace Cert.Line

open Idealize.ShloMosaic Idealize.ShloMosaic.TcCoe Idealize.SL.Sem Idealize.ShloMosaic.StableHlo

variable {τ : Topo} {sig : RefSig} {F : FTy → Type} [FloatOps F]

/-- A buffer of the program, on the device. -/
abbrev at_ (r : Ref sig .tc) : DevRef τ sig := Proc.devRef .tc r

/-- The operation writes the buffer numbered `n`, and what it writes depends on the buffers numbered below `n` alone. -/
def Step (n : ℕ) (op : HloOp τ sig (Elt F)) : Prop :=
  ∃ y : Ref sig .tc, y.idx.val = n ∧ op.writes = {at_ y} ∧
    ∀ V W : Valuation τ sig (Elt F), (∀ r : Ref sig .tc, r.idx.val < n → V (at_ r) = W (at_ r)) →
      op.result V (at_ y) = op.result W (at_ y)

/-- The operations write the buffers numbered `n`, `n + 1`, …, each from those below it. -/
def Steps : ℕ → List (HloOp τ sig (Elt F)) → Prop
  | _, [] => True
  | n, op :: ops => Step n op ∧ Steps (n + 1) ops

theorem Steps.append : ∀ {n : ℕ} {l l' : List (HloOp τ sig (Elt F))}, Steps n l → Steps (n + l.length) l' → Steps n (l ++ l')
  | _, [], _, _, h' => by simpa using h'
  | n, op :: l, l', h, h' => ⟨h.1, Steps.append h.2 (by
      rw [List.length_cons] at h'; rwa [show n + 1 + l.length = n + (l.length + 1) by omega])⟩

theorem Steps.keep : ∀ {n : ℕ} {ops : List (HloOp τ sig (Elt F))}, Steps n ops → ∀ (V : Valuation τ sig (Elt F))
    (r : Ref sig .tc), r.idx.val < n → after ops V (at_ r) = V (at_ r)
  | _, [], _, _, _, _ => rfl
  | n, op :: ops, h, V, r, hr => by
    obtain ⟨y, hy, hw, -⟩ := h.1
    rw [after_cons, Steps.keep h.2 _ r (by omega)]
    exact result_of_writes_ne op V y r hw (by rintro rfl; omega)

/-- The operation changes nothing in `W`: `W`'s contents satisfy its equation. -/
def Fixed (op : HloOp τ sig (Elt F)) (W : Valuation τ sig (Elt F)) : Prop := op.result W = W

theorem Steps.fixed : ∀ {n : ℕ} {ops : List (HloOp τ sig (Elt F))}, Steps n ops → ∀ (V : Valuation τ sig (Elt F)),
    ∀ op ∈ ops, Fixed op (after ops V)
  | n, op :: ops, h, V, o, ho => by
    rcases List.mem_cons.mp ho with rfl | ho
    · obtain ⟨y, hy, hw, hr⟩ := h.1
      funext b
      by_cases hb : b ∈ o.writes
      · rw [hw, Finset.mem_singleton] at hb
        subst hb
        rw [after_cons, Steps.keep h.2 _ y (by omega)]
        refine hr _ _ fun r hlt => ?_
        rw [Steps.keep h.2 _ r (by omega)]
        exact result_of_writes_ne o V y r hw (by rintro rfl; omega)
      · exact o.result_of_not_mem _ hb
    · exact Steps.fixed h.2 _ o ho

section Builders

variable {n : ℕ} {x a b c y : Ref sig .tc}

theorem step_nullary {v : y.ty.Contents (Elt F)} {hy} (hn : y.idx.val = n) : Step n (nullary (τ := τ) y v hy) :=
  ⟨y, hn, rfl, fun V W _ => by rw [nullary_result, nullary_result]⟩

theorem step_unary {f : x.ty.Contents (Elt F) → y.ty.Contents (Elt F)} {hx hy} (h : x.idx.val < n) (hn : y.idx.val = n) :
    Step n (unary (τ := τ) x y f hx hy) :=
  ⟨y, hn, rfl, fun V W e => by rw [unary_result, unary_result]; exact congrArg f (e x h)⟩

theorem step_reshape {he hs hx hy} (h : x.idx.val < n) (hn : y.idx.val = n) :
    Step n (reshape (τ := τ) (Val := Elt F) x y he hs hx hy) :=
  ⟨y, hn, rfl, fun V W e => by rw [reshape_result, reshape_result, show V (at_ x) = W (at_ x) from e x h]⟩

theorem step_binary {f : a.ty.Contents (Elt F) → b.ty.Contents (Elt F) → y.ty.Contents (Elt F)} {ha hb hy}
    (h : a.idx.val < n) (h' : b.idx.val < n) (hn : y.idx.val = n) : Step n (binary (τ := τ) a b y f ha hb hy) :=
  ⟨y, hn, rfl, fun V W e => by rw [binary_result, binary_result]; exact congrArg₂ f (e a h) (e b h')⟩

theorem step_ternary {f : c.ty.Contents (Elt F) → a.ty.Contents (Elt F) → b.ty.Contents (Elt F) → y.ty.Contents (Elt F)}
    {hc ha hb hy} (h'' : c.idx.val < n) (h : a.idx.val < n) (h' : b.idx.val < n) (hn : y.idx.val = n) :
    Step n (ternary (τ := τ) c a b y f hc ha hb hy) :=
  ⟨y, hn, rfl, fun V W e => by
    rw [ternary_result, ternary_result, show V (at_ c) = W (at_ c) from e c h'', show V (at_ a) = W (at_ a) from e a h,
      show V (at_ b) = W (at_ b) from e b h']⟩

theorem step_nary {k : ℕ} {xs : Fin k → Ref sig .tc} {f : ((i : Fin k) → (xs i).ty.Contents (Elt F)) → y.ty.Contents (Elt F)}
    {hxs hy} (h : ∀ i, (xs i).idx.val < n) (hn : y.idx.val = n) : Step n (nary (τ := τ) xs y f hxs hy) :=
  ⟨y, hn, rfl, fun V W e => by
    rw [nary_result, nary_result]; exact congrArg f (funext fun i => e (xs i) (h i))⟩

end Builders

section

variable {W : Valuation τ sig (Elt F)} {x a b c y : Ref sig .tc}

theorem eq_nullary {v : y.ty.Contents (Elt F)} {hy} (h : Fixed (nullary (τ := τ) y v hy) W) : W (at_ y) = v :=
  (congrFun h (at_ y)).symm.trans (nullary_result ..)

theorem eq_unary {f : x.ty.Contents (Elt F) → y.ty.Contents (Elt F)} {hx hy} (h : Fixed (unary (τ := τ) x y f hx hy) W) :
    W (at_ y) = f (W (at_ x)) := (congrFun h (at_ y)).symm.trans (unary_result ..)

theorem eq_binary {f : a.ty.Contents (Elt F) → b.ty.Contents (Elt F) → y.ty.Contents (Elt F)} {ha hb hy}
    (h : Fixed (binary (τ := τ) a b y f ha hb hy) W) : W (at_ y) = f (W (at_ a)) (W (at_ b)) :=
  (congrFun h (at_ y)).symm.trans (binary_result ..)

theorem eq_ternary {f : c.ty.Contents (Elt F) → a.ty.Contents (Elt F) → b.ty.Contents (Elt F) → y.ty.Contents (Elt F)}
    {hc ha hb hy} (h : Fixed (ternary (τ := τ) c a b y f hc ha hb hy) W) :
    W (at_ y) = f (W (at_ c)) (W (at_ a)) (W (at_ b)) := (congrFun h (at_ y)).symm.trans (ternary_result ..)

theorem eq_nary {k : ℕ} {xs : Fin k → Ref sig .tc} {f : ((i : Fin k) → (xs i).ty.Contents (Elt F)) → y.ty.Contents (Elt F)}
    {hxs hy} (h : Fixed (nary (τ := τ) xs y f hxs hy) W) : W (at_ y) = f fun i => W (at_ (xs i)) :=
  (congrFun h (at_ y)).symm.trans (nary_result ..)

theorem eq_reshape {he hs hx hy} (h : Fixed (reshape (τ := τ) (Val := Elt F) x y he hs hx hy) W) :
    W (at_ y) = fun i => he ▸ shapeCast y.ty.shape (W (at_ x)) hs i :=
  (congrFun h (at_ y)).symm.trans (reshape_result ..)

end

end Cert.Line
-- ==== Proof.Val.Host.lean ====
/-
  The operations before the kernel's call: the tables of cosines and signed sines, and the sinks.
-/
module

public import proofs.«01_k».proof.Proof.Val.Block
public import proofs.«01_k».proof.Proof.Math.Line
public import Idealize.ShloMosaic.Lib.Claim

@[expose] public section

set_option maxRecDepth 16384

noncomputable section

namespace Cert.Attn

open Idealize.ShloMosaic Idealize.ShloMosaic.TcCoe Cert.KernelIdeal Cert.KernelIdeal.Gen Cert.Line

/-- The inverse frequency of lane `k`. -/
def freq (k : Fin 16) : ℝ := Real.rpow 500000 (-(2 * ((BitVec.ofNat 32 k.val).toInt : ℝ)) / 32)

theorem ofBits_0 : Ideal.ofBits .f32 0x00000000#32 = 0 := by simp [Ideal.ofBits, Ideal.ieee]
theorem ofBits_1 : Ideal.ofBits .f32 0x3F800000#32 = ((1 : ℝ) : EReal) := by
  simp [Ideal.ofBits, Ideal.ieee, -EReal.coe_mul]; norm_num
theorem ofBits_2 : Ideal.ofBits .f32 0x40000000#32 = ((2 : ℝ) : EReal) := by
  simp [Ideal.ofBits, Ideal.ieee, -EReal.coe_mul]; norm_num
theorem ofBits_32 : Ideal.ofBits .f32 0x42000000#32 = ((32 : ℝ) : EReal) := by
  simp [Ideal.ofBits, Ideal.ieee, -EReal.coe_mul]; norm_num
theorem ofBits_base : Ideal.ofBits .f32 0x48F42400#32 = ((500000 : ℝ) : EReal) := by
  simp [Ideal.ofBits, Ideal.ieee, -EReal.coe_mul]; norm_num

theorem freq_eq (k : Fin 16) : Ideal.pow (Ideal.ofBits .f32 0x48F42400#32)
    (Ideal.div (-(Ideal.ofBits .f32 0x40000000#32 * (FloatOps.sitofp .f32 (BitVec.ofNat 32 k.val) : Ideal .f32)))
      (Ideal.ofBits .f32 0x42000000#32)) = ((freq k : ℝ) : EReal) := by
  rw [ofBits_base, ofBits_2, ofBits_32,
    show (FloatOps.sitofp .f32 (BitVec.ofNat 32 k.val) : Ideal .f32) = (((BitVec.ofNat 32 k.val).toInt : ℝ) : EReal) from rfl,
    ← EReal.coe_mul, ← EReal.coe_neg, div_real (by norm_num), Ideal.pow_coe_coe]
  rfl

/-- The table of cosines over a head's lanes: the first sixteen, again, then ones. -/
def cosT (p : ℕ → ℝ) (r : ℕ) (d : Fin 128) : ℝ :=
  if h : d.val < 16 then Real.cos (p r * freq ⟨d.val, h⟩)
  else if h : d.val < 32 then Real.cos (p r * freq ⟨d.val - 16, by omega⟩) else 1

/-- The table of signed sines: the first sixteen negated, then they, then zeros. -/
def sinT (p : ℕ → ℝ) (r : ℕ) (d : Fin 128) : ℝ :=
  if h : d.val < 16 then -Real.sin (p r * freq ⟨d.val, h⟩)
  else if h : d.val < 32 then Real.sin (p r * freq ⟨d.val - 16, by omega⟩) else 0

variable (m : (ℓ : Loc nD τ sig) → Buf (Elt Ideal) ℓ) (c : Dev nD)

theorem steps0 : Steps 6 (hostOps0 : List (HloOp τ sig (Elt Ideal))) :=
  ⟨step_nullary rfl, step_nullary rfl, step_unary (by decide) rfl, step_binary (by decide) (by decide) rfl,
    step_nullary rfl, step_unary (by decide) rfl, step_binary (by decide) (by decide) rfl, step_unary (by decide) rfl,
    step_nullary rfl, step_unary (by decide) rfl, step_binary (by decide) (by decide) rfl, step_nullary rfl,
    step_unary (by decide) rfl, step_binary (by decide) (by decide) rfl, step_reshape (by decide) rfl,
    step_unary (by decide) rfl, step_unary (by decide) rfl, step_unary (by decide) rfl, step_unary (by decide) rfl,
    step_unary (by decide) rfl, step_binary (by decide) (by decide) rfl, step_unary (by decide) rfl,
    step_unary (by decide) rfl, step_nullary rfl, step_unary (by decide) rfl, step_nary (by decide) rfl,
    step_unary (by decide) rfl, step_nullary rfl, step_unary (by decide) rfl, step_nary (by decide) rfl,
    step_reshape (by decide) rfl, trivial⟩

theorem fix (i : ℕ) {op : HloOp τ sig (Elt Ideal)} (h : (hostOps0 (F := Ideal))[i]? = some op) :
    Fixed op (fun b => StableHlo.after hostOps0 (fun b => m (c, b)) b) :=
  Steps.fixed steps0 _ _ (List.mem_of_getElem? h)

def h0 : FVec Ideal S16 .f32 := V m c main_v0
theorem h0_eq : h0 m c = sitofp .f32 (iotaInDim S16 32 0) := eq_nullary (fix m c 0 rfl)
def h2 : FVec Ideal S16 .f32 := V m c main_v2
theorem h2_eq : h2 m c = mulf (broadcastInDim S16 ![] bcast_S_S16 (constant S_ .f32 0x40000000#32)) (h0 m c) :=
  (eq_binary (fix m c 3 rfl)).trans (congrFun (congrArg _ ((eq_unary (fix m c 2 rfl)).trans (congrArg _ (eq_nullary (fix m c 1 rfl))))) _)
def h4 : FVec Ideal S16 .f32 := V m c main_v4
theorem h4_eq : h4 m c = addf (broadcastInDim S16 ![] bcast_S_S16 (constant S_ .f32 0x00000000#32)) (h2 m c) :=
  (eq_binary (fix m c 6 rfl)).trans (congrFun (congrArg _ ((eq_unary (fix m c 5 rfl)).trans (congrArg _ (eq_nullary (fix m c 4 rfl))))) _)
def h7 : FVec Ideal S16 .f32 := V m c main_v7
theorem h7_eq : h7 m c = Host.divf (Host.negf (h4 m c)) (broadcastInDim S16 ![] bcast_S_S16 (constant S_ .f32 0x42000000#32)) :=
  (eq_binary (fix m c 10 rfl)).trans (congrArg₂ _ (eq_unary (fix m c 7 rfl)) ((eq_unary (fix m c 9 rfl)).trans (congrArg _ (eq_nullary (fix m c 8 rfl)))))
def h9 : FVec Ideal S16 .f32 := V m c main_v9
theorem h9_eq : h9 m c = Host.powf (broadcastInDim S16 ![] bcast_S_S16 (constant S_ .f32 0x48F42400#32)) (h7 m c) :=
  (eq_binary (fix m c 13 rfl)).trans (congrFun (congrArg _ ((eq_unary (fix m c 12 rfl)).trans (congrArg _ (eq_nullary (fix m c 11 rfl))))) _)

theorem h9_at (k : Fin 16) : h9 m c (ix1 k) = ((freq k : ℝ) : EReal) := by
  rw [h9_eq, h7_eq, h4_eq, h2_eq, h0_eq]
  pointwise
  exact freq_eq k

/-- The position of token `r`. -/
def posOf (P : IVec S1x4096 32) (r : ℕ) : ℝ := if h : r < 4096 then ((P (ix2 0 ⟨r, h⟩)).toInt : ℝ) else 0

/-- The same, of the launch's argument. -/
abbrev pos : ℕ → ℝ := posOf (m (c.tc.loc main_arg2))

def h11 : FVec Ideal S4096 .f32 := V m c main_v11
theorem h11_eq : h11 m c = sitofp .f32 (shapeCast S4096 (m (c.tc.loc main_arg2)) shapeCasts_S1x4096_S4096) :=
  (eq_unary (fix m c 15 rfl)).trans (congrArg _ ((eq_reshape (fix m c 14 rfl)).trans (by rw [show StableHlo.after hostOps0 (fun b => m (c, b)) (at_ main_arg2) = _ from V_main_arg2 m c]; rfl)))
def h16 : FVec Ideal S4096x16 .f32 := V m c main_v16
theorem h16_eq : h16 m c = mulf (broadcastInDim S4096x16 ![0, 1] bcast_S4096x1_S4096x16_0_1 (broadcastInDim S4096x1 ![0] bcast_S4096_S4096x1_0 (h11 m c)))
    (broadcastInDim S4096x16 ![0, 1] bcast_S1x16_S4096x16_0_1 (broadcastInDim S1x16 ![1] bcast_S16_S1x16_1 (h9 m c))) :=
  (eq_binary (fix m c 20 rfl)).trans (congrArg₂ _ ((eq_unary (fix m c 18 rfl)).trans (congrArg _ (eq_unary (fix m c 16 rfl))))
    ((eq_unary (fix m c 19 rfl)).trans (congrArg _ (eq_unary (fix m c 17 rfl)))))
def h17 : FVec Ideal S4096x16 .f32 := V m c main_v17
theorem h17_eq : h17 m c = Host.cos (h16 m c) := eq_unary (fix m c 21 rfl)
def h18 : FVec Ideal S4096x16 .f32 := V m c main_v18
theorem h18_eq : h18 m c = Host.sin (h16 m c) := eq_unary (fix m c 22 rfl)

theorem angle (P : IVec S1x4096 32) (f : FVec Ideal S16 .f32) (r : Fin 4096) (k : Fin 16) :
    (mulf (broadcastInDim S4096x16 ![0, 1] bcast_S4096x1_S4096x16_0_1 (broadcastInDim S4096x1 ![0] bcast_S4096_S4096x1_0
      (sitofp .f32 (shapeCast S4096 P shapeCasts_S1x4096_S4096))))
    (broadcastInDim S4096x16 ![0, 1] bcast_S1x16_S4096x16_0_1 (broadcastInDim S1x16 ![1] bcast_S16_S1x16_1 f)) : FVec Ideal S4096x16 .f32)
      (ix2 r k) = ((posOf P r : ℝ) : EReal) * f (ix1 k) := by
  rw [posOf, dif_pos r.isLt]
  pointwise
  rfl

theorem h16_at (r : Fin 4096) (k : Fin 16) : h16 m c (ix2 r k) = ((pos m c r * freq k : ℝ) : EReal) := by
  rw [h16_eq, h11_eq, angle, h9_at, EReal.coe_mul]

def h20 : FVec Ideal S4096x128 .f32 := V m c main_v20
theorem h20_eq : h20 m c = concatenate S4096x128 1 [⟨S4096x16, h17 m c⟩, ⟨S4096x16, h17 m c⟩,
    ⟨S4096x96, broadcastInDim S4096x96 ![] bcast_S_S4096x96 (constant S_ .f32 0x3F800000#32)⟩] concatenates_S4096x16_S4096x16_S4096x96_S4096x128_d1 :=
  (eq_nary (fix m c 25 rfl)).trans (by rw [← eq_nullary (fix m c 23 rfl), ← eq_unary (fix m c 24 rfl)]; rfl)
def h23 : FVec Ideal S4096x128 .f32 := V m c main_v23
theorem h23_eq : h23 m c = concatenate S4096x128 1 [⟨S4096x16, Host.negf (h18 m c)⟩, ⟨S4096x16, h18 m c⟩,
    ⟨S4096x96, broadcastInDim S4096x96 ![] bcast_S_S4096x96 (constant S_ .f32 0x00000000#32)⟩] concatenates_S4096x16_S4096x16_S4096x96_S4096x128_d1 :=
  (eq_nary (fix m c 29 rfl)).trans (by rw [← eq_nullary (fix m c 27 rfl), ← eq_unary (fix m c 28 rfl), h18, ← eq_unary (fix m c 26 rfl)]; rfl)

theorem V_cos (r : Fin 4096) (d : Fin 128) : V m c main_v20 (ix2 r d) = ((cosT (pos m c) r d : ℝ) : EReal) := by
  change h20 m c (ix2 r d) = _
  rw [h20_eq, h17_eq]
  pointwise
  rw [cosT]
  have hd := d.isLt
  split
  · rw [h16_at, Ideal.cos_coe]
  · rename_i h
    split
    · rename_i h'
      rw [h16_at, Ideal.cos_coe, dif_pos (by omega)]
    · rename_i h'
      rw [dif_neg (by omega)]; rfl

theorem V_sin (r : Fin 4096) (d : Fin 128) : V m c main_v23 (ix2 r d) = ((sinT (pos m c) r d : ℝ) : EReal) := by
  change h23 m c (ix2 r d) = _
  rw [h23_eq, h18_eq]
  pointwise
  rw [sinT]
  have hd := d.isLt
  split
  · rw [h16_at, Ideal.sin_coe]; rfl
  · rename_i h
    split
    · rename_i h'
      rw [h16_at, Ideal.sin_coe, dif_pos (by omega)]
    · rename_i h'
      rw [dif_neg (by omega)]; rfl

theorem V_sinks (r : Fin 16) : V m c main_v24 (ix1 r) = m (c.tc.loc main_arg5) (ix2 0 r) := by
  entry_read
  pointwise

end Cert.Attn
-- ==== Proof.Val.Reads.lean ====
/-
  What a point reads, as reals: the launch's arrays at the point's rows and columns.
-/
module

public import proofs.«01_k».proof.Proof.Val.Host
public import Idealize.ShloMosaic.Lib.Pipeline.ValueKit
public import Idealize.ShloMosaic.Lib.Pipeline.ValueKit.Point

@[expose] public section

set_option maxRecDepth 16384

noncomputable section

namespace Cert.Attn

open Idealize.ShloMosaic Idealize.ShloMosaic.TcCoe Cert.KernelIdeal Cert.KernelIdeal.Gen

/-- The arguments as reals: the upstream derivative, the projections, the positions, the two gains, the sinks. -/
structure Arrs where
  g : ℕ → ℕ → ℝ
  z : ℕ → ℕ → ℝ
  p : ℕ → ℝ
  qg : Fin 128 → ℝ
  kg : Fin 128 → ℝ
  sk : ℕ → ℝ

/-- What a point of head `h` and block `i` reads. -/
def Arrs.blk (A : Arrs) (h : Fin 4) (i : ℕ) : Blk where
  h := h
  i := i
  zq g r d := A.z (128 * i + r) (512 * h + (128 * g + d))
  kc r d := A.z (128 * i + r) (2048 + 128 * h + d)
  kp r d := A.z (128 * (i - 1) + r) (2048 + 128 * h + d)
  vc r d := A.z (128 * i + r) (2560 + 128 * h + d)
  vp r d := A.z (128 * (i - 1) + r) (2560 + 128 * h + d)
  cc r := cosT A.p (128 * i + r)
  sc r := sinT A.p (128 * i + r)
  cp r := cosT A.p (128 * (i - 1) + r)
  sp r := sinT A.p (128 * (i - 1) + r)
  qg := A.qg
  kg := A.kg
  dd g r d := A.g (128 * i + r) (512 * h + (128 * g + d))
  sk g := A.sk (4 * h + g)

/-- The launch's arguments hold these reals. -/
structure Arrs.Of (A : Arrs) (g : FVec Ideal S4096x2048 .f32) (z : FVec Ideal S4096x12800 .f32) (p : IVec S1x4096 32)
    (qg kg : FVec Ideal S1x128 .f32) (sk : FVec Ideal S1x16 .f32) : Prop where
  g : ∀ r d, g (ix2 r d) = ((A.g r.val d.val : ℝ) : EReal)
  z : ∀ r d, z (ix2 r d) = ((A.z r.val d.val : ℝ) : EReal)
  p : posOf p = A.p
  qg : ∀ d, qg (ix2 0 d) = ((A.qg d : ℝ) : EReal)
  kg : ∀ d, kg (ix2 0 d) = ((A.kg d : ℝ) : EReal)
  sk : ∀ h, sk (ix2 0 h) = ((A.sk h.val : ℝ) : EReal)

variable (m : (ℓ : Loc nD τ sig) → Buf (Elt Ideal) ℓ) (c : Dev nD) (t : Fin cfg0.N)

/-- The launch's arguments hold the reals `A`. -/
abbrev LaunchOf (A : Arrs) : Prop :=
  A.Of (m (c.tc.loc main_arg0)) (m (c.tc.loc main_arg1)) (m (c.tc.loc main_arg2)) (m (c.tc.loc main_arg3))
    (m (c.tc.loc main_arg4)) (m (c.tc.loc main_arg5))

/-! The windows' block indices. -/

theorem ix_0 : ∀ t : Fin cfg0.N, win0_0.index t = ![0] := (by decide +kernel : ∀ t : Fin grid0.N, _)
theorem ix_1 : ∀ t : Fin cfg0.N, win0_1.index t = ![min (t.val % 33) 31, t.val / 33] := (by decide +kernel : ∀ t : Fin grid0.N, _)
theorem ix_2 : ∀ t : Fin cfg0.N, win0_2.index t = ![min (t.val % 33) 31, 16 + t.val / 33] := (by decide +kernel : ∀ t : Fin grid0.N, _)
theorem ix_3 : ∀ t : Fin cfg0.N, win0_3.index t = ![min (t.val % 33) 31 - 1, 16 + t.val / 33] := (by decide +kernel : ∀ t : Fin grid0.N, _)
theorem ix_4 : ∀ t : Fin cfg0.N, win0_4.index t = ![min (t.val % 33) 31, 20 + t.val / 33] := (by decide +kernel : ∀ t : Fin grid0.N, _)
theorem ix_5 : ∀ t : Fin cfg0.N, win0_5.index t = ![min (t.val % 33) 31 - 1, 20 + t.val / 33] := (by decide +kernel : ∀ t : Fin grid0.N, _)
theorem ix_6 : ∀ t : Fin cfg0.N, win0_6.index t = ![min (t.val % 33) 31, 0] := (by decide +kernel : ∀ t : Fin grid0.N, _)
theorem ix_7 : ∀ t : Fin cfg0.N, win0_7.index t = ![min (t.val % 33) 31, 0] := (by decide +kernel : ∀ t : Fin grid0.N, _)
theorem ix_8 : ∀ t : Fin cfg0.N, win0_8.index t = ![min (t.val % 33) 31 - 1, 0] := (by decide +kernel : ∀ t : Fin grid0.N, _)
theorem ix_9 : ∀ t : Fin cfg0.N, win0_9.index t = ![min (t.val % 33) 31 - 1, 0] := (by decide +kernel : ∀ t : Fin grid0.N, _)
theorem ix_10 : ∀ t : Fin cfg0.N, win0_10.index t = ![0, 0] := (by decide +kernel : ∀ t : Fin grid0.N, _)
theorem ix_11 : ∀ t : Fin cfg0.N, win0_11.index t = ![0, 0] := (by decide +kernel : ∀ t : Fin grid0.N, _)
theorem ix_12 : ∀ t : Fin cfg0.N, win0_12.index t = ![min (t.val % 33) 31, t.val / 33] := (by decide +kernel : ∀ t : Fin grid0.N, _)
theorem ix_13 : ∀ t : Fin cfg0.N, win0_13.index t = ![min (t.val % 33) 31, t.val / 33] := (by decide +kernel : ∀ t : Fin grid0.N, _)
theorem ix_14 : ∀ t : Fin cfg0.N, win0_14.index t = ![t.val % 33 - 1, t.val / 33] := (by decide +kernel : ∀ t : Fin grid0.N, _)
theorem ix_15 : ∀ t : Fin cfg0.N, win0_15.index t = ![t.val % 33 - 1, t.val / 33] := (by decide +kernel : ∀ t : Fin grid0.N, _)

theorem tlt : t.val < 132 := t.isLt

/-! A window's block, at an index. -/

theorem iblk0 (r : Fin 16) : (iblk m c 0 t : Vec Ideal S16 .f32) (ix1 r) = m (c.tc.loc main_arg5) (ix2 0 r) := by
  refine Eq.trans ?_ (V_sinks m c r)
  blk_simp [iblk]
  refine congrArg _ (funext fun a => Fin.ext ?_)
  have e := ix_0 t
  fin_cases a
  blk_simp [e]

theorem iblk1 (ht : t.val % 33 < 32) (r : Fin 128) (d : Fin 512) (i : S4096x12800.Idx)
    (h0 : (i 0).val = 128 * (t.val % 33) + r.val) (h1 : (i 1).val = 512 * (t.val / 33) + d.val) :
    (iblk m c 1 t : Vec Ideal S128x512 .f32) (ix2 r d) = m (c.tc.loc main_arg1) i := by
  blk_simp [iblk]
  rw [V_main_arg1]
  refine congrArg _ (funext fun a => Fin.ext ?_)
  have e := ix_1 t
  fin_cases a <;> blk_simp [e]
  · show min (t.val % 33) 31 * 128 + r.val = (i 0).val
    omega
  · show (t.val / 33) * 512 + d.val = (i 1).val
    omega

theorem iblk2 (ht : t.val % 33 < 32) (r : Fin 128) (d : Fin 128) (i : S4096x12800.Idx)
    (h0 : (i 0).val = 128 * (t.val % 33) + r.val) (h1 : (i 1).val = 128 * (16 + t.val / 33) + d.val) :
    (iblk m c 2 t : Vec Ideal S128x128 .f32) (ix2 r d) = m (c.tc.loc main_arg1) i := by
  blk_simp [iblk]
  rw [V_main_arg1]
  refine congrArg _ (funext fun a => Fin.ext ?_)
  have e := ix_2 t
  fin_cases a <;> blk_simp [e]
  · show min (t.val % 33) 31 * 128 + r.val = (i 0).val
    omega
  · show (16 + t.val / 33) * 128 + d.val = (i 1).val
    omega

theorem iblk3 (ht : t.val % 33 < 32) (r : Fin 128) (d : Fin 128) (i : S4096x12800.Idx)
    (h0 : (i 0).val = 128 * (t.val % 33 - 1) + r.val) (h1 : (i 1).val = 128 * (16 + t.val / 33) + d.val) :
    (iblk m c 3 t : Vec Ideal S128x128 .f32) (ix2 r d) = m (c.tc.loc main_arg1) i := by
  blk_simp [iblk]
  rw [V_main_arg1]
  refine congrArg _ (funext fun a => Fin.ext ?_)
  have e := ix_3 t
  fin_cases a <;> blk_simp [e]
  · show (min (t.val % 33) 31 - 1) * 128 + r.val = (i 0).val
    omega
  · show (16 + t.val / 33) * 128 + d.val = (i 1).val
    omega

theorem iblk4 (ht : t.val % 33 < 32) (r : Fin 128) (d : Fin 128) (i : S4096x12800.Idx)
    (h0 : (i 0).val = 128 * (t.val % 33) + r.val) (h1 : (i 1).val = 128 * (20 + t.val / 33) + d.val) :
    (iblk m c 4 t : Vec Ideal S128x128 .f32) (ix2 r d) = m (c.tc.loc main_arg1) i := by
  blk_simp [iblk]
  rw [V_main_arg1]
  refine congrArg _ (funext fun a => Fin.ext ?_)
  have e := ix_4 t
  fin_cases a <;> blk_simp [e]
  · show min (t.val % 33) 31 * 128 + r.val = (i 0).val
    omega
  · show (20 + t.val / 33) * 128 + d.val = (i 1).val
    omega

theorem iblk5 (ht : t.val % 33 < 32) (r : Fin 128) (d : Fin 128) (i : S4096x12800.Idx)
    (h0 : (i 0).val = 128 * (t.val % 33 - 1) + r.val) (h1 : (i 1).val = 128 * (20 + t.val / 33) + d.val) :
    (iblk m c 5 t : Vec Ideal S128x128 .f32) (ix2 r d) = m (c.tc.loc main_arg1) i := by
  blk_simp [iblk]
  rw [V_main_arg1]
  refine congrArg _ (funext fun a => Fin.ext ?_)
  have e := ix_5 t
  fin_cases a <;> blk_simp [e]
  · show (min (t.val % 33) 31 - 1) * 128 + r.val = (i 0).val
    omega
  · show (20 + t.val / 33) * 128 + d.val = (i 1).val
    omega

theorem iblk6 (ht : t.val % 33 < 32) (r : Fin 128) (d : Fin 128) (i : S4096x128.Idx)
    (h0 : (i 0).val = 128 * (t.val % 33) + r.val) (h1 : (i 1).val = 128 * (0) + d.val) :
    (iblk m c 6 t : Vec Ideal S128x128 .f32) (ix2 r d) = V m c main_v20 i := by
  blk_simp [iblk]
  refine congrArg _ (funext fun a => Fin.ext ?_)
  have e := ix_6 t
  fin_cases a <;> blk_simp [e]
  · show min (t.val % 33) 31 * 128 + r.val = (i 0).val
    omega
  · exact (h1.trans (by show 128 * 0 + d.val = d.val; omega)).symm

theorem iblk7 (ht : t.val % 33 < 32) (r : Fin 128) (d : Fin 128) (i : S4096x128.Idx)
    (h0 : (i 0).val = 128 * (t.val % 33) + r.val) (h1 : (i 1).val = 128 * (0) + d.val) :
    (iblk m c 7 t : Vec Ideal S128x128 .f32) (ix2 r d) = V m c main_v23 i := by
  blk_simp [iblk]
  refine congrArg _ (funext fun a => Fin.ext ?_)
  have e := ix_7 t
  fin_cases a <;> blk_simp [e]
  · show min (t.val % 33) 31 * 128 + r.val = (i 0).val
    omega
  · exact (h1.trans (by show 128 * 0 + d.val = d.val; omega)).symm

theorem iblk8 (ht : t.val % 33 < 32) (r : Fin 128) (d : Fin 128) (i : S4096x128.Idx)
    (h0 : (i 0).val = 128 * (t.val % 33 - 1) + r.val) (h1 : (i 1).val = 128 * (0) + d.val) :
    (iblk m c 8 t : Vec Ideal S128x128 .f32) (ix2 r d) = V m c main_v20 i := by
  blk_simp [iblk]
  refine congrArg _ (funext fun a => Fin.ext ?_)
  have e := ix_8 t
  fin_cases a <;> blk_simp [e]
  · show (min (t.val % 33) 31 - 1) * 128 + r.val = (i 0).val
    omega
  · exact (h1.trans (by show 128 * 0 + d.val = d.val; omega)).symm

theorem iblk9 (ht : t.val % 33 < 32) (r : Fin 128) (d : Fin 128) (i : S4096x128.Idx)
    (h0 : (i 0).val = 128 * (t.val % 33 - 1) + r.val) (h1 : (i 1).val = 128 * (0) + d.val) :
    (iblk m c 9 t : Vec Ideal S128x128 .f32) (ix2 r d) = V m c main_v23 i := by
  blk_simp [iblk]
  refine congrArg _ (funext fun a => Fin.ext ?_)
  have e := ix_9 t
  fin_cases a <;> blk_simp [e]
  · show (min (t.val % 33) 31 - 1) * 128 + r.val = (i 0).val
    omega
  · exact (h1.trans (by show 128 * 0 + d.val = d.val; omega)).symm

theorem iblk10 (d : Fin 128) : (iblk m c 10 t : Vec Ideal S1x128 .f32) (ix2 0 d) = m (c.tc.loc main_arg3) (ix2 0 d) := by
  blk_simp [iblk]
  rw [V_main_arg3]
  refine congrArg _ (funext fun a => Fin.ext ?_)
  have e := ix_10 t
  fin_cases a <;> blk_simp [e]

theorem iblk11 (d : Fin 128) : (iblk m c 11 t : Vec Ideal S1x128 .f32) (ix2 0 d) = m (c.tc.loc main_arg4) (ix2 0 d) := by
  blk_simp [iblk]
  rw [V_main_arg4]
  refine congrArg _ (funext fun a => Fin.ext ?_)
  have e := ix_11 t
  fin_cases a <;> blk_simp [e]

theorem iblk12 (ht : t.val % 33 < 32) (r : Fin 128) (d : Fin 512) (i : S4096x2048.Idx)
    (h0 : (i 0).val = 128 * (t.val % 33) + r.val) (h1 : (i 1).val = 512 * (t.val / 33) + d.val) :
    (iblk m c 12 t : Vec Ideal S128x512 .f32) (ix2 r d) = m (c.tc.loc main_arg0) i := by
  blk_simp [iblk]
  rw [V_main_arg0]
  refine congrArg _ (funext fun a => Fin.ext ?_)
  have e := ix_12 t
  fin_cases a <;> blk_simp [e]
  · show min (t.val % 33) 31 * 128 + r.val = (i 0).val
    omega
  · show (t.val / 33) * 512 + d.val = (i 1).val
    omega

/-! A load of a whole window, and of a quarter of its columns. -/

theorem ld_sq (X : Vec Ideal S128x128 .f32) (r d : Fin 128) (inb) :
    View.ld X (Rect.unit (s := S128x128) ![0, 0] S128x128.size inb) (ix2 r d) = X (ix2 r d) :=
  View.ld_unit_apply_of _ _ _ _ _ (ix2 r d) (fun a => by
    fin_cases a
    · show r.val = 0 + r.val; omega
    · show d.val = 0 + d.val; omega)

theorem ld_row (X : Vec Ideal S1x128 .f32) (d : Fin 128) (inb) :
    View.ld X (Rect.unit (s := S1x128) ![0, 0] S1x128.size inb) (ix2 0 d) = X (ix2 0 d) :=
  View.ld_unit_apply_of _ _ _ _ _ (ix2 0 d) (fun a => by
    fin_cases a
    · rfl
    · show d.val = 0 + d.val; omega)

theorem ld_quarter (X : Vec Ideal S128x512 .f32) (o : ℕ) (ho : o + 128 ≤ 512) (r d : Fin 128) (inb) :
    View.ld X (Rect.unit (s := S128x512) ![0, o] S128x128.size inb) (ix2 r d) = X (ix2 r ⟨o + d.val, by omega⟩) :=
  View.ld_unit_apply_of _ _ _ _ _ (ix2 r ⟨o + d.val, by omega⟩) (fun a => by
    fin_cases a
    · show r.val = 0 + r.val; omega
    · rfl)

theorem ld_sink (X : Vec Ideal S16 .f32) (off : Fin 1 → ℕ) (inb) (i : S1.Idx) (n : Fin 16) (hn : off = ![n.val]) :
    View.ld X (Rect.unit (s := S16) off S1.size inb) i = X (ix1 n) :=
  View.ld_unit_apply_of _ _ _ _ _ (ix1 n) (fun a => by
    subst hn
    have : (i a).val < S1.size a := (i a).isLt
    fin_cases a
    have h : (i 0).val < 1 := this
    show n.val = n.val + (i 0).val
    omega)

theorem coords0 : ∀ t : Fin cfg0.N, (grid0.coords t 0).val = t.val / 33 := (by decide +kernel : ∀ t : Fin grid0.N, _)
theorem coords1 : ∀ t : Fin cfg0.N, (grid0.coords t 1).val = t.val % 33 := (by decide +kernel : ∀ t : Fin grid0.N, _)

variable {m c} {A : Arrs} (hA : LaunchOf m c A)
include hA

theorem rdS_eq (h : cond0_2 (grid0.coords t)) (k : Fin 4) :
    rdS m c t h k = ((A.sk (4 * (t.val / 33) + k.val) : ℝ) : EReal) := by
  have := tlt t
  have hk := k.isLt
  have e := iblk0 m c t ⟨4 * (t.val / 33) + k.val, by omega⟩
  rw [hA.sk] at e
  refine Eq.trans ?_ e
  refine (congrFun (View.readAt_eq_ld _ _ _) _).trans ?_
  rw [Memref.IsWhole.read_unread]
  exact ld_sink _ _ _ _ ⟨4 * (t.val / 33) + k.val, by omega⟩ (by rw [k0_off1_eq, coords0])

theorem rdZ_eq (ht : t.val % 33 < 32) (k : Fin 4) (o : ℕ) (ho : o = 128 * k.val) (inb) (r d : Fin 128) :
    rdZ m c t o inb (ix2 r d) = ((A.z (128 * (t.val % 33) + r.val) (512 * (t.val / 33) + (128 * k.val + d.val)) : ℝ) : EReal) := by
  subst ho
  have := tlt t
  refine (congrFun (View.readAt_eq_ld _ _ _) _).trans ?_
  rw [Memref.IsWhole.read_unread, ld_quarter _ _ (by omega)]
  rw [iblk1 m c t ht _ _ (ix2 ⟨128 * (t.val % 33) + r.val, by omega⟩ ⟨512 * (t.val / 33) + (128 * k.val + d.val), by omega⟩) rfl rfl]
  exact hA.z _ _

theorem rdD_eq (ht : t.val % 33 < 32) (k : Fin 4) (o : ℕ) (ho : o = 128 * k.val) (inb) (r d : Fin 128) :
    rdD m c t o inb (ix2 r d) = ((A.g (128 * (t.val % 33) + r.val) (512 * (t.val / 33) + (128 * k.val + d.val)) : ℝ) : EReal) := by
  subst ho
  have := tlt t
  refine (congrFun (View.readAt_eq_ld _ _ _) _).trans ?_
  rw [Memref.IsWhole.read_unread, ld_quarter _ _ (by omega)]
  rw [iblk12 m c t ht _ _ (ix2 ⟨128 * (t.val % 33) + r.val, by omega⟩ ⟨512 * (t.val / 33) + (128 * k.val + d.val), by omega⟩) rfl rfl]
  exact hA.g _ _

theorem z_at (a b : ℕ) (ha : a < 4096) (hb : b < 12800) :
    m (c.tc.loc main_arg1) (ix2 ⟨a, ha⟩ ⟨b, hb⟩) = ((A.z a b : ℝ) : EReal) := hA.z _ _

theorem cos_at (a : ℕ) (ha : a < 4096) (d : Fin 128) : V m c main_v20 (ix2 ⟨a, ha⟩ d) = ((cosT A.p a d : ℝ) : EReal) := by
  rw [V_cos, pos, hA.p]

theorem sin_at (a : ℕ) (ha : a < 4096) (d : Fin 128) : V m c main_v23 (ix2 ⟨a, ha⟩ d) = ((sinT A.p a d : ℝ) : EReal) := by
  rw [V_sin, pos, hA.p]

set_option maxHeartbeats 4000000 in
/-- A point of a head's first 32 reads the head's tensors at its block. -/
theorem holds (ht : t.val % 33 < 32) (h : cond0_2 (grid0.coords t)) (g : Fin 4) (hg : t.val / 33 = g.val) :
    Holds (pt m c t h) (A.blk g (t.val % 33)) := by
  have := tlt t
  constructor
  · exact lt_trans ht (by omega)
  · show BitVec.ofNat 32 (grid0.coords t 0).val = _
    rw [coords0, hg]; rfl
  · show BitVec.ofNat 32 (grid0.coords t 1).val = _
    rw [coords1]; rfl
  · exact (rdS_eq t hA h 0).trans (by rw [hg]; rfl)
  · exact (rdS_eq t hA h 1).trans (by rw [hg]; rfl)
  · exact (rdS_eq t hA h 2).trans (by rw [hg]; rfl)
  · exact (rdS_eq t hA h 3).trans (by rw [hg]; rfl)
  · intro r d; exact (rdZ_eq t hA ht 0 _ rfl _ r d).trans (by rw [hg]; rfl)
  · intro r d; exact (rdZ_eq t hA ht 1 _ rfl _ r d).trans (by rw [hg]; rfl)
  · intro r d; exact (rdZ_eq t hA ht 2 _ rfl _ r d).trans (by rw [hg]; rfl)
  · intro r d; exact (rdZ_eq t hA ht 3 _ rfl _ r d).trans (by rw [hg]; rfl)
  · intro r d
    refine (congrFun (View.readAt_eq_ld _ _ _) _).trans ?_
    rw [Memref.IsWhole.read_unread, ld_sq, iblk2 m c t ht _ _ (ix2 ⟨128 * (t.val % 33) + r.val, by omega⟩ ⟨2048 + 128 * g.val + d.val, by omega⟩) rfl (by show 2048 + 128 * g.val + d.val = 128 * (16 + t.val / 33) + d.val; omega)]
    exact hA.z _ _
  · intro r d
    refine (congrFun (View.readAt_eq_ld _ _ _) _).trans ?_
    rw [Memref.IsWhole.read_unread, ld_sq, iblk3 m c t ht _ _ (ix2 ⟨128 * (t.val % 33 - 1) + r.val, by omega⟩ ⟨2048 + 128 * g.val + d.val, by omega⟩) rfl (by show 2048 + 128 * g.val + d.val = 128 * (16 + t.val / 33) + d.val; omega)]
    exact hA.z _ _
  · intro r d
    refine (congrFun (View.readAt_eq_ld _ _ _) _).trans ?_
    rw [Memref.IsWhole.read_unread, ld_sq, iblk4 m c t ht _ _ (ix2 ⟨128 * (t.val % 33) + r.val, by omega⟩ ⟨2560 + 128 * g.val + d.val, by omega⟩) rfl (by show 2560 + 128 * g.val + d.val = 128 * (20 + t.val / 33) + d.val; omega)]
    exact hA.z _ _
  · intro r d
    refine (congrFun (View.readAt_eq_ld _ _ _) _).trans ?_
    rw [Memref.IsWhole.read_unread, ld_sq, iblk5 m c t ht _ _ (ix2 ⟨128 * (t.val % 33 - 1) + r.val, by omega⟩ ⟨2560 + 128 * g.val + d.val, by omega⟩) rfl (by show 2560 + 128 * g.val + d.val = 128 * (20 + t.val / 33) + d.val; omega)]
    exact hA.z _ _
  · intro r d
    refine (congrFun (View.readAt_eq_ld _ _ _) _).trans ?_
    rw [Memref.IsWhole.read_unread, ld_sq, iblk6 m c t ht _ _ (ix2 ⟨128 * (t.val % 33) + r.val, by omega⟩ d) rfl (by show d.val = 128 * 0 + d.val; omega)]
    exact cos_at hA _ _ d
  · intro r d
    refine (congrFun (View.readAt_eq_ld _ _ _) _).trans ?_
    rw [Memref.IsWhole.read_unread, ld_sq, iblk7 m c t ht _ _ (ix2 ⟨128 * (t.val % 33) + r.val, by omega⟩ d) rfl (by show d.val = 128 * 0 + d.val; omega)]
    exact sin_at hA _ _ d
  · intro r d
    refine (congrFun (View.readAt_eq_ld _ _ _) _).trans ?_
    rw [Memref.IsWhole.read_unread, ld_sq, iblk8 m c t ht _ _ (ix2 ⟨128 * (t.val % 33 - 1) + r.val, by omega⟩ d) rfl (by show d.val = 128 * 0 + d.val; omega)]
    exact cos_at hA _ _ d
  · intro r d
    refine (congrFun (View.readAt_eq_ld _ _ _) _).trans ?_
    rw [Memref.IsWhole.read_unread, ld_sq, iblk9 m c t ht _ _ (ix2 ⟨128 * (t.val % 33 - 1) + r.val, by omega⟩ d) rfl (by show d.val = 128 * 0 + d.val; omega)]
    exact sin_at hA _ _ d
  · intro d
    refine (congrFun (View.readAt_eq_ld _ _ _) _).trans ?_
    rw [Memref.IsWhole.read_unread, ld_row, iblk10 m c t]
    exact hA.qg d
  · intro d
    refine (congrFun (View.readAt_eq_ld _ _ _) _).trans ?_
    rw [Memref.IsWhole.read_unread, ld_row, iblk11 m c t]
    exact hA.kg d
  · intro r d; exact (rdD_eq t hA ht 0 _ rfl _ r d).trans (by rw [hg]; rfl)
  · intro r d; exact (rdD_eq t hA ht 1 _ rfl _ r d).trans (by rw [hg]; rfl)
  · intro r d; exact (rdD_eq t hA ht 2 _ rfl _ r d).trans (by rw [hg]; rfl)
  · intro r d; exact (rdD_eq t hA ht 3 _ rfl _ r d).trans (by rw [hg]; rfl)

end Cert.Attn
-- ==== Proof.Val.Pre.lean ====
/-
  The precondition: arguments that are all finite hold reals.
-/
module

public import proofs.«01_k».proof.Pre_finite
public import proofs.«01_k».proof.Proof.Val.Reads
public import Idealize.ShloMosaic.Lib.ReduceAll

@[expose] public section

noncomputable section

namespace Cert.Pre_finite

open Idealize.ShloMosaic Cert.Attn

/-- The shape relations that the precondition states. -/
theorem facts : Facts where
  bcast_S_S4096x2048 := by decide
  reducesTo_S4096x2048_S_d0_1 := by decide
  h_S_ := by decide
  bcast_S_S4096x12800 := by decide
  reducesTo_S4096x12800_S_d0_1 := by decide
  bcast_S_S1x128 := by decide
  reducesTo_S1x128_S_d0_1 := by decide
  bcast_S_S1x16 := by decide
  reducesTo_S1x16_S_d0_1 := by decide

theorem andi_one (a b : BitVec 1) : IntOp.andi a b = 1#1 ↔ a = 1#1 ∧ b = 1#1 := by revert a b; decide

/-- A number whose absolute value is below the largest is a real. -/
theorem real_of_lt (x : EReal) (h : Ideal.cmp .olt (max x (-x)) (Ideal.ofBits .f32 0x7F800000#32) = 1#1) :
    x = ((x.toReal : ℝ) : EReal) := by
  have e : Ideal.ofBits .f32 0x7F800000#32 = ⊤ := by simp [Ideal.ofBits, Ideal.ieee]
  have h' : max x (-x) < ⊤ := by
    rw [e] at h
    change BitVec.ofBool (decide (max x (-x) < (⊤ : EReal))) = 1#1 at h
    exact of_decide_eq_true (by revert h; cases decide (max x (-x) < (⊤ : EReal)) <;> decide)
  refine (EReal.coe_toReal ?_ ?_).symm
  · rintro rfl; simp at h'
  · rintro rfl; simp at h'

variable [Facts]
open Facts

theorem all_real {s : Shape} {axes : List (Fin s.rank)} (x : FVec Ideal s .f32) (hb : S_.BroadcastsInDim s (![] : Fin 0 → Fin s.rank))
    (hr : s.ReducesTo axes S_) (z : IVec S_ 1) (j : S_.Idx)
    (e : Host.reduce IntOp.andi (cmpf .olt (Host.absf x) (broadcastInDim s ![] hb (constant (F := Ideal) S_ .f32 0x7F800000#32))) z hr h_S_ j = 1#1)
    (i : s.Idx) : x i = ((EReal.toReal (x i) : ℝ) : EReal) := by
  haveI : Subsingleton S_.Idx := ⟨fun a b => funext fun k => k.elim0⟩
  exact real_of_lt _ (Host.reduce_andi_all _ z hr h_S_ j e i)

/-- Every float argument holds reals. -/
theorem reals (g : FVec Ideal S4096x2048 .f32) (z : FVec Ideal S4096x12800 .f32) (p : IVec S1x4096 32)
    (qg kg : FVec Ideal S1x128 .f32) (sk : FVec Ideal S1x16 .f32) (h : fn g z p qg kg sk = fun _ => 1#1) :
    (∀ i, g i = ((EReal.toReal (g i) : ℝ) : EReal)) ∧ (∀ i, z i = ((EReal.toReal (z i) : ℝ) : EReal))
      ∧ (∀ i, qg i = ((EReal.toReal (qg i) : ℝ) : EReal)) ∧ (∀ i, kg i = ((EReal.toReal (kg i) : ℝ) : EReal))
      ∧ ∀ i, sk i = ((EReal.toReal (sk i) : ℝ) : EReal) := by
  have e := congrFun h fun k => k.elim0
  simp only [fn, fn_part1] at e
  simp only [andi, andi_one] at e
  obtain ⟨⟨⟨⟨e0, e1⟩, e2⟩, e3⟩, e4⟩ := e
  exact ⟨all_real g _ _ _ _ e0, all_real z _ _ _ _ e1, all_real qg _ _ _ _ e2, all_real kg _ _ _ _ e3, all_real sk _ _ _ _ e4⟩

/-- The reals of arguments that are all finite. -/
def arrs (g : FVec Ideal S4096x2048 .f32) (z : FVec Ideal S4096x12800 .f32) (p : IVec S1x4096 32)
    (qg kg : FVec Ideal S1x128 .f32) (sk : FVec Ideal S1x16 .f32) : Arrs where
  g r d := if h : r < 4096 ∧ d < 2048 then EReal.toReal (g (ix2 ⟨r, h.1⟩ ⟨d, h.2⟩)) else 0
  z r d := if h : r < 4096 ∧ d < 12800 then EReal.toReal (z (ix2 ⟨r, h.1⟩ ⟨d, h.2⟩)) else 0
  p := posOf p
  qg d := EReal.toReal (qg (ix2 0 d))
  kg d := EReal.toReal (kg (ix2 0 d))
  sk h := if h' : h < 16 then EReal.toReal (sk (ix2 0 ⟨h, h'⟩)) else 0

theorem arrs_of (g : FVec Ideal S4096x2048 .f32) (z : FVec Ideal S4096x12800 .f32) (p : IVec S1x4096 32)
    (qg kg : FVec Ideal S1x128 .f32) (sk : FVec Ideal S1x16 .f32) (h : fn g z p qg kg sk = fun _ => 1#1) :
    (arrs g z p qg kg sk).Of g z p qg kg sk := by
  obtain ⟨hg, hz, hq, hk, hs⟩ := reals g z p qg kg sk h
  exact {
    g := fun r d => (hg _).trans (by simp only [arrs]; rw [dif_pos ⟨r.isLt, d.isLt⟩])
    z := fun r d => (hz _).trans (by simp only [arrs]; rw [dif_pos ⟨r.isLt, d.isLt⟩])
    p := rfl
    qg := fun d => hq _
    kg := fun d => hk _
    sk := fun h => (hs _).trans (by simp only [arrs]; rw [dif_pos h.isLt]) }

end Cert.Pre_finite

end
-- ==== Proof.Ref.Ops.lean ====
/- The reference's @main as a list of its host operations, the equation of the program with that list, and the two
   side conditions of `run_seq` on it. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v74`, named. It packs its operands into a list of dependent pairs
    whose shapes a later argument's type mentions, so `simp` cannot rewrite an operand where it stands; applied by
    name, the operands are plain arguments, which the window lemmas below rewrite before the name unfolds. -/
def fn_main_v74 : (main_v68 : Ref sig .tc).ty.Contents (Elt F) → (main_v73 : Ref sig .tc).ty.Contents (Elt F) → (main_v63 : Ref sig .tc).ty.Contents (Elt F) → (main_v74 : Ref sig .tc).ty.Contents (Elt F) :=
  (fun u0 u1 u2 => (concatenate S1x4096x16x128 3 [⟨S1x4096x16x16, (u0 : (⟨S1x4096x16x16, .f32⟩ : BufTy).Contents (Elt F))⟩, ⟨S1x4096x16x16, (u1 : (⟨S1x4096x16x16, .f32⟩ : BufTy).Contents (Elt F))⟩, ⟨S1x4096x16x96, (u2 : (⟨S1x4096x16x96, .f32⟩ : BufTy).Contents (Elt F))⟩] concatenates_S1x4096x16x16_S1x4096x16x16_S1x4096x16x96_S1x4096x16x128_d3 : (⟨S1x4096x16x128, .f32⟩ : BufTy).Contents (Elt F)))

/-- The function of the operation that writes `main_v88`, named. It packs its operands into a list of dependent pairs
    whose shapes a later argument's type mentions, so `simp` cannot rewrite an operand where it stands; applied by
    name, the operands are plain arguments, which the window lemmas below rewrite before the name unfolds. -/
def fn_main_v88 : (main_v82 : Ref sig .tc).ty.Contents (Elt F) → (main_v87 : Ref sig .tc).ty.Contents (Elt F) → (main_v77 : Ref sig .tc).ty.Contents (Elt F) → (main_v88 : Ref sig .tc).ty.Contents (Elt F) :=
  (fun u0 u1 u2 => (concatenate S1x4096x4x128 3 [⟨S1x4096x4x16, (u0 : (⟨S1x4096x4x16, .f32⟩ : BufTy).Contents (Elt F))⟩, ⟨S1x4096x4x16, (u1 : (⟨S1x4096x4x16, .f32⟩ : BufTy).Contents (Elt F))⟩, ⟨S1x4096x4x96, (u2 : (⟨S1x4096x4x96, .f32⟩ : BufTy).Contents (Elt F))⟩] concatenates_S1x4096x4x16_S1x4096x4x16_S1x4096x4x96_S1x4096x4x128_d3 : (⟨S1x4096x4x128, .f32⟩ : BufTy).Contents (Elt F)))

/-- The function of the operation that writes `main_v96`, named. It packs its operands into a list of dependent pairs
    whose shapes a later argument's type mentions, so `simp` cannot rewrite an operand where it stands; applied by
    name, the operands are plain arguments, which the window lemmas below rewrite before the name unfolds. -/
def fn_main_v96 : (⟨S1x1x128x4x128, .f32⟩ : BufTy).Contents (Elt F) → (⟨S1x31x128x4x128, .f32⟩ : BufTy).Contents (Elt F) → (⟨S1x32x128x4x128, .f32⟩ : BufTy).Contents (Elt F) :=
  (fun a b => concatenate S1x32x128x4x128 1 [⟨S1x1x128x4x128, a⟩, ⟨S1x31x128x4x128, b⟩] concatenates_S1x1x128x4x128_S1x31x128x4x128_S1x32x128x4x128_d1)

/-- The function of the operation that writes `main_v98`, named. It packs its operands into a list of dependent pairs
    whose shapes a later argument's type mentions, so `simp` cannot rewrite an operand where it stands; applied by
    name, the operands are plain arguments, which the window lemmas below rewrite before the name unfolds. -/
def fn_main_v98 : (⟨S1x32x128x4x128, .f32⟩ : BufTy).Contents (Elt F) → (⟨S1x32x128x4x128, .f32⟩ : BufTy).Contents (Elt F) → (⟨S1x32x256x4x128, .f32⟩ : BufTy).Contents (Elt F) :=
  (fun a b => concatenate S1x32x256x4x128 2 [⟨S1x32x128x4x128, a⟩, ⟨S1x32x128x4x128, b⟩] concatenates_S1x32x128x4x128_S1x32x128x4x128_S1x32x256x4x128_d2)

/-- The function of the operation that writes `main_v103`, named. It packs its operands into a list of dependent pairs
    whose shapes a later argument's type mentions, so `simp` cannot rewrite an operand where it stands; applied by
    name, the operands are plain arguments, which the window lemmas below rewrite before the name unfolds. -/
def fn_main_v103 : (⟨S1x1x128x4x128, .f32⟩ : BufTy).Contents (Elt F) → (⟨S1x31x128x4x128, .f32⟩ : BufTy).Contents (Elt F) → (⟨S1x32x128x4x128, .f32⟩ : BufTy).Contents (Elt F) :=
  (fun a b => concatenate S1x32x128x4x128 1 [⟨S1x1x128x4x128, a⟩, ⟨S1x31x128x4x128, b⟩] concatenates_S1x1x128x4x128_S1x31x128x4x128_S1x32x128x4x128_d1)

/-- The function of the operation that writes `main_v105`, named. It packs its operands into a list of dependent pairs
    whose shapes a later argument's type mentions, so `simp` cannot rewrite an operand where it stands; applied by
    name, the operands are plain arguments, which the window lemmas below rewrite before the name unfolds. -/
def fn_main_v105 : (⟨S1x32x128x4x128, .f32⟩ : BufTy).Contents (Elt F) → (⟨S1x32x128x4x128, .f32⟩ : BufTy).Contents (Elt F) → (⟨S1x32x256x4x128, .f32⟩ : BufTy).Contents (Elt F) :=
  (fun a b => concatenate S1x32x256x4x128 2 [⟨S1x32x128x4x128, a⟩, ⟨S1x32x128x4x128, b⟩] concatenates_S1x32x128x4x128_S1x32x128x4x128_S1x32x256x4x128_d2)

/-- The function of the operation that writes `main_v143`, named. It packs its operands into a list of dependent pairs
    whose shapes a later argument's type mentions, so `simp` cannot rewrite an operand where it stands; applied by
    name, the operands are plain arguments, which the window lemmas below rewrite before the name unfolds. -/
def fn_main_v143 : (⟨S1x32x4x4x128x256, .f32⟩ : BufTy).Contents (Elt F) → (⟨S1x32x4x4x128x1, .f32⟩ : BufTy).Contents (Elt F) → (⟨S1x32x4x4x128x257, .f32⟩ : BufTy).Contents (Elt F) :=
  (fun a b => concatenate S1x32x4x4x128x257 5 [⟨S1x32x4x4x128x256, a⟩, ⟨S1x32x4x4x128x1, b⟩] concatenates_S1x32x4x4x128x256_S1x32x4x4x128x1_S1x32x4x4x128x257_d5)

/-- @main's operations 1 … 60 of 384 (window `main_part0`). -/
abbrev ops_part0 : List (HloOp τ sig (Elt F)) :=
  [ nullary main_v0 (sitofp .f32 (iotaInDim S16 32 0)),
    nullary main_cst (constant S_ .f32 0x40000000#32),
    unary main_cst main_v1 (broadcastInDim S16 ![] bcast_S_S16 : (⟨S_, .f32⟩ : BufTy).Contents (Elt F) → (⟨S16, .f32⟩ : BufTy).Contents (Elt F)),
    binary main_v1 main_v0 main_v2 (mulf : (⟨S16, .f32⟩ : BufTy).Contents (Elt F) → (⟨S16, .f32⟩ : BufTy).Contents (Elt F) → (⟨S16, .f32⟩ : BufTy).Contents (Elt F)),
    nullary main_cst_0 (constant S_ .f32 0x00000000#32),
    unary main_cst_0 main_v3 (broadcastInDim S16 ![] bcast_S_S16 : (⟨S_, .f32⟩ : BufTy).Contents (Elt F) → (⟨S16, .f32⟩ : BufTy).Contents (Elt F)),
    binary main_v3 main_v2 main_v4 (addf : (⟨S16, .f32⟩ : BufTy).Contents (Elt F) → (⟨S16, .f32⟩ : BufTy).Contents (Elt F) → (⟨S16, .f32⟩ : BufTy).Contents (Elt F)),
    unary main_v4 main_v5 (Host.negf : (⟨S16, .f32⟩ : BufTy).Contents (Elt F) → (⟨S16, .f32⟩ : BufTy).Contents (Elt F)),
    nullary main_cst_1 (constant S_ .f32 0x42000000#32),
    unary main_cst_1 main_v6 (broadcastInDim S16 ![] bcast_S_S16 : (⟨S_, .f32⟩ : BufTy).Contents (Elt F) → (⟨S16, .f32⟩ : BufTy).Contents (Elt F)),
    binary main_v5 main_v6 main_v7 (Host.divf : (⟨S16, .f32⟩ : BufTy).Contents (Elt F) → (⟨S16, .f32⟩ : BufTy).Contents (Elt F) → (⟨S16, .f32⟩ : BufTy).Contents (Elt F)),
    nullary main_cst_2 (constant S_ .f32 0x48F42400#32),
    unary main_cst_2 main_v8 (broadcastInDim S16 ![] bcast_S_S16 : (⟨S_, .f32⟩ : BufTy).Contents (Elt F) → (⟨S16, .f32⟩ : BufTy).Contents (Elt F)),
    binary main_v8 main_v7 main_v9 (Host.powf : (⟨S16, .f32⟩ : BufTy).Contents (Elt F) → (⟨S16, .f32⟩ : BufTy).Contents (Elt F) → (⟨S16, .f32⟩ : BufTy).Contents (Elt F)),
    unary main_arg2 main_v10 (sitofp .f32 : (⟨S1x4096, .i32⟩ : BufTy).Contents (Elt F) → (⟨S1x4096, .f32⟩ : BufTy).Contents (Elt F)),
    unary main_v10 main_v11 (broadcastInDim S1x4096x1 ![0, 1] bcast_S1x4096_S1x4096x1_0_1 : (⟨S1x4096, .f32⟩ : BufTy).Contents (Elt F) → (⟨S1x4096x1, .f32⟩ : BufTy).Contents (Elt F)),
    unary main_v9 main_v12 (broadcastInDim S1x1x16 ![2] bcast_S16_S1x1x16_2 : (⟨S16, .f32⟩ : BufTy).Contents (Elt F) → (⟨S1x1x16, .f32⟩ : BufTy).Contents (Elt F)),
    unary main_v11 main_v13 (broadcastInDim S1x4096x16 ![0, 1, 2] bcast_S1x4096x1_S1x4096x16_0_1_2 : (⟨S1x4096x1, .f32⟩ : BufTy).Contents (Elt F) → (⟨S1x4096x16, .f32⟩ : BufTy).Contents (Elt F)),
    unary main_v12 main_v14 (broadcastInDim S1x4096x16 ![0, 1, 2] bcast_S1x1x16_S1x4096x16_0_1_2 : (⟨S1x1x16, .f32⟩ : BufTy).Contents (Elt F) → (⟨S1x4096x16, .f32⟩ : BufTy).Contents (Elt F)),
    binary main_v13 main_v14 main_v15 (mulf : (⟨S1x4096x16, .f32⟩ : BufTy).Contents (Elt F) → (⟨S1x4096x16, .f32⟩ : BufTy).Contents (Elt F) → (⟨S1x4096x16, .f32⟩ : BufTy).Contents (Elt F)),
    unary main_v15 main_v16 (Host.cos : (⟨S1x4096x16, .f32⟩ : BufTy).Contents (Elt F) → (⟨S1x4096x16, .f32⟩ : BufTy).Contents (Elt F)),
    unary main_v16 main_v17 (broadcastInDim S1x4096x1x16 ![0, 1, 3] bcast_S1x4096x16_S1x4096x1x16_0_1_3 : (⟨S1x4096x16, .f32⟩ : BufTy).Contents (Elt F) → (⟨S1x4096x1x16, .f32⟩ : BufTy).Contents (Elt F)),
    unary main_v15 main_v18 (Host.sin : (⟨S1x4096x16, .f32⟩ : BufTy).Contents (Elt F) → (⟨S1x4096x16, .f32⟩ : BufTy).Contents (Elt F)),
    unary main_v18 main_v19 (broadcastInDim S1x4096x1x16 ![0, 1, 3] bcast_S1x4096x16_S1x4096x1x16_0_1_3 : (⟨S1x4096x16, .f32⟩ : BufTy).Contents (Elt F) → (⟨S1x4096x1x16, .f32⟩ : BufTy).Contents (Elt F)),
    unary main_arg1 main_v20 (broadcastInDim S1x4096x12800 ![1, 2] bcast_S4096x12800_S1x4096x12800_1_2 : (⟨S4096x12800, .f32⟩ : BufTy).Contents (Elt F) → (⟨S1x4096x12800, .f32⟩ : BufTy).Contents (Elt F)),
    unary main_v20 main_v21 ((extractStridedSlice S1x4096x2048 ![0, 0, 0] · slices_S1x4096x12800_S1x4096x2048_0_0_0) : (⟨S1x4096x12800, .f32⟩ : BufTy).Contents (Elt F) → (⟨S1x4096x2048, .f32⟩ : BufTy).Contents (Elt F)),
    unary main_v20 main_v22 ((extractStridedSlice S1x4096x512 ![0, 0, 2048] · slices_S1x4096x12800_S1x4096x512_0_0_2048) : (⟨S1x4096x12800, .f32⟩ : BufTy).Contents (Elt F) → (⟨S1x4096x512, .f32⟩ : BufTy).Contents (Elt F)),
    unary main_v20 main_v23 ((extractStridedSlice S1x4096x512 ![0, 0, 2560] · slices_S1x4096x12800_S1x4096x512_0_0_2560) : (⟨S1x4096x12800, .f32⟩ : BufTy).Contents (Elt F) → (⟨S1x4096x512, .f32⟩ : BufTy).Contents (Elt F)),
    unary main_v20 main_v24 ((extractStridedSlice S1x4096x9728 ![0, 0, 3072] · slices_S1x4096x12800_S1x4096x9728_0_0_3072) : (⟨S1x4096x12800, .f32⟩ : BufTy).Contents (Elt F) → (⟨S1x4096x9728, .f32⟩ : BufTy).Contents (Elt F)),
    reshape main_v21 main_v25 (rfl : (.f32 : EltTy) = .f32) shapeCasts_S1x4096x2048_S1x4096x16x128,
    reshape main_arg3 main_v26 (rfl : (.f32 : EltTy) = .f32) shapeCasts_S1x128_S128,
    binary main_v25 main_v25 main_v27 (mulf : (⟨S1x4096x16x128, .f32⟩ : BufTy).Contents (Elt F) → (⟨S1x4096x16x128, .f32⟩ : BufTy).Contents (Elt F) → (⟨S1x4096x16x128, .f32⟩ : BufTy).Contents (Elt F)),
    nullary main_cst_3 (constant S_ .f32 0x00000000#32),
    binary main_v27 main_cst_3 main_v28 ((fun x v => Host.reduceAdd x v reducesTo_S1x4096x16x128_S1x4096x16_d3 h_S_) : (⟨S1x4096x16x128, .f32⟩ : BufTy).Contents (Elt F) → (⟨S_, .f32⟩ : BufTy).Contents (Elt F) → (⟨S1x4096x16, .f32⟩ : BufTy).Contents (Elt F)),
    unary main_v28 main_v29 (broadcastInDim S1x4096x16x1 ![0, 1, 2] bcast_S1x4096x16_S1x4096x16x1_0_1_2 : (⟨S1x4096x16, .f32⟩ : BufTy).Contents (Elt F) → (⟨S1x4096x16x1, .f32⟩ : BufTy).Contents (Elt F)),
    nullary main_cst_4 (constant S_ .f32 0x43000000#32),
    unary main_cst_4 main_v30 (broadcastInDim S1x4096x16x1 ![] bcast_S_S1x4096x16x1 : (⟨S_, .f32⟩ : BufTy).Contents (Elt F) → (⟨S1x4096x16x1, .f32⟩ : BufTy).Contents (Elt F)),
    binary main_v29 main_v30 main_v31 (Host.divf : (⟨S1x4096x16x1, .f32⟩ : BufTy).Contents (Elt F) → (⟨S1x4096x16x1, .f32⟩ : BufTy).Contents (Elt F) → (⟨S1x4096x16x1, .f32⟩ : BufTy).Contents (Elt F)),
    nullary main_cst_5 (constant S_ .f32 0x358637BD#32),
    unary main_cst_5 main_v32 (broadcastInDim S1x4096x16x1 ![] bcast_S_S1x4096x16x1 : (⟨S_, .f32⟩ : BufTy).Contents (Elt F) → (⟨S1x4096x16x1, .f32⟩ : BufTy).Contents (Elt F)),
    binary main_v31 main_v32 main_v33 (addf : (⟨S1x4096x16x1, .f32⟩ : BufTy).Contents (Elt F) → (⟨S1x4096x16x1, .f32⟩ : BufTy).Contents (Elt F) → (⟨S1x4096x16x1, .f32⟩ : BufTy).Contents (Elt F)),
    unary main_v33 main_v34 (Host.rsqrt : (⟨S1x4096x16x1, .f32⟩ : BufTy).Contents (Elt F) → (⟨S1x4096x16x1, .f32⟩ : BufTy).Contents (Elt F)),
    binary main_v34 main_v33 main_v35 (Host.divf : (⟨S1x4096x16x1, .f32⟩ : BufTy).Contents (Elt F) → (⟨S1x4096x16x1, .f32⟩ : BufTy).Contents (Elt F) → (⟨S1x4096x16x1, .f32⟩ : BufTy).Contents (Elt F)),
    nullary main_cst_6 (constant S_ .f32 0xBF000000#32),
    unary main_cst_6 main_v36 (broadcastInDim S1x4096x16x1 ![] bcast_S_S1x4096x16x1 : (⟨S_, .f32⟩ : BufTy).Contents (Elt F) → (⟨S1x4096x16x1, .f32⟩ : BufTy).Contents (Elt F)),
    binary main_v36 main_v35 main_v37 (mulf : (⟨S1x4096x16x1, .f32⟩ : BufTy).Contents (Elt F) → (⟨S1x4096x16x1, .f32⟩ : BufTy).Contents (Elt F) → (⟨S1x4096x16x1, .f32⟩ : BufTy).Contents (Elt F)),
    unary main_v34 main_v38 (broadcastInDim S1x4096x16x128 ![0, 1, 2, 3] bcast_S1x4096x16x1_S1x4096x16x128_0_1_2_3 : (⟨S1x4096x16x1, .f32⟩ : BufTy).Contents (Elt F) → (⟨S1x4096x16x128, .f32⟩ : BufTy).Contents (Elt F)),
    binary main_v25 main_v38 main_v39 (mulf : (⟨S1x4096x16x128, .f32⟩ : BufTy).Contents (Elt F) → (⟨S1x4096x16x128, .f32⟩ : BufTy).Contents (Elt F) → (⟨S1x4096x16x128, .f32⟩ : BufTy).Contents (Elt F)),
    unary main_v26 main_v40 (broadcastInDim S1x1x1x128 ![3] bcast_S128_S1x1x1x128_3 : (⟨S128, .f32⟩ : BufTy).Contents (Elt F) → (⟨S1x1x1x128, .f32⟩ : BufTy).Contents (Elt F)),
    unary main_v40 main_v41 (broadcastInDim S1x4096x16x128 ![0, 1, 2, 3] bcast_S1x1x1x128_S1x4096x16x128_0_1_2_3 : (⟨S1x1x1x128, .f32⟩ : BufTy).Contents (Elt F) → (⟨S1x4096x16x128, .f32⟩ : BufTy).Contents (Elt F)),
    binary main_v39 main_v41 main_v42 (mulf : (⟨S1x4096x16x128, .f32⟩ : BufTy).Contents (Elt F) → (⟨S1x4096x16x128, .f32⟩ : BufTy).Contents (Elt F) → (⟨S1x4096x16x128, .f32⟩ : BufTy).Contents (Elt F)),
    reshape main_v22 main_v43 (rfl : (.f32 : EltTy) = .f32) shapeCasts_S1x4096x512_S1x4096x4x128,
    reshape main_arg4 main_v44 (rfl : (.f32 : EltTy) = .f32) shapeCasts_S1x128_S128,
    binary main_v43 main_v43 main_v45 (mulf : (⟨S1x4096x4x128, .f32⟩ : BufTy).Contents (Elt F) → (⟨S1x4096x4x128, .f32⟩ : BufTy).Contents (Elt F) → (⟨S1x4096x4x128, .f32⟩ : BufTy).Contents (Elt F)),
    nullary main_cst_7 (constant S_ .f32 0x00000000#32),
    binary main_v45 main_cst_7 main_v46 ((fun x v => Host.reduceAdd x v reducesTo_S1x4096x4x128_S1x4096x4_d3 h_S_) : (⟨S1x4096x4x128, .f32⟩ : BufTy).Contents (Elt F) → (⟨S_, .f32⟩ : BufTy).Contents (Elt F) → (⟨S1x4096x4, .f32⟩ : BufTy).Contents (Elt F)),
    unary main_v46 main_v47 (broadcastInDim S1x4096x4x1 ![0, 1, 2] bcast_S1x4096x4_S1x4096x4x1_0_1_2 : (⟨S1x4096x4, .f32⟩ : BufTy).Contents (Elt F) → (⟨S1x4096x4x1, .f32⟩ : BufTy).Contents (Elt F)),
    nullary main_cst_8 (constant S_ .f32 0x43000000#32),
    unary main_cst_8 main_v48 (broadcastInDim S1x4096x4x1 ![] bcast_S_S1x4096x4x1 : (⟨S_, .f32⟩ : BufTy).Contents (Elt F) → (⟨S1x4096x4x1, .f32⟩ : BufTy).Contents (Elt F)),
    binary main_v47 main_v48 main_v49 (Host.divf : (⟨S1x4096x4x1, .f32⟩ : BufTy).Contents (Elt F) → (⟨S1x4096x4x1, .f32⟩ : BufTy).Contents (Elt F) → (⟨S1x4096x4x1, .f32⟩ : BufTy).Contents (Elt F)) ]

/-- @main's operations 61 … 120 of 384 (window `main_part1`). -/
abbrev ops_part1 : List (HloOp τ sig (Elt F)) :=
  [ nullary main_cst_9 (constant S_ .f32 0x358637BD#32),
    unary main_cst_9 main_v50 (broadcastInDim S1x4096x4x1 ![] bcast_S_S1x4096x4x1 : (⟨S_, .f32⟩ : BufTy).Contents (Elt F) → (⟨S1x4096x4x1, .f32⟩ : BufTy).Contents (Elt F)),
    binary main_v49 main_v50 main_v51 (addf : (⟨S1x4096x4x1, .f32⟩ : BufTy).Contents (Elt F) → (⟨S1x4096x4x1, .f32⟩ : BufTy).Contents (Elt F) → (⟨S1x4096x4x1, .f32⟩ : BufTy).Contents (Elt F)),
    unary main_v51 main_v52 (Host.rsqrt : (⟨S1x4096x4x1, .f32⟩ : BufTy).Contents (Elt F) → (⟨S1x4096x4x1, .f32⟩ : BufTy).Contents (Elt F)),
    binary main_v52 main_v51 main_v53 (Host.divf : (⟨S1x4096x4x1, .f32⟩ : BufTy).Contents (Elt F) → (⟨S1x4096x4x1, .f32⟩ : BufTy).Contents (Elt F) → (⟨S1x4096x4x1, .f32⟩ : BufTy).Contents (Elt F)),
    nullary main_cst_10 (constant S_ .f32 0xBF000000#32),
    unary main_cst_10 main_v54 (broadcastInDim S1x4096x4x1 ![] bcast_S_S1x4096x4x1 : (⟨S_, .f32⟩ : BufTy).Contents (Elt F) → (⟨S1x4096x4x1, .f32⟩ : BufTy).Contents (Elt F)),
    binary main_v54 main_v53 main_v55 (mulf : (⟨S1x4096x4x1, .f32⟩ : BufTy).Contents (Elt F) → (⟨S1x4096x4x1, .f32⟩ : BufTy).Contents (Elt F) → (⟨S1x4096x4x1, .f32⟩ : BufTy).Contents (Elt F)),
    unary main_v52 main_v56 (broadcastInDim S1x4096x4x128 ![0, 1, 2, 3] bcast_S1x4096x4x1_S1x4096x4x128_0_1_2_3 : (⟨S1x4096x4x1, .f32⟩ : BufTy).Contents (Elt F) → (⟨S1x4096x4x128, .f32⟩ : BufTy).Contents (Elt F)),
    binary main_v43 main_v56 main_v57 (mulf : (⟨S1x4096x4x128, .f32⟩ : BufTy).Contents (Elt F) → (⟨S1x4096x4x128, .f32⟩ : BufTy).Contents (Elt F) → (⟨S1x4096x4x128, .f32⟩ : BufTy).Contents (Elt F)),
    unary main_v44 main_v58 (broadcastInDim S1x1x1x128 ![3] bcast_S128_S1x1x1x128_3 : (⟨S128, .f32⟩ : BufTy).Contents (Elt F) → (⟨S1x1x1x128, .f32⟩ : BufTy).Contents (Elt F)),
    unary main_v58 main_v59 (broadcastInDim S1x4096x4x128 ![0, 1, 2, 3] bcast_S1x1x1x128_S1x4096x4x128_0_1_2_3 : (⟨S1x1x1x128, .f32⟩ : BufTy).Contents (Elt F) → (⟨S1x4096x4x128, .f32⟩ : BufTy).Contents (Elt F)),
    binary main_v57 main_v59 main_v60 (mulf : (⟨S1x4096x4x128, .f32⟩ : BufTy).Contents (Elt F) → (⟨S1x4096x4x128, .f32⟩ : BufTy).Contents (Elt F) → (⟨S1x4096x4x128, .f32⟩ : BufTy).Contents (Elt F)),
    unary main_v42 main_v61 ((extractStridedSlice S1x4096x16x16 ![0, 0, 0, 0] · slices_S1x4096x16x128_S1x4096x16x16_0_0_0_0) : (⟨S1x4096x16x128, .f32⟩ : BufTy).Contents (Elt F) → (⟨S1x4096x16x16, .f32⟩ : BufTy).Contents (Elt F)),
    unary main_v42 main_v62 ((extractStridedSlice S1x4096x16x16 ![0, 0, 0, 16] · slices_S1x4096x16x128_S1x4096x16x16_0_0_0_16) : (⟨S1x4096x16x128, .f32⟩ : BufTy).Contents (Elt F) → (⟨S1x4096x16x16, .f32⟩ : BufTy).Contents (Elt F)),
    unary main_v42 main_v63 ((extractStridedSlice S1x4096x16x96 ![0, 0, 0, 32] · slices_S1x4096x16x128_S1x4096x16x96_0_0_0_32) : (⟨S1x4096x16x128, .f32⟩ : BufTy).Contents (Elt F) → (⟨S1x4096x16x96, .f32⟩ : BufTy).Contents (Elt F)),
    unary main_v17 main_v64 (broadcastInDim S1x4096x16x16 ![0, 1, 2, 3] bcast_S1x4096x1x16_S1x4096x16x16_0_1_2_3 : (⟨S1x4096x1x16, .f32⟩ : BufTy).Contents (Elt F) → (⟨S1x4096x16x16, .f32⟩ : BufTy).Contents (Elt F)),
    binary main_v61 main_v64 main_v65 (mulf : (⟨S1x4096x16x16, .f32⟩ : BufTy).Contents (Elt F) → (⟨S1x4096x16x16, .f32⟩ : BufTy).Contents (Elt F) → (⟨S1x4096x16x16, .f32⟩ : BufTy).Contents (Elt F)),
    unary main_v19 main_v66 (broadcastInDim S1x4096x16x16 ![0, 1, 2, 3] bcast_S1x4096x1x16_S1x4096x16x16_0_1_2_3 : (⟨S1x4096x1x16, .f32⟩ : BufTy).Contents (Elt F) → (⟨S1x4096x16x16, .f32⟩ : BufTy).Contents (Elt F)),
    binary main_v62 main_v66 main_v67 (mulf : (⟨S1x4096x16x16, .f32⟩ : BufTy).Contents (Elt F) → (⟨S1x4096x16x16, .f32⟩ : BufTy).Contents (Elt F) → (⟨S1x4096x16x16, .f32⟩ : BufTy).Contents (Elt F)),
    binary main_v65 main_v67 main_v68 (subf : (⟨S1x4096x16x16, .f32⟩ : BufTy).Contents (Elt F) → (⟨S1x4096x16x16, .f32⟩ : BufTy).Contents (Elt F) → (⟨S1x4096x16x16, .f32⟩ : BufTy).Contents (Elt F)),
    unary main_v17 main_v69 (broadcastInDim S1x4096x16x16 ![0, 1, 2, 3] bcast_S1x4096x1x16_S1x4096x16x16_0_1_2_3 : (⟨S1x4096x1x16, .f32⟩ : BufTy).Contents (Elt F) → (⟨S1x4096x16x16, .f32⟩ : BufTy).Contents (Elt F)),
    binary main_v62 main_v69 main_v70 (mulf : (⟨S1x4096x16x16, .f32⟩ : BufTy).Contents (Elt F) → (⟨S1x4096x16x16, .f32⟩ : BufTy).Contents (Elt F) → (⟨S1x4096x16x16, .f32⟩ : BufTy).Contents (Elt F)),
    unary main_v19 main_v71 (broadcastInDim S1x4096x16x16 ![0, 1, 2, 3] bcast_S1x4096x1x16_S1x4096x16x16_0_1_2_3 : (⟨S1x4096x1x16, .f32⟩ : BufTy).Contents (Elt F) → (⟨S1x4096x16x16, .f32⟩ : BufTy).Contents (Elt F)),
    binary main_v61 main_v71 main_v72 (mulf : (⟨S1x4096x16x16, .f32⟩ : BufTy).Contents (Elt F) → (⟨S1x4096x16x16, .f32⟩ : BufTy).Contents (Elt F) → (⟨S1x4096x16x16, .f32⟩ : BufTy).Contents (Elt F)),
    binary main_v70 main_v72 main_v73 (addf : (⟨S1x4096x16x16, .f32⟩ : BufTy).Contents (Elt F) → (⟨S1x4096x16x16, .f32⟩ : BufTy).Contents (Elt F) → (⟨S1x4096x16x16, .f32⟩ : BufTy).Contents (Elt F)),
    nary ![main_v68, main_v73, main_v63] main_v74 (fun u => fn_main_v74 (F := F) (u 0) (u 1) (u 2)),
    unary main_v60 main_v75 ((extractStridedSlice S1x4096x4x16 ![0, 0, 0, 0] · slices_S1x4096x4x128_S1x4096x4x16_0_0_0_0) : (⟨S1x4096x4x128, .f32⟩ : BufTy).Contents (Elt F) → (⟨S1x4096x4x16, .f32⟩ : BufTy).Contents (Elt F)),
    unary main_v60 main_v76 ((extractStridedSlice S1x4096x4x16 ![0, 0, 0, 16] · slices_S1x4096x4x128_S1x4096x4x16_0_0_0_16) : (⟨S1x4096x4x128, .f32⟩ : BufTy).Contents (Elt F) → (⟨S1x4096x4x16, .f32⟩ : BufTy).Contents (Elt F)),
    unary main_v60 main_v77 ((extractStridedSlice S1x4096x4x96 ![0, 0, 0, 32] · slices_S1x4096x4x128_S1x4096x4x96_0_0_0_32) : (⟨S1x4096x4x128, .f32⟩ : BufTy).Contents (Elt F) → (⟨S1x4096x4x96, .f32⟩ : BufTy).Contents (Elt F)),
    unary main_v17 main_v78 (broadcastInDim S1x4096x4x16 ![0, 1, 2, 3] bcast_S1x4096x1x16_S1x4096x4x16_0_1_2_3 : (⟨S1x4096x1x16, .f32⟩ : BufTy).Contents (Elt F) → (⟨S1x4096x4x16, .f32⟩ : BufTy).Contents (Elt F)),
    binary main_v75 main_v78 main_v79 (mulf : (⟨S1x4096x4x16, .f32⟩ : BufTy).Contents (Elt F) → (⟨S1x4096x4x16, .f32⟩ : BufTy).Contents (Elt F) → (⟨S1x4096x4x16, .f32⟩ : BufTy).Contents (Elt F)),
    unary main_v19 main_v80 (broadcastInDim S1x4096x4x16 ![0, 1, 2, 3] bcast_S1x4096x1x16_S1x4096x4x16_0_1_2_3 : (⟨S1x4096x1x16, .f32⟩ : BufTy).Contents (Elt F) → (⟨S1x4096x4x16, .f32⟩ : BufTy).Contents (Elt F)),
    binary main_v76 main_v80 main_v81 (mulf : (⟨S1x4096x4x16, .f32⟩ : BufTy).Contents (Elt F) → (⟨S1x4096x4x16, .f32⟩ : BufTy).Contents (Elt F) → (⟨S1x4096x4x16, .f32⟩ : BufTy).Contents (Elt F)),
    binary main_v79 main_v81 main_v82 (subf : (⟨S1x4096x4x16, .f32⟩ : BufTy).Contents (Elt F) → (⟨S1x4096x4x16, .f32⟩ : BufTy).Contents (Elt F) → (⟨S1x4096x4x16, .f32⟩ : BufTy).Contents (Elt F)),
    unary main_v17 main_v83 (broadcastInDim S1x4096x4x16 ![0, 1, 2, 3] bcast_S1x4096x1x16_S1x4096x4x16_0_1_2_3 : (⟨S1x4096x1x16, .f32⟩ : BufTy).Contents (Elt F) → (⟨S1x4096x4x16, .f32⟩ : BufTy).Contents (Elt F)),
    binary main_v76 main_v83 main_v84 (mulf : (⟨S1x4096x4x16, .f32⟩ : BufTy).Contents (Elt F) → (⟨S1x4096x4x16, .f32⟩ : BufTy).Contents (Elt F) → (⟨S1x4096x4x16, .f32⟩ : BufTy).Contents (Elt F)),
    unary main_v19 main_v85 (broadcastInDim S1x4096x4x16 ![0, 1, 2, 3] bcast_S1x4096x1x16_S1x4096x4x16_0_1_2_3 : (⟨S1x4096x1x16, .f32⟩ : BufTy).Contents (Elt F) → (⟨S1x4096x4x16, .f32⟩ : BufTy).Contents (Elt F)),
    binary main_v75 main_v85 main_v86 (mulf : (⟨S1x4096x4x16, .f32⟩ : BufTy).Contents (Elt F) → (⟨S1x4096x4x16, .f32⟩ : BufTy).Contents (Elt F) → (⟨S1x4096x4x16, .f32⟩ : BufTy).Contents (Elt F)),
    binary main_v84 main_v86 main_v87 (addf : (⟨S1x4096x4x16, .f32⟩ : BufTy).Contents (Elt F) → (⟨S1x4096x4x16, .f32⟩ : BufTy).Contents (Elt F) → (⟨S1x4096x4x16, .f32⟩ : BufTy).Contents (Elt F)),
    nary ![main_v82, main_v87, main_v77] main_v88 (fun u => fn_main_v88 (F := F) (u 0) (u 1) (u 2)),
    reshape main_v23 main_v89 (rfl : (.f32 : EltTy) = .f32) shapeCasts_S1x4096x512_S1x4096x4x128,
    reshape main_arg5 main_v90 (rfl : (.f32 : EltTy) = .f32) shapeCasts_S1x16_S16,
    reshape main_v74 main_v91 (rfl : (.f32 : EltTy) = .f32) shapeCasts_S1x4096x16x128_S1x32x128x4x4x128,
    reshape main_v88 main_v92 (rfl : (.f32 : EltTy) = .f32) shapeCasts_S1x4096x4x128_S1x32x128x4x128,
    unary main_v92 main_v93 ((extractStridedSlice S1x1x128x4x128 ![0, 0, 0, 0, 0] · slices_S1x32x128x4x128_S1x1x128x4x128_0_0_0_0_0) : (⟨S1x32x128x4x128, .f32⟩ : BufTy).Contents (Elt F) → (⟨S1x1x128x4x128, .f32⟩ : BufTy).Contents (Elt F)),
    nullary main_cst_11 (constant S_ .f32 0x00000000#32),
    unary main_cst_11 main_v94 (broadcastInDim S1x1x128x4x128 ![] bcast_S_S1x1x128x4x128 : (⟨S_, .f32⟩ : BufTy).Contents (Elt F) → (⟨S1x1x128x4x128, .f32⟩ : BufTy).Contents (Elt F)),
    unary main_v92 main_v95 ((extractStridedSlice S1x31x128x4x128 ![0, 0, 0, 0, 0] · slices_S1x32x128x4x128_S1x31x128x4x128_0_0_0_0_0) : (⟨S1x32x128x4x128, .f32⟩ : BufTy).Contents (Elt F) → (⟨S1x31x128x4x128, .f32⟩ : BufTy).Contents (Elt F)),
    binary main_v94 main_v95 main_v96 (fn_main_v96 (F := F)),
    nullary main_cst_12 (constant S_ .f32 0x00000000#32),
    unary main_cst_12 main_v97 (broadcastInDim S1x1x128x4x128 ![] bcast_S_S1x1x128x4x128 : (⟨S_, .f32⟩ : BufTy).Contents (Elt F) → (⟨S1x1x128x4x128, .f32⟩ : BufTy).Contents (Elt F)),
    binary main_v96 main_v92 main_v98 (fn_main_v98 (F := F)),
    reshape main_v89 main_v99 (rfl : (.f32 : EltTy) = .f32) shapeCasts_S1x4096x4x128_S1x32x128x4x128,
    unary main_v99 main_v100 ((extractStridedSlice S1x1x128x4x128 ![0, 0, 0, 0, 0] · slices_S1x32x128x4x128_S1x1x128x4x128_0_0_0_0_0) : (⟨S1x32x128x4x128, .f32⟩ : BufTy).Contents (Elt F) → (⟨S1x1x128x4x128, .f32⟩ : BufTy).Contents (Elt F)),
    nullary main_cst_13 (constant S_ .f32 0x00000000#32),
    unary main_cst_13 main_v101 (broadcastInDim S1x1x128x4x128 ![] bcast_S_S1x1x128x4x128 : (⟨S_, .f32⟩ : BufTy).Contents (Elt F) → (⟨S1x1x128x4x128, .f32⟩ : BufTy).Contents (Elt F)),
    unary main_v99 main_v102 ((extractStridedSlice S1x31x128x4x128 ![0, 0, 0, 0, 0] · slices_S1x32x128x4x128_S1x31x128x4x128_0_0_0_0_0) : (⟨S1x32x128x4x128, .f32⟩ : BufTy).Contents (Elt F) → (⟨S1x31x128x4x128, .f32⟩ : BufTy).Contents (Elt F)),
    binary main_v101 main_v102 main_v103 (fn_main_v103 (F := F)),
    nullary main_cst_14 (constant S_ .f32 0x00000000#32) ]

/-- @main's operations 121 … 150 of 384 (window `main_part2`). -/
abbrev ops_part2_0 : List (HloOp τ sig (Elt F)) :=
  [ unary main_cst_14 main_v104 (broadcastInDim S1x1x128x4x128 ![] bcast_S_S1x1x128x4x128 : (⟨S_, .f32⟩ : BufTy).Contents (Elt F) → (⟨S1x1x128x4x128, .f32⟩ : BufTy).Contents (Elt F)),
    binary main_v103 main_v99 main_v105 (fn_main_v105 (F := F)),
    binary main_v98 main_v91 main_v106 ((fun l r => Host.dotGeneral dot_S1x32x256x4x128_S1x32x128x4x4x128_S1x32x4x256x128x4_4_5_2_24_013_013 none l r) : (⟨S1x32x256x4x128, .f32⟩ : BufTy).Contents (Elt F) → (⟨S1x32x128x4x4x128, .f32⟩ : BufTy).Contents (Elt F) → (⟨S1x32x4x256x128x4, .f32⟩ : BufTy).Contents (Elt F)),
    unary main_v106 main_v107 ((transpose S1x32x4x4x128x256 [0, 1, 2, 5, 4, 3] · transposes_S1x32x4x256x128x4_S1x32x4x4x128x256_0_1_2_5_4_3) : (⟨S1x32x4x256x128x4, .f32⟩ : BufTy).Contents (Elt F) → (⟨S1x32x4x4x128x256, .f32⟩ : BufTy).Contents (Elt F)),
    nullary main_cst_15 (constant S_ .f32 0x3DB504F3#32),
    unary main_cst_15 main_v108 (broadcastInDim S1x32x4x4x128x256 ![] bcast_S_S1x32x4x4x128x256 : (⟨S_, .f32⟩ : BufTy).Contents (Elt F) → (⟨S1x32x4x4x128x256, .f32⟩ : BufTy).Contents (Elt F)),
    binary main_v107 main_v108 main_v109 (mulf : (⟨S1x32x4x4x128x256, .f32⟩ : BufTy).Contents (Elt F) → (⟨S1x32x4x4x128x256, .f32⟩ : BufTy).Contents (Elt F) → (⟨S1x32x4x4x128x256, .f32⟩ : BufTy).Contents (Elt F)),
    nullary main_v110 (iotaInDim S128 32 0),
    unary main_v110 main_v111 (broadcastInDim S128x1 ![0] bcast_S128_S128x1_0 : (⟨S128, .i32⟩ : BufTy).Contents (Elt F) → (⟨S128x1, .i32⟩ : BufTy).Contents (Elt F)),
    nullary main_v112 (iotaInDim S256 32 0),
    unary main_v112 main_v113 (broadcastInDim S1x256 ![1] bcast_S256_S1x256_1 : (⟨S256, .i32⟩ : BufTy).Contents (Elt F) → (⟨S1x256, .i32⟩ : BufTy).Contents (Elt F)),
    nullary main_c (constantI S_ 32 128#32),
    unary main_c main_v114 (broadcastInDim S128x1 ![] bcast_S_S128x1 : (⟨S_, .i32⟩ : BufTy).Contents (Elt F) → (⟨S128x1, .i32⟩ : BufTy).Contents (Elt F)),
    binary main_v111 main_v114 main_v115 (addi : (⟨S128x1, .i32⟩ : BufTy).Contents (Elt F) → (⟨S128x1, .i32⟩ : BufTy).Contents (Elt F) → (⟨S128x1, .i32⟩ : BufTy).Contents (Elt F)),
    unary main_v115 main_v116 (broadcastInDim S128x256 ![0, 1] bcast_S128x1_S128x256_0_1 : (⟨S128x1, .i32⟩ : BufTy).Contents (Elt F) → (⟨S128x256, .i32⟩ : BufTy).Contents (Elt F)),
    unary main_v113 main_v117 (broadcastInDim S128x256 ![0, 1] bcast_S1x256_S128x256_0_1 : (⟨S1x256, .i32⟩ : BufTy).Contents (Elt F) → (⟨S128x256, .i32⟩ : BufTy).Contents (Elt F)),
    binary main_v116 main_v117 main_v118 (subi : (⟨S128x256, .i32⟩ : BufTy).Contents (Elt F) → (⟨S128x256, .i32⟩ : BufTy).Contents (Elt F) → (⟨S128x256, .i32⟩ : BufTy).Contents (Elt F)),
    nullary main_c_16 (constantI S_ 32 0#32),
    unary main_c_16 main_v119 (broadcastInDim S128x256 ![] bcast_S_S128x256 : (⟨S_, .i32⟩ : BufTy).Contents (Elt F) → (⟨S128x256, .i32⟩ : BufTy).Contents (Elt F)),
    binary main_v118 main_v119 main_v120 (cmpi .sge : (⟨S128x256, .i32⟩ : BufTy).Contents (Elt F) → (⟨S128x256, .i32⟩ : BufTy).Contents (Elt F) → (⟨S128x256, .i1⟩ : BufTy).Contents (Elt F)),
    nullary main_c_17 (constantI S_ 32 128#32),
    unary main_c_17 main_v121 (broadcastInDim S128x256 ![] bcast_S_S128x256 : (⟨S_, .i32⟩ : BufTy).Contents (Elt F) → (⟨S128x256, .i32⟩ : BufTy).Contents (Elt F)),
    binary main_v118 main_v121 main_v122 (cmpi .slt : (⟨S128x256, .i32⟩ : BufTy).Contents (Elt F) → (⟨S128x256, .i32⟩ : BufTy).Contents (Elt F) → (⟨S128x256, .i1⟩ : BufTy).Contents (Elt F)),
    binary main_v120 main_v122 main_v123 (andi : (⟨S128x256, .i1⟩ : BufTy).Contents (Elt F) → (⟨S128x256, .i1⟩ : BufTy).Contents (Elt F) → (⟨S128x256, .i1⟩ : BufTy).Contents (Elt F)),
    nullary main_v124 (iotaInDim S32 32 0),
    unary main_v124 main_v125 (broadcastInDim S32x1x1 ![0] bcast_S32_S32x1x1_0 : (⟨S32, .i32⟩ : BufTy).Contents (Elt F) → (⟨S32x1x1, .i32⟩ : BufTy).Contents (Elt F)),
    nullary main_c_18 (constantI S_ 32 0#32),
    unary main_c_18 main_v126 (broadcastInDim S32x1x1 ![] bcast_S_S32x1x1 : (⟨S_, .i32⟩ : BufTy).Contents (Elt F) → (⟨S32x1x1, .i32⟩ : BufTy).Contents (Elt F)),
    binary main_v125 main_v126 main_v127 (cmpi .sgt : (⟨S32x1x1, .i32⟩ : BufTy).Contents (Elt F) → (⟨S32x1x1, .i32⟩ : BufTy).Contents (Elt F) → (⟨S32x1x1, .i1⟩ : BufTy).Contents (Elt F)),
    nullary main_c_19 (constantI S_ 32 128#32) ]

/-- @main's operations 151 … 180 of 384 (window `main_part2`). -/
abbrev ops_part2_1 : List (HloOp τ sig (Elt F)) :=
  [ unary main_c_19 main_v128 (broadcastInDim S1x256 ![] bcast_S_S1x256 : (⟨S_, .i32⟩ : BufTy).Contents (Elt F) → (⟨S1x256, .i32⟩ : BufTy).Contents (Elt F)),
    binary main_v113 main_v128 main_v129 (cmpi .sge : (⟨S1x256, .i32⟩ : BufTy).Contents (Elt F) → (⟨S1x256, .i32⟩ : BufTy).Contents (Elt F) → (⟨S1x256, .i1⟩ : BufTy).Contents (Elt F)),
    unary main_v129 main_v130 (broadcastInDim S1x1x256 ![1, 2] bcast_S1x256_S1x1x256_1_2 : (⟨S1x256, .i1⟩ : BufTy).Contents (Elt F) → (⟨S1x1x256, .i1⟩ : BufTy).Contents (Elt F)),
    unary main_v127 main_v131 (broadcastInDim S32x1x256 ![0, 1, 2] bcast_S32x1x1_S32x1x256_0_1_2 : (⟨S32x1x1, .i1⟩ : BufTy).Contents (Elt F) → (⟨S32x1x256, .i1⟩ : BufTy).Contents (Elt F)),
    unary main_v130 main_v132 (broadcastInDim S32x1x256 ![0, 1, 2] bcast_S1x1x256_S32x1x256_0_1_2 : (⟨S1x1x256, .i1⟩ : BufTy).Contents (Elt F) → (⟨S32x1x256, .i1⟩ : BufTy).Contents (Elt F)),
    binary main_v131 main_v132 main_v133 (ori : (⟨S32x1x256, .i1⟩ : BufTy).Contents (Elt F) → (⟨S32x1x256, .i1⟩ : BufTy).Contents (Elt F) → (⟨S32x1x256, .i1⟩ : BufTy).Contents (Elt F)),
    unary main_v123 main_v134 (broadcastInDim S1x128x256 ![1, 2] bcast_S128x256_S1x128x256_1_2 : (⟨S128x256, .i1⟩ : BufTy).Contents (Elt F) → (⟨S1x128x256, .i1⟩ : BufTy).Contents (Elt F)),
    unary main_v134 main_v135 (broadcastInDim S32x128x256 ![0, 1, 2] bcast_S1x128x256_S32x128x256_0_1_2 : (⟨S1x128x256, .i1⟩ : BufTy).Contents (Elt F) → (⟨S32x128x256, .i1⟩ : BufTy).Contents (Elt F)),
    unary main_v133 main_v136 (broadcastInDim S32x128x256 ![0, 1, 2] bcast_S32x1x256_S32x128x256_0_1_2 : (⟨S32x1x256, .i1⟩ : BufTy).Contents (Elt F) → (⟨S32x128x256, .i1⟩ : BufTy).Contents (Elt F)),
    binary main_v135 main_v136 main_v137 (andi : (⟨S32x128x256, .i1⟩ : BufTy).Contents (Elt F) → (⟨S32x128x256, .i1⟩ : BufTy).Contents (Elt F) → (⟨S32x128x256, .i1⟩ : BufTy).Contents (Elt F)),
    unary main_v137 main_v138 (broadcastInDim S1x32x1x1x128x256 ![1, 4, 5] bcast_S32x128x256_S1x32x1x1x128x256_1_4_5 : (⟨S32x128x256, .i1⟩ : BufTy).Contents (Elt F) → (⟨S1x32x1x1x128x256, .i1⟩ : BufTy).Contents (Elt F)),
    nullary main_cst_20 (constant S_ .f32 0xFF800000#32),
    TRef.unary (TRef.of (T := ⟨S_, .f32⟩) main_cst_20) (TRef.of (T := ⟨S_, .f32⟩) main_call0_v0) id,
    TRef.unary (TRef.of (T := ⟨S1x32x1x1x128x256, .i1⟩) main_v138) (TRef.of (T := ⟨S1x32x4x4x128x256, .i1⟩) main_v139_1) (broadcastInDim S1x32x4x4x128x256 ![0, 1, 2, 3, 4, 5] bcast_S1x32x1x1x128x256_S1x32x4x4x128x256_0_1_2_3_4_5),
    TRef.unary (TRef.of (T := ⟨S_, .f32⟩) main_call0_v0) (TRef.of (T := ⟨S1x32x4x4x128x256, .f32⟩) main_call0_v2) (broadcastInDim S1x32x4x4x128x256 ![] bcast_S_S1x32x4x4x128x256),
    TRef.ternary (TRef.of (T := ⟨S1x32x4x4x128x256, .i1⟩) main_v139_1) (TRef.of (T := ⟨S1x32x4x4x128x256, .f32⟩) main_v109) (TRef.of (T := ⟨S1x32x4x4x128x256, .f32⟩) main_call0_v2) (TRef.of (T := ⟨S1x32x4x4x128x256, .f32⟩) main_v139_0) select,
    TRef.nullary (TRef.of (T := ⟨S_, .f32⟩) main_call0_cst) (constant S_ .f32 0x00000000#32),
    TRef.unary (TRef.of (T := ⟨S_, .f32⟩) main_call0_cst) (TRef.of (T := ⟨S1x32x4x4x128x256, .f32⟩) main_v139_2) (broadcastInDim S1x32x4x4x128x256 ![] bcast_S_S1x32x4x4x128x256),
    reshape main_v90 main_v140 (rfl : (.f32 : EltTy) = .f32) shapeCasts_S16_S4x4,
    unary main_v140 main_v141 (broadcastInDim S1x1x4x4x1x1 ![2, 3] bcast_S4x4_S1x1x4x4x1x1_2_3 : (⟨S4x4, .f32⟩ : BufTy).Contents (Elt F) → (⟨S1x1x4x4x1x1, .f32⟩ : BufTy).Contents (Elt F)),
    unary main_v141 main_v142 (broadcastInDim S1x32x4x4x128x1 ![0, 1, 2, 3, 4, 5] bcast_S1x1x4x4x1x1_S1x32x4x4x128x1_0_1_2_3_4_5 : (⟨S1x1x4x4x1x1, .f32⟩ : BufTy).Contents (Elt F) → (⟨S1x32x4x4x128x1, .f32⟩ : BufTy).Contents (Elt F)),
    binary main_v139_0 main_v142 main_v143 (fn_main_v143 (F := F)),
    nullary main_cst_21 (constant S_ .f32 0xFF800000#32),
    binary main_v143 main_cst_21 main_v144 ((fun x v => Host.reduce FloatOps.maximumf x v reducesTo_S1x32x4x4x128x257_S1x32x4x4x128_d5 h_S_) : (⟨S1x32x4x4x128x257, .f32⟩ : BufTy).Contents (Elt F) → (⟨S_, .f32⟩ : BufTy).Contents (Elt F) → (⟨S1x32x4x4x128, .f32⟩ : BufTy).Contents (Elt F)),
    reshape main_v144 main_v145 (rfl : (.f32 : EltTy) = .f32) shapeCasts_S1x32x4x4x128_S1x32x4x4x128x1,
    unary main_v145 main_v146 (broadcastInDim S1x32x4x4x128x257 ![0, 1, 2, 3, 4, 5] bcast_S1x32x4x4x128x1_S1x32x4x4x128x257_0_1_2_3_4_5 : (⟨S1x32x4x4x128x1, .f32⟩ : BufTy).Contents (Elt F) → (⟨S1x32x4x4x128x257, .f32⟩ : BufTy).Contents (Elt F)),
    binary main_v143 main_v146 main_v147 (cmpf .oeq : (⟨S1x32x4x4x128x257, .f32⟩ : BufTy).Contents (Elt F) → (⟨S1x32x4x4x128x257, .f32⟩ : BufTy).Contents (Elt F) → (⟨S1x32x4x4x128x257, .i1⟩ : BufTy).Contents (Elt F)),
    unary main_v147 main_v148 (uitofp .f32 : (⟨S1x32x4x4x128x257, .i1⟩ : BufTy).Contents (Elt F) → (⟨S1x32x4x4x128x257, .f32⟩ : BufTy).Contents (Elt F)),
    nullary main_cst_22 (constant S_ .f32 0x00000000#32),
    binary main_v148 main_cst_22 main_v149 ((fun x v => Host.reduceAdd x v reducesTo_S1x32x4x4x128x257_S1x32x4x4x128_d5 h_S_) : (⟨S1x32x4x4x128x257, .f32⟩ : BufTy).Contents (Elt F) → (⟨S_, .f32⟩ : BufTy).Contents (Elt F) → (⟨S1x32x4x4x128, .f32⟩ : BufTy).Contents (Elt F)) ]

/-- @main's operations 181 … 185 of 384 (window `main_part2`). -/
abbrev ops_part2_2 : List (HloOp τ sig (Elt F)) :=
  [ nullary main_cst_23 (constant S_ .f32 0xFF800000#32),
    unary main_cst_23 main_v150 (broadcastInDim S1x32x4x4x128 ![] bcast_S_S1x32x4x4x128 : (⟨S_, .f32⟩ : BufTy).Contents (Elt F) → (⟨S1x32x4x4x128, .f32⟩ : BufTy).Contents (Elt F)),
    binary main_v150 main_v144 main_v151 (maximumf : (⟨S1x32x4x4x128, .f32⟩ : BufTy).Contents (Elt F) → (⟨S1x32x4x4x128, .f32⟩ : BufTy).Contents (Elt F) → (⟨S1x32x4x4x128, .f32⟩ : BufTy).Contents (Elt F)),
    nullary main_cst_24 (constant S_ .f32 0xFF800000#32),
    unary main_cst_24 main_v152 (broadcastInDim S1x32x4x4x128 ![] bcast_S_S1x32x4x4x128 : (⟨S_, .f32⟩ : BufTy).Contents (Elt F) → (⟨S1x32x4x4x128, .f32⟩ : BufTy).Contents (Elt F)) ]

/-- Window `main_part2`'s operations. Not an abbreviation: `main_eq` below splits `ops` into the windows and no further. -/
def ops_part2 : List (HloOp τ sig (Elt F)) :=
  ops_part2_0 ++ (ops_part2_1 ++ (ops_part2_2))

/-- @main's operations 186 … 245 of 384 (window `main_part3`). -/
abbrev ops_part3 : List (HloOp τ sig (Elt F)) :=
  [ binary main_v144 main_v152 main_v153 (cmpf .ogt : (⟨S1x32x4x4x128, .f32⟩ : BufTy).Contents (Elt F) → (⟨S1x32x4x4x128, .f32⟩ : BufTy).Contents (Elt F) → (⟨S1x32x4x4x128, .i1⟩ : BufTy).Contents (Elt F)),
    nullary main_cst_25 (constant S_ .f32 0xFF800000#32),
    unary main_cst_25 main_v154 (broadcastInDim S1x32x4x4x128 ![] bcast_S_S1x32x4x4x128 : (⟨S_, .f32⟩ : BufTy).Contents (Elt F) → (⟨S1x32x4x4x128, .f32⟩ : BufTy).Contents (Elt F)),
    binary main_v144 main_v154 main_v155 (cmpf .oeq : (⟨S1x32x4x4x128, .f32⟩ : BufTy).Contents (Elt F) → (⟨S1x32x4x4x128, .f32⟩ : BufTy).Contents (Elt F) → (⟨S1x32x4x4x128, .i1⟩ : BufTy).Contents (Elt F)),
    nullary main_cst_26 (constant S_ .f32 0x3F800000#32),
    unary main_cst_26 main_v156 (broadcastInDim S1x32x4x4x128 ![] bcast_S_S1x32x4x4x128 : (⟨S_, .f32⟩ : BufTy).Contents (Elt F) → (⟨S1x32x4x4x128, .f32⟩ : BufTy).Contents (Elt F)),
    nullary main_cst_27 (constant S_ .f32 0x00000000#32),
    unary main_cst_27 main_v157 (broadcastInDim S1x32x4x4x128 ![] bcast_S_S1x32x4x4x128 : (⟨S_, .f32⟩ : BufTy).Contents (Elt F) → (⟨S1x32x4x4x128, .f32⟩ : BufTy).Contents (Elt F)),
    nullary main_cst_28 (constant S_ .f32 0x3F000000#32),
    unary main_cst_28 main_v158 (broadcastInDim S1x32x4x4x128 ![] bcast_S_S1x32x4x4x128 : (⟨S_, .f32⟩ : BufTy).Contents (Elt F) → (⟨S1x32x4x4x128, .f32⟩ : BufTy).Contents (Elt F)),
    ternary main_v155 main_v158 main_v157 main_v159 (select : (⟨S1x32x4x4x128, .i1⟩ : BufTy).Contents (Elt F) → (⟨S1x32x4x4x128, .f32⟩ : BufTy).Contents (Elt F) → (⟨S1x32x4x4x128, .f32⟩ : BufTy).Contents (Elt F) → (⟨S1x32x4x4x128, .f32⟩ : BufTy).Contents (Elt F)),
    ternary main_v153 main_v156 main_v159 main_v160 (select : (⟨S1x32x4x4x128, .i1⟩ : BufTy).Contents (Elt F) → (⟨S1x32x4x4x128, .f32⟩ : BufTy).Contents (Elt F) → (⟨S1x32x4x4x128, .f32⟩ : BufTy).Contents (Elt F) → (⟨S1x32x4x4x128, .f32⟩ : BufTy).Contents (Elt F)),
    unary main_v151 main_v161 (broadcastInDim S1x32x4x4x128x1 ![0, 1, 2, 3, 4] bcast_S1x32x4x4x128_S1x32x4x4x128x1_0_1_2_3_4 : (⟨S1x32x4x4x128, .f32⟩ : BufTy).Contents (Elt F) → (⟨S1x32x4x4x128x1, .f32⟩ : BufTy).Contents (Elt F)),
    unary main_v161 main_v162 (broadcastInDim S1x32x4x4x128x257 ![0, 1, 2, 3, 4, 5] bcast_S1x32x4x4x128x1_S1x32x4x4x128x257_0_1_2_3_4_5 : (⟨S1x32x4x4x128x1, .f32⟩ : BufTy).Contents (Elt F) → (⟨S1x32x4x4x128x257, .f32⟩ : BufTy).Contents (Elt F)),
    binary main_v143 main_v162 main_v163 (subf : (⟨S1x32x4x4x128x257, .f32⟩ : BufTy).Contents (Elt F) → (⟨S1x32x4x4x128x257, .f32⟩ : BufTy).Contents (Elt F) → (⟨S1x32x4x4x128x257, .f32⟩ : BufTy).Contents (Elt F)),
    unary main_v163 main_v164 (Host.exp : (⟨S1x32x4x4x128x257, .f32⟩ : BufTy).Contents (Elt F) → (⟨S1x32x4x4x128x257, .f32⟩ : BufTy).Contents (Elt F)),
    nullary main_cst_29 (constant S_ .f32 0x00000000#32),
    binary main_v164 main_cst_29 main_v165 ((fun x v => Host.reduceAdd x v reducesTo_S1x32x4x4x128x257_S1x32x4x4x128_d5 h_S_) : (⟨S1x32x4x4x128x257, .f32⟩ : BufTy).Contents (Elt F) → (⟨S_, .f32⟩ : BufTy).Contents (Elt F) → (⟨S1x32x4x4x128, .f32⟩ : BufTy).Contents (Elt F)),
    unary main_v165 main_v166 (broadcastInDim S1x32x4x4x128x1 ![0, 1, 2, 3, 4] bcast_S1x32x4x4x128_S1x32x4x4x128x1_0_1_2_3_4 : (⟨S1x32x4x4x128, .f32⟩ : BufTy).Contents (Elt F) → (⟨S1x32x4x4x128x1, .f32⟩ : BufTy).Contents (Elt F)),
    unary main_v166 main_v167 (broadcastInDim S1x32x4x4x128x257 ![0, 1, 2, 3, 4, 5] bcast_S1x32x4x4x128x1_S1x32x4x4x128x257_0_1_2_3_4_5 : (⟨S1x32x4x4x128x1, .f32⟩ : BufTy).Contents (Elt F) → (⟨S1x32x4x4x128x257, .f32⟩ : BufTy).Contents (Elt F)),
    binary main_v164 main_v167 main_v168 (Host.divf : (⟨S1x32x4x4x128x257, .f32⟩ : BufTy).Contents (Elt F) → (⟨S1x32x4x4x128x257, .f32⟩ : BufTy).Contents (Elt F) → (⟨S1x32x4x4x128x257, .f32⟩ : BufTy).Contents (Elt F)),
    binary main_v166 main_v166 main_v169 (mulf : (⟨S1x32x4x4x128x1, .f32⟩ : BufTy).Contents (Elt F) → (⟨S1x32x4x4x128x1, .f32⟩ : BufTy).Contents (Elt F) → (⟨S1x32x4x4x128x1, .f32⟩ : BufTy).Contents (Elt F)),
    nullary main_cst_30 (constant S_ .f32 0x3F800000#32),
    unary main_cst_30 main_v170 (broadcastInDim S1x32x4x4x128x1 ![] bcast_S_S1x32x4x4x128x1 : (⟨S_, .f32⟩ : BufTy).Contents (Elt F) → (⟨S1x32x4x4x128x1, .f32⟩ : BufTy).Contents (Elt F)),
    binary main_v170 main_v169 main_v171 (Host.divf : (⟨S1x32x4x4x128x1, .f32⟩ : BufTy).Contents (Elt F) → (⟨S1x32x4x4x128x1, .f32⟩ : BufTy).Contents (Elt F) → (⟨S1x32x4x4x128x1, .f32⟩ : BufTy).Contents (Elt F)),
    unary main_v168 main_v172 ((extractStridedSlice S1x32x4x4x128x256 ![0, 0, 0, 0, 0, 0] · slices_S1x32x4x4x128x257_S1x32x4x4x128x256_0_0_0_0_0_0) : (⟨S1x32x4x4x128x257, .f32⟩ : BufTy).Contents (Elt F) → (⟨S1x32x4x4x128x256, .f32⟩ : BufTy).Contents (Elt F)),
    binary main_v105 main_v172 main_v173 ((fun l r => Host.dotGeneral dot_S1x32x256x4x128_S1x32x4x4x128x256_S1x32x4x128x4x128_2_5_4_34_013_012 none l r) : (⟨S1x32x256x4x128, .f32⟩ : BufTy).Contents (Elt F) → (⟨S1x32x4x4x128x256, .f32⟩ : BufTy).Contents (Elt F) → (⟨S1x32x4x128x4x128, .f32⟩ : BufTy).Contents (Elt F)),
    unary main_v173 main_v174 ((transpose S1x32x128x4x4x128 [0, 1, 5, 2, 4, 3] · transposes_S1x32x4x128x4x128_S1x32x128x4x4x128_0_1_5_2_4_3) : (⟨S1x32x4x128x4x128, .f32⟩ : BufTy).Contents (Elt F) → (⟨S1x32x128x4x4x128, .f32⟩ : BufTy).Contents (Elt F)),
    reshape main_v174 main_v175 (rfl : (.f32 : EltTy) = .f32) shapeCasts_S1x32x128x4x4x128_S1x4096x2048,
    unary main_arg0 main_v176 (broadcastInDim S1x4096x2048 ![1, 2] bcast_S4096x2048_S1x4096x2048_1_2 : (⟨S4096x2048, .f32⟩ : BufTy).Contents (Elt F) → (⟨S1x4096x2048, .f32⟩ : BufTy).Contents (Elt F)),
    reshape main_v176 main_v177 (rfl : (.f32 : EltTy) = .f32) shapeCasts_S1x4096x2048_S1x32x128x4x4x128,
    unary main_v177 main_v178 ((transpose S1x32x4x128x4x128 [0, 1, 3, 5, 4, 2] · transposes_S1x32x128x4x4x128_S1x32x4x128x4x128_0_1_3_5_4_2) : (⟨S1x32x128x4x4x128, .f32⟩ : BufTy).Contents (Elt F) → (⟨S1x32x4x128x4x128, .f32⟩ : BufTy).Contents (Elt F)),
    binary main_v178 main_v105 main_v179 ((fun l r => Host.dotGeneral dot_S1x32x4x128x4x128_S1x32x256x4x128_S1x32x4x4x128x256_3_4_45_2_012_013 none l r) : (⟨S1x32x4x128x4x128, .f32⟩ : BufTy).Contents (Elt F) → (⟨S1x32x256x4x128, .f32⟩ : BufTy).Contents (Elt F) → (⟨S1x32x4x4x128x256, .f32⟩ : BufTy).Contents (Elt F)),
    binary main_v178 main_v172 main_v180 ((fun l r => Host.dotGeneral dot_S1x32x4x128x4x128_S1x32x4x4x128x256_S1x32x4x128x256_45_34_3_5_012_012 none l r) : (⟨S1x32x4x128x4x128, .f32⟩ : BufTy).Contents (Elt F) → (⟨S1x32x4x4x128x256, .f32⟩ : BufTy).Contents (Elt F) → (⟨S1x32x4x128x256, .f32⟩ : BufTy).Contents (Elt F)),
    unary main_v180 main_v181 ((transpose S1x32x256x4x128 [0, 1, 4, 2, 3] · transposes_S1x32x4x128x256_S1x32x256x4x128_0_1_4_2_3) : (⟨S1x32x4x128x256, .f32⟩ : BufTy).Contents (Elt F) → (⟨S1x32x256x4x128, .f32⟩ : BufTy).Contents (Elt F)),
    nullary main_cst_31 (constant S_ .f32 0x00000000#32),
    binary main_v179 main_cst_31 main_v182 ((fun x v => pad S1x32x4x4x128x257 ![0, 0, 0, 0, 0, 0] ![0, 0, 0, 0, 0, 1] ![0, 0, 0, 0, 0, 0] x v pads_S1x32x4x4x128x256_S1x32x4x4x128x257_000_000_000_000_000_010 h_S_) : (⟨S1x32x4x4x128x256, .f32⟩ : BufTy).Contents (Elt F) → (⟨S_, .f32⟩ : BufTy).Contents (Elt F) → (⟨S1x32x4x4x128x257, .f32⟩ : BufTy).Contents (Elt F)),
    unary main_v171 main_v183 (broadcastInDim S1x32x4x4x128x257 ![0, 1, 2, 3, 4, 5] bcast_S1x32x4x4x128x1_S1x32x4x4x128x257_0_1_2_3_4_5 : (⟨S1x32x4x4x128x1, .f32⟩ : BufTy).Contents (Elt F) → (⟨S1x32x4x4x128x257, .f32⟩ : BufTy).Contents (Elt F)),
    binary main_v182 main_v183 main_v184 (mulf : (⟨S1x32x4x4x128x257, .f32⟩ : BufTy).Contents (Elt F) → (⟨S1x32x4x4x128x257, .f32⟩ : BufTy).Contents (Elt F) → (⟨S1x32x4x4x128x257, .f32⟩ : BufTy).Contents (Elt F)),
    binary main_v184 main_v164 main_v185 (mulf : (⟨S1x32x4x4x128x257, .f32⟩ : BufTy).Contents (Elt F) → (⟨S1x32x4x4x128x257, .f32⟩ : BufTy).Contents (Elt F) → (⟨S1x32x4x4x128x257, .f32⟩ : BufTy).Contents (Elt F)),
    nullary main_cst_32 (constant S_ .f32 0x00000000#32),
    binary main_v185 main_cst_32 main_v186 ((fun x v => Host.reduceAdd x v reducesTo_S1x32x4x4x128x257_S1x32x4x4x128_d5 h_S_) : (⟨S1x32x4x4x128x257, .f32⟩ : BufTy).Contents (Elt F) → (⟨S_, .f32⟩ : BufTy).Contents (Elt F) → (⟨S1x32x4x4x128, .f32⟩ : BufTy).Contents (Elt F)),
    reshape main_v186 main_v187 (rfl : (.f32 : EltTy) = .f32) shapeCasts_S1x32x4x4x128_S1x32x4x4x128x1,
    unary main_v187 main_v188 (Host.negf : (⟨S1x32x4x4x128x1, .f32⟩ : BufTy).Contents (Elt F) → (⟨S1x32x4x4x128x1, .f32⟩ : BufTy).Contents (Elt F)),
    unary main_v166 main_v189 (broadcastInDim S1x32x4x4x128x257 ![0, 1, 2, 3, 4, 5] bcast_S1x32x4x4x128x1_S1x32x4x4x128x257_0_1_2_3_4_5 : (⟨S1x32x4x4x128x1, .f32⟩ : BufTy).Contents (Elt F) → (⟨S1x32x4x4x128x257, .f32⟩ : BufTy).Contents (Elt F)),
    binary main_v182 main_v189 main_v190 (Host.divf : (⟨S1x32x4x4x128x257, .f32⟩ : BufTy).Contents (Elt F) → (⟨S1x32x4x4x128x257, .f32⟩ : BufTy).Contents (Elt F) → (⟨S1x32x4x4x128x257, .f32⟩ : BufTy).Contents (Elt F)),
    nullary main_cst_33 (constant S_ .f32 0x00000000#32),
    binary main_v188 main_cst_33 main_v191 ((fun x v => Host.reduceAdd x v reducesTo_S1x32x4x4x128x1_S32x4x4x128_d0_5 h_S_) : (⟨S1x32x4x4x128x1, .f32⟩ : BufTy).Contents (Elt F) → (⟨S_, .f32⟩ : BufTy).Contents (Elt F) → (⟨S32x4x4x128, .f32⟩ : BufTy).Contents (Elt F)),
    unary main_v191 main_v192 (broadcastInDim S1x32x4x4x128 ![1, 2, 3, 4] bcast_S32x4x4x128_S1x32x4x4x128_1_2_3_4 : (⟨S32x4x4x128, .f32⟩ : BufTy).Contents (Elt F) → (⟨S1x32x4x4x128, .f32⟩ : BufTy).Contents (Elt F)),
    unary main_v192 main_v193 (broadcastInDim S1x32x4x4x128x257 ![0, 1, 2, 3, 4] bcast_S1x32x4x4x128_S1x32x4x4x128x257_0_1_2_3_4 : (⟨S1x32x4x4x128, .f32⟩ : BufTy).Contents (Elt F) → (⟨S1x32x4x4x128x257, .f32⟩ : BufTy).Contents (Elt F)),
    binary main_v190 main_v193 main_v194 (addf : (⟨S1x32x4x4x128x257, .f32⟩ : BufTy).Contents (Elt F) → (⟨S1x32x4x4x128x257, .f32⟩ : BufTy).Contents (Elt F) → (⟨S1x32x4x4x128x257, .f32⟩ : BufTy).Contents (Elt F)),
    binary main_v194 main_v164 main_v195 (mulf : (⟨S1x32x4x4x128x257, .f32⟩ : BufTy).Contents (Elt F) → (⟨S1x32x4x4x128x257, .f32⟩ : BufTy).Contents (Elt F) → (⟨S1x32x4x4x128x257, .f32⟩ : BufTy).Contents (Elt F)),
    unary main_v195 main_v196 ((extractStridedSlice S1x32x4x4x128x256 ![0, 0, 0, 0, 0, 0] · slices_S1x32x4x4x128x257_S1x32x4x4x128x256_0_0_0_0_0_0) : (⟨S1x32x4x4x128x257, .f32⟩ : BufTy).Contents (Elt F) → (⟨S1x32x4x4x128x256, .f32⟩ : BufTy).Contents (Elt F)),
    unary main_v195 main_v197 ((extractStridedSlice S1x32x4x4x128x1 ![0, 0, 0, 0, 0, 256] · slices_S1x32x4x4x128x257_S1x32x4x4x128x1_0_0_0_0_0_256) : (⟨S1x32x4x4x128x257, .f32⟩ : BufTy).Contents (Elt F) → (⟨S1x32x4x4x128x1, .f32⟩ : BufTy).Contents (Elt F)),
    nullary main_cst_34 (constant S_ .f32 0x00000000#32),
    binary main_v197 main_cst_34 main_v198 ((fun x v => Host.reduceAdd x v reducesTo_S1x32x4x4x128x1_S4x4_d0_1_4_5 h_S_) : (⟨S1x32x4x4x128x1, .f32⟩ : BufTy).Contents (Elt F) → (⟨S_, .f32⟩ : BufTy).Contents (Elt F) → (⟨S4x4, .f32⟩ : BufTy).Contents (Elt F)),
    unary main_v198 main_v199 (broadcastInDim S1x1x4x4x1x1 ![2, 3] bcast_S4x4_S1x1x4x4x1x1_2_3 : (⟨S4x4, .f32⟩ : BufTy).Contents (Elt F) → (⟨S1x1x4x4x1x1, .f32⟩ : BufTy).Contents (Elt F)),
    nullary main_cst_35 (constant S_ .f32 0x00000000#32),
    binary main_v199 main_cst_35 main_v200 ((fun x v => Host.reduceAdd x v reducesTo_S1x1x4x4x1x1_S4x4_d0_1_4_5 h_S_) : (⟨S1x1x4x4x1x1, .f32⟩ : BufTy).Contents (Elt F) → (⟨S_, .f32⟩ : BufTy).Contents (Elt F) → (⟨S4x4, .f32⟩ : BufTy).Contents (Elt F)),
    reshape main_v200 main_v201 (rfl : (.f32 : EltTy) = .f32) shapeCasts_S4x4_S16 ]

/-- @main's operations 246 … 275 of 384 (window `main_part4`). -/
abbrev ops_part4_0 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S1x32x4x4x128x256, .f32⟩) main_call1_v0) (broadcastInDim S1x32x4x4x128x256 ![] bcast_S_S1x32x4x4x128x256),
    TRef.ternary (TRef.of (T := ⟨S1x32x4x4x128x256, .i1⟩) main_v139_1) (TRef.of (T := ⟨S1x32x4x4x128x256, .f32⟩) main_v196) (TRef.of (T := ⟨S1x32x4x4x128x256, .f32⟩) main_call1_v0) (TRef.of (T := ⟨S1x32x4x4x128x256, .f32⟩) main_v202) select,
    nullary main_cst_36 (constant S_ .f32 0x3DB504F3#32),
    unary main_cst_36 main_v203 (broadcastInDim S1x32x4x4x128x256 ![] bcast_S_S1x32x4x4x128x256 : (⟨S_, .f32⟩ : BufTy).Contents (Elt F) → (⟨S1x32x4x4x128x256, .f32⟩ : BufTy).Contents (Elt F)),
    binary main_v202 main_v203 main_v204 (mulf : (⟨S1x32x4x4x128x256, .f32⟩ : BufTy).Contents (Elt F) → (⟨S1x32x4x4x128x256, .f32⟩ : BufTy).Contents (Elt F) → (⟨S1x32x4x4x128x256, .f32⟩ : BufTy).Contents (Elt F)),
    unary main_v204 main_v205 ((transpose S1x32x4x256x128x4 [0, 1, 2, 5, 4, 3] · transposes_S1x32x4x4x128x256_S1x32x4x256x128x4_0_1_2_5_4_3) : (⟨S1x32x4x4x128x256, .f32⟩ : BufTy).Contents (Elt F) → (⟨S1x32x4x256x128x4, .f32⟩ : BufTy).Contents (Elt F)),
    binary main_v205 main_v98 main_v206 ((fun l r => Host.dotGeneral dot_S1x32x4x256x128x4_S1x32x256x4x128_S1x32x4x128x4x128_3_2_45_4_012_013 none l r) : (⟨S1x32x4x256x128x4, .f32⟩ : BufTy).Contents (Elt F) → (⟨S1x32x256x4x128, .f32⟩ : BufTy).Contents (Elt F) → (⟨S1x32x4x128x4x128, .f32⟩ : BufTy).Contents (Elt F)),
    unary main_v206 main_v207 ((transpose S1x32x128x4x4x128 [0, 1, 3, 2, 4, 5] · transposes_S1x32x4x128x4x128_S1x32x128x4x4x128_0_1_3_2_4_5) : (⟨S1x32x4x128x4x128, .f32⟩ : BufTy).Contents (Elt F) → (⟨S1x32x128x4x4x128, .f32⟩ : BufTy).Contents (Elt F)),
    binary main_v205 main_v91 main_v208 ((fun l r => Host.dotGeneral dot_S1x32x4x256x128x4_S1x32x128x4x4x128_S1x32x4x256x128_45_24_3_5_012_013 none l r) : (⟨S1x32x4x256x128x4, .f32⟩ : BufTy).Contents (Elt F) → (⟨S1x32x128x4x4x128, .f32⟩ : BufTy).Contents (Elt F) → (⟨S1x32x4x256x128, .f32⟩ : BufTy).Contents (Elt F)),
    unary main_v208 main_v209 ((transpose S1x32x256x4x128 [0, 1, 3, 2, 4] · transposes_S1x32x4x256x128_S1x32x256x4x128_0_1_3_2_4) : (⟨S1x32x4x256x128, .f32⟩ : BufTy).Contents (Elt F) → (⟨S1x32x256x4x128, .f32⟩ : BufTy).Contents (Elt F)),
    unary main_v181 main_v210 ((extractStridedSlice S1x32x128x4x128 ![0, 0, 0, 0, 0] · slices_S1x32x256x4x128_S1x32x128x4x128_0_0_0_0_0) : (⟨S1x32x256x4x128, .f32⟩ : BufTy).Contents (Elt F) → (⟨S1x32x128x4x128, .f32⟩ : BufTy).Contents (Elt F)),
    unary main_v181 main_v211 ((extractStridedSlice S1x32x128x4x128 ![0, 0, 128, 0, 0] · slices_S1x32x256x4x128_S1x32x128x4x128_0_0_128_0_0) : (⟨S1x32x256x4x128, .f32⟩ : BufTy).Contents (Elt F) → (⟨S1x32x128x4x128, .f32⟩ : BufTy).Contents (Elt F)),
    unary main_v210 main_v212 ((extractStridedSlice S1x1x128x4x128 ![0, 0, 0, 0, 0] · slices_S1x32x128x4x128_S1x1x128x4x128_0_0_0_0_0) : (⟨S1x32x128x4x128, .f32⟩ : BufTy).Contents (Elt F) → (⟨S1x1x128x4x128, .f32⟩ : BufTy).Contents (Elt F)),
    unary main_v210 main_v213 ((extractStridedSlice S1x31x128x4x128 ![0, 1, 0, 0, 0] · slices_S1x32x128x4x128_S1x31x128x4x128_0_1_0_0_0) : (⟨S1x32x128x4x128, .f32⟩ : BufTy).Contents (Elt F) → (⟨S1x31x128x4x128, .f32⟩ : BufTy).Contents (Elt F)),
    nullary main_cst_37 (constant S_ .f32 0x00000000#32),
    binary main_v213 main_cst_37 main_v214 ((fun x v => pad S1x32x128x4x128 ![0, 0, 0, 0, 0] ![0, 1, 0, 0, 0] ![0, 0, 0, 0, 0] x v pads_S1x31x128x4x128_S1x32x128x4x128_000_010_000_000_000 h_S_) : (⟨S1x31x128x4x128, .f32⟩ : BufTy).Contents (Elt F) → (⟨S_, .f32⟩ : BufTy).Contents (Elt F) → (⟨S1x32x128x4x128, .f32⟩ : BufTy).Contents (Elt F)),
    binary main_v211 main_v214 main_v215 (addf : (⟨S1x32x128x4x128, .f32⟩ : BufTy).Contents (Elt F) → (⟨S1x32x128x4x128, .f32⟩ : BufTy).Contents (Elt F) → (⟨S1x32x128x4x128, .f32⟩ : BufTy).Contents (Elt F)),
    reshape main_v215 main_v216 (rfl : (.f32 : EltTy) = .f32) shapeCasts_S1x32x128x4x128_S1x4096x4x128,
    unary main_v209 main_v217 ((extractStridedSlice S1x32x128x4x128 ![0, 0, 0, 0, 0] · slices_S1x32x256x4x128_S1x32x128x4x128_0_0_0_0_0) : (⟨S1x32x256x4x128, .f32⟩ : BufTy).Contents (Elt F) → (⟨S1x32x128x4x128, .f32⟩ : BufTy).Contents (Elt F)),
    unary main_v209 main_v218 ((extractStridedSlice S1x32x128x4x128 ![0, 0, 128, 0, 0] · slices_S1x32x256x4x128_S1x32x128x4x128_0_0_128_0_0) : (⟨S1x32x256x4x128, .f32⟩ : BufTy).Contents (Elt F) → (⟨S1x32x128x4x128, .f32⟩ : BufTy).Contents (Elt F)),
    unary main_v217 main_v219 ((extractStridedSlice S1x1x128x4x128 ![0, 0, 0, 0, 0] · slices_S1x32x128x4x128_S1x1x128x4x128_0_0_0_0_0) : (⟨S1x32x128x4x128, .f32⟩ : BufTy).Contents (Elt F) → (⟨S1x1x128x4x128, .f32⟩ : BufTy).Contents (Elt F)),
    unary main_v217 main_v220 ((extractStridedSlice S1x31x128x4x128 ![0, 1, 0, 0, 0] · slices_S1x32x128x4x128_S1x31x128x4x128_0_1_0_0_0) : (⟨S1x32x128x4x128, .f32⟩ : BufTy).Contents (Elt F) → (⟨S1x31x128x4x128, .f32⟩ : BufTy).Contents (Elt F)),
    nullary main_cst_38 (constant S_ .f32 0x00000000#32),
    binary main_v220 main_cst_38 main_v221 ((fun x v => pad S1x32x128x4x128 ![0, 0, 0, 0, 0] ![0, 1, 0, 0, 0] ![0, 0, 0, 0, 0] x v pads_S1x31x128x4x128_S1x32x128x4x128_000_010_000_000_000 h_S_) : (⟨S1x31x128x4x128, .f32⟩ : BufTy).Contents (Elt F) → (⟨S_, .f32⟩ : BufTy).Contents (Elt F) → (⟨S1x32x128x4x128, .f32⟩ : BufTy).Contents (Elt F)),
    binary main_v218 main_v221 main_v222 (addf : (⟨S1x32x128x4x128, .f32⟩ : BufTy).Contents (Elt F) → (⟨S1x32x128x4x128, .f32⟩ : BufTy).Contents (Elt F) → (⟨S1x32x128x4x128, .f32⟩ : BufTy).Contents (Elt F)),
    reshape main_v222 main_v223 (rfl : (.f32 : EltTy) = .f32) shapeCasts_S1x32x128x4x128_S1x4096x4x128,
    reshape main_v207 main_v224 (rfl : (.f32 : EltTy) = .f32) shapeCasts_S1x32x128x4x4x128_S1x4096x16x128,
    unary main_v201 main_v225 (broadcastInDim S1x16 ![1] bcast_S16_S1x16_1 : (⟨S16, .f32⟩ : BufTy).Contents (Elt F) → (⟨S1x16, .f32⟩ : BufTy).Contents (Elt F)),
    reshape main_v216 main_v226 (rfl : (.f32 : EltTy) = .f32) shapeCasts_S1x4096x4x128_S1x4096x512 ]

/-- @main's operations 276 … 305 of 384 (window `main_part4`). -/
abbrev ops_part4_1 : List (HloOp τ sig (Elt F)) :=
  [ unary main_v223 main_v227 ((extractStridedSlice S1x4096x4x16 ![0, 0, 0, 0] · slices_S1x4096x4x128_S1x4096x4x16_0_0_0_0) : (⟨S1x4096x4x128, .f32⟩ : BufTy).Contents (Elt F) → (⟨S1x4096x4x16, .f32⟩ : BufTy).Contents (Elt F)),
    unary main_v223 main_v228 ((extractStridedSlice S1x4096x4x16 ![0, 0, 0, 16] · slices_S1x4096x4x128_S1x4096x4x16_0_0_0_16) : (⟨S1x4096x4x128, .f32⟩ : BufTy).Contents (Elt F) → (⟨S1x4096x4x16, .f32⟩ : BufTy).Contents (Elt F)),
    unary main_v223 main_v229 ((extractStridedSlice S1x4096x4x96 ![0, 0, 0, 32] · slices_S1x4096x4x128_S1x4096x4x96_0_0_0_32) : (⟨S1x4096x4x128, .f32⟩ : BufTy).Contents (Elt F) → (⟨S1x4096x4x96, .f32⟩ : BufTy).Contents (Elt F)),
    unary main_v19 main_v230 (broadcastInDim S1x4096x4x16 ![0, 1, 2, 3] bcast_S1x4096x1x16_S1x4096x4x16_0_1_2_3 : (⟨S1x4096x1x16, .f32⟩ : BufTy).Contents (Elt F) → (⟨S1x4096x4x16, .f32⟩ : BufTy).Contents (Elt F)),
    binary main_v228 main_v230 main_v231 (mulf : (⟨S1x4096x4x16, .f32⟩ : BufTy).Contents (Elt F) → (⟨S1x4096x4x16, .f32⟩ : BufTy).Contents (Elt F) → (⟨S1x4096x4x16, .f32⟩ : BufTy).Contents (Elt F)),
    unary main_v17 main_v232 (broadcastInDim S1x4096x4x16 ![0, 1, 2, 3] bcast_S1x4096x1x16_S1x4096x4x16_0_1_2_3 : (⟨S1x4096x1x16, .f32⟩ : BufTy).Contents (Elt F) → (⟨S1x4096x4x16, .f32⟩ : BufTy).Contents (Elt F)),
    binary main_v228 main_v232 main_v233 (mulf : (⟨S1x4096x4x16, .f32⟩ : BufTy).Contents (Elt F) → (⟨S1x4096x4x16, .f32⟩ : BufTy).Contents (Elt F) → (⟨S1x4096x4x16, .f32⟩ : BufTy).Contents (Elt F)),
    unary main_v227 main_v234 (Host.negf : (⟨S1x4096x4x16, .f32⟩ : BufTy).Contents (Elt F) → (⟨S1x4096x4x16, .f32⟩ : BufTy).Contents (Elt F)),
    unary main_v19 main_v235 (broadcastInDim S1x4096x4x16 ![0, 1, 2, 3] bcast_S1x4096x1x16_S1x4096x4x16_0_1_2_3 : (⟨S1x4096x1x16, .f32⟩ : BufTy).Contents (Elt F) → (⟨S1x4096x4x16, .f32⟩ : BufTy).Contents (Elt F)),
    binary main_v234 main_v235 main_v236 (mulf : (⟨S1x4096x4x16, .f32⟩ : BufTy).Contents (Elt F) → (⟨S1x4096x4x16, .f32⟩ : BufTy).Contents (Elt F) → (⟨S1x4096x4x16, .f32⟩ : BufTy).Contents (Elt F)),
    binary main_v233 main_v236 main_v237 (addf : (⟨S1x4096x4x16, .f32⟩ : BufTy).Contents (Elt F) → (⟨S1x4096x4x16, .f32⟩ : BufTy).Contents (Elt F) → (⟨S1x4096x4x16, .f32⟩ : BufTy).Contents (Elt F)),
    unary main_v17 main_v238 (broadcastInDim S1x4096x4x16 ![0, 1, 2, 3] bcast_S1x4096x1x16_S1x4096x4x16_0_1_2_3 : (⟨S1x4096x1x16, .f32⟩ : BufTy).Contents (Elt F) → (⟨S1x4096x4x16, .f32⟩ : BufTy).Contents (Elt F)),
    binary main_v227 main_v238 main_v239 (mulf : (⟨S1x4096x4x16, .f32⟩ : BufTy).Contents (Elt F) → (⟨S1x4096x4x16, .f32⟩ : BufTy).Contents (Elt F) → (⟨S1x4096x4x16, .f32⟩ : BufTy).Contents (Elt F)),
    binary main_v231 main_v239 main_v240 (addf : (⟨S1x4096x4x16, .f32⟩ : BufTy).Contents (Elt F) → (⟨S1x4096x4x16, .f32⟩ : BufTy).Contents (Elt F) → (⟨S1x4096x4x16, .f32⟩ : BufTy).Contents (Elt F)),
    nullary main_cst_39 (constant S_ .f32 0x00000000#32),
    binary main_v229 main_cst_39 main_v241 ((fun x v => pad S1x4096x4x128 ![0, 0, 0, 32] ![0, 0, 0, 0] ![0, 0, 0, 0] x v pads_S1x4096x4x96_S1x4096x4x128_000_000_000_3200 h_S_) : (⟨S1x4096x4x96, .f32⟩ : BufTy).Contents (Elt F) → (⟨S_, .f32⟩ : BufTy).Contents (Elt F) → (⟨S1x4096x4x128, .f32⟩ : BufTy).Contents (Elt F)),
    nullary main_cst_40 (constant S_ .f32 0x00000000#32),
    binary main_v237 main_cst_40 main_v242 ((fun x v => pad S1x4096x4x128 ![0, 0, 0, 16] ![0, 0, 0, 96] ![0, 0, 0, 0] x v pads_S1x4096x4x16_S1x4096x4x128_000_000_000_16960 h_S_) : (⟨S1x4096x4x16, .f32⟩ : BufTy).Contents (Elt F) → (⟨S_, .f32⟩ : BufTy).Contents (Elt F) → (⟨S1x4096x4x128, .f32⟩ : BufTy).Contents (Elt F)),
    binary main_v241 main_v242 main_v243 (addf : (⟨S1x4096x4x128, .f32⟩ : BufTy).Contents (Elt F) → (⟨S1x4096x4x128, .f32⟩ : BufTy).Contents (Elt F) → (⟨S1x4096x4x128, .f32⟩ : BufTy).Contents (Elt F)),
    nullary main_cst_41 (constant S_ .f32 0x00000000#32),
    binary main_v240 main_cst_41 main_v244 ((fun x v => pad S1x4096x4x128 ![0, 0, 0, 0] ![0, 0, 0, 112] ![0, 0, 0, 0] x v pads_S1x4096x4x16_S1x4096x4x128_000_000_000_01120 h_S_) : (⟨S1x4096x4x16, .f32⟩ : BufTy).Contents (Elt F) → (⟨S_, .f32⟩ : BufTy).Contents (Elt F) → (⟨S1x4096x4x128, .f32⟩ : BufTy).Contents (Elt F)),
    binary main_v243 main_v244 main_v245 (addf : (⟨S1x4096x4x128, .f32⟩ : BufTy).Contents (Elt F) → (⟨S1x4096x4x128, .f32⟩ : BufTy).Contents (Elt F) → (⟨S1x4096x4x128, .f32⟩ : BufTy).Contents (Elt F)),
    unary main_v224 main_v246 ((extractStridedSlice S1x4096x16x16 ![0, 0, 0, 0] · slices_S1x4096x16x128_S1x4096x16x16_0_0_0_0) : (⟨S1x4096x16x128, .f32⟩ : BufTy).Contents (Elt F) → (⟨S1x4096x16x16, .f32⟩ : BufTy).Contents (Elt F)),
    unary main_v224 main_v247 ((extractStridedSlice S1x4096x16x16 ![0, 0, 0, 16] · slices_S1x4096x16x128_S1x4096x16x16_0_0_0_16) : (⟨S1x4096x16x128, .f32⟩ : BufTy).Contents (Elt F) → (⟨S1x4096x16x16, .f32⟩ : BufTy).Contents (Elt F)),
    unary main_v224 main_v248 ((extractStridedSlice S1x4096x16x96 ![0, 0, 0, 32] · slices_S1x4096x16x128_S1x4096x16x96_0_0_0_32) : (⟨S1x4096x16x128, .f32⟩ : BufTy).Contents (Elt F) → (⟨S1x4096x16x96, .f32⟩ : BufTy).Contents (Elt F)),
    unary main_v19 main_v249 (broadcastInDim S1x4096x16x16 ![0, 1, 2, 3] bcast_S1x4096x1x16_S1x4096x16x16_0_1_2_3 : (⟨S1x4096x1x16, .f32⟩ : BufTy).Contents (Elt F) → (⟨S1x4096x16x16, .f32⟩ : BufTy).Contents (Elt F)),
    binary main_v247 main_v249 main_v250 (mulf : (⟨S1x4096x16x16, .f32⟩ : BufTy).Contents (Elt F) → (⟨S1x4096x16x16, .f32⟩ : BufTy).Contents (Elt F) → (⟨S1x4096x16x16, .f32⟩ : BufTy).Contents (Elt F)),
    unary main_v17 main_v251 (broadcastInDim S1x4096x16x16 ![0, 1, 2, 3] bcast_S1x4096x1x16_S1x4096x16x16_0_1_2_3 : (⟨S1x4096x1x16, .f32⟩ : BufTy).Contents (Elt F) → (⟨S1x4096x16x16, .f32⟩ : BufTy).Contents (Elt F)),
    binary main_v247 main_v251 main_v252 (mulf : (⟨S1x4096x16x16, .f32⟩ : BufTy).Contents (Elt F) → (⟨S1x4096x16x16, .f32⟩ : BufTy).Contents (Elt F) → (⟨S1x4096x16x16, .f32⟩ : BufTy).Contents (Elt F)),
    unary main_v246 main_v253 (Host.negf : (⟨S1x4096x16x16, .f32⟩ : BufTy).Contents (Elt F) → (⟨S1x4096x16x16, .f32⟩ : BufTy).Contents (Elt F)) ]

/-- @main's operations 306 … 307 of 384 (window `main_part4`). -/
abbrev ops_part4_2 : List (HloOp τ sig (Elt F)) :=
  [ unary main_v19 main_v254 (broadcastInDim S1x4096x16x16 ![0, 1, 2, 3] bcast_S1x4096x1x16_S1x4096x16x16_0_1_2_3 : (⟨S1x4096x1x16, .f32⟩ : BufTy).Contents (Elt F) → (⟨S1x4096x16x16, .f32⟩ : BufTy).Contents (Elt F)),
    binary main_v253 main_v254 main_v255 (mulf : (⟨S1x4096x16x16, .f32⟩ : BufTy).Contents (Elt F) → (⟨S1x4096x16x16, .f32⟩ : BufTy).Contents (Elt F) → (⟨S1x4096x16x16, .f32⟩ : BufTy).Contents (Elt F)) ]

/-- Window `main_part4`'s operations. Not an abbreviation: `main_eq` below splits `ops` into the windows and no further. -/
def ops_part4 : List (HloOp τ sig (Elt F)) :=
  ops_part4_0 ++ (ops_part4_1 ++ (ops_part4_2))

/-- @main's operations 308 … 367 of 384 (window `main_part5`). -/
abbrev ops_part5 : List (HloOp τ sig (Elt F)) :=
  [ binary main_v252 main_v255 main_v256 (addf : (⟨S1x4096x16x16, .f32⟩ : BufTy).Contents (Elt F) → (⟨S1x4096x16x16, .f32⟩ : BufTy).Contents (Elt F) → (⟨S1x4096x16x16, .f32⟩ : BufTy).Contents (Elt F)),
    unary main_v17 main_v257 (broadcastInDim S1x4096x16x16 ![0, 1, 2, 3] bcast_S1x4096x1x16_S1x4096x16x16_0_1_2_3 : (⟨S1x4096x1x16, .f32⟩ : BufTy).Contents (Elt F) → (⟨S1x4096x16x16, .f32⟩ : BufTy).Contents (Elt F)),
    binary main_v246 main_v257 main_v258 (mulf : (⟨S1x4096x16x16, .f32⟩ : BufTy).Contents (Elt F) → (⟨S1x4096x16x16, .f32⟩ : BufTy).Contents (Elt F) → (⟨S1x4096x16x16, .f32⟩ : BufTy).Contents (Elt F)),
    binary main_v250 main_v258 main_v259 (addf : (⟨S1x4096x16x16, .f32⟩ : BufTy).Contents (Elt F) → (⟨S1x4096x16x16, .f32⟩ : BufTy).Contents (Elt F) → (⟨S1x4096x16x16, .f32⟩ : BufTy).Contents (Elt F)),
    nullary main_cst_42 (constant S_ .f32 0x00000000#32),
    binary main_v248 main_cst_42 main_v260 ((fun x v => pad S1x4096x16x128 ![0, 0, 0, 32] ![0, 0, 0, 0] ![0, 0, 0, 0] x v pads_S1x4096x16x96_S1x4096x16x128_000_000_000_3200 h_S_) : (⟨S1x4096x16x96, .f32⟩ : BufTy).Contents (Elt F) → (⟨S_, .f32⟩ : BufTy).Contents (Elt F) → (⟨S1x4096x16x128, .f32⟩ : BufTy).Contents (Elt F)),
    nullary main_cst_43 (constant S_ .f32 0x00000000#32),
    binary main_v256 main_cst_43 main_v261 ((fun x v => pad S1x4096x16x128 ![0, 0, 0, 16] ![0, 0, 0, 96] ![0, 0, 0, 0] x v pads_S1x4096x16x16_S1x4096x16x128_000_000_000_16960 h_S_) : (⟨S1x4096x16x16, .f32⟩ : BufTy).Contents (Elt F) → (⟨S_, .f32⟩ : BufTy).Contents (Elt F) → (⟨S1x4096x16x128, .f32⟩ : BufTy).Contents (Elt F)),
    binary main_v260 main_v261 main_v262 (addf : (⟨S1x4096x16x128, .f32⟩ : BufTy).Contents (Elt F) → (⟨S1x4096x16x128, .f32⟩ : BufTy).Contents (Elt F) → (⟨S1x4096x16x128, .f32⟩ : BufTy).Contents (Elt F)),
    nullary main_cst_44 (constant S_ .f32 0x00000000#32),
    binary main_v259 main_cst_44 main_v263 ((fun x v => pad S1x4096x16x128 ![0, 0, 0, 0] ![0, 0, 0, 112] ![0, 0, 0, 0] x v pads_S1x4096x16x16_S1x4096x16x128_000_000_000_01120 h_S_) : (⟨S1x4096x16x16, .f32⟩ : BufTy).Contents (Elt F) → (⟨S_, .f32⟩ : BufTy).Contents (Elt F) → (⟨S1x4096x16x128, .f32⟩ : BufTy).Contents (Elt F)),
    binary main_v262 main_v263 main_v264 (addf : (⟨S1x4096x16x128, .f32⟩ : BufTy).Contents (Elt F) → (⟨S1x4096x16x128, .f32⟩ : BufTy).Contents (Elt F) → (⟨S1x4096x16x128, .f32⟩ : BufTy).Contents (Elt F)),
    binary main_v57 main_v245 main_v265 (mulf : (⟨S1x4096x4x128, .f32⟩ : BufTy).Contents (Elt F) → (⟨S1x4096x4x128, .f32⟩ : BufTy).Contents (Elt F) → (⟨S1x4096x4x128, .f32⟩ : BufTy).Contents (Elt F)),
    nullary main_cst_45 (constant S_ .f32 0x00000000#32),
    binary main_v265 main_cst_45 main_v266 ((fun x v => Host.reduceAdd x v reducesTo_S1x4096x4x128_S1x128_d1_2 h_S_) : (⟨S1x4096x4x128, .f32⟩ : BufTy).Contents (Elt F) → (⟨S_, .f32⟩ : BufTy).Contents (Elt F) → (⟨S1x128, .f32⟩ : BufTy).Contents (Elt F)),
    reshape main_v266 main_v267 (rfl : (.f32 : EltTy) = .f32) shapeCasts_S1x128_S1x1x1x128,
    unary main_v58 main_v268 (broadcastInDim S1x4096x4x128 ![0, 1, 2, 3] bcast_S1x1x1x128_S1x4096x4x128_0_1_2_3 : (⟨S1x1x1x128, .f32⟩ : BufTy).Contents (Elt F) → (⟨S1x4096x4x128, .f32⟩ : BufTy).Contents (Elt F)),
    binary main_v245 main_v268 main_v269 (mulf : (⟨S1x4096x4x128, .f32⟩ : BufTy).Contents (Elt F) → (⟨S1x4096x4x128, .f32⟩ : BufTy).Contents (Elt F) → (⟨S1x4096x4x128, .f32⟩ : BufTy).Contents (Elt F)),
    nullary main_cst_46 (constant S_ .f32 0x00000000#32),
    binary main_v267 main_cst_46 main_v270 ((fun x v => Host.reduceAdd x v reducesTo_S1x1x1x128_S128_d0_1_2 h_S_) : (⟨S1x1x1x128, .f32⟩ : BufTy).Contents (Elt F) → (⟨S_, .f32⟩ : BufTy).Contents (Elt F) → (⟨S128, .f32⟩ : BufTy).Contents (Elt F)),
    binary main_v43 main_v269 main_v271 (mulf : (⟨S1x4096x4x128, .f32⟩ : BufTy).Contents (Elt F) → (⟨S1x4096x4x128, .f32⟩ : BufTy).Contents (Elt F) → (⟨S1x4096x4x128, .f32⟩ : BufTy).Contents (Elt F)),
    nullary main_cst_47 (constant S_ .f32 0x00000000#32),
    binary main_v271 main_cst_47 main_v272 ((fun x v => Host.reduceAdd x v reducesTo_S1x4096x4x128_S1x4096x4_d3 h_S_) : (⟨S1x4096x4x128, .f32⟩ : BufTy).Contents (Elt F) → (⟨S_, .f32⟩ : BufTy).Contents (Elt F) → (⟨S1x4096x4, .f32⟩ : BufTy).Contents (Elt F)),
    reshape main_v272 main_v273 (rfl : (.f32 : EltTy) = .f32) shapeCasts_S1x4096x4_S1x4096x4x1,
    unary main_v52 main_v274 (broadcastInDim S1x4096x4x128 ![0, 1, 2, 3] bcast_S1x4096x4x1_S1x4096x4x128_0_1_2_3 : (⟨S1x4096x4x1, .f32⟩ : BufTy).Contents (Elt F) → (⟨S1x4096x4x128, .f32⟩ : BufTy).Contents (Elt F)),
    binary main_v269 main_v274 main_v275 (mulf : (⟨S1x4096x4x128, .f32⟩ : BufTy).Contents (Elt F) → (⟨S1x4096x4x128, .f32⟩ : BufTy).Contents (Elt F) → (⟨S1x4096x4x128, .f32⟩ : BufTy).Contents (Elt F)),
    binary main_v273 main_v55 main_v276 (mulf : (⟨S1x4096x4x1, .f32⟩ : BufTy).Contents (Elt F) → (⟨S1x4096x4x1, .f32⟩ : BufTy).Contents (Elt F) → (⟨S1x4096x4x1, .f32⟩ : BufTy).Contents (Elt F)),
    nullary main_cst_48 (constant S_ .f32 0x43000000#32),
    unary main_cst_48 main_v277 (broadcastInDim S1x4096x4x1 ![] bcast_S_S1x4096x4x1 : (⟨S_, .f32⟩ : BufTy).Contents (Elt F) → (⟨S1x4096x4x1, .f32⟩ : BufTy).Contents (Elt F)),
    binary main_v276 main_v277 main_v278 (Host.divf : (⟨S1x4096x4x1, .f32⟩ : BufTy).Contents (Elt F) → (⟨S1x4096x4x1, .f32⟩ : BufTy).Contents (Elt F) → (⟨S1x4096x4x1, .f32⟩ : BufTy).Contents (Elt F)),
    nullary main_cst_49 (constant S_ .f32 0x00000000#32),
    binary main_v278 main_cst_49 main_v279 ((fun x v => Host.reduceAdd x v reducesTo_S1x4096x4x1_S4096x4_d0_3 h_S_) : (⟨S1x4096x4x1, .f32⟩ : BufTy).Contents (Elt F) → (⟨S_, .f32⟩ : BufTy).Contents (Elt F) → (⟨S4096x4, .f32⟩ : BufTy).Contents (Elt F)),
    unary main_v279 main_v280 (broadcastInDim S1x4096x4 ![1, 2] bcast_S4096x4_S1x4096x4_1_2 : (⟨S4096x4, .f32⟩ : BufTy).Contents (Elt F) → (⟨S1x4096x4, .f32⟩ : BufTy).Contents (Elt F)),
    unary main_v280 main_v281 (broadcastInDim S1x4096x4x128 ![0, 1, 2] bcast_S1x4096x4_S1x4096x4x128_0_1_2 : (⟨S1x4096x4, .f32⟩ : BufTy).Contents (Elt F) → (⟨S1x4096x4x128, .f32⟩ : BufTy).Contents (Elt F)),
    binary main_v43 main_v281 main_v282 (mulf : (⟨S1x4096x4x128, .f32⟩ : BufTy).Contents (Elt F) → (⟨S1x4096x4x128, .f32⟩ : BufTy).Contents (Elt F) → (⟨S1x4096x4x128, .f32⟩ : BufTy).Contents (Elt F)),
    binary main_v275 main_v282 main_v283 (addf : (⟨S1x4096x4x128, .f32⟩ : BufTy).Contents (Elt F) → (⟨S1x4096x4x128, .f32⟩ : BufTy).Contents (Elt F) → (⟨S1x4096x4x128, .f32⟩ : BufTy).Contents (Elt F)),
    binary main_v281 main_v43 main_v284 (mulf : (⟨S1x4096x4x128, .f32⟩ : BufTy).Contents (Elt F) → (⟨S1x4096x4x128, .f32⟩ : BufTy).Contents (Elt F) → (⟨S1x4096x4x128, .f32⟩ : BufTy).Contents (Elt F)),
    binary main_v283 main_v284 main_v285 (addf : (⟨S1x4096x4x128, .f32⟩ : BufTy).Contents (Elt F) → (⟨S1x4096x4x128, .f32⟩ : BufTy).Contents (Elt F) → (⟨S1x4096x4x128, .f32⟩ : BufTy).Contents (Elt F)),
    unary main_v270 main_v286 (broadcastInDim S1x128 ![1] bcast_S128_S1x128_1 : (⟨S128, .f32⟩ : BufTy).Contents (Elt F) → (⟨S1x128, .f32⟩ : BufTy).Contents (Elt F)),
    reshape main_v285 main_v287 (rfl : (.f32 : EltTy) = .f32) shapeCasts_S1x4096x4x128_S1x4096x512,
    binary main_v39 main_v264 main_v288 (mulf : (⟨S1x4096x16x128, .f32⟩ : BufTy).Contents (Elt F) → (⟨S1x4096x16x128, .f32⟩ : BufTy).Contents (Elt F) → (⟨S1x4096x16x128, .f32⟩ : BufTy).Contents (Elt F)),
    nullary main_cst_50 (constant S_ .f32 0x00000000#32),
    binary main_v288 main_cst_50 main_v289 ((fun x v => Host.reduceAdd x v reducesTo_S1x4096x16x128_S1x128_d1_2 h_S_) : (⟨S1x4096x16x128, .f32⟩ : BufTy).Contents (Elt F) → (⟨S_, .f32⟩ : BufTy).Contents (Elt F) → (⟨S1x128, .f32⟩ : BufTy).Contents (Elt F)),
    reshape main_v289 main_v290 (rfl : (.f32 : EltTy) = .f32) shapeCasts_S1x128_S1x1x1x128,
    unary main_v40 main_v291 (broadcastInDim S1x4096x16x128 ![0, 1, 2, 3] bcast_S1x1x1x128_S1x4096x16x128_0_1_2_3 : (⟨S1x1x1x128, .f32⟩ : BufTy).Contents (Elt F) → (⟨S1x4096x16x128, .f32⟩ : BufTy).Contents (Elt F)),
    binary main_v264 main_v291 main_v292 (mulf : (⟨S1x4096x16x128, .f32⟩ : BufTy).Contents (Elt F) → (⟨S1x4096x16x128, .f32⟩ : BufTy).Contents (Elt F) → (⟨S1x4096x16x128, .f32⟩ : BufTy).Contents (Elt F)),
    nullary main_cst_51 (constant S_ .f32 0x00000000#32),
    binary main_v290 main_cst_51 main_v293 ((fun x v => Host.reduceAdd x v reducesTo_S1x1x1x128_S128_d0_1_2 h_S_) : (⟨S1x1x1x128, .f32⟩ : BufTy).Contents (Elt F) → (⟨S_, .f32⟩ : BufTy).Contents (Elt F) → (⟨S128, .f32⟩ : BufTy).Contents (Elt F)),
    binary main_v25 main_v292 main_v294 (mulf : (⟨S1x4096x16x128, .f32⟩ : BufTy).Contents (Elt F) → (⟨S1x4096x16x128, .f32⟩ : BufTy).Contents (Elt F) → (⟨S1x4096x16x128, .f32⟩ : BufTy).Contents (Elt F)),
    nullary main_cst_52 (constant S_ .f32 0x00000000#32),
    binary main_v294 main_cst_52 main_v295 ((fun x v => Host.reduceAdd x v reducesTo_S1x4096x16x128_S1x4096x16_d3 h_S_) : (⟨S1x4096x16x128, .f32⟩ : BufTy).Contents (Elt F) → (⟨S_, .f32⟩ : BufTy).Contents (Elt F) → (⟨S1x4096x16, .f32⟩ : BufTy).Contents (Elt F)),
    reshape main_v295 main_v296 (rfl : (.f32 : EltTy) = .f32) shapeCasts_S1x4096x16_S1x4096x16x1,
    unary main_v34 main_v297 (broadcastInDim S1x4096x16x128 ![0, 1, 2, 3] bcast_S1x4096x16x1_S1x4096x16x128_0_1_2_3 : (⟨S1x4096x16x1, .f32⟩ : BufTy).Contents (Elt F) → (⟨S1x4096x16x128, .f32⟩ : BufTy).Contents (Elt F)),
    binary main_v292 main_v297 main_v298 (mulf : (⟨S1x4096x16x128, .f32⟩ : BufTy).Contents (Elt F) → (⟨S1x4096x16x128, .f32⟩ : BufTy).Contents (Elt F) → (⟨S1x4096x16x128, .f32⟩ : BufTy).Contents (Elt F)),
    binary main_v296 main_v37 main_v299 (mulf : (⟨S1x4096x16x1, .f32⟩ : BufTy).Contents (Elt F) → (⟨S1x4096x16x1, .f32⟩ : BufTy).Contents (Elt F) → (⟨S1x4096x16x1, .f32⟩ : BufTy).Contents (Elt F)),
    nullary main_cst_53 (constant S_ .f32 0x43000000#32),
    unary main_cst_53 main_v300 (broadcastInDim S1x4096x16x1 ![] bcast_S_S1x4096x16x1 : (⟨S_, .f32⟩ : BufTy).Contents (Elt F) → (⟨S1x4096x16x1, .f32⟩ : BufTy).Contents (Elt F)),
    binary main_v299 main_v300 main_v301 (Host.divf : (⟨S1x4096x16x1, .f32⟩ : BufTy).Contents (Elt F) → (⟨S1x4096x16x1, .f32⟩ : BufTy).Contents (Elt F) → (⟨S1x4096x16x1, .f32⟩ : BufTy).Contents (Elt F)),
    nullary main_cst_54 (constant S_ .f32 0x00000000#32),
    binary main_v301 main_cst_54 main_v302 ((fun x v => Host.reduceAdd x v reducesTo_S1x4096x16x1_S4096x16_d0_3 h_S_) : (⟨S1x4096x16x1, .f32⟩ : BufTy).Contents (Elt F) → (⟨S_, .f32⟩ : BufTy).Contents (Elt F) → (⟨S4096x16, .f32⟩ : BufTy).Contents (Elt F)) ]

/-- @main's operations 368 … 384 of 384 (window `main_part6`). -/
abbrev ops_part6 : List (HloOp τ sig (Elt F)) :=
  [ unary main_v302 main_v303 (broadcastInDim S1x4096x16 ![1, 2] bcast_S4096x16_S1x4096x16_1_2 : (⟨S4096x16, .f32⟩ : BufTy).Contents (Elt F) → (⟨S1x4096x16, .f32⟩ : BufTy).Contents (Elt F)),
    unary main_v303 main_v304 (broadcastInDim S1x4096x16x128 ![0, 1, 2] bcast_S1x4096x16_S1x4096x16x128_0_1_2 : (⟨S1x4096x16, .f32⟩ : BufTy).Contents (Elt F) → (⟨S1x4096x16x128, .f32⟩ : BufTy).Contents (Elt F)),
    binary main_v25 main_v304 main_v305 (mulf : (⟨S1x4096x16x128, .f32⟩ : BufTy).Contents (Elt F) → (⟨S1x4096x16x128, .f32⟩ : BufTy).Contents (Elt F) → (⟨S1x4096x16x128, .f32⟩ : BufTy).Contents (Elt F)),
    binary main_v298 main_v305 main_v306 (addf : (⟨S1x4096x16x128, .f32⟩ : BufTy).Contents (Elt F) → (⟨S1x4096x16x128, .f32⟩ : BufTy).Contents (Elt F) → (⟨S1x4096x16x128, .f32⟩ : BufTy).Contents (Elt F)),
    binary main_v304 main_v25 main_v307 (mulf : (⟨S1x4096x16x128, .f32⟩ : BufTy).Contents (Elt F) → (⟨S1x4096x16x128, .f32⟩ : BufTy).Contents (Elt F) → (⟨S1x4096x16x128, .f32⟩ : BufTy).Contents (Elt F)),
    binary main_v306 main_v307 main_v308 (addf : (⟨S1x4096x16x128, .f32⟩ : BufTy).Contents (Elt F) → (⟨S1x4096x16x128, .f32⟩ : BufTy).Contents (Elt F) → (⟨S1x4096x16x128, .f32⟩ : BufTy).Contents (Elt F)),
    unary main_v293 main_v309 (broadcastInDim S1x128 ![1] bcast_S128_S1x128_1 : (⟨S128, .f32⟩ : BufTy).Contents (Elt F) → (⟨S1x128, .f32⟩ : BufTy).Contents (Elt F)),
    reshape main_v308 main_v310 (rfl : (.f32 : EltTy) = .f32) shapeCasts_S1x4096x16x128_S1x4096x2048,
    reshape main_v310 main_v311 (rfl : (.f32 : EltTy) = .f32) shapeCasts_S1x4096x2048_S4096x2048,
    unary main_v311 main_v312 ((truncf .bf16 · bitsLt_bf16_f32) : (⟨S4096x2048, .f32⟩ : BufTy).Contents (Elt F) → (⟨S4096x2048, .bf16⟩ : BufTy).Contents (Elt F)),
    reshape main_v287 main_v313 (rfl : (.f32 : EltTy) = .f32) shapeCasts_S1x4096x512_S4096x512,
    unary main_v313 main_v314 ((truncf .bf16 · bitsLt_bf16_f32) : (⟨S4096x512, .f32⟩ : BufTy).Contents (Elt F) → (⟨S4096x512, .bf16⟩ : BufTy).Contents (Elt F)),
    reshape main_v226 main_v315 (rfl : (.f32 : EltTy) = .f32) shapeCasts_S1x4096x512_S4096x512,
    unary main_v315 main_v316 ((truncf .bf16 · bitsLt_bf16_f32) : (⟨S4096x512, .f32⟩ : BufTy).Contents (Elt F) → (⟨S4096x512, .bf16⟩ : BufTy).Contents (Elt F)),
    nullary main_c_55 (constantI S_ 32 0#32),
    TRef.unary (TRef.of (T := ⟨S_, .i32⟩) main_c_55) (TRef.of (T := ⟨S_, .f32⟩) main_call2_v0) (sitofp .f32),
    TRef.binary (TRef.of (T := ⟨S1x16, .f32⟩) main_v225) (TRef.of (T := ⟨S_, .f32⟩) main_call2_v0) (TRef.of (T := ⟨S1x128, .f32⟩) main_v317) (fun x v => pad S1x128 ![0, 0] ![0, 112] ![0, 0] x v pads_S1x16_S1x128_000_01120 h_S_) ]

/-- @main's 384 operations, in order (a called function's operations stand in its call's place, spelt `TRef.…`). -/
abbrev ops : List (HloOp τ sig (Elt F)) :=
  ops_part0 ++ (ops_part1 ++ (ops_part2 ++ (ops_part3 ++ (ops_part4 ++ (ops_part5 ++ (ops_part6))))))

set_option maxRecDepth 8192 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
set_option maxHeartbeats 4000000 in
theorem main_part2_eq (c : Dev nD) : main_part2 (F := F) c = seq ops_part2 := rfl
set_option maxRecDepth 8192 in
theorem main_part3_eq (c : Dev nD) : main_part3 (F := F) c = seq ops_part3 := rfl
set_option maxRecDepth 8192 in
set_option maxHeartbeats 4000000 in
theorem main_part4_eq (c : Dev nD) : main_part4 (F := F) c = seq ops_part4 := rfl
set_option maxRecDepth 8192 in
theorem main_part5_eq (c : Dev nD) : main_part5 (F := F) c = seq ops_part5 := rfl
set_option maxRecDepth 8192 in
theorem main_part6_eq (c : Dev nD) : main_part6 (F := F) c = seq ops_part6 := rfl
set_option maxRecDepth 8192 in
theorem main_eq (c : Dev nD) : main (F := F) c = seq ops := by
  simp only [ops, seq_append, ← main_part0_eq c, ← main_part1_eq c, ← main_part2_eq c, ← main_part3_eq c, ← main_part4_eq c, ← main_part5_eq c, ← main_part6_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_sub : (ops_part0 : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., unary_bufs_sub .., unary_bufs_sub .., unary_bufs_sub .., unary_bufs_sub .., unary_bufs_sub .., binary_bufs_sub .., unary_bufs_sub .., unary_bufs_sub .., unary_bufs_sub .., unary_bufs_sub .., unary_bufs_sub .., unary_bufs_sub .., unary_bufs_sub .., unary_bufs_sub .., unary_bufs_sub .., reshape_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., unary_bufs_sub .., binary_bufs_sub .., unary_bufs_sub .., unary_bufs_sub .., binary_bufs_sub .., reshape_bufs_sub .., reshape_bufs_sub .., binary_bufs_sub .., nullary_bufs_sub .., binary_bufs_sub .., unary_bufs_sub .., nullary_bufs_sub .., unary_bufs_sub .., binary_bufs_sub ..⟩
set_option maxRecDepth 8192 in
theorem ops_part0_fresh : (ops_part0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_sub : (ops_part1 : List (HloOp τ sig (Elt F))).Forall fun op => op.bufs ⊆ tcRefs τ sig :=
  ⟨nullary_bufs_sub .., unary_bufs_sub .., binary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., unary_bufs_sub .., unary_bufs_sub .., binary_bufs_sub .., unary_bufs_sub .., binary_bufs_sub .., binary_bufs_sub .., unary_bufs_sub .., binary_bufs_sub .., unary_bufs_sub .., binary_bufs_sub .., binary_bufs_sub .., nary_bufs_sub .., unary_bufs_sub .., unary_bufs_sub .., unary_bufs_sub .., unary_bufs_sub .., binary_bufs_sub .., unary_bufs_sub .., binary_bufs_sub .., binary_bufs_sub .., unary_bufs_sub .., binary_bufs_sub .., unary_bufs_sub .., binary_bufs_sub .., binary_bufs_sub .., nary_bufs_sub .., reshape_bufs_sub .., reshape_bufs_sub .., reshape_bufs_sub .., reshape_bufs_sub .., unary_bufs_sub .., nullary_bufs_sub .., unary_bufs_sub .., unary_bufs_sub .., binary_bufs_sub .., nullary_bufs_sub .., unary_bufs_sub .., binary_bufs_sub .., reshape_bufs_sub .., unary_bufs_sub .., nullary_bufs_sub .., unary_bufs_sub .., unary_bufs_sub .., binary_bufs_sub .., nullary_bufs_sub ..⟩
set_option maxRecDepth 8192 in
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_0_sub : (ops_part2_0 : List (HloOp τ sig (Elt F))).Forall fun op => op.bufs ⊆ tcRefs τ sig :=
  ⟨unary_bufs_sub .., binary_bufs_sub .., binary_bufs_sub .., unary_bufs_sub .., nullary_bufs_sub .., unary_bufs_sub .., binary_bufs_sub .., nullary_bufs_sub .., unary_bufs_sub .., nullary_bufs_sub .., unary_bufs_sub .., nullary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., nullary_bufs_sub .., unary_bufs_sub .., binary_bufs_sub .., nullary_bufs_sub ..⟩
set_option maxRecDepth 8192 in
theorem ops_part2_0_fresh : (ops_part2_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_1_sub : (ops_part2_1 : List (HloOp τ sig (Elt F))).Forall fun op => op.bufs ⊆ tcRefs τ sig :=
  ⟨unary_bufs_sub .., binary_bufs_sub .., unary_bufs_sub .., unary_bufs_sub .., unary_bufs_sub .., binary_bufs_sub .., unary_bufs_sub .., unary_bufs_sub .., unary_bufs_sub .., binary_bufs_sub .., unary_bufs_sub .., nullary_bufs_sub .., unary_bufs_sub .., unary_bufs_sub .., unary_bufs_sub .., ternary_bufs_sub .., nullary_bufs_sub .., unary_bufs_sub .., reshape_bufs_sub .., unary_bufs_sub .., unary_bufs_sub .., binary_bufs_sub .., nullary_bufs_sub .., binary_bufs_sub .., reshape_bufs_sub .., unary_bufs_sub .., binary_bufs_sub .., unary_bufs_sub .., nullary_bufs_sub .., binary_bufs_sub ..⟩
set_option maxRecDepth 8192 in
theorem ops_part2_1_fresh : (ops_part2_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_2_sub : (ops_part2_2 : List (HloOp τ sig (Elt F))).Forall fun op => op.bufs ⊆ tcRefs τ sig :=
  ⟨nullary_bufs_sub .., unary_bufs_sub .., binary_bufs_sub .., nullary_bufs_sub .., unary_bufs_sub ..⟩
set_option maxRecDepth 8192 in
theorem ops_part2_2_fresh : (ops_part2_2 : List (HloOp τ sig (Elt F))).Forall fun op => op.fresh = ∅ :=
  ⟨rfl, rfl, rfl, rfl, rfl⟩
set_option maxRecDepth 8192 in
theorem ops_part3_sub : (ops_part3 : List (HloOp τ sig (Elt F))).Forall fun op => op.bufs ⊆ tcRefs τ sig :=
  ⟨binary_bufs_sub .., nullary_bufs_sub .., unary_bufs_sub .., binary_bufs_sub .., nullary_bufs_sub .., unary_bufs_sub .., nullary_bufs_sub .., unary_bufs_sub .., nullary_bufs_sub .., unary_bufs_sub .., ternary_bufs_sub .., ternary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., unary_bufs_sub .., binary_bufs_sub .., unary_bufs_sub .., binary_bufs_sub .., unary_bufs_sub .., reshape_bufs_sub .., unary_bufs_sub .., reshape_bufs_sub .., unary_bufs_sub .., binary_bufs_sub .., binary_bufs_sub .., unary_bufs_sub .., nullary_bufs_sub .., binary_bufs_sub .., unary_bufs_sub .., binary_bufs_sub .., binary_bufs_sub .., nullary_bufs_sub .., binary_bufs_sub .., reshape_bufs_sub .., unary_bufs_sub .., unary_bufs_sub .., binary_bufs_sub .., nullary_bufs_sub .., binary_bufs_sub .., unary_bufs_sub .., unary_bufs_sub .., binary_bufs_sub .., binary_bufs_sub .., unary_bufs_sub .., unary_bufs_sub .., nullary_bufs_sub .., binary_bufs_sub .., unary_bufs_sub .., nullary_bufs_sub .., binary_bufs_sub .., reshape_bufs_sub ..⟩
set_option maxRecDepth 8192 in
theorem ops_part3_fresh : (ops_part3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part4_0_sub : (ops_part4_0 : List (HloOp τ sig (Elt F))).Forall fun op => op.bufs ⊆ tcRefs τ sig :=
  ⟨nullary_bufs_sub .., unary_bufs_sub .., ternary_bufs_sub .., nullary_bufs_sub .., unary_bufs_sub .., binary_bufs_sub .., unary_bufs_sub .., binary_bufs_sub .., unary_bufs_sub .., binary_bufs_sub .., unary_bufs_sub .., unary_bufs_sub .., unary_bufs_sub .., unary_bufs_sub .., unary_bufs_sub .., nullary_bufs_sub .., binary_bufs_sub .., binary_bufs_sub .., reshape_bufs_sub .., unary_bufs_sub .., unary_bufs_sub .., unary_bufs_sub .., unary_bufs_sub .., nullary_bufs_sub .., binary_bufs_sub .., binary_bufs_sub .., reshape_bufs_sub .., reshape_bufs_sub .., unary_bufs_sub .., reshape_bufs_sub ..⟩
set_option maxRecDepth 8192 in
theorem ops_part4_0_fresh : (ops_part4_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part4_1_sub : (ops_part4_1 : List (HloOp τ sig (Elt F))).Forall fun op => op.bufs ⊆ tcRefs τ sig :=
  ⟨unary_bufs_sub .., unary_bufs_sub .., unary_bufs_sub .., unary_bufs_sub .., binary_bufs_sub .., unary_bufs_sub .., binary_bufs_sub .., unary_bufs_sub .., unary_bufs_sub .., binary_bufs_sub .., binary_bufs_sub .., unary_bufs_sub .., binary_bufs_sub .., binary_bufs_sub .., nullary_bufs_sub .., binary_bufs_sub .., nullary_bufs_sub .., binary_bufs_sub .., binary_bufs_sub .., nullary_bufs_sub .., binary_bufs_sub .., binary_bufs_sub .., unary_bufs_sub .., unary_bufs_sub .., unary_bufs_sub .., unary_bufs_sub .., binary_bufs_sub .., unary_bufs_sub .., binary_bufs_sub .., unary_bufs_sub ..⟩
set_option maxRecDepth 8192 in
theorem ops_part4_1_fresh : (ops_part4_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part4_2_sub : (ops_part4_2 : List (HloOp τ sig (Elt F))).Forall fun op => op.bufs ⊆ tcRefs τ sig :=
  ⟨unary_bufs_sub .., binary_bufs_sub ..⟩
set_option maxRecDepth 8192 in
theorem ops_part4_2_fresh : (ops_part4_2 : List (HloOp τ sig (Elt F))).Forall fun op => op.fresh = ∅ :=
  ⟨rfl, rfl⟩
set_option maxRecDepth 8192 in
theorem ops_part5_sub : (ops_part5 : List (HloOp τ sig (Elt F))).Forall fun op => op.bufs ⊆ tcRefs τ sig :=
  ⟨binary_bufs_sub .., unary_bufs_sub .., binary_bufs_sub .., binary_bufs_sub .., nullary_bufs_sub .., binary_bufs_sub .., nullary_bufs_sub .., binary_bufs_sub .., binary_bufs_sub .., nullary_bufs_sub .., binary_bufs_sub .., binary_bufs_sub .., binary_bufs_sub .., nullary_bufs_sub .., binary_bufs_sub .., reshape_bufs_sub .., unary_bufs_sub .., binary_bufs_sub .., nullary_bufs_sub .., binary_bufs_sub .., binary_bufs_sub .., nullary_bufs_sub .., binary_bufs_sub .., reshape_bufs_sub .., unary_bufs_sub .., binary_bufs_sub .., binary_bufs_sub .., nullary_bufs_sub .., unary_bufs_sub .., binary_bufs_sub .., nullary_bufs_sub .., binary_bufs_sub .., unary_bufs_sub .., unary_bufs_sub .., binary_bufs_sub .., binary_bufs_sub .., binary_bufs_sub .., binary_bufs_sub .., unary_bufs_sub .., reshape_bufs_sub .., binary_bufs_sub .., nullary_bufs_sub .., binary_bufs_sub .., reshape_bufs_sub .., unary_bufs_sub .., binary_bufs_sub .., nullary_bufs_sub .., binary_bufs_sub .., binary_bufs_sub .., nullary_bufs_sub .., binary_bufs_sub .., reshape_bufs_sub .., unary_bufs_sub .., binary_bufs_sub .., binary_bufs_sub .., nullary_bufs_sub .., unary_bufs_sub .., binary_bufs_sub .., nullary_bufs_sub .., binary_bufs_sub ..⟩
set_option maxRecDepth 8192 in
theorem ops_part5_fresh : (ops_part5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part6_sub : (ops_part6 : List (HloOp τ sig (Elt F))).Forall fun op => op.bufs ⊆ tcRefs τ sig :=
  ⟨unary_bufs_sub .., unary_bufs_sub .., binary_bufs_sub .., binary_bufs_sub .., binary_bufs_sub .., binary_bufs_sub .., unary_bufs_sub .., reshape_bufs_sub .., reshape_bufs_sub .., unary_bufs_sub .., reshape_bufs_sub .., unary_bufs_sub .., reshape_bufs_sub .., unary_bufs_sub .., nullary_bufs_sub .., unary_bufs_sub .., binary_bufs_sub ..⟩
set_option maxRecDepth 8192 in
theorem ops_part6_fresh : (ops_part6 : List (HloOp τ sig (Elt F))).Forall fun op => op.fresh = ∅ :=
  ⟨rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part2, ops_part4, List.mem_append, or_assoc] at h
    rcases h with h | h | h | h | h | h | h | h | h | h | h
    exacts [List.forall_iff_forall_mem.mp ops_part0_sub op h, List.forall_iff_forall_mem.mp ops_part1_sub op h, List.forall_iff_forall_mem.mp ops_part2_0_sub op h, List.forall_iff_forall_mem.mp ops_part2_1_sub op h, List.forall_iff_forall_mem.mp ops_part2_2_sub op h, List.forall_iff_forall_mem.mp ops_part3_sub op h, List.forall_iff_forall_mem.mp ops_part4_0_sub op h, List.forall_iff_forall_mem.mp ops_part4_1_sub op h, List.forall_iff_forall_mem.mp ops_part4_2_sub op h, List.forall_iff_forall_mem.mp ops_part5_sub op h, List.forall_iff_forall_mem.mp ops_part6_sub op h]
theorem ops_fresh : ∀ op ∈ (ops : List (HloOp τ sig (Elt F))), op.fresh = ∅ := fun op h => by
    simp only [ops, ops_part2, ops_part4, List.mem_append, or_assoc] at h
    rcases h with h | h | h | h | h | h | h | h | h | h | h
    exacts [List.forall_iff_forall_mem.mp ops_part0_fresh op h, List.forall_iff_forall_mem.mp ops_part1_fresh op h, List.forall_iff_forall_mem.mp ops_part2_0_fresh op h, List.forall_iff_forall_mem.mp ops_part2_1_fresh op h, List.forall_iff_forall_mem.mp ops_part2_2_fresh op h, List.forall_iff_forall_mem.mp ops_part3_fresh op h, List.forall_iff_forall_mem.mp ops_part4_0_fresh op h, List.forall_iff_forall_mem.mp ops_part4_1_fresh op h, List.forall_iff_forall_mem.mp ops_part4_2_fresh op h, List.forall_iff_forall_mem.mp ops_part5_fresh op h, List.forall_iff_forall_mem.mp ops_part6_fresh op h]

end Cert.ReferenceIdeal.Ops

end
-- ==== Proof.Ref.Final.lean ====
/-
  A line of operations each of which writes a buffer of its own, the next in number, from buffers numbered below: after
  the line, every operation's equation holds of the final contents.
-/
module

public import proofs.«01_k».proof.Proof.Ref.Ops
public import Idealize.ShloMosaic.Init

@[expose] public section

set_option maxRecDepth 16384

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- A buffer of the reference, on the device. -/
abbrev at_ (r : Ref sig .tc) : DevRef τ sig := Proc.devRef .tc r

/-- The operation writes the buffer numbered `n`, and what it writes depends on the buffers numbered below `n` alone. -/
def Step (n : ℕ) (op : HloOp τ sig (Elt F)) : Prop :=
  ∃ y : Ref sig .tc, y.idx.val = n ∧ op.writes = {at_ y} ∧
    ∀ V W : Valuation τ sig (Elt F), (∀ r : Ref sig .tc, r.idx.val < n → V (at_ r) = W (at_ r)) →
      op.result V (at_ y) = op.result W (at_ y)

/-- The operations write the buffers numbered `n`, `n + 1`, …, each from those below it. -/
def Steps : ℕ → List (HloOp τ sig (Elt F)) → Prop
  | _, [] => True
  | n, op :: ops => Step n op ∧ Steps (n + 1) ops

theorem Steps.append : ∀ {n : ℕ} {l l' : List (HloOp τ sig (Elt F))}, Steps n l → Steps (n + l.length) l' → Steps n (l ++ l')
  | _, [], _, _, h' => by simpa using h'
  | n, op :: l, l', h, h' => ⟨h.1, Steps.append h.2 (by
      rw [List.length_cons] at h'; rwa [show n + 1 + l.length = n + (l.length + 1) by omega])⟩

theorem Steps.keep : ∀ {n : ℕ} {ops : List (HloOp τ sig (Elt F))}, Steps n ops → ∀ (V : Valuation τ sig (Elt F))
    (r : Ref sig .tc), r.idx.val < n → after ops V (at_ r) = V (at_ r)
  | _, [], _, _, _, _ => rfl
  | n, op :: ops, h, V, r, hr => by
    obtain ⟨y, hy, hw, -⟩ := h.1
    rw [after_cons, Steps.keep h.2 _ r (by omega)]
    exact result_of_writes_ne op V y r hw (by rintro rfl; omega)

/-- The operation changes nothing in `W`: `W`'s contents satisfy its equation. -/
def Fixed (op : HloOp τ sig (Elt F)) (W : Valuation τ sig (Elt F)) : Prop := op.result W = W

theorem Steps.fixed : ∀ {n : ℕ} {ops : List (HloOp τ sig (Elt F))}, Steps n ops → ∀ (V : Valuation τ sig (Elt F)),
    ∀ op ∈ ops, Fixed op (after ops V)
  | n, op :: ops, h, V, o, ho => by
    rcases List.mem_cons.mp ho with rfl | ho
    · obtain ⟨y, hy, hw, hr⟩ := h.1
      funext b
      by_cases hb : b ∈ o.writes
      · rw [hw, Finset.mem_singleton] at hb
        subst hb
        rw [after_cons, Steps.keep h.2 _ y (by omega)]
        refine hr _ _ fun r hlt => ?_
        rw [Steps.keep h.2 _ r (by omega)]
        exact result_of_writes_ne o V y r hw (by rintro rfl; omega)
      · exact o.result_of_not_mem _ hb
    · exact Steps.fixed h.2 _ o ho

section Builders

variable {n : ℕ} {x a b c y : Ref sig .tc}

theorem step_nullary {v : y.ty.Contents (Elt F)} {hy} (hn : y.idx.val = n) : Step n (nullary (τ := τ) y v hy) :=
  ⟨y, hn, rfl, fun V W _ => by rw [nullary_result, nullary_result]⟩

theorem step_unary {f : x.ty.Contents (Elt F) → y.ty.Contents (Elt F)} {hx hy} (h : x.idx.val < n) (hn : y.idx.val = n) :
    Step n (unary (τ := τ) x y f hx hy) :=
  ⟨y, hn, rfl, fun V W e => by rw [unary_result, unary_result]; exact congrArg f (e x h)⟩

theorem step_reshape {he hs hx hy} (h : x.idx.val < n) (hn : y.idx.val = n) :
    Step n (reshape (τ := τ) (Val := Elt F) x y he hs hx hy) :=
  ⟨y, hn, rfl, fun V W e => by rw [reshape_result, reshape_result, show V (at_ x) = W (at_ x) from e x h]⟩

theorem step_binary {f : a.ty.Contents (Elt F) → b.ty.Contents (Elt F) → y.ty.Contents (Elt F)} {ha hb hy}
    (h : a.idx.val < n) (h' : b.idx.val < n) (hn : y.idx.val = n) : Step n (binary (τ := τ) a b y f ha hb hy) :=
  ⟨y, hn, rfl, fun V W e => by rw [binary_result, binary_result]; exact congrArg₂ f (e a h) (e b h')⟩

theorem step_ternary {f : c.ty.Contents (Elt F) → a.ty.Contents (Elt F) → b.ty.Contents (Elt F) → y.ty.Contents (Elt F)}
    {hc ha hb hy} (h'' : c.idx.val < n) (h : a.idx.val < n) (h' : b.idx.val < n) (hn : y.idx.val = n) :
    Step n (ternary (τ := τ) c a b y f hc ha hb hy) :=
  ⟨y, hn, rfl, fun V W e => by
    rw [ternary_result, ternary_result, show V (at_ c) = W (at_ c) from e c h'', show V (at_ a) = W (at_ a) from e a h,
      show V (at_ b) = W (at_ b) from e b h']⟩

theorem step_nary {k : ℕ} {xs : Fin k → Ref sig .tc} {f : ((i : Fin k) → (xs i).ty.Contents (Elt F)) → y.ty.Contents (Elt F)}
    {hxs hy} (h : ∀ i, (xs i).idx.val < n) (hn : y.idx.val = n) : Step n (nary (τ := τ) xs y f hxs hy) :=
  ⟨y, hn, rfl, fun V W e => by
    rw [nary_result, nary_result]; exact congrArg f (funext fun i => e (xs i) (h i))⟩

end Builders

theorem steps_part0 : Steps 6 (ops_part0 : List (HloOp τ sig (Elt F))) :=
  ⟨step_nullary rfl, step_nullary rfl, step_unary (by decide) rfl, step_binary (by decide) (by decide) rfl,
    step_nullary rfl, step_unary (by decide) rfl, step_binary (by decide) (by decide) rfl,
    step_unary (by decide) rfl, step_nullary rfl, step_unary (by decide) rfl,
    step_binary (by decide) (by decide) rfl, step_nullary rfl, step_unary (by decide) rfl,
    step_binary (by decide) (by decide) rfl, step_unary (by decide) rfl, step_unary (by decide) rfl,
    step_unary (by decide) rfl, step_unary (by decide) rfl, step_unary (by decide) rfl,
    step_binary (by decide) (by decide) rfl, step_unary (by decide) rfl, step_unary (by decide) rfl,
    step_unary (by decide) rfl, step_unary (by decide) rfl, step_unary (by decide) rfl, step_unary (by decide) rfl,
    step_unary (by decide) rfl, step_unary (by decide) rfl, step_unary (by decide) rfl, step_reshape (by decide) rfl,
    step_reshape (by decide) rfl, step_binary (by decide) (by decide) rfl, step_nullary rfl,
    step_binary (by decide) (by decide) rfl, step_unary (by decide) rfl, step_nullary rfl,
    step_unary (by decide) rfl, step_binary (by decide) (by decide) rfl, step_nullary rfl,
    step_unary (by decide) rfl, step_binary (by decide) (by decide) rfl, step_unary (by decide) rfl,
    step_binary (by decide) (by decide) rfl, step_nullary rfl, step_unary (by decide) rfl,
    step_binary (by decide) (by decide) rfl, step_unary (by decide) rfl, step_binary (by decide) (by decide) rfl,
    step_unary (by decide) rfl, step_unary (by decide) rfl, step_binary (by decide) (by decide) rfl,
    step_reshape (by decide) rfl, step_reshape (by decide) rfl, step_binary (by decide) (by decide) rfl,
    step_nullary rfl, step_binary (by decide) (by decide) rfl, step_unary (by decide) rfl, step_nullary rfl,
    step_unary (by decide) rfl, step_binary (by decide) (by decide) rfl, trivial⟩

theorem steps_part1 : Steps 66 (ops_part1 : List (HloOp τ sig (Elt F))) :=
  ⟨step_nullary rfl, step_unary (by decide) rfl, step_binary (by decide) (by decide) rfl, step_unary (by decide) rfl,
    step_binary (by decide) (by decide) rfl, step_nullary rfl, step_unary (by decide) rfl,
    step_binary (by decide) (by decide) rfl, step_unary (by decide) rfl, step_binary (by decide) (by decide) rfl,
    step_unary (by decide) rfl, step_unary (by decide) rfl, step_binary (by decide) (by decide) rfl,
    step_unary (by decide) rfl, step_unary (by decide) rfl, step_unary (by decide) rfl, step_unary (by decide) rfl,
    step_binary (by decide) (by decide) rfl, step_unary (by decide) rfl, step_binary (by decide) (by decide) rfl,
    step_binary (by decide) (by decide) rfl, step_unary (by decide) rfl, step_binary (by decide) (by decide) rfl,
    step_unary (by decide) rfl, step_binary (by decide) (by decide) rfl, step_binary (by decide) (by decide) rfl,
    step_nary (by decide) rfl, step_unary (by decide) rfl, step_unary (by decide) rfl, step_unary (by decide) rfl,
    step_unary (by decide) rfl, step_binary (by decide) (by decide) rfl, step_unary (by decide) rfl,
    step_binary (by decide) (by decide) rfl, step_binary (by decide) (by decide) rfl, step_unary (by decide) rfl,
    step_binary (by decide) (by decide) rfl, step_unary (by decide) rfl, step_binary (by decide) (by decide) rfl,
    step_binary (by decide) (by decide) rfl, step_nary (by decide) rfl, step_reshape (by decide) rfl,
    step_reshape (by decide) rfl, step_reshape (by decide) rfl, step_reshape (by decide) rfl,
    step_unary (by decide) rfl, step_nullary rfl, step_unary (by decide) rfl, step_unary (by decide) rfl,
    step_binary (by decide) (by decide) rfl, step_nullary rfl, step_unary (by decide) rfl,
    step_binary (by decide) (by decide) rfl, step_reshape (by decide) rfl, step_unary (by decide) rfl,
    step_nullary rfl, step_unary (by decide) rfl, step_unary (by decide) rfl,
    step_binary (by decide) (by decide) rfl, step_nullary rfl, trivial⟩

theorem steps_part2_0 : Steps 126 (ops_part2_0 : List (HloOp τ sig (Elt F))) :=
  ⟨step_unary (by decide) rfl, step_binary (by decide) (by decide) rfl, step_binary (by decide) (by decide) rfl,
    step_unary (by decide) rfl, step_nullary rfl, step_unary (by decide) rfl,
    step_binary (by decide) (by decide) rfl, step_nullary rfl, step_unary (by decide) rfl, step_nullary rfl,
    step_unary (by decide) rfl, step_nullary rfl, step_unary (by decide) rfl,
    step_binary (by decide) (by decide) rfl, step_unary (by decide) rfl, step_unary (by decide) rfl,
    step_binary (by decide) (by decide) rfl, step_nullary rfl, step_unary (by decide) rfl,
    step_binary (by decide) (by decide) rfl, step_nullary rfl, step_unary (by decide) rfl,
    step_binary (by decide) (by decide) rfl, step_binary (by decide) (by decide) rfl, step_nullary rfl,
    step_unary (by decide) rfl, step_nullary rfl, step_unary (by decide) rfl,
    step_binary (by decide) (by decide) rfl, step_nullary rfl, trivial⟩

theorem steps_part2_1 : Steps 156 (ops_part2_1 : List (HloOp τ sig (Elt F))) :=
  ⟨step_unary (by decide) rfl, step_binary (by decide) (by decide) rfl, step_unary (by decide) rfl,
    step_unary (by decide) rfl, step_unary (by decide) rfl, step_binary (by decide) (by decide) rfl,
    step_unary (by decide) rfl, step_unary (by decide) rfl, step_unary (by decide) rfl,
    step_binary (by decide) (by decide) rfl, step_unary (by decide) rfl, step_nullary rfl,
    step_unary (by decide) rfl, step_unary (by decide) rfl, step_unary (by decide) rfl,
    step_ternary (by decide) (by decide) (by decide) rfl, step_nullary rfl, step_unary (by decide) rfl,
    step_reshape (by decide) rfl, step_unary (by decide) rfl, step_unary (by decide) rfl,
    step_binary (by decide) (by decide) rfl, step_nullary rfl, step_binary (by decide) (by decide) rfl,
    step_reshape (by decide) rfl, step_unary (by decide) rfl, step_binary (by decide) (by decide) rfl,
    step_unary (by decide) rfl, step_nullary rfl, step_binary (by decide) (by decide) rfl, trivial⟩

theorem steps_part2_2 : Steps 186 (ops_part2_2 : List (HloOp τ sig (Elt F))) :=
  ⟨step_nullary rfl, step_unary (by decide) rfl, step_binary (by decide) (by decide) rfl, step_nullary rfl,
    step_unary (by decide) rfl, trivial⟩

theorem steps_part3 : Steps 191 (ops_part3 : List (HloOp τ sig (Elt F))) :=
  ⟨step_binary (by decide) (by decide) rfl, step_nullary rfl, step_unary (by decide) rfl,
    step_binary (by decide) (by decide) rfl, step_nullary rfl, step_unary (by decide) rfl, step_nullary rfl,
    step_unary (by decide) rfl, step_nullary rfl, step_unary (by decide) rfl,
    step_ternary (by decide) (by decide) (by decide) rfl, step_ternary (by decide) (by decide) (by decide) rfl,
    step_unary (by decide) rfl, step_unary (by decide) rfl, step_binary (by decide) (by decide) rfl,
    step_unary (by decide) rfl, step_nullary rfl, step_binary (by decide) (by decide) rfl,
    step_unary (by decide) rfl, step_unary (by decide) rfl, step_binary (by decide) (by decide) rfl,
    step_binary (by decide) (by decide) rfl, step_nullary rfl, step_unary (by decide) rfl,
    step_binary (by decide) (by decide) rfl, step_unary (by decide) rfl, step_binary (by decide) (by decide) rfl,
    step_unary (by decide) rfl, step_reshape (by decide) rfl, step_unary (by decide) rfl,
    step_reshape (by decide) rfl, step_unary (by decide) rfl, step_binary (by decide) (by decide) rfl,
    step_binary (by decide) (by decide) rfl, step_unary (by decide) rfl, step_nullary rfl,
    step_binary (by decide) (by decide) rfl, step_unary (by decide) rfl, step_binary (by decide) (by decide) rfl,
    step_binary (by decide) (by decide) rfl, step_nullary rfl, step_binary (by decide) (by decide) rfl,
    step_reshape (by decide) rfl, step_unary (by decide) rfl, step_unary (by decide) rfl,
    step_binary (by decide) (by decide) rfl, step_nullary rfl, step_binary (by decide) (by decide) rfl,
    step_unary (by decide) rfl, step_unary (by decide) rfl, step_binary (by decide) (by decide) rfl,
    step_binary (by decide) (by decide) rfl, step_unary (by decide) rfl, step_unary (by decide) rfl,
    step_nullary rfl, step_binary (by decide) (by decide) rfl, step_unary (by decide) rfl, step_nullary rfl,
    step_binary (by decide) (by decide) rfl, step_reshape (by decide) rfl, trivial⟩

theorem steps_part4_0 : Steps 251 (ops_part4_0 : List (HloOp τ sig (Elt F))) :=
  ⟨step_nullary rfl, step_unary (by decide) rfl, step_ternary (by decide) (by decide) (by decide) rfl,
    step_nullary rfl, step_unary (by decide) rfl, step_binary (by decide) (by decide) rfl,
    step_unary (by decide) rfl, step_binary (by decide) (by decide) rfl, step_unary (by decide) rfl,
    step_binary (by decide) (by decide) rfl, step_unary (by decide) rfl, step_unary (by decide) rfl,
    step_unary (by decide) rfl, step_unary (by decide) rfl, step_unary (by decide) rfl, step_nullary rfl,
    step_binary (by decide) (by decide) rfl, step_binary (by decide) (by decide) rfl, step_reshape (by decide) rfl,
    step_unary (by decide) rfl, step_unary (by decide) rfl, step_unary (by decide) rfl, step_unary (by decide) rfl,
    step_nullary rfl, step_binary (by decide) (by decide) rfl, step_binary (by decide) (by decide) rfl,
    step_reshape (by decide) rfl, step_reshape (by decide) rfl, step_unary (by decide) rfl,
    step_reshape (by decide) rfl, trivial⟩

theorem steps_part4_1 : Steps 281 (ops_part4_1 : List (HloOp τ sig (Elt F))) :=
  ⟨step_unary (by decide) rfl, step_unary (by decide) rfl, step_unary (by decide) rfl, step_unary (by decide) rfl,
    step_binary (by decide) (by decide) rfl, step_unary (by decide) rfl, step_binary (by decide) (by decide) rfl,
    step_unary (by decide) rfl, step_unary (by decide) rfl, step_binary (by decide) (by decide) rfl,
    step_binary (by decide) (by decide) rfl, step_unary (by decide) rfl, step_binary (by decide) (by decide) rfl,
    step_binary (by decide) (by decide) rfl, step_nullary rfl, step_binary (by decide) (by decide) rfl,
    step_nullary rfl, step_binary (by decide) (by decide) rfl, step_binary (by decide) (by decide) rfl,
    step_nullary rfl, step_binary (by decide) (by decide) rfl, step_binary (by decide) (by decide) rfl,
    step_unary (by decide) rfl, step_unary (by decide) rfl, step_unary (by decide) rfl, step_unary (by decide) rfl,
    step_binary (by decide) (by decide) rfl, step_unary (by decide) rfl, step_binary (by decide) (by decide) rfl,
    step_unary (by decide) rfl, trivial⟩

theorem steps_part4_2 : Steps 311 (ops_part4_2 : List (HloOp τ sig (Elt F))) :=
  ⟨step_unary (by decide) rfl, step_binary (by decide) (by decide) rfl, trivial⟩

theorem steps_part5 : Steps 313 (ops_part5 : List (HloOp τ sig (Elt F))) :=
  ⟨step_binary (by decide) (by decide) rfl, step_unary (by decide) rfl, step_binary (by decide) (by decide) rfl,
    step_binary (by decide) (by decide) rfl, step_nullary rfl, step_binary (by decide) (by decide) rfl,
    step_nullary rfl, step_binary (by decide) (by decide) rfl, step_binary (by decide) (by decide) rfl,
    step_nullary rfl, step_binary (by decide) (by decide) rfl, step_binary (by decide) (by decide) rfl,
    step_binary (by decide) (by decide) rfl, step_nullary rfl, step_binary (by decide) (by decide) rfl,
    step_reshape (by decide) rfl, step_unary (by decide) rfl, step_binary (by decide) (by decide) rfl,
    step_nullary rfl, step_binary (by decide) (by decide) rfl, step_binary (by decide) (by decide) rfl,
    step_nullary rfl, step_binary (by decide) (by decide) rfl, step_reshape (by decide) rfl,
    step_unary (by decide) rfl, step_binary (by decide) (by decide) rfl, step_binary (by decide) (by decide) rfl,
    step_nullary rfl, step_unary (by decide) rfl, step_binary (by decide) (by decide) rfl, step_nullary rfl,
    step_binary (by decide) (by decide) rfl, step_unary (by decide) rfl, step_unary (by decide) rfl,
    step_binary (by decide) (by decide) rfl, step_binary (by decide) (by decide) rfl,
    step_binary (by decide) (by decide) rfl, step_binary (by decide) (by decide) rfl, step_unary (by decide) rfl,
    step_reshape (by decide) rfl, step_binary (by decide) (by decide) rfl, step_nullary rfl,
    step_binary (by decide) (by decide) rfl, step_reshape (by decide) rfl, step_unary (by decide) rfl,
    step_binary (by decide) (by decide) rfl, step_nullary rfl, step_binary (by decide) (by decide) rfl,
    step_binary (by decide) (by decide) rfl, step_nullary rfl, step_binary (by decide) (by decide) rfl,
    step_reshape (by decide) rfl, step_unary (by decide) rfl, step_binary (by decide) (by decide) rfl,
    step_binary (by decide) (by decide) rfl, step_nullary rfl, step_unary (by decide) rfl,
    step_binary (by decide) (by decide) rfl, step_nullary rfl, step_binary (by decide) (by decide) rfl, trivial⟩

theorem steps_part6 : Steps 373 (ops_part6 : List (HloOp τ sig (Elt F))) :=
  ⟨step_unary (by decide) rfl, step_unary (by decide) rfl, step_binary (by decide) (by decide) rfl,
    step_binary (by decide) (by decide) rfl, step_binary (by decide) (by decide) rfl,
    step_binary (by decide) (by decide) rfl, step_unary (by decide) rfl, step_reshape (by decide) rfl,
    step_reshape (by decide) rfl, step_unary (by decide) rfl, step_reshape (by decide) rfl,
    step_unary (by decide) rfl, step_reshape (by decide) rfl, step_unary (by decide) rfl, step_nullary rfl,
    step_unary (by decide) rfl, step_binary (by decide) (by decide) rfl, trivial⟩

theorem steps : Steps 6 (ops : List (HloOp τ sig (Elt F))) :=
  Steps.append steps_part0 (Steps.append steps_part1 (Steps.append
    (Steps.append steps_part2_0 (Steps.append steps_part2_1 steps_part2_2))
    (Steps.append steps_part3 (Steps.append
      (Steps.append steps_part4_0 (Steps.append steps_part4_1 steps_part4_2))
      (Steps.append steps_part5 steps_part6)))))

/-- The contents after the whole line. -/
def fin (V : Valuation τ sig (Elt F)) : Valuation τ sig (Elt F) := after ops V

theorem fin_arg (V : Valuation τ sig (Elt F)) (r : Ref sig .tc) (h : r.idx.val < 6) : fin V (at_ r) = V (at_ r) :=
  Steps.keep steps V r h

theorem fin_fixed (V : Valuation τ sig (Elt F)) {op : HloOp τ sig (Elt F)} (h : op ∈ ops) : Fixed op (fin V) :=
  Steps.fixed steps V op h

/-- Every execution of the reference ends, each buffer at the final contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      (∀ b : Ref sig .tc, r.2.mem ((c.tc : Thread nD τ).loc b) = fin (launchContents m c) (at_ b))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨fun b => h c b,
      (h c main_arg0).trans (fin_arg _ main_arg0 (by decide)), (h c main_arg1).trans (fin_arg _ main_arg1 (by decide)),
      (h c main_arg2).trans (fin_arg _ main_arg2 (by decide)), (h c main_arg3).trans (fin_arg _ main_arg3 (by decide)),
      (h c main_arg4).trans (fin_arg _ main_arg4 (by decide)), (h c main_arg5).trans (fin_arg _ main_arg5 (by decide))⟩)
    (run_seq scopedRefs_eq scopedSems_eq defs main (fun _ => ops) main_eq (fun _ => ops_sub) m ρ fun _ => ops_fresh)

end Cert.ReferenceIdeal.Ops

end
-- ==== Proof.Ref.Eqs.lean ====
/-
  The reference's operations as equations of the final contents.
-/
module

public import proofs.«01_k».proof.Proof.Ref.Final
public import Idealize.ShloMosaic.Lib.Pointwise

@[expose] public section

set_option maxRecDepth 16384
set_option Elab.async false

noncomputable section

namespace Cert.ReferenceIdeal.Ops

open Cert.ReferenceIdeal Cert.ReferenceIdeal.Gen Idealize.ShloMosaic Idealize.ShloMosaic.TcCoe Idealize.SL.Sem Idealize.ShloMosaic.StableHlo

section

variable {F : FTy → Type} [FloatOps F] {W : Valuation τ sig (Elt F)} {x a b c y : Ref sig .tc}

theorem eq_nullary {v : y.ty.Contents (Elt F)} {hy} (h : Fixed (nullary (τ := τ) y v hy) W) : W (at_ y) = v :=
  (congrFun h (at_ y)).symm.trans (nullary_result ..)

theorem eq_unary {f : x.ty.Contents (Elt F) → y.ty.Contents (Elt F)} {hx hy} (h : Fixed (unary (τ := τ) x y f hx hy) W) :
    W (at_ y) = f (W (at_ x)) := (congrFun h (at_ y)).symm.trans (unary_result ..)

theorem eq_binary {f : a.ty.Contents (Elt F) → b.ty.Contents (Elt F) → y.ty.Contents (Elt F)} {ha hb hy}
    (h : Fixed (binary (τ := τ) a b y f ha hb hy) W) : W (at_ y) = f (W (at_ a)) (W (at_ b)) :=
  (congrFun h (at_ y)).symm.trans (binary_result ..)

theorem eq_ternary {f : c.ty.Contents (Elt F) → a.ty.Contents (Elt F) → b.ty.Contents (Elt F) → y.ty.Contents (Elt F)}
    {hc ha hb hy} (h : Fixed (ternary (τ := τ) c a b y f hc ha hb hy) W) :
    W (at_ y) = f (W (at_ c)) (W (at_ a)) (W (at_ b)) := (congrFun h (at_ y)).symm.trans (ternary_result ..)

theorem eq_nary {k : ℕ} {xs : Fin k → Ref sig .tc} {f : ((i : Fin k) → (xs i).ty.Contents (Elt F)) → y.ty.Contents (Elt F)}
    {hxs hy} (h : Fixed (nary (τ := τ) xs y f hxs hy) W) : W (at_ y) = f fun i => W (at_ (xs i)) :=
  (congrFun h (at_ y)).symm.trans (nary_result ..)

theorem eq_reshape {he hs hx hy} (h : Fixed (reshape (τ := τ) (Val := Elt F) x y he hs hx hy) W) :
    W (at_ y) = fun i => he ▸ shapeCast y.ty.shape (W (at_ x)) hs i :=
  (congrFun h (at_ y)).symm.trans (reshape_result ..)

end

/-! The operation in place `i` of a part of the line holds of the final contents. -/

variable (V : Valuation τ sig (Elt Ideal)) (i : ℕ) {op : HloOp τ sig (Elt Ideal)}

theorem at_part0 (h : (ops_part0 (F := Ideal))[i]? = some op) : Fixed op (fin V) :=
  fin_fixed V (List.mem_append_left _ (List.mem_of_getElem? h))

theorem at_part1 (h : (ops_part1 (F := Ideal))[i]? = some op) : Fixed op (fin V) :=
  fin_fixed V (List.mem_append_right _ (List.mem_append_left _ (List.mem_of_getElem? h)))

theorem at_part2_0 (h : (ops_part2_0 (F := Ideal))[i]? = some op) : Fixed op (fin V) :=
  fin_fixed V (List.mem_append_right _ (List.mem_append_right _ (List.mem_append_left _ (List.mem_append_left _ (List.mem_of_getElem? h)))))

theorem at_part2_1 (h : (ops_part2_1 (F := Ideal))[i]? = some op) : Fixed op (fin V) :=
  fin_fixed V (List.mem_append_right _ (List.mem_append_right _ (List.mem_append_left _ (List.mem_append_right _ (List.mem_append_left _ (List.mem_of_getElem? h))))))

theorem at_part2_2 (h : (ops_part2_2 (F := Ideal))[i]? = some op) : Fixed op (fin V) :=
  fin_fixed V (List.mem_append_right _ (List.mem_append_right _ (List.mem_append_left _ (List.mem_append_right _ (List.mem_append_right _ (List.mem_of_getElem? h))))))

theorem at_part3 (h : (ops_part3 (F := Ideal))[i]? = some op) : Fixed op (fin V) :=
  fin_fixed V (List.mem_append_right _ (List.mem_append_right _ (List.mem_append_right _ (List.mem_append_left _ (List.mem_of_getElem? h)))))

theorem at_part4_0 (h : (ops_part4_0 (F := Ideal))[i]? = some op) : Fixed op (fin V) :=
  fin_fixed V (List.mem_append_right _ (List.mem_append_right _ (List.mem_append_right _ (List.mem_append_right _ (List.mem_append_left _ (List.mem_append_left _ (List.mem_of_getElem? h)))))))

theorem at_part4_1 (h : (ops_part4_1 (F := Ideal))[i]? = some op) : Fixed op (fin V) :=
  fin_fixed V (List.mem_append_right _ (List.mem_append_right _ (List.mem_append_right _ (List.mem_append_right _ (List.mem_append_left _ (List.mem_append_right _ (List.mem_append_left _ (List.mem_of_getElem? h))))))))

theorem at_part4_2 (h : (ops_part4_2 (F := Ideal))[i]? = some op) : Fixed op (fin V) :=
  fin_fixed V (List.mem_append_right _ (List.mem_append_right _ (List.mem_append_right _ (List.mem_append_right _ (List.mem_append_left _ (List.mem_append_right _ (List.mem_append_right _ (List.mem_of_getElem? h))))))))

theorem at_part5 (h : (ops_part5 (F := Ideal))[i]? = some op) : Fixed op (fin V) :=
  fin_fixed V (List.mem_append_right _ (List.mem_append_right _ (List.mem_append_right _ (List.mem_append_right _ (List.mem_append_right _ (List.mem_append_left _ (List.mem_of_getElem? h)))))))

theorem at_part6 (h : (ops_part6 (F := Ideal))[i]? = some op) : Fixed op (fin V) :=
  fin_fixed V (List.mem_append_right _ (List.mem_append_right _ (List.mem_append_right _ (List.mem_append_right _ (List.mem_append_right _ (List.mem_append_right _ (List.mem_of_getElem? h)))))))

def a0 : FVec Ideal S4096x2048 .f32 := fin V (at_ main_arg0)
def a1 : FVec Ideal S4096x12800 .f32 := fin V (at_ main_arg1)
def a2 : IVec S1x4096 32 := fin V (at_ main_arg2)
def a3 : FVec Ideal S1x128 .f32 := fin V (at_ main_arg3)
def a4 : FVec Ideal S1x128 .f32 := fin V (at_ main_arg4)
def a5 : FVec Ideal S1x16 .f32 := fin V (at_ main_arg5)

def r0 : FVec Ideal S16 .f32 := fin V (at_ main_v0)
theorem e0 : r0 V = sitofp .f32 (iotaInDim S16 32 0) :=
  eq_nullary (at_part0 V 0 rfl)

def r_cst : FVec Ideal S_ .f32 := fin V (at_ main_cst)
theorem e_cst : r_cst V = constant S_ .f32 0x40000000#32 :=
  eq_nullary (at_part0 V 1 rfl)

def r1 : FVec Ideal S16 .f32 := fin V (at_ main_v1)
theorem e1 : r1 V = broadcastInDim S16 ![] bcast_S_S16 (r_cst V) :=
  eq_unary (at_part0 V 2 rfl)

def r2 : FVec Ideal S16 .f32 := fin V (at_ main_v2)
theorem e2 : r2 V = mulf (r1 V) (r0 V) :=
  eq_binary (at_part0 V 3 rfl)

def r_cst_0 : FVec Ideal S_ .f32 := fin V (at_ main_cst_0)
theorem e_cst_0 : r_cst_0 V = constant S_ .f32 0x00000000#32 :=
  eq_nullary (at_part0 V 4 rfl)

def r3 : FVec Ideal S16 .f32 := fin V (at_ main_v3)
theorem e3 : r3 V = broadcastInDim S16 ![] bcast_S_S16 (r_cst_0 V) :=
  eq_unary (at_part0 V 5 rfl)

def r4 : FVec Ideal S16 .f32 := fin V (at_ main_v4)
theorem e4 : r4 V = addf (r3 V) (r2 V) :=
  eq_binary (at_part0 V 6 rfl)

def r5 : FVec Ideal S16 .f32 := fin V (at_ main_v5)
theorem e5 : r5 V = Host.negf (r4 V) :=
  eq_unary (at_part0 V 7 rfl)

def r_cst_1 : FVec Ideal S_ .f32 := fin V (at_ main_cst_1)
theorem e_cst_1 : r_cst_1 V = constant S_ .f32 0x42000000#32 :=
  eq_nullary (at_part0 V 8 rfl)

def r6 : FVec Ideal S16 .f32 := fin V (at_ main_v6)
theorem e6 : r6 V = broadcastInDim S16 ![] bcast_S_S16 (r_cst_1 V) :=
  eq_unary (at_part0 V 9 rfl)

def r7 : FVec Ideal S16 .f32 := fin V (at_ main_v7)
theorem e7 : r7 V = Host.divf (r5 V) (r6 V) :=
  eq_binary (at_part0 V 10 rfl)

def r_cst_2 : FVec Ideal S_ .f32 := fin V (at_ main_cst_2)
theorem e_cst_2 : r_cst_2 V = constant S_ .f32 0x48F42400#32 :=
  eq_nullary (at_part0 V 11 rfl)

def r8 : FVec Ideal S16 .f32 := fin V (at_ main_v8)
theorem e8 : r8 V = broadcastInDim S16 ![] bcast_S_S16 (r_cst_2 V) :=
  eq_unary (at_part0 V 12 rfl)

def r9 : FVec Ideal S16 .f32 := fin V (at_ main_v9)
theorem e9 : r9 V = Host.powf (r8 V) (r7 V) :=
  eq_binary (at_part0 V 13 rfl)

def r10 : FVec Ideal S1x4096 .f32 := fin V (at_ main_v10)
theorem e10 : r10 V = sitofp .f32 (a2 V) :=
  eq_unary (at_part0 V 14 rfl)

def r11 : FVec Ideal S1x4096x1 .f32 := fin V (at_ main_v11)
theorem e11 : r11 V = broadcastInDim S1x4096x1 ![0, 1] bcast_S1x4096_S1x4096x1_0_1 (r10 V) :=
  eq_unary (at_part0 V 15 rfl)

def r12 : FVec Ideal S1x1x16 .f32 := fin V (at_ main_v12)
theorem e12 : r12 V = broadcastInDim S1x1x16 ![2] bcast_S16_S1x1x16_2 (r9 V) :=
  eq_unary (at_part0 V 16 rfl)

def r13 : FVec Ideal S1x4096x16 .f32 := fin V (at_ main_v13)
theorem e13 : r13 V = broadcastInDim S1x4096x16 ![0, 1, 2] bcast_S1x4096x1_S1x4096x16_0_1_2 (r11 V) :=
  eq_unary (at_part0 V 17 rfl)

def r14 : FVec Ideal S1x4096x16 .f32 := fin V (at_ main_v14)
theorem e14 : r14 V = broadcastInDim S1x4096x16 ![0, 1, 2] bcast_S1x1x16_S1x4096x16_0_1_2 (r12 V) :=
  eq_unary (at_part0 V 18 rfl)

def r15 : FVec Ideal S1x4096x16 .f32 := fin V (at_ main_v15)
theorem e15 : r15 V = mulf (r13 V) (r14 V) :=
  eq_binary (at_part0 V 19 rfl)

def r16 : FVec Ideal S1x4096x16 .f32 := fin V (at_ main_v16)
theorem e16 : r16 V = Host.cos (r15 V) :=
  eq_unary (at_part0 V 20 rfl)

def r17 : FVec Ideal S1x4096x1x16 .f32 := fin V (at_ main_v17)
theorem e17 : r17 V = broadcastInDim S1x4096x1x16 ![0, 1, 3] bcast_S1x4096x16_S1x4096x1x16_0_1_3 (r16 V) :=
  eq_unary (at_part0 V 21 rfl)

def r18 : FVec Ideal S1x4096x16 .f32 := fin V (at_ main_v18)
theorem e18 : r18 V = Host.sin (r15 V) :=
  eq_unary (at_part0 V 22 rfl)

def r19 : FVec Ideal S1x4096x1x16 .f32 := fin V (at_ main_v19)
theorem e19 : r19 V = broadcastInDim S1x4096x1x16 ![0, 1, 3] bcast_S1x4096x16_S1x4096x1x16_0_1_3 (r18 V) :=
  eq_unary (at_part0 V 23 rfl)

def r20 : FVec Ideal S1x4096x12800 .f32 := fin V (at_ main_v20)
theorem e20 : r20 V = broadcastInDim S1x4096x12800 ![1, 2] bcast_S4096x12800_S1x4096x12800_1_2 (a1 V) :=
  eq_unary (at_part0 V 24 rfl)

def r21 : FVec Ideal S1x4096x2048 .f32 := fin V (at_ main_v21)
theorem e21 : r21 V = extractStridedSlice S1x4096x2048 ![0, 0, 0] (r20 V) slices_S1x4096x12800_S1x4096x2048_0_0_0 :=
  eq_unary (at_part0 V 25 rfl)

def r22 : FVec Ideal S1x4096x512 .f32 := fin V (at_ main_v22)
theorem e22 : r22 V = extractStridedSlice S1x4096x512 ![0, 0, 2048] (r20 V) slices_S1x4096x12800_S1x4096x512_0_0_2048 :=
  eq_unary (at_part0 V 26 rfl)

def r23 : FVec Ideal S1x4096x512 .f32 := fin V (at_ main_v23)
theorem e23 : r23 V = extractStridedSlice S1x4096x512 ![0, 0, 2560] (r20 V) slices_S1x4096x12800_S1x4096x512_0_0_2560 :=
  eq_unary (at_part0 V 27 rfl)

def r25 : FVec Ideal S1x4096x16x128 .f32 := fin V (at_ main_v25)
theorem e25 : r25 V = shapeCast S1x4096x16x128 (r21 V) shapeCasts_S1x4096x2048_S1x4096x16x128 :=
  eq_reshape (at_part0 V 29 rfl)

def r26 : FVec Ideal S128 .f32 := fin V (at_ main_v26)
theorem e26 : r26 V = shapeCast S128 (a3 V) shapeCasts_S1x128_S128 :=
  eq_reshape (at_part0 V 30 rfl)

def r27 : FVec Ideal S1x4096x16x128 .f32 := fin V (at_ main_v27)
theorem e27 : r27 V = mulf (r25 V) (r25 V) :=
  eq_binary (at_part0 V 31 rfl)

def r_cst_3 : FVec Ideal S_ .f32 := fin V (at_ main_cst_3)
theorem e_cst_3 : r_cst_3 V = constant S_ .f32 0x00000000#32 :=
  eq_nullary (at_part0 V 32 rfl)

def r28 : FVec Ideal S1x4096x16 .f32 := fin V (at_ main_v28)
theorem e28 : r28 V = Host.reduceAdd (r27 V) (r_cst_3 V) reducesTo_S1x4096x16x128_S1x4096x16_d3 h_S_ :=
  eq_binary (at_part0 V 33 rfl)

def r29 : FVec Ideal S1x4096x16x1 .f32 := fin V (at_ main_v29)
theorem e29 : r29 V = broadcastInDim S1x4096x16x1 ![0, 1, 2] bcast_S1x4096x16_S1x4096x16x1_0_1_2 (r28 V) :=
  eq_unary (at_part0 V 34 rfl)

def r_cst_4 : FVec Ideal S_ .f32 := fin V (at_ main_cst_4)
theorem e_cst_4 : r_cst_4 V = constant S_ .f32 0x43000000#32 :=
  eq_nullary (at_part0 V 35 rfl)

def r30 : FVec Ideal S1x4096x16x1 .f32 := fin V (at_ main_v30)
theorem e30 : r30 V = broadcastInDim S1x4096x16x1 ![] bcast_S_S1x4096x16x1 (r_cst_4 V) :=
  eq_unary (at_part0 V 36 rfl)

def r31 : FVec Ideal S1x4096x16x1 .f32 := fin V (at_ main_v31)
theorem e31 : r31 V = Host.divf (r29 V) (r30 V) :=
  eq_binary (at_part0 V 37 rfl)

def r_cst_5 : FVec Ideal S_ .f32 := fin V (at_ main_cst_5)
theorem e_cst_5 : r_cst_5 V = constant S_ .f32 0x358637BD#32 :=
  eq_nullary (at_part0 V 38 rfl)

def r32 : FVec Ideal S1x4096x16x1 .f32 := fin V (at_ main_v32)
theorem e32 : r32 V = broadcastInDim S1x4096x16x1 ![] bcast_S_S1x4096x16x1 (r_cst_5 V) :=
  eq_unary (at_part0 V 39 rfl)

def r33 : FVec Ideal S1x4096x16x1 .f32 := fin V (at_ main_v33)
theorem e33 : r33 V = addf (r31 V) (r32 V) :=
  eq_binary (at_part0 V 40 rfl)

def r34 : FVec Ideal S1x4096x16x1 .f32 := fin V (at_ main_v34)
theorem e34 : r34 V = Host.rsqrt (r33 V) :=
  eq_unary (at_part0 V 41 rfl)

def r35 : FVec Ideal S1x4096x16x1 .f32 := fin V (at_ main_v35)
theorem e35 : r35 V = Host.divf (r34 V) (r33 V) :=
  eq_binary (at_part0 V 42 rfl)

def r_cst_6 : FVec Ideal S_ .f32 := fin V (at_ main_cst_6)
theorem e_cst_6 : r_cst_6 V = constant S_ .f32 0xBF000000#32 :=
  eq_nullary (at_part0 V 43 rfl)

def r36 : FVec Ideal S1x4096x16x1 .f32 := fin V (at_ main_v36)
theorem e36 : r36 V = broadcastInDim S1x4096x16x1 ![] bcast_S_S1x4096x16x1 (r_cst_6 V) :=
  eq_unary (at_part0 V 44 rfl)

def r37 : FVec Ideal S1x4096x16x1 .f32 := fin V (at_ main_v37)
theorem e37 : r37 V = mulf (r36 V) (r35 V) :=
  eq_binary (at_part0 V 45 rfl)

def r38 : FVec Ideal S1x4096x16x128 .f32 := fin V (at_ main_v38)
theorem e38 : r38 V = broadcastInDim S1x4096x16x128 ![0, 1, 2, 3] bcast_S1x4096x16x1_S1x4096x16x128_0_1_2_3 (r34 V) :=
  eq_unary (at_part0 V 46 rfl)

def r39 : FVec Ideal S1x4096x16x128 .f32 := fin V (at_ main_v39)
theorem e39 : r39 V = mulf (r25 V) (r38 V) :=
  eq_binary (at_part0 V 47 rfl)

def r40 : FVec Ideal S1x1x1x128 .f32 := fin V (at_ main_v40)
theorem e40 : r40 V = broadcastInDim S1x1x1x128 ![3] bcast_S128_S1x1x1x128_3 (r26 V) :=
  eq_unary (at_part0 V 48 rfl)

def r41 : FVec Ideal S1x4096x16x128 .f32 := fin V (at_ main_v41)
theorem e41 : r41 V = broadcastInDim S1x4096x16x128 ![0, 1, 2, 3] bcast_S1x1x1x128_S1x4096x16x128_0_1_2_3 (r40 V) :=
  eq_unary (at_part0 V 49 rfl)

def r42 : FVec Ideal S1x4096x16x128 .f32 := fin V (at_ main_v42)
theorem e42 : r42 V = mulf (r39 V) (r41 V) :=
  eq_binary (at_part0 V 50 rfl)

def r43 : FVec Ideal S1x4096x4x128 .f32 := fin V (at_ main_v43)
theorem e43 : r43 V = shapeCast S1x4096x4x128 (r22 V) shapeCasts_S1x4096x512_S1x4096x4x128 :=
  eq_reshape (at_part0 V 51 rfl)

def r44 : FVec Ideal S128 .f32 := fin V (at_ main_v44)
theorem e44 : r44 V = shapeCast S128 (a4 V) shapeCasts_S1x128_S128 :=
  eq_reshape (at_part0 V 52 rfl)

def r45 : FVec Ideal S1x4096x4x128 .f32 := fin V (at_ main_v45)
theorem e45 : r45 V = mulf (r43 V) (r43 V) :=
  eq_binary (at_part0 V 53 rfl)

def r_cst_7 : FVec Ideal S_ .f32 := fin V (at_ main_cst_7)
theorem e_cst_7 : r_cst_7 V = constant S_ .f32 0x00000000#32 :=
  eq_nullary (at_part0 V 54 rfl)

def r46 : FVec Ideal S1x4096x4 .f32 := fin V (at_ main_v46)
theorem e46 : r46 V = Host.reduceAdd (r45 V) (r_cst_7 V) reducesTo_S1x4096x4x128_S1x4096x4_d3 h_S_ :=
  eq_binary (at_part0 V 55 rfl)

def r47 : FVec Ideal S1x4096x4x1 .f32 := fin V (at_ main_v47)
theorem e47 : r47 V = broadcastInDim S1x4096x4x1 ![0, 1, 2] bcast_S1x4096x4_S1x4096x4x1_0_1_2 (r46 V) :=
  eq_unary (at_part0 V 56 rfl)

def r_cst_8 : FVec Ideal S_ .f32 := fin V (at_ main_cst_8)
theorem e_cst_8 : r_cst_8 V = constant S_ .f32 0x43000000#32 :=
  eq_nullary (at_part0 V 57 rfl)

def r48 : FVec Ideal S1x4096x4x1 .f32 := fin V (at_ main_v48)
theorem e48 : r48 V = broadcastInDim S1x4096x4x1 ![] bcast_S_S1x4096x4x1 (r_cst_8 V) :=
  eq_unary (at_part0 V 58 rfl)

def r49 : FVec Ideal S1x4096x4x1 .f32 := fin V (at_ main_v49)
theorem e49 : r49 V = Host.divf (r47 V) (r48 V) :=
  eq_binary (at_part0 V 59 rfl)

def r_cst_9 : FVec Ideal S_ .f32 := fin V (at_ main_cst_9)
theorem e_cst_9 : r_cst_9 V = constant S_ .f32 0x358637BD#32 :=
  eq_nullary (at_part1 V 0 rfl)

def r50 : FVec Ideal S1x4096x4x1 .f32 := fin V (at_ main_v50)
theorem e50 : r50 V = broadcastInDim S1x4096x4x1 ![] bcast_S_S1x4096x4x1 (r_cst_9 V) :=
  eq_unary (at_part1 V 1 rfl)

def r51 : FVec Ideal S1x4096x4x1 .f32 := fin V (at_ main_v51)
theorem e51 : r51 V = addf (r49 V) (r50 V) :=
  eq_binary (at_part1 V 2 rfl)

def r52 : FVec Ideal S1x4096x4x1 .f32 := fin V (at_ main_v52)
theorem e52 : r52 V = Host.rsqrt (r51 V) :=
  eq_unary (at_part1 V 3 rfl)

def r53 : FVec Ideal S1x4096x4x1 .f32 := fin V (at_ main_v53)
theorem e53 : r53 V = Host.divf (r52 V) (r51 V) :=
  eq_binary (at_part1 V 4 rfl)

def r_cst_10 : FVec Ideal S_ .f32 := fin V (at_ main_cst_10)
theorem e_cst_10 : r_cst_10 V = constant S_ .f32 0xBF000000#32 :=
  eq_nullary (at_part1 V 5 rfl)

def r54 : FVec Ideal S1x4096x4x1 .f32 := fin V (at_ main_v54)
theorem e54 : r54 V = broadcastInDim S1x4096x4x1 ![] bcast_S_S1x4096x4x1 (r_cst_10 V) :=
  eq_unary (at_part1 V 6 rfl)

def r55 : FVec Ideal S1x4096x4x1 .f32 := fin V (at_ main_v55)
theorem e55 : r55 V = mulf (r54 V) (r53 V) :=
  eq_binary (at_part1 V 7 rfl)

def r56 : FVec Ideal S1x4096x4x128 .f32 := fin V (at_ main_v56)
theorem e56 : r56 V = broadcastInDim S1x4096x4x128 ![0, 1, 2, 3] bcast_S1x4096x4x1_S1x4096x4x128_0_1_2_3 (r52 V) :=
  eq_unary (at_part1 V 8 rfl)

def r57 : FVec Ideal S1x4096x4x128 .f32 := fin V (at_ main_v57)
theorem e57 : r57 V = mulf (r43 V) (r56 V) :=
  eq_binary (at_part1 V 9 rfl)

def r58 : FVec Ideal S1x1x1x128 .f32 := fin V (at_ main_v58)
theorem e58 : r58 V = broadcastInDim S1x1x1x128 ![3] bcast_S128_S1x1x1x128_3 (r44 V) :=
  eq_unary (at_part1 V 10 rfl)

def r59 : FVec Ideal S1x4096x4x128 .f32 := fin V (at_ main_v59)
theorem e59 : r59 V = broadcastInDim S1x4096x4x128 ![0, 1, 2, 3] bcast_S1x1x1x128_S1x4096x4x128_0_1_2_3 (r58 V) :=
  eq_unary (at_part1 V 11 rfl)

def r60 : FVec Ideal S1x4096x4x128 .f32 := fin V (at_ main_v60)
theorem e60 : r60 V = mulf (r57 V) (r59 V) :=
  eq_binary (at_part1 V 12 rfl)

def r61 : FVec Ideal S1x4096x16x16 .f32 := fin V (at_ main_v61)
theorem e61 : r61 V = extractStridedSlice S1x4096x16x16 ![0, 0, 0, 0] (r42 V) slices_S1x4096x16x128_S1x4096x16x16_0_0_0_0 :=
  eq_unary (at_part1 V 13 rfl)

def r62 : FVec Ideal S1x4096x16x16 .f32 := fin V (at_ main_v62)
theorem e62 : r62 V = extractStridedSlice S1x4096x16x16 ![0, 0, 0, 16] (r42 V) slices_S1x4096x16x128_S1x4096x16x16_0_0_0_16 :=
  eq_unary (at_part1 V 14 rfl)

def r63 : FVec Ideal S1x4096x16x96 .f32 := fin V (at_ main_v63)
theorem e63 : r63 V = extractStridedSlice S1x4096x16x96 ![0, 0, 0, 32] (r42 V) slices_S1x4096x16x128_S1x4096x16x96_0_0_0_32 :=
  eq_unary (at_part1 V 15 rfl)

def r64 : FVec Ideal S1x4096x16x16 .f32 := fin V (at_ main_v64)
theorem e64 : r64 V = broadcastInDim S1x4096x16x16 ![0, 1, 2, 3] bcast_S1x4096x1x16_S1x4096x16x16_0_1_2_3 (r17 V) :=
  eq_unary (at_part1 V 16 rfl)

def r65 : FVec Ideal S1x4096x16x16 .f32 := fin V (at_ main_v65)
theorem e65 : r65 V = mulf (r61 V) (r64 V) :=
  eq_binary (at_part1 V 17 rfl)

def r66 : FVec Ideal S1x4096x16x16 .f32 := fin V (at_ main_v66)
theorem e66 : r66 V = broadcastInDim S1x4096x16x16 ![0, 1, 2, 3] bcast_S1x4096x1x16_S1x4096x16x16_0_1_2_3 (r19 V) :=
  eq_unary (at_part1 V 18 rfl)

def r67 : FVec Ideal S1x4096x16x16 .f32 := fin V (at_ main_v67)
theorem e67 : r67 V = mulf (r62 V) (r66 V) :=
  eq_binary (at_part1 V 19 rfl)

def r68 : FVec Ideal S1x4096x16x16 .f32 := fin V (at_ main_v68)
theorem e68 : r68 V = subf (r65 V) (r67 V) :=
  eq_binary (at_part1 V 20 rfl)

def r69 : FVec Ideal S1x4096x16x16 .f32 := fin V (at_ main_v69)
theorem e69 : r69 V = broadcastInDim S1x4096x16x16 ![0, 1, 2, 3] bcast_S1x4096x1x16_S1x4096x16x16_0_1_2_3 (r17 V) :=
  eq_unary (at_part1 V 21 rfl)

def r70 : FVec Ideal S1x4096x16x16 .f32 := fin V (at_ main_v70)
theorem e70 : r70 V = mulf (r62 V) (r69 V) :=
  eq_binary (at_part1 V 22 rfl)

def r71 : FVec Ideal S1x4096x16x16 .f32 := fin V (at_ main_v71)
theorem e71 : r71 V = broadcastInDim S1x4096x16x16 ![0, 1, 2, 3] bcast_S1x4096x1x16_S1x4096x16x16_0_1_2_3 (r19 V) :=
  eq_unary (at_part1 V 23 rfl)

def r72 : FVec Ideal S1x4096x16x16 .f32 := fin V (at_ main_v72)
theorem e72 : r72 V = mulf (r61 V) (r71 V) :=
  eq_binary (at_part1 V 24 rfl)

def r73 : FVec Ideal S1x4096x16x16 .f32 := fin V (at_ main_v73)
theorem e73 : r73 V = addf (r70 V) (r72 V) :=
  eq_binary (at_part1 V 25 rfl)

def r74 : FVec Ideal S1x4096x16x128 .f32 := fin V (at_ main_v74)
theorem e74 : r74 V = fn_main_v74 (F := Ideal) (r68 V) (r73 V) (r63 V) :=
  eq_nary (at_part1 V 26 rfl)

def r75 : FVec Ideal S1x4096x4x16 .f32 := fin V (at_ main_v75)
theorem e75 : r75 V = extractStridedSlice S1x4096x4x16 ![0, 0, 0, 0] (r60 V) slices_S1x4096x4x128_S1x4096x4x16_0_0_0_0 :=
  eq_unary (at_part1 V 27 rfl)

def r76 : FVec Ideal S1x4096x4x16 .f32 := fin V (at_ main_v76)
theorem e76 : r76 V = extractStridedSlice S1x4096x4x16 ![0, 0, 0, 16] (r60 V) slices_S1x4096x4x128_S1x4096x4x16_0_0_0_16 :=
  eq_unary (at_part1 V 28 rfl)

def r77 : FVec Ideal S1x4096x4x96 .f32 := fin V (at_ main_v77)
theorem e77 : r77 V = extractStridedSlice S1x4096x4x96 ![0, 0, 0, 32] (r60 V) slices_S1x4096x4x128_S1x4096x4x96_0_0_0_32 :=
  eq_unary (at_part1 V 29 rfl)

def r78 : FVec Ideal S1x4096x4x16 .f32 := fin V (at_ main_v78)
theorem e78 : r78 V = broadcastInDim S1x4096x4x16 ![0, 1, 2, 3] bcast_S1x4096x1x16_S1x4096x4x16_0_1_2_3 (r17 V) :=
  eq_unary (at_part1 V 30 rfl)

def r79 : FVec Ideal S1x4096x4x16 .f32 := fin V (at_ main_v79)
theorem e79 : r79 V = mulf (r75 V) (r78 V) :=
  eq_binary (at_part1 V 31 rfl)

def r80 : FVec Ideal S1x4096x4x16 .f32 := fin V (at_ main_v80)
theorem e80 : r80 V = broadcastInDim S1x4096x4x16 ![0, 1, 2, 3] bcast_S1x4096x1x16_S1x4096x4x16_0_1_2_3 (r19 V) :=
  eq_unary (at_part1 V 32 rfl)

def r81 : FVec Ideal S1x4096x4x16 .f32 := fin V (at_ main_v81)
theorem e81 : r81 V = mulf (r76 V) (r80 V) :=
  eq_binary (at_part1 V 33 rfl)

def r82 : FVec Ideal S1x4096x4x16 .f32 := fin V (at_ main_v82)
theorem e82 : r82 V = subf (r79 V) (r81 V) :=
  eq_binary (at_part1 V 34 rfl)

def r83 : FVec Ideal S1x4096x4x16 .f32 := fin V (at_ main_v83)
theorem e83 : r83 V = broadcastInDim S1x4096x4x16 ![0, 1, 2, 3] bcast_S1x4096x1x16_S1x4096x4x16_0_1_2_3 (r17 V) :=
  eq_unary (at_part1 V 35 rfl)

def r84 : FVec Ideal S1x4096x4x16 .f32 := fin V (at_ main_v84)
theorem e84 : r84 V = mulf (r76 V) (r83 V) :=
  eq_binary (at_part1 V 36 rfl)

def r85 : FVec Ideal S1x4096x4x16 .f32 := fin V (at_ main_v85)
theorem e85 : r85 V = broadcastInDim S1x4096x4x16 ![0, 1, 2, 3] bcast_S1x4096x1x16_S1x4096x4x16_0_1_2_3 (r19 V) :=
  eq_unary (at_part1 V 37 rfl)

def r86 : FVec Ideal S1x4096x4x16 .f32 := fin V (at_ main_v86)
theorem e86 : r86 V = mulf (r75 V) (r85 V) :=
  eq_binary (at_part1 V 38 rfl)

def r87 : FVec Ideal S1x4096x4x16 .f32 := fin V (at_ main_v87)
theorem e87 : r87 V = addf (r84 V) (r86 V) :=
  eq_binary (at_part1 V 39 rfl)

def r88 : FVec Ideal S1x4096x4x128 .f32 := fin V (at_ main_v88)
theorem e88 : r88 V = fn_main_v88 (F := Ideal) (r82 V) (r87 V) (r77 V) :=
  eq_nary (at_part1 V 40 rfl)

def r89 : FVec Ideal S1x4096x4x128 .f32 := fin V (at_ main_v89)
theorem e89 : r89 V = shapeCast S1x4096x4x128 (r23 V) shapeCasts_S1x4096x512_S1x4096x4x128 :=
  eq_reshape (at_part1 V 41 rfl)

def r90 : FVec Ideal S16 .f32 := fin V (at_ main_v90)
theorem e90 : r90 V = shapeCast S16 (a5 V) shapeCasts_S1x16_S16 :=
  eq_reshape (at_part1 V 42 rfl)

def r91 : FVec Ideal S1x32x128x4x4x128 .f32 := fin V (at_ main_v91)
theorem e91 : r91 V = shapeCast S1x32x128x4x4x128 (r74 V) shapeCasts_S1x4096x16x128_S1x32x128x4x4x128 :=
  eq_reshape (at_part1 V 43 rfl)

def r92 : FVec Ideal S1x32x128x4x128 .f32 := fin V (at_ main_v92)
theorem e92 : r92 V = shapeCast S1x32x128x4x128 (r88 V) shapeCasts_S1x4096x4x128_S1x32x128x4x128 :=
  eq_reshape (at_part1 V 44 rfl)

def r_cst_11 : FVec Ideal S_ .f32 := fin V (at_ main_cst_11)
theorem e_cst_11 : r_cst_11 V = constant S_ .f32 0x00000000#32 :=
  eq_nullary (at_part1 V 46 rfl)

def r94 : FVec Ideal S1x1x128x4x128 .f32 := fin V (at_ main_v94)
theorem e94 : r94 V = broadcastInDim S1x1x128x4x128 ![] bcast_S_S1x1x128x4x128 (r_cst_11 V) :=
  eq_unary (at_part1 V 47 rfl)

def r95 : FVec Ideal S1x31x128x4x128 .f32 := fin V (at_ main_v95)
theorem e95 : r95 V = extractStridedSlice S1x31x128x4x128 ![0, 0, 0, 0, 0] (r92 V) slices_S1x32x128x4x128_S1x31x128x4x128_0_0_0_0_0 :=
  eq_unary (at_part1 V 48 rfl)

def r96 : FVec Ideal S1x32x128x4x128 .f32 := fin V (at_ main_v96)
theorem e96 : r96 V = fn_main_v96 (F := Ideal) (r94 V) (r95 V) :=
  eq_binary (at_part1 V 49 rfl)

def r98 : FVec Ideal S1x32x256x4x128 .f32 := fin V (at_ main_v98)
theorem e98 : r98 V = fn_main_v98 (F := Ideal) (r96 V) (r92 V) :=
  eq_binary (at_part1 V 52 rfl)

def r99 : FVec Ideal S1x32x128x4x128 .f32 := fin V (at_ main_v99)
theorem e99 : r99 V = shapeCast S1x32x128x4x128 (r89 V) shapeCasts_S1x4096x4x128_S1x32x128x4x128 :=
  eq_reshape (at_part1 V 53 rfl)

def r_cst_13 : FVec Ideal S_ .f32 := fin V (at_ main_cst_13)
theorem e_cst_13 : r_cst_13 V = constant S_ .f32 0x00000000#32 :=
  eq_nullary (at_part1 V 55 rfl)

def r101 : FVec Ideal S1x1x128x4x128 .f32 := fin V (at_ main_v101)
theorem e101 : r101 V = broadcastInDim S1x1x128x4x128 ![] bcast_S_S1x1x128x4x128 (r_cst_13 V) :=
  eq_unary (at_part1 V 56 rfl)

def r102 : FVec Ideal S1x31x128x4x128 .f32 := fin V (at_ main_v102)
theorem e102 : r102 V = extractStridedSlice S1x31x128x4x128 ![0, 0, 0, 0, 0] (r99 V) slices_S1x32x128x4x128_S1x31x128x4x128_0_0_0_0_0 :=
  eq_unary (at_part1 V 57 rfl)

def r103 : FVec Ideal S1x32x128x4x128 .f32 := fin V (at_ main_v103)
theorem e103 : r103 V = fn_main_v103 (F := Ideal) (r101 V) (r102 V) :=
  eq_binary (at_part1 V 58 rfl)

def r105 : FVec Ideal S1x32x256x4x128 .f32 := fin V (at_ main_v105)
theorem e105 : r105 V = fn_main_v105 (F := Ideal) (r103 V) (r99 V) :=
  eq_binary (at_part2_0 V 1 rfl)

def r106 : FVec Ideal S1x32x4x256x128x4 .f32 := fin V (at_ main_v106)
theorem e106 : r106 V = (fun l r => Host.dotGeneral dot_S1x32x256x4x128_S1x32x128x4x4x128_S1x32x4x256x128x4_4_5_2_24_013_013 none l r) (r98 V) (r91 V) :=
  eq_binary (at_part2_0 V 2 rfl)

def r107 : FVec Ideal S1x32x4x4x128x256 .f32 := fin V (at_ main_v107)
theorem e107 : r107 V = transpose S1x32x4x4x128x256 [0, 1, 2, 5, 4, 3] (r106 V) transposes_S1x32x4x256x128x4_S1x32x4x4x128x256_0_1_2_5_4_3 :=
  eq_unary (at_part2_0 V 3 rfl)

def r_cst_15 : FVec Ideal S_ .f32 := fin V (at_ main_cst_15)
theorem e_cst_15 : r_cst_15 V = constant S_ .f32 0x3DB504F3#32 :=
  eq_nullary (at_part2_0 V 4 rfl)

def r108 : FVec Ideal S1x32x4x4x128x256 .f32 := fin V (at_ main_v108)
theorem e108 : r108 V = broadcastInDim S1x32x4x4x128x256 ![] bcast_S_S1x32x4x4x128x256 (r_cst_15 V) :=
  eq_unary (at_part2_0 V 5 rfl)

def r109 : FVec Ideal S1x32x4x4x128x256 .f32 := fin V (at_ main_v109)
theorem e109 : r109 V = mulf (r107 V) (r108 V) :=
  eq_binary (at_part2_0 V 6 rfl)

def r110 : IVec S128 32 := fin V (at_ main_v110)
theorem e110 : r110 V = iotaInDim S128 32 0 :=
  eq_nullary (at_part2_0 V 7 rfl)

def r111 : IVec S128x1 32 := fin V (at_ main_v111)
theorem e111 : r111 V = broadcastInDim S128x1 ![0] bcast_S128_S128x1_0 (r110 V) :=
  eq_unary (at_part2_0 V 8 rfl)

def r112 : IVec S256 32 := fin V (at_ main_v112)
theorem e112 : r112 V = iotaInDim S256 32 0 :=
  eq_nullary (at_part2_0 V 9 rfl)

def r113 : IVec S1x256 32 := fin V (at_ main_v113)
theorem e113 : r113 V = broadcastInDim S1x256 ![1] bcast_S256_S1x256_1 (r112 V) :=
  eq_unary (at_part2_0 V 10 rfl)

def r_c : IVec S_ 32 := fin V (at_ main_c)
theorem e_c : r_c V = constantI S_ 32 128#32 :=
  eq_nullary (at_part2_0 V 11 rfl)

def r114 : IVec S128x1 32 := fin V (at_ main_v114)
theorem e114 : r114 V = broadcastInDim S128x1 ![] bcast_S_S128x1 (r_c V) :=
  eq_unary (at_part2_0 V 12 rfl)

def r115 : IVec S128x1 32 := fin V (at_ main_v115)
theorem e115 : r115 V = addi (r111 V) (r114 V) :=
  eq_binary (at_part2_0 V 13 rfl)

def r116 : IVec S128x256 32 := fin V (at_ main_v116)
theorem e116 : r116 V = broadcastInDim S128x256 ![0, 1] bcast_S128x1_S128x256_0_1 (r115 V) :=
  eq_unary (at_part2_0 V 14 rfl)

def r117 : IVec S128x256 32 := fin V (at_ main_v117)
theorem e117 : r117 V = broadcastInDim S128x256 ![0, 1] bcast_S1x256_S128x256_0_1 (r113 V) :=
  eq_unary (at_part2_0 V 15 rfl)

def r118 : IVec S128x256 32 := fin V (at_ main_v118)
theorem e118 : r118 V = subi (r116 V) (r117 V) :=
  eq_binary (at_part2_0 V 16 rfl)

def r_c_16 : IVec S_ 32 := fin V (at_ main_c_16)
theorem e_c_16 : r_c_16 V = constantI S_ 32 0#32 :=
  eq_nullary (at_part2_0 V 17 rfl)

def r119 : IVec S128x256 32 := fin V (at_ main_v119)
theorem e119 : r119 V = broadcastInDim S128x256 ![] bcast_S_S128x256 (r_c_16 V) :=
  eq_unary (at_part2_0 V 18 rfl)

def r120 : IVec S128x256 1 := fin V (at_ main_v120)
theorem e120 : r120 V = cmpi .sge (r118 V) (r119 V) :=
  eq_binary (at_part2_0 V 19 rfl)

def r_c_17 : IVec S_ 32 := fin V (at_ main_c_17)
theorem e_c_17 : r_c_17 V = constantI S_ 32 128#32 :=
  eq_nullary (at_part2_0 V 20 rfl)

def r121 : IVec S128x256 32 := fin V (at_ main_v121)
theorem e121 : r121 V = broadcastInDim S128x256 ![] bcast_S_S128x256 (r_c_17 V) :=
  eq_unary (at_part2_0 V 21 rfl)

def r122 : IVec S128x256 1 := fin V (at_ main_v122)
theorem e122 : r122 V = cmpi .slt (r118 V) (r121 V) :=
  eq_binary (at_part2_0 V 22 rfl)

def r123 : IVec S128x256 1 := fin V (at_ main_v123)
theorem e123 : r123 V = andi (r120 V) (r122 V) :=
  eq_binary (at_part2_0 V 23 rfl)

def r124 : IVec S32 32 := fin V (at_ main_v124)
theorem e124 : r124 V = iotaInDim S32 32 0 :=
  eq_nullary (at_part2_0 V 24 rfl)

def r125 : IVec S32x1x1 32 := fin V (at_ main_v125)
theorem e125 : r125 V = broadcastInDim S32x1x1 ![0] bcast_S32_S32x1x1_0 (r124 V) :=
  eq_unary (at_part2_0 V 25 rfl)

def r_c_18 : IVec S_ 32 := fin V (at_ main_c_18)
theorem e_c_18 : r_c_18 V = constantI S_ 32 0#32 :=
  eq_nullary (at_part2_0 V 26 rfl)

def r126 : IVec S32x1x1 32 := fin V (at_ main_v126)
theorem e126 : r126 V = broadcastInDim S32x1x1 ![] bcast_S_S32x1x1 (r_c_18 V) :=
  eq_unary (at_part2_0 V 27 rfl)

def r127 : IVec S32x1x1 1 := fin V (at_ main_v127)
theorem e127 : r127 V = cmpi .sgt (r125 V) (r126 V) :=
  eq_binary (at_part2_0 V 28 rfl)

def r_c_19 : IVec S_ 32 := fin V (at_ main_c_19)
theorem e_c_19 : r_c_19 V = constantI S_ 32 128#32 :=
  eq_nullary (at_part2_0 V 29 rfl)

def r128 : IVec S1x256 32 := fin V (at_ main_v128)
theorem e128 : r128 V = broadcastInDim S1x256 ![] bcast_S_S1x256 (r_c_19 V) :=
  eq_unary (at_part2_1 V 0 rfl)

def r129 : IVec S1x256 1 := fin V (at_ main_v129)
theorem e129 : r129 V = cmpi .sge (r113 V) (r128 V) :=
  eq_binary (at_part2_1 V 1 rfl)

def r130 : IVec S1x1x256 1 := fin V (at_ main_v130)
theorem e130 : r130 V = broadcastInDim S1x1x256 ![1, 2] bcast_S1x256_S1x1x256_1_2 (r129 V) :=
  eq_unary (at_part2_1 V 2 rfl)

def r131 : IVec S32x1x256 1 := fin V (at_ main_v131)
theorem e131 : r131 V = broadcastInDim S32x1x256 ![0, 1, 2] bcast_S32x1x1_S32x1x256_0_1_2 (r127 V) :=
  eq_unary (at_part2_1 V 3 rfl)

def r132 : IVec S32x1x256 1 := fin V (at_ main_v132)
theorem e132 : r132 V = broadcastInDim S32x1x256 ![0, 1, 2] bcast_S1x1x256_S32x1x256_0_1_2 (r130 V) :=
  eq_unary (at_part2_1 V 4 rfl)

def r133 : IVec S32x1x256 1 := fin V (at_ main_v133)
theorem e133 : r133 V = ori (r131 V) (r132 V) :=
  eq_binary (at_part2_1 V 5 rfl)

def r134 : IVec S1x128x256 1 := fin V (at_ main_v134)
theorem e134 : r134 V = broadcastInDim S1x128x256 ![1, 2] bcast_S128x256_S1x128x256_1_2 (r123 V) :=
  eq_unary (at_part2_1 V 6 rfl)

def r135 : IVec S32x128x256 1 := fin V (at_ main_v135)
theorem e135 : r135 V = broadcastInDim S32x128x256 ![0, 1, 2] bcast_S1x128x256_S32x128x256_0_1_2 (r134 V) :=
  eq_unary (at_part2_1 V 7 rfl)

def r136 : IVec S32x128x256 1 := fin V (at_ main_v136)
theorem e136 : r136 V = broadcastInDim S32x128x256 ![0, 1, 2] bcast_S32x1x256_S32x128x256_0_1_2 (r133 V) :=
  eq_unary (at_part2_1 V 8 rfl)

def r137 : IVec S32x128x256 1 := fin V (at_ main_v137)
theorem e137 : r137 V = andi (r135 V) (r136 V) :=
  eq_binary (at_part2_1 V 9 rfl)

def r138 : IVec S1x32x1x1x128x256 1 := fin V (at_ main_v138)
theorem e138 : r138 V = broadcastInDim S1x32x1x1x128x256 ![1, 4, 5] bcast_S32x128x256_S1x32x1x1x128x256_1_4_5 (r137 V) :=
  eq_unary (at_part2_1 V 10 rfl)

def r_cst_20 : FVec Ideal S_ .f32 := fin V (at_ main_cst_20)
theorem e_cst_20 : r_cst_20 V = constant S_ .f32 0xFF800000#32 :=
  eq_nullary (at_part2_1 V 11 rfl)

def r_call0_v0 : FVec Ideal S_ .f32 := fin V (at_ main_call0_v0)
theorem e_call0_v0 : r_call0_v0 V = id (r_cst_20 V) :=
  eq_unary (at_part2_1 V 12 rfl)

def r139_1 : IVec S1x32x4x4x128x256 1 := fin V (at_ main_v139_1)
theorem e139_1 : r139_1 V = broadcastInDim S1x32x4x4x128x256 ![0, 1, 2, 3, 4, 5] bcast_S1x32x1x1x128x256_S1x32x4x4x128x256_0_1_2_3_4_5 (r138 V) :=
  eq_unary (at_part2_1 V 13 rfl)

def r_call0_v2 : FVec Ideal S1x32x4x4x128x256 .f32 := fin V (at_ main_call0_v2)
theorem e_call0_v2 : r_call0_v2 V = broadcastInDim S1x32x4x4x128x256 ![] bcast_S_S1x32x4x4x128x256 (r_call0_v0 V) :=
  eq_unary (at_part2_1 V 14 rfl)

def r139_0 : FVec Ideal S1x32x4x4x128x256 .f32 := fin V (at_ main_v139_0)
theorem e139_0 : r139_0 V = select (r139_1 V) (r109 V) (r_call0_v2 V) :=
  eq_ternary (at_part2_1 V 15 rfl)

def r140 : FVec Ideal S4x4 .f32 := fin V (at_ main_v140)
theorem e140 : r140 V = shapeCast S4x4 (r90 V) shapeCasts_S16_S4x4 :=
  eq_reshape (at_part2_1 V 18 rfl)

def r141 : FVec Ideal S1x1x4x4x1x1 .f32 := fin V (at_ main_v141)
theorem e141 : r141 V = broadcastInDim S1x1x4x4x1x1 ![2, 3] bcast_S4x4_S1x1x4x4x1x1_2_3 (r140 V) :=
  eq_unary (at_part2_1 V 19 rfl)

def r142 : FVec Ideal S1x32x4x4x128x1 .f32 := fin V (at_ main_v142)
theorem e142 : r142 V = broadcastInDim S1x32x4x4x128x1 ![0, 1, 2, 3, 4, 5] bcast_S1x1x4x4x1x1_S1x32x4x4x128x1_0_1_2_3_4_5 (r141 V) :=
  eq_unary (at_part2_1 V 20 rfl)

def r143 : FVec Ideal S1x32x4x4x128x257 .f32 := fin V (at_ main_v143)
theorem e143 : r143 V = fn_main_v143 (F := Ideal) (r139_0 V) (r142 V) :=
  eq_binary (at_part2_1 V 21 rfl)

def r_cst_21 : FVec Ideal S_ .f32 := fin V (at_ main_cst_21)
theorem e_cst_21 : r_cst_21 V = constant S_ .f32 0xFF800000#32 :=
  eq_nullary (at_part2_1 V 22 rfl)

def r144 : FVec Ideal S1x32x4x4x128 .f32 := fin V (at_ main_v144)
theorem e144 : r144 V = Host.reduce FloatOps.maximumf (r143 V) (r_cst_21 V) reducesTo_S1x32x4x4x128x257_S1x32x4x4x128_d5 h_S_ :=
  eq_binary (at_part2_1 V 23 rfl)

def r_cst_23 : FVec Ideal S_ .f32 := fin V (at_ main_cst_23)
theorem e_cst_23 : r_cst_23 V = constant S_ .f32 0xFF800000#32 :=
  eq_nullary (at_part2_2 V 0 rfl)

def r150 : FVec Ideal S1x32x4x4x128 .f32 := fin V (at_ main_v150)
theorem e150 : r150 V = broadcastInDim S1x32x4x4x128 ![] bcast_S_S1x32x4x4x128 (r_cst_23 V) :=
  eq_unary (at_part2_2 V 1 rfl)

def r151 : FVec Ideal S1x32x4x4x128 .f32 := fin V (at_ main_v151)
theorem e151 : r151 V = maximumf (r150 V) (r144 V) :=
  eq_binary (at_part2_2 V 2 rfl)

def r161 : FVec Ideal S1x32x4x4x128x1 .f32 := fin V (at_ main_v161)
theorem e161 : r161 V = broadcastInDim S1x32x4x4x128x1 ![0, 1, 2, 3, 4] bcast_S1x32x4x4x128_S1x32x4x4x128x1_0_1_2_3_4 (r151 V) :=
  eq_unary (at_part3 V 12 rfl)

def r162 : FVec Ideal S1x32x4x4x128x257 .f32 := fin V (at_ main_v162)
theorem e162 : r162 V = broadcastInDim S1x32x4x4x128x257 ![0, 1, 2, 3, 4, 5] bcast_S1x32x4x4x128x1_S1x32x4x4x128x257_0_1_2_3_4_5 (r161 V) :=
  eq_unary (at_part3 V 13 rfl)

def r163 : FVec Ideal S1x32x4x4x128x257 .f32 := fin V (at_ main_v163)
theorem e163 : r163 V = subf (r143 V) (r162 V) :=
  eq_binary (at_part3 V 14 rfl)

def r164 : FVec Ideal S1x32x4x4x128x257 .f32 := fin V (at_ main_v164)
theorem e164 : r164 V = Host.exp (r163 V) :=
  eq_unary (at_part3 V 15 rfl)

def r_cst_29 : FVec Ideal S_ .f32 := fin V (at_ main_cst_29)
theorem e_cst_29 : r_cst_29 V = constant S_ .f32 0x00000000#32 :=
  eq_nullary (at_part3 V 16 rfl)

def r165 : FVec Ideal S1x32x4x4x128 .f32 := fin V (at_ main_v165)
theorem e165 : r165 V = Host.reduceAdd (r164 V) (r_cst_29 V) reducesTo_S1x32x4x4x128x257_S1x32x4x4x128_d5 h_S_ :=
  eq_binary (at_part3 V 17 rfl)

def r166 : FVec Ideal S1x32x4x4x128x1 .f32 := fin V (at_ main_v166)
theorem e166 : r166 V = broadcastInDim S1x32x4x4x128x1 ![0, 1, 2, 3, 4] bcast_S1x32x4x4x128_S1x32x4x4x128x1_0_1_2_3_4 (r165 V) :=
  eq_unary (at_part3 V 18 rfl)

def r167 : FVec Ideal S1x32x4x4x128x257 .f32 := fin V (at_ main_v167)
theorem e167 : r167 V = broadcastInDim S1x32x4x4x128x257 ![0, 1, 2, 3, 4, 5] bcast_S1x32x4x4x128x1_S1x32x4x4x128x257_0_1_2_3_4_5 (r166 V) :=
  eq_unary (at_part3 V 19 rfl)

def r168 : FVec Ideal S1x32x4x4x128x257 .f32 := fin V (at_ main_v168)
theorem e168 : r168 V = Host.divf (r164 V) (r167 V) :=
  eq_binary (at_part3 V 20 rfl)

def r169 : FVec Ideal S1x32x4x4x128x1 .f32 := fin V (at_ main_v169)
theorem e169 : r169 V = mulf (r166 V) (r166 V) :=
  eq_binary (at_part3 V 21 rfl)

def r_cst_30 : FVec Ideal S_ .f32 := fin V (at_ main_cst_30)
theorem e_cst_30 : r_cst_30 V = constant S_ .f32 0x3F800000#32 :=
  eq_nullary (at_part3 V 22 rfl)

def r170 : FVec Ideal S1x32x4x4x128x1 .f32 := fin V (at_ main_v170)
theorem e170 : r170 V = broadcastInDim S1x32x4x4x128x1 ![] bcast_S_S1x32x4x4x128x1 (r_cst_30 V) :=
  eq_unary (at_part3 V 23 rfl)

def r171 : FVec Ideal S1x32x4x4x128x1 .f32 := fin V (at_ main_v171)
theorem e171 : r171 V = Host.divf (r170 V) (r169 V) :=
  eq_binary (at_part3 V 24 rfl)

def r172 : FVec Ideal S1x32x4x4x128x256 .f32 := fin V (at_ main_v172)
theorem e172 : r172 V = extractStridedSlice S1x32x4x4x128x256 ![0, 0, 0, 0, 0, 0] (r168 V) slices_S1x32x4x4x128x257_S1x32x4x4x128x256_0_0_0_0_0_0 :=
  eq_unary (at_part3 V 25 rfl)

def r176 : FVec Ideal S1x4096x2048 .f32 := fin V (at_ main_v176)
theorem e176 : r176 V = broadcastInDim S1x4096x2048 ![1, 2] bcast_S4096x2048_S1x4096x2048_1_2 (a0 V) :=
  eq_unary (at_part3 V 29 rfl)

def r177 : FVec Ideal S1x32x128x4x4x128 .f32 := fin V (at_ main_v177)
theorem e177 : r177 V = shapeCast S1x32x128x4x4x128 (r176 V) shapeCasts_S1x4096x2048_S1x32x128x4x4x128 :=
  eq_reshape (at_part3 V 30 rfl)

def r178 : FVec Ideal S1x32x4x128x4x128 .f32 := fin V (at_ main_v178)
theorem e178 : r178 V = transpose S1x32x4x128x4x128 [0, 1, 3, 5, 4, 2] (r177 V) transposes_S1x32x128x4x4x128_S1x32x4x128x4x128_0_1_3_5_4_2 :=
  eq_unary (at_part3 V 31 rfl)

end Cert.ReferenceIdeal.Ops
end
-- ==== Proof.Ref.Eqt.lean ====
/-
  The reference's operations as equations of the final contents: the second half.
-/
module

public import proofs.«01_k».proof.Proof.Ref.Eqs
public import Idealize.ShloMosaic.Lib.Pointwise

@[expose] public section

set_option maxRecDepth 16384
set_option Elab.async false

noncomputable section

namespace Cert.ReferenceIdeal.Ops

open Cert.ReferenceIdeal Cert.ReferenceIdeal.Gen Idealize.ShloMosaic Idealize.ShloMosaic.TcCoe Idealize.SL.Sem Idealize.ShloMosaic.StableHlo

variable (V : Valuation τ sig (Elt Ideal))

def r179 : FVec Ideal S1x32x4x4x128x256 .f32 := fin V (at_ main_v179)
theorem e179 : r179 V = (fun l r => Host.dotGeneral dot_S1x32x4x128x4x128_S1x32x256x4x128_S1x32x4x4x128x256_3_4_45_2_012_013 none l r) (r178 V) (r105 V) :=
  eq_binary (at_part3 V 32 rfl)

def r180 : FVec Ideal S1x32x4x128x256 .f32 := fin V (at_ main_v180)
theorem e180 : r180 V = (fun l r => Host.dotGeneral dot_S1x32x4x128x4x128_S1x32x4x4x128x256_S1x32x4x128x256_45_34_3_5_012_012 none l r) (r178 V) (r172 V) :=
  eq_binary (at_part3 V 33 rfl)

def r181 : FVec Ideal S1x32x256x4x128 .f32 := fin V (at_ main_v181)
theorem e181 : r181 V = transpose S1x32x256x4x128 [0, 1, 4, 2, 3] (r180 V) transposes_S1x32x4x128x256_S1x32x256x4x128_0_1_4_2_3 :=
  eq_unary (at_part3 V 34 rfl)

def r_cst_31 : FVec Ideal S_ .f32 := fin V (at_ main_cst_31)
theorem e_cst_31 : r_cst_31 V = constant S_ .f32 0x00000000#32 :=
  eq_nullary (at_part3 V 35 rfl)

def r182 : FVec Ideal S1x32x4x4x128x257 .f32 := fin V (at_ main_v182)
theorem e182 : r182 V = pad S1x32x4x4x128x257 ![0, 0, 0, 0, 0, 0] ![0, 0, 0, 0, 0, 1] ![0, 0, 0, 0, 0, 0] (r179 V) (r_cst_31 V) pads_S1x32x4x4x128x256_S1x32x4x4x128x257_000_000_000_000_000_010 h_S_ :=
  eq_binary (at_part3 V 36 rfl)

def r183 : FVec Ideal S1x32x4x4x128x257 .f32 := fin V (at_ main_v183)
theorem e183 : r183 V = broadcastInDim S1x32x4x4x128x257 ![0, 1, 2, 3, 4, 5] bcast_S1x32x4x4x128x1_S1x32x4x4x128x257_0_1_2_3_4_5 (r171 V) :=
  eq_unary (at_part3 V 37 rfl)

def r184 : FVec Ideal S1x32x4x4x128x257 .f32 := fin V (at_ main_v184)
theorem e184 : r184 V = mulf (r182 V) (r183 V) :=
  eq_binary (at_part3 V 38 rfl)

def r185 : FVec Ideal S1x32x4x4x128x257 .f32 := fin V (at_ main_v185)
theorem e185 : r185 V = mulf (r184 V) (r164 V) :=
  eq_binary (at_part3 V 39 rfl)

def r_cst_32 : FVec Ideal S_ .f32 := fin V (at_ main_cst_32)
theorem e_cst_32 : r_cst_32 V = constant S_ .f32 0x00000000#32 :=
  eq_nullary (at_part3 V 40 rfl)

def r186 : FVec Ideal S1x32x4x4x128 .f32 := fin V (at_ main_v186)
theorem e186 : r186 V = Host.reduceAdd (r185 V) (r_cst_32 V) reducesTo_S1x32x4x4x128x257_S1x32x4x4x128_d5 h_S_ :=
  eq_binary (at_part3 V 41 rfl)

def r187 : FVec Ideal S1x32x4x4x128x1 .f32 := fin V (at_ main_v187)
theorem e187 : r187 V = shapeCast S1x32x4x4x128x1 (r186 V) shapeCasts_S1x32x4x4x128_S1x32x4x4x128x1 :=
  eq_reshape (at_part3 V 42 rfl)

def r188 : FVec Ideal S1x32x4x4x128x1 .f32 := fin V (at_ main_v188)
theorem e188 : r188 V = Host.negf (r187 V) :=
  eq_unary (at_part3 V 43 rfl)

def r189 : FVec Ideal S1x32x4x4x128x257 .f32 := fin V (at_ main_v189)
theorem e189 : r189 V = broadcastInDim S1x32x4x4x128x257 ![0, 1, 2, 3, 4, 5] bcast_S1x32x4x4x128x1_S1x32x4x4x128x257_0_1_2_3_4_5 (r166 V) :=
  eq_unary (at_part3 V 44 rfl)

def r190 : FVec Ideal S1x32x4x4x128x257 .f32 := fin V (at_ main_v190)
theorem e190 : r190 V = Host.divf (r182 V) (r189 V) :=
  eq_binary (at_part3 V 45 rfl)

def r_cst_33 : FVec Ideal S_ .f32 := fin V (at_ main_cst_33)
theorem e_cst_33 : r_cst_33 V = constant S_ .f32 0x00000000#32 :=
  eq_nullary (at_part3 V 46 rfl)

def r191 : FVec Ideal S32x4x4x128 .f32 := fin V (at_ main_v191)
theorem e191 : r191 V = Host.reduceAdd (r188 V) (r_cst_33 V) reducesTo_S1x32x4x4x128x1_S32x4x4x128_d0_5 h_S_ :=
  eq_binary (at_part3 V 47 rfl)

def r192 : FVec Ideal S1x32x4x4x128 .f32 := fin V (at_ main_v192)
theorem e192 : r192 V = broadcastInDim S1x32x4x4x128 ![1, 2, 3, 4] bcast_S32x4x4x128_S1x32x4x4x128_1_2_3_4 (r191 V) :=
  eq_unary (at_part3 V 48 rfl)

def r193 : FVec Ideal S1x32x4x4x128x257 .f32 := fin V (at_ main_v193)
theorem e193 : r193 V = broadcastInDim S1x32x4x4x128x257 ![0, 1, 2, 3, 4] bcast_S1x32x4x4x128_S1x32x4x4x128x257_0_1_2_3_4 (r192 V) :=
  eq_unary (at_part3 V 49 rfl)

def r194 : FVec Ideal S1x32x4x4x128x257 .f32 := fin V (at_ main_v194)
theorem e194 : r194 V = addf (r190 V) (r193 V) :=
  eq_binary (at_part3 V 50 rfl)

def r195 : FVec Ideal S1x32x4x4x128x257 .f32 := fin V (at_ main_v195)
theorem e195 : r195 V = mulf (r194 V) (r164 V) :=
  eq_binary (at_part3 V 51 rfl)

def r196 : FVec Ideal S1x32x4x4x128x256 .f32 := fin V (at_ main_v196)
theorem e196 : r196 V = extractStridedSlice S1x32x4x4x128x256 ![0, 0, 0, 0, 0, 0] (r195 V) slices_S1x32x4x4x128x257_S1x32x4x4x128x256_0_0_0_0_0_0 :=
  eq_unary (at_part3 V 52 rfl)

def r197 : FVec Ideal S1x32x4x4x128x1 .f32 := fin V (at_ main_v197)
theorem e197 : r197 V = extractStridedSlice S1x32x4x4x128x1 ![0, 0, 0, 0, 0, 256] (r195 V) slices_S1x32x4x4x128x257_S1x32x4x4x128x1_0_0_0_0_0_256 :=
  eq_unary (at_part3 V 53 rfl)

def r_cst_34 : FVec Ideal S_ .f32 := fin V (at_ main_cst_34)
theorem e_cst_34 : r_cst_34 V = constant S_ .f32 0x00000000#32 :=
  eq_nullary (at_part3 V 54 rfl)

def r198 : FVec Ideal S4x4 .f32 := fin V (at_ main_v198)
theorem e198 : r198 V = Host.reduceAdd (r197 V) (r_cst_34 V) reducesTo_S1x32x4x4x128x1_S4x4_d0_1_4_5 h_S_ :=
  eq_binary (at_part3 V 55 rfl)

def r199 : FVec Ideal S1x1x4x4x1x1 .f32 := fin V (at_ main_v199)
theorem e199 : r199 V = broadcastInDim S1x1x4x4x1x1 ![2, 3] bcast_S4x4_S1x1x4x4x1x1_2_3 (r198 V) :=
  eq_unary (at_part3 V 56 rfl)

def r_cst_35 : FVec Ideal S_ .f32 := fin V (at_ main_cst_35)
theorem e_cst_35 : r_cst_35 V = constant S_ .f32 0x00000000#32 :=
  eq_nullary (at_part3 V 57 rfl)

def r200 : FVec Ideal S4x4 .f32 := fin V (at_ main_v200)
theorem e200 : r200 V = Host.reduceAdd (r199 V) (r_cst_35 V) reducesTo_S1x1x4x4x1x1_S4x4_d0_1_4_5 h_S_ :=
  eq_binary (at_part3 V 58 rfl)

def r201 : FVec Ideal S16 .f32 := fin V (at_ main_v201)
theorem e201 : r201 V = shapeCast S16 (r200 V) shapeCasts_S4x4_S16 :=
  eq_reshape (at_part3 V 59 rfl)

def r_call1_cst : FVec Ideal S_ .f32 := fin V (at_ main_call1_cst)
theorem e_call1_cst : r_call1_cst V = constant S_ .f32 0x00000000#32 :=
  eq_nullary (at_part4_0 V 0 rfl)

def r_call1_v0 : FVec Ideal S1x32x4x4x128x256 .f32 := fin V (at_ main_call1_v0)
theorem e_call1_v0 : r_call1_v0 V = broadcastInDim S1x32x4x4x128x256 ![] bcast_S_S1x32x4x4x128x256 (r_call1_cst V) :=
  eq_unary (at_part4_0 V 1 rfl)

def r202 : FVec Ideal S1x32x4x4x128x256 .f32 := fin V (at_ main_v202)
theorem e202 : r202 V = select (r139_1 V) (r196 V) (r_call1_v0 V) :=
  eq_ternary (at_part4_0 V 2 rfl)

def r_cst_36 : FVec Ideal S_ .f32 := fin V (at_ main_cst_36)
theorem e_cst_36 : r_cst_36 V = constant S_ .f32 0x3DB504F3#32 :=
  eq_nullary (at_part4_0 V 3 rfl)

def r203 : FVec Ideal S1x32x4x4x128x256 .f32 := fin V (at_ main_v203)
theorem e203 : r203 V = broadcastInDim S1x32x4x4x128x256 ![] bcast_S_S1x32x4x4x128x256 (r_cst_36 V) :=
  eq_unary (at_part4_0 V 4 rfl)

def r204 : FVec Ideal S1x32x4x4x128x256 .f32 := fin V (at_ main_v204)
theorem e204 : r204 V = mulf (r202 V) (r203 V) :=
  eq_binary (at_part4_0 V 5 rfl)

def r205 : FVec Ideal S1x32x4x256x128x4 .f32 := fin V (at_ main_v205)
theorem e205 : r205 V = transpose S1x32x4x256x128x4 [0, 1, 2, 5, 4, 3] (r204 V) transposes_S1x32x4x4x128x256_S1x32x4x256x128x4_0_1_2_5_4_3 :=
  eq_unary (at_part4_0 V 6 rfl)

def r206 : FVec Ideal S1x32x4x128x4x128 .f32 := fin V (at_ main_v206)
theorem e206 : r206 V = (fun l r => Host.dotGeneral dot_S1x32x4x256x128x4_S1x32x256x4x128_S1x32x4x128x4x128_3_2_45_4_012_013 none l r) (r205 V) (r98 V) :=
  eq_binary (at_part4_0 V 7 rfl)

def r207 : FVec Ideal S1x32x128x4x4x128 .f32 := fin V (at_ main_v207)
theorem e207 : r207 V = transpose S1x32x128x4x4x128 [0, 1, 3, 2, 4, 5] (r206 V) transposes_S1x32x4x128x4x128_S1x32x128x4x4x128_0_1_3_2_4_5 :=
  eq_unary (at_part4_0 V 8 rfl)

def r208 : FVec Ideal S1x32x4x256x128 .f32 := fin V (at_ main_v208)
theorem e208 : r208 V = (fun l r => Host.dotGeneral dot_S1x32x4x256x128x4_S1x32x128x4x4x128_S1x32x4x256x128_45_24_3_5_012_013 none l r) (r205 V) (r91 V) :=
  eq_binary (at_part4_0 V 9 rfl)

def r209 : FVec Ideal S1x32x256x4x128 .f32 := fin V (at_ main_v209)
theorem e209 : r209 V = transpose S1x32x256x4x128 [0, 1, 3, 2, 4] (r208 V) transposes_S1x32x4x256x128_S1x32x256x4x128_0_1_3_2_4 :=
  eq_unary (at_part4_0 V 10 rfl)

def r210 : FVec Ideal S1x32x128x4x128 .f32 := fin V (at_ main_v210)
theorem e210 : r210 V = extractStridedSlice S1x32x128x4x128 ![0, 0, 0, 0, 0] (r181 V) slices_S1x32x256x4x128_S1x32x128x4x128_0_0_0_0_0 :=
  eq_unary (at_part4_0 V 11 rfl)

def r211 : FVec Ideal S1x32x128x4x128 .f32 := fin V (at_ main_v211)
theorem e211 : r211 V = extractStridedSlice S1x32x128x4x128 ![0, 0, 128, 0, 0] (r181 V) slices_S1x32x256x4x128_S1x32x128x4x128_0_0_128_0_0 :=
  eq_unary (at_part4_0 V 12 rfl)

def r213 : FVec Ideal S1x31x128x4x128 .f32 := fin V (at_ main_v213)
theorem e213 : r213 V = extractStridedSlice S1x31x128x4x128 ![0, 1, 0, 0, 0] (r210 V) slices_S1x32x128x4x128_S1x31x128x4x128_0_1_0_0_0 :=
  eq_unary (at_part4_0 V 14 rfl)

def r_cst_37 : FVec Ideal S_ .f32 := fin V (at_ main_cst_37)
theorem e_cst_37 : r_cst_37 V = constant S_ .f32 0x00000000#32 :=
  eq_nullary (at_part4_0 V 15 rfl)

def r214 : FVec Ideal S1x32x128x4x128 .f32 := fin V (at_ main_v214)
theorem e214 : r214 V = pad S1x32x128x4x128 ![0, 0, 0, 0, 0] ![0, 1, 0, 0, 0] ![0, 0, 0, 0, 0] (r213 V) (r_cst_37 V) pads_S1x31x128x4x128_S1x32x128x4x128_000_010_000_000_000 h_S_ :=
  eq_binary (at_part4_0 V 16 rfl)

def r215 : FVec Ideal S1x32x128x4x128 .f32 := fin V (at_ main_v215)
theorem e215 : r215 V = addf (r211 V) (r214 V) :=
  eq_binary (at_part4_0 V 17 rfl)

def r216 : FVec Ideal S1x4096x4x128 .f32 := fin V (at_ main_v216)
theorem e216 : r216 V = shapeCast S1x4096x4x128 (r215 V) shapeCasts_S1x32x128x4x128_S1x4096x4x128 :=
  eq_reshape (at_part4_0 V 18 rfl)

def r217 : FVec Ideal S1x32x128x4x128 .f32 := fin V (at_ main_v217)
theorem e217 : r217 V = extractStridedSlice S1x32x128x4x128 ![0, 0, 0, 0, 0] (r209 V) slices_S1x32x256x4x128_S1x32x128x4x128_0_0_0_0_0 :=
  eq_unary (at_part4_0 V 19 rfl)

def r218 : FVec Ideal S1x32x128x4x128 .f32 := fin V (at_ main_v218)
theorem e218 : r218 V = extractStridedSlice S1x32x128x4x128 ![0, 0, 128, 0, 0] (r209 V) slices_S1x32x256x4x128_S1x32x128x4x128_0_0_128_0_0 :=
  eq_unary (at_part4_0 V 20 rfl)

def r220 : FVec Ideal S1x31x128x4x128 .f32 := fin V (at_ main_v220)
theorem e220 : r220 V = extractStridedSlice S1x31x128x4x128 ![0, 1, 0, 0, 0] (r217 V) slices_S1x32x128x4x128_S1x31x128x4x128_0_1_0_0_0 :=
  eq_unary (at_part4_0 V 22 rfl)

def r_cst_38 : FVec Ideal S_ .f32 := fin V (at_ main_cst_38)
theorem e_cst_38 : r_cst_38 V = constant S_ .f32 0x00000000#32 :=
  eq_nullary (at_part4_0 V 23 rfl)

def r221 : FVec Ideal S1x32x128x4x128 .f32 := fin V (at_ main_v221)
theorem e221 : r221 V = pad S1x32x128x4x128 ![0, 0, 0, 0, 0] ![0, 1, 0, 0, 0] ![0, 0, 0, 0, 0] (r220 V) (r_cst_38 V) pads_S1x31x128x4x128_S1x32x128x4x128_000_010_000_000_000 h_S_ :=
  eq_binary (at_part4_0 V 24 rfl)

def r222 : FVec Ideal S1x32x128x4x128 .f32 := fin V (at_ main_v222)
theorem e222 : r222 V = addf (r218 V) (r221 V) :=
  eq_binary (at_part4_0 V 25 rfl)

def r223 : FVec Ideal S1x4096x4x128 .f32 := fin V (at_ main_v223)
theorem e223 : r223 V = shapeCast S1x4096x4x128 (r222 V) shapeCasts_S1x32x128x4x128_S1x4096x4x128 :=
  eq_reshape (at_part4_0 V 26 rfl)

def r224 : FVec Ideal S1x4096x16x128 .f32 := fin V (at_ main_v224)
theorem e224 : r224 V = shapeCast S1x4096x16x128 (r207 V) shapeCasts_S1x32x128x4x4x128_S1x4096x16x128 :=
  eq_reshape (at_part4_0 V 27 rfl)

def r225 : FVec Ideal S1x16 .f32 := fin V (at_ main_v225)
theorem e225 : r225 V = broadcastInDim S1x16 ![1] bcast_S16_S1x16_1 (r201 V) :=
  eq_unary (at_part4_0 V 28 rfl)

def r226 : FVec Ideal S1x4096x512 .f32 := fin V (at_ main_v226)
theorem e226 : r226 V = shapeCast S1x4096x512 (r216 V) shapeCasts_S1x4096x4x128_S1x4096x512 :=
  eq_reshape (at_part4_0 V 29 rfl)

def r227 : FVec Ideal S1x4096x4x16 .f32 := fin V (at_ main_v227)
theorem e227 : r227 V = extractStridedSlice S1x4096x4x16 ![0, 0, 0, 0] (r223 V) slices_S1x4096x4x128_S1x4096x4x16_0_0_0_0 :=
  eq_unary (at_part4_1 V 0 rfl)

def r228 : FVec Ideal S1x4096x4x16 .f32 := fin V (at_ main_v228)
theorem e228 : r228 V = extractStridedSlice S1x4096x4x16 ![0, 0, 0, 16] (r223 V) slices_S1x4096x4x128_S1x4096x4x16_0_0_0_16 :=
  eq_unary (at_part4_1 V 1 rfl)

def r229 : FVec Ideal S1x4096x4x96 .f32 := fin V (at_ main_v229)
theorem e229 : r229 V = extractStridedSlice S1x4096x4x96 ![0, 0, 0, 32] (r223 V) slices_S1x4096x4x128_S1x4096x4x96_0_0_0_32 :=
  eq_unary (at_part4_1 V 2 rfl)

def r230 : FVec Ideal S1x4096x4x16 .f32 := fin V (at_ main_v230)
theorem e230 : r230 V = broadcastInDim S1x4096x4x16 ![0, 1, 2, 3] bcast_S1x4096x1x16_S1x4096x4x16_0_1_2_3 (r19 V) :=
  eq_unary (at_part4_1 V 3 rfl)

def r231 : FVec Ideal S1x4096x4x16 .f32 := fin V (at_ main_v231)
theorem e231 : r231 V = mulf (r228 V) (r230 V) :=
  eq_binary (at_part4_1 V 4 rfl)

def r232 : FVec Ideal S1x4096x4x16 .f32 := fin V (at_ main_v232)
theorem e232 : r232 V = broadcastInDim S1x4096x4x16 ![0, 1, 2, 3] bcast_S1x4096x1x16_S1x4096x4x16_0_1_2_3 (r17 V) :=
  eq_unary (at_part4_1 V 5 rfl)

def r233 : FVec Ideal S1x4096x4x16 .f32 := fin V (at_ main_v233)
theorem e233 : r233 V = mulf (r228 V) (r232 V) :=
  eq_binary (at_part4_1 V 6 rfl)

def r234 : FVec Ideal S1x4096x4x16 .f32 := fin V (at_ main_v234)
theorem e234 : r234 V = Host.negf (r227 V) :=
  eq_unary (at_part4_1 V 7 rfl)

def r235 : FVec Ideal S1x4096x4x16 .f32 := fin V (at_ main_v235)
theorem e235 : r235 V = broadcastInDim S1x4096x4x16 ![0, 1, 2, 3] bcast_S1x4096x1x16_S1x4096x4x16_0_1_2_3 (r19 V) :=
  eq_unary (at_part4_1 V 8 rfl)

def r236 : FVec Ideal S1x4096x4x16 .f32 := fin V (at_ main_v236)
theorem e236 : r236 V = mulf (r234 V) (r235 V) :=
  eq_binary (at_part4_1 V 9 rfl)

def r237 : FVec Ideal S1x4096x4x16 .f32 := fin V (at_ main_v237)
theorem e237 : r237 V = addf (r233 V) (r236 V) :=
  eq_binary (at_part4_1 V 10 rfl)

def r238 : FVec Ideal S1x4096x4x16 .f32 := fin V (at_ main_v238)
theorem e238 : r238 V = broadcastInDim S1x4096x4x16 ![0, 1, 2, 3] bcast_S1x4096x1x16_S1x4096x4x16_0_1_2_3 (r17 V) :=
  eq_unary (at_part4_1 V 11 rfl)

def r239 : FVec Ideal S1x4096x4x16 .f32 := fin V (at_ main_v239)
theorem e239 : r239 V = mulf (r227 V) (r238 V) :=
  eq_binary (at_part4_1 V 12 rfl)

def r240 : FVec Ideal S1x4096x4x16 .f32 := fin V (at_ main_v240)
theorem e240 : r240 V = addf (r231 V) (r239 V) :=
  eq_binary (at_part4_1 V 13 rfl)

def r_cst_39 : FVec Ideal S_ .f32 := fin V (at_ main_cst_39)
theorem e_cst_39 : r_cst_39 V = constant S_ .f32 0x00000000#32 :=
  eq_nullary (at_part4_1 V 14 rfl)

def r241 : FVec Ideal S1x4096x4x128 .f32 := fin V (at_ main_v241)
theorem e241 : r241 V = pad S1x4096x4x128 ![0, 0, 0, 32] ![0, 0, 0, 0] ![0, 0, 0, 0] (r229 V) (r_cst_39 V) pads_S1x4096x4x96_S1x4096x4x128_000_000_000_3200 h_S_ :=
  eq_binary (at_part4_1 V 15 rfl)

def r_cst_40 : FVec Ideal S_ .f32 := fin V (at_ main_cst_40)
theorem e_cst_40 : r_cst_40 V = constant S_ .f32 0x00000000#32 :=
  eq_nullary (at_part4_1 V 16 rfl)

def r242 : FVec Ideal S1x4096x4x128 .f32 := fin V (at_ main_v242)
theorem e242 : r242 V = pad S1x4096x4x128 ![0, 0, 0, 16] ![0, 0, 0, 96] ![0, 0, 0, 0] (r237 V) (r_cst_40 V) pads_S1x4096x4x16_S1x4096x4x128_000_000_000_16960 h_S_ :=
  eq_binary (at_part4_1 V 17 rfl)

def r243 : FVec Ideal S1x4096x4x128 .f32 := fin V (at_ main_v243)
theorem e243 : r243 V = addf (r241 V) (r242 V) :=
  eq_binary (at_part4_1 V 18 rfl)

def r_cst_41 : FVec Ideal S_ .f32 := fin V (at_ main_cst_41)
theorem e_cst_41 : r_cst_41 V = constant S_ .f32 0x00000000#32 :=
  eq_nullary (at_part4_1 V 19 rfl)

def r244 : FVec Ideal S1x4096x4x128 .f32 := fin V (at_ main_v244)
theorem e244 : r244 V = pad S1x4096x4x128 ![0, 0, 0, 0] ![0, 0, 0, 112] ![0, 0, 0, 0] (r240 V) (r_cst_41 V) pads_S1x4096x4x16_S1x4096x4x128_000_000_000_01120 h_S_ :=
  eq_binary (at_part4_1 V 20 rfl)

def r245 : FVec Ideal S1x4096x4x128 .f32 := fin V (at_ main_v245)
theorem e245 : r245 V = addf (r243 V) (r244 V) :=
  eq_binary (at_part4_1 V 21 rfl)

def r246 : FVec Ideal S1x4096x16x16 .f32 := fin V (at_ main_v246)
theorem e246 : r246 V = extractStridedSlice S1x4096x16x16 ![0, 0, 0, 0] (r224 V) slices_S1x4096x16x128_S1x4096x16x16_0_0_0_0 :=
  eq_unary (at_part4_1 V 22 rfl)

def r247 : FVec Ideal S1x4096x16x16 .f32 := fin V (at_ main_v247)
theorem e247 : r247 V = extractStridedSlice S1x4096x16x16 ![0, 0, 0, 16] (r224 V) slices_S1x4096x16x128_S1x4096x16x16_0_0_0_16 :=
  eq_unary (at_part4_1 V 23 rfl)

def r248 : FVec Ideal S1x4096x16x96 .f32 := fin V (at_ main_v248)
theorem e248 : r248 V = extractStridedSlice S1x4096x16x96 ![0, 0, 0, 32] (r224 V) slices_S1x4096x16x128_S1x4096x16x96_0_0_0_32 :=
  eq_unary (at_part4_1 V 24 rfl)

def r249 : FVec Ideal S1x4096x16x16 .f32 := fin V (at_ main_v249)
theorem e249 : r249 V = broadcastInDim S1x4096x16x16 ![0, 1, 2, 3] bcast_S1x4096x1x16_S1x4096x16x16_0_1_2_3 (r19 V) :=
  eq_unary (at_part4_1 V 25 rfl)

def r250 : FVec Ideal S1x4096x16x16 .f32 := fin V (at_ main_v250)
theorem e250 : r250 V = mulf (r247 V) (r249 V) :=
  eq_binary (at_part4_1 V 26 rfl)

def r251 : FVec Ideal S1x4096x16x16 .f32 := fin V (at_ main_v251)
theorem e251 : r251 V = broadcastInDim S1x4096x16x16 ![0, 1, 2, 3] bcast_S1x4096x1x16_S1x4096x16x16_0_1_2_3 (r17 V) :=
  eq_unary (at_part4_1 V 27 rfl)

def r252 : FVec Ideal S1x4096x16x16 .f32 := fin V (at_ main_v252)
theorem e252 : r252 V = mulf (r247 V) (r251 V) :=
  eq_binary (at_part4_1 V 28 rfl)

def r253 : FVec Ideal S1x4096x16x16 .f32 := fin V (at_ main_v253)
theorem e253 : r253 V = Host.negf (r246 V) :=
  eq_unary (at_part4_1 V 29 rfl)

def r254 : FVec Ideal S1x4096x16x16 .f32 := fin V (at_ main_v254)
theorem e254 : r254 V = broadcastInDim S1x4096x16x16 ![0, 1, 2, 3] bcast_S1x4096x1x16_S1x4096x16x16_0_1_2_3 (r19 V) :=
  eq_unary (at_part4_2 V 0 rfl)

def r255 : FVec Ideal S1x4096x16x16 .f32 := fin V (at_ main_v255)
theorem e255 : r255 V = mulf (r253 V) (r254 V) :=
  eq_binary (at_part4_2 V 1 rfl)

def r256 : FVec Ideal S1x4096x16x16 .f32 := fin V (at_ main_v256)
theorem e256 : r256 V = addf (r252 V) (r255 V) :=
  eq_binary (at_part5 V 0 rfl)

def r257 : FVec Ideal S1x4096x16x16 .f32 := fin V (at_ main_v257)
theorem e257 : r257 V = broadcastInDim S1x4096x16x16 ![0, 1, 2, 3] bcast_S1x4096x1x16_S1x4096x16x16_0_1_2_3 (r17 V) :=
  eq_unary (at_part5 V 1 rfl)

def r258 : FVec Ideal S1x4096x16x16 .f32 := fin V (at_ main_v258)
theorem e258 : r258 V = mulf (r246 V) (r257 V) :=
  eq_binary (at_part5 V 2 rfl)

def r259 : FVec Ideal S1x4096x16x16 .f32 := fin V (at_ main_v259)
theorem e259 : r259 V = addf (r250 V) (r258 V) :=
  eq_binary (at_part5 V 3 rfl)

def r_cst_42 : FVec Ideal S_ .f32 := fin V (at_ main_cst_42)
theorem e_cst_42 : r_cst_42 V = constant S_ .f32 0x00000000#32 :=
  eq_nullary (at_part5 V 4 rfl)

def r260 : FVec Ideal S1x4096x16x128 .f32 := fin V (at_ main_v260)
theorem e260 : r260 V = pad S1x4096x16x128 ![0, 0, 0, 32] ![0, 0, 0, 0] ![0, 0, 0, 0] (r248 V) (r_cst_42 V) pads_S1x4096x16x96_S1x4096x16x128_000_000_000_3200 h_S_ :=
  eq_binary (at_part5 V 5 rfl)

def r_cst_43 : FVec Ideal S_ .f32 := fin V (at_ main_cst_43)
theorem e_cst_43 : r_cst_43 V = constant S_ .f32 0x00000000#32 :=
  eq_nullary (at_part5 V 6 rfl)

def r261 : FVec Ideal S1x4096x16x128 .f32 := fin V (at_ main_v261)
theorem e261 : r261 V = pad S1x4096x16x128 ![0, 0, 0, 16] ![0, 0, 0, 96] ![0, 0, 0, 0] (r256 V) (r_cst_43 V) pads_S1x4096x16x16_S1x4096x16x128_000_000_000_16960 h_S_ :=
  eq_binary (at_part5 V 7 rfl)

def r262 : FVec Ideal S1x4096x16x128 .f32 := fin V (at_ main_v262)
theorem e262 : r262 V = addf (r260 V) (r261 V) :=
  eq_binary (at_part5 V 8 rfl)

def r_cst_44 : FVec Ideal S_ .f32 := fin V (at_ main_cst_44)
theorem e_cst_44 : r_cst_44 V = constant S_ .f32 0x00000000#32 :=
  eq_nullary (at_part5 V 9 rfl)

def r263 : FVec Ideal S1x4096x16x128 .f32 := fin V (at_ main_v263)
theorem e263 : r263 V = pad S1x4096x16x128 ![0, 0, 0, 0] ![0, 0, 0, 112] ![0, 0, 0, 0] (r259 V) (r_cst_44 V) pads_S1x4096x16x16_S1x4096x16x128_000_000_000_01120 h_S_ :=
  eq_binary (at_part5 V 10 rfl)

def r264 : FVec Ideal S1x4096x16x128 .f32 := fin V (at_ main_v264)
theorem e264 : r264 V = addf (r262 V) (r263 V) :=
  eq_binary (at_part5 V 11 rfl)

def r265 : FVec Ideal S1x4096x4x128 .f32 := fin V (at_ main_v265)
theorem e265 : r265 V = mulf (r57 V) (r245 V) :=
  eq_binary (at_part5 V 12 rfl)

def r_cst_45 : FVec Ideal S_ .f32 := fin V (at_ main_cst_45)
theorem e_cst_45 : r_cst_45 V = constant S_ .f32 0x00000000#32 :=
  eq_nullary (at_part5 V 13 rfl)

def r266 : FVec Ideal S1x128 .f32 := fin V (at_ main_v266)
theorem e266 : r266 V = Host.reduceAdd (r265 V) (r_cst_45 V) reducesTo_S1x4096x4x128_S1x128_d1_2 h_S_ :=
  eq_binary (at_part5 V 14 rfl)

def r267 : FVec Ideal S1x1x1x128 .f32 := fin V (at_ main_v267)
theorem e267 : r267 V = shapeCast S1x1x1x128 (r266 V) shapeCasts_S1x128_S1x1x1x128 :=
  eq_reshape (at_part5 V 15 rfl)

def r268 : FVec Ideal S1x4096x4x128 .f32 := fin V (at_ main_v268)
theorem e268 : r268 V = broadcastInDim S1x4096x4x128 ![0, 1, 2, 3] bcast_S1x1x1x128_S1x4096x4x128_0_1_2_3 (r58 V) :=
  eq_unary (at_part5 V 16 rfl)

def r269 : FVec Ideal S1x4096x4x128 .f32 := fin V (at_ main_v269)
theorem e269 : r269 V = mulf (r245 V) (r268 V) :=
  eq_binary (at_part5 V 17 rfl)

def r_cst_46 : FVec Ideal S_ .f32 := fin V (at_ main_cst_46)
theorem e_cst_46 : r_cst_46 V = constant S_ .f32 0x00000000#32 :=
  eq_nullary (at_part5 V 18 rfl)

def r270 : FVec Ideal S128 .f32 := fin V (at_ main_v270)
theorem e270 : r270 V = Host.reduceAdd (r267 V) (r_cst_46 V) reducesTo_S1x1x1x128_S128_d0_1_2 h_S_ :=
  eq_binary (at_part5 V 19 rfl)

def r271 : FVec Ideal S1x4096x4x128 .f32 := fin V (at_ main_v271)
theorem e271 : r271 V = mulf (r43 V) (r269 V) :=
  eq_binary (at_part5 V 20 rfl)

def r_cst_47 : FVec Ideal S_ .f32 := fin V (at_ main_cst_47)
theorem e_cst_47 : r_cst_47 V = constant S_ .f32 0x00000000#32 :=
  eq_nullary (at_part5 V 21 rfl)

def r272 : FVec Ideal S1x4096x4 .f32 := fin V (at_ main_v272)
theorem e272 : r272 V = Host.reduceAdd (r271 V) (r_cst_47 V) reducesTo_S1x4096x4x128_S1x4096x4_d3 h_S_ :=
  eq_binary (at_part5 V 22 rfl)

def r273 : FVec Ideal S1x4096x4x1 .f32 := fin V (at_ main_v273)
theorem e273 : r273 V = shapeCast S1x4096x4x1 (r272 V) shapeCasts_S1x4096x4_S1x4096x4x1 :=
  eq_reshape (at_part5 V 23 rfl)

def r274 : FVec Ideal S1x4096x4x128 .f32 := fin V (at_ main_v274)
theorem e274 : r274 V = broadcastInDim S1x4096x4x128 ![0, 1, 2, 3] bcast_S1x4096x4x1_S1x4096x4x128_0_1_2_3 (r52 V) :=
  eq_unary (at_part5 V 24 rfl)

def r275 : FVec Ideal S1x4096x4x128 .f32 := fin V (at_ main_v275)
theorem e275 : r275 V = mulf (r269 V) (r274 V) :=
  eq_binary (at_part5 V 25 rfl)

def r276 : FVec Ideal S1x4096x4x1 .f32 := fin V (at_ main_v276)
theorem e276 : r276 V = mulf (r273 V) (r55 V) :=
  eq_binary (at_part5 V 26 rfl)

def r_cst_48 : FVec Ideal S_ .f32 := fin V (at_ main_cst_48)
theorem e_cst_48 : r_cst_48 V = constant S_ .f32 0x43000000#32 :=
  eq_nullary (at_part5 V 27 rfl)

def r277 : FVec Ideal S1x4096x4x1 .f32 := fin V (at_ main_v277)
theorem e277 : r277 V = broadcastInDim S1x4096x4x1 ![] bcast_S_S1x4096x4x1 (r_cst_48 V) :=
  eq_unary (at_part5 V 28 rfl)

def r278 : FVec Ideal S1x4096x4x1 .f32 := fin V (at_ main_v278)
theorem e278 : r278 V = Host.divf (r276 V) (r277 V) :=
  eq_binary (at_part5 V 29 rfl)

def r_cst_49 : FVec Ideal S_ .f32 := fin V (at_ main_cst_49)
theorem e_cst_49 : r_cst_49 V = constant S_ .f32 0x00000000#32 :=
  eq_nullary (at_part5 V 30 rfl)

def r279 : FVec Ideal S4096x4 .f32 := fin V (at_ main_v279)
theorem e279 : r279 V = Host.reduceAdd (r278 V) (r_cst_49 V) reducesTo_S1x4096x4x1_S4096x4_d0_3 h_S_ :=
  eq_binary (at_part5 V 31 rfl)

def r280 : FVec Ideal S1x4096x4 .f32 := fin V (at_ main_v280)
theorem e280 : r280 V = broadcastInDim S1x4096x4 ![1, 2] bcast_S4096x4_S1x4096x4_1_2 (r279 V) :=
  eq_unary (at_part5 V 32 rfl)

def r281 : FVec Ideal S1x4096x4x128 .f32 := fin V (at_ main_v281)
theorem e281 : r281 V = broadcastInDim S1x4096x4x128 ![0, 1, 2] bcast_S1x4096x4_S1x4096x4x128_0_1_2 (r280 V) :=
  eq_unary (at_part5 V 33 rfl)

def r282 : FVec Ideal S1x4096x4x128 .f32 := fin V (at_ main_v282)
theorem e282 : r282 V = mulf (r43 V) (r281 V) :=
  eq_binary (at_part5 V 34 rfl)

def r283 : FVec Ideal S1x4096x4x128 .f32 := fin V (at_ main_v283)
theorem e283 : r283 V = addf (r275 V) (r282 V) :=
  eq_binary (at_part5 V 35 rfl)

def r284 : FVec Ideal S1x4096x4x128 .f32 := fin V (at_ main_v284)
theorem e284 : r284 V = mulf (r281 V) (r43 V) :=
  eq_binary (at_part5 V 36 rfl)

def r285 : FVec Ideal S1x4096x4x128 .f32 := fin V (at_ main_v285)
theorem e285 : r285 V = addf (r283 V) (r284 V) :=
  eq_binary (at_part5 V 37 rfl)

def r286 : FVec Ideal S1x128 .f32 := fin V (at_ main_v286)
theorem e286 : r286 V = broadcastInDim S1x128 ![1] bcast_S128_S1x128_1 (r270 V) :=
  eq_unary (at_part5 V 38 rfl)

def r287 : FVec Ideal S1x4096x512 .f32 := fin V (at_ main_v287)
theorem e287 : r287 V = shapeCast S1x4096x512 (r285 V) shapeCasts_S1x4096x4x128_S1x4096x512 :=
  eq_reshape (at_part5 V 39 rfl)

def r288 : FVec Ideal S1x4096x16x128 .f32 := fin V (at_ main_v288)
theorem e288 : r288 V = mulf (r39 V) (r264 V) :=
  eq_binary (at_part5 V 40 rfl)

def r_cst_50 : FVec Ideal S_ .f32 := fin V (at_ main_cst_50)
theorem e_cst_50 : r_cst_50 V = constant S_ .f32 0x00000000#32 :=
  eq_nullary (at_part5 V 41 rfl)

def r289 : FVec Ideal S1x128 .f32 := fin V (at_ main_v289)
theorem e289 : r289 V = Host.reduceAdd (r288 V) (r_cst_50 V) reducesTo_S1x4096x16x128_S1x128_d1_2 h_S_ :=
  eq_binary (at_part5 V 42 rfl)

def r290 : FVec Ideal S1x1x1x128 .f32 := fin V (at_ main_v290)
theorem e290 : r290 V = shapeCast S1x1x1x128 (r289 V) shapeCasts_S1x128_S1x1x1x128 :=
  eq_reshape (at_part5 V 43 rfl)

def r291 : FVec Ideal S1x4096x16x128 .f32 := fin V (at_ main_v291)
theorem e291 : r291 V = broadcastInDim S1x4096x16x128 ![0, 1, 2, 3] bcast_S1x1x1x128_S1x4096x16x128_0_1_2_3 (r40 V) :=
  eq_unary (at_part5 V 44 rfl)

def r292 : FVec Ideal S1x4096x16x128 .f32 := fin V (at_ main_v292)
theorem e292 : r292 V = mulf (r264 V) (r291 V) :=
  eq_binary (at_part5 V 45 rfl)

def r_cst_51 : FVec Ideal S_ .f32 := fin V (at_ main_cst_51)
theorem e_cst_51 : r_cst_51 V = constant S_ .f32 0x00000000#32 :=
  eq_nullary (at_part5 V 46 rfl)

def r293 : FVec Ideal S128 .f32 := fin V (at_ main_v293)
theorem e293 : r293 V = Host.reduceAdd (r290 V) (r_cst_51 V) reducesTo_S1x1x1x128_S128_d0_1_2 h_S_ :=
  eq_binary (at_part5 V 47 rfl)

def r294 : FVec Ideal S1x4096x16x128 .f32 := fin V (at_ main_v294)
theorem e294 : r294 V = mulf (r25 V) (r292 V) :=
  eq_binary (at_part5 V 48 rfl)

def r_cst_52 : FVec Ideal S_ .f32 := fin V (at_ main_cst_52)
theorem e_cst_52 : r_cst_52 V = constant S_ .f32 0x00000000#32 :=
  eq_nullary (at_part5 V 49 rfl)

def r295 : FVec Ideal S1x4096x16 .f32 := fin V (at_ main_v295)
theorem e295 : r295 V = Host.reduceAdd (r294 V) (r_cst_52 V) reducesTo_S1x4096x16x128_S1x4096x16_d3 h_S_ :=
  eq_binary (at_part5 V 50 rfl)

def r296 : FVec Ideal S1x4096x16x1 .f32 := fin V (at_ main_v296)
theorem e296 : r296 V = shapeCast S1x4096x16x1 (r295 V) shapeCasts_S1x4096x16_S1x4096x16x1 :=
  eq_reshape (at_part5 V 51 rfl)

def r297 : FVec Ideal S1x4096x16x128 .f32 := fin V (at_ main_v297)
theorem e297 : r297 V = broadcastInDim S1x4096x16x128 ![0, 1, 2, 3] bcast_S1x4096x16x1_S1x4096x16x128_0_1_2_3 (r34 V) :=
  eq_unary (at_part5 V 52 rfl)

def r298 : FVec Ideal S1x4096x16x128 .f32 := fin V (at_ main_v298)
theorem e298 : r298 V = mulf (r292 V) (r297 V) :=
  eq_binary (at_part5 V 53 rfl)

def r299 : FVec Ideal S1x4096x16x1 .f32 := fin V (at_ main_v299)
theorem e299 : r299 V = mulf (r296 V) (r37 V) :=
  eq_binary (at_part5 V 54 rfl)

def r_cst_53 : FVec Ideal S_ .f32 := fin V (at_ main_cst_53)
theorem e_cst_53 : r_cst_53 V = constant S_ .f32 0x43000000#32 :=
  eq_nullary (at_part5 V 55 rfl)

def r300 : FVec Ideal S1x4096x16x1 .f32 := fin V (at_ main_v300)
theorem e300 : r300 V = broadcastInDim S1x4096x16x1 ![] bcast_S_S1x4096x16x1 (r_cst_53 V) :=
  eq_unary (at_part5 V 56 rfl)

def r301 : FVec Ideal S1x4096x16x1 .f32 := fin V (at_ main_v301)
theorem e301 : r301 V = Host.divf (r299 V) (r300 V) :=
  eq_binary (at_part5 V 57 rfl)

def r_cst_54 : FVec Ideal S_ .f32 := fin V (at_ main_cst_54)
theorem e_cst_54 : r_cst_54 V = constant S_ .f32 0x00000000#32 :=
  eq_nullary (at_part5 V 58 rfl)

def r302 : FVec Ideal S4096x16 .f32 := fin V (at_ main_v302)
theorem e302 : r302 V = Host.reduceAdd (r301 V) (r_cst_54 V) reducesTo_S1x4096x16x1_S4096x16_d0_3 h_S_ :=
  eq_binary (at_part5 V 59 rfl)

def r303 : FVec Ideal S1x4096x16 .f32 := fin V (at_ main_v303)
theorem e303 : r303 V = broadcastInDim S1x4096x16 ![1, 2] bcast_S4096x16_S1x4096x16_1_2 (r302 V) :=
  eq_unary (at_part6 V 0 rfl)

def r304 : FVec Ideal S1x4096x16x128 .f32 := fin V (at_ main_v304)
theorem e304 : r304 V = broadcastInDim S1x4096x16x128 ![0, 1, 2] bcast_S1x4096x16_S1x4096x16x128_0_1_2 (r303 V) :=
  eq_unary (at_part6 V 1 rfl)

def r305 : FVec Ideal S1x4096x16x128 .f32 := fin V (at_ main_v305)
theorem e305 : r305 V = mulf (r25 V) (r304 V) :=
  eq_binary (at_part6 V 2 rfl)

def r306 : FVec Ideal S1x4096x16x128 .f32 := fin V (at_ main_v306)
theorem e306 : r306 V = addf (r298 V) (r305 V) :=
  eq_binary (at_part6 V 3 rfl)

def r307 : FVec Ideal S1x4096x16x128 .f32 := fin V (at_ main_v307)
theorem e307 : r307 V = mulf (r304 V) (r25 V) :=
  eq_binary (at_part6 V 4 rfl)

def r308 : FVec Ideal S1x4096x16x128 .f32 := fin V (at_ main_v308)
theorem e308 : r308 V = addf (r306 V) (r307 V) :=
  eq_binary (at_part6 V 5 rfl)

def r309 : FVec Ideal S1x128 .f32 := fin V (at_ main_v309)
theorem e309 : r309 V = broadcastInDim S1x128 ![1] bcast_S128_S1x128_1 (r293 V) :=
  eq_unary (at_part6 V 6 rfl)

def r310 : FVec Ideal S1x4096x2048 .f32 := fin V (at_ main_v310)
theorem e310 : r310 V = shapeCast S1x4096x2048 (r308 V) shapeCasts_S1x4096x16x128_S1x4096x2048 :=
  eq_reshape (at_part6 V 7 rfl)

def r311 : FVec Ideal S4096x2048 .f32 := fin V (at_ main_v311)
theorem e311 : r311 V = shapeCast S4096x2048 (r310 V) shapeCasts_S1x4096x2048_S4096x2048 :=
  eq_reshape (at_part6 V 8 rfl)

def r312 : FVec Ideal S4096x2048 .bf16 := fin V (at_ main_v312)
theorem e312 : r312 V = truncf .bf16 (r311 V) bitsLt_bf16_f32 :=
  eq_unary (at_part6 V 9 rfl)

def r313 : FVec Ideal S4096x512 .f32 := fin V (at_ main_v313)
theorem e313 : r313 V = shapeCast S4096x512 (r287 V) shapeCasts_S1x4096x512_S4096x512 :=
  eq_reshape (at_part6 V 10 rfl)

def r314 : FVec Ideal S4096x512 .bf16 := fin V (at_ main_v314)
theorem e314 : r314 V = truncf .bf16 (r313 V) bitsLt_bf16_f32 :=
  eq_unary (at_part6 V 11 rfl)

def r315 : FVec Ideal S4096x512 .f32 := fin V (at_ main_v315)
theorem e315 : r315 V = shapeCast S4096x512 (r226 V) shapeCasts_S1x4096x512_S4096x512 :=
  eq_reshape (at_part6 V 12 rfl)

def r316 : FVec Ideal S4096x512 .bf16 := fin V (at_ main_v316)
theorem e316 : r316 V = truncf .bf16 (r315 V) bitsLt_bf16_f32 :=
  eq_unary (at_part6 V 13 rfl)

def r_c_55 : IVec S_ 32 := fin V (at_ main_c_55)
theorem e_c_55 : r_c_55 V = constantI S_ 32 0#32 :=
  eq_nullary (at_part6 V 14 rfl)

def r_call2_v0 : FVec Ideal S_ .f32 := fin V (at_ main_call2_v0)
theorem e_call2_v0 : r_call2_v0 V = sitofp .f32 (r_c_55 V) :=
  eq_unary (at_part6 V 15 rfl)

def r317 : FVec Ideal S1x128 .f32 := fin V (at_ main_v317)
theorem e317 : r317 V = pad S1x128 ![0, 0] ![0, 112] ![0, 0] (r225 V) (r_call2_v0 V) pads_S1x16_S1x128_000_01120 h_S_ :=
  eq_binary (at_part6 V 16 rfl)

end Cert.ReferenceIdeal.Ops
end
-- ==== Proof.Ref.Red.lean ====
/-
  The reference's sums over several axes, or of six-axis arrays, at an index of the result.
-/
module

public import proofs.«01_k».proof.Proof.Gen.ReferenceIdeal
public import Idealize.ShloMosaic.Lib.Pointwise
public import Idealize.ShloMosaic.Lib.IdealHost

@[expose] public section

set_option maxRecDepth 16384

noncomputable section

namespace Cert.ReferenceIdeal.Ops

open Cert.ReferenceIdeal Cert.ReferenceIdeal.Gen Idealize.ShloMosaic

section

variable {s t : Shape} {axes : List (Fin s.rank)} {ι : Type} [Fintype ι]

/-- A sum over the indices that lie over `j`, listed by `e`. -/
theorem reduce_list (h : s.ReducesTo axes t) (v : s.Idx → EReal) (z : EReal) (j : t.Idx) (e : ι → s.Idx) (p : s.Idx → ι)
    (hp : ∀ k, p (e k) = k) (he : ∀ k, h.drop (e k) = j) (hs : ∀ x, h.drop x = j → e (p x) = x) :
    Ideal.hostReduceAdd h v z j = z + ∑ k, v (e k) := by
  classical
  refine congrArg (z + ·) (Finset.sum_bij' (fun x _ => p x) (fun k _ => e k) (fun _ _ => Finset.mem_univ _)
    (fun k _ => by simpa using he k) (fun x hx => hs x (by simpa using hx)) (fun k _ => hp k)
    (fun x hx => by rw [hs x (by simpa using hx)]))

theorem coord {h : s.ReducesTo axes t} {x : s.Idx} {j : t.Idx} (hx : h.drop x = j) (b : Fin t.rank) (c : Fin s.rank)
    (hb : (b : Nat) < (s.kept axes).length := by decide) (hc : (s.kept axes)[(b : Nat)] = c := by decide) :
    (j b).val = (x c).val := by
  subst hx; exact h.drop_apply_val_of_eq x b c hb hc

end

variable (i : Fin 32) (h g : Fin 4) (q d : Fin 128)

theorem sum_last (v : S1x32x4x4x128x257.Idx → EReal) (z : EReal) :
    Ideal.hostReduceAdd reducesTo_S1x32x4x4x128x257_S1x32x4x4x128_d5 v z (ix5 0 i h g q)
      = z + ∑ k : Fin 257, v (ix6 0 i h g q k) :=
  reduce_list _ v z _ (fun k : Fin 257 => ix6 0 i h g q k) (fun x => x 5) (fun _ => rfl)
    (fun k => funext fun b => by fin_cases b <;> rfl)
    (fun x hx => by
      have h1 : x 1 = i := (Fin.ext (coord hx 1 1)).symm
      have h2 : x 2 = h := (Fin.ext (coord hx 2 2)).symm
      have h3 : x 3 = g := (Fin.ext (coord hx 3 3)).symm
      have h4 : x 4 = q := (Fin.ext (coord hx 4 4)).symm
      have h0 : x 0 = (0 : Fin 1) := Subsingleton.elim (α := Fin 1) _ _
      rw [← h1, ← h2, ← h3, ← h4]
      exact (congrArg (fun a => ix6 a (x 1) (x 2) (x 3) (x 4) (x 5)) h0.symm).trans (ix6_eta x))

theorem sum_unit (v : S1x32x4x4x128x1.Idx → EReal) (z : EReal) :
    Ideal.hostReduceAdd reducesTo_S1x32x4x4x128x1_S32x4x4x128_d0_5 v z (ix4 i h g q) = z + v (ix6 0 i h g q 0) :=
  (reduce_list _ v z _ (fun _ : Unit => ix6 0 i h g q 0) (fun _ => ()) (fun _ => rfl)
    (fun k => funext fun b => by fin_cases b <;> rfl)
    (fun x hx => by
      have h1 : x 1 = i := (Fin.ext (coord hx 0 1)).symm
      have h2 : x 2 = h := (Fin.ext (coord hx 1 2)).symm
      have h3 : x 3 = g := (Fin.ext (coord hx 2 3)).symm
      have h4 : x 4 = q := (Fin.ext (coord hx 3 4)).symm
      have h0 : x 0 = (0 : Fin 1) := Subsingleton.elim (α := Fin 1) _ _
      have h5 : x 5 = (0 : Fin 1) := Subsingleton.elim (α := Fin 1) _ _
      rw [← h1, ← h2, ← h3, ← h4]
      exact (congrArg₂ (fun a b => ix6 a (x 1) (x 2) (x 3) (x 4) b) h0.symm h5.symm).trans (ix6_eta x))).trans (by simp)

theorem sum_sinks (v : S1x32x4x4x128x1.Idx → EReal) (z : EReal) :
    Ideal.hostReduceAdd reducesTo_S1x32x4x4x128x1_S4x4_d0_1_4_5 v z (ix2 h g)
      = z + ∑ k : Fin 32 × Fin 128, v (ix6 0 k.1 h g k.2 0) :=
  reduce_list _ v z _ (fun k : Fin 32 × Fin 128 => ix6 0 k.1 h g k.2 0) (fun x => (x 1, x 4)) (fun _ => rfl)
    (fun k => funext fun b => by fin_cases b <;> rfl)
    (fun x hx => by
      have h2 : x 2 = h := (Fin.ext (coord hx 0 2)).symm
      have h3 : x 3 = g := (Fin.ext (coord hx 1 3)).symm
      have h0 : x 0 = (0 : Fin 1) := Subsingleton.elim (α := Fin 1) _ _
      have h5 : x 5 = (0 : Fin 1) := Subsingleton.elim (α := Fin 1) _ _
      rw [← h2, ← h3]
      exact (congrArg₂ (fun a b => ix6 a (x 1) (x 2) (x 3) (x 4) b) h0.symm h5.symm).trans (ix6_eta x))

theorem sum_sinks' (v : S1x1x4x4x1x1.Idx → EReal) (z : EReal) :
    Ideal.hostReduceAdd reducesTo_S1x1x4x4x1x1_S4x4_d0_1_4_5 v z (ix2 h g) = z + v (ix6 0 0 h g 0 0) :=
  (reduce_list _ v z _ (fun _ : Unit => ix6 0 0 h g 0 0) (fun _ => ()) (fun _ => rfl)
    (fun k => funext fun b => by fin_cases b <;> rfl)
    (fun x hx => by
      have h2 : x 2 = h := (Fin.ext (coord hx 0 2)).symm
      have h3 : x 3 = g := (Fin.ext (coord hx 1 3)).symm
      funext b
      fin_cases b
      exacts [Subsingleton.elim (α := Fin 1) _ _, Subsingleton.elim (α := Fin 1) _ _, h2.symm, h3.symm,
        Subsingleton.elim (α := Fin 1) _ _, Subsingleton.elim (α := Fin 1) _ _])).trans (by simp)

theorem sum_rows_q (v : S1x4096x16x128.Idx → EReal) (z : EReal) :
    Ideal.hostReduceAdd reducesTo_S1x4096x16x128_S1x128_d1_2 v z (ix2 0 d)
      = z + ∑ k : Fin 4096 × Fin 16, v (ix4 0 k.1 k.2 d) :=
  reduce_list _ v z _ (fun k : Fin 4096 × Fin 16 => ix4 0 k.1 k.2 d) (fun x => (x 1, x 2)) (fun _ => rfl)
    (fun k => funext fun b => by fin_cases b <;> rfl)
    (fun x hx => by
      have h3 : x 3 = d := (Fin.ext (coord hx 1 3)).symm
      funext b
      fin_cases b
      exacts [Subsingleton.elim (α := Fin 1) _ _, rfl, rfl, h3.symm])

theorem sum_rows_k (v : S1x4096x4x128.Idx → EReal) (z : EReal) :
    Ideal.hostReduceAdd reducesTo_S1x4096x4x128_S1x128_d1_2 v z (ix2 0 d)
      = z + ∑ k : Fin 4096 × Fin 4, v (ix4 0 k.1 k.2 d) :=
  reduce_list _ v z _ (fun k : Fin 4096 × Fin 4 => ix4 0 k.1 k.2 d) (fun x => (x 1, x 2)) (fun _ => rfl)
    (fun k => funext fun b => by fin_cases b <;> rfl)
    (fun x hx => by
      have h3 : x 3 = d := (Fin.ext (coord hx 1 3)).symm
      funext b
      fin_cases b
      exacts [Subsingleton.elim (α := Fin 1) _ _, rfl, rfl, h3.symm])

theorem sum_gain (v : S1x1x1x128.Idx → EReal) (z : EReal) :
    Ideal.hostReduceAdd reducesTo_S1x1x1x128_S128_d0_1_2 v z (ix1 d) = z + v (ix4 0 0 0 d) :=
  (reduce_list _ v z _ (fun _ : Unit => ix4 0 0 0 d) (fun _ => ()) (fun _ => rfl)
    (fun k => funext fun b => by fin_cases b <;> rfl)
    (fun x hx => by
      have h3 : x 3 = d := (Fin.ext (coord hx 0 3)).symm
      funext b
      fin_cases b
      exacts [Subsingleton.elim (α := Fin 1) _ _, Subsingleton.elim (α := Fin 1) _ _, Subsingleton.elim (α := Fin 1) _ _,
        h3.symm])).trans (by simp)

theorem sum_one_q (r : Fin 4096) (n : Fin 16) (v : S1x4096x16x1.Idx → EReal) (z : EReal) :
    Ideal.hostReduceAdd reducesTo_S1x4096x16x1_S4096x16_d0_3 v z (ix2 r n) = z + v (ix4 0 r n 0) :=
  (reduce_list _ v z _ (fun _ : Unit => ix4 0 r n 0) (fun _ => ()) (fun _ => rfl)
    (fun k => funext fun b => by fin_cases b <;> rfl)
    (fun x hx => by
      have h1 : x 1 = r := (Fin.ext (coord hx 0 1)).symm
      have h2 : x 2 = n := (Fin.ext (coord hx 1 2)).symm
      funext b
      fin_cases b
      exacts [Subsingleton.elim (α := Fin 1) _ _, h1.symm, h2.symm, Subsingleton.elim (α := Fin 1) _ _])).trans (by simp)

theorem sum_one_k (r : Fin 4096) (n : Fin 4) (v : S1x4096x4x1.Idx → EReal) (z : EReal) :
    Ideal.hostReduceAdd reducesTo_S1x4096x4x1_S4096x4_d0_3 v z (ix2 r n) = z + v (ix4 0 r n 0) :=
  (reduce_list _ v z _ (fun _ : Unit => ix4 0 r n 0) (fun _ => ()) (fun _ => rfl)
    (fun k => funext fun b => by fin_cases b <;> rfl)
    (fun x hx => by
      have h1 : x 1 = r := (Fin.ext (coord hx 0 1)).symm
      have h2 : x 2 = n := (Fin.ext (coord hx 1 2)).symm
      funext b
      fin_cases b
      exacts [Subsingleton.elim (α := Fin 1) _ _, h1.symm, h2.symm, Subsingleton.elim (α := Fin 1) _ _])).trans (by simp)

end Cert.ReferenceIdeal.Ops
-- ==== Proof.Ref.ReadA.lean ====
/-
  The reference's values before the softmax — the norms, the rotary embedding, the windows of keys and values, the masked
  scores — read as real numbers.
-/
module

public import proofs.«01_k».proof.Proof.Ref.Eqt
public import proofs.«01_k».proof.Proof.Ref.Red
public import proofs.«01_k».proof.Proof.Val.Reads

@[expose] public section

set_option maxRecDepth 16384

noncomputable section

namespace Cert.Attn

open Idealize.ShloMosaic

/-- The query row of token `r` and head `h`, and the key row. -/
def Arrs.qrow (A : Arrs) (r h : ℕ) (d : Fin 128) : ℝ := A.z r (128 * h + d.val)
def Arrs.krow (A : Arrs) (r h : ℕ) (d : Fin 128) : ℝ := A.z r (2048 + 128 * h + d.val)

/-- The mean square with the norm's constant. -/
def ms (x : Fin 128 → ℝ) : ℝ := (∑ k, x k * x k) / 128 + eps

theorem ms_eq (x : Fin 128 → ℝ) : Ideal.div (∑ k, ((x k : ℝ) : EReal) * ((x k : ℝ) : EReal)) ((128 : ℝ) : EReal) + ((eps : ℝ) : EReal)
    = ((ms x : ℝ) : EReal) := by
  simp only [← EReal.coe_mul, coe_sum]
  rw [div_128, ← EReal.coe_add]; rfl

theorem rs_eq (x : Fin 128 → ℝ) : Ideal.rsqrt ((ms x : ℝ) : EReal) = ((rs x : ℝ) : EReal) := rsqrt_real (ms_pos x)

theorem ms_ne (x : Fin 128 → ℝ) : ms x ≠ 0 := (ms_pos x).ne'

theorem ofBits_mhalf : Ideal.ofBits .f32 0xBF000000#32 = ((-(1 / 2) : ℝ) : EReal) := by
  simp [Ideal.ofBits, Ideal.ieee, -EReal.coe_mul]; norm_num

/-! The rotary embedding with the tables of token `r`, lane by lane. -/

section

variable (y : Fin 128 → ℝ) (p : ℕ → ℝ) (r : ℕ) (d : Fin 128)

theorem rope_lo (h : d.val < 16) (e : Fin 128) (he : e.val = d.val + 16) : rope (cosT p r) (sinT p r) y d
    = y d * Real.cos (p r * freq ⟨d.val, h⟩) - y e * Real.sin (p r * freq ⟨d.val, h⟩) := by
  have : (⟨(d.val + 128 - 112) % 128, Nat.mod_lt _ (by decide)⟩ : Fin 128) = e := Fin.ext (by show _ % 128 = _; omega)
  rw [rope, sw, if_pos h, cosT, dif_pos h, sinT, dif_pos h, this]; ring

theorem rope_mid (h : ¬d.val < 16) (h' : d.val - 16 < 16) (e : Fin 128) (he : e.val = d.val - 16) :
    rope (cosT p r) (sinT p r) y d
    = y d * Real.cos (p r * freq ⟨d.val - 16, h'⟩) + y e * Real.sin (p r * freq ⟨d.val - 16, h'⟩) := by
  have : (⟨(d.val + 128 - 16) % 128, Nat.mod_lt _ (by decide)⟩ : Fin 128) = e := Fin.ext (by show _ % 128 = _; omega)
  have h2 : d.val < 32 := by omega
  rw [rope, sw, if_neg h, if_pos h2, cosT, dif_neg h, dif_pos h2, sinT, dif_neg h, dif_pos h2, this]

theorem rope_hi (h : ¬d.val < 32) : rope (cosT p r) (sinT p r) y d = y d := by
  have h2 : ¬d.val < 16 := by omega
  rw [rope, sw, if_neg h2, if_neg h, cosT, dif_neg h2, dif_neg h]; ring

theorem ropeB_lo (h : d.val < 16) (e : Fin 128) (he : e.val = d.val + 16) : ropeB (cosT p r) (sinT p r) y d
    = y d * Real.cos (p r * freq ⟨d.val, h⟩) + y e * Real.sin (p r * freq ⟨d.val, h⟩) := by
  have e1 : (⟨(d.val + 128 - 112) % 128, Nat.mod_lt _ (by decide)⟩ : Fin 128) = e := Fin.ext (by show _ % 128 = _; omega)
  have h1 : ¬e.val < 16 := by omega
  have h2 : e.val < 32 := by omega
  have e2 : (⟨e.val - 16, by omega⟩ : Fin 16) = ⟨d.val, h⟩ := Fin.ext (by show e.val - 16 = d.val; omega)
  rw [ropeB, sw, if_pos h, cosT, dif_pos h, e1, sinT, dif_neg h1, dif_pos h2, e2]

theorem ropeB_mid (h : ¬d.val < 16) (h' : d.val - 16 < 16) (e : Fin 128) (he : e.val = d.val - 16) :
    ropeB (cosT p r) (sinT p r) y d
    = y d * Real.cos (p r * freq ⟨d.val - 16, h'⟩) + -y e * Real.sin (p r * freq ⟨d.val - 16, h'⟩) := by
  have e1 : (⟨(d.val + 128 - 16) % 128, Nat.mod_lt _ (by decide)⟩ : Fin 128) = e := Fin.ext (by show _ % 128 = _; omega)
  have h2 : d.val < 32 := by omega
  have h1 : e.val < 16 := by omega
  have e2 : (⟨e.val, h1⟩ : Fin 16) = ⟨d.val - 16, h'⟩ := Fin.ext he
  rw [ropeB, sw, if_neg h, if_pos h2, cosT, dif_neg h, dif_pos h2, e1, sinT, dif_pos h1, e2]; ring

theorem ropeB_hi (h : ¬d.val < 32) : ropeB (cosT p r) (sinT p r) y d = y d := by
  have h2 : ¬d.val < 16 := by omega
  rw [ropeB, sw, if_neg h2, if_neg h, cosT, dif_neg h2, dif_neg h]; ring

end

/-- The keys or values of a window without a block before: zeros there. -/
def zpad (b : Prop) [Decidable b] (K : Fin 256 → Fin 128 → ℝ) (c : Fin 256) (d : Fin 128) : ℝ :=
  if 128 ≤ c.val ∨ b then K c d else 0

theorem zpad_band {b : Prop} [Decidable b] (K : Fin 256 → Fin 128 → ℝ) {r : Fin 512} {c : Fin 256} (h : band b r c) (d : Fin 128) :
    zpad b K c d = K c d := if_pos h.2

/-- What is zero outside the window does not see the zeros. -/
theorem mul_zpad {b : Prop} [Decidable b] (K : Fin 256 → Fin 128 → ℝ) {r : Fin 512} {c : Fin 256} {w : ℝ}
    (h : ¬band b r c → w = 0) (d : Fin 128) : w * zpad b K c d = w * K c d := by
  by_cases hb : band b r c
  · rw [zpad_band K hb]
  · rw [h hb, zero_mul, zero_mul]

/-- Row `128 g + q` of the four heads' rows. -/
def row (g : Fin 4) (q : Fin 128) : Fin 512 := ⟨128 * g.val + q.val, by omega⟩

theorem row_val (g : Fin 4) (q : Fin 128) : (row g q).val = 128 * g.val + q.val := rfl
theorem row_div (g : Fin 4) (q : Fin 128) : (row g q).val / 128 = g.val := by rw [row_val]; omega
theorem row_mod (g : Fin 4) (q : Fin 128) : (row g q).val % 128 = q.val := by rw [row_val]; omega

theorem four_row {α : Type} (a : ℕ → Fin 128 → α) (g : Fin 4) (q : Fin 128) : four a (row g q) = a g.val q :=
  four_eq a _ g.val q (row_val g q)

theorem Arrs.Q_row (A : Arrs) (h g : Fin 4) (i : ℕ) (q : Fin 128) :
    (A.blk h i).Q (row g q) = rope (cosT A.p (i * 128 + q)) (sinT A.p (i * 128 + q)) (nrm A.qg (A.qrow (i * 128 + q) (h * 4 + g))) := by
  have e : (A.blk h i).zq g.val q = A.qrow (i * 128 + q) (h * 4 + g) := funext fun d => by
    show A.z _ _ = A.z _ _; congr 1 <;> omega
  rw [Blk.Q, four_row, four_row, four_row, e]
  show rope (cosT A.p (128 * i + q)) (sinT A.p (128 * i + q)) _ = _
  rw [Nat.mul_comm 128 i]; rfl

theorem Arrs.K_cur (A : Arrs) (h : Fin 4) (i : ℕ) (c : Fin 256) (q : Fin 128) (hc : c.val = 128 + q.val) :
    (A.blk h i).K c = rope (cosT A.p (i * 128 + q)) (sinT A.p (i * 128 + q)) (nrm A.kg (A.krow (i * 128 + q) h)) := by
  have e : (⟨c.val - 128, by omega⟩ : Fin 128) = q := Fin.ext (by show c.val - 128 = _; omega)
  rw [Blk.K, two, dif_neg (by omega), e]
  show rope (cosT A.p (128 * i + q)) (sinT A.p (128 * i + q)) (nrm A.kg (A.krow (128 * i + q) h)) = _
  rw [Nat.mul_comm 128 i]

theorem Arrs.K_prev (A : Arrs) (h : Fin 4) (i : ℕ) (c : Fin 256) (q : Fin 128) (hc : c.val = q.val) :
    (A.blk h i).K c = rope (cosT A.p ((i - 1) * 128 + q)) (sinT A.p ((i - 1) * 128 + q)) (nrm A.kg (A.krow ((i - 1) * 128 + q) h)) := by
  have e : (⟨c.val, by omega⟩ : Fin 128) = q := Fin.ext hc
  rw [Blk.K, two, dif_pos (by omega), e]
  show rope (cosT A.p (128 * (i - 1) + q)) (sinT A.p (128 * (i - 1) + q)) (nrm A.kg (A.krow (128 * (i - 1) + q) h)) = _
  rw [Nat.mul_comm 128 (i - 1)]

end Cert.Attn

namespace Cert.ReferenceIdeal.Ops

open Cert.ReferenceIdeal Cert.ReferenceIdeal.Gen Idealize.ShloMosaic Idealize.ShloMosaic.TcCoe Cert.Attn

variable {V : Valuation τ sig (Elt Ideal)} {A : Arrs} (hA : A.Of (a0 V) (a1 V) (a2 V) (a3 V) (a4 V) (a5 V))

/-! ## The tables -/

omit hA in
theorem v9 (k : Fin 16) : r9 V (ix1 k) = ((freq k : ℝ) : EReal) := by
  rw [e9, e8, e7, e6, e5, e4, e3, e2, e1, e0, e_cst, e_cst_0, e_cst_1, e_cst_2]
  pointwise
  exact freq_eq k

include hA

theorem v10 (r : Fin 4096) : r10 V (ix2 0 r) = ((A.p r : ℝ) : EReal) := by
  rw [e10, ← hA.p, posOf, dif_pos r.isLt]
  pointwise
  rfl

theorem v15 (r : Fin 4096) (k : Fin 16) : r15 V (ix3 0 r k) = ((A.p r * freq k : ℝ) : EReal) := by
  rw [e15, e14, e13, e12, e11]
  pointwise
  rw [v10 hA, v9, EReal.coe_mul]

theorem v17 (r : Fin 4096) (k : Fin 16) : r17 V (ix4 0 r 0 k) = ((Real.cos (A.p r * freq k) : ℝ) : EReal) := by
  rw [e17, e16]
  pointwise
  rw [v15 hA, Ideal.cos_coe]

theorem v19 (r : Fin 4096) (k : Fin 16) : r19 V (ix4 0 r 0 k) = ((Real.sin (A.p r * freq k) : ℝ) : EReal) := by
  rw [e19, e18]
  pointwise
  rw [v15 hA, Ideal.sin_coe]

/-! ## The norms -/

theorem v25 (r : Fin 4096) (h : Fin 16) (d : Fin 128) : r25 V (ix4 0 r h d) = ((A.qrow r h d : ℝ) : EReal) := by
  rw [e25, e21, e20]
  pointwise
  rw [hA.z, Arrs.qrow, Nat.mul_comm 128 h.val]

theorem v33 (r : Fin 4096) (h : Fin 16) : r33 V (ix4 0 r h 0) = ((ms (A.qrow r h) : ℝ) : EReal) := by
  rw [e33, e32, e31, e30, e29, e28, e27, e_cst_3, e_cst_4, e_cst_5]
  pointwise
  simp only [v25 hA, ofBits_128, ofBits_eps]
  exact ms_eq _

theorem v34 (r : Fin 4096) (h : Fin 16) : r34 V (ix4 0 r h 0) = ((rs (A.qrow r h) : ℝ) : EReal) := by
  rw [e34]
  pointwise
  rw [v33 hA, rs_eq]

theorem v37 (r : Fin 4096) (h : Fin 16) :
    r37 V (ix4 0 r h 0) = ((-(1 / 2) * (rs (A.qrow r h) / ms (A.qrow r h)) : ℝ) : EReal) := by
  rw [e37, e36, e35, e_cst_6]
  pointwise
  rw [v33 hA, v34 hA, ofBits_mhalf, div_real (ms_ne _), ← EReal.coe_mul]

theorem v39 (r : Fin 4096) (h : Fin 16) (d : Fin 128) : r39 V (ix4 0 r h d) = ((xhat (A.qrow r h) d : ℝ) : EReal) := by
  rw [e39, e38]
  pointwise
  rw [v25 hA, v34 hA, ← EReal.coe_mul]; rfl

theorem v40 (d : Fin 128) : r40 V (ix4 0 0 0 d) = ((A.qg d : ℝ) : EReal) := by
  rw [e40, e26]
  pointwise
  rw [hA.qg]

theorem v42 (r : Fin 4096) (h : Fin 16) (d : Fin 128) : r42 V (ix4 0 r h d) = ((nrm A.qg (A.qrow r h) d : ℝ) : EReal) := by
  rw [e42, e41]
  pointwise
  rw [v39 hA, v40 hA, ← EReal.coe_mul]; rfl

theorem v43 (r : Fin 4096) (h : Fin 4) (d : Fin 128) : r43 V (ix4 0 r h d) = ((A.krow r h d : ℝ) : EReal) := by
  rw [e43, e22, e20]
  pointwise
  rw [hA.z, Arrs.krow]
  congr 2
  show _ = 2048 + 128 * h.val + d.val
  simp only
  omega

theorem v51 (r : Fin 4096) (h : Fin 4) : r51 V (ix4 0 r h 0) = ((ms (A.krow r h) : ℝ) : EReal) := by
  rw [e51, e50, e49, e48, e47, e46, e45, e_cst_7, e_cst_8, e_cst_9]
  pointwise
  simp only [v43 hA, ofBits_128, ofBits_eps]
  exact ms_eq _

theorem v52 (r : Fin 4096) (h : Fin 4) : r52 V (ix4 0 r h 0) = ((rs (A.krow r h) : ℝ) : EReal) := by
  rw [e52]
  pointwise
  rw [v51 hA, rs_eq]

theorem v55 (r : Fin 4096) (h : Fin 4) :
    r55 V (ix4 0 r h 0) = ((-(1 / 2) * (rs (A.krow r h) / ms (A.krow r h)) : ℝ) : EReal) := by
  rw [e55, e54, e53, e_cst_10]
  pointwise
  rw [v51 hA, v52 hA, ofBits_mhalf, div_real (ms_ne _), ← EReal.coe_mul]

theorem v57 (r : Fin 4096) (h : Fin 4) (d : Fin 128) : r57 V (ix4 0 r h d) = ((xhat (A.krow r h) d : ℝ) : EReal) := by
  rw [e57, e56]
  pointwise
  rw [v43 hA, v52 hA, ← EReal.coe_mul]; rfl

theorem v58 (d : Fin 128) : r58 V (ix4 0 0 0 d) = ((A.kg d : ℝ) : EReal) := by
  rw [e58, e44]
  pointwise
  rw [hA.kg]

theorem v60 (r : Fin 4096) (h : Fin 4) (d : Fin 128) : r60 V (ix4 0 r h d) = ((nrm A.kg (A.krow r h) d : ℝ) : EReal) := by
  rw [e60, e59]
  pointwise
  rw [v57 hA, v58 hA, ← EReal.coe_mul]; rfl

/-! ## The rotary embedding -/

theorem v74 (r : Fin 4096) (h : Fin 16) (d : Fin 128) :
    r74 V (ix4 0 r h d) = ((rope (cosT A.p r) (sinT A.p r) (nrm A.qg (A.qrow r h)) d : ℝ) : EReal) := by
  rw [e74, e73, e72, e71, e70, e69, e68, e67, e66, e65, e64, e63, e62, e61]
  pointwise [fn_main_v74]
  have hd := d.isLt
  split
  · rename_i h1
    rw [rope_lo _ _ _ d h1 ⟨d.val + 16, by omega⟩ rfl]
    simp only [v42 hA, v17 hA, v19 hA, ← EReal.coe_mul, ← EReal.coe_sub]
    congr 5; omega
  · rename_i h1
    split
    · rename_i h2
      rw [rope_mid _ _ _ d h1 h2 ⟨d.val - 16, by omega⟩ rfl]
      simp only [v42 hA, v17 hA, v19 hA, ← EReal.coe_mul, ← EReal.coe_add]
      congr 5; omega
    · rw [rope_hi _ _ _ d (by omega), v42 hA]
      congr 2; apply Fin.ext; simp only; omega

theorem v88 (r : Fin 4096) (h : Fin 4) (d : Fin 128) :
    r88 V (ix4 0 r h d) = ((rope (cosT A.p r) (sinT A.p r) (nrm A.kg (A.krow r h)) d : ℝ) : EReal) := by
  rw [e88, e87, e86, e85, e84, e83, e82, e81, e80, e79, e78, e77, e76, e75]
  pointwise [fn_main_v88]
  have hd := d.isLt
  split
  · rename_i h1
    rw [rope_lo _ _ _ d h1 ⟨d.val + 16, by omega⟩ rfl]
    simp only [v60 hA, v17 hA, v19 hA, ← EReal.coe_mul, ← EReal.coe_sub]
    congr 5; omega
  · rename_i h1
    split
    · rename_i h2
      rw [rope_mid _ _ _ d h1 h2 ⟨d.val - 16, by omega⟩ rfl]
      simp only [v60 hA, v17 hA, v19 hA, ← EReal.coe_mul, ← EReal.coe_add]
      congr 5; omega
    · rw [rope_hi _ _ _ d (by omega), v60 hA]
      congr 2; apply Fin.ext; simp only; omega

/-! ## The windows -/

theorem v91 (i : Fin 32) (h g : Fin 4) (q d : Fin 128) :
    r91 V (ix6 0 i q h g d) = (((A.blk h i).Q (row g q) d : ℝ) : EReal) := by
  rw [e91]
  pointwise
  rw [v74 hA, Arrs.Q_row]

theorem v92 (i : Fin 32) (h : Fin 4) (q d : Fin 128) :
    r92 V (ix5 0 i q h d) = ((rope (cosT A.p (i * 128 + q)) (sinT A.p (i * 128 + q)) (nrm A.kg (A.krow (i * 128 + q) h)) d : ℝ) : EReal) := by
  rw [e92]
  pointwise
  rw [v88 hA]

theorem v98 (i : Fin 32) (h : Fin 4) (c : Fin 256) (d : Fin 128) :
    r98 V (ix5 0 i c h d) = ((zpad (0 < i.val) (A.blk h i).K c d : ℝ) : EReal) := by
  rw [e98, e96, e95, e94, e_cst_11]
  pointwise [fn_main_v98, fn_main_v96]
  have hc := c.isLt
  rw [zpad]
  split
  · rename_i h1
    split
    · rename_i h2
      rw [if_neg (by omega)]; rfl
    · rename_i h2
      rw [if_pos (Or.inr (by omega)), v92 hA, Arrs.K_prev A h i c ⟨c.val, h1⟩ rfl]
  · rename_i h1
    rw [if_pos (Or.inl (by omega)), v92 hA, Arrs.K_cur A h i c ⟨c.val - 128, by omega⟩ (by simp only; omega)]

theorem v99 (i : Fin 32) (h : Fin 4) (q d : Fin 128) :
    r99 V (ix5 0 i q h d) = ((A.z (128 * i + q) (2560 + 128 * h + d) : ℝ) : EReal) := by
  rw [e99, e89, e23, e20]
  pointwise
  rw [hA.z]
  congr 2 <;> simp only <;> omega

theorem v105 (i : Fin 32) (h : Fin 4) (c : Fin 256) (d : Fin 128) :
    r105 V (ix5 0 i c h d) = ((zpad (0 < i.val) (A.blk h i).V c d : ℝ) : EReal) := by
  rw [e105, e103, e102, e101, e_cst_13]
  pointwise [fn_main_v105, fn_main_v103]
  have hc := c.isLt
  rw [zpad, Blk.V, two]
  split
  · rename_i h1
    split
    · rename_i h2
      rw [if_neg (by omega)]; rfl
    · rename_i h2
      rw [if_pos (Or.inr (by omega)), v99 hA]; rfl
  · rename_i h1
    rw [if_pos (Or.inl (by omega)), v99 hA]; rfl

/-! ## The scores -/

theorem v109 (i : Fin 32) (h g : Fin 4) (q : Fin 128) (c : Fin 256) :
    r109 V (ix6 0 i h g q c) = ((lg (A.blk h i).Q (zpad (0 < i.val) (A.blk h i).K) (row g q) c : ℝ) : EReal) := by
  rw [e109, e108, e107, e106, e_cst_15]
  pointwise
  simp only [v98 hA, v91 hA, ofBits_scale, ← EReal.coe_mul, coe_sum]
  rw [lg]
  congr 2
  exact Finset.sum_congr rfl fun d _ => mul_comm _ _

omit hA in
theorem v138 (i : Fin 32) (q : Fin 128) (c : Fin 256) (g : Fin 4) :
    r138 V (ix6 0 i 0 0 q c) = BitVec.ofBool (decide (band (0 < i.val) (row g q) c)) := by
  rw [e138, e137, e136, e135, e134, e133, e132, e131, e130, e129, e128, e127, e126, e125, e124, e123, e122, e121, e120,
    e119, e118, e117, e116, e115, e114, e113, e112, e111, e110, e_c, e_c_16, e_c_17, e_c_18, e_c_19]
  pointwise
  have hi : IntOp.cmpi .sgt (BitVec.ofNat 32 i.val) 0#32 = BitVec.ofBool (decide (0 < i.val)) := gt0 i.val (by omega)
  rw [mask_word q.val c.val q.isLt c.isLt, hi, ge128]
  rw [show decide (band (0 < i.val) (row g q) c) = decide ((c.val ≤ q.val + 128 ∧ q.val < c.val) ∧ (128 ≤ c.val ∨ 0 < i.val)) from
    decide_eq_decide.mpr (by unfold band; rw [row_mod])]
  by_cases a : c.val ≤ q.val + 128 ∧ q.val < c.val <;> by_cases b : 128 ≤ c.val <;> by_cases d : 0 < i.val <;>
    simp [a, b, d, IntOp.andi, IntOp.ori]

end Cert.ReferenceIdeal.Ops
-- ==== Proof.Ref.ReadB.lean ====
/-
  The reference's softmax with its sinks, and its derivative, read as real numbers.
-/
module

public import proofs.«01_k».proof.Proof.Ref.ReadA

@[expose] public section

set_option maxRecDepth 16384

noncomputable section

namespace Cert.Attn

open Idealize.ShloMosaic

/-- The weights of a row: its 256 key columns', then the sink's. -/
def wx (w : Fin 256 → ℝ) (s : ℝ) (e : Fin 257) : ℝ := if h : e.val < 256 then w ⟨e.val, h⟩ else s

theorem sum_wx (w : Fin 256 → ℝ) (s : ℝ) : ∑ e, wx w s e = (∑ c, w c) + s := by
  rw [Fin.sum_univ_castSucc]
  refine congrArg₂ (· + ·) (Finset.sum_congr rfl fun c _ => ?_) ?_
  · rw [wx, dif_pos (show (Fin.castSucc c).val < 256 from c.isLt)]; rfl
  · rw [wx, dif_neg (show ¬(Fin.last 256).val < 256 by decide)]

theorem wx_mul (w : Fin 256 → ℝ) (s a : ℝ) (e : Fin 257) : wx w s e * a = wx (fun c => w c * a) (s * a) e := by
  unfold wx; split <;> rfl

theorem wx_wx (v w : Fin 256 → ℝ) (t s : ℝ) (e : Fin 257) : wx v t e * wx w s e = wx (fun c => v c * w c) (t * s) e := by
  unfold wx; split <;> rfl

namespace Blk

variable (b : Blk)

/-- A row's weights before they are divided by their sum, their sum, and the weighted sum of the derivatives. -/
abbrev w (r : Fin 512) : Fin 257 → ℝ := wx (wt (0 < b.i) b.Q b.K r) (Real.exp (b.S r))
abbrev n (r : Fin 512) : ℝ := den (0 < b.i) b.Q b.K b.S r
abbrev p (r : Fin 512) (c : Fin 256) : ℝ := pr (0 < b.i) b.Q b.K b.S r c
abbrev s (r : Fin 512) : ℝ := rsum (0 < b.i) b.Q b.D b.K b.V b.S r

theorem n_pos (r : Fin 512) : 0 < b.n r := den_pos ..

theorem sum_w (r : Fin 512) : ∑ e, b.w r e = b.n r := sum_wx ..

theorem p_zero (r : Fin 512) (c : Fin 256) (h : ¬band (0 < b.i) r c) : b.p r c = 0 := pr_eq_zero _ _ _ _ h

theorem sum_dp (r : Fin 512) : ∑ c, dp b.D (zpad (0 < b.i) b.V) r c * b.p r c = b.s r :=
  Finset.sum_congr rfl fun c _ => by
    rw [mul_comm, dp, dp, Finset.mul_sum, Finset.mul_sum]
    refine Finset.sum_congr rfl fun d _ => ?_
    rw [mul_left_comm, mul_zpad _ (b.p_zero r c), mul_left_comm]

end Blk

end Cert.Attn

namespace Cert.ReferenceIdeal.Ops

open Cert.ReferenceIdeal Cert.ReferenceIdeal.Gen Idealize.ShloMosaic Idealize.ShloMosaic.TcCoe Cert.Attn

variable {V : Valuation τ sig (Elt Ideal)} {A : Arrs} (hA : A.Of (a0 V) (a1 V) (a2 V) (a3 V) (a4 V) (a5 V))

section

variable (i : Fin 32) (h g : Fin 4) (q : Fin 128)

omit hA in
theorem v139_1 (c : Fin 256) : r139_1 V (ix6 0 i h g q c) = BitVec.ofBool (decide (band (0 < i.val) (row g q) c)) := by
  rw [e139_1]
  pointwise
  exact v138 i q c g

include hA

theorem v139 (c : Fin 256) : r139_0 V (ix6 0 i h g q c)
    = if band (0 < i.val) (row g q) c then ((lg (A.blk h i).Q (A.blk h i).K (row g q) c : ℝ) : EReal) else ⊥ := by
  rw [e139_0, e_call0_v2, e_call0_v0, e_cst_20]
  pointwise
  rw [v139_1, Scalar.select_decide, v109 hA]
  split
  · rename_i hb
    simp only [lg, zpad_band _ hb]
  · exact ofBits_ninf

theorem v142 : r142 V (ix6 0 i h g q 0) = (((A.blk h i).S (row g q) : ℝ) : EReal) := by
  rw [e142, e141, e140, e90]
  pointwise
  rw [hA.sk, Blk.S, row_div]
  show ((A.sk _ : ℝ) : EReal) = ((A.sk (4 * h.val + g.val) : ℝ) : EReal)
  congr 2; simp only; omega

theorem v143 (e : Fin 257) : r143 V (ix6 0 i h g q e)
    = if h' : e.val < 256 then if band (0 < i.val) (row g q) ⟨e.val, h'⟩ then ((lg (A.blk h i).Q (A.blk h i).K (row g q) ⟨e.val, h'⟩ : ℝ) : EReal) else ⊥
      else (((A.blk h i).S (row g q) : ℝ) : EReal) := by
  rw [e143]
  pointwise [fn_main_v143]
  have he := e.isLt
  split
  · rw [v139 hA]
  · rename_i h'
    rw [← v142 hA]
    congr 2; apply Fin.ext; simp only [Fin.val_zero]; omega

theorem v143_top (x : S1x32x4x4x128x257.Idx) : r143 V x ≠ ⊤ := by
  obtain ⟨i, h, g, q, e, rfl⟩ : ∃ (i : Fin 32) (h g : Fin 4) (q : Fin 128) (e : Fin 257), x = ix6 0 i h g q e :=
    ⟨x 1, x 2, x 3, x 4, x 5, (eq_ix6 x).trans (congrArg (fun a => ix6 a (x 1) (x 2) (x 3) (x 4) (x 5)) (Subsingleton.elim (α := Fin 1) _ _))⟩
  rw [v143 hA]
  split
  · split
    · exact EReal.coe_ne_top _
    · exact bot_ne_top
  · exact EReal.coe_ne_top _

omit hA in
theorem greatest {x : FVec Ideal S1x32x4x4x128x257 .f32} (hx : ∀ y, x y ≠ ⊤) {s : ℝ} (k : Fin 257) (hs : x (ix6 0 i h g q k) = (s : EReal)) :
    ∃ M : ℝ, Host.reduce FloatOps.maximumf x (constant S_ .f32 0xFF800000#32) reducesTo_S1x32x4x4x128x257_S1x32x4x4x128_d5 h_S_
      (ix5 0 i h g q) = (M : EReal) := by
  classical
  rw [Host.reduce_eq_fold]
  pointwise
  rw [ofBits_ninf]
  refine real_of_bounds (a := s) ?_ (fold_max_ne_top _ _ hx)
  rw [Finset.le_fold_max]
  exact Or.inr ⟨ix6 0 i h g q k, Finset.mem_filter.mpr ⟨Finset.mem_univ _, funext fun b => by fin_cases b <;> rfl⟩, hs.ge⟩

omit hA in
theorem max_bot_left {x y : FVec Ideal S1x32x4x4x128 .f32} {j : S1x32x4x4x128.Idx} (hx : x j = ⊥) : maximumf x y j = y j := by
  pointwise
  rw [hx, max_eq_right bot_le]

omit hA in
theorem v150 (j : S1x32x4x4x128.Idx) : r150 V j = ⊥ := by
  rw [e150, e_cst_23]
  pointwise
  exact ofBits_ninf

theorem v143_last : r143 V (ix6 0 i h g q (Fin.last 256)) = (((A.blk h i).S (row g q) : ℝ) : EReal) :=
  (v143 hA i h g q (Fin.last 256)).trans (dif_neg (lt_irrefl 256))

theorem v144_real : ∃ M : ℝ, r144 V (ix5 0 i h g q) = (M : EReal) := by
  rw [e144, e_cst_21]
  exact greatest i h g q (v143_top hA) _ (v143_last hA i h g q)

/-- The row's greatest score is a real. -/
theorem v151_real : ∃ M : ℝ, r151 V (ix5 0 i h g q) = (M : EReal) := by
  obtain ⟨M, hM⟩ := v144_real hA i h g q
  refine ⟨M, ?_⟩
  rw [e151, max_bot_left (v150 _), hM]

/-- The row's greatest score. -/
def mx (V : Valuation τ sig (Elt Ideal)) (i : Fin 32) (h g : Fin 4) (q : Fin 128) : ℝ := (r151 V (ix5 0 i h g q)).toReal

theorem v151 : r151 V (ix5 0 i h g q) = ((mx V i h g q : ℝ) : EReal) := by
  obtain ⟨M, hM⟩ := v151_real hA i h g q
  rw [mx, hM, EReal.toReal_coe]

/-- The scale that the greatest score gives. -/
def mE (V : Valuation τ sig (Elt Ideal)) (i : Fin 32) (h g : Fin 4) (q : Fin 128) : ℝ := Real.exp (-mx V i h g q)

omit hA in
theorem mE_ne : mE V i h g q ≠ 0 := (Real.exp_pos _).ne'

theorem v164 (e : Fin 257) : r164 V (ix6 0 i h g q e) = (((A.blk h i).w (row g q) e * mE V i h g q : ℝ) : EReal) := by
  rw [e164, e163, e162, e161]
  pointwise
  rw [v151 hA, v143 hA, Blk.w, wx, mE]
  split
  · rw [wt]
    show Ideal.exp ((if band (0 < i.val) (row g q) _ then _ else _) - _) = (((if band (0 < i.val) (row g q) _ then _ else _) * _ : ℝ) : EReal)
    split
    · rw [← EReal.coe_sub, Ideal.exp_coe, sub_eq_add_neg, Real.exp_add]
    · rw [sub_eq_add_neg, EReal.bot_add, Ideal.exp_bot, zero_mul]; rfl
  · rw [← EReal.coe_sub, Ideal.exp_coe, sub_eq_add_neg, Real.exp_add]

theorem v166 : r166 V (ix6 0 i h g q 0) = (((A.blk h i).n (row g q) * mE V i h g q : ℝ) : EReal) := by
  rw [e166, e165, e_cst_29]
  pointwise
  rw [sum_last]
  simp only [v164 hA, coe_sum]
  rw [← Finset.sum_mul, Blk.sum_w]
  pointwise

omit hA in
theorem nE_ne : (A.blk h i).n (row g q) * mE V i h g q ≠ 0 := mul_ne_zero (Blk.n_pos _ _).ne' (mE_ne i h g q)

theorem v172 (c : Fin 256) : r172 V (ix6 0 i h g q c) = (((A.blk h i).p (row g q) c : ℝ) : EReal) := by
  rw [e172, e168, e167]
  pointwise
  rw [v164 hA, v166 hA, div_real (nE_ne i h g q), mul_div_mul_right _ _ (mE_ne i h g q), Blk.w, wx, dif_pos (by simpa using c.isLt)]
  rfl

theorem v171 : r171 V (ix6 0 i h g q 0)
    = ((1 / ((A.blk h i).n (row g q) * mE V i h g q * ((A.blk h i).n (row g q) * mE V i h g q)) : ℝ) : EReal) := by
  rw [e171, e170, e169, e_cst_30]
  pointwise
  rw [v166 hA, ← EReal.coe_mul, show (1 : EReal) = ((1 : ℝ) : EReal) from rfl, div_real (mul_ne_zero (nE_ne i h g q) (nE_ne i h g q))]

/-! ## The derivative -/

theorem v178 (d : Fin 128) : r178 V (ix6 0 i h d g q) = (((A.blk h i).D (row g q) d : ℝ) : EReal) := by
  rw [e178, e177, e176]
  pointwise
  rw [hA.g, Blk.D, four_row]
  show ((A.g _ _ : ℝ) : EReal) = ((A.g (128 * i.val + q.val) (512 * h.val + (128 * g.val + d.val)) : ℝ) : EReal)
  congr 2 <;> simp only <;> omega

theorem v179 (c : Fin 256) :
    r179 V (ix6 0 i h g q c) = ((dp (A.blk h i).D (zpad (0 < i.val) (A.blk h i).V) (row g q) c : ℝ) : EReal) := by
  rw [e179]
  pointwise
  simp only [v178 hA, v105 hA, ← EReal.coe_mul, coe_sum]
  rfl

/-- The derivatives by a row's probabilities, the sink's zero. -/
def ct (A : Arrs) (i : Fin 32) (h g : Fin 4) (q : Fin 128) : Fin 257 → ℝ :=
  wx (dp (A.blk h i).D (zpad (0 < i.val) (A.blk h i).V) (row g q)) 0

theorem v182 (e : Fin 257) : r182 V (ix6 0 i h g q e) = ((ct A i h g q e : ℝ) : EReal) := by
  rw [e182, e_cst_31]
  pointwise
  rw [ct, wx]
  split
  · rw [v179 hA]
  · rfl

theorem v186 : r186 V (ix5 0 i h g q)
    = (((A.blk h i).s (row g q) / ((A.blk h i).n (row g q) * mE V i h g q) : ℝ) : EReal) := by
  rw [e186, e185, e184, e183, e_cst_32]
  pointwise
  rw [sum_last]
  pointwise
  simp only [v182 hA, v171 hA, v164 hA, ← EReal.coe_mul, coe_sum]
  congr 1
  have e : ∀ e, ct A i h g q e * (1 / ((A.blk h i).n (row g q) * mE V i h g q * ((A.blk h i).n (row g q) * mE V i h g q)))
      * ((A.blk h i).w (row g q) e * mE V i h g q)
      = wx (fun c => dp (A.blk h i).D (zpad (0 < i.val) (A.blk h i).V) (row g q) c * (A.blk h i).p (row g q) c) 0 e
        * (1 / ((A.blk h i).n (row g q) * mE V i h g q)) := by
    intro e
    have h1 := mE_ne (V := V) i h g q
    have h2 := (Blk.n_pos (A.blk h i) (row g q)).ne'
    rw [ct, Blk.w, wx, wx, wx]
    split
    · rw [Blk.p, pr]
      change _ = _ * (_ / (A.blk h i).n (row g q)) * _
      field_simp
    · ring
  rw [Finset.sum_congr rfl fun k _ => e k, ← Finset.sum_mul, sum_wx, add_zero]
  rw [show (∑ c, dp (A.blk h i).D (zpad (0 < i.val) (A.blk h i).V) (row g q) c * (A.blk h i).p (row g q) c) = (A.blk h i).s (row g q) from
    Blk.sum_dp _ _, mul_one_div]

theorem v193 (e : Fin 257) : r193 V (ix6 0 i h g q e)
    = ((-((A.blk h i).s (row g q) / ((A.blk h i).n (row g q) * mE V i h g q)) : ℝ) : EReal) := by
  rw [e193, e192, e191, e_cst_33]
  pointwise
  rw [sum_unit, e188, e187]
  pointwise
  rw [v186 hA, ← EReal.coe_neg]

theorem v195 (e : Fin 257) : r195 V (ix6 0 i h g q e)
    = (((ct A i h g q e - (A.blk h i).s (row g q)) * ((A.blk h i).w (row g q) e / (A.blk h i).n (row g q)) : ℝ) : EReal) := by
  rw [e195, e194, e190, e189]
  pointwise
  rw [v193 hA, v182 hA, v166 hA, v164 hA, div_real (nE_ne i h g q), ← EReal.coe_add, ← EReal.coe_mul]
  congr 1
  have h1 := mE_ne (V := V) i h g q
  have h2 := (Blk.n_pos (A.blk h i) (row g q)).ne'
  field_simp
  ring

theorem v197 : r197 V (ix6 0 i h g q 0)
    = ((dsink (0 < i.val) (A.blk h i).Q (A.blk h i).D (A.blk h i).K (A.blk h i).V (A.blk h i).S (row g q) : ℝ) : EReal) := by
  rw [e197]
  pointwise
  rw [v195 hA, ct, Blk.w, wx, wx, dif_neg (by decide), dif_neg (by decide), dsink, ps]
  congr 1
  change _ = (0 - Real.exp ((A.blk h i).S (row g q)) / (A.blk h i).n (row g q)) * (A.blk h i).s (row g q)
  ring

/-- The sinks' derivatives. -/
theorem v200 : r200 V (ix2 h g) = ((∑ k : Fin 32 × Fin 128,
    dsink (0 < k.1.val) (A.blk h k.1).Q (A.blk h k.1).D (A.blk h k.1).K (A.blk h k.1).V (A.blk h k.1).S (row g k.2) : ℝ) : EReal) := by
  rw [e200, e199, e198, e_cst_34, e_cst_35]
  pointwise
  rw [sum_sinks']
  pointwise
  rw [sum_sinks]
  simp only [v197 hA, coe_sum]
  pointwise

theorem v204 (c : Fin 256) : r204 V (ix6 0 i h g q c) = (((A.blk h i).eS (row g q) c : ℝ) : EReal) := by
  rw [e204, e203, e202, e196, e_call1_v0, e_call1_cst, e_cst_36]
  pointwise
  rw [v139_1, Scalar.select_decide, v195 hA, ofBits_scale, ct, Blk.w, wx, wx, dif_pos (by simpa using c.isLt),
    dif_pos (by simpa using c.isLt)]
  by_cases hb : band (0 < i.val) (row g q) c
  · rw [if_pos hb, ← EReal.coe_mul, Blk.eS, ds, pr]
    congr 1
    change (dp _ _ _ _ - (A.blk h i).s (row g q)) * (wt (0 < i.val) _ _ _ _ / (A.blk h i).n (row g q)) * scale = wt (0 < i.val) _ _ _ _ / (A.blk h i).n (row g q) * (_ - (A.blk h i).s (row g q)) * scale
    simp only [dp, zpad_band _ hb]
    ring
  · rw [if_neg hb, show (A.blk h i).eS (row g q) c = 0 from ds_eq_zero _ _ _ _ _ _ hb]
    simp

end

/-! ## The three products -/

theorem sum_row (f : Fin 512 → ℝ) : ∑ g : Fin 4, ∑ q : Fin 128, f (row g q) = ∑ r, f r := by
  rw [← Fintype.sum_prod_type' (fun g q => f (row g q))]
  refine Fintype.sum_equiv (finProdFinEquiv (m := 4) (n := 128)) _ _ fun x => congrArg f (Fin.ext ?_)
  show 128 * x.1.val + x.2.val = x.2.val + 128 * x.1.val
  omega

include hA

variable (i : Fin 32) (h : Fin 4) (c : Fin 256) (d : Fin 128)

theorem v181 : r181 V (ix5 0 i c h d) = (((A.blk h i).eV c d : ℝ) : EReal) := by
  rw [e181, e180]
  pointwise
  simp only [v178 hA, v172 hA, ← EReal.coe_mul, coe_sum]
  rw [sum_row (fun r => (A.blk h i).D r d * (A.blk h i).p r c), Blk.eV, dvv]
  exact congrArg _ (Finset.sum_congr rfl fun r _ => mul_comm _ _)

theorem v207 (g : Fin 4) (q : Fin 128) : r207 V (ix6 0 i q h g d) = (((A.blk h i).eQ (row g q) d : ℝ) : EReal) := by
  rw [e207, e206, e205]
  pointwise
  simp only [v204 hA, v98 hA, ← EReal.coe_mul, coe_sum]
  rw [Blk.eQ, dqn]
  exact congrArg _ (Finset.sum_congr rfl fun k _ => mul_zpad _ (fun hb => ds_eq_zero _ _ _ _ _ _ hb) d)

theorem v209 : r209 V (ix5 0 i c h d) = (((A.blk h i).eK c d : ℝ) : EReal) := by
  rw [e209, e208, e205]
  pointwise
  simp only [v204 hA, v91 hA, ← EReal.coe_mul, coe_sum]
  rw [Finset.sum_comm, sum_row (fun r => (A.blk h i).eS r c * (A.blk h i).Q r d)]
  rfl

end Cert.ReferenceIdeal.Ops
-- ==== Proof.Val.Sum.lean ====
/-
  What every grid point leaves, as reals: the point's own gradients of the queries, the gradients of the keys and values of the
  block before, gathered from two points, and the running sums of the gains' and the sinks' gradients.
-/
module

public import proofs.«01_k».proof.Proof.Val.Reads

@[expose] public section

set_option maxRecDepth 16384

noncomputable section

namespace Cert.Attn

open Idealize.ShloMosaic Idealize.ShloMosaic.TcCoe Cert.KernelIdeal Cert.KernelIdeal.Gen

namespace Arrs

variable (A : Arrs)

/-- Point `n` of the grid. -/
def at_ (n : ℕ) : Blk := A.blk ⟨n / 33 % 4, Nat.mod_lt _ (by decide)⟩ (n % 33)

/-- The sum of `f` over the points up to `n` that compute. -/
def upto (f : Blk → ℝ) : ℕ → ℝ
  | 0 => f (A.at_ 0)
  | n + 1 => upto f n + if (n + 1) % 33 < 32 then f (A.at_ (n + 1)) else 0

end Arrs

/-- What point `n` leaves. -/
structure Good (A : Arrs) (n : ℕ) (L : Left Ideal) : Prop where
  dq : ∀ (r : Fin 128) (k : Fin 512), L.1 (ix2 r k)
    = (((A.at_ (if n % 33 < 32 then n else n - 1)).oQ ⟨128 * (k.val / 128) + r.val, by omega⟩ ⟨k.val % 128, Nat.mod_lt _ (by decide)⟩ : ℝ) : EReal)
  dk : 0 < n % 33 → ∀ r d, L.2.1 (ix2 r d) = (((A.at_ (n - 1)).oC r d + (if n % 33 < 32 then (A.at_ n).oP r d else 0) : ℝ) : EReal)
  dv : 0 < n % 33 → ∀ r d, L.2.2.1 (ix2 r d)
    = (((A.at_ (n - 1)).eV ⟨128 + r.val, by omega⟩ d + (if n % 33 < 32 then (A.at_ n).eV ⟨r.val, by omega⟩ d else 0) : ℝ) : EReal)
  g : ∀ d, L.2.2.2.1 (ix2 0 d) = ((A.upto (fun b => b.oG d) n : ℝ) : EReal)
  h : ∀ d, L.2.2.2.2.1 (ix2 0 d) = ((A.upto (fun b => b.oH d) n : ℝ) : EReal)
  s : ∀ d, L.2.2.2.2.2.1 (ix2 0 d) = ((A.upto (fun b => b.oS d) n : ℝ) : EReal)
  ck : n % 33 < 32 → ∀ r d, L.2.2.2.2.2.2.1 (ix2 r d) = (((A.at_ n).oC r d : ℝ) : EReal)
  cv : n % 33 < 32 → ∀ r d, L.2.2.2.2.2.2.2 (ix2 r d) = (((A.at_ n).eV ⟨128 + r.val, by omega⟩ d : ℝ) : EReal)

variable {m : (ℓ : Loc nD τ sig) → Buf (Elt Ideal) ℓ} {c : Dev nD} {A : Arrs} (hA : LaunchOf m c A)
include hA

theorem holds_at (t : Fin cfg0.N) (ht : t.val % 33 < 32) (h : cond0_2 (grid0.coords t)) : Holds (pt m c t h) (A.at_ t.val) :=
  holds t hA ht h _ (by have := tlt t; show t.val / 33 = t.val / 33 % 4; omega)

theorem good (n : ℕ) (hn : n < cfg0.N) : Good A n (outsAt0 m c n hn) := by
  induction n with
  | zero =>
    rw [outsAt0_A m c ⟨0, hn⟩ rfl, leftA_eq]
    have H := holds_at hA ⟨0, hn⟩ (show 0 % 33 < 32 by decide) (caseA ⟨0, hn⟩ rfl).2.2.1
    exact {
      dq := fun r k => H.done_dq r k
      dk := fun h => absurd h (by decide)
      dv := fun h => absurd h (by decide)
      g := fun d => (H.done_g (a := fun _ => 0) pay1 d).trans (by rw [zero_add]; rfl)
      h := fun d => (H.done_h (a := fun _ => 0) pay1 d).trans (by rw [zero_add]; rfl)
      s := fun d => (H.done_s (a := fun _ => 0) pay1 d).trans (by rw [zero_add]; rfl)
      ck := fun _ r d => H.done_ck r d
      cv := fun _ r d => H.done_cv r d }
  | succ n ih =>
    have P := ih (by omega)
    have up : ∀ f : Blk → ℝ, (n + 1) % 33 < 32 → A.upto f (n + 1) = A.upto f n + f (A.at_ (n + 1)) := fun f h => by
      rw [Arrs.upto, if_pos h]
    by_cases h0 : (n + 1) % 33 = 0
    · rw [outsAt0_D m c ⟨n + 1, hn⟩ (Nat.succ_ne_zero n) h0, leftD_eq]
      have hlt : (n + 1) % 33 < 32 := by omega
      have H := holds_at hA ⟨n + 1, hn⟩ hlt (caseD ⟨n + 1, hn⟩ (Nat.succ_ne_zero n) h0).2.2.1
      exact {
        dq := fun r k => (H.done_dq r k).trans (by rw [if_pos hlt])
        dk := fun h => absurd h (by omega)
        dv := fun h => absurd h (by omega)
        g := fun d => (H.done_g P.g d).trans (by rw [up _ hlt])
        h := fun d => (H.done_h P.h d).trans (by rw [up _ hlt])
        s := fun d => (H.done_s P.s d).trans (by rw [up _ hlt])
        ck := fun _ r d => H.done_ck r d
        cv := fun _ r d => H.done_cv r d }
    by_cases h1 : (n + 1) % 33 = 32
    · rw [outsAt0_C m c ⟨n + 1, hn⟩ h1, leftC_eq]
      have hlt : ¬(n + 1) % 33 < 32 := by omega
      have up' : ∀ f : Blk → ℝ, A.upto f (n + 1) = A.upto f n := fun f => by rw [Arrs.upto, if_neg hlt, add_zero]
      exact {
        dq := fun r k => (P.dq r k).trans (by rw [if_neg hlt, if_pos (by omega)]; rfl)
        dk := fun _ r d => (pay6 _ r d).trans ((P.ck (by omega) r d).trans (by rw [if_neg hlt, add_zero]; rfl))
        dv := fun _ r d => (pay6 _ r d).trans ((P.cv (by omega) r d).trans (by rw [if_neg hlt, add_zero]; rfl))
        g := fun d => (P.g d).trans (by rw [up'])
        h := fun d => (P.h d).trans (by rw [up'])
        s := fun d => (P.s d).trans (by rw [up'])
        ck := fun h => absurd h hlt
        cv := fun h => absurd h hlt }
    · rw [outsAt0_B m c ⟨n + 1, hn⟩ h0 h1, leftB_eq]
      have hlt : (n + 1) % 33 < 32 := by omega
      have H := holds_at hA ⟨n + 1, hn⟩ hlt (caseB ⟨n + 1, hn⟩ h0 h1).2.2.1
      exact {
        dq := fun r k => (H.done_dq r k).trans (by rw [if_pos hlt])
        dk := fun _ r d => (H.done_dk (P.ck (by omega)) r d).trans (by rw [if_pos hlt]; rfl)
        dv := fun _ r d => (H.done_dv (P.cv (by omega)) r d).trans (by rw [if_pos hlt]; rfl)
        g := fun d => (H.done_g P.g d).trans (by rw [up _ hlt])
        h := fun d => (H.done_h P.h d).trans (by rw [up _ hlt])
        s := fun d => (H.done_s P.s d).trans (by rw [up _ hlt])
        ck := fun _ r d => H.done_ck r d
        cv := fun _ r d => H.done_cv r d }

end Cert.Attn
-- ==== Proof.Val.Arr.lean ====
/-
  The kernel's results as reals: what the launch leaves in its six arrays.
-/
module

public import proofs.«01_k».proof.Proof.Val.Sum
public import proofs.«01_k».proof.Proof.Run.Frame

@[expose] public section

set_option maxRecDepth 16384

noncomputable section

namespace Cert.Attn

open Idealize.ShloMosaic Idealize.ShloMosaic.TcCoe Cert.KernelIdeal Cert.KernelIdeal.Gen Idealize.SL.Sem

namespace Arrs

variable (A : Arrs)

/-- Head `h`'s block `i`. -/
def bk (h i : ℕ) : Blk := A.blk ⟨h % 4, Nat.mod_lt _ (by decide)⟩ i

/-- Lane `k` of a head. -/
def ln (k : ℕ) : Fin 128 := ⟨k % 128, Nat.mod_lt _ (by decide)⟩

/-- The gradients by the query, key and value columns: row `r`, column `k`. -/
def dq (r k : ℕ) : ℝ :=
  (A.bk (k / 512) (r / 128)).oQ ⟨128 * (k % 512 / 128) + r % 128, by omega⟩ (ln k)
def dk (r k : ℕ) : ℝ :=
  (A.bk (k / 128) (r / 128)).oC (ln r) (ln k)
    + if r / 128 < 31 then (A.bk (k / 128) (r / 128 + 1)).oP (ln r) (ln k) else 0
def dv (r k : ℕ) : ℝ :=
  (A.bk (k / 128) (r / 128)).eV ⟨128 + r % 128, by omega⟩ (ln k)
    + if r / 128 < 31 then (A.bk (k / 128) (r / 128 + 1)).eV ⟨r % 128, by omega⟩ (ln k) else 0

theorem at_eq (n h i : ℕ) (hh : n / 33 = h) (hi : n % 33 = i) : A.at_ n = A.bk h i := by
  subst hh hi; rfl

theorem dq_at (n : ℕ) (r : Fin 128) (k : Fin 512) :
    (A.at_ (if n % 33 < 32 then n else n - 1)).oQ ⟨128 * (k.val / 128) + r.val, by omega⟩ ⟨k.val % 128, Nat.mod_lt _ (by decide)⟩
      = A.dq (min (n % 33) 31 * 128 + r.val) (n / 33 * 512 + k.val) := by
  rw [dq, A.at_eq _ ((n / 33 * 512 + k.val) / 512) ((min (n % 33) 31 * 128 + r.val) / 128) (by split <;> omega) (by split <;> omega)]
  congr 1 <;> apply Fin.ext
  · show 128 * (k.val / 128) + r.val = 128 * ((n / 33 * 512 + k.val) % 512 / 128) + (min (n % 33) 31 * 128 + r.val) % 128
    omega
  · show k.val % 128 = (n / 33 * 512 + k.val) % 128
    omega

theorem ln_at (a : ℕ) (r : Fin 128) : ln (a * 128 + r.val) = r := Fin.ext (by show (a * 128 + r.val) % 128 = r.val; omega)

theorem dk_at (n : ℕ) (h : 0 < n % 33) (r d : Fin 128) :
    (A.at_ (n - 1)).oC r d + (if n % 33 < 32 then (A.at_ n).oP r d else 0)
      = A.dk ((n % 33 - 1) * 128 + r.val) (n / 33 * 128 + d.val) := by
  rw [dk, A.at_eq (n - 1) ((n / 33 * 128 + d.val) / 128) (((n % 33 - 1) * 128 + r.val) / 128) (by omega) (by omega),
    A.at_eq n ((n / 33 * 128 + d.val) / 128) (((n % 33 - 1) * 128 + r.val) / 128 + 1) (by omega) (by omega), ln_at, ln_at]
  congr 1
  exact if_congr (by omega) rfl rfl

theorem dv_at (n : ℕ) (h : 0 < n % 33) (r d : Fin 128) :
    (A.at_ (n - 1)).eV ⟨128 + r.val, by omega⟩ d + (if n % 33 < 32 then (A.at_ n).eV ⟨r.val, by omega⟩ d else 0)
      = A.dv ((n % 33 - 1) * 128 + r.val) (n / 33 * 128 + d.val) := by
  have hr : ((n % 33 - 1) * 128 + r.val) % 128 = r.val := by omega
  rw [dv, A.at_eq (n - 1) ((n / 33 * 128 + d.val) / 128) (((n % 33 - 1) * 128 + r.val) / 128) (by omega) (by omega),
    A.at_eq n ((n / 33 * 128 + d.val) / 128) (((n % 33 - 1) * 128 + r.val) / 128 + 1) (by omega) (by omega), ln_at]
  simp only [hr]
  congr 1
  exact if_congr (by omega) rfl rfl

end Arrs

theorem ix_16 : ∀ t : Fin cfg0.N, win0_16.index t = ![0, 0] := (by decide +kernel : ∀ t : Fin grid0.N, _)
theorem ix_17 : ∀ t : Fin cfg0.N, win0_17.index t = ![0, 0] := (by decide +kernel : ∀ t : Fin grid0.N, _)
theorem ix_18 : ∀ t : Fin cfg0.N, win0_18.index t = ![0, 0] := (by decide +kernel : ∀ t : Fin grid0.N, _)

variable {m : (ℓ : Loc nD τ sig) → Buf (Elt Ideal) ℓ} {c : Dev nD} {A : Arrs} (hA : LaunchOf m c A)
include hA

theorem arr13 : (dats m 0 c).arrAt 13 cfg0.N = fun i : S4096x2048.Idx => ((A.dq (i 0).val (i 1).val : ℝ) : EReal) := by
  refine (dats m 0 c).arrAt_eq_of_covers 13 _ (by decide +kernel) fun t hf y => ?_
  blk_simp
  rw [after0_13]
  have hy : y = ix2 (n0 := 128) (n1 := 512) (y 0) (y 1) := funext fun a => by fin_cases a <;> rfl
  rw [hy]
  refine ((good hA t.val t.isLt).dq _ _).trans (congrArg _ ?_)
  rw [ix_13 t]
  exact A.dq_at t.val _ _

theorem arr14 : (dats m 0 c).arrAt 14 cfg0.N = fun i : S4096x512.Idx => ((A.dk (i 0).val (i 1).val : ℝ) : EReal) := by
  refine (dats m 0 c).arrAt_eq_of_covers 14 _ (by decide +kernel) fun t hf y => ?_
  blk_simp
  rw [after0_14]
  have hy : y = ix2 (n0 := 128) (n1 := 128) (y 0) (y 1) := funext fun a => by fin_cases a <;> rfl
  rw [hy]
  refine ((good hA t.val t.isLt).dk (by have := (flush0_14 t).mp hf; omega) _ _).trans (congrArg _ ?_)
  rw [ix_14 t]
  exact A.dk_at t.val (by have := (flush0_14 t).mp hf; omega) _ _

theorem arr15 : (dats m 0 c).arrAt 15 cfg0.N = fun i : S4096x512.Idx => ((A.dv (i 0).val (i 1).val : ℝ) : EReal) := by
  refine (dats m 0 c).arrAt_eq_of_covers 15 _ (by decide +kernel) fun t hf y => ?_
  blk_simp
  rw [after0_15]
  have hy : y = ix2 (n0 := 128) (n1 := 128) (y 0) (y 1) := funext fun a => by fin_cases a <;> rfl
  rw [hy]
  refine ((good hA t.val t.isLt).dv (by have := (flush0_15 t).mp hf; omega) _ _).trans (congrArg _ ?_)
  rw [ix_15 t]
  exact A.dv_at t.val (by have := (flush0_15 t).mp hf; omega) _ _

theorem arr16 : (dats m 0 c).arrAt 16 cfg0.N = fun i : S1x128.Idx => ((A.upto (fun b => b.oG (i 1)) 131 : ℝ) : EReal) := by
  refine (dats m 0 c).arrAt_eq_of_covers 16 _ (by decide +kernel) fun t hf y => ?_
  blk_simp
  rw [after0_16]
  have ht : t.val = 131 := (by decide +kernel : ∀ t : Fin grid0.N, win0_16.flush t = true → t.val = 131) t hf
  have hy : y = ix2 (n0 := 1) (n1 := 128) 0 (y 1) := funext fun a => by
    fin_cases a
    · exact Fin.ext (by have h : (y 0).val < 1 := (y 0).isLt; show (y 0).val = 0; omega)
    · rfl
  refine (congrArg _ hy).trans (((good hA t.val t.isLt).g (y 1)).trans ?_)
  rw [ht]
  have h1 : ((win0_16.blk t).view.emb y 1 : Fin 128) = y 1 := Fin.ext (by blk_simp [ix_16 t])
  exact congrArg (fun k => ((A.upto (fun b => b.oG k) 131 : ℝ) : EReal)) h1.symm

theorem arr17 : (dats m 0 c).arrAt 17 cfg0.N = fun i : S1x128.Idx => ((A.upto (fun b => b.oH (i 1)) 131 : ℝ) : EReal) := by
  refine (dats m 0 c).arrAt_eq_of_covers 17 _ (by decide +kernel) fun t hf y => ?_
  blk_simp
  rw [after0_17]
  have ht : t.val = 131 := (by decide +kernel : ∀ t : Fin grid0.N, win0_17.flush t = true → t.val = 131) t hf
  have hy : y = ix2 (n0 := 1) (n1 := 128) 0 (y 1) := funext fun a => by
    fin_cases a
    · exact Fin.ext (by have h : (y 0).val < 1 := (y 0).isLt; show (y 0).val = 0; omega)
    · rfl
  refine (congrArg _ hy).trans (((good hA t.val t.isLt).h (y 1)).trans ?_)
  rw [ht]
  have h1 : ((win0_17.blk t).view.emb y 1 : Fin 128) = y 1 := Fin.ext (by blk_simp [ix_17 t])
  exact congrArg (fun k => ((A.upto (fun b => b.oH k) 131 : ℝ) : EReal)) h1.symm

theorem arr18 : (dats m 0 c).arrAt 18 cfg0.N = fun i : S1x128.Idx => ((A.upto (fun b => b.oS (i 1)) 131 : ℝ) : EReal) := by
  refine (dats m 0 c).arrAt_eq_of_covers 18 _ (by decide +kernel) fun t hf y => ?_
  blk_simp
  rw [after0_18]
  have ht : t.val = 131 := (by decide +kernel : ∀ t : Fin grid0.N, win0_18.flush t = true → t.val = 131) t hf
  have hy : y = ix2 (n0 := 1) (n1 := 128) 0 (y 1) := funext fun a => by
    fin_cases a
    · exact Fin.ext (by have h : (y 0).val < 1 := (y 0).isLt; show (y 0).val = 0; omega)
    · rfl
  refine (congrArg _ hy).trans (((good hA t.val t.isLt).s (y 1)).trans ?_)
  rw [ht]
  have h1 : ((win0_18.blk t).view.emb y 1 : Fin 128) = y 1 := Fin.ext (by blk_simp [ix_18 t])
  exact congrArg (fun k => ((A.upto (fun b => b.oS k) 131 : ℝ) : EReal)) h1.symm

omit hA in
/-- The launch ends with its six results at these reals, and its arguments as they were. -/
theorem kernel_run (ρ : Dev nD → PrngReg) (B : Dev nD → Arrs) (hB : ∀ c, LaunchOf m c (B c)) :
    θ_run defs (onTc (τ := τ) (main (F := Ideal))) ⟨m, fun _ => 0, ρ⟩ fun r => ∀ c : Dev nD,
      (r.2.mem (c.tc.loc main_v25_0) = (fun i : S4096x2048.Idx => (((B c).dq (i 0).val (i 1).val : ℝ) : EReal))
      ∧ r.2.mem (c.tc.loc main_v25_1) = (fun i : S4096x512.Idx => (((B c).dk (i 0).val (i 1).val : ℝ) : EReal))
      ∧ r.2.mem (c.tc.loc main_v25_2) = (fun i : S4096x512.Idx => (((B c).dv (i 0).val (i 1).val : ℝ) : EReal))
      ∧ r.2.mem (c.tc.loc main_v25_3) = (fun i : S1x128.Idx => (((B c).upto (fun b => b.oG (i 1)) 131 : ℝ) : EReal))
      ∧ r.2.mem (c.tc.loc main_v25_4) = (fun i : S1x128.Idx => (((B c).upto (fun b => b.oH (i 1)) 131 : ℝ) : EReal))
      ∧ r.2.mem (c.tc.loc main_v25_5) = (fun i : S1x128.Idx => (((B c).upto (fun b => b.oS (i 1)) 131 : ℝ) : EReal)))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5) :=
  (θ_run defs _ _).mono (fun _ h c =>
    ⟨⟨((h c).1 13).trans (arr13 (hB c)), ((h c).1 14).trans (arr14 (hB c)), ((h c).1 15).trans (arr15 (hB c)),
      ((h c).1 16).trans (arr16 (hB c)), ((h c).1 17).trans (arr17 (hB c)), ((h c).1 18).trans (arr18 (hB c))⟩,
      ((h c).1 12).trans (((dats m 0 c).arrAt_in 12 rfl _).trans ((A_eq m c 12).trans (V_main_arg0 m c))),
      ((h c).1 5).trans (((dats m 0 c).arrAt_in 5 rfl _).trans ((A_eq m c 5).trans (V_main_arg1 m c))),
      ((h c).2 main_arg2 (Pipeline.mem_restRefs_of main_arg2 (by decide) (by decide))).trans (V_main_arg2 m c),
      ((h c).1 10).trans (((dats m 0 c).arrAt_in 10 rfl _).trans ((A_eq m c 10).trans (V_main_arg3 m c))),
      ((h c).1 11).trans (((dats m 0 c).arrAt_in 11 rfl _).trans ((A_eq m c 11).trans (V_main_arg4 m c))),
      ((h c).2 main_arg5 (Pipeline.mem_restRefs_of main_arg5 (by decide) (by decide))).trans (V_main_arg5 m c)⟩)
    (run_main m ρ)

end Cert.Attn
-- ==== Proof.Ref.ReadC.lean ====
/-
  The reference's derivatives by the query, key and value columns, read as real numbers: the adjoints of the windows, of the
  rotary embedding and of the norms.
-/
module

public import proofs.«01_k».proof.Proof.Ref.ReadB
public import proofs.«01_k».proof.Proof.Val.Arr

@[expose] public section

set_option maxRecDepth 16384

noncomputable section

namespace Cert.Attn

open Idealize.ShloMosaic

/-! ## The adjoints are linear in the derivative -/

theorem sw_add (a b : Fin 128 → ℝ) (d : Fin 128) : sw (fun k => a k + b k) d = sw a d + sw b d := by
  unfold sw; split
  · rfl
  · split
    · rfl
    · ring

theorem ropeB_add (c s a b : Fin 128 → ℝ) (d : Fin 128) :
    ropeB c s (fun k => a k + b k) d = ropeB c s a d + ropeB c s b d := by
  have : (fun k => (a k + b k) * s k) = fun k => a k * s k + b k * s k := funext fun k => add_mul _ _ _
  rw [ropeB, this, sw_add, ropeB, ropeB]; ring

theorem ropeB_zero (c s : Fin 128 → ℝ) (d : Fin 128) : ropeB c s (fun _ => 0) d = 0 := by
  rw [ropeB, sw]; simp

theorem normB_add (g x a b : Fin 128 → ℝ) (d : Fin 128) :
    normB g x (fun k => a k + b k) d = normB g x a d + normB g x b d := by
  have : (∑ k, (a k + b k) * g k * xhat x k) = (∑ k, a k * g k * xhat x k) + ∑ k, b k * g k * xhat x k := by
    rw [← Finset.sum_add_distrib]; exact Finset.sum_congr rfl fun k _ => by ring
  rw [normB, normB, normB, this]; ring

theorem normB_zero (g x : Fin 128 → ℝ) (d : Fin 128) : normB g x (fun _ => 0) d = 0 := by
  rw [normB]; simp

theorem rs_sq (x : Fin 128 → ℝ) : rs x * rs x = 1 / ms x := by
  rw [rs, ← mul_inv, Real.mul_self_sqrt (ms_pos x).le, one_div]; rfl

/-- The norm's adjoint as the reference writes it. -/
theorem normB_eq (g x dy : Fin 128 → ℝ) (d : Fin 128) :
    dy d * g d * rs x + x d * ((∑ k, x k * (dy k * g k)) * (-(1 / 2) * (rs x / ms x)) / 128)
      + (∑ k, x k * (dy k * g k)) * (-(1 / 2) * (rs x / ms x)) / 128 * x d = normB g x dy d := by
  have e : (∑ k, dy k * g k * xhat x k) = (∑ k, x k * (dy k * g k)) * rs x := by
    rw [Finset.sum_mul]; exact Finset.sum_congr rfl fun k _ => by rw [xhat]; ring
  have h : rs x / ms x = rs x * (rs x * rs x) := by rw [rs_sq, mul_one_div]
  rw [normB, e, xhat, h]; ring

namespace Arrs

variable (A : Arrs)

/-- The derivatives by token `r`'s rotated query and key rows. -/
def gq (r h : ℕ) (d : Fin 128) : ℝ := (A.bk (h / 4) (r / 128)).eQ ⟨128 * (h % 4) + r % 128, by omega⟩ d
def gk (r h : ℕ) (d : Fin 128) : ℝ := (A.bk h (r / 128)).eK ⟨128 + r % 128, by omega⟩ d
  + if r / 128 < 31 then (A.bk h (r / 128 + 1)).eK ⟨r % 128, by omega⟩ d else 0

/-- The same before the rotary embedding. -/
def hq (r h : ℕ) (d : Fin 128) : ℝ := ropeB (cosT A.p r) (sinT A.p r) (A.gq r h) d
def hk (r h : ℕ) (d : Fin 128) : ℝ := ropeB (cosT A.p r) (sinT A.p r) (A.gk r h) d

theorem zq_row (h i q n : ℕ) (hq : q < 128) (r : Fin 512) (hr : r.val = 128 * (n % 4) + q) (hh : n / 4 = h) (h4 : h < 4) :
    four (A.bk h i).zq r = A.qrow (128 * i + q) n := by
  rw [four_eq _ r (n % 4) ⟨q, hq⟩ hr]
  funext d
  show A.z (128 * i + q) (512 * (h % 4) + (128 * (n % 4) + d.val)) = A.z (128 * i + q) (128 * n + d.val)
  congr 1; omega

theorem yQ_eq (r n : ℕ) (hn : n < 16) : (A.bk (n / 4) (r / 128)).yQ ⟨128 * (n % 4) + r % 128, by omega⟩ = A.hq r n := by
  have e : 128 * (r / 128) + r % 128 = r := by omega
  funext d
  rw [Blk.yQ, four_eq _ _ (n % 4) ⟨r % 128, Nat.mod_lt _ (by decide)⟩ rfl, four_eq _ _ (n % 4) ⟨r % 128, Nat.mod_lt _ (by decide)⟩ rfl]
  show ropeB (cosT A.p (128 * (r / 128) + r % 128)) (sinT A.p (128 * (r / 128) + r % 128)) _ d = _
  rw [e]; rfl

theorem xQ_eq (r n : ℕ) (hn : n < 16) : four (A.bk (n / 4) (r / 128)).zq ⟨128 * (n % 4) + r % 128, by omega⟩ = A.qrow r n := by
  have e : 128 * (r / 128) + r % 128 = r := by omega
  rw [A.zq_row _ _ (r % 128) n (Nat.mod_lt _ (by decide)) _ rfl rfl (by omega), e]

theorem dq_eq (r k : ℕ) (hk : k < 2048) : A.dq r k = normB A.qg (A.qrow r (k / 128)) (A.hq r (k / 128)) (ln k) := by
  have e1 : k / 512 = k / 128 / 4 := by omega
  have e2 : k % 512 / 128 = k / 128 % 4 := by omega
  rw [dq]
  simp only [e1, e2]
  rw [Blk.oQ, A.yQ_eq r (k / 128) (by omega), A.xQ_eq r (k / 128) (by omega)]
  rfl

theorem kc_eq (r h : ℕ) (hh : h < 4) : (A.bk h (r / 128)).kc (ln r) = A.krow r h := by
  have e : 128 * (r / 128) + r % 128 = r := by omega
  funext d
  show A.z (128 * (r / 128) + r % 128) (2048 + 128 * (h % 4) + d.val) = A.z r (2048 + 128 * h + d.val)
  rw [e, Nat.mod_eq_of_lt hh]

theorem kp_eq (r h : ℕ) (hh : h < 4) : (A.bk h (r / 128 + 1)).kp (ln r) = A.krow r h := by
  have e : 128 * (r / 128 + 1 - 1) + r % 128 = r := by omega
  funext d
  show A.z (128 * (r / 128 + 1 - 1) + r % 128) (2048 + 128 * (h % 4) + d.val) = A.z r (2048 + 128 * h + d.val)
  rw [e, Nat.mod_eq_of_lt hh]

theorem yC_eq (r h : ℕ) (d : Fin 128) : (A.bk h (r / 128)).yC (ln r) d
    = ropeB (cosT A.p r) (sinT A.p r) ((A.bk h (r / 128)).eK ⟨128 + r % 128, by omega⟩) d := by
  have e : 128 * (r / 128) + r % 128 = r := by omega
  show ropeB (cosT A.p (128 * (r / 128) + r % 128)) (sinT A.p (128 * (r / 128) + r % 128)) _ d = _
  rw [e]; rfl

theorem yP_eq (r h : ℕ) (d : Fin 128) : (A.bk h (r / 128 + 1)).yP (ln r) d
    = ropeB (cosT A.p r) (sinT A.p r) ((A.bk h (r / 128 + 1)).eK ⟨r % 128, by omega⟩) d := by
  have e : 128 * (r / 128 + 1 - 1) + r % 128 = r := by omega
  show ropeB (cosT A.p (128 * (r / 128 + 1 - 1) + r % 128)) (sinT A.p (128 * (r / 128 + 1 - 1) + r % 128)) _ d = _
  rw [e]; rfl

theorem hk_eq (r h : ℕ) (d : Fin 128) : A.hk r h d
    = (A.bk h (r / 128)).yC (ln r) d + if r / 128 < 31 then (A.bk h (r / 128 + 1)).yP (ln r) d else 0 := by
  rw [yC_eq, yP_eq, hk]
  unfold gk
  rw [ropeB_add]
  split
  · rfl
  · rw [ropeB_zero]

theorem kg_bk (h i : ℕ) : (A.bk h i).kg = A.kg := rfl

theorem bk_fin (h : Fin 4) (i : ℕ) : A.bk h.val i = A.blk h i :=
  congrArg (fun a => A.blk a i) (Fin.ext (Nat.mod_eq_of_lt h.isLt))

theorem dk_eq (r k : ℕ) (hk' : k < 512) : A.dk r k = normB A.kg (A.krow r (k / 128)) (A.hk r (k / 128)) (ln k) := by
  have e : A.hk r (k / 128) = fun d => (A.bk (k / 128) (r / 128)).yC (ln r) d
      + if r / 128 < 31 then (A.bk (k / 128) (r / 128 + 1)).yP (ln r) d else 0 := funext (A.hk_eq r (k / 128))
  rw [e, normB_add, dk, Blk.oC, Blk.oP, kg_bk, kg_bk, A.kc_eq r _ (by omega), A.kp_eq r _ (by omega)]
  by_cases h : r / 128 < 31
  · simp only [if_pos h]
  · simp only [if_neg h, normB_zero]

end Arrs

end Cert.Attn

namespace Cert.ReferenceIdeal.Ops

open Cert.ReferenceIdeal Cert.ReferenceIdeal.Gen Idealize.ShloMosaic Idealize.ShloMosaic.TcCoe Cert.Attn

variable {V : Valuation τ sig (Elt Ideal)} {A : Arrs} (hA : A.Of (a0 V) (a1 V) (a2 V) (a3 V) (a4 V) (a5 V))
include hA

/-! ## The windows -/

theorem v216 (r : Fin 4096) (h : Fin 4) (d : Fin 128) : r216 V (ix4 0 r h d)
    = (((A.bk h (r.val / 128)).eV ⟨128 + r.val % 128, by omega⟩ d
      + (if r.val / 128 < 31 then (A.bk h (r.val / 128 + 1)).eV ⟨r.val % 128, by omega⟩ d else 0) : ℝ) : EReal) := by
  rw [A.bk_fin, A.bk_fin]
  by_cases hr : r.val / 128 < 31
  · rw [if_pos hr, EReal.coe_add, e216, e215, e214, e213, e211, e210, e_cst_37]
    pointwise
    refine congrArg₂ (· + ·) (v181 hA _ h _ d) ?_
    refine (dif_pos (⟨hr, Nat.mod_lt _ (by decide)⟩ : r.val / 128 < 31 ∧ r.val % 128 < 128)).trans ((v181 hA _ h _ d).trans ?_)
    exact congrArg (fun i : ℕ => (((A.blk h i).eV ⟨r.val % 128, by omega⟩ d : ℝ) : EReal)) (Nat.add_comm 1 _)
  · rw [if_neg hr, add_zero, e216, e215, e214, e213, e211, e210, e_cst_37]
    pointwise
    refine (congrArg₂ (· + ·) (v181 hA _ h _ d) (dif_neg fun x => hr x.1)).trans (add_zero _)

theorem v223 (r : Fin 4096) (h : Fin 4) (d : Fin 128) : r223 V (ix4 0 r h d) = ((A.gk r h d : ℝ) : EReal) := by
  rw [Arrs.gk]
  rw [A.bk_fin, A.bk_fin]
  by_cases hr : r.val / 128 < 31
  · rw [if_pos hr, EReal.coe_add, e223, e222, e221, e220, e218, e217, e_cst_38]
    pointwise
    refine congrArg₂ (· + ·) (v209 hA _ h _ d) ?_
    refine (dif_pos (⟨hr, Nat.mod_lt _ (by decide)⟩ : r.val / 128 < 31 ∧ r.val % 128 < 128)).trans ((v209 hA _ h _ d).trans ?_)
    exact congrArg (fun i : ℕ => (((A.blk h i).eK ⟨r.val % 128, by omega⟩ d : ℝ) : EReal)) (Nat.add_comm 1 _)
  · rw [if_neg hr, add_zero, e223, e222, e221, e220, e218, e217, e_cst_38]
    pointwise
    refine (congrArg₂ (· + ·) (v209 hA _ h _ d) (dif_neg fun x => hr x.1)).trans (add_zero _)

theorem v224 (r : Fin 4096) (h : Fin 16) (d : Fin 128) : r224 V (ix4 0 r h d) = ((A.gq r h d : ℝ) : EReal) := by
  rw [e224, Arrs.gq, A.bk_fin ⟨h.val / 4, by omega⟩]
  pointwise
  exact v207 hA _ _ d _ _

/-! ## The rotary embedding -/

theorem v245 (r : Fin 4096) (h : Fin 4) (d : Fin 128) : r245 V (ix4 0 r h d) = ((A.hk r h d : ℝ) : EReal) := by
  rw [e245, e244, e243, e242, e241, e_cst_39, e_cst_40, e_cst_41, e240, e239, e238, e237, e236, e235, e234, e233, e232,
    e231, e230, e229, e228, e227, Arrs.hk]
  pointwise
  have hd := d.isLt
  by_cases h1 : d.val < 16
  · rw [dif_neg (by omega), dif_neg (by omega), dif_pos h1, ropeB_lo _ _ _ d h1 ⟨d.val + 16, by omega⟩ rfl, v223 hA, v223 hA,
      v17 hA, v19 hA, ← EReal.coe_mul, ← EReal.coe_mul, ← EReal.coe_add, add_zero, zero_add, add_comm]
    simp only [Nat.add_comm 16]
  · by_cases h2 : d.val < 32
    · have e : (⟨16 + (d.val - 16), by omega⟩ : Fin 128) = d := Fin.ext (by simp only; omega)
      rw [dif_neg (by omega), dif_pos (by omega), dif_neg h1, ropeB_mid _ _ _ d h1 (by omega) ⟨d.val - 16, by omega⟩ rfl, v223 hA,
        v223 hA, v17 hA, v19 hA, ← EReal.coe_neg, ← EReal.coe_mul, ← EReal.coe_mul, ← EReal.coe_add, add_zero, zero_add, e]
    · have e : (⟨32 + (d.val - 32), by omega⟩ : Fin 128) = d := Fin.ext (by simp only; omega)
      rw [dif_pos (by omega), dif_neg (by omega), dif_neg h1, ropeB_hi _ _ _ d h2, v223 hA, add_zero, add_zero, e]

theorem v264 (r : Fin 4096) (h : Fin 16) (d : Fin 128) : r264 V (ix4 0 r h d) = ((A.hq r h d : ℝ) : EReal) := by
  rw [e264, e263, e262, e261, e260, e_cst_42, e_cst_43, e_cst_44, e259, e258, e257, e256, e255, e254, e253, e252, e251,
    e250, e249, e248, e247, e246, Arrs.hq]
  pointwise
  have hd := d.isLt
  by_cases h1 : d.val < 16
  · rw [dif_neg (by omega), dif_neg (by omega), dif_pos h1, ropeB_lo _ _ _ d h1 ⟨d.val + 16, by omega⟩ rfl, v224 hA, v224 hA,
      v17 hA, v19 hA, ← EReal.coe_mul, ← EReal.coe_mul, ← EReal.coe_add, add_zero, zero_add, add_comm]
    simp only [Nat.add_comm 16]
  · by_cases h2 : d.val < 32
    · have e : (⟨16 + (d.val - 16), by omega⟩ : Fin 128) = d := Fin.ext (by simp only; omega)
      rw [dif_neg (by omega), dif_pos (by omega), dif_neg h1, ropeB_mid _ _ _ d h1 (by omega) ⟨d.val - 16, by omega⟩ rfl, v224 hA,
        v224 hA, v17 hA, v19 hA, ← EReal.coe_neg, ← EReal.coe_mul, ← EReal.coe_mul, ← EReal.coe_add, add_zero, zero_add, e]
    · have e : (⟨32 + (d.val - 32), by omega⟩ : Fin 128) = d := Fin.ext (by simp only; omega)
      rw [dif_pos (by omega), dif_neg (by omega), dif_neg h1, ropeB_hi _ _ _ d h2, v224 hA, add_zero, add_zero, e]

/-! ## The norms -/

theorem v285 (r : Fin 4096) (h : Fin 4) (d : Fin 128) :
    r285 V (ix4 0 r h d) = ((normB A.kg (A.krow r h) (A.hk r h) d : ℝ) : EReal) := by
  have e269 : ∀ d, r269 V (ix4 0 r h d) = ((A.hk r h d * A.kg d : ℝ) : EReal) := fun d => by
    rw [e269, e268]
    pointwise
    rw [v245 hA, v58 hA, ← EReal.coe_mul]
  have e281 : ∀ d, r281 V (ix4 0 r h d) = (((∑ k, A.krow r h k * (A.hk r h k * A.kg k))
      * (-(1 / 2) * (rs (A.krow r h) / ms (A.krow r h))) / 128 : ℝ) : EReal) := fun d => by
    rw [e281, e280, e279, e278, e277, e276, e273, e272, e271, e_cst_47, e_cst_48, e_cst_49]
    pointwise
    rw [sum_one_k]
    pointwise
    simp only [v43 hA, e269, v55 hA, ofBits_128, ← EReal.coe_mul, coe_sum, div_128]
  rw [e285, e284, e283, e282, e275, e274]
  pointwise
  rw [e269, e281, v43 hA, v52 hA]
  simp only [← EReal.coe_mul, ← EReal.coe_add]
  rw [normB_eq]

theorem v308 (r : Fin 4096) (h : Fin 16) (d : Fin 128) :
    r308 V (ix4 0 r h d) = ((normB A.qg (A.qrow r h) (A.hq r h) d : ℝ) : EReal) := by
  have e292 : ∀ d, r292 V (ix4 0 r h d) = ((A.hq r h d * A.qg d : ℝ) : EReal) := fun d => by
    rw [e292, e291]
    pointwise
    rw [v264 hA, v40 hA, ← EReal.coe_mul]
  have e304 : ∀ d, r304 V (ix4 0 r h d) = (((∑ k, A.qrow r h k * (A.hq r h k * A.qg k))
      * (-(1 / 2) * (rs (A.qrow r h) / ms (A.qrow r h))) / 128 : ℝ) : EReal) := fun d => by
    rw [e304, e303, e302, e301, e300, e299, e296, e295, e294, e_cst_52, e_cst_53, e_cst_54]
    pointwise
    rw [sum_one_q]
    pointwise
    simp only [v25 hA, e292, v37 hA, ofBits_128, ← EReal.coe_mul, coe_sum, div_128]
  rw [e308, e307, e306, e305, e298, e297]
  pointwise
  rw [e292, e304, v25 hA, v34 hA]
  simp only [← EReal.coe_mul, ← EReal.coe_add]
  rw [normB_eq]

/-! ## The results -/

theorem dq_result (r : Fin 4096) (k : Fin 2048) : r312 V (ix2 r k) = ((A.dq r k : ℝ) : EReal) := by
  rw [e312, e311, e310, A.dq_eq r k k.isLt]
  pointwise
  exact v308 hA r ⟨k.val / 128, by omega⟩ (Arrs.ln k)

theorem dk_result (r : Fin 4096) (k : Fin 512) : r314 V (ix2 r k) = ((A.dk r k : ℝ) : EReal) := by
  rw [e314, e313, e287, A.dk_eq r k k.isLt]
  pointwise
  exact v285 hA r ⟨k.val / 128, by omega⟩ (Arrs.ln k)

theorem dv_result (r : Fin 4096) (k : Fin 512) : r316 V (ix2 r k) = ((A.dv r k : ℝ) : EReal) := by
  rw [e316, e315, e226, Arrs.dv]
  pointwise
  exact v216 hA r ⟨k.val / 128, by omega⟩ (Arrs.ln k)

end Cert.ReferenceIdeal.Ops
-- ==== Proof.Ref.ReadD.lean ====
/-
  The reference's derivatives by the gains and by the sinks, and that they are the kernel's sums over its points.
-/
module

public import proofs.«01_k».proof.Proof.Ref.ReadC

@[expose] public section

set_option maxRecDepth 16384

noncomputable section

namespace Cert.Attn

open Idealize.ShloMosaic

/-! ## Sums over the points and over the tokens -/

theorem sum_split (m n : ℕ) (f : ℕ → ℝ) : ∑ r : Fin (m * n), f r = ∑ a : Fin m, ∑ b : Fin n, f (b.val + n * a.val) := by
  rw [← (finProdFinEquiv (m := m) (n := n)).sum_comp (fun r : Fin (m * n) => f r.val), Fintype.sum_prod_type]
  rfl

/-- A sum over the blocks whose first term is 0, moved by one block. -/
theorem sum_shift (p : ℕ → ℝ) (h : p 0 = 0) : ∑ i : Fin 32, p i.val = ∑ i : Fin 32, if i.val < 31 then p (i.val + 1) else 0 := by
  rw [Fin.sum_univ_succ, Fin.sum_univ_castSucc (n := 31)]
  show p 0 + ∑ i : Fin 31, p (i.val + 1) = (∑ i : Fin 31, if i.val < 31 then p (i.val + 1) else 0) + (if 31 < 31 then p 32 else 0)
  rw [h, zero_add, if_neg (lt_irrefl 31), add_zero]
  exact Finset.sum_congr rfl fun i _ => (if_pos i.isLt).symm

/-- Tokens and heads, by block, by group. -/
theorem sum_tokens (F : ℕ → ℕ → ℝ) : ∑ r : Fin 4096, ∑ n : Fin 16, F r n
    = ∑ h : Fin 4, ∑ i : Fin 32, ∑ g : Fin 4, ∑ q : Fin 128, F (q.val + 128 * i.val) (g.val + 4 * h.val) := by
  rw [show (∑ r : Fin 4096, ∑ n : Fin 16, F r n) = ∑ i : Fin 32, ∑ q : Fin 128, ∑ n : Fin 16, F (q.val + 128 * i.val) n from
    sum_split 32 128 fun r => ∑ n : Fin 16, F r n, Finset.sum_comm (s := (Finset.univ : Finset (Fin 4)))]
  refine Finset.sum_congr rfl fun i _ => ?_
  have e : ∀ q : Fin 128, (∑ n : Fin 16, F (q.val + 128 * i.val) n) = ∑ h : Fin 4, ∑ g : Fin 4, F (q.val + 128 * i.val) (g.val + 4 * h.val) :=
    fun q => sum_split 4 4 (F (q.val + 128 * i.val))
  rw [Finset.sum_congr rfl fun q _ => e q, Finset.sum_comm]
  exact Finset.sum_congr rfl fun h _ => Finset.sum_comm

theorem sum_tokens' (F : ℕ → ℕ → ℝ) : ∑ r : Fin 4096, ∑ h : Fin 4, F r h
    = ∑ h : Fin 4, ∑ i : Fin 32, ∑ q : Fin 128, F (q.val + 128 * i.val) h.val := by
  rw [show (∑ r : Fin 4096, ∑ h : Fin 4, F r h) = ∑ i : Fin 32, ∑ q : Fin 128, ∑ h : Fin 4, F (q.val + 128 * i.val) h from
    sum_split 32 128 fun r => ∑ h : Fin 4, F r h, Finset.sum_comm (s := (Finset.univ : Finset (Fin 4)))]
  exact Finset.sum_congr rfl fun i _ => Finset.sum_comm

theorem row_sum (e : Fin 512 → ℝ) (g : Fin 4) : (∑ r : Fin 512, if r.val / 128 = g.val then e r else 0) = ∑ q : Fin 128, e (row g q) := by
  rw [← Cert.ReferenceIdeal.Ops.sum_row fun r => if r.val / 128 = g.val then e r else 0, Finset.sum_eq_single g]
  · exact Finset.sum_congr rfl fun q _ => if_pos (row_div g q)
  · exact fun x _ hx => Finset.sum_eq_zero fun q _ => if_neg fun h => hx (Fin.ext ((row_div x q).symm.trans h))
  · exact fun h => absurd (Finset.mem_univ g) h

namespace Arrs

variable (A : Arrs)

theorem upto_eq (f : Blk → ℝ) (n : ℕ) : A.upto f n = ∑ t ∈ Finset.range (n + 1), if t % 33 < 32 then f (A.at_ t) else 0 := by
  induction n with
  | zero => rw [upto, Finset.sum_range_one, if_pos (by decide)]
  | succ n ih => rw [upto, ih, Finset.sum_range_succ _ (n + 1)]

theorem upto_sum (f : Blk → ℝ) : A.upto f 131 = ∑ h : Fin 4, ∑ i : Fin 32, f (A.blk h i) := by
  rw [upto_eq, Finset.sum_range, sum_split 4 33 fun t => if t % 33 < 32 then f (A.at_ t) else 0]
  refine Finset.sum_congr rfl fun h _ => ?_
  rw [Fin.sum_univ_castSucc (n := 32), Fin.val_last, if_neg (by omega), add_zero]
  refine Finset.sum_congr rfl fun i _ => ?_
  have hi := i.isLt
  rw [Fin.val_castSucc, if_pos (by omega), A.at_eq _ h.val i.val (by omega) (by omega), A.bk_fin]

theorem term_q (h : Fin 4) (i : Fin 32) (g : Fin 4) (q d : Fin 128) :
    xhat (A.qrow (q.val + 128 * i.val) (g.val + 4 * h.val)) d * A.hq (q.val + 128 * i.val) (g.val + 4 * h.val) d
      = (A.blk h i).yQ (row g q) d * xhat (four (A.blk h i).zq (row g q)) d := by
  have hn : g.val + 4 * h.val < 16 := by omega
  have e1 : (q.val + 128 * i.val) / 128 = i.val := by omega
  have e2 : (q.val + 128 * i.val) % 128 = q.val := by omega
  have e3 : (g.val + 4 * h.val) / 4 = h.val := by omega
  have e4 : (g.val + 4 * h.val) % 4 = g.val := by omega
  rw [← A.yQ_eq _ _ hn, ← A.xQ_eq _ _ hn, mul_comm]
  simp only [e1, e2, e3, e4, A.bk_fin]
  rfl

theorem gain_q (d : Fin 128) : A.upto (fun b => b.oG d) 131 = ∑ r : Fin 4096, ∑ n : Fin 16, xhat (A.qrow r n) d * A.hq r n d := by
  rw [upto_sum, sum_tokens fun r n => xhat (A.qrow r n) d * A.hq r n d]
  refine Finset.sum_congr rfl fun h _ => Finset.sum_congr rfl fun i _ => ?_
  simp only [A.term_q h i]
  exact (Cert.ReferenceIdeal.Ops.sum_row fun r => (A.blk h i).yQ r d * xhat (four (A.blk h i).zq r) d).symm

/-- The first block gives nothing to the keys before it. -/
theorem yP_first (h : Fin 4) (q d : Fin 128) : (A.blk h 0).yP q d = 0 := by
  have e : (A.blk h 0).eK ⟨q.val, by omega⟩ = fun _ => 0 := funext fun k => by
    rw [Blk.eK, dkk]
    refine Finset.sum_eq_zero fun r _ => ?_
    rw [ds_eq_zero _ _ _ _ _ _ (fun hb => ?_), zero_mul]
    have h1 : 128 ≤ q.val ∨ 0 < 0 := hb.2
    omega
  rw [Blk.yP, e, ropeB_zero]

theorem term_k (h : Fin 4) (i : Fin 32) (q d : Fin 128) :
    xhat (A.krow (q.val + 128 * i.val) h.val) d * A.hk (q.val + 128 * i.val) h.val d
      = (A.blk h i).yC q d * xhat ((A.blk h i).kc q) d
        + if i.val < 31 then (A.blk h (i.val + 1)).yP q d * xhat ((A.blk h (i.val + 1)).kp q) d else 0 := by
  have e1 : (q.val + 128 * i.val) / 128 = i.val := by omega
  have e2 : ln (q.val + 128 * i.val) = q := Fin.ext (by show (q.val + 128 * i.val) % 128 = q.val; omega)
  have hc := A.kc_eq (q.val + 128 * i.val) h.val h.isLt
  have hp := A.kp_eq (q.val + 128 * i.val) h.val h.isLt
  rw [e1, e2, A.bk_fin] at hc hp
  rw [A.hk_eq, e1, e2, A.bk_fin, A.bk_fin, hc, hp]
  split <;> ring

theorem gain_k (d : Fin 128) : A.upto (fun b => b.oH d) 131 = ∑ r : Fin 4096, ∑ h : Fin 4, xhat (A.krow r h) d * A.hk r h d := by
  rw [upto_sum, sum_tokens' fun r h => xhat (A.krow r h) d * A.hk r h d]
  refine Finset.sum_congr rfl fun h _ => ?_
  have s := sum_shift (fun i => ∑ q, (A.blk h i).yP q d * xhat ((A.blk h i).kp q) d)
    (Finset.sum_eq_zero fun q _ => by rw [yP_first, zero_mul])
  simp only [Blk.oH, A.term_k h, Finset.sum_add_distrib]
  rw [s, add_comm]
  refine congrArg _ (Finset.sum_congr rfl fun i _ => ?_)
  split
  · rfl
  · exact Finset.sum_const_zero.symm

/-- The sinks' derivative, of head `4 h + g`. -/
def gs (h g : Fin 4) : ℝ := ∑ i : Fin 32, ∑ q : Fin 128,
  dsink (0 < i.val) (A.blk h i).Q (A.blk h i).D (A.blk h i).K (A.blk h i).V (A.blk h i).S (row g q)

theorem lane_sum (l : Fin 128) : A.upto (fun b => b.oS l) 131
    = ∑ h : Fin 4, ∑ g : Fin 4, if l.val = 4 * h.val + g.val then A.gs h g else 0 := by
  rw [upto_sum]
  refine Finset.sum_congr rfl fun h _ => ?_
  simp only [Blk.oS, dskLane, row_sum]
  rw [Finset.sum_comm]
  refine Finset.sum_congr rfl fun g _ => ?_
  show (∑ i : Fin 32, if l.val = 4 * h.val + g.val then _ else 0) = _
  split
  · rfl
  · exact Finset.sum_const_zero

theorem sink_lo (l : Fin 128) (h : l.val < 16) :
    A.upto (fun b => b.oS l) 131 = A.gs ⟨l.val / 4, by omega⟩ ⟨l.val % 4, Nat.mod_lt _ (by decide)⟩ := by
  rw [lane_sum, Finset.sum_eq_single ⟨l.val / 4, by omega⟩, Finset.sum_eq_single ⟨l.val % 4, Nat.mod_lt _ (by decide)⟩]
  · exact if_pos (by simp only; omega)
  · exact fun g _ hg => if_neg fun e => hg (Fin.ext (by simp only at e ⊢; omega))
  · exact fun e => absurd (Finset.mem_univ _) e
  · exact fun x _ hx => Finset.sum_eq_zero fun g _ => if_neg fun e => hx (Fin.ext (by simp only; omega))
  · exact fun e => absurd (Finset.mem_univ _) e

theorem sink_hi (l : Fin 128) (h : ¬l.val < 16) : A.upto (fun b => b.oS l) 131 = 0 := by
  rw [lane_sum]
  exact Finset.sum_eq_zero fun x _ => Finset.sum_eq_zero fun g _ => if_neg (by omega)

end Arrs

end Cert.Attn

namespace Cert.ReferenceIdeal.Ops

open Cert.ReferenceIdeal Cert.ReferenceIdeal.Gen Idealize.ShloMosaic Idealize.ShloMosaic.TcCoe Idealize.SL.Sem Cert.Attn
open Idealize.ShloMosaic.StableHlo

variable {V : Valuation τ sig (Elt Ideal)} {A : Arrs} (hA : A.Of (a0 V) (a1 V) (a2 V) (a3 V) (a4 V) (a5 V))
include hA

/-! ## The gains and the sinks -/

theorem dkg_result (d : Fin 128) : r286 V (ix2 0 d) = ((A.upto (fun b => b.oH d) 131 : ℝ) : EReal) := by
  rw [e286, e270, e267, e266, e265, e_cst_45, e_cst_46]
  pointwise
  rw [sum_gain]
  pointwise
  rw [sum_rows_k]
  pointwise
  simp only [v57 hA, v245 hA, ← EReal.coe_mul, coe_sum]
  rw [A.gain_k d, Fintype.sum_prod_type]

theorem dqg_result (d : Fin 128) : r309 V (ix2 0 d) = ((A.upto (fun b => b.oG d) 131 : ℝ) : EReal) := by
  rw [e309, e293, e290, e289, e288, e_cst_50, e_cst_51]
  pointwise
  rw [sum_gain]
  pointwise
  rw [sum_rows_q]
  pointwise
  simp only [v39 hA, v264 hA, ← EReal.coe_mul, coe_sum]
  rw [A.gain_q d, Fintype.sum_prod_type]

theorem dsk_result (l : Fin 128) : r317 V (ix2 0 l) = ((A.upto (fun b => b.oS l) 131 : ℝ) : EReal) := by
  rw [e317, e_call2_v0, e_c_55, e225, e201]
  pointwise
  by_cases h : l.val < 16
  · rw [dif_pos h, v200 hA, A.sink_lo l h, Arrs.gs, Fintype.sum_prod_type]
  · rw [dif_neg h, A.sink_hi l h]
    exact congrArg (fun x : ℝ => (x : EReal)) Int.cast_zero

/-- The six results. -/
theorem results : (r312 V = fun i => ((A.dq (i 0).val (i 1).val : ℝ) : EReal))
    ∧ (r314 V = fun i => ((A.dk (i 0).val (i 1).val : ℝ) : EReal))
    ∧ (r316 V = fun i => ((A.dv (i 0).val (i 1).val : ℝ) : EReal))
    ∧ (r309 V = fun i => ((A.upto (fun b => b.oG (i 1)) 131 : ℝ) : EReal))
    ∧ (r286 V = fun i => ((A.upto (fun b => b.oH (i 1)) 131 : ℝ) : EReal))
    ∧ r317 V = fun i => ((A.upto (fun b => b.oS (i 1)) 131 : ℝ) : EReal) := by
  have one : ∀ i : S1x128.Idx, i = ix2 0 (i 1) := fun i =>
    (eq_ix2 i).trans (congrArg (fun a => ix2 a (i 1)) (Subsingleton.elim (α := Fin 1) _ _))
  exact ⟨funext fun i => (congrArg _ (eq_ix2 i)).trans (dq_result hA (i 0) (i 1)),
    funext fun i => (congrArg _ (eq_ix2 i)).trans (dk_result hA (i 0) (i 1)),
    funext fun i => (congrArg _ (eq_ix2 i)).trans (dv_result hA (i 0) (i 1)),
    funext fun i => (congrArg _ (one i)).trans (dqg_result hA (i 1)),
    funext fun i => (congrArg _ (one i)).trans (dkg_result hA (i 1)),
    funext fun i => (congrArg _ (one i)).trans (dsk_result hA (i 1))⟩

omit hA in
/-- The arguments end as they were. -/
theorem args_eq (V : Valuation τ sig (Elt Ideal)) : a0 V = V main_arg0 ∧ a1 V = V main_arg1 ∧ a2 V = V main_arg2
    ∧ a3 V = V main_arg3 ∧ a4 V = V main_arg4 ∧ a5 V = V main_arg5 :=
  ⟨fin_arg V main_arg0 (by decide), fin_arg V main_arg1 (by decide), fin_arg V main_arg2 (by decide),
    fin_arg V main_arg3 (by decide), fin_arg V main_arg4 (by decide), fin_arg V main_arg5 (by decide)⟩

omit hA in
/-- The reference ends with its six results at these reals, and its arguments as they were. -/
theorem reference_run (m : (ℓ : Loc nD τ sig) → Buf (Elt Ideal) ℓ) (ρ : Dev nD → PrngReg) (B : Dev nD → Arrs)
    (hB : ∀ c : Dev nD, (B c).Of (m (c.tc.loc main_arg0)) (m (c.tc.loc main_arg1)) (m (c.tc.loc main_arg2))
      (m (c.tc.loc main_arg3)) (m (c.tc.loc main_arg4)) (m (c.tc.loc main_arg5))) :
    θ_run defs (onTc (τ := τ) (main (F := Ideal))) ⟨m, fun _ => 0, ρ⟩ fun r => ∀ c : Dev nD,
      (r.2.mem (c.tc.loc main_v312) = (fun i : S4096x2048.Idx => (((B c).dq (i 0).val (i 1).val : ℝ) : EReal))
      ∧ r.2.mem (c.tc.loc main_v314) = (fun i : S4096x512.Idx => (((B c).dk (i 0).val (i 1).val : ℝ) : EReal))
      ∧ r.2.mem (c.tc.loc main_v316) = (fun i : S4096x512.Idx => (((B c).dv (i 0).val (i 1).val : ℝ) : EReal))
      ∧ r.2.mem (c.tc.loc main_v309) = (fun i : S1x128.Idx => (((B c).upto (fun b => b.oG (i 1)) 131 : ℝ) : EReal))
      ∧ r.2.mem (c.tc.loc main_v286) = (fun i : S1x128.Idx => (((B c).upto (fun b => b.oH (i 1)) 131 : ℝ) : EReal))
      ∧ r.2.mem (c.tc.loc main_v317) = (fun i : S1x128.Idx => (((B c).upto (fun b => b.oS (i 1)) 131 : ℝ) : EReal)))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5) := by
  refine (θ_run defs _ _).mono (fun _ h c => ?_) (run (F := Ideal) m ρ)
  obtain ⟨hv, k⟩ := h c
  obtain ⟨h0, h1, h2, h3, h4, h5⟩ := args_eq (launchContents m c)
  obtain ⟨r0, r1, r2, r3, r4, r5⟩ := results (V := launchContents m c) (A := B c) (by
    rw [h0, h1, h2, h3, h4, h5]; exact hB c)
  exact ⟨⟨(hv main_v312).trans r0, (hv main_v314).trans r1, (hv main_v316).trans r2, (hv main_v309).trans r3,
    (hv main_v286).trans r4, (hv main_v317).trans r5⟩, k⟩

end Cert.ReferenceIdeal.Ops
end
-- ==== Proof.Ffn.Calls.lean ====
/-
  Products of matrices over the extended reals, and the feed-forward's elementwise functions as the kernel computes them.
-/
module

public import proofs.«01_k».proof.Proof.Gen.FfnKernelIdeal.Frame
public import Idealize.ShloMosaic.Lib.Pointwise
public import Idealize.ShloMosaic.Lib.Pipeline.ValueKit

@[expose] public section

set_option maxRecDepth 16384

noncomputable section

namespace Cert.Ffn

open Idealize.ShloMosaic

/-- A matrix of extended reals. -/
abbrev Mat (a b : ℕ) := (⟨2, ![a, b]⟩ : Shape).Idx → EReal

variable {a b n : ℕ}

/-- `x · y`, `x · yᵀ` and `xᵀ · y`. -/
def nn (x : Mat a n) (y : Mat n b) : Mat a b := fun i => ∑ k : Fin n, x (ix2 (i 0) k) * y (ix2 k (i 1))
def nt (x : Mat a n) (y : Mat b n) : Mat a b := fun i => ∑ k : Fin n, x (ix2 (i 0) k) * y (ix2 (i 1) k)
def tn (x : Mat n a) (y : Mat n b) : Mat a b := fun i => ∑ k : Fin n, x (ix2 k (i 0)) * y (ix2 k (i 1))

variable {a' b' : ℕ}

/-- An entry of a product is a sum over one row and one column, so that a product of blocks is a block of the product. -/
theorem nn_congr {x : Mat a n} {y : Mat n b} {x' : Mat a' n} {y' : Mat n b'} (i i') (hx : ∀ k, x (ix2 (i 0) k) = x' (ix2 (i' 0) k))
    (hy : ∀ k, y (ix2 k (i 1)) = y' (ix2 k (i' 1))) : nn x y i = nn x' y' i' :=
  Finset.sum_congr rfl fun k _ => congrArg₂ _ (hx k) (hy k)
theorem nt_congr {x : Mat a n} {y : Mat b n} {x' : Mat a' n} {y' : Mat b' n} (i i') (hx : ∀ k, x (ix2 (i 0) k) = x' (ix2 (i' 0) k))
    (hy : ∀ k, y (ix2 (i 1) k) = y' (ix2 (i' 1) k)) : nt x y i = nt x' y' i' :=
  Finset.sum_congr rfl fun k _ => congrArg₂ _ (hx k) (hy k)
theorem tn_congr {x : Mat n a} {y : Mat n b} {x' : Mat n a'} {y' : Mat n b'} (i i') (hx : ∀ k, x (ix2 k (i 0)) = x' (ix2 k (i' 0)))
    (hy : ∀ k, y (ix2 k (i 1)) = y' (ix2 k (i' 1))) : tn x y i = tn x' y' i' :=
  Finset.sum_congr rfl fun k _ => congrArg₂ _ (hx k) (hy k)

/-- The logistic function as the kernel computes it. -/
def sg (x : EReal) : EReal :=
  Ideal.ofBits .f32 0x3F000000#32 * Ideal.tanh (Ideal.ofBits .f32 0x3F000000#32 * x) + Ideal.ofBits .f32 0x3F000000#32

/-- The gated product of the gate's and the up branch's outputs, and the derivatives by each at the cotangent `d`. -/
def act (g u : EReal) : EReal := g * sg g * u
def dgate (g u d : EReal) : EReal := d * u * (sg g * (Ideal.ofBits .f32 0x3F800000#32 + g * (Ideal.ofBits .f32 0x3F800000#32 - sg g)))
def dup (g d : EReal) : EReal := d * (g * sg g)

end Cert.Ffn

namespace Cert.FfnKernelIdeal.Gen

open Idealize.ShloMosaic Idealize.ShloMosaic.TcCoe Cert.Ffn

section Payloads

theorem pay0 (x : Mat 1024 2048) (y : Mat 2048 1408) : k0_pay1 (F := Ideal) x y = nn x y := by funext i; pointwise [k0_pay1, nn]
theorem pay1 (x : Mat 1024 2048) (y : Mat 2048 512) : k1_pay1 (F := Ideal) x y = nn x y := by funext i; pointwise [k1_pay1, nn]
theorem pay1_act (x : Mat 1024 2048) (y : Mat 2048 512) (g : Mat 1024 512) :
    k1_pay2 (F := Ideal) x y g = fun i => act (g i) (nn x y i) := by funext i; pointwise [k1_pay2, pay1, act, sg]
theorem pay2 (x : Mat 4096 1408) (y : Mat 4096 512) : k2_pay1 (F := Ideal) x y = tn x y := by funext i; pointwise [k2_pay1, tn]
theorem pay3 (x : Mat 1024 2048) (y : Mat 512 2048) : k3_pay1 (F := Ideal) x y = nt x y := by funext i; pointwise [k3_pay1, nt]
theorem pay3_dgate (x : Mat 1024 2048) (y : Mat 512 2048) (g u : Mat 1024 512) :
    k3_pay4 (F := Ideal) x y g u = fun i => dgate (g i) (u i) (nt x y i) := by
  funext i; pointwise [k3_pay4, k3_pay2, k3_pay3, pay3, dgate, sg]
theorem pay3_dup (x : Mat 1024 2048) (y : Mat 512 2048) (g : Mat 1024 512) :
    k3_pay5 (F := Ideal) x y g = fun i => dup (g i) (nt x y i) := by funext i; pointwise [k3_pay5, k3_pay2, k3_pay3, pay3, dup, sg]
theorem pay4 (x : Mat 4096 1024) (y : Mat 4096 512) : k4_pay1 (F := Ideal) x y = tn x y := by funext i; pointwise [k4_pay1, tn]
theorem pay5 (x : Mat 4096 1024) (y : Mat 4096 512) : k5_pay1 (F := Ideal) x y = tn x y := by funext i; pointwise [k5_pay1, tn]
theorem pay6 (x : Mat 1024 5632) (y : Mat 512 5632) : k6_pay1 (F := Ideal) x y = nt x y := by funext i; pointwise [k6_pay1, nt]
theorem pay7 (x : Mat 1024 5632) (y : Mat 512 5632) (z : Mat 1024 512) :
    k7_pay1 (F := Ideal) x y z = fun i => nt x y i + z i := by funext i; pointwise [k7_pay1, nt]

end Payloads

variable (V : (c : Dev nD) → (b : Ref sig .tc) → Buf (Elt Ideal) ((c : Thread nD τ).loc b)) (c : Dev nD)

/-! Call 0: the gate's product. -/

theorem ix0_0 : ∀ t : Fin cfg0.N, win0_0.index t = ![(grid0.coords t 0).val, 0] :=
  (by decide +kernel : ∀ t : Fin grid0.N, _)
theorem ix0_1 : ∀ t : Fin cfg0.N, win0_1.index t = ![0, (grid0.coords t 1).val] :=
  (by decide +kernel : ∀ t : Fin grid0.N, _)
theorem ix0_2 : ∀ t : Fin cfg0.N, win0_2.index t = ![(grid0.coords t 0).val, (grid0.coords t 1).val] :=
  (by decide +kernel : ∀ t : Fin grid0.N, _)

theorem arr0 (x : Mat 4096 2048) (y : Mat 2048 5632)
    (hx : V c main_arg0 = x) (hy : V c main_arg1 = y) :
    (dat0 V c).arrAt 2 cfg0.N = (nn x y : Mat 4096 5632) := by
  subst hx hy
  refine (dat0 V c).arrAt_eq_of_covers 2 _ (by decide +kernel) fun t hf j => ?_
  blk_simp
  rw [after0_2]
  frame_out
  exact (congrFun (pay0 _ _) j).trans
    (nn_congr _ _ (fun k => by blk_ext [iblk0, ix0_0, ix0_2]) (fun k => by blk_ext [iblk0, ix0_1, ix0_2]))

/-! Call 1: the up branch's product and the gated product. -/

theorem ix1_0 : ∀ t : Fin cfg1.N, win1_0.index t = ![(grid1.coords t 0).val, 0] :=
  (by decide +kernel : ∀ t : Fin grid1.N, _)
theorem ix1_1 : ∀ t : Fin cfg1.N, win1_1.index t = ![0, (grid1.coords t 1).val] :=
  (by decide +kernel : ∀ t : Fin grid1.N, _)
theorem ix1_2 : ∀ t : Fin cfg1.N, win1_2.index t = ![(grid1.coords t 0).val, (grid1.coords t 1).val] :=
  (by decide +kernel : ∀ t : Fin grid1.N, _)
theorem ix1_3 : ∀ t : Fin cfg1.N, win1_3.index t = ![(grid1.coords t 0).val, (grid1.coords t 1).val] :=
  (by decide +kernel : ∀ t : Fin grid1.N, _)
theorem ix1_4 : ∀ t : Fin cfg1.N, win1_4.index t = ![(grid1.coords t 0).val, (grid1.coords t 1).val] :=
  (by decide +kernel : ∀ t : Fin grid1.N, _)

theorem arr1 (x : Mat 4096 2048) (y : Mat 2048 5632)
    (hx : V c main_arg0 = x) (hy : V c main_arg2 = y) :
    (dat1 V c).arrAt 3 cfg1.N = (nn x y : Mat 4096 5632) := by
  subst hx hy
  refine (dat1 V c).arrAt_eq_of_covers 3 _ (by decide +kernel) fun t hf j => ?_
  blk_simp
  rw [after1_3]
  frame_out
  exact (congrFun (pay1 _ _) j).trans
    (nn_congr _ _ (fun k => by blk_ext [iblk1, ix1_0, ix1_3]) (fun k => by blk_ext [iblk1, ix1_1, ix1_3]))

theorem arr1_act (x : Mat 4096 2048) (y : Mat 2048 5632) (p : Mat 4096 5632)
    (hx : V c main_arg0 = x) (hy : V c main_arg2 = y) (hp : V c main_v0 = p) :
    (dat1 V c).arrAt 4 cfg1.N = (fun i => act (p i) (nn x y i) : Mat 4096 5632) := by
  subst hx hy hp
  refine (dat1 V c).arrAt_eq_of_covers 4 _ (by decide +kernel) fun t hf j => ?_
  blk_simp
  rw [after1_4]
  frame_out
  refine (congrFun (pay1_act _ _ _) j).trans ?_
  exact congrArg₂ act (by blk_ext [iblk1, ix1_2, ix1_4])
    (nn_congr _ _ (fun k => by blk_ext [iblk1, ix1_0, ix1_4]) (fun k => by blk_ext [iblk1, ix1_1, ix1_4]))

/-! Call 2: the gradient by the down weights. -/

theorem ix2_0 : ∀ t : Fin cfg2.N, win2_0.index t = ![0, (grid2.coords t 0).val] :=
  (by decide +kernel : ∀ t : Fin grid2.N, _)
theorem ix2_1 : ∀ t : Fin cfg2.N, win2_1.index t = ![0, (grid2.coords t 1).val] :=
  (by decide +kernel : ∀ t : Fin grid2.N, _)
theorem ix2_2 : ∀ t : Fin cfg2.N, win2_2.index t = ![(grid2.coords t 0).val, (grid2.coords t 1).val] :=
  (by decide +kernel : ∀ t : Fin grid2.N, _)

theorem arr2 (x : Mat 4096 5632) (y : Mat 4096 2048)
    (hx : V c main_v1_1 = x) (hy : V c main_arg4 = y) :
    (dat2 V c).arrAt 2 cfg2.N = (tn x y : Mat 5632 2048) := by
  subst hx hy
  refine (dat2 V c).arrAt_eq_of_covers 2 _ (by decide +kernel) fun t hf j => ?_
  blk_simp
  rw [after2_2]
  frame_out
  exact (congrFun (pay2 _ _) j).trans
    (tn_congr _ _ (fun k => by blk_ext [iblk2, ix2_0, ix2_2]) (fun k => by blk_ext [iblk2, ix2_1, ix2_2]))

/-! Call 3: the derivatives by the gate's and the up branch's outputs. -/

theorem ix3_0 : ∀ t : Fin cfg3.N, win3_0.index t = ![(grid3.coords t 0).val, 0] :=
  (by decide +kernel : ∀ t : Fin grid3.N, _)
theorem ix3_1 : ∀ t : Fin cfg3.N, win3_1.index t = ![(grid3.coords t 1).val, 0] :=
  (by decide +kernel : ∀ t : Fin grid3.N, _)
theorem ix3_2 : ∀ t : Fin cfg3.N, win3_2.index t = ![(grid3.coords t 0).val, (grid3.coords t 1).val] :=
  (by decide +kernel : ∀ t : Fin grid3.N, _)
theorem ix3_3 : ∀ t : Fin cfg3.N, win3_3.index t = ![(grid3.coords t 0).val, (grid3.coords t 1).val] :=
  (by decide +kernel : ∀ t : Fin grid3.N, _)
theorem ix3_4 : ∀ t : Fin cfg3.N, win3_4.index t = ![(grid3.coords t 0).val, (grid3.coords t 1).val] :=
  (by decide +kernel : ∀ t : Fin grid3.N, _)
theorem ix3_5 : ∀ t : Fin cfg3.N, win3_5.index t = ![(grid3.coords t 0).val, (grid3.coords t 1).val] :=
  (by decide +kernel : ∀ t : Fin grid3.N, _)

theorem arr3_dgate (x : Mat 4096 2048) (y : Mat 5632 2048) (p : Mat 4096 5632) (q : Mat 4096 5632)
    (hx : V c main_arg4 = x) (hy : V c main_arg3 = y) (hp : V c main_v0 = p) (hq : V c main_v1_0 = q) :
    (dat3 V c).arrAt 4 cfg3.N = (fun i => dgate (p i) (q i) (nt x y i) : Mat 4096 5632) := by
  subst hx hy hp hq
  refine (dat3 V c).arrAt_eq_of_covers 4 _ (by decide +kernel) fun t hf j => ?_
  blk_simp
  rw [after3_4]
  frame_out
  refine (congrFun (pay3_dgate _ _ _ _) j).trans ?_
  congr 1
  · blk_ext [iblk3, ix3_2, ix3_4]
  · blk_ext [iblk3, ix3_3, ix3_4]
  · exact (nt_congr _ _ (fun k => by blk_ext [iblk3, ix3_0, ix3_4]) (fun k => by blk_ext [iblk3, ix3_1, ix3_4]))

theorem arr3_dup (x : Mat 4096 2048) (y : Mat 5632 2048) (p : Mat 4096 5632)
    (hx : V c main_arg4 = x) (hy : V c main_arg3 = y) (hp : V c main_v0 = p) :
    (dat3 V c).arrAt 5 cfg3.N = (fun i => dup (p i) (nt x y i) : Mat 4096 5632) := by
  subst hx hy hp
  refine (dat3 V c).arrAt_eq_of_covers 5 _ (by decide +kernel) fun t hf j => ?_
  blk_simp
  rw [after3_5]
  frame_out
  refine (congrFun (pay3_dup _ _ _) j).trans ?_
  exact congrArg₂ dup (by blk_ext [iblk3, ix3_2, ix3_5])
    (nt_congr _ _ (fun k => by blk_ext [iblk3, ix3_0, ix3_5]) (fun k => by blk_ext [iblk3, ix3_1, ix3_5]))

/-! Call 4: the gradient by the gate's weights. -/

theorem ix4_0 : ∀ t : Fin cfg4.N, win4_0.index t = ![0, (grid4.coords t 0).val] :=
  (by decide +kernel : ∀ t : Fin grid4.N, _)
theorem ix4_1 : ∀ t : Fin cfg4.N, win4_1.index t = ![0, (grid4.coords t 1).val] :=
  (by decide +kernel : ∀ t : Fin grid4.N, _)
theorem ix4_2 : ∀ t : Fin cfg4.N, win4_2.index t = ![(grid4.coords t 0).val, (grid4.coords t 1).val] :=
  (by decide +kernel : ∀ t : Fin grid4.N, _)

theorem arr4 (x : Mat 4096 2048) (y : Mat 4096 5632)
    (hx : V c main_arg0 = x) (hy : V c main_v3_0 = y) :
    (dat4 V c).arrAt 2 cfg4.N = (tn x y : Mat 2048 5632) := by
  subst hx hy
  refine (dat4 V c).arrAt_eq_of_covers 2 _ (by decide +kernel) fun t hf j => ?_
  blk_simp
  rw [after4_2]
  frame_out
  exact (congrFun (pay4 _ _) j).trans
    (tn_congr _ _ (fun k => by blk_ext [iblk4, ix4_0, ix4_2]) (fun k => by blk_ext [iblk4, ix4_1, ix4_2]))

/-! Call 5: the gradient by the up branch's weights. -/

theorem ix5_0 : ∀ t : Fin cfg5.N, win5_0.index t = ![0, (grid5.coords t 0).val] :=
  (by decide +kernel : ∀ t : Fin grid5.N, _)
theorem ix5_1 : ∀ t : Fin cfg5.N, win5_1.index t = ![0, (grid5.coords t 1).val] :=
  (by decide +kernel : ∀ t : Fin grid5.N, _)
theorem ix5_2 : ∀ t : Fin cfg5.N, win5_2.index t = ![(grid5.coords t 0).val, (grid5.coords t 1).val] :=
  (by decide +kernel : ∀ t : Fin grid5.N, _)

theorem arr5 (x : Mat 4096 2048) (y : Mat 4096 5632)
    (hx : V c main_arg0 = x) (hy : V c main_v3_1 = y) :
    (dat5 V c).arrAt 2 cfg5.N = (tn x y : Mat 2048 5632) := by
  subst hx hy
  refine (dat5 V c).arrAt_eq_of_covers 2 _ (by decide +kernel) fun t hf j => ?_
  blk_simp
  rw [after5_2]
  frame_out
  exact (congrFun (pay5 _ _) j).trans
    (tn_congr _ _ (fun k => by blk_ext [iblk5, ix5_0, ix5_2]) (fun k => by blk_ext [iblk5, ix5_1, ix5_2]))

/-! Call 6: the gate's part of the gradient by the input. -/

theorem ix6_0 : ∀ t : Fin cfg6.N, win6_0.index t = ![(grid6.coords t 0).val, 0] :=
  (by decide +kernel : ∀ t : Fin grid6.N, _)
theorem ix6_1 : ∀ t : Fin cfg6.N, win6_1.index t = ![(grid6.coords t 1).val, 0] :=
  (by decide +kernel : ∀ t : Fin grid6.N, _)
theorem ix6_2 : ∀ t : Fin cfg6.N, win6_2.index t = ![(grid6.coords t 0).val, (grid6.coords t 1).val] :=
  (by decide +kernel : ∀ t : Fin grid6.N, _)

theorem arr6 (x : Mat 4096 5632) (y : Mat 2048 5632)
    (hx : V c main_v3_0 = x) (hy : V c main_arg1 = y) :
    (dat6 V c).arrAt 2 cfg6.N = (nt x y : Mat 4096 2048) := by
  subst hx hy
  refine (dat6 V c).arrAt_eq_of_covers 2 _ (by decide +kernel) fun t hf j => ?_
  blk_simp
  rw [after6_2]
  frame_out
  exact (congrFun (pay6 _ _) j).trans
    (nt_congr _ _ (fun k => by blk_ext [iblk6, ix6_0, ix6_2]) (fun k => by blk_ext [iblk6, ix6_1, ix6_2]))

/-! Call 7: the gradient by the input. -/

theorem ix7_0 : ∀ t : Fin cfg7.N, win7_0.index t = ![(grid7.coords t 0).val, 0] :=
  (by decide +kernel : ∀ t : Fin grid7.N, _)
theorem ix7_1 : ∀ t : Fin cfg7.N, win7_1.index t = ![(grid7.coords t 1).val, 0] :=
  (by decide +kernel : ∀ t : Fin grid7.N, _)
theorem ix7_2 : ∀ t : Fin cfg7.N, win7_2.index t = ![(grid7.coords t 0).val, (grid7.coords t 1).val] :=
  (by decide +kernel : ∀ t : Fin grid7.N, _)
theorem ix7_3 : ∀ t : Fin cfg7.N, win7_3.index t = ![(grid7.coords t 0).val, (grid7.coords t 1).val] :=
  (by decide +kernel : ∀ t : Fin grid7.N, _)

theorem arr7 (x : Mat 4096 5632) (y : Mat 2048 5632) (p : Mat 4096 2048)
    (hx : V c main_v3_1 = x) (hy : V c main_arg2 = y) (hp : V c main_v6 = p) :
    (dat7 V c).arrAt 3 cfg7.N = (fun i => nt x y i + p i : Mat 4096 2048) := by
  subst hx hy hp
  refine (dat7 V c).arrAt_eq_of_covers 3 _ (by decide +kernel) fun t hf j => ?_
  blk_simp
  rw [after7_3]
  frame_out
  refine (congrFun (pay7 _ _ _) j).trans ?_
  exact congrArg₂ (· + ·)
    (nt_congr _ _ (fun k => by blk_ext [iblk7, ix7_0, ix7_3]) (fun k => by blk_ext [iblk7, ix7_1, ix7_3]))
    (by blk_ext [iblk7, ix7_2, ix7_3])

end Cert.FfnKernelIdeal.Gen

end
-- ==== Proof.Ffn.Run.lean ====
/-
  The kernel's eight calls in order: what the program leaves in its four results.
-/
module

public import proofs.«01_k».proof.Proof.Ffn.Calls

@[expose] public section

set_option maxRecDepth 16384

noncomputable section

namespace Cert.Ffn

/-- The five arguments: the input, the gate's, the up branch's and the down weights, and the cotangent. -/
structure Args where
  hn : Mat 4096 2048
  wg : Mat 2048 5632
  wu : Mat 2048 5632
  wd : Mat 5632 2048
  dy : Mat 4096 2048

namespace Args

variable (A : Args)

/-- The gate's and the up branch's outputs, and the cotangent of their gated product. -/
def g : Mat 4096 5632 := nn A.hn A.wg
def u : Mat 4096 5632 := nn A.hn A.wu
def d : Mat 4096 5632 := nt A.dy A.wd

/-- The gated product, and the derivatives by the gate's and the up branch's outputs. -/
def a : Mat 4096 5632 := fun i => act (A.g i) (A.u i)
def dg : Mat 4096 5632 := fun i => dgate (A.g i) (A.u i) (A.d i)
def du : Mat 4096 5632 := fun i => dup (A.g i) (A.d i)

/-- The gradients by the input and by the three weights. -/
def dhn : Mat 4096 2048 := fun i => nt A.du A.wu i + nt A.dg A.wg i
def dwg : Mat 2048 5632 := tn A.hn A.dg
def dwu : Mat 2048 5632 := tn A.hn A.du
def dwd : Mat 5632 2048 := tn A.a A.dy

end Args

end Cert.Ffn

namespace Cert.FfnKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Ffn (Args)

local notation "𝕄" => MT nD τ sig Unit (Elt Ideal) ℕ (UR sig nD τ) ℕ

variable (m : (ℓ : Loc nD τ sig) → Buf (Elt Ideal) ℓ) (ρ : Dev nD → PrngReg) (c : Dev nD)

/-- The arguments on device `c`. -/
def args : Args := ⟨m (c.tc.loc main_arg0), m (c.tc.loc main_arg1), m (c.tc.loc main_arg2), m (c.tc.loc main_arg3), m (c.tc.loc main_arg4)⟩

theorem v0_1 : V1 m ρ c main_v0 = (args m c).g :=
  (W1_arr m ρ c 2).trans (arr0 _ c _ _ rfl rfl)
theorem v0_3 : V3 m ρ c main_v0 = (args m c).g :=
  (W3_of m ρ c main_v0 (by decide)).trans ((W2_of m ρ c main_v0 (by decide)).trans (v0_1 m ρ c))
theorem v1_0 : V3 m ρ c main_v1_0 = (args m c).u :=
  (W3_of m ρ c main_v1_0 (by decide)).trans ((W2_arr m ρ c 3).trans
    (arr1 _ c _ _ (W1_args m ρ c main_arg0 (by decide)) (W1_args m ρ c main_arg2 (by decide))))
theorem v1_1 : V2 m ρ c main_v1_1 = (args m c).a :=
  (W2_arr m ρ c 4).trans (arr1_act _ c _ _ _ (W1_args m ρ c main_arg0 (by decide)) (W1_args m ρ c main_arg2 (by decide)) (v0_1 m ρ c))
theorem v3_0 : V4 m ρ c main_v3_0 = (args m c).dg :=
  (W4_arr m ρ c 4).trans (arr3_dgate _ c _ _ _ _ (W3_args m ρ c main_arg4 (by decide)) (W3_args m ρ c main_arg3 (by decide))
    (v0_3 m ρ c) (v1_0 m ρ c))
theorem v3_1 : V4 m ρ c main_v3_1 = (args m c).du :=
  (W4_arr m ρ c 5).trans (arr3_dup _ c _ _ _ (W3_args m ρ c main_arg4 (by decide)) (W3_args m ρ c main_arg3 (by decide)) (v0_3 m ρ c))
theorem v3_1_5 : V5 m ρ c main_v3_1 = (args m c).du := (W5_of m ρ c main_v3_1 (by decide)).trans (v3_1 m ρ c)
theorem v3_0_6 : V6 m ρ c main_v3_0 = (args m c).dg :=
  (W6_of m ρ c main_v3_0 (by decide)).trans ((W5_of m ρ c main_v3_0 (by decide)).trans (v3_0 m ρ c))
theorem v3_1_7 : V7 m ρ c main_v3_1 = (args m c).du :=
  (W7_of m ρ c main_v3_1 (by decide)).trans ((W6_of m ρ c main_v3_1 (by decide)).trans (v3_1_5 m ρ c))
theorem v6_7 : V7 m ρ c main_v6 = Cert.Ffn.nt (args m c).dg (args m c).wg :=
  (W7_arr m ρ c 2).trans (arr6 _ c _ _ (v3_0_6 m ρ c) (W6_args m ρ c main_arg1 (by decide)))

/-- The four results at the end. -/
theorem out_dhn : W8 m ρ c (Proc.devRef .tc main_v7) = (args m c).dhn :=
  (W8_arr m ρ c 3).trans (arr7 _ c _ _ _ (v3_1_7 m ρ c) (W7_args m ρ c main_arg2 (by decide)) (v6_7 m ρ c))
theorem out_dwg : W8 m ρ c (Proc.devRef .tc main_v4) = (args m c).dwg :=
  (W8_of m ρ c main_v4 (by decide)).trans ((W7_of m ρ c main_v4 (by decide)).trans ((W6_of m ρ c main_v4 (by decide)).trans
    ((W5_arr m ρ c 2).trans (arr4 _ c _ _ (W4_args m ρ c main_arg0 (by decide)) (v3_0 m ρ c)))))
theorem out_dwu : W8 m ρ c (Proc.devRef .tc main_v5) = (args m c).dwu :=
  (W8_of m ρ c main_v5 (by decide)).trans ((W7_of m ρ c main_v5 (by decide)).trans
    ((W6_arr m ρ c 2).trans (arr5 _ c _ _ (W5_args m ρ c main_arg0 (by decide)) (v3_1_5 m ρ c))))
theorem out_dwd : W8 m ρ c (Proc.devRef .tc main_v2) = (args m c).dwd :=
  (W8_of m ρ c main_v2 (by decide)).trans ((W7_of m ρ c main_v2 (by decide)).trans ((W6_of m ρ c main_v2 (by decide)).trans
    ((W5_of m ρ c main_v2 (by decide)).trans ((W4_of m ρ c main_v2 (by decide)).trans
      ((W3_arr m ρ c 2).trans (arr2 _ c _ _ (v1_1 m ρ c) (W2_args m ρ c main_arg4 (by decide))))))))

-- the implicit arguments are found by unifying the conclusion with this one, which takes unfolding plain definitions in a
-- metavariable's type
set_option backward.isDefEq.respectTransparency.types false in
/-- The program ends with its results at these values, and its arguments as they were. -/
theorem kernel_run : θ_run defs (onTc (τ := τ) (main (F := Ideal))) ⟨m, fun _ => 0, ρ⟩ (fun r => ∀ c : Dev nD,
      (r.2.mem ((c.tc : Thread nD τ).loc main_v7) = (args m c).dhn
      ∧ r.2.mem ((c.tc : Thread nD τ).loc main_v4) = (args m c).dwg
      ∧ r.2.mem ((c.tc : Thread nD τ).loc main_v5) = (args m c).dwu
      ∧ r.2.mem ((c.tc : Thread nD τ).loc main_v2) = (args m c).dwd)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ c =>
      ⟨⟨(h c _ (mem_uc main_v7 (by decide))).trans (out_dhn m ρ c),
        (h c _ (mem_uc main_v4 (by decide))).trans (out_dwg m ρ c),
        (h c _ (mem_uc main_v5 (by decide))).trans (out_dwu m ρ c),
        (h c _ (mem_uc main_v2 (by decide))).trans (out_dwd m ρ c)⟩,
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c)⟩)

end Cert.FfnKernelIdeal.Gen

end
-- ==== Proof.Ffn.Ref.lean ====
/-
  The reference's results: the same products, and the same elementwise functions of reals.
-/
module

public import proofs.«01_k».proof.Proof.Ffn.Run
public import proofs.«01_k».proof.Proof.Gen.FfnReferenceIdeal.Run
public import proofs.«01_k».proof.Proof.Gen.FfnReferenceIdeal.Read

@[expose] public section

set_option maxRecDepth 16384

noncomputable section

namespace Cert.Ffn

open Idealize.ShloMosaic

/-- An extended real that is a real. -/
def IsReal (x : EReal) : Prop := ∃ r : ℝ, x = (r : EReal)

theorem isReal_mul {x y : EReal} : IsReal x → IsReal y → IsReal (x * y) := by
  rintro ⟨r, rfl⟩ ⟨s, rfl⟩; exact ⟨r * s, (EReal.coe_mul r s).symm⟩
theorem isReal_add {x y : EReal} : IsReal x → IsReal y → IsReal (x + y) := by
  rintro ⟨r, rfl⟩ ⟨s, rfl⟩; exact ⟨r + s, (EReal.coe_add r s).symm⟩
theorem isReal_sum {n : ℕ} (f : Fin n → EReal) (h : ∀ k, IsReal (f k)) : IsReal (∑ k, f k) :=
  Finset.sum_induction f IsReal (fun _ _ => isReal_add) ⟨0, EReal.coe_zero.symm⟩ fun k _ => h k

/-- The logistic function as the reference computes it. -/
def lg (x : EReal) : EReal :=
  Ideal.div (Ideal.ofBits .f32 0x3F800000#32) (Ideal.ofBits .f32 0x3F800000#32 + Ideal.exp (-x))

theorem half : Ideal.ofBits .f32 0x3F000000#32 = ((1 / 2 : ℝ) : EReal) := by
  simp [Ideal.ofBits, Ideal.ieee, -EReal.coe_mul]; norm_num
theorem one : Ideal.ofBits .f32 0x3F800000#32 = ((1 : ℝ) : EReal) := by
  simp [Ideal.ofBits, Ideal.ieee, -EReal.coe_mul]; norm_num

theorem sigmoid_tanh (r : ℝ) : 1 / 2 * Real.tanh (1 / 2 * r) + 1 / 2 = 1 / (1 + Real.exp (-r)) := by
  have h1 : Real.exp (1 / 2 * r) ≠ 0 := (Real.exp_pos _).ne'
  have e : Real.exp (-r) = Real.exp (-(1 / 2 * r)) / Real.exp (1 / 2 * r) := by rw [← Real.exp_sub]; congr 1; ring
  have h2 : Real.exp (1 / 2 * r) + Real.exp (-(1 / 2 * r)) ≠ 0 := (add_pos (Real.exp_pos _) (Real.exp_pos _)).ne'
  rw [e, Real.tanh_eq_sinh_div_cosh, Real.sinh_eq, Real.cosh_eq]
  generalize Real.exp (1 / 2 * r) = p at *
  generalize Real.exp (-(1 / 2 * r)) = q at *
  field_simp
  ring

/-- Of a real, both are the logistic function. -/
theorem sg_coe (r : ℝ) : sg r = ((1 / (1 + Real.exp (-r)) : ℝ) : EReal) := by
  rw [sg, half, ← EReal.coe_mul, Ideal.tanh_coe, ← EReal.coe_mul, ← EReal.coe_add, sigmoid_tanh]
theorem lg_coe (r : ℝ) : lg r = ((1 / (1 + Real.exp (-r)) : ℝ) : EReal) := by
  have h : (1 + Real.exp (-r) : ℝ) ≠ 0 := (add_pos one_pos (Real.exp_pos _)).ne'
  rw [lg, one, ← EReal.coe_neg, Ideal.exp_coe, ← EReal.coe_add, Ideal.div_coe h, ← EReal.coe_mul, one_mul]
theorem lg_eq {x : EReal} : IsReal x → lg x = sg x := by
  rintro ⟨r, rfl⟩; rw [lg_coe, sg_coe]

/-- The derivative by the gate's output, as the reference sums it. -/
theorem dgate_eq {g u d : EReal} (hg : IsReal g) (hu : IsReal u) (hd : IsReal d) :
    d * u * lg g + g * (d * u) * (lg g * (Ideal.ofBits .f32 0x3F800000#32 - lg g)) = dgate g u d := by
  obtain ⟨g, rfl⟩ := hg
  obtain ⟨u, rfl⟩ := hu
  obtain ⟨d, rfl⟩ := hd
  rw [dgate, sg_coe, lg_coe, one]
  norm_cast
  ring

/-- The arguments are real. -/
structure Args.Real (A : Args) : Prop where
  hn : ∀ i, IsReal (A.hn i)
  wg : ∀ i, IsReal (A.wg i)
  wu : ∀ i, IsReal (A.wu i)
  wd : ∀ i, IsReal (A.wd i)
  dy : ∀ i, IsReal (A.dy i)

namespace Args.Real

variable {A : Args} (h : A.Real)
include h

theorem g (i) : IsReal (A.g i) := isReal_sum _ fun _ => isReal_mul (h.hn _) (h.wg _)
theorem u (i) : IsReal (A.u i) := isReal_sum _ fun _ => isReal_mul (h.hn _) (h.wu _)
theorem d (i) : IsReal (A.d i) := isReal_sum _ fun _ => isReal_mul (h.dy _) (h.wd _)

end Args.Real

end Cert.Ffn

namespace Cert.FfnReferenceIdeal.Read

open Idealize.ShloMosaic Idealize.ShloMosaic.TcCoe Idealize.SL.Sem Cert.Ffn

variable (A : Args)

theorem v4 : val_main_v4 (F := Ideal) A.hn A.wg = A.g := by
  funext i; pointwise [val_main_v4, val_main_v0, val_main_v1, Args.g, nn]
theorem v6 : val_main_v6 (F := Ideal) A.hn A.wu = A.u := by
  funext i; pointwise [val_main_v6, val_main_v0, val_main_v2, Args.u, nn]
theorem v12 : val_main_v12 (F := Ideal) A.wd A.dy = A.d := by
  funext i; pointwise [val_main_v12, val_main_v9, val_main_v3, Args.d, nt]

variable {A} (h : A.Real)
include h

theorem v5_2 (i) : val_main_v5_2 (F := Ideal) A.hn A.wg i = sg (A.g i) := by
  rw [← lg_eq (h.g i), ← v4]; rfl
theorem v7 : val_main_v7 (F := Ideal) A.hn A.wg A.wu = A.a := by
  funext i
  rw [val_main_v7_apply, val_main_v5_0_apply, v5_2 h, v4, v6]; rfl
theorem v13 : val_main_v13 (F := Ideal) A.hn A.wg A.wd A.dy = A.du := by
  funext i
  rw [val_main_v13_apply, val_main_v5_0_apply, v5_2 h, v4, v12]; exact mul_comm _ _
theorem v18 : val_main_v18 (F := Ideal) A.hn A.wg A.wu A.wd A.dy = A.dg := by
  funext i
  rw [show A.dg i = _ from (dgate_eq (h.g i) (h.u i) (h.d i)).symm, lg_eq (h.g i), val_main_v18_apply, val_main_call1_v1_apply,
    val_main_call1_v2_apply, val_main_call1_v0_apply, val_main_v5_1_apply, val_main_call0_v7_apply, val_main_v14_apply, v5_2 h, v4, v6, v12]
  rfl

/-- The four results. -/
theorem dhn : val_main_v22 (F := Ideal) A.hn A.wg A.wu A.wd A.dy = A.dhn := by
  funext i
  pointwise [val_main_v22, val_main_v17, val_main_v21, v13 h, v18 h, val_main_v1, val_main_v2, Args.dhn, nt]
theorem dwg : val_main_v20 (F := Ideal) A.hn A.wg A.wu A.wd A.dy = A.dwg := by
  funext i
  pointwise [val_main_v20, val_main_v19, v18 h, val_main_v0, Args.dwg, tn]
  exact Finset.sum_congr rfl fun k _ => mul_comm _ _
theorem dwu : val_main_v16 (F := Ideal) A.hn A.wg A.wd A.dy = A.dwu := by
  funext i
  pointwise [val_main_v16, val_main_v15, v13 h, val_main_v0, Args.dwu, tn]
  exact Finset.sum_congr rfl fun k _ => mul_comm _ _
theorem dwd : val_main_v11 (F := Ideal) A.hn A.wg A.wu A.dy = A.dwd := by
  funext i
  pointwise [val_main_v11, val_main_v10, v7 h, val_main_v9, Args.dwd, tn]
  exact Finset.sum_congr rfl fun k _ => mul_comm _ _

omit h in
/-- The reference ends with the four results of its arguments, which are real, and the arguments as they were. -/
theorem reference_run (m : (ℓ : Loc nD τ sig) → Buf (Elt Ideal) ℓ) (ρ : Dev nD → PrngReg) (B : Dev nD → Args) (hB : ∀ c, (B c).Real)
    (hm : ∀ c : Dev nD, m ((c.tc : Thread nD τ).loc main_arg0) = (B c).hn ∧ m ((c.tc : Thread nD τ).loc main_arg1) = (B c).wg
      ∧ m ((c.tc : Thread nD τ).loc main_arg2) = (B c).wu ∧ m ((c.tc : Thread nD τ).loc main_arg3) = (B c).wd
      ∧ m ((c.tc : Thread nD τ).loc main_arg4) = (B c).dy) :
    θ_run defs (onTc (τ := τ) (main (F := Ideal))) ⟨m, fun _ => 0, ρ⟩ fun r => ∀ c : Dev nD,
      (r.2.mem ((c.tc : Thread nD τ).loc main_v22) = (B c).dhn ∧ r.2.mem ((c.tc : Thread nD τ).loc main_v20) = (B c).dwg
        ∧ r.2.mem ((c.tc : Thread nD τ).loc main_v16) = (B c).dwu ∧ r.2.mem ((c.tc : Thread nD τ).loc main_v11) = (B c).dwd)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run (F := Ideal) m ρ)
  obtain ⟨h0, h1, h2, h3, k⟩ := h c
  obtain ⟨e0, e1, e2, e3, e4⟩ := hm c
  refine ⟨⟨?_, ?_, ?_, ?_⟩, k⟩
  · rw [← dhn (hB c), ← e0, ← e1, ← e2, ← e3, ← e4]; exact h0
  · rw [← dwg (hB c), ← e0, ← e1, ← e2, ← e3, ← e4]; exact h1
  · rw [← dwu (hB c), ← e0, ← e1, ← e3, ← e4]; exact h2
  · rw [← dwd (hB c), ← e0, ← e1, ← e2, ← e4]; exact h3

end Cert.FfnReferenceIdeal.Read

end
-- ==== Proof.Ffn.Pre.lean ====
/-
  The second precondition: arguments that are all finite hold reals.
-/
module

public import proofs.«01_k».proof.Pre_finite2
public import proofs.«01_k».proof.Proof.Val.Pre
public import proofs.«01_k».proof.Proof.Ffn.Ref

@[expose] public section

noncomputable section

namespace Cert.Pre_finite2

open Idealize.ShloMosaic Cert.Ffn

/-- The shape relations that the precondition states. -/
theorem facts : Facts where
  bitsLt_bf16_f32 := by decide
  bcast_S_S4096x2048 := by decide
  reducesTo_S4096x2048_S_d0_1 := by decide
  h_S_ := by decide
  bcast_S_S2048x5632 := by decide
  reducesTo_S2048x5632_S_d0_1 := by decide
  bcast_S_S5632x2048 := by decide
  reducesTo_S5632x2048_S_d0_1 := by decide

variable [Facts]
open Facts

theorem all_real {s : Shape} {axes : List (Fin s.rank)} (x : FVec Ideal s .f32) (hb : S_.BroadcastsInDim s (![] : Fin 0 → Fin s.rank))
    (hr : s.ReducesTo axes S_) (z : IVec S_ 1) (j : S_.Idx)
    (e : Host.reduce IntOp.andi (cmpf .olt (Host.absf x) (broadcastInDim s ![] hb (constant (F := Ideal) S_ .f32 0x7F800000#32))) z hr h_S_ j = 1#1)
    (i : s.Idx) : IsReal (x i) := by
  haveI : Subsingleton S_.Idx := ⟨fun a b => funext fun k => k.elim0⟩
  exact ⟨_, Cert.Pre_finite.real_of_lt _ (Host.reduce_andi_all _ z hr h_S_ j e i)⟩

/-- Every argument holds reals. -/
theorem real (A : Args) (h : fn (F := Ideal) A.hn A.wg A.wu A.wd A.dy = fun _ => 1#1) : A.Real := by
  have e := congrFun h fun k => k.elim0
  simp only [fn, fn_part1] at e
  simp only [andi, Cert.Pre_finite.andi_one] at e
  obtain ⟨⟨⟨⟨e0, e1⟩, e2⟩, e3⟩, e4⟩ := e
  exact ⟨all_real (extf .f32 (φ := .bf16) A.hn bitsLt_bf16_f32) _ _ _ _ e0, all_real (extf .f32 (φ := .bf16) A.wg bitsLt_bf16_f32) _ _ _ _ e1,
    all_real (extf .f32 (φ := .bf16) A.wu bitsLt_bf16_f32) _ _ _ _ e2, all_real (extf .f32 (φ := .bf16) A.wd bitsLt_bf16_f32) _ _ _ _ e3,
    all_real (extf .f32 (φ := .bf16) A.dy bitsLt_bf16_f32) _ _ _ _ e4⟩

end Cert.Pre_finite2

end
-- ==== Proof.Lin.Calls.lean ====
/-
  The linear maps' calls: each is a product of whole matrices, or half its rows.
-/
module

public import proofs.«01_k».proof.Proof.Gen.LinearKernelIdeal.Frame
public import proofs.«01_k».proof.Proof.Ffn.Calls

@[expose] public section

set_option maxRecDepth 16384

noncomputable section

namespace Cert.Ffn

open Idealize.ShloMosaic

/-- Half of the rows of a product `xᵀ · y`, from row `o` on. -/
def tnFrom (o : ℕ) (ho : o + 1024 ≤ 2048) {b n : ℕ} (x : Mat n 2048) (y : Mat n b) : Mat 1024 b :=
  fun i => tn x y (ix2 (⟨o + (i 0).val, Nat.lt_of_lt_of_le (Nat.add_lt_add_left (i 0).isLt o) ho⟩ : Fin 2048) (i 1))

end Cert.Ffn

namespace Cert.LinearKernelIdeal.Gen

open Idealize.ShloMosaic Idealize.ShloMosaic.TcCoe Cert.Ffn

section Payloads

theorem pay0 (x : Mat 1024 2048) (y : Mat 2048 1024) : k0_pay1 (F := Ideal) x y = nn x y := by funext i; pointwise [k0_pay1, nn]
theorem pay1 (x : Mat 1024 2048) (y : Mat 2048 1024) (z : Mat 1024 1024) :
    k1_pay1 (F := Ideal) x y z = fun i => nn x y i + z i := by funext i; pointwise [k1_pay1, nn]
theorem pay2 (x : Mat 1024 5632) (y : Mat 5632 512) (z : Mat 1024 512) :
    k2_pay1 (F := Ideal) x y z = fun i => nn x y i + z i := by funext i; pointwise [k2_pay1, nn]
theorem pay3 (x : Mat 4096 1024) (y : Mat 4096 1024) : k3_pay1 (F := Ideal) x y = tn x y := by funext i; pointwise [k3_pay1, tn]
theorem pay4 (x : Mat 1024 2048) (y : Mat 1024 2048) : k4_pay1 (F := Ideal) x y = nt x y := by funext i; pointwise [k4_pay1, nt]
theorem pay5 (x : Mat 4096 1024) (y : Mat 4096 1024) : k5_pay1 (F := Ideal) x y = tn x y := by funext i; pointwise [k5_pay1, tn]
theorem pay6 (x : Mat 1024 2048) (y : Mat 1024 2048) : k6_pay1 (F := Ideal) x y = nt x y := by funext i; pointwise [k6_pay1, nt]
theorem pay7 (x : Mat 4096 1408) (y : Mat 4096 512) : k7_pay1 (F := Ideal) x y = tn x y := by funext i; pointwise [k7_pay1, tn]
theorem pay8 (x : Mat 1024 2048) (y : Mat 1408 2048) : k8_pay1 (F := Ideal) x y = nt x y := by funext i; pointwise [k8_pay1, nt]
theorem pay9 (x : Mat 4096 1024) (y : Mat 4096 640) : k9_pay1 (F := Ideal) x y = tn x y := by funext i; pointwise [k9_pay1, tn]
theorem pay10 (x : Mat 4096 1024) (y : Mat 4096 640) : k10_pay1 (F := Ideal) x y = tn x y := by funext i; pointwise [k10_pay1, tn]

end Payloads

variable (V : (c : Dev nD) → (b : Ref sig .tc) → Buf (Elt Ideal) ((c : Thread nD τ).loc b)) (c : Dev nD)

/-! Call 0: `attn_proj`. -/

theorem ix0 : ∀ t : Fin cfg0.N,
    win0_0.index t = ![(grid0.coords t 0).val, 0] ∧ win0_1.index t = ![0, (grid0.coords t 1).val] ∧
    win0_2.index t = ![(grid0.coords t 0).val, (grid0.coords t 1).val] :=
  (by decide +kernel : ∀ t : Fin grid0.N, _)

theorem arr0 (x : Mat 4096 2048) (y : Mat 2048 2048)
    (hx : V c main_arg5 = x) (hy : V c main_arg6 = y) :
    (dat0 V c).arrAt 2 cfg0.N = (nn x y : Mat 4096 2048) := by
  subst hx hy
  refine (dat0 V c).arrAt_eq_of_covers 2 _ (by decide +kernel) fun t hf j => ?_
  blk_simp
  rw [after0_2]
  frame_out
  exact (congrFun (pay0 _ _) j).trans
    (nn_congr _ _ (fun k => by blk_ext [iblk0, ix0]) (fun k => by blk_ext [iblk0, ix0]))

/-! Call 1: `out_proj`. -/

theorem ix1 : ∀ t : Fin cfg1.N,
    win1_0.index t = ![(grid1.coords t 0).val, 0] ∧ win1_1.index t = ![0, (grid1.coords t 1).val] ∧
    win1_2.index t = ![(grid1.coords t 0).val, (grid1.coords t 1).val] ∧ win1_3.index t = ![(grid1.coords t 0).val, (grid1.coords t 1).val] :=
  (by decide +kernel : ∀ t : Fin grid1.N, _)

theorem arr1 (x : Mat 4096 2048) (y : Mat 2048 2048) (p : Mat 4096 2048)
    (hx : V c main_arg2 = x) (hy : V c main_arg3 = y) (hp : V c main_arg11 = p) :
    (dat1 V c).arrAt 3 cfg1.N = (fun i => nn x y i + p i : Mat 4096 2048) := by
  subst hx hy hp
  refine (dat1 V c).arrAt_eq_of_covers 3 _ (by decide +kernel) fun t hf j => ?_
  blk_simp
  rw [after1_3]
  frame_out
  refine (congrFun (pay1 _ _ _) j).trans ?_
  exact congrArg₂ (· + ·)
    (nn_congr _ _ (fun k => by blk_ext [iblk1, ix1]) (fun k => by blk_ext [iblk1, ix1]))
    (by blk_ext [iblk1, ix1])

/-! Call 2: `ffn_down`. -/

theorem ix2 : ∀ t : Fin cfg2.N,
    win2_0.index t = ![(grid2.coords t 0).val, 0] ∧ win2_1.index t = ![0, (grid2.coords t 1).val] ∧
    win2_2.index t = ![(grid2.coords t 0).val, (grid2.coords t 1).val] ∧ win2_3.index t = ![(grid2.coords t 0).val, (grid2.coords t 1).val] :=
  (by decide +kernel : ∀ t : Fin grid2.N, _)

theorem arr2 (x : Mat 4096 5632) (y : Mat 5632 2048) (p : Mat 4096 2048)
    (hx : V c main_arg12 = x) (hy : V c main_arg13 = y) (hp : V c main_v1 = p) :
    (dat2 V c).arrAt 3 cfg2.N = (fun i => nn x y i + p i : Mat 4096 2048) := by
  subst hx hy hp
  refine (dat2 V c).arrAt_eq_of_covers 3 _ (by decide +kernel) fun t hf j => ?_
  blk_simp
  rw [after2_3]
  frame_out
  refine (congrFun (pay2 _ _ _) j).trans ?_
  exact congrArg₂ (· + ·)
    (nn_congr _ _ (fun k => by blk_ext [iblk2, ix2]) (fun k => by blk_ext [iblk2, ix2]))
    (by blk_ext [iblk2, ix2])

/-! Call 3: `d_w_out`. -/

theorem ix3 : ∀ t : Fin cfg3.N,
    win3_0.index t = ![0, (grid3.coords t 0).val] ∧ win3_1.index t = ![0, (grid3.coords t 1).val] ∧
    win3_2.index t = ![(grid3.coords t 0).val, (grid3.coords t 1).val] :=
  (by decide +kernel : ∀ t : Fin grid3.N, _)

theorem arr3 (x : Mat 4096 2048) (y : Mat 4096 2048)
    (hx : V c main_arg2 = x) (hy : V c main_arg4 = y) :
    (dat3 V c).arrAt 2 cfg3.N = (tn x y : Mat 2048 2048) := by
  subst hx hy
  refine (dat3 V c).arrAt_eq_of_covers 2 _ (by decide +kernel) fun t hf j => ?_
  blk_simp
  rw [after3_2]
  frame_out
  exact (congrFun (pay3 _ _) j).trans
    (tn_congr _ _ (fun k => by blk_ext [iblk3, ix3]) (fun k => by blk_ext [iblk3, ix3]))

/-! Call 4: `d_merged`. -/

theorem ix4 : ∀ t : Fin cfg4.N,
    win4_0.index t = ![(grid4.coords t 0).val, 0] ∧ win4_1.index t = ![(grid4.coords t 1).val, 0] ∧
    win4_2.index t = ![(grid4.coords t 0).val, (grid4.coords t 1).val] :=
  (by decide +kernel : ∀ t : Fin grid4.N, _)

theorem arr4 (x : Mat 4096 2048) (y : Mat 2048 2048)
    (hx : V c main_arg4 = x) (hy : V c main_arg3 = y) :
    (dat4 V c).arrAt 2 cfg4.N = (nt x y : Mat 4096 2048) := by
  subst hx hy
  refine (dat4 V c).arrAt_eq_of_covers 2 _ (by decide +kernel) fun t hf j => ?_
  blk_simp
  rw [after4_2]
  frame_out
  exact (congrFun (pay4 _ _) j).trans
    (nt_congr _ _ (fun k => by blk_ext [iblk4, ix4]) (fun k => by blk_ext [iblk4, ix4]))

/-! Call 5: `d_w_attn_proj`. -/

theorem ix5 : ∀ t : Fin cfg5.N,
    win5_0.index t = ![0, (grid5.coords t 0).val] ∧ win5_1.index t = ![0, (grid5.coords t 1).val] ∧
    win5_2.index t = ![(grid5.coords t 0).val, (grid5.coords t 1).val] :=
  (by decide +kernel : ∀ t : Fin grid5.N, _)

theorem arr5 (x : Mat 4096 2048) (y : Mat 4096 2048)
    (hx : V c main_arg5 = x) (hy : V c main_arg7 = y) :
    (dat5 V c).arrAt 2 cfg5.N = (tn x y : Mat 2048 2048) := by
  subst hx hy
  refine (dat5 V c).arrAt_eq_of_covers 2 _ (by decide +kernel) fun t hf j => ?_
  blk_simp
  rw [after5_2]
  frame_out
  exact (congrFun (pay5 _ _) j).trans
    (tn_congr _ _ (fun k => by blk_ext [iblk5, ix5]) (fun k => by blk_ext [iblk5, ix5]))

/-! Call 6: `d_attn`. -/

theorem ix6 : ∀ t : Fin cfg6.N,
    win6_0.index t = ![(grid6.coords t 0).val, 0] ∧ win6_1.index t = ![(grid6.coords t 1).val, 0] ∧
    win6_2.index t = ![(grid6.coords t 0).val, (grid6.coords t 1).val] :=
  (by decide +kernel : ∀ t : Fin grid6.N, _)

theorem arr6 (x : Mat 4096 2048) (y : Mat 2048 2048)
    (hx : V c main_arg7 = x) (hy : V c main_arg6 = y) :
    (dat6 V c).arrAt 2 cfg6.N = (nt x y : Mat 4096 2048) := by
  subst hx hy
  refine (dat6 V c).arrAt_eq_of_covers 2 _ (by decide +kernel) fun t hf j => ?_
  blk_simp
  rw [after6_2]
  frame_out
  exact (congrFun (pay6 _ _) j).trans
    (nt_congr _ _ (fun k => by blk_ext [iblk6, ix6]) (fun k => by blk_ext [iblk6, ix6]))

/-! Call 7: `d_w_lru_proj`. -/

theorem ix7 : ∀ t : Fin cfg7.N,
    win7_0.index t = ![0, (grid7.coords t 0).val] ∧ win7_1.index t = ![0, (grid7.coords t 1).val] ∧
    win7_2.index t = ![(grid7.coords t 0).val, (grid7.coords t 1).val] :=
  (by decide +kernel : ∀ t : Fin grid7.N, _)

theorem arr7 (x : Mat 4096 2816) (y : Mat 4096 2048)
    (hx : V c main_arg8 = x) (hy : V c main_arg10 = y) :
    (dat7 V c).arrAt 2 cfg7.N = (tn x y : Mat 2816 2048) := by
  subst hx hy
  refine (dat7 V c).arrAt_eq_of_covers 2 _ (by decide +kernel) fun t hf j => ?_
  blk_simp
  rw [after7_2]
  frame_out
  exact (congrFun (pay7 _ _) j).trans
    (tn_congr _ _ (fun k => by blk_ext [iblk7, ix7]) (fun k => by blk_ext [iblk7, ix7]))

/-! Call 8: `d_rec`. -/

theorem ix8 : ∀ t : Fin cfg8.N,
    win8_0.index t = ![(grid8.coords t 0).val, 0] ∧ win8_1.index t = ![(grid8.coords t 1).val, 0] ∧
    win8_2.index t = ![(grid8.coords t 0).val, (grid8.coords t 1).val] :=
  (by decide +kernel : ∀ t : Fin grid8.N, _)

theorem arr8 (x : Mat 4096 2048) (y : Mat 2816 2048)
    (hx : V c main_arg10 = x) (hy : V c main_arg9 = y) :
    (dat8 V c).arrAt 2 cfg8.N = (nt x y : Mat 4096 2816) := by
  subst hx hy
  refine (dat8 V c).arrAt_eq_of_covers 2 _ (by decide +kernel) fun t hf j => ?_
  blk_simp
  rw [after8_2]
  frame_out
  exact (congrFun (pay8 _ _) j).trans
    (nt_congr _ _ (fun k => by blk_ext [iblk8, ix8]) (fun k => by blk_ext [iblk8, ix8]))

/-! Call 9: `d_w_in_top`. -/

theorem ix9 : ∀ t : Fin cfg9.N,
    win9_0.index t = ![0, (grid9.coords t 0).val] ∧ win9_1.index t = ![0, (grid9.coords t 1).val] ∧
    win9_2.index t = ![(grid9.coords t 0).val, (grid9.coords t 1).val] :=
  (by decide +kernel : ∀ t : Fin grid9.N, _)

theorem arr9 (x : Mat 4096 2048) (y : Mat 4096 12800)
    (hx : V c main_arg0 = x) (hy : V c main_arg1 = y) :
    (dat9 V c).arrAt 2 cfg9.N = (tnFrom 0 (by decide) x y : Mat 1024 12800) := by
  subst hx hy
  refine (dat9 V c).arrAt_eq_of_covers 2 _ (by decide +kernel) fun t hf j => ?_
  blk_simp
  rw [after9_2]
  frame_out
  exact (congrFun (pay9 _ _) j).trans
    (tn_congr _ _ (fun k => by blk_ext [iblk9, ix9]) (fun k => by blk_ext [iblk9, ix9]))

/-! Call 10: `d_w_in_bot`. -/

theorem ix10 : ∀ t : Fin cfg10.N,
    win10_0.index t = ![0, 1 + (grid10.coords t 0).val] ∧ win10_1.index t = ![0, (grid10.coords t 1).val] ∧
    win10_2.index t = ![(grid10.coords t 0).val, (grid10.coords t 1).val] :=
  (by decide +kernel : ∀ t : Fin grid10.N, _)

theorem arr10 (x : Mat 4096 2048) (y : Mat 4096 12800)
    (hx : V c main_arg0 = x) (hy : V c main_arg1 = y) :
    (dat10 V c).arrAt 2 cfg10.N = (tnFrom 1024 (by decide) x y : Mat 1024 12800) := by
  subst hx hy
  refine (dat10 V c).arrAt_eq_of_covers 2 _ (by decide +kernel) fun t hf j => ?_
  blk_simp
  rw [after10_2]
  frame_out
  exact (congrFun (pay10 _ _) j).trans
    (tn_congr _ _ (fun k => by blk_ext [iblk10, ix10]) (fun k => by blk_ext [iblk10, ix10]))

end Cert.LinearKernelIdeal.Gen

end
-- ==== Proof.Lin.Run.lean ====
/-
  The linear maps' calls in order: what the program leaves in its ten results.
-/
module

public import proofs.«01_k».proof.Proof.Lin.Calls

@[expose] public section

set_option maxRecDepth 16384

noncomputable section

namespace Cert.Lin

open Cert.Ffn

/-- The arguments: the normed input and the input projection's cotangent; the merged mixers, the output weights and the
cotangent of the layer's middle; the attention, its projection's weights and cotangent; the recurrence, its projection's
weights and cotangent; the layer's input; the gated product and the down weights. -/
structure Args where
  xn : Mat 4096 2048
  dz : Mat 4096 12800
  merged : Mat 4096 2048
  wo : Mat 2048 2048
  dh : Mat 4096 2048
  attn : Mat 4096 2048
  wa : Mat 2048 2048
  dpa : Mat 4096 2048
  lru : Mat 4096 2816
  wl : Mat 2816 2048
  dpl : Mat 4096 2048
  x : Mat 4096 2048
  act : Mat 4096 5632
  wd : Mat 5632 2048

namespace Args

variable (A : Args)

/-- The attention's projection, the layer's middle, and the layer's output. -/
def pa : Mat 4096 2048 := nn A.attn A.wa
def h : Mat 4096 2048 := fun i => nn A.merged A.wo i + A.x i
def y : Mat 4096 2048 := fun i => nn A.act A.wd i + A.h i

/-- The gradients: by each linear map's input and by its weights. -/
def dmerged : Mat 4096 2048 := nt A.dh A.wo
def dwo : Mat 2048 2048 := tn A.merged A.dh
def dattn : Mat 4096 2048 := nt A.dpa A.wa
def dwa : Mat 2048 2048 := tn A.attn A.dpa
def drec : Mat 4096 2816 := nt A.dpl A.wl
def dwl : Mat 2816 2048 := tn A.lru A.dpl
def dtop : Mat 1024 12800 := tnFrom 0 (by decide) A.xn A.dz
def dbot : Mat 1024 12800 := tnFrom 1024 (by decide) A.xn A.dz

end Args

end Cert.Lin

namespace Cert.LinearKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Lin (Args)

local notation "𝕄" => MT nD τ sig Unit (Elt Ideal) ℕ (UR sig nD τ) ℕ

variable (m : (ℓ : Loc nD τ sig) → Buf (Elt Ideal) ℓ) (ρ : Dev nD → PrngReg) (c : Dev nD)

/-- The arguments on device `c`. -/
def args : Args := ⟨m (c.tc.loc main_arg0), m (c.tc.loc main_arg1), m (c.tc.loc main_arg2), m (c.tc.loc main_arg3), m (c.tc.loc main_arg4),
  m (c.tc.loc main_arg5), m (c.tc.loc main_arg6), m (c.tc.loc main_arg7), m (c.tc.loc main_arg8), m (c.tc.loc main_arg9),
  m (c.tc.loc main_arg10), m (c.tc.loc main_arg11), m (c.tc.loc main_arg12), m (c.tc.loc main_arg13)⟩

theorem v1_2 : V2 m ρ c main_v1 = (args m c).h :=
  (W2_arr m ρ c 3).trans (arr1 _ c _ _ _ (W1_args m ρ c main_arg2 (by decide)) (W1_args m ρ c main_arg3 (by decide)) (W1_args m ρ c main_arg11 (by decide)))

/-- The ten results at the end. -/
theorem out_pa : W11 m ρ c (Proc.devRef .tc main_v0) = (args m c).pa :=
  (W11_of m ρ c main_v0 (by decide)).trans ((W10_of m ρ c main_v0 (by decide)).trans ((W9_of m ρ c main_v0 (by decide)).trans
    ((W8_of m ρ c main_v0 (by decide)).trans ((W7_of m ρ c main_v0 (by decide)).trans ((W6_of m ρ c main_v0 (by decide)).trans
    ((W5_of m ρ c main_v0 (by decide)).trans ((W4_of m ρ c main_v0 (by decide)).trans ((W3_of m ρ c main_v0 (by decide)).trans
    ((W2_of m ρ c main_v0 (by decide)).trans ((W1_arr m ρ c 2).trans (arr0 _ c _ _ rfl rfl)))))))))))
theorem out_y : W11 m ρ c (Proc.devRef .tc main_v2) = (args m c).y :=
  (W11_of m ρ c main_v2 (by decide)).trans ((W10_of m ρ c main_v2 (by decide)).trans ((W9_of m ρ c main_v2 (by decide)).trans
    ((W8_of m ρ c main_v2 (by decide)).trans ((W7_of m ρ c main_v2 (by decide)).trans ((W6_of m ρ c main_v2 (by decide)).trans
    ((W5_of m ρ c main_v2 (by decide)).trans ((W4_of m ρ c main_v2 (by decide)).trans ((W3_arr m ρ c 3).trans (arr2 _ c _ _ _
    (W2_args m ρ c main_arg12 (by decide)) (W2_args m ρ c main_arg13 (by decide)) (v1_2 m ρ c))))))))))
theorem out_dmerged : W11 m ρ c (Proc.devRef .tc main_v4) = (args m c).dmerged :=
  (W11_of m ρ c main_v4 (by decide)).trans ((W10_of m ρ c main_v4 (by decide)).trans ((W9_of m ρ c main_v4 (by decide)).trans
    ((W8_of m ρ c main_v4 (by decide)).trans ((W7_of m ρ c main_v4 (by decide)).trans ((W6_of m ρ c main_v4 (by decide)).trans
    ((W5_arr m ρ c 2).trans (arr4 _ c _ _ (W4_args m ρ c main_arg4 (by decide)) (W4_args m ρ c main_arg3 (by decide)))))))))
theorem out_dwo : W11 m ρ c (Proc.devRef .tc main_v3) = (args m c).dwo :=
  (W11_of m ρ c main_v3 (by decide)).trans ((W10_of m ρ c main_v3 (by decide)).trans ((W9_of m ρ c main_v3 (by decide)).trans
    ((W8_of m ρ c main_v3 (by decide)).trans ((W7_of m ρ c main_v3 (by decide)).trans ((W6_of m ρ c main_v3 (by decide)).trans
    ((W5_of m ρ c main_v3 (by decide)).trans ((W4_arr m ρ c 2).trans (arr3 _ c _ _ (W3_args m ρ c main_arg2 (by decide))
    (W3_args m ρ c main_arg4 (by decide))))))))))
theorem out_dattn : W11 m ρ c (Proc.devRef .tc main_v6) = (args m c).dattn :=
  (W11_of m ρ c main_v6 (by decide)).trans ((W10_of m ρ c main_v6 (by decide)).trans ((W9_of m ρ c main_v6 (by decide)).trans
    ((W8_of m ρ c main_v6 (by decide)).trans ((W7_arr m ρ c 2).trans (arr6 _ c _ _ (W6_args m ρ c main_arg7 (by decide))
    (W6_args m ρ c main_arg6 (by decide)))))))
theorem out_dwa : W11 m ρ c (Proc.devRef .tc main_v5) = (args m c).dwa :=
  (W11_of m ρ c main_v5 (by decide)).trans ((W10_of m ρ c main_v5 (by decide)).trans ((W9_of m ρ c main_v5 (by decide)).trans
    ((W8_of m ρ c main_v5 (by decide)).trans ((W7_of m ρ c main_v5 (by decide)).trans ((W6_arr m ρ c 2).trans (arr5 _ c _ _
    (W5_args m ρ c main_arg5 (by decide)) (W5_args m ρ c main_arg7 (by decide))))))))
theorem out_drec : W11 m ρ c (Proc.devRef .tc main_v8) = (args m c).drec :=
  (W11_of m ρ c main_v8 (by decide)).trans ((W10_of m ρ c main_v8 (by decide)).trans ((W9_arr m ρ c 2).trans (arr8 _ c _ _
    (W8_args m ρ c main_arg10 (by decide)) (W8_args m ρ c main_arg9 (by decide)))))
theorem out_dwl : W11 m ρ c (Proc.devRef .tc main_v7) = (args m c).dwl :=
  (W11_of m ρ c main_v7 (by decide)).trans ((W10_of m ρ c main_v7 (by decide)).trans ((W9_of m ρ c main_v7 (by decide)).trans
    ((W8_arr m ρ c 2).trans (arr7 _ c _ _ (W7_args m ρ c main_arg8 (by decide)) (W7_args m ρ c main_arg10 (by decide))))))
theorem out_dtop : W11 m ρ c (Proc.devRef .tc main_v9) = (args m c).dtop :=
  (W11_of m ρ c main_v9 (by decide)).trans ((W10_arr m ρ c 2).trans (arr9 _ c _ _ (W9_args m ρ c main_arg0 (by decide))
    (W9_args m ρ c main_arg1 (by decide))))
theorem out_dbot : W11 m ρ c (Proc.devRef .tc main_v10) = (args m c).dbot :=
  (W11_arr m ρ c 2).trans (arr10 _ c _ _ (W10_args m ρ c main_arg0 (by decide)) (W10_args m ρ c main_arg1 (by decide)))

-- the implicit arguments are found by unifying the conclusion with this one, which takes unfolding plain definitions in a
-- metavariable's type
set_option backward.isDefEq.respectTransparency.types false in
/-- The program ends with its results at these values, and its arguments as they were. -/
theorem kernel_run : θ_run defs (onTc (τ := τ) (main (F := Ideal))) ⟨m, fun _ => 0, ρ⟩ (fun r => ∀ c : Dev nD,
      (r.2.mem ((c.tc : Thread nD τ).loc main_v0) = (args m c).pa
      ∧ r.2.mem ((c.tc : Thread nD τ).loc main_v2) = (args m c).y
      ∧ r.2.mem ((c.tc : Thread nD τ).loc main_v4) = (args m c).dmerged
      ∧ r.2.mem ((c.tc : Thread nD τ).loc main_v3) = (args m c).dwo
      ∧ r.2.mem ((c.tc : Thread nD τ).loc main_v6) = (args m c).dattn
      ∧ r.2.mem ((c.tc : Thread nD τ).loc main_v5) = (args m c).dwa
      ∧ r.2.mem ((c.tc : Thread nD τ).loc main_v8) = (args m c).drec
      ∧ r.2.mem ((c.tc : Thread nD τ).loc main_v7) = (args m c).dwl
      ∧ r.2.mem ((c.tc : Thread nD τ).loc main_v9) = (args m c).dtop
      ∧ r.2.mem ((c.tc : Thread nD τ).loc main_v10) = (args m c).dbot)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h _ c =>
      ⟨⟨(h c _ (mem_uc main_v0 (by decide))).trans (out_pa m ρ c),
        (h c _ (mem_uc main_v2 (by decide))).trans (out_y m ρ c),
        (h c _ (mem_uc main_v4 (by decide))).trans (out_dmerged m ρ c),
        (h c _ (mem_uc main_v3 (by decide))).trans (out_dwo m ρ c),
        (h c _ (mem_uc main_v6 (by decide))).trans (out_dattn m ρ c),
        (h c _ (mem_uc main_v5 (by decide))).trans (out_dwa m ρ c),
        (h c _ (mem_uc main_v8 (by decide))).trans (out_drec m ρ c),
        (h c _ (mem_uc main_v7 (by decide))).trans (out_dwl m ρ c),
        (h c _ (mem_uc main_v9 (by decide))).trans (out_dtop m ρ c),
        (h c _ (mem_uc main_v10 (by decide))).trans (out_dbot m ρ c)⟩,
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c)⟩)

end Cert.LinearKernelIdeal.Gen

end
-- ==== Proof.Lin.Ref.lean ====
/-
  The reference's results: the linear maps and their derivatives.
-/
module

public import proofs.«01_k».proof.Proof.Lin.Run
public import proofs.«01_k».proof.Proof.Gen.LinearReferenceIdeal.Run
public import proofs.«01_k».proof.Proof.Gen.LinearReferenceIdeal.Read
public import Idealize.ShloMosaic.Lib.Pointwise

@[expose] public section

set_option maxRecDepth 16384

noncomputable section

namespace Cert.LinearReferenceIdeal.Read

open Idealize.ShloMosaic Idealize.ShloMosaic.TcCoe Idealize.SL.Sem Cert.Ffn Cert.Lin

variable (A : Args)

theorem pa : val_main_v13 (F := Ideal) A.attn A.wa = A.pa := by
  funext i; pointwise [val_main_v13, val_main_v5, val_main_v6, Args.pa, nn]
theorem y : val_main_v19 (F := Ideal) A.merged A.wo A.x A.act A.wd = A.y := by
  funext i; pointwise [val_main_v19, val_main_v15, val_main_v14, val_main_v18, val_main_v2, val_main_v3, val_main_v11, val_main_v12, Args.y, Args.h, nn]
  rw [add_comm, add_comm (A.x i)]
theorem dmerged : val_main_v22 (F := Ideal) A.wo A.dh = A.dmerged := by
  funext i; pointwise [val_main_v22, val_main_v3, val_main_v4, Args.dmerged, nt]
theorem dwo : val_main_v21 (F := Ideal) A.merged A.dh = A.dwo := by
  funext i; pointwise [val_main_v21, val_main_v20, val_main_v2, val_main_v4, Args.dwo, tn]
  exact Finset.sum_congr rfl fun k _ => mul_comm _ _
theorem dattn : val_main_v25 (F := Ideal) A.wa A.dpa = A.dattn := by
  funext i; pointwise [val_main_v25, val_main_v6, val_main_v7, Args.dattn, nt]
theorem dwa : val_main_v24 (F := Ideal) A.attn A.dpa = A.dwa := by
  funext i; pointwise [val_main_v24, val_main_v23, val_main_v5, val_main_v7, Args.dwa, tn]
  exact Finset.sum_congr rfl fun k _ => mul_comm _ _
theorem drec : val_main_v29 (F := Ideal) A.wl A.dpl = A.drec := by
  funext i; pointwise [val_main_v29, val_main_v9, val_main_v10, Args.drec, nt]
theorem dwl : val_main_v28 (F := Ideal) A.lru A.dpl = A.dwl := by
  funext i; pointwise [val_main_v28, val_main_v27, val_main_v8, val_main_v10, Args.dwl, tn]
  exact Finset.sum_congr rfl fun k _ => mul_comm _ _
theorem dtop : val_main_v30 (F := Ideal) A.xn A.dz = A.dtop := by
  funext i; pointwise [val_main_v30, val_main_v17, val_main_v16, val_main_v0, val_main_v1, Args.dtop, tnFrom, tn]
  exact Finset.sum_congr rfl fun k _ => mul_comm _ _
theorem dbot : val_main_v31 (F := Ideal) A.xn A.dz = A.dbot := by
  funext i; pointwise [val_main_v31, val_main_v17, val_main_v16, val_main_v0, val_main_v1, Args.dbot, tnFrom, tn]
  exact Finset.sum_congr rfl fun k _ => mul_comm _ _

/-- The reference ends with the ten results of its arguments, and the arguments as they were. -/
theorem reference_run (m : (ℓ : Loc nD τ sig) → Buf (Elt Ideal) ℓ) (ρ : Dev nD → PrngReg) (B : Dev nD → Args)
    (hm : ∀ c : Dev nD, m ((c.tc : Thread nD τ).loc main_arg0) = (B c).xn
      ∧ m ((c.tc : Thread nD τ).loc main_arg1) = (B c).dz
      ∧ m ((c.tc : Thread nD τ).loc main_arg2) = (B c).merged
      ∧ m ((c.tc : Thread nD τ).loc main_arg3) = (B c).wo
      ∧ m ((c.tc : Thread nD τ).loc main_arg4) = (B c).dh
      ∧ m ((c.tc : Thread nD τ).loc main_arg5) = (B c).attn
      ∧ m ((c.tc : Thread nD τ).loc main_arg6) = (B c).wa
      ∧ m ((c.tc : Thread nD τ).loc main_arg7) = (B c).dpa
      ∧ m ((c.tc : Thread nD τ).loc main_arg8) = (B c).lru
      ∧ m ((c.tc : Thread nD τ).loc main_arg9) = (B c).wl
      ∧ m ((c.tc : Thread nD τ).loc main_arg10) = (B c).dpl
      ∧ m ((c.tc : Thread nD τ).loc main_arg11) = (B c).x
      ∧ m ((c.tc : Thread nD τ).loc main_arg12) = (B c).act
      ∧ m ((c.tc : Thread nD τ).loc main_arg13) = (B c).wd) :
    θ_run defs (onTc (τ := τ) (main (F := Ideal))) ⟨m, fun _ => 0, ρ⟩ fun r => ∀ c : Dev nD,
      (r.2.mem ((c.tc : Thread nD τ).loc main_v13) = (B c).pa
        ∧ r.2.mem ((c.tc : Thread nD τ).loc main_v19) = (B c).y
        ∧ r.2.mem ((c.tc : Thread nD τ).loc main_v22) = (B c).dmerged
        ∧ r.2.mem ((c.tc : Thread nD τ).loc main_v21) = (B c).dwo
        ∧ r.2.mem ((c.tc : Thread nD τ).loc main_v25) = (B c).dattn
        ∧ r.2.mem ((c.tc : Thread nD τ).loc main_v24) = (B c).dwa
        ∧ r.2.mem ((c.tc : Thread nD τ).loc main_v29) = (B c).drec
        ∧ r.2.mem ((c.tc : Thread nD τ).loc main_v28) = (B c).dwl
        ∧ r.2.mem ((c.tc : Thread nD τ).loc main_v30) = (B c).dtop
        ∧ r.2.mem ((c.tc : Thread nD τ).loc main_v31) = (B c).dbot)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) := by
  refine (θ_run defs _ _).mono (fun r h c => ?_) (Value.run (F := Ideal) m ρ)
  obtain ⟨h0, h1, h2, h3, h4, h5, h6, h7, h8, h9, k⟩ := h c
  obtain ⟨e0, e1, e2, e3, e4, e5, e6, e7, e8, e9, e10, e11, e12, e13⟩ := hm c
  refine ⟨⟨?_, ?_, ?_, ?_, ?_, ?_, ?_, ?_, ?_, ?_⟩, k⟩
  · rw [← pa (B c), ← e5, ← e6]; exact h0
  · rw [← y (B c), ← e2, ← e3, ← e11, ← e12, ← e13]; exact h1
  · rw [← dmerged (B c), ← e3, ← e4]; exact h2
  · rw [← dwo (B c), ← e2, ← e4]; exact h3
  · rw [← dattn (B c), ← e6, ← e7]; exact h4
  · rw [← dwa (B c), ← e5, ← e7]; exact h5
  · rw [← drec (B c), ← e9, ← e10]; exact h6
  · rw [← dwl (B c), ← e8, ← e10]; exact h7
  · rw [← dtop (B c), ← e0, ← e1]; exact h8
  · rw [← dbot (B c), ← e0, ← e1]; exact h9

end Cert.LinearReferenceIdeal.Read

end
-- ==== Proof.Dxn.A.lean ====
/-
  The first half of the gradient by the input: the product's sum is split into four, added up in a scratch buffer.
-/
module

public import proofs.«01_k».proof.Proof.Gen.DxnaKernelIdeal.Value
public import proofs.«01_k».proof.Proof.Gen.DxnaReferenceIdeal.Run
public import proofs.«01_k».proof.Proof.Gen.DxnaReferenceIdeal.Read
public import proofs.«01_k».proof.Proof.Ffn.Calls
public import Idealize.ShloMosaic.Lib.Pipeline.ReadBack

@[expose] public section

set_option maxRecDepth 16384

noncomputable section

namespace Cert.Ffn

open Idealize.ShloMosaic

/-- Half of the rows of a product `x · yᵀ`, from row `o` on. -/
def ntFrom (o : ℕ) (ho : o + 2048 ≤ 4096) {b n : ℕ} (x : Mat 4096 n) (y : Mat b n) : Mat 2048 b :=
  fun i => nt x y (ix2 (⟨o + (i 0).val, Nat.lt_of_lt_of_le (Nat.add_lt_add_left (i 0).isLt o) ho⟩ : Fin 4096) (i 1))

/-- An entry of a product is the sum of the entries of four products, each over a quarter of the columns. -/
theorem nt_quarters {a b a' b' : ℕ} {x : Fin 4 → Mat a 3200} {y : Fin 4 → Mat b 3200} {x' : Mat a' 12800} {y' : Mat b' 12800} (i i')
    (hx : ∀ s k, x s (ix2 (i 0) k) = x' (ix2 (i' 0) (⟨s.val * 3200 + k.val, by omega⟩ : Fin 12800)))
    (hy : ∀ s k, y s (ix2 (i 1) k) = y' (ix2 (i' 1) (⟨s.val * 3200 + k.val, by omega⟩ : Fin 12800))) :
    ∑ s : Fin 4, nt (x s) (y s) i = nt x' y' i' :=
  Fin.sum_mul_add_congr fun s k h => congrArg₂ _ (hx s k) (hy s k)

end Cert.Ffn

namespace Cert.DxnaKernelIdeal.Gen

open Idealize.ShloMosaic Idealize.ShloMosaic.TcCoe Idealize.SL.Sem Cert.Ffn

theorem pay_first (x : Mat 1024 3200) (y : Mat 1024 3200) (i) : k0_pay2 (F := Ideal) x y i = 0 + nt x y i := by
  pointwise [k0_pay2, k0_pay1, nt]
theorem pay_next (x : Mat 1024 3200) (y : Mat 1024 3200) (z : Mat 1024 1024) (i) :
    k0_pay3 (F := Ideal) x y z i = z i + nt x y i := by pointwise [k0_pay3, k0_pay1, nt]

variable (m : (ℓ : Loc nD τ sig) → Buf (Elt Ideal) ℓ) (c : Dev nD)

theorem ix : ∀ t : Fin cfg0.N,
    win0_0.index t = ![t.val / 8, t.val % 4] ∧ win0_1.index t = ![t.val / 4 % 2, t.val % 4] ∧
    win0_2.index t = ![t.val / 8, t.val / 4 % 2] :=
  (by decide +kernel : ∀ t : Fin grid0.N, _)

/-- The two factors' blocks at a point. -/
theorem left_block (t : Fin cfg0.N) (i : Fin 1024) (k : Fin 3200) : (iblk m c 0 t : Mat 1024 3200) (ix2 i k)
    = (V m c main_arg0 : Mat 4096 12800) (ix2 (⟨t.val / 8 * 1024 + i.val, by have := t.isLt.trans_eq N_0; omega⟩ : Fin 4096)
        (⟨t.val % 4 * 3200 + k.val, by omega⟩ : Fin 12800)) := by
  blk_ext [iblk, ix]
theorem right_block (t : Fin cfg0.N) (i : Fin 1024) (k : Fin 3200) : (iblk m c 1 t : Mat 1024 3200) (ix2 i k)
    = (V m c main_arg1 : Mat 2048 12800) (ix2 (⟨t.val / 4 % 2 * 1024 + i.val, by omega⟩ : Fin 2048)
        (⟨t.val % 4 * 3200 + k.val, by omega⟩ : Fin 12800)) := by
  blk_ext [iblk, ix]

/-- What the scratch holds at a quarter's last point. -/
theorem scratch (t : Fin cfg0.N) (h : t.val % 4 = 3) (j) : (outsAt0 m c t.val t.isLt).2 j
    = ∑ s : Fin 4, nt (iblk m c 0 ⟨4 * (t.val / 4) + s.val, Pipeline.run_point_lt_of_flush t h s⟩ : Mat 1024 3200)
        (iblk m c 1 ⟨4 * (t.val / 4) + s.val, Pipeline.run_point_lt_of_flush t h s⟩ : Mat 1024 3200) j := by
  rw [Pipeline.eq_sum_fin_of_reset_step_apply_of_flush (fun n h => (outsAt0 m c n h).2) 4 (fun _ => 0)
    (fun t j => nt (iblk m c 0 t : Mat 1024 3200) (iblk m c 1 t : Mat 1024 3200) j)
    (fun t h j => by
      rw [outsAt0_A m c t h (by omega) (by omega)]; frame_out
      exact pay_first _ _ _)
    (fun t h j => by
      by_cases h2 : t.val % 4 = 3
      · rw [outsAt0_C m c t h (by omega) h2]; frame_out
        rw [read_unread_whole]
        exact pay_next _ _ _ _
      · rw [outsAt0_B m c t h (by omega) h2]; frame_out
        rw [read_unread_whole]
        exact pay_next _ _ _ _) t h j, zero_add]

/-- The staging buffer is written the scratch's contents at those points. -/
theorem staged (t : Fin cfg0.N) (h : t.val % 4 = 3) (j) : (outsAt0 m c t.val t.isLt).1 j = (outsAt0 m c t.val t.isLt).2 j := by
  rw [outsAt0_C m c t (by omega) (by omega) h]; frame_out

theorem arr (x : Mat 4096 12800) (y : Mat 2048 12800) (hx : V m c main_arg0 = x) (hy : V m c main_arg1 = y) :
    (dats m 0 c).arrAt 2 cfg0.N = (ntFrom 0 (by decide) x y : Mat 2048 2048) := by
  subst hx hy
  refine (dats m 0 c).arrAt_eq_of_covers 2 _ (by decide +kernel) fun t hf j => ?_
  have h := (flush0_2 t).mp hf
  blk_simp
  rw [after0_2, staged m c t h, scratch m c t h]
  refine nt_quarters _ _ (fun s k => ?_) (fun s k => ?_)
  · refine (left_block m c _ _ _).trans (congrArg _ ?_)
    blk_simp [ix]
    ext a; fin_cases a <;> simp [ix] <;> omega
  · refine (right_block m c _ _ _).trans (congrArg _ ?_)
    blk_simp [ix]
    ext a; fin_cases a <;> simp [ix] <;> omega

/-- The kernel ends with the product's first half of rows, and the arguments as they were. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v0)
        = (ntFrom 0 (by decide) (m ((c.tc : Thread nD τ).loc main_arg0)) (m ((c.tc : Thread nD τ).loc main_arg1)) : Mat 2048 2048)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Value.run_blocks (F := Ideal) m ρ)
  obtain ⟨h, k⟩ := h c
  exact ⟨h.trans (arr m c _ _ (V_main_arg0 m c) (V_main_arg1 m c)), k⟩

end Cert.DxnaKernelIdeal.Gen

namespace Cert.DxnaReferenceIdeal.Read

open Idealize.ShloMosaic Idealize.ShloMosaic.TcCoe Idealize.SL.Sem Cert.Ffn

theorem result (x : Mat 4096 12800) (y : Mat 2048 12800) : val_main_v3 (F := Ideal) x y = ntFrom 0 (by decide) x y := by
  funext i; pointwise [val_main_v3, val_main_v2, val_main_v1, val_main_v0, ntFrom, nt]

/-- The reference ends with the derivative's first half of rows, and the arguments as they were. -/
theorem reference_run (m : (ℓ : Loc nD τ sig) → Buf (Elt Ideal) ℓ) (ρ : Dev nD → PrngReg) (x : Dev nD → Mat 4096 12800)
    (y : Dev nD → Mat 2048 12800)
    (hm : ∀ c : Dev nD, m ((c.tc : Thread nD τ).loc main_arg0) = x c ∧ m ((c.tc : Thread nD τ).loc main_arg1) = y c) :
    θ_run defs (onTc (τ := τ) (main (F := Ideal))) ⟨m, fun _ => 0, ρ⟩ fun r => ∀ c : Dev nD,
      r.2.mem ((c.tc : Thread nD τ).loc main_v3) = ntFrom 0 (by decide) (x c) (y c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Value.run (F := Ideal) m ρ)
  obtain ⟨h, k⟩ := h c
  obtain ⟨e0, e1⟩ := hm c
  refine ⟨?_, k⟩
  rw [← result, ← e0, ← e1]
  exact h

end Cert.DxnaReferenceIdeal.Read

end
-- ==== Proof.Dxn.B.lean ====
/-
  The second half of the gradient by the input, into an array that holds the first.
-/
module

public import proofs.«01_k».proof.Proof.Gen.DxnbKernelIdeal.Value
public import proofs.«01_k».proof.Proof.Gen.DxnbReferenceIdeal.Run
public import proofs.«01_k».proof.Proof.Gen.DxnbReferenceIdeal.Read
public import proofs.«01_k».proof.Proof.Dxn.A

@[expose] public section

set_option maxRecDepth 16384

noncomputable section

namespace Cert.Ffn

open Idealize.ShloMosaic

/-- `p` with the lower half of its rows replaced by those of `x · yᵀ`. -/
def lowerHalf {b n : ℕ} (x : Mat 4096 n) (y : Mat b n) (p : Mat 4096 b) : Mat 4096 b :=
  fun i => if 2 ≤ (i 0).val / 1024 then nt x y i else p i

end Cert.Ffn

namespace Cert.DxnbKernelIdeal.Gen

open Idealize.ShloMosaic Idealize.ShloMosaic.TcCoe Idealize.SL.Sem Cert.Ffn

theorem pay_first (x : Mat 1024 3200) (y : Mat 1024 3200) (i) : k0_pay2 (F := Ideal) x y i = 0 + nt x y i := by
  pointwise [k0_pay2, k0_pay1, nt]
theorem pay_next (x : Mat 1024 3200) (y : Mat 1024 3200) (z : Mat 1024 1024) (i) :
    k0_pay3 (F := Ideal) x y z i = z i + nt x y i := by pointwise [k0_pay3, k0_pay1, nt]

variable (m : (ℓ : Loc nD τ sig) → Buf (Elt Ideal) ℓ) (c : Dev nD)

theorem ix : ∀ t : Fin cfg0.N,
    win0_0.index t = ![2 + t.val / 8, t.val % 4] ∧ win0_1.index t = ![t.val / 4 % 2, t.val % 4] ∧
    win0_2.index t = ![2 + t.val / 8, t.val / 4 % 2] :=
  (by decide +kernel : ∀ t : Fin grid0.N, _)

/-- The two factors' blocks at a point. -/
theorem left_block (t : Fin cfg0.N) (i : Fin 1024) (k : Fin 3200) : (iblk m c 0 t : Mat 1024 3200) (ix2 i k)
    = (V m c main_arg0 : Mat 4096 12800) (ix2 (⟨(2 + t.val / 8) * 1024 + i.val, by have := t.isLt.trans_eq N_0; omega⟩ : Fin 4096)
        (⟨t.val % 4 * 3200 + k.val, by omega⟩ : Fin 12800)) := by
  blk_ext [iblk, ix]
theorem right_block (t : Fin cfg0.N) (i : Fin 1024) (k : Fin 3200) : (iblk m c 1 t : Mat 1024 3200) (ix2 i k)
    = (V m c main_arg1 : Mat 2048 12800) (ix2 (⟨t.val / 4 % 2 * 1024 + i.val, by omega⟩ : Fin 2048)
        (⟨t.val % 4 * 3200 + k.val, by omega⟩ : Fin 12800)) := by
  blk_ext [iblk, ix]

/-- What the scratch holds at a quarter's last point. -/
theorem scratch (t : Fin cfg0.N) (h : t.val % 4 = 3) (j) : (outsAt0 m c t.val t.isLt).2 j
    = ∑ s : Fin 4, nt (iblk m c 0 ⟨4 * (t.val / 4) + s.val, Pipeline.run_point_lt_of_flush t h s⟩ : Mat 1024 3200)
        (iblk m c 1 ⟨4 * (t.val / 4) + s.val, Pipeline.run_point_lt_of_flush t h s⟩ : Mat 1024 3200) j := by
  rw [Pipeline.eq_sum_fin_of_reset_step_apply_of_flush (fun n h => (outsAt0 m c n h).2) 4 (fun _ => 0)
    (fun t j => nt (iblk m c 0 t : Mat 1024 3200) (iblk m c 1 t : Mat 1024 3200) j)
    (fun t h j => by
      rw [outsAt0_A m c t h (by omega) (by omega)]; frame_out
      exact pay_first _ _ _)
    (fun t h j => by
      by_cases h2 : t.val % 4 = 3
      · rw [outsAt0_C m c t h (by omega) h2]; frame_out
        rw [read_unread_whole]
        exact pay_next _ _ _ _
      · rw [outsAt0_B m c t h (by omega) h2]; frame_out
        rw [read_unread_whole]
        exact pay_next _ _ _ _) t h j, zero_add]

/-- The staging buffer is written the scratch's contents at those points. -/
theorem staged (t : Fin cfg0.N) (h : t.val % 4 = 3) (j) : (outsAt0 m c t.val t.isLt).1 j = (outsAt0 m c t.val t.isLt).2 j := by
  rw [outsAt0_C m c t (by omega) (by omega) h]; frame_out

theorem arr (x : Mat 4096 12800) (y : Mat 2048 12800) (p : Mat 4096 2048) (hx : V m c main_arg0 = x) (hy : V m c main_arg1 = y)
    (hp : V m c main_v0 = p) :
    (dats m 0 c).arrAt 2 cfg0.N = lowerHalf x y p := by
  subst hx hy hp
  refine (dats m 0 c).arrAt_eq_of_coversWhere 2 (nt _ _) (fun β => 2 ≤ β (0 : Fin 2)) (by decide +kernel) (fun t hf j => ?_)
    fun j => Iff.rfl
  have h := (flush0_2 t).mp hf
  blk_simp
  rw [after0_2, staged m c t h, scratch m c t h]
  refine nt_quarters _ _ (fun s k => ?_) (fun s k => ?_)
  · refine (left_block m c _ _ _).trans (congrArg _ ?_)
    ext a; fin_cases a <;> simp [ix] <;> omega
  · refine (right_block m c _ _ _).trans (congrArg _ ?_)
    ext a; fin_cases a <;> simp [ix] <;> omega

/-- The kernel ends with the product's rows below the first half, and the arguments as they were. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v0) = (lowerHalf (m ((c.tc : Thread nD τ).loc main_arg0)) (m ((c.tc : Thread nD τ).loc main_arg1))
        (m ((c.tc : Thread nD τ).loc main_arg2)) : Mat 4096 2048)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Value.run_blocks (F := Ideal) m ρ)
  obtain ⟨h, k⟩ := h c
  exact ⟨h.trans (arr m c _ _ _ (V_main_arg0 m c) (V_main_arg1 m c) (by unfold V; after_results; rfl)), k⟩

end Cert.DxnbKernelIdeal.Gen

namespace Cert.DxnbReferenceIdeal.Read

open Idealize.ShloMosaic Idealize.ShloMosaic.TcCoe Idealize.SL.Sem Cert.Ffn

theorem result (x : Mat 4096 12800) (y : Mat 2048 12800) (p : Mat 4096 2048) :
    val_main_v5 (F := Ideal) x y p = lowerHalf x y p := by
  funext i; pointwise [val_main_v5, val_main_v4, val_main_v3, val_main_v2, val_main_v1, val_main_v0, lowerHalf, nt]
  by_cases h : (i 0).val < 2048
  · exact (dif_pos h).trans (if_neg (by omega)).symm
  · refine (dif_neg h).trans (Eq.trans (Finset.sum_congr rfl fun k _ => ?_) (if_pos (by omega)).symm)
    refine congrArg (fun r : Fin 4096 => x (ix2 r k) * y (ix2 (i 1) k)) (Fin.ext ?_)
    show 2048 + ((i 0).val - 2048) = (i 0).val
    omega

/-- The reference ends with the derivative's rows below the first half, and the arguments as they were. -/
theorem reference_run (m : (ℓ : Loc nD τ sig) → Buf (Elt Ideal) ℓ) (ρ : Dev nD → PrngReg) (x : Dev nD → Mat 4096 12800)
    (y : Dev nD → Mat 2048 12800) (p : Dev nD → Mat 4096 2048)
    (hm : ∀ c : Dev nD, m ((c.tc : Thread nD τ).loc main_arg0) = x c ∧ m ((c.tc : Thread nD τ).loc main_arg1) = y c
      ∧ m ((c.tc : Thread nD τ).loc main_arg2) = p c) :
    θ_run defs (onTc (τ := τ) (main (F := Ideal))) ⟨m, fun _ => 0, ρ⟩ fun r => ∀ c : Dev nD,
      r.2.mem ((c.tc : Thread nD τ).loc main_v5) = lowerHalf (x c) (y c) (p c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Value.run (F := Ideal) m ρ)
  obtain ⟨h, k⟩ := h c
  obtain ⟨e0, e1, e2⟩ := hm c
  refine ⟨?_, k⟩
  rw [← result, ← e0, ← e1, ← e2]
  exact h

end Cert.DxnbReferenceIdeal.Read

end
-- ==== Proof.Merge.Call.lean ====
/-
  The recurrence's projection with the gated merge of the mixers: a product of whole matrices and an elementwise function of it.
-/
module

public import proofs.«01_k».proof.Proof.Ffn.Ref
public import proofs.«01_k».proof.Proof.Gen.MergeKernelIdeal.Value
public import proofs.«01_k».proof.Proof.Gen.MergeReferenceIdeal.Run
public import proofs.«01_k».proof.Proof.Gen.MergeReferenceIdeal.Read

@[expose] public section

set_option maxRecDepth 16384

noncomputable section

namespace Cert.Ffn

open Idealize.ShloMosaic

/-- The two ways of computing the logistic function agree at the infinities too. -/
theorem lg_eq_sg (x : EReal) : lg x = sg x := by
  induction x with
  | coe r => exact lg_eq ⟨r, rfl⟩
  | bot =>
    rw [lg, sg, half, one, EReal.neg_bot, Ideal.exp_top, EReal.coe_mul_bot_of_pos (by norm_num), Ideal.tanh_bot,
      EReal.coe_add_top, Ideal.div, if_neg EReal.top_ne_zero, EReal.inv_top, mul_zero, mul_neg_one,
      ← EReal.coe_neg, ← EReal.coe_add, neg_add_cancel, EReal.coe_zero]
  | top =>
    rw [lg, sg, half, one, EReal.neg_top, Ideal.exp_bot, EReal.coe_mul_top_of_pos (by norm_num), Ideal.tanh_top, add_zero,
      Ideal.div_coe one_ne_zero]
    norm_cast
    norm_num

/-- The merge of two mixers' projections `a` and `l`, gated by `p` and `q`. -/
def gated (p q a l : EReal) : EReal := sg p * a + sg q * l

/-- The merge of `pa` and `x · y`, the gates' inputs the last columns of `z`, with the biases `b`. -/
def merged (x : Mat 4096 2816) (y : Mat 2816 2048) (pa : Mat 4096 2048) (z : Mat 4096 12800) (b : Mat 1 4096) : Mat 4096 2048 :=
  fun i => gated
    (z (ix2 (i 0) (⟨8704 + (i 1).val, Nat.lt_of_lt_of_le (Nat.add_lt_add_left (i 1).isLt _) (by decide)⟩ : Fin 12800))
      + b (ix2 (0 : Fin 1) (⟨(i 1).val, Nat.lt_of_lt_of_le (i 1).isLt (by decide)⟩ : Fin 4096)))
    (z (ix2 (i 0) (⟨10752 + (i 1).val, Nat.lt_of_lt_of_le (Nat.add_lt_add_left (i 1).isLt _) (by decide)⟩ : Fin 12800))
      + b (ix2 (0 : Fin 1) (⟨2048 + (i 1).val, Nat.lt_of_lt_of_le (Nat.add_lt_add_left (i 1).isLt _) (by decide)⟩ : Fin 4096)))
    (pa i) (nn x y i)

end Cert.Ffn

namespace Cert.MergeKernelIdeal.Gen

open Idealize.ShloMosaic Idealize.ShloMosaic.TcCoe Idealize.SL.Sem Cert.Ffn

theorem pay (x : Mat 1024 2816) (y : Mat 2816 512) : k0_pay1 (F := Ideal) x y = nn x y := by funext i; pointwise [k0_pay1, nn]
theorem pay_merged (x : Mat 1024 2816) (y : Mat 2816 512) (pa ga gl : Mat 1024 512) (ba bl : Mat 1 512) (i) :
    k0_pay2 (F := Ideal) x y pa ga gl ba bl i
      = gated (ga i + ba (ix2 (0 : Fin 1) (i 1))) (gl i + bl (ix2 (0 : Fin 1) (i 1))) (pa i) (nn x y i) := by
  pointwise [k0_pay2, pay, gated, sg]

variable (m : (ℓ : Loc nD τ sig) → Buf (Elt Ideal) ℓ) (c : Dev nD)

theorem ix : ∀ t : Fin cfg0.N,
    win0_0.index t = ![(grid0.coords t 0).val, 0] ∧ win0_1.index t = ![0, (grid0.coords t 1).val] ∧
    win0_2.index t = ![(grid0.coords t 0).val, (grid0.coords t 1).val] ∧
    win0_3.index t = ![(grid0.coords t 0).val, 17 + (grid0.coords t 1).val] ∧
    win0_4.index t = ![(grid0.coords t 0).val, 21 + (grid0.coords t 1).val] ∧
    win0_5.index t = ![0, (grid0.coords t 1).val] ∧ win0_6.index t = ![0, 4 + (grid0.coords t 1).val] ∧
    win0_7.index t = ![(grid0.coords t 0).val, (grid0.coords t 1).val] ∧
    win0_8.index t = ![(grid0.coords t 0).val, (grid0.coords t 1).val] :=
  (by decide +kernel : ∀ t : Fin grid0.N, _)

theorem arr_plru (x : Mat 4096 2816) (y : Mat 2816 2048) (hx : V m c main_arg0 = x) (hy : V m c main_arg1 = y) :
    (dats m 0 c).arrAt 7 cfg0.N = nn x y := by
  subst hx hy
  refine (dats m 0 c).arrAt_eq_of_covers 7 _ (by decide +kernel) fun t hf j => ?_
  blk_simp
  rw [after0_7]
  frame_out
  exact (congrFun (pay _ _) j).trans (nn_congr _ _ (fun k => by blk_ext [iblk, ix]) (fun k => by blk_ext [iblk, ix]))

theorem arr_merged (x : Mat 4096 2816) (y : Mat 2816 2048) (pa : Mat 4096 2048) (z : Mat 4096 12800) (b : Mat 1 4096)
    (hx : V m c main_arg0 = x) (hy : V m c main_arg1 = y) (hpa : V m c main_arg2 = pa) (hz : V m c main_arg3 = z)
    (hb : V m c main_arg4 = b) :
    (dats m 0 c).arrAt 8 cfg0.N = merged x y pa z b := by
  subst hx hy hpa hz hb
  refine (dats m 0 c).arrAt_eq_of_covers 8 _ (by decide +kernel) fun t hf j => ?_
  blk_simp
  rw [after0_8]
  frame_out
  refine (pay_merged _ _ _ _ _ _ _ j).trans ?_
  unfold merged
  congr 1
  · exact congrArg₂ (· + ·) (by blk_ext [iblk, ix]) (by blk_ext [iblk, ix])
  · exact congrArg₂ (· + ·) (by blk_ext [iblk, ix]) (by blk_ext [iblk, ix])
  · blk_ext [iblk, ix]
  · exact nn_congr _ _ (fun k => by blk_ext [iblk, ix]) (fun k => by blk_ext [iblk, ix])

/-- The kernel ends with the product and the merge, and the arguments as they were. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v0_0)
        = (nn (m ((c.tc : Thread nD τ).loc main_arg0)) (m ((c.tc : Thread nD τ).loc main_arg1)) : Mat 4096 2048)
      ∧ r.2.mem ((c.tc : Thread nD τ).loc main_v0_1)
        = (merged (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) : Mat 4096 2048)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run_blocks (F := Ideal) m ρ)
  obtain ⟨h, h', k⟩ := h c
  exact ⟨h.trans (arr_plru m c _ _ (V_main_arg0 m c) (V_main_arg1 m c)), h'.trans (arr_merged m c _ _ _ _ _ (V_main_arg0 m c)
    (V_main_arg1 m c) (V_main_arg2 m c) (V_main_arg3 m c) (V_main_arg4 m c)), k⟩

end Cert.MergeKernelIdeal.Gen

namespace Cert.MergeReferenceIdeal.Read

open Idealize.ShloMosaic Idealize.ShloMosaic.TcCoe Idealize.SL.Sem Cert.Ffn

variable (x : Mat 4096 2816) (y : Mat 2816 2048) (pa : Mat 4096 2048) (z : Mat 4096 12800) (b : Mat 1 4096)

theorem plru : val_main_v2 (F := Ideal) x y = nn x y := by
  funext i; pointwise [val_main_v2, val_main_v1, val_main_v0, nn]
theorem gate_a (i) : val_main_v15 (F := Ideal) z b i = lg (val_main_v9 (F := Ideal) z b i) := rfl
theorem gate_l (i) : val_main_v26 (F := Ideal) z b i = lg (val_main_v20 (F := Ideal) z b i) := rfl
theorem result : val_main_v30 (F := Ideal) x y pa z b = merged x y pa z b := by
  funext i
  rw [val_main_v30_apply, val_main_v29_apply, val_main_v27_apply, val_main_v28_apply, gate_a, gate_l, plru, lg_eq_sg, lg_eq_sg]
  unfold merged
  refine congrArg₂ (fun p q => gated p q (pa i) (nn x y i)) ?_ ?_
  · pointwise [val_main_v9, val_main_v8, val_main_v7, val_main_v6, val_main_v5, val_main_v3]
  · pointwise [val_main_v20, val_main_v19, val_main_v18, val_main_v17, val_main_v16, val_main_v4]

/-- The reference ends with the product and the merge, and the arguments as they were. -/
theorem reference_run (m : (ℓ : Loc nD τ sig) → Buf (Elt Ideal) ℓ) (ρ : Dev nD → PrngReg) (x : Dev nD → Mat 4096 2816)
    (y : Dev nD → Mat 2816 2048) (pa : Dev nD → Mat 4096 2048) (z : Dev nD → Mat 4096 12800) (b : Dev nD → Mat 1 4096)
    (hm : ∀ c : Dev nD, m ((c.tc : Thread nD τ).loc main_arg0) = x c ∧ m ((c.tc : Thread nD τ).loc main_arg1) = y c
      ∧ m ((c.tc : Thread nD τ).loc main_arg2) = pa c ∧ m ((c.tc : Thread nD τ).loc main_arg3) = z c
      ∧ m ((c.tc : Thread nD τ).loc main_arg4) = b c) :
    θ_run defs (onTc (τ := τ) (main (F := Ideal))) ⟨m, fun _ => 0, ρ⟩ fun r => ∀ c : Dev nD,
      r.2.mem ((c.tc : Thread nD τ).loc main_v2) = nn (x c) (y c)
      ∧ r.2.mem ((c.tc : Thread nD τ).loc main_v30) = merged (x c) (y c) (pa c) (z c) (b c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run (F := Ideal) m ρ)
  obtain ⟨h, h', k⟩ := h c
  obtain ⟨e0, e1, e2, e3, e4⟩ := hm c
  refine ⟨?_, ?_, k⟩
  · rw [← plru, ← e0, ← e1]; exact h
  · rw [← result, ← e0, ← e1, ← e2, ← e3, ← e4]; exact h'

end Cert.MergeReferenceIdeal.Read

end
-- ==== Proof.lean ====
/-
  The proof of `Cert.Claim`, of the attention gradient, of the feed-forward's, of the layer's linear maps, of the two halves
  of the gradient by the joint input product's input and of the recurrence's projection with the merge: the frames of the kernel, of its idealized program and of the reference, that the idealized program is the kernel (the attention's with its
  mask's constant read as −∞), and that the idealized program's results are the reference's (of the two gradients, of arguments
  that are all finite).
-/
module

public import proofs.«01_k».proof.Defs
public import proofs.«01_k».proof.Proof.Run.Same
public import proofs.«01_k».proof.Proof.Gen.ReferenceIdeal
public import proofs.«01_k».proof.Proof.Val.Pre
public import proofs.«01_k».proof.Proof.Ref.ReadD
public import proofs.«01_k».proof.Proof.Ffn.Pre
public import proofs.«01_k».proof.Proof.Gen.FfnKernel
public import proofs.«01_k».proof.Proof.Gen.FfnKernel.Frame
public import proofs.«01_k».proof.Proof.Gen.FfnReferenceIdeal
public import proofs.«01_k».proof.Proof.Lin.Ref
public import proofs.«01_k».proof.Proof.Gen.LinearKernel
public import proofs.«01_k».proof.Proof.Gen.LinearKernel.Frame
public import proofs.«01_k».proof.Proof.Dxn.B
public import proofs.«01_k».proof.Proof.Merge.Call
public import proofs.«01_k».proof.Proof.Gen.MergeKernel
public import proofs.«01_k».proof.Proof.Gen.MergeKernel.Frame
public import proofs.«01_k».proof.Proof.Gen.DxnaKernel
public import proofs.«01_k».proof.Proof.Gen.DxnaKernel.Frame
public import proofs.«01_k».proof.Proof.Gen.DxnbKernel
public import proofs.«01_k».proof.Proof.Gen.DxnbKernel.Frame
public import Idealize.ShloMosaic.Adequacy
public import Idealize.ShloMosaic.Init

@[expose] public section

noncomputable section

namespace Cert.Proof

open Idealize.ShloMosaic Idealize.SL.Sem Cert.Kernel

/-- The idealized kernel's frame. -/
theorem frame_pi : Cert.quiescent_KernelIdeal := fun m ρ _ => Cert.KernelIdeal.Gen.frame m ρ

/-- The reference's frame. -/
theorem frame_ri : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Ops.run (F := Ideal) m ρ)

/-- The one named constant: the mask, read as −∞. -/
theorem preserves_pi : Cert.preserves_Kernel_KernelIdeal :=
  IdealRules.named_const.statement Cert.KernelIdeal.κ "mask" .f32 0xF149F2CA#32 ⊥ rfl

/-- The frames of arguments that are all finite. -/
theorem frame_pi_finite : @Cert.quiescent_KernelIdeal_pre_finite _ Cert.Pre_finite.facts := fun m ρ _ => frame_pi m ρ trivial
theorem frame_ri_finite : @Cert.quiescent_ReferenceIdeal_pre_finite _ Cert.Pre_finite.facts := fun m ρ _ => frame_ri m ρ trivial

/-- The kernel's results are the reference's: both are these reals of the arguments' reals. -/
theorem algebraic : @Cert.algebraic_KernelIdeal_ReferenceIdeal_pre_finite _ _ Cert.Pre_finite.facts := by
  intro m ρ m' ρ' hpre hagree
  let B : Dev Cert.KernelIdeal.nD → Cert.Attn.Arrs := fun c =>
    Cert.Pre_finite.arrs (m (c.tc.loc Cert.KernelIdeal.main_arg0)) (m (c.tc.loc Cert.KernelIdeal.main_arg1))
      (m (c.tc.loc Cert.KernelIdeal.main_arg2)) (m (c.tc.loc Cert.KernelIdeal.main_arg3))
      (m (c.tc.loc Cert.KernelIdeal.main_arg4)) (m (c.tc.loc Cert.KernelIdeal.main_arg5))
  have hB : ∀ c, Cert.Attn.LaunchOf m c (B c) := fun c => @Cert.Pre_finite.arrs_of Cert.Pre_finite.facts _ _ _ _ _ _ (hpre c)
  refine ⟨fun c (i : Cert.KernelIdeal.S4096x2048.Idx) => (((B c).dq (i 0).val (i 1).val : ℝ) : EReal),
    fun c (i : Cert.KernelIdeal.S4096x512.Idx) => (((B c).dk (i 0).val (i 1).val : ℝ) : EReal),
    fun c (i : Cert.KernelIdeal.S4096x512.Idx) => (((B c).dv (i 0).val (i 1).val : ℝ) : EReal),
    fun c (i : Cert.KernelIdeal.S1x128.Idx) => (((B c).upto (fun b => b.oG (i 1)) 131 : ℝ) : EReal),
    fun c (i : Cert.KernelIdeal.S1x128.Idx) => (((B c).upto (fun b => b.oH (i 1)) 131 : ℝ) : EReal),
    fun c (i : Cert.KernelIdeal.S1x128.Idx) => (((B c).upto (fun b => b.oS (i 1)) 131 : ℝ) : EReal),
    (θ_run _ _ _).mono (fun r h c => ?_) (Cert.Attn.kernel_run ρ B hB),
    (θ_run _ _ _).mono (fun r h c => ?_) (Cert.ReferenceIdeal.Ops.reference_run m' ρ' B fun c => ?_)⟩
  · obtain ⟨⟨h0, h1, h2, h3, h4, h5⟩, k⟩ := h c
    exact ⟨h0, h1, h2, h3, h4, h5, k⟩
  · obtain ⟨⟨h0, h1, h2, h3, h4, h5⟩, k⟩ := h c
    exact ⟨h0, h1, h2, h3, h4, h5, k⟩
  · obtain ⟨e0, e1, e2, e3, e4, e5⟩ := hagree c
    rw [e0, e1, e2, e3, e4, e5]
    exact hB c

/-- The feed-forward's frames. -/
theorem ffn_frame_p : Cert.quiescent_FfnKernel := fun m ρ _ => Cert.FfnKernel.Gen.frame m ρ
theorem ffn_frame_pi : Cert.quiescent_FfnKernelIdeal := fun m ρ _ => Cert.FfnKernelIdeal.Gen.frame m ρ
theorem ffn_frame_ri : Cert.quiescent_FfnReferenceIdeal := fun m ρ _ =>
  (θ_run Cert.FfnReferenceIdeal.defs _ _).mono
    (fun r h => ⟨fun c => (h c).2.2.2.2, sem_eq_zero_of_no_sems (by decide) r.2⟩)
    (Cert.FfnReferenceIdeal.Value.run (F := Ideal) m ρ)
theorem ffn_frame_pi_finite : @Cert.quiescent_FfnKernelIdeal_pre_finite2 _ Cert.Pre_finite2.facts := fun m ρ _ => ffn_frame_pi m ρ trivial
theorem ffn_frame_ri_finite : @Cert.quiescent_FfnReferenceIdeal_pre_finite2 _ Cert.Pre_finite2.facts := fun m ρ _ => ffn_frame_ri m ρ trivial

/-- The feed-forward's results are the reference's. -/
theorem ffn_algebraic : @Cert.algebraic_FfnKernelIdeal_FfnReferenceIdeal_pre_finite2 _ _ Cert.Pre_finite2.facts := by
  intro m ρ m' ρ' hpre hagree
  let A : Dev Cert.FfnKernelIdeal.nD → Cert.Ffn.Args := Cert.FfnKernelIdeal.Gen.args m
  have hA : ∀ c, (A c).Real := fun c => @Cert.Pre_finite2.real Cert.Pre_finite2.facts (A c) (hpre c)
  refine ⟨fun c => (A c).dhn, fun c => (A c).dwg, fun c => (A c).dwu, fun c => (A c).dwd,
    (θ_run _ _ _).mono (fun r h c => ?_) (Cert.FfnKernelIdeal.Gen.kernel_run m ρ),
    (θ_run _ _ _).mono (fun r h c => ?_) (Cert.FfnReferenceIdeal.Read.reference_run m' ρ' A hA hagree)⟩
  · obtain ⟨⟨h0, h1, h2, h3⟩, k⟩ := h c
    exact ⟨h0, h1, h2, h3, k⟩
  · obtain ⟨⟨h0, h1, h2, h3⟩, k⟩ := h c
    exact ⟨h0, h1, h2, h3, k⟩

/-- The linear maps' frames. -/
theorem lin_frame_p : Cert.quiescent_LinearKernel := fun m ρ _ => Cert.LinearKernel.Gen.frame m ρ
theorem lin_frame_pi : Cert.quiescent_LinearKernelIdeal := fun m ρ _ => Cert.LinearKernelIdeal.Gen.frame m ρ
theorem lin_frame_ri : Cert.quiescent_LinearReferenceIdeal := fun m ρ _ =>
  (θ_run Cert.LinearReferenceIdeal.defs _ _).mono
    (fun r h => ⟨fun c => (h c).2.2.2.2.2.2.2.2.2.2, sem_eq_zero_of_no_sems (by decide) r.2⟩)
    (Cert.LinearReferenceIdeal.Value.run (F := Ideal) m ρ)

/-- The linear maps' results are the reference's. -/
theorem lin_algebraic : Cert.algebraic_LinearKernelIdeal_LinearReferenceIdeal := by
  intro m ρ m' ρ' _ hagree
  let A : Dev Cert.LinearKernelIdeal.nD → Cert.Lin.Args := Cert.LinearKernelIdeal.Gen.args m
  refine ⟨fun c => (A c).pa, fun c => (A c).y, fun c => (A c).dmerged, fun c => (A c).dwo, fun c => (A c).dattn, fun c => (A c).dwa,
    fun c => (A c).drec, fun c => (A c).dwl, fun c => (A c).dtop, fun c => (A c).dbot,
    (θ_run _ _ _).mono (fun r h c => ?_) (Cert.LinearKernelIdeal.Gen.kernel_run m ρ),
    (θ_run _ _ _).mono (fun r h c => ?_) (Cert.LinearReferenceIdeal.Read.reference_run m' ρ' A hagree)⟩
  · obtain ⟨⟨h0, h1, h2, h3, h4, h5, h6, h7, h8, h9⟩, k⟩ := h c
    exact ⟨h0, h1, h2, h3, h4, h5, h6, h7, h8, h9, k⟩
  · obtain ⟨⟨h0, h1, h2, h3, h4, h5, h6, h7, h8, h9⟩, k⟩ := h c
    exact ⟨h0, h1, h2, h3, h4, h5, h6, h7, h8, h9, k⟩

/-- The frames of the first half of the gradient by the input. -/
theorem dxna_frame_p : Cert.quiescent_DxnaKernel := fun m ρ _ => Cert.DxnaKernel.Gen.frame m ρ
theorem dxna_frame_pi : Cert.quiescent_DxnaKernelIdeal := fun m ρ _ => Cert.DxnaKernelIdeal.Gen.frame m ρ
theorem dxna_frame_ri : Cert.quiescent_DxnaReferenceIdeal := fun m ρ _ =>
  (θ_run Cert.DxnaReferenceIdeal.defs _ _).mono
    (fun r h => ⟨fun c => (h c).2, sem_eq_zero_of_no_sems (by decide) r.2⟩)
    (Cert.DxnaReferenceIdeal.Value.run (F := Ideal) m ρ)

/-- Its result is the reference's. -/
theorem dxna_algebraic : Cert.algebraic_DxnaKernelIdeal_DxnaReferenceIdeal := by
  intro m ρ m' ρ' _ hagree
  exact ⟨fun c => (Cert.Ffn.ntFrom 0 (by decide) (m (c.tc.loc Cert.DxnaKernelIdeal.main_arg0)) (m (c.tc.loc Cert.DxnaKernelIdeal.main_arg1)) : Cert.Ffn.Mat 2048 2048),
    Cert.DxnaKernelIdeal.Gen.kernel_run m ρ, Cert.DxnaReferenceIdeal.Read.reference_run m' ρ' _ _ hagree⟩

/-- The frames of the second half of the gradient by the input. -/
theorem dxnb_frame_p : Cert.quiescent_DxnbKernel := fun m ρ _ => Cert.DxnbKernel.Gen.frame m ρ
theorem dxnb_frame_pi : Cert.quiescent_DxnbKernelIdeal := fun m ρ _ => Cert.DxnbKernelIdeal.Gen.frame m ρ
theorem dxnb_frame_ri : Cert.quiescent_DxnbReferenceIdeal := fun m ρ _ =>
  (θ_run Cert.DxnbReferenceIdeal.defs _ _).mono
    (fun r h => ⟨fun c => (h c).2, sem_eq_zero_of_no_sems (by decide) r.2⟩)
    (Cert.DxnbReferenceIdeal.Value.run (F := Ideal) m ρ)

/-- Its result is the reference's. -/
theorem dxnb_algebraic : Cert.algebraic_DxnbKernelIdeal_DxnbReferenceIdeal := by
  intro m ρ m' ρ' _ hagree
  exact ⟨fun c => (Cert.Ffn.lowerHalf (m (c.tc.loc Cert.DxnbKernelIdeal.main_arg0)) (m (c.tc.loc Cert.DxnbKernelIdeal.main_arg1))
      (m (c.tc.loc Cert.DxnbKernelIdeal.main_arg2)) : Cert.Ffn.Mat 4096 2048),
    Cert.DxnbKernelIdeal.Gen.kernel_run m ρ, Cert.DxnbReferenceIdeal.Read.reference_run m' ρ' _ _ _ hagree⟩

/-- The frames of the recurrence's projection with the merge. -/
theorem merge_frame_p : Cert.quiescent_MergeKernel := fun m ρ _ => Cert.MergeKernel.Gen.frame m ρ
theorem merge_frame_pi : Cert.quiescent_MergeKernelIdeal := fun m ρ _ => Cert.MergeKernelIdeal.Gen.frame m ρ
theorem merge_frame_ri : Cert.quiescent_MergeReferenceIdeal := fun m ρ _ =>
  (θ_run Cert.MergeReferenceIdeal.defs _ _).mono
    (fun r h => ⟨fun c => (h c).2.2, sem_eq_zero_of_no_sems (by decide) r.2⟩)
    (Cert.MergeReferenceIdeal.Value.run (F := Ideal) m ρ)

/-- Its results are the reference's. -/
theorem merge_algebraic : Cert.algebraic_MergeKernelIdeal_MergeReferenceIdeal := by
  intro m ρ m' ρ' _ hagree
  exact ⟨fun c => (Cert.Ffn.nn (m (c.tc.loc Cert.MergeKernelIdeal.main_arg0)) (m (c.tc.loc Cert.MergeKernelIdeal.main_arg1)) : Cert.Ffn.Mat 4096 2048),
    fun c => (Cert.Ffn.merged (m (c.tc.loc Cert.MergeKernelIdeal.main_arg0)) (m (c.tc.loc Cert.MergeKernelIdeal.main_arg1))
      (m (c.tc.loc Cert.MergeKernelIdeal.main_arg2)) (m (c.tc.loc Cert.MergeKernelIdeal.main_arg3)) (m (c.tc.loc Cert.MergeKernelIdeal.main_arg4)) : Cert.Ffn.Mat 4096 2048),
    Cert.MergeKernelIdeal.Gen.kernel_run m ρ, Cert.MergeReferenceIdeal.Read.reference_run m' ρ' _ _ _ _ _ hagree⟩

theorem claim : Cert.Claim := ⟨Cert.Kernel.Gen.facts, Cert.KernelIdeal.Gen.facts, Cert.ReferenceIdeal.Gen.facts,
  Cert.FfnKernel.Gen.facts, Cert.FfnKernelIdeal.Gen.facts, Cert.FfnReferenceIdeal.Gen.facts, Cert.LinearKernel.Gen.facts,
  Cert.LinearKernelIdeal.Gen.facts, Cert.LinearReferenceIdeal.Gen.facts, Cert.DxnaKernel.Gen.facts,
  Cert.DxnaKernelIdeal.Gen.facts, Cert.DxnaReferenceIdeal.Gen.facts, Cert.DxnbKernel.Gen.facts, Cert.DxnbKernelIdeal.Gen.facts,
  Cert.DxnbReferenceIdeal.Gen.facts, Cert.MergeKernel.Gen.facts, Cert.MergeKernelIdeal.Gen.facts,
  Cert.MergeReferenceIdeal.Gen.facts, Cert.Pre_finite.facts, Cert.Pre_finite2.facts, frame_p, frame_pi, frame_pi_finite, frame_ri, frame_ri_finite, ffn_frame_p, ffn_frame_pi,
  ffn_frame_pi_finite, ffn_frame_ri, ffn_frame_ri_finite, lin_frame_p, lin_frame_pi, lin_frame_ri,
  dxna_frame_p, dxna_frame_pi, dxna_frame_ri, dxnb_frame_p, dxnb_frame_pi, dxnb_frame_ri,
  merge_frame_p, merge_frame_pi, merge_frame_ri, preserves_pi, algebraic,
  trivial, ffn_algebraic, trivial, lin_algebraic, trivial, dxna_algebraic, trivial, dxnb_algebraic, trivial, merge_algebraic⟩

end Cert.Proof

end
